-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_finite11 [hPre_finite11 : Cert.Pre_finite11.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3))) = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_finite11 [hPre_finite11 : Cert.Pre_finite11.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3))) = (fun _ => 1#1)

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Kernel11Ideal_pre_finite11 [hKernel11Ideal : Cert.Kernel11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_finite11 m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Reference11Ideal_pre_finite11 [hReference11Ideal : Cert.Reference11Ideal.Facts] [hPre_finite11 : Cert.Pre_finite11.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_finite11 m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5)
      ∧ r.2.mem ((c.tc : Thread Cert.Kernel15.nD Cert.Kernel15.τ).loc Cert.Kernel15.main_arg6) = m ((c.tc : Thread Cert.Kernel15.nD Cert.Kernel15.τ).loc Cert.Kernel15.main_arg6)
      ∧ r.2.mem ((c.tc : Thread Cert.Kernel15.nD Cert.Kernel15.τ).loc Cert.Kernel15.main_arg7) = m ((c.tc : Thread Cert.Kernel15.nD Cert.Kernel15.τ).loc Cert.Kernel15.main_arg7)
      ∧ r.2.mem ((c.tc : Thread Cert.Kernel15.nD Cert.Kernel15.τ).loc Cert.Kernel15.main_arg8) = m ((c.tc : Thread Cert.Kernel15.nD Cert.Kernel15.τ).loc Cert.Kernel15.main_arg8))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
      ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
      ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7)
      ∧ r.2.mem ((c.tc : Thread Cert.Kernel15Ideal.nD Cert.Kernel15Ideal.τ).loc Cert.Kernel15Ideal.main_arg8) = m ((c.tc : Thread Cert.Kernel15Ideal.nD Cert.Kernel15Ideal.τ).loc Cert.Kernel15Ideal.main_arg8))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5)
      ∧ r.2.mem ((c.tc : Thread Cert.Reference15Ideal.nD Cert.Reference15Ideal.τ).loc Cert.Reference15Ideal.main_arg6) = m ((c.tc : Thread Cert.Reference15Ideal.nD Cert.Reference15Ideal.τ).loc Cert.Reference15Ideal.main_arg6)
      ∧ r.2.mem ((c.tc : Thread Cert.Reference15Ideal.nD Cert.Reference15Ideal.τ).loc Cert.Reference15Ideal.main_arg7) = m ((c.tc : Thread Cert.Reference15Ideal.nD Cert.Reference15Ideal.τ).loc Cert.Reference15Ideal.main_arg7)
      ∧ r.2.mem ((c.tc : Thread Cert.Reference15Ideal.nD Cert.Reference15Ideal.τ).loc Cert.Reference15Ideal.main_arg8) = m ((c.tc : Thread Cert.Reference15Ideal.nD Cert.Reference15Ideal.τ).loc Cert.Reference15Ideal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_11) = v0 c
          ∧ r.2.mem ((c.tc : Thread Cert.ReferenceIdeal.nD Cert.ReferenceIdeal.τ).loc Cert.ReferenceIdeal.main_v3_12) = v1 c
          ∧ r.2.mem ((c.tc : Thread Cert.ReferenceIdeal.nD Cert.ReferenceIdeal.τ).loc Cert.ReferenceIdeal.main_v4) = v2 c
          ∧ r.2.mem ((c.tc : Thread Cert.ReferenceIdeal.nD Cert.ReferenceIdeal.τ).loc Cert.ReferenceIdeal.main_v5) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v3_7) = v0 c
          ∧ r.2.mem ((c.tc : Thread Cert.Reference2Ideal.nD Cert.Reference2Ideal.τ).loc Cert.Reference2Ideal.main_v3_8) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v3_0)) (v1 : (c : Dev Cert.Kernel3Ideal.nD) → Buf (Elt Ideal) ((c.tc : Thread Cert.Kernel3Ideal.nD Cert.Kernel3Ideal.τ).loc Cert.Kernel3Ideal.main_v3_1)) (v2 : (c : Dev Cert.Kernel3Ideal.nD) → Buf (Elt Ideal) ((c.tc : Thread Cert.Kernel3Ideal.nD Cert.Kernel3Ideal.τ).loc Cert.Kernel3Ideal.main_v3_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3_0) = v0 c
          ∧ r.2.mem ((c.tc : Thread Cert.Kernel3Ideal.nD Cert.Kernel3Ideal.τ).loc Cert.Kernel3Ideal.main_v3_1) = v1 c
          ∧ r.2.mem ((c.tc : Thread Cert.Kernel3Ideal.nD Cert.Kernel3Ideal.τ).loc Cert.Kernel3Ideal.main_v3_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v43) = v0 c
          ∧ r.2.mem ((c.tc : Thread Cert.Reference3Ideal.nD Cert.Reference3Ideal.τ).loc Cert.Reference3Ideal.main_v21) = v1 c
          ∧ r.2.mem ((c.tc : Thread Cert.Reference3Ideal.nD Cert.Reference3Ideal.τ).loc Cert.Reference3Ideal.main_v44) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v6_0)) (v1 : (c : Dev Cert.Kernel4Ideal.nD) → Buf (Elt Ideal) ((c.tc : Thread Cert.Kernel4Ideal.nD Cert.Kernel4Ideal.τ).loc Cert.Kernel4Ideal.main_v6_1)) (v2 : (c : Dev Cert.Kernel4Ideal.nD) → Buf (Elt Ideal) ((c.tc : Thread Cert.Kernel4Ideal.nD Cert.Kernel4Ideal.τ).loc Cert.Kernel4Ideal.main_v6_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6_0) = v0 c
          ∧ r.2.mem ((c.tc : Thread Cert.Kernel4Ideal.nD Cert.Kernel4Ideal.τ).loc Cert.Kernel4Ideal.main_v6_1) = v1 c
          ∧ r.2.mem ((c.tc : Thread Cert.Kernel4Ideal.nD Cert.Kernel4Ideal.τ).loc Cert.Kernel4Ideal.main_v6_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v45) = v0 c
          ∧ r.2.mem ((c.tc : Thread Cert.Reference4Ideal.nD Cert.Reference4Ideal.τ).loc Cert.Reference4Ideal.main_v23) = v1 c
          ∧ r.2.mem ((c.tc : Thread Cert.Reference4Ideal.nD Cert.Reference4Ideal.τ).loc Cert.Reference4Ideal.main_v46) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v2_0)) (v1 : (c : Dev Cert.Kernel5Ideal.nD) → Buf (Elt Ideal) ((c.tc : Thread Cert.Kernel5Ideal.nD Cert.Kernel5Ideal.τ).loc Cert.Kernel5Ideal.main_v2_1)) (v2 : (c : Dev Cert.Kernel5Ideal.nD) → Buf (Elt Ideal) ((c.tc : Thread Cert.Kernel5Ideal.nD Cert.Kernel5Ideal.τ).loc Cert.Kernel5Ideal.main_v2_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2_0) = v0 c
          ∧ r.2.mem ((c.tc : Thread Cert.Kernel5Ideal.nD Cert.Kernel5Ideal.τ).loc Cert.Kernel5Ideal.main_v2_1) = v1 c
          ∧ r.2.mem ((c.tc : Thread Cert.Kernel5Ideal.nD Cert.Kernel5Ideal.τ).loc Cert.Kernel5Ideal.main_v2_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_v9) = v1 c
          ∧ r.2.mem ((c.tc : Thread Cert.Reference5Ideal.nD Cert.Reference5Ideal.τ).loc Cert.Reference5Ideal.main_v4) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  IdealRules.named_const.Statement Cert.Kernel6Ideal.κ "cube" .f32 0x3D372713#32 ((8943 / 200000 : ℝ) : EReal)
  ∧ IdealRules.named_const.Statement Cert.Kernel6Ideal.κ "square" .f32 0x3E095D4F#32 ((26829 / 200000 : ℝ) : EReal)

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v4_0)) (v1 : (c : Dev Cert.Kernel6Ideal.nD) → Buf (Elt Ideal) ((c.tc : Thread Cert.Kernel6Ideal.nD Cert.Kernel6Ideal.τ).loc Cert.Kernel6Ideal.main_v4_1)) (v2 : (c : Dev Cert.Kernel6Ideal.nD) → Buf (Elt Ideal) ((c.tc : Thread Cert.Kernel6Ideal.nD Cert.Kernel6Ideal.τ).loc Cert.Kernel6Ideal.main_v4_2)) (v3 : (c : Dev Cert.Kernel6Ideal.nD) → Buf (Elt Ideal) ((c.tc : Thread Cert.Kernel6Ideal.nD Cert.Kernel6Ideal.τ).loc Cert.Kernel6Ideal.main_v4_3)) (v4 : (c : Dev Cert.Kernel6Ideal.nD) → Buf (Elt Ideal) ((c.tc : Thread Cert.Kernel6Ideal.nD Cert.Kernel6Ideal.τ).loc Cert.Kernel6Ideal.main_v4_4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4_0) = v0 c
          ∧ r.2.mem ((c.tc : Thread Cert.Kernel6Ideal.nD Cert.Kernel6Ideal.τ).loc Cert.Kernel6Ideal.main_v4_1) = v1 c
          ∧ r.2.mem ((c.tc : Thread Cert.Kernel6Ideal.nD Cert.Kernel6Ideal.τ).loc Cert.Kernel6Ideal.main_v4_2) = v2 c
          ∧ r.2.mem ((c.tc : Thread Cert.Kernel6Ideal.nD Cert.Kernel6Ideal.τ).loc Cert.Kernel6Ideal.main_v4_3) = v3 c
          ∧ r.2.mem ((c.tc : Thread Cert.Kernel6Ideal.nD Cert.Kernel6Ideal.τ).loc Cert.Kernel6Ideal.main_v4_4) = v4 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v69) = v0 c
          ∧ r.2.mem ((c.tc : Thread Cert.Reference6Ideal.nD Cert.Reference6Ideal.τ).loc Cert.Reference6Ideal.main_v70) = v1 c
          ∧ r.2.mem ((c.tc : Thread Cert.Reference6Ideal.nD Cert.Reference6Ideal.τ).loc Cert.Reference6Ideal.main_v53) = v2 c
          ∧ r.2.mem ((c.tc : Thread Cert.Reference6Ideal.nD Cert.Reference6Ideal.τ).loc Cert.Reference6Ideal.main_v71) = v3 c
          ∧ r.2.mem ((c.tc : Thread Cert.Reference6Ideal.nD Cert.Reference6Ideal.τ).loc Cert.Reference6Ideal.main_v41) = v4 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v2_0)) (v1 : (c : Dev Cert.Kernel7Ideal.nD) → Buf (Elt Ideal) ((c.tc : Thread Cert.Kernel7Ideal.nD Cert.Kernel7Ideal.τ).loc Cert.Kernel7Ideal.main_v2_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2_0) = v0 c
          ∧ r.2.mem ((c.tc : Thread Cert.Kernel7Ideal.nD Cert.Kernel7Ideal.τ).loc Cert.Kernel7Ideal.main_v2_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v14) = v0 c
          ∧ r.2.mem ((c.tc : Thread Cert.Reference7Ideal.nD Cert.Reference7Ideal.τ).loc Cert.Reference7Ideal.main_v16) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v29_0)) (v1 : (c : Dev Cert.Kernel8Ideal.nD) → Buf (Elt Ideal) ((c.tc : Thread Cert.Kernel8Ideal.nD Cert.Kernel8Ideal.τ).loc Cert.Kernel8Ideal.main_v29_1)) (v2 : (c : Dev Cert.Kernel8Ideal.nD) → Buf (Elt Ideal) ((c.tc : Thread Cert.Kernel8Ideal.nD Cert.Kernel8Ideal.τ).loc Cert.Kernel8Ideal.main_v29_2)) (v3 : (c : Dev Cert.Kernel8Ideal.nD) → Buf (Elt Ideal) ((c.tc : Thread Cert.Kernel8Ideal.nD Cert.Kernel8Ideal.τ).loc Cert.Kernel8Ideal.main_v29_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v29_0) = v0 c
          ∧ r.2.mem ((c.tc : Thread Cert.Kernel8Ideal.nD Cert.Kernel8Ideal.τ).loc Cert.Kernel8Ideal.main_v29_1) = v1 c
          ∧ r.2.mem ((c.tc : Thread Cert.Kernel8Ideal.nD Cert.Kernel8Ideal.τ).loc Cert.Kernel8Ideal.main_v29_2) = v2 c
          ∧ r.2.mem ((c.tc : Thread Cert.Kernel8Ideal.nD Cert.Kernel8Ideal.τ).loc Cert.Kernel8Ideal.main_v29_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v68) = v0 c
          ∧ r.2.mem ((c.tc : Thread Cert.Reference8Ideal.nD Cert.Reference8Ideal.τ).loc Cert.Reference8Ideal.main_v69) = v1 c
          ∧ r.2.mem ((c.tc : Thread Cert.Reference8Ideal.nD Cert.Reference8Ideal.τ).loc Cert.Reference8Ideal.main_v70) = v2 c
          ∧ r.2.mem ((c.tc : Thread Cert.Reference8Ideal.nD Cert.Reference8Ideal.τ).loc Cert.Reference8Ideal.main_v71) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)) →
    ∃ (v0 : (c : Dev Cert.Kernel9Ideal.nD) → Buf (Elt Ideal) ((c.tc : Thread Cert.Kernel9Ideal.nD Cert.Kernel9Ideal.τ).loc Cert.Kernel9Ideal.main_v4)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v4) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v27) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  IdealRules.named_const.Statement Cert.Kernel11Ideal.κ "mask" .f32 0xF149F2CA#32 ⊥

def algebraic_Kernel11Ideal_Reference11Ideal_pre_finite11 [hKernel11Ideal : Cert.Kernel11Ideal.Facts] [hReference11Ideal : Cert.Reference11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_finite11 m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v6)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v6) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v65) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)) →
    ∃ (v0 : (c : Dev Cert.Kernel12Ideal.nD) → Buf (Elt Ideal) ((c.tc : Thread Cert.Kernel12Ideal.nD Cert.Kernel12Ideal.τ).loc Cert.Kernel12Ideal.main_v3_0)) (v1 : (c : Dev Cert.Kernel12Ideal.nD) → Buf (Elt Ideal) ((c.tc : Thread Cert.Kernel12Ideal.nD Cert.Kernel12Ideal.τ).loc Cert.Kernel12Ideal.main_v3_1)) (v2 : (c : Dev Cert.Kernel12Ideal.nD) → Buf (Elt Ideal) ((c.tc : Thread Cert.Kernel12Ideal.nD Cert.Kernel12Ideal.τ).loc Cert.Kernel12Ideal.main_v3_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v3_0) = v0 c
          ∧ r.2.mem ((c.tc : Thread Cert.Kernel12Ideal.nD Cert.Kernel12Ideal.τ).loc Cert.Kernel12Ideal.main_v3_1) = v1 c
          ∧ r.2.mem ((c.tc : Thread Cert.Kernel12Ideal.nD Cert.Kernel12Ideal.τ).loc Cert.Kernel12Ideal.main_v3_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v55) = v0 c
          ∧ r.2.mem ((c.tc : Thread Cert.Reference12Ideal.nD Cert.Reference12Ideal.τ).loc Cert.Reference12Ideal.main_v54) = v1 c
          ∧ r.2.mem ((c.tc : Thread Cert.Reference12Ideal.nD Cert.Reference12Ideal.τ).loc Cert.Reference12Ideal.main_v56) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v1_0)) (v1 : (c : Dev Cert.Kernel13Ideal.nD) → Buf (Elt Ideal) ((c.tc : Thread Cert.Kernel13Ideal.nD Cert.Kernel13Ideal.τ).loc Cert.Kernel13Ideal.main_v1_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1_0) = v0 c
          ∧ r.2.mem ((c.tc : Thread Cert.Kernel13Ideal.nD Cert.Kernel13Ideal.τ).loc Cert.Kernel13Ideal.main_v1_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v6) = v0 c
          ∧ r.2.mem ((c.tc : Thread Cert.Reference13Ideal.nD Cert.Reference13Ideal.τ).loc Cert.Reference13Ideal.main_v8) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)) →
    ∃ (v0 : (c : Dev Cert.Kernel14Ideal.nD) → Buf (Elt Ideal) ((c.tc : Thread Cert.Kernel14Ideal.nD Cert.Kernel14Ideal.τ).loc Cert.Kernel14Ideal.main_v3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v3) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v17) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)
      ∧ m' ((c.tc : Thread Cert.Reference15Ideal.nD Cert.Reference15Ideal.τ).loc Cert.Reference15Ideal.main_arg6) = m ((c.tc : Thread Cert.Kernel15Ideal.nD Cert.Kernel15Ideal.τ).loc Cert.Kernel15Ideal.main_arg6)
      ∧ m' ((c.tc : Thread Cert.Reference15Ideal.nD Cert.Reference15Ideal.τ).loc Cert.Reference15Ideal.main_arg7) = m ((c.tc : Thread Cert.Kernel15Ideal.nD Cert.Kernel15Ideal.τ).loc Cert.Kernel15Ideal.main_arg7)
      ∧ m' ((c.tc : Thread Cert.Reference15Ideal.nD Cert.Reference15Ideal.τ).loc Cert.Reference15Ideal.main_arg8) = m ((c.tc : Thread Cert.Kernel15Ideal.nD Cert.Kernel15Ideal.τ).loc Cert.Kernel15Ideal.main_arg8)) →
    ∃ (v0 : (c : Dev Cert.Kernel15Ideal.nD) → Buf (Elt Ideal) ((c.tc : Thread Cert.Kernel15Ideal.nD Cert.Kernel15Ideal.τ).loc Cert.Kernel15Ideal.main_v3_0)) (v1 : (c : Dev Cert.Kernel15Ideal.nD) → Buf (Elt Ideal) ((c.tc : Thread Cert.Kernel15Ideal.nD Cert.Kernel15Ideal.τ).loc Cert.Kernel15Ideal.main_v3_1)) (v2 : (c : Dev Cert.Kernel15Ideal.nD) → Buf (Elt Ideal) ((c.tc : Thread Cert.Kernel15Ideal.nD Cert.Kernel15Ideal.τ).loc Cert.Kernel15Ideal.main_v3_2)) (v3 : (c : Dev Cert.Kernel15Ideal.nD) → Buf (Elt Ideal) ((c.tc : Thread Cert.Kernel15Ideal.nD Cert.Kernel15Ideal.τ).loc Cert.Kernel15Ideal.main_v3_3)) (v4 : (c : Dev Cert.Kernel15Ideal.nD) → Buf (Elt Ideal) ((c.tc : Thread Cert.Kernel15Ideal.nD Cert.Kernel15Ideal.τ).loc Cert.Kernel15Ideal.main_v3_4)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v3_0) = v0 c
          ∧ r.2.mem ((c.tc : Thread Cert.Kernel15Ideal.nD Cert.Kernel15Ideal.τ).loc Cert.Kernel15Ideal.main_v3_1) = v1 c
          ∧ r.2.mem ((c.tc : Thread Cert.Kernel15Ideal.nD Cert.Kernel15Ideal.τ).loc Cert.Kernel15Ideal.main_v3_2) = v2 c
          ∧ r.2.mem ((c.tc : Thread Cert.Kernel15Ideal.nD Cert.Kernel15Ideal.τ).loc Cert.Kernel15Ideal.main_v3_3) = v3 c
          ∧ r.2.mem ((c.tc : Thread Cert.Kernel15Ideal.nD Cert.Kernel15Ideal.τ).loc Cert.Kernel15Ideal.main_v3_4) = v4 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
          ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
          ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7)
          ∧ r.2.mem ((c.tc : Thread Cert.Kernel15Ideal.nD Cert.Kernel15Ideal.τ).loc Cert.Kernel15Ideal.main_arg8) = m ((c.tc : Thread Cert.Kernel15Ideal.nD Cert.Kernel15Ideal.τ).loc Cert.Kernel15Ideal.main_arg8))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v70) = v0 c
          ∧ r.2.mem ((c.tc : Thread Cert.Reference15Ideal.nD Cert.Reference15Ideal.τ).loc Cert.Reference15Ideal.main_v63) = v1 c
          ∧ r.2.mem ((c.tc : Thread Cert.Reference15Ideal.nD Cert.Reference15Ideal.τ).loc Cert.Reference15Ideal.main_v71) = v2 c
          ∧ r.2.mem ((c.tc : Thread Cert.Reference15Ideal.nD Cert.Reference15Ideal.τ).loc Cert.Reference15Ideal.main_v72) = v3 c
          ∧ r.2.mem ((c.tc : Thread Cert.Reference15Ideal.nD Cert.Reference15Ideal.τ).loc Cert.Reference15Ideal.main_v75) = v4 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5)
          ∧ r.2.mem ((c.tc : Thread Cert.Reference15Ideal.nD Cert.Reference15Ideal.τ).loc Cert.Reference15Ideal.main_arg6) = m' ((c.tc : Thread Cert.Reference15Ideal.nD Cert.Reference15Ideal.τ).loc Cert.Reference15Ideal.main_arg6)
          ∧ r.2.mem ((c.tc : Thread Cert.Reference15Ideal.nD Cert.Reference15Ideal.τ).loc Cert.Reference15Ideal.main_arg7) = m' ((c.tc : Thread Cert.Reference15Ideal.nD Cert.Reference15Ideal.τ).loc Cert.Reference15Ideal.main_arg7)
          ∧ r.2.mem ((c.tc : Thread Cert.Reference15Ideal.nD Cert.Reference15Ideal.τ).loc Cert.Reference15Ideal.main_arg8) = m' ((c.tc : Thread Cert.Reference15Ideal.nD Cert.Reference15Ideal.τ).loc Cert.Reference15Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hPre_finite5 : Cert.Pre_finite5.Facts) (hPre_finite6 : Cert.Pre_finite6.Facts) (hPre_finite11 : Cert.Pre_finite11.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Kernel11Ideal_pre_finite11 (hKernel11Ideal := hKernel11Ideal) (hPre_finite11 := hPre_finite11)
    ∧ quiescent_Reference11Ideal (hReference11Ideal := hReference11Ideal)
    ∧ quiescent_Reference11Ideal_pre_finite11 (hReference11Ideal := hReference11Ideal) (hPre_finite11 := hPre_finite11)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal_pre_finite11 (hKernel11Ideal := hKernel11Ideal) (hReference11Ideal := hReference11Ideal) (hPre_finite11 := hPre_finite11)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
-- ==== Pre_finite11.lean ====
abbrev S8192x1024 : Shape := ⟨2, ![8192, 1024]⟩
abbrev S8192x128 : Shape := ⟨2, ![8192, 128]⟩
abbrev S16 : Shape := ⟨1, ![16]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x128 : S_.BroadcastsInDim S8192x128 (![] : Fin 0 → Fin S8192x128.rank)
  reducesTo_S8192x128_S_d0_1 : S8192x128.ReducesTo [0, 1] S_
  bcast_S_S16 : S_.BroadcastsInDim S16 (![] : Fin 0 → Fin S16.rank)
  reducesTo_S16_S_d0 : S16.ReducesTo [0] S_

variable [Facts]

def fn {F : FTy → Type} [FloatOps F] (main_arg0 : FVec F S8192x1024 .f32) (main_arg1 : FVec F S8192x128 .f32) (main_arg2 : FVec F S8192x128 .f32) (main_arg3 : FVec F S16 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  main_v13
-- ==== Pre_finite5.lean ====
abbrev S8192x1024 : Shape := ⟨2, ![8192, 1024]⟩
abbrev S1024x1024 : Shape := ⟨2, ![1024, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S8192x1024 .f32) (main_arg1 : FVec F S8192x1024 .f32) (main_arg2 : FVec F S8192x1024 .f32) (main_arg3 : FVec F S1024x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1024x1024 .f32 := Host.absf main_arg3
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Pre_finite6.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S8192x1024 .f32) (main_arg1 : FVec F S8192x1024 .f32) (main_arg2 : FVec F S8192x1024 .f32) (main_arg3 : FVec F S1024x1024 .f32) (main_arg4 : FVec F S1024 .f32) (main_arg5 : FVec F S1024x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S1024x1024 .f32 := Host.absf main_arg5
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S512x4096 : Shape := ⟨2, ![512, 4096]⟩
abbrev S1x4096 : Shape := ⟨2, ![1, 4096]⟩
abbrev S512x2048 : Shape := ⟨2, ![512, 2048]⟩
abbrev S1x2048 : Shape := ⟨2, ![1, 2048]⟩

abbrev nBuf : Space → Nat
  | .hbm => 10
  | .vmem => 20
  | .smem => 0
  | _ => 0

abbrev bufTy : (tb : Table) → Fin (tcTables nBuf tb) → BufTy
  | .hbm, ⟨0, _⟩ => ⟨S512x4096, .f32⟩
  | .hbm, ⟨1, _⟩ => ⟨S512x4096, .f32⟩
  | .hbm, ⟨2, _⟩ => ⟨S512x4096, .f32⟩
  | .hbm, ⟨3, _⟩ => ⟨S512x4096, .f32⟩
  | .hbm, ⟨4, _⟩ => ⟨S1x4096, .f32⟩
  | .hbm, ⟨5, _⟩ => ⟨S1x4096, .f32⟩
  | .hbm, ⟨6, _⟩ => ⟨S512x4096, .f32⟩
  | .hbm, ⟨7, _⟩ => ⟨S512x4096, .f32⟩
  | .hbm, ⟨8, _⟩ => ⟨S1x4096, .f32⟩
  | .hbm, ⟨9, _⟩ => ⟨S1x4096, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S1x2048, .f32⟩
  | .local _ .vmem, ⟨9, _⟩ => ⟨S1x2048, .f32⟩
  | .local _ .vmem, ⟨10, _⟩ => ⟨S1x2048, .f32⟩
  | .local _ .vmem, ⟨11, _⟩ => ⟨S1x2048, .f32⟩
  | .local _ .vmem, ⟨12, _⟩ => ⟨S512x2048, .f32⟩
  | .local _ .vmem, ⟨13, _⟩ => ⟨S512x2048, .f32⟩
  | .local _ .vmem, ⟨14, _⟩ => ⟨S512x2048, .f32⟩
  | .local _ .vmem, ⟨15, _⟩ => ⟨S512x2048, .f32⟩
  | .local _ .vmem, ⟨16, _⟩ => ⟨S1x2048, .f32⟩
  | .local _ .vmem, ⟨17, _⟩ => ⟨S1x2048, .f32⟩
  | .local _ .vmem, ⟨18, _⟩ => ⟨S1x2048, .f32⟩
  | .local _ .vmem, ⟨19, _⟩ => ⟨S1x2048, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![2], ![false]⟩

@[reducible] def k0_t1_loop : Scf.Loop 32 :=
  let c0_i32 : BitVec 32 := 0#32
  let c512_i32 : BitVec 32 := 512#32
  let v3 : BitVec 32 := Scalar.addi c0_i32 c512_i32
  let c1_i32 : BitVec 32 := 1#32
  ⟨c0_i32, v3, c1_i32⟩
def k0_off1 (k0_t1 : Fin k0_t1_loop.trips) : Fin 2 → Nat :=
  let c511_i32 : BitVec 32 := 511#32
  let c0_i32 : BitVec 32 := 0#32
  let c1_i32 : BitVec 32 := 1#32
  let arg11 : BitVec 32 := Scf.iv c0_i32 c1_i32 k0_t1
  let v7 : BitVec 32 := Scalar.subi c511_i32 arg11
  let v8 : Index := Scalar.indexCast v7
  let c0_8 : Index := 0#32
  ![v8.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S512x4096 : Shape := ⟨2, ![512, 4096]⟩
abbrev S1x4096 : Shape := ⟨2, ![1, 4096]⟩
abbrev S_ : Shape := ⟨0, ![]⟩
abbrev S4096 : Shape := ⟨1, ![4096]⟩

abbrev nBuf : Space → Nat
  | .hbm => 85
  | .vmem => 0
  | .smem => 0
  | _ => 0

abbrev bufTy : (tb : Table) → Fin (tcTables nBuf tb) → BufTy
  | .hbm, ⟨0, _⟩ => ⟨S512x4096, .f32⟩
  | .hbm, ⟨1, _⟩ => ⟨S512x4096, .f32⟩
  | .hbm, ⟨2, _⟩ => ⟨S512x4096, .f32⟩
  | .hbm, ⟨3, _⟩ => ⟨S512x4096, .f32⟩
  | .hbm, ⟨4, _⟩ => ⟨S1x4096, .f32⟩
  | .hbm, ⟨5, _⟩ => ⟨S1x4096, .f32⟩
  | .hbm, ⟨6, _⟩ => ⟨S_, .f32⟩
  | .hbm, ⟨7, _⟩ => ⟨S4096, .f32⟩
  | .hbm, ⟨8, _⟩ => ⟨S_, .f32⟩
  | .hbm, ⟨9, _⟩ => ⟨S512x4096, .f32⟩
  | .hbm, ⟨10, _⟩ => ⟨S_, .f32⟩
  | .hbm, ⟨11, _⟩ => ⟨S512x4096, .f32⟩
  | .hbm, ⟨12, _⟩ => ⟨S_, .i32⟩
  | .hbm, ⟨13, _⟩ => ⟨S512x4096, .f32⟩
  | .hbm, ⟨14, _⟩ => ⟨S512x4096, .f32⟩
  | .hbm, ⟨15, _⟩ => ⟨S512x4096, .f32⟩
  | .hbm, ⟨16, _⟩ => ⟨S512x4096, .f32⟩
  | .hbm, ⟨17, _⟩ => ⟨S1x4096, .f32⟩
  | .hbm, ⟨18, _⟩ => ⟨S1x4096, .f32⟩
  | .hbm, ⟨19, _⟩ => ⟨S_, .i32⟩
  | .hbm, ⟨20, _⟩ => ⟨S4096, .f32⟩
  | .hbm, ⟨21, _⟩ => ⟨S4096, .f32⟩
  | .hbm, ⟨22, _⟩ => ⟨S4096, .f32⟩
  | .hbm, ⟨23, _⟩ => ⟨S4096, .f32⟩
  | .hbm, ⟨24, _⟩ => ⟨S512x4096, .f32⟩
  | .hbm, ⟨25, _⟩ => ⟨S512x4096, .f32⟩
  | .hbm, ⟨26, _⟩ => ⟨S_, .i32⟩
  | .hbm, ⟨27, _⟩ => ⟨S_, .i1⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S1x4096, .f32⟩
  | .hbm, ⟨34, _⟩ => ⟨S4096, .f32⟩
  | .hbm, ⟨35, _⟩ => ⟨S_, .i32⟩
  | .hbm, ⟨36, _⟩ => ⟨S1x4096, .f32⟩
  | .hbm, ⟨37, _⟩ => ⟨S4096, .f32⟩
  | .hbm, ⟨38, _⟩ => ⟨S_, .i32⟩
  | .hbm, ⟨39, _⟩ => ⟨S1x4096, .f32⟩
  | .hbm, ⟨40, _⟩ => ⟨S4096, .f32⟩
  | .hbm, ⟨41, _⟩ => ⟨S_, .i32⟩
  | .hbm, ⟨42, _⟩ => ⟨S1x4096, .f32⟩
  | .hbm, ⟨43, _⟩ => ⟨S4096, .f32⟩
  | .hbm, ⟨44, _⟩ => ⟨S_, .f32⟩
  | .hbm, ⟨45, _⟩ => ⟨S4096, .f32⟩
  | .hbm, ⟨46, _⟩ => ⟨S_, .f32⟩
  | .hbm, ⟨47, _⟩ => ⟨S4096, .f32⟩
  | .hbm, ⟨48, _⟩ => ⟨S4096, .f32⟩
  | .hbm, ⟨49, _⟩ => ⟨S4096, .f32⟩
  | .hbm, ⟨50, _⟩ => ⟨S4096, .f32⟩
  | .hbm, ⟨51, _⟩ => ⟨S4096, .f32⟩
  | .hbm, ⟨52, _⟩ => ⟨S4096, .f32⟩
  | .hbm, ⟨53, _⟩ => ⟨S4096, .f32⟩
  | .hbm, ⟨54, _⟩ => ⟨S4096, .f32⟩
  | .hbm, ⟨55, _⟩ => ⟨S4096, .f32⟩
  | .hbm, ⟨56, _⟩ => ⟨S4096, .f32⟩
  | .hbm, ⟨57, _⟩ => ⟨S4096, .f32⟩
  | .hbm, ⟨58, _⟩ => ⟨S4096, .f32⟩
  | .hbm, ⟨59, _⟩ => ⟨S4096, .f32⟩
  | .hbm, ⟨60, _⟩ => ⟨S4096, .f32⟩
  | .hbm, ⟨61, _⟩ => ⟨S4096, .f32⟩
  | .hbm, ⟨62, _⟩ => ⟨S4096, .f32⟩
  | .hbm, ⟨63, _⟩ => ⟨S4096, .f32⟩
  | .hbm, ⟨64, _⟩ => ⟨S4096, .f32⟩
  | .hbm, ⟨65, _⟩ => ⟨S4096, .f32⟩
  | .hbm, ⟨66, _⟩ => ⟨S4096, .f32⟩
  | .hbm, ⟨67, _⟩ => ⟨S4096, .f32⟩
  | .hbm, ⟨68, _⟩ => ⟨S4096, .f32⟩
  | .hbm, ⟨69, _⟩ => ⟨S4096, .f32⟩
  | .hbm, ⟨70, _⟩ => ⟨S4096, .f32⟩
  | .hbm, ⟨71, _⟩ => ⟨S4096, .f32⟩
  | .hbm, ⟨72, _⟩ => ⟨S4096, .f32⟩
  | .hbm, ⟨73, _⟩ => ⟨S4096, .f32⟩
  | .hbm, ⟨74, _⟩ => ⟨S4096, .f32⟩
  | .hbm, ⟨75, _⟩ => ⟨S1x4096, .f32⟩
  | .hbm, ⟨76, _⟩ => ⟨S_, .i32⟩
  | .hbm, ⟨77, _⟩ => ⟨S512x4096, .f32⟩
  | .hbm, ⟨78, _⟩ => ⟨S1x4096, .f32⟩
  | .hbm, ⟨79, _⟩ => ⟨S_, .i32⟩
  | .hbm, ⟨80, _⟩ => ⟨S512x4096, .f32⟩
  | .hbm, ⟨81, _⟩ => ⟨S_, .i32⟩
  | .hbm, ⟨82, _⟩ => ⟨S_, .i32⟩
  | .hbm, ⟨83, _⟩ => ⟨S1x4096, .f32⟩
  | .hbm, ⟨84, _⟩ => ⟨S1x4096, .f32⟩
  | _, _ => ⟨S512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_cst_1 : Ref sig .tc := ⟨.hbm, 10, rfl⟩
abbrev main_v2 : Ref sig .tc := ⟨.hbm, 11, rfl⟩
abbrev main_c : Ref sig .tc := ⟨.hbm, 12, rfl⟩
abbrev main_v3_0 : Ref sig .tc := ⟨.hbm, 13, rfl⟩
abbrev main_v3_1 : Ref sig .tc := ⟨.hbm, 14, rfl⟩
abbrev main_v3_2 : Ref sig .tc := ⟨.hbm, 15, rfl⟩
abbrev main_v3_3 : Ref sig .tc := ⟨.hbm, 16, rfl⟩
abbrev main_v3_4 : Ref sig .tc := ⟨.hbm, 17, rfl⟩
abbrev main_v3_5 : Ref sig .tc := ⟨.hbm, 18, rfl⟩
abbrev main_v3_6 : Ref sig .tc := ⟨.hbm, 19, rfl⟩
abbrev main_v3_7 : Ref sig .tc := ⟨.hbm, 20, rfl⟩
abbrev main_v3_8 : Ref sig .tc := ⟨.hbm, 21, rfl⟩
abbrev main_v3_9 : Ref sig .tc := ⟨.hbm, 22, rfl⟩
abbrev main_v3_10 : Ref sig .tc := ⟨.hbm, 23, rfl⟩
abbrev main_v3_11 : Ref sig .tc := ⟨.hbm, 24, rfl⟩
abbrev main_v3_12 : Ref sig .tc := ⟨.hbm, 25, rfl⟩
abbrev main_while0c_c_14 : Ref sig .tc := ⟨.hbm, 26, rfl⟩
abbrev main_while0c_v6 : Ref sig .tc := ⟨.hbm, 27, rfl⟩
abbrev main_while0b_c_14 : Ref sig .tc := ⟨.hbm, 28, rfl⟩
abbrev main_while0b_v6 : Ref sig .tc := ⟨.hbm, 29, rfl⟩
abbrev main_while0b_c_15 : Ref sig .tc := ⟨.hbm, 30, rfl⟩
abbrev main_while0b_v7 : Ref sig .tc := ⟨.hbm, 31, rfl⟩
abbrev main_while0b_call0_c : Ref sig .tc := ⟨.hbm, 32, rfl⟩
abbrev main_while0b_call0_v0 : Ref sig .tc := ⟨.hbm, 33, rfl⟩
abbrev main_while0b_v8 : Ref sig .tc := ⟨.hbm, 34, rfl⟩
abbrev main_while0b_call1_c : Ref sig .tc := ⟨.hbm, 35, rfl⟩
abbrev main_while0b_call1_v0 : Ref sig .tc := ⟨.hbm, 36, rfl⟩
abbrev main_while0b_v9 : Ref sig .tc := ⟨.hbm, 37, rfl⟩
abbrev main_while0b_call2_c : Ref sig .tc := ⟨.hbm, 38, rfl⟩
abbrev main_while0b_call2_v0 : Ref sig .tc := ⟨.hbm, 39, rfl⟩
abbrev main_while0b_v10 : Ref sig .tc := ⟨.hbm, 40, rfl⟩
abbrev main_while0b_call3_c : Ref sig .tc := ⟨.hbm, 41, rfl⟩
abbrev main_while0b_call3_v0 : Ref sig .tc := ⟨.hbm, 42, rfl⟩
abbrev main_while0b_v11 : Ref sig .tc := ⟨.hbm, 43, rfl⟩
abbrev main_while0b_cst_16 : Ref sig .tc := ⟨.hbm, 44, rfl⟩
abbrev main_while0b_v12 : Ref sig .tc := ⟨.hbm, 45, rfl⟩
abbrev main_while0b_cst_17 : Ref sig .tc := ⟨.hbm, 46, rfl⟩
abbrev main_while0b_v13 : Ref sig .tc := ⟨.hbm, 47, rfl⟩
abbrev main_while0b_v14 : Ref sig .tc := ⟨.hbm, 48, rfl⟩
abbrev main_while0b_v15 : Ref sig .tc := ⟨.hbm, 49, rfl⟩
abbrev main_while0b_v16 : Ref sig .tc := ⟨.hbm, 50, rfl⟩
abbrev main_while0b_v17 : Ref sig .tc := ⟨.hbm, 51, rfl⟩
abbrev main_while0b_v18 : Ref sig .tc := ⟨.hbm, 52, rfl⟩
abbrev main_while0b_v19 : Ref sig .tc := ⟨.hbm, 53, rfl⟩
abbrev main_while0b_v20 : Ref sig .tc := ⟨.hbm, 54, rfl⟩
abbrev main_while0b_v21 : Ref sig .tc := ⟨.hbm, 55, rfl⟩
abbrev main_while0b_v22 : Ref sig .tc := ⟨.hbm, 56, rfl⟩
abbrev main_while0b_v23 : Ref sig .tc := ⟨.hbm, 57, rfl⟩
abbrev main_while0b_v24 : Ref sig .tc := ⟨.hbm, 58, rfl⟩
abbrev main_while0b_v25 : Ref sig .tc := ⟨.hbm, 59, rfl⟩
abbrev main_while0b_v26 : Ref sig .tc := ⟨.hbm, 60, rfl⟩
abbrev main_while0b_v27 : Ref sig .tc := ⟨.hbm, 61, rfl⟩
abbrev main_while0b_v28 : Ref sig .tc := ⟨.hbm, 62, rfl⟩
abbrev main_while0b_v29 : Ref sig .tc := ⟨.hbm, 63, rfl⟩
abbrev main_while0b_v30 : Ref sig .tc := ⟨.hbm, 64, rfl⟩
abbrev main_while0b_v31 : Ref sig .tc := ⟨.hbm, 65, rfl⟩
abbrev main_while0b_v32 : Ref sig .tc := ⟨.hbm, 66, rfl⟩
abbrev main_while0b_v33 : Ref sig .tc := ⟨.hbm, 67, rfl⟩
abbrev main_while0b_v34 : Ref sig .tc := ⟨.hbm, 68, rfl⟩
abbrev main_while0b_v35 : Ref sig .tc := ⟨.hbm, 69, rfl⟩
abbrev main_while0b_v36 : Ref sig .tc := ⟨.hbm, 70, rfl⟩
abbrev main_while0b_v37 : Ref sig .tc := ⟨.hbm, 71, rfl⟩
abbrev main_while0b_v38 : Ref sig .tc := ⟨.hbm, 72, rfl⟩
abbrev main_while0b_v39 : Ref sig .tc := ⟨.hbm, 73, rfl⟩
abbrev main_while0b_v40 : Ref sig .tc := ⟨.hbm, 74, rfl⟩
abbrev main_while0b_call4_v0 : Ref sig .tc := ⟨.hbm, 75, rfl⟩
abbrev main_while0b_call4_c : Ref sig .tc := ⟨.hbm, 76, rfl⟩
abbrev main_while0b_v41 : Ref sig .tc := ⟨.hbm, 77, rfl⟩
abbrev main_while0b_call5_v0 : Ref sig .tc := ⟨.hbm, 78, rfl⟩
abbrev main_while0b_call5_c : Ref sig .tc := ⟨.hbm, 79, rfl⟩
abbrev main_while0b_v42 : Ref sig .tc := ⟨.hbm, 80, rfl⟩
abbrev main_while0b_c_18 : Ref sig .tc := ⟨.hbm, 81, rfl⟩
abbrev main_while0b_v43 : Ref sig .tc := ⟨.hbm, 82, rfl⟩
abbrev main_v4 : Ref sig .tc := ⟨.hbm, 83, rfl⟩
abbrev main_v5 : Ref sig .tc := ⟨.hbm, 84, rfl⟩

abbrev nD : Nat := 1
abbrev τ : Topo := Topo.v7x

variable {F : FTy → Type} [FloatOps F]

abbrev main_while0_count : Scf.Loop 32 := ⟨0#32, 512#32, 1#32⟩
-- ==== Kernel2.lean ====
abbrev S512x4096 : Shape := ⟨2, ![512, 4096]⟩
abbrev S1x4096 : Shape := ⟨2, ![1, 4096]⟩
abbrev S512x2048 : Shape := ⟨2, ![512, 2048]⟩
abbrev S1x2048 : Shape := ⟨2, ![1, 2048]⟩

abbrev nBuf : Space → Nat
  | .hbm => 6
  | .vmem => 12
  | .smem => 0
  | _ => 0

abbrev bufTy : (tb : Table) → Fin (tcTables nBuf tb) → BufTy
  | .hbm, ⟨0, _⟩ => ⟨S512x4096, .f32⟩
  | .hbm, ⟨1, _⟩ => ⟨S512x4096, .f32⟩
  | .hbm, ⟨2, _⟩ => ⟨S1x4096, .f32⟩
  | .hbm, ⟨3, _⟩ => ⟨S1x4096, .f32⟩
  | .hbm, ⟨4, _⟩ => ⟨S512x4096, .f32⟩
  | .hbm, ⟨5, _⟩ => ⟨S512x4096, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![2], ![false]⟩

@[reducible] def k0_t1_loop : Scf.Loop 32 :=
  let c0_i32 : BitVec 32 := 0#32
  let c512_i32 : BitVec 32 := 512#32
  let v3 : BitVec 32 := Scalar.addi c0_i32 c512_i32
  let c1_i32 : BitVec 32 := 1#32
  ⟨c0_i32, v3, c1_i32⟩
def k0_off1 (k0_t1 : Fin k0_t1_loop.trips) : Fin 2 → Nat :=
  let c0_i32 : BitVec 32 := 0#32
  let c1_i32 : BitVec 32 := 1#32
  let arg7 : BitVec 32 := Scf.iv c0_i32 c1_i32 k0_t1
  let v5 : Index := Scalar.indexCast arg7
  let c0_4 : Index := 0#32
  ![v5.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S512x4096 : Shape := ⟨2, ![512, 4096]⟩
abbrev S1x4096 : Shape := ⟨2, ![1, 4096]⟩
abbrev S_ : Shape := ⟨0, ![]⟩
abbrev S4096 : Shape := ⟨1, ![4096]⟩

abbrev nBuf : Space → Nat
  | .hbm => 46
  | .vmem => 0
  | .smem => 0
  | _ => 0

abbrev bufTy : (tb : Table) → Fin (tcTables nBuf tb) → BufTy
  | .hbm, ⟨0, _⟩ => ⟨S512x4096, .f32⟩
  | .hbm, ⟨1, _⟩ => ⟨S512x4096, .f32⟩
  | .hbm, ⟨2, _⟩ => ⟨S1x4096, .f32⟩
  | .hbm, ⟨3, _⟩ => ⟨S1x4096, .f32⟩
  | .hbm, ⟨4, _⟩ => ⟨S_, .f32⟩
  | .hbm, ⟨5, _⟩ => ⟨S4096, .f32⟩
  | .hbm, ⟨6, _⟩ => ⟨S_, .f32⟩
  | .hbm, ⟨7, _⟩ => ⟨S512x4096, .f32⟩
  | .hbm, ⟨8, _⟩ => ⟨S_, .f32⟩
  | .hbm, ⟨9, _⟩ => ⟨S512x4096, .f32⟩
  | .hbm, ⟨10, _⟩ => ⟨S_, .i32⟩
  | .hbm, ⟨11, _⟩ => ⟨S512x4096, .f32⟩
  | .hbm, ⟨12, _⟩ => ⟨S512x4096, .f32⟩
  | .hbm, ⟨13, _⟩ => ⟨S1x4096, .f32⟩
  | .hbm, ⟨14, _⟩ => ⟨S1x4096, .f32⟩
  | .hbm, ⟨15, _⟩ => ⟨S_, .i32⟩
  | .hbm, ⟨16, _⟩ => ⟨S4096, .f32⟩
  | .hbm, ⟨17, _⟩ => ⟨S4096, .f32⟩
  | .hbm, ⟨18, _⟩ => ⟨S512x4096, .f32⟩
  | .hbm, ⟨19, _⟩ => ⟨S512x4096, .f32⟩
  | .hbm, ⟨20, _⟩ => ⟨S_, .i32⟩
  | .hbm, ⟨21, _⟩ => ⟨S_, .i1⟩
  | .hbm, ⟨22, _⟩ => ⟨S_, .i32⟩
  | .hbm, ⟨23, _⟩ => ⟨S1x4096, .f32⟩
  | .hbm, ⟨24, _⟩ => ⟨S4096, .f32⟩
  | .hbm, ⟨25, _⟩ => ⟨S_, .i32⟩
  | .hbm, ⟨26, _⟩ => ⟨S1x4096, .f32⟩
  | .hbm, ⟨27, _⟩ => ⟨S4096, .f32⟩
  | .hbm, ⟨28, _⟩ => ⟨S4096, .f32⟩
  | .hbm, ⟨29, _⟩ => ⟨S4096, .f32⟩
  | .hbm, ⟨30, _⟩ => ⟨S4096, .f32⟩
  | .hbm, ⟨31, _⟩ => ⟨S4096, .f32⟩
  | .hbm, ⟨32, _⟩ => ⟨S4096, .f32⟩
  | .hbm, ⟨33, _⟩ => ⟨S4096, .f32⟩
  | .hbm, ⟨34, _⟩ => ⟨S4096, .f32⟩
  | .hbm, ⟨35, _⟩ => ⟨S4096, .f32⟩
  | .hbm, ⟨36, _⟩ => ⟨S4096, .f32⟩
  | .hbm, ⟨37, _⟩ => ⟨S4096, .f32⟩
  | .hbm, ⟨38, _⟩ => ⟨S1x4096, .f32⟩
  | .hbm, ⟨39, _⟩ => ⟨S_, .i32⟩
  | .hbm, ⟨40, _⟩ => ⟨S512x4096, .f32⟩
  | .hbm, ⟨41, _⟩ => ⟨S1x4096, .f32⟩
  | .hbm, ⟨42, _⟩ => ⟨S_, .i32⟩
  | .hbm, ⟨43, _⟩ => ⟨S512x4096, .f32⟩
  | .hbm, ⟨44, _⟩ => ⟨S_, .i32⟩
  | .hbm, ⟨45, _⟩ => ⟨S_, .i32⟩
  | _, _ => ⟨S512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_cst_1 : Ref sig .tc := ⟨.hbm, 8, rfl⟩
abbrev main_v2 : Ref sig .tc := ⟨.hbm, 9, rfl⟩
abbrev main_c : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev main_v3_4 : Ref sig .tc := ⟨.hbm, 15, rfl⟩
abbrev main_v3_5 : Ref sig .tc := ⟨.hbm, 16, rfl⟩
abbrev main_v3_6 : Ref sig .tc := ⟨.hbm, 17, rfl⟩
abbrev main_v3_7 : Ref sig .tc := ⟨.hbm, 18, rfl⟩
abbrev main_v3_8 : Ref sig .tc := ⟨.hbm, 19, rfl⟩
abbrev main_while0c_c_10 : Ref sig .tc := ⟨.hbm, 20, rfl⟩
abbrev main_while0c_v4 : Ref sig .tc := ⟨.hbm, 21, rfl⟩
abbrev main_while0b_call0_c : Ref sig .tc := ⟨.hbm, 22, rfl⟩
abbrev main_while0b_call0_v0 : Ref sig .tc := ⟨.hbm, 23, rfl⟩
abbrev main_while0b_v4 : Ref sig .tc := ⟨.hbm, 24, rfl⟩
abbrev main_while0b_call1_c : Ref sig .tc := ⟨.hbm, 25, rfl⟩
abbrev main_while0b_call1_v0 : Ref sig .tc := ⟨.hbm, 26, rfl⟩
abbrev main_while0b_v5 : Ref sig .tc := ⟨.hbm, 27, rfl⟩
abbrev main_while0b_v6 : Ref sig .tc := ⟨.hbm, 28, rfl⟩
abbrev main_while0b_v7 : Ref sig .tc := ⟨.hbm, 29, rfl⟩
abbrev main_while0b_v8 : Ref sig .tc := ⟨.hbm, 30, rfl⟩
abbrev main_while0b_v9 : Ref sig .tc := ⟨.hbm, 31, rfl⟩
abbrev main_while0b_v10 : Ref sig .tc := ⟨.hbm, 32, rfl⟩
abbrev main_while0b_v11 : Ref sig .tc := ⟨.hbm, 33, rfl⟩
abbrev main_while0b_v12 : Ref sig .tc := ⟨.hbm, 34, rfl⟩
abbrev main_while0b_v13 : Ref sig .tc := ⟨.hbm, 35, rfl⟩
abbrev main_while0b_v14 : Ref sig .tc := ⟨.hbm, 36, rfl⟩
abbrev main_while0b_v15 : Ref sig .tc := ⟨.hbm, 37, rfl⟩
abbrev main_while0b_call2_v0 : Ref sig .tc := ⟨.hbm, 38, rfl⟩
abbrev main_while0b_call2_c : Ref sig .tc := ⟨.hbm, 39, rfl⟩
abbrev main_while0b_v16 : Ref sig .tc := ⟨.hbm, 40, rfl⟩
abbrev main_while0b_call3_v0 : Ref sig .tc := ⟨.hbm, 41, rfl⟩
abbrev main_while0b_call3_c : Ref sig .tc := ⟨.hbm, 42, rfl⟩
abbrev main_while0b_v17 : Ref sig .tc := ⟨.hbm, 43, rfl⟩
abbrev main_while0b_c_10 : Ref sig .tc := ⟨.hbm, 44, rfl⟩
abbrev main_while0b_v18 : Ref sig .tc := ⟨.hbm, 45, rfl⟩

abbrev nD : Nat := 1
abbrev τ : Topo := Topo.v7x

variable {F : FTy → Type} [FloatOps F]

abbrev main_while0_count : Scf.Loop 32 := ⟨0#32, 512#32, 1#32⟩
-- ==== Kernel3.lean ====
abbrev S8192x1024 : Shape := ⟨2, ![8192, 1024]⟩
abbrev S1024 : Shape := ⟨1, ![1024]⟩
abbrev S1024x2048 : Shape := ⟨2, ![1024, 2048]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S512x2048 : Shape := ⟨2, ![512, 2048]⟩

abbrev nBuf : Space → Nat
  | .hbm => 12
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2048, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S1024x2048, .bf16⟩
  | .hbm, ⟨7, _⟩ => ⟨S8192x1024, .bf16⟩
  | .hbm, ⟨8, _⟩ => ⟨S1x1024, .f32⟩
  | .hbm, ⟨9, _⟩ => ⟨S8192x1024, .f32⟩
  | .hbm, ⟨10, _⟩ => ⟨S1024x2048, .f32⟩
  | .hbm, ⟨11, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2048, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | .local _ .vmem, ⟨12, _⟩ => ⟨S1024x2048, .f32⟩
  | .local _ .vmem, ⟨13, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference3Ideal.lean ====
abbrev S8192x1024 : Shape := ⟨2, ![8192, 1024]⟩
abbrev S1024 : Shape := ⟨1, ![1024]⟩
abbrev S1024x2048 : Shape := ⟨2, ![1024, 2048]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2048 : Shape := ⟨2, ![8192, 2048]⟩
abbrev S2048x1024 : Shape := ⟨2, ![2048, 1024]⟩

abbrev nBuf : Space → Nat
  | .hbm => 60
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2048, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x2048, .f32⟩
  | .hbm, ⟨27, _⟩ => ⟨S8192x1024, .f32⟩
  | .hbm, ⟨28, _⟩ => ⟨S8192x1024, .f32⟩
  | .hbm, ⟨29, _⟩ => ⟨S8192x2048, .f32⟩
  | .hbm, ⟨30, _⟩ => ⟨S2048x1024, .f32⟩
  | .hbm, ⟨31, _⟩ => ⟨S1024x2048, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S1024, .f32⟩
  | .hbm, ⟨41, _⟩ => ⟨S8192x1024, .f32⟩
  | .hbm, ⟨42, _⟩ => ⟨S_, .f32⟩
  | .hbm, ⟨43, _⟩ => ⟨S8192, .f32⟩
  | .hbm, ⟨44, _⟩ => ⟨S8192x1, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1, .f32⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S_, .f32⟩
  | .hbm, ⟨53, _⟩ => ⟨S8192, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩

abbrev nD : Nat := 1
abbrev τ : Topo := Topo.v7x

variable {F : FTy → Type} [FloatOps F]
-- ==== Kernel4.lean ====
abbrev S8192x1024 : Shape := ⟨2, ![8192, 1024]⟩
abbrev S1024 : Shape := ⟨1, ![1024]⟩
abbrev S1024x2304 : Shape := ⟨2, ![1024, 2304]⟩
abbrev S8192x128 : Shape := ⟨2, ![8192, 128]⟩
abbrev S1x1024 : Shape := ⟨2, ![1, 1024]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩
abbrev S512x2304 : Shape := ⟨2, ![512, 2304]⟩

abbrev nBuf : Space → Nat
  | .hbm => 17
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2304, .f32⟩
  | .hbm, ⟨3, _⟩ => ⟨S8192x1024, .f32⟩
  | .hbm, ⟨4, _⟩ => ⟨S8192x128, .f32⟩
  | .hbm, ⟨5, _⟩ => ⟨S8192x128, .f32⟩
  | .hbm, ⟨6, _⟩ => ⟨S8192x1024, .f32⟩
  | .hbm, ⟨7, _⟩ => ⟨S8192x1024, .f32⟩
  | .hbm, ⟨8, _⟩ => ⟨S8192x1024, .bf16⟩
  | .hbm, ⟨9, _⟩ => ⟨S8192x128, .bf16⟩
  | .hbm, ⟨10, _⟩ => ⟨S8192x128, .bf16⟩
  | .hbm, ⟨11, _⟩ => ⟨S8192x1024, .bf16⟩
  | .hbm, ⟨12, _⟩ => ⟨S1024x2304, .bf16⟩
  | .hbm, ⟨13, _⟩ => ⟨S1x1024, .f32⟩
  | .hbm, ⟨14, _⟩ => ⟨S8192x1024, .f32⟩
  | .hbm, ⟨15, _⟩ => ⟨S1024x2304, .f32⟩
  | .hbm, ⟨16, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2304, .bf16⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S512x128, .bf16⟩
  | .local _ .vmem, ⟨9, _⟩ => ⟨S512x128, .bf16⟩
  | .local _ .vmem, ⟨10, _⟩ => ⟨S512x128, .bf16⟩
  | .local _ .vmem, ⟨11, _⟩ => ⟨S512x128, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .f32⟩
  | .local _ .vmem, ⟨15, _⟩ => ⟨S512x1024, .f32⟩
  | .local _ .vmem, ⟨16, _⟩ => ⟨S1024x2304, .f32⟩
  | .local _ .vmem, ⟨17, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2304 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x2304 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference4Ideal.lean ====
abbrev S8192x1024 : Shape := ⟨2, ![8192, 1024]⟩
abbrev S1024 : Shape := ⟨1, ![1024]⟩
abbrev S1024x2304 : Shape := ⟨2, ![1024, 2304]⟩
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2304 : Shape := ⟨2, ![8192, 2304]⟩
abbrev S2304x1024 : Shape := ⟨2, ![2304, 1024]⟩

abbrev nBuf : Space → Nat
  | .hbm => 64
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2304, .f32⟩
  | .hbm, ⟨3, _⟩ => ⟨S8192x1024, .f32⟩
  | .hbm, ⟨4, _⟩ => ⟨S8192x128, .f32⟩
  | .hbm, ⟨5, _⟩ => ⟨S8192x128, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S8192x2304, .f32⟩
  | .hbm, ⟨29, _⟩ => ⟨S8192x1024, .f32⟩
  | .hbm, ⟨30, _⟩ => ⟨S8192x128, .f32⟩
  | .hbm, ⟨31, _⟩ => ⟨S8192x128, .f32⟩
  | .hbm, ⟨32, _⟩ => ⟨S8192x1024, .f32⟩
  | .hbm, ⟨33, _⟩ => ⟨S8192x2304, .f32⟩
  | .hbm, ⟨34, _⟩ => ⟨S2304x1024, .f32⟩
  | .hbm, ⟨35, _⟩ => ⟨S1024x2304, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S1024, .f32⟩
  | .hbm, ⟨45, _⟩ => ⟨S8192x1024, .f32⟩
  | .hbm, ⟨46, _⟩ => ⟨S_, .f32⟩
  | .hbm, ⟨47, _⟩ => ⟨S8192, .f32⟩
  | .hbm, ⟨48, _⟩ => ⟨S8192x1, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1, .f32⟩
  | .hbm, ⟨53, _⟩ => ⟨S_, .f32⟩
  | .hbm, ⟨54, _⟩ => ⟨S8192x1, .f32⟩
  | .hbm, ⟨55, _⟩ => ⟨S8192x1, .f32⟩
  | .hbm, ⟨56, _⟩ => ⟨S_, .f32⟩
  | .hbm, ⟨57, _⟩ => ⟨S8192, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_v39 : Ref sig .tc := ⟨.hbm, 55, rfl⟩
abbrev main_cst_7 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩

abbrev nD : Nat := 1
abbrev τ : Topo := Topo.v7x

variable {F : FTy → Type} [FloatOps F]
-- ==== Kernel5.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 9
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x1024, .f32⟩
  | .hbm, ⟨4, _⟩ => ⟨S8192x1024, .bf16⟩
  | .hbm, ⟨5, _⟩ => ⟨S1024x1024, .bf16⟩
  | .hbm, ⟨6, _⟩ => ⟨S8192x1024, .f32⟩
  | .hbm, ⟨7, _⟩ => ⟨S8192x1024, .bf16⟩
  | .hbm, ⟨8, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S1024x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference5Ideal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S1024x1024, .f32⟩
  | .hbm, ⟨20, _⟩ => ⟨S1024x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v8 : Ref sig .tc := ⟨.hbm, 27, rfl⟩
abbrev main_v9 : Ref sig .tc := ⟨.hbm, 28, rfl⟩

abbrev nD : Nat := 1
abbrev τ : Topo := Topo.v7x

variable {F : FTy → Type} [FloatOps F]
-- ==== Kernel6.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩

abbrev nBuf : Space → Nat
  | .hbm => 15
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S8192x1024, .bf16⟩
  | .hbm, ⟨7, _⟩ => ⟨S1024x1024, .bf16⟩
  | .hbm, ⟨8, _⟩ => ⟨S1024x1024, .bf16⟩
  | .hbm, ⟨9, _⟩ => ⟨S1x1024, .f32⟩
  | .hbm, ⟨10, _⟩ => ⟨S8192x1024, .f32⟩
  | .hbm, ⟨11, _⟩ => ⟨S8192x1024, .bf16⟩
  | .hbm, ⟨12, _⟩ => ⟨S1024x1024, .f32⟩
  | .hbm, ⟨13, _⟩ => ⟨S1x1024, .f32⟩
  | .hbm, ⟨14, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S1024x1024, .bf16⟩
  | .local _ .vmem, ⟨7, _⟩ => ⟨S1x1024, .f32⟩
  | .local _ .vmem, ⟨8, _⟩ => ⟨S1024x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S1024x1024, .f32⟩
  | .local _ .vmem, ⟨14, _⟩ => ⟨S1x1024, .f32⟩
  | .local _ .vmem, ⟨15, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v4_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Kernel6Ideal.lean ====
variable {F : FTy → Type} [FloatOps F] [Named F]
def κ : String → Option EReal := fun
  | "cube" => some ((8943 / 200000 : ℝ) : EReal)
  | "square" => some ((26829 / 200000 : ℝ) : EReal)
  | _ => none
-- ==== Reference6Ideal.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩
abbrev S1x1024 : Shape := ⟨2, ![1, 1024]⟩

abbrev nBuf : Space → Nat
  | .hbm => 110
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S1x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S8192x1024, .f32⟩
  | .hbm, ⟨61, _⟩ => ⟨S8192x1024, .f32⟩
  | .hbm, ⟨62, _⟩ => ⟨S_, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S1024x1024, .f32⟩
  | .hbm, ⟨70, _⟩ => ⟨S1024x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S_, .f32⟩
  | .hbm, ⟨82, _⟩ => ⟨S1024, .f32⟩
  | .hbm, ⟨83, _⟩ => ⟨S1x1024, .f32⟩
  | .hbm, ⟨84, _⟩ => ⟨S_, .f32⟩
  | .hbm, ⟨85, _⟩ => ⟨S1024, .f32⟩
  | .hbm, ⟨86, _⟩ => ⟨S1024x1024, .f32⟩
  | .hbm, ⟨87, _⟩ => ⟨S1024x1024, .f32⟩
  | .hbm, ⟨88, _⟩ => ⟨S8192x1024, .f32⟩
  | .hbm, ⟨89, _⟩ => ⟨S8192x1024, .f32⟩
  | .hbm, ⟨90, _⟩ => ⟨S8192x1024, .f32⟩
  | .hbm, ⟨91, _⟩ => ⟨S8192x1024, .f32⟩
  | .hbm, ⟨92, _⟩ => ⟨S_, .f32⟩
  | .hbm, ⟨93, _⟩ => ⟨S8192x1024, .f32⟩
  | .hbm, ⟨94, _⟩ => ⟨S8192x1024, .f32⟩
  | .hbm, ⟨95, _⟩ => ⟨S8192x1024, .f32⟩
  | .hbm, ⟨96, _⟩ => ⟨S_, .f32⟩
  | .hbm, ⟨97, _⟩ => ⟨S8192x1024, .f32⟩
  | .hbm, ⟨98, _⟩ => ⟨S8192x1024, .f32⟩
  | .hbm, ⟨99, _⟩ => ⟨S8192x1024, .f32⟩
  | .hbm, ⟨100, _⟩ => ⟨S_, .f32⟩
  | .hbm, ⟨101, _⟩ => ⟨S8192x1024, .f32⟩
  | .hbm, ⟨102, _⟩ => ⟨S8192x1024, .f32⟩
  | .hbm, ⟨103, _⟩ => ⟨S_, .f32⟩
  | .hbm, ⟨104, _⟩ => ⟨S8192x1024, .f32⟩
  | .hbm, ⟨105, _⟩ => ⟨S8192x1024, .f32⟩
  | .hbm, ⟨106, _⟩ => ⟨S8192x1024, .f32⟩
  | .hbm, ⟨107, _⟩ => ⟨S8192x1024, .f32⟩
  | .hbm, ⟨108, _⟩ => ⟨S8192x1024, .bf16⟩
  | .hbm, ⟨109, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_5 : Ref sig .tc := ⟨.hbm, 30, rfl⟩
abbrev main_v18 : Ref sig .tc := ⟨.hbm, 31, rfl⟩
abbrev main_v19 : Ref sig .tc := ⟨.hbm, 32, rfl⟩
abbrev main_cst_6 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_7 : Ref sig .tc := ⟨.hbm, 43, rfl⟩
abbrev main_v29 : Ref sig .tc := ⟨.hbm, 44, rfl⟩
abbrev main_v30 : Ref sig .tc := ⟨.hbm, 45, rfl⟩
abbrev main_cst_8 : Ref sig .tc := ⟨.hbm, 46, rfl⟩
abbrev main_v31 : Ref sig .tc := ⟨.hbm, 47, rfl⟩
abbrev main_v32 : Ref sig .tc := ⟨.hbm, 48, rfl⟩
abbrev main_cst_9 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_call0_v0 : Ref sig .tc := ⟨.hbm, 54, rfl⟩
abbrev main_call0_v1 : Ref sig .tc := ⟨.hbm, 55, rfl⟩
abbrev main_call0_cst : Ref sig .tc := ⟨.hbm, 56, rfl⟩
abbrev main_call0_v2 : Ref sig .tc := ⟨.hbm, 57, rfl⟩
abbrev main_call0_v3 : Ref sig .tc := ⟨.hbm, 58, rfl⟩
abbrev main_call0_cst_0 : Ref sig .tc := ⟨.hbm, 59, rfl⟩
abbrev main_call0_v4 : Ref sig .tc := ⟨.hbm, 60, rfl⟩
abbrev main_v37_2 : Ref sig .tc := ⟨.hbm, 61, rfl⟩
abbrev main_call0_cst_1 : Ref sig .tc := ⟨.hbm, 62, rfl⟩
abbrev main_call0_v6 : Ref sig .tc := ⟨.hbm, 63, rfl⟩
abbrev main_call0_v7 : Ref sig .tc := ⟨.hbm, 64, rfl⟩
abbrev main_v37_1 : Ref sig .tc := ⟨.hbm, 65, rfl⟩
abbrev main_v37_0 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_call1_v0 : Ref sig .tc := ⟨.hbm, 74, rfl⟩
abbrev main_call1_v1 : Ref sig .tc := ⟨.hbm, 75, rfl⟩
abbrev main_call1_v2 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_cst_10 : Ref sig .tc := ⟨.hbm, 81, rfl⟩
abbrev main_v49 : Ref sig .tc := ⟨.hbm, 82, rfl⟩
abbrev main_v50 : Ref sig .tc := ⟨.hbm, 83, rfl⟩
abbrev main_cst_11 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_cst_12 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_cst_13 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_14 : Ref sig .tc := ⟨.hbm, 100, rfl⟩
abbrev main_v64 : Ref sig .tc := ⟨.hbm, 101, rfl⟩
abbrev main_v65 : Ref sig .tc := ⟨.hbm, 102, rfl⟩
abbrev main_cst_15 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩

abbrev nD : Nat := 1
abbrev τ : Topo := Topo.v7x

variable {F : FTy → Type} [FloatOps F]
-- ==== Kernel7.lean ====
abbrev S8192x1024 : Shape := ⟨2, ![8192, 1024]⟩
abbrev S1024 : Shape := ⟨1, ![1024]⟩
abbrev S1024x2048 : Shape := ⟨2, ![1024, 2048]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S512x2048 : Shape := ⟨2, ![512, 2048]⟩

abbrev nBuf : Space → Nat
  | .hbm => 7
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2048, .f32⟩
  | .hbm, ⟨3, _⟩ => ⟨S1024x2048, .bf16⟩
  | .hbm, ⟨4, _⟩ => ⟨S1x1024, .f32⟩
  | .hbm, ⟨5, _⟩ => ⟨S8192x1024, .f32⟩
  | .hbm, ⟨6, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2048, .bf16⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference7Ideal.lean ====
abbrev S8192x1024 : Shape := ⟨2, ![8192, 1024]⟩
abbrev S1024 : Shape := ⟨1, ![1024]⟩
abbrev S1024x2048 : Shape := ⟨2, ![1024, 2048]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2048 : Shape := ⟨2, ![8192, 2048]⟩

abbrev nBuf : Space → Nat
  | .hbm => 23
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2048, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x2048, .f32⟩
  | .hbm, ⟨20, _⟩ => ⟨S8192x1024, .f32⟩
  | .hbm, ⟨21, _⟩ => ⟨S8192x1024, .f32⟩
  | .hbm, ⟨22, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel8.lean ====
abbrev S8192x1024 : Shape := ⟨2, ![8192, 1024]⟩
abbrev S1024 : Shape := ⟨1, ![1024]⟩
abbrev S1024x2304 : Shape := ⟨2, ![1024, 2304]⟩
abbrev S8192 : Shape := ⟨1, ![8192]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S1x1024 : Shape := ⟨2, ![1, 1024]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩
abbrev S512x2304 : Shape := ⟨2, ![512, 2304]⟩
abbrev S1x128 : Shape := ⟨2, ![1, 128]⟩

abbrev nBuf : Space → Nat
  | .hbm => 40
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2304, .f32⟩
  | .hbm, ⟨3, _⟩ => ⟨S8192, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S8192x1, .f32⟩
  | .hbm, ⟨19, _⟩ => ⟨S1x32, .f32⟩
  | .hbm, ⟨20, _⟩ => ⟨S8192x32, .f32⟩
  | .hbm, ⟨21, _⟩ => ⟨S8192x32, .f32⟩
  | .hbm, ⟨22, _⟩ => ⟨S8192x32, .f32⟩
  | .hbm, ⟨23, _⟩ => ⟨S8192x32, .f32⟩
  | .hbm, ⟨24, _⟩ => ⟨S8192x32, .f32⟩
  | .hbm, ⟨25, _⟩ => ⟨S8192x64, .f32⟩
  | .hbm, ⟨26, _⟩ => ⟨S1x8192x1x64, .f32⟩
  | .hbm, ⟨27, _⟩ => ⟨S1x8192x2x64, .f32⟩
  | .hbm, ⟨28, _⟩ => ⟨S8192x128, .f32⟩
  | .hbm, ⟨29, _⟩ => ⟨S8192x32, .f32⟩
  | .hbm, ⟨30, _⟩ => ⟨S8192x64, .f32⟩
  | .hbm, ⟨31, _⟩ => ⟨S1x8192x1x64, .f32⟩
  | .hbm, ⟨32, _⟩ => ⟨S1x8192x2x64, .f32⟩
  | .hbm, ⟨33, _⟩ => ⟨S8192x128, .f32⟩
  | .hbm, ⟨34, _⟩ => ⟨S1024x2304, .bf16⟩
  | .hbm, ⟨35, _⟩ => ⟨S1x1024, .f32⟩
  | .hbm, ⟨36, _⟩ => ⟨S8192x1024, .bf16⟩
  | .hbm, ⟨37, _⟩ => ⟨S8192x128, .bf16⟩
  | .hbm, ⟨38, _⟩ => ⟨S8192x128, .bf16⟩
  | .hbm, ⟨39, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2304, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x1024, .bf16⟩
  | .local _ .vmem, ⟨9, _⟩ => ⟨S512x1024, .bf16⟩
  | .local _ .vmem, ⟨10, _⟩ => ⟨S512x128, .bf16⟩
  | .local _ .vmem, ⟨11, _⟩ => ⟨S512x128, .bf16⟩
  | .local _ .vmem, ⟨12, _⟩ => ⟨S512x128, .bf16⟩
  | .local _ .vmem, ⟨13, _⟩ => ⟨S512x128, .bf16⟩
  | .local _ .vmem, ⟨14, _⟩ => ⟨S512x1024, .bf16⟩
  | .local _ .vmem, ⟨15, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29_0 : Ref sig .tc := ⟨.hbm, 36, rfl⟩
abbrev main_v29_1 : Ref sig .tc := ⟨.hbm, 37, rfl⟩
abbrev main_v29_2 : Ref sig .tc := ⟨.hbm, 38, rfl⟩
abbrev main_v29_3 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2304 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference8Ideal.lean ====
abbrev S8192x1024 : Shape := ⟨2, ![8192, 1024]⟩
abbrev S1024 : Shape := ⟨1, ![1024]⟩
abbrev S1024x2304 : Shape := ⟨2, ![1024, 2304]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2304 : Shape := ⟨2, ![8192, 2304]⟩
abbrev S8192x128 : Shape := ⟨2, ![8192, 128]⟩
abbrev S8192x16x64 : Shape := ⟨3, ![8192, 16, 64]⟩
abbrev S8192x2x64 : Shape := ⟨3, ![8192, 2, 64]⟩
abbrev S32 : Shape := ⟨1, ![32]⟩
abbrev S1x32 : Shape := ⟨2, ![1, 32]⟩
abbrev S8192x32 : Shape := ⟨2, ![8192, 32]⟩
abbrev S8192x1x32 : Shape := ⟨3, ![8192, 1, 32]⟩
abbrev S8192x16x32 : Shape := ⟨3, ![8192, 16, 32]⟩
abbrev S8192x2x32 : Shape := ⟨3, ![8192, 2, 32]⟩

abbrev nBuf : Space → Nat
  | .hbm => 82
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2304, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x2304, .f32⟩
  | .hbm, ⟨20, _⟩ => ⟨S8192x1024, .f32⟩
  | .hbm, ⟨21, _⟩ => ⟨S8192x128, .f32⟩
  | .hbm, ⟨22, _⟩ => ⟨S8192x128, .f32⟩
  | .hbm, ⟨23, _⟩ => ⟨S8192x1024, .f32⟩
  | .hbm, ⟨24, _⟩ => ⟨S8192x16x64, .f32⟩
  | .hbm, ⟨25, _⟩ => ⟨S8192x2x64, .f32⟩
  | .hbm, ⟨26, _⟩ => ⟨S8192, .f32⟩
  | .hbm, ⟨27, _⟩ => ⟨S32, .f32⟩
  | .hbm, ⟨28, _⟩ => ⟨S_, .f32⟩
  | .hbm, ⟨29, _⟩ => ⟨S32, .f32⟩
  | .hbm, ⟨30, _⟩ => ⟨S32, .f32⟩
  | .hbm, ⟨31, _⟩ => ⟨S_, .f32⟩
  | .hbm, ⟨32, _⟩ => ⟨S32, .f32⟩
  | .hbm, ⟨33, _⟩ => ⟨S32, .f32⟩
  | .hbm, ⟨34, _⟩ => ⟨S32, .f32⟩
  | .hbm, ⟨35, _⟩ => ⟨S_, .f32⟩
  | .hbm, ⟨36, _⟩ => ⟨S32, .f32⟩
  | .hbm, ⟨37, _⟩ => ⟨S32, .f32⟩
  | .hbm, ⟨38, _⟩ => ⟨S_, .f32⟩
  | .hbm, ⟨39, _⟩ => ⟨S32, .f32⟩
  | .hbm, ⟨40, _⟩ => ⟨S32, .f32⟩
  | .hbm, ⟨41, _⟩ => ⟨S8192x1, .f32⟩
  | .hbm, ⟨42, _⟩ => ⟨S1x32, .f32⟩
  | .hbm, ⟨43, _⟩ => ⟨S8192x32, .f32⟩
  | .hbm, ⟨44, _⟩ => ⟨S8192x32, .f32⟩
  | .hbm, ⟨45, _⟩ => ⟨S8192x32, .f32⟩
  | .hbm, ⟨46, _⟩ => ⟨S8192x32, .f32⟩
  | .hbm, ⟨47, _⟩ => ⟨S8192x1x32, .f32⟩
  | .hbm, ⟨48, _⟩ => ⟨S8192x32, .f32⟩
  | .hbm, ⟨49, _⟩ => ⟨S8192x1x32, .f32⟩
  | .hbm, ⟨50, _⟩ => ⟨S8192x16x32, .f32⟩
  | .hbm, ⟨51, _⟩ => ⟨S8192x16x32, .f32⟩
  | .hbm, ⟨52, _⟩ => ⟨S8192x16x32, .f32⟩
  | .hbm, ⟨53, _⟩ => ⟨S8192x16x32, .f32⟩
  | .hbm, ⟨54, _⟩ => ⟨S8192x16x32, .f32⟩
  | .hbm, ⟨55, _⟩ => ⟨S8192x16x32, .f32⟩
  | .hbm, ⟨56, _⟩ => ⟨S8192x16x32, .f32⟩
  | .hbm, ⟨57, _⟩ => ⟨S8192x16x32, .f32⟩
  | .hbm, ⟨58, _⟩ => ⟨S8192x16x32, .f32⟩
  | .hbm, ⟨59, _⟩ => ⟨S8192x16x32, .f32⟩
  | .hbm, ⟨60, _⟩ => ⟨S8192x16x32, .f32⟩
  | .hbm, ⟨61, _⟩ => ⟨S8192x16x32, .f32⟩
  | .hbm, ⟨62, _⟩ => ⟨S8192x16x64, .f32⟩
  | .hbm, ⟨63, _⟩ => ⟨S8192x1024, .f32⟩
  | .hbm, ⟨64, _⟩ => ⟨S8192x2x32, .f32⟩
  | .hbm, ⟨65, _⟩ => ⟨S8192x2x32, .f32⟩
  | .hbm, ⟨66, _⟩ => ⟨S8192x2x32, .f32⟩
  | .hbm, ⟨67, _⟩ => ⟨S8192x2x32, .f32⟩
  | .hbm, ⟨68, _⟩ => ⟨S8192x2x32, .f32⟩
  | .hbm, ⟨69, _⟩ => ⟨S8192x2x32, .f32⟩
  | .hbm, ⟨70, _⟩ => ⟨S8192x2x32, .f32⟩
  | .hbm, ⟨71, _⟩ => ⟨S8192x2x32, .f32⟩
  | .hbm, ⟨72, _⟩ => ⟨S8192x2x32, .f32⟩
  | .hbm, ⟨73, _⟩ => ⟨S8192x2x32, .f32⟩
  | .hbm, ⟨74, _⟩ => ⟨S8192x2x32, .f32⟩
  | .hbm, ⟨75, _⟩ => ⟨S8192x2x32, .f32⟩
  | .hbm, ⟨76, _⟩ => ⟨S8192x2x64, .f32⟩
  | .hbm, ⟨77, _⟩ => ⟨S8192x128, .f32⟩
  | .hbm, ⟨78, _⟩ => ⟨S8192x1024, .bf16⟩
  | .hbm, ⟨79, _⟩ => ⟨S8192x128, .bf16⟩
  | .hbm, ⟨80, _⟩ => ⟨S8192x128, .bf16⟩
  | .hbm, ⟨81, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_4 : Ref sig .tc := ⟨.hbm, 35, rfl⟩
abbrev main_v27 : Ref sig .tc := ⟨.hbm, 36, rfl⟩
abbrev main_v28 : Ref sig .tc := ⟨.hbm, 37, rfl⟩
abbrev main_cst_5 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩

abbrev nD : Nat := 1
abbrev τ : Topo := Topo.v7x

variable {F : FTy → Type} [FloatOps F]
-- ==== Kernel9.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩

abbrev nBuf : Space → Nat
  | .hbm => 11
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S8192x1024, .bf16⟩
  | .hbm, ⟨7, _⟩ => ⟨S1024x1024, .bf16⟩
  | .hbm, ⟨8, _⟩ => ⟨S1024x1024, .bf16⟩
  | .hbm, ⟨9, _⟩ => ⟨S1x1024, .f32⟩
  | .hbm, ⟨10, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S1x1024, .f32⟩
  | .local _ .vmem, ⟨8, _⟩ => ⟨S1024x1024, .bf16⟩
  | .local _ .vmem, ⟨9, _⟩ => ⟨S512x1024, .f32⟩
  | .local _ .vmem, ⟨10, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference9Ideal.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩
abbrev S1x1024 : Shape := ⟨2, ![1, 1024]⟩

abbrev nBuf : Space → Nat
  | .hbm => 48
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩

abbrev nD : Nat := 1
abbrev τ : Topo := Topo.v7x

variable {F : FTy → Type} [FloatOps F]
-- ==== Kernel10.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 7
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x1024, .f32⟩
  | .hbm, ⟨4, _⟩ => ⟨S8192x1024, .bf16⟩
  | .hbm, ⟨5, _⟩ => ⟨S1024x1024, .bf16⟩
  | .hbm, ⟨6, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S512x1024, .f32⟩
  | .local _ .vmem, ⟨8, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference10Ideal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩

abbrev nD : Nat := 1
abbrev τ : Topo := Topo.v7x

variable {F : FTy → Type} [FloatOps F]
-- ==== Kernel11.lean ====
abbrev S8192x1024 : Shape := ⟨2, ![8192, 1024]⟩
abbrev S8192x128 : Shape := ⟨2, ![8192, 128]⟩
abbrev S16 : Shape := ⟨1, ![16]⟩
abbrev S16x128 : Shape := ⟨2, ![16, 128]⟩
abbrev S2048 : Shape := ⟨1, ![2048]⟩
abbrev S2x1x1024 : Shape := ⟨3, ![2, 1, 1024]⟩
abbrev S128x1024 : Shape := ⟨2, ![128, 1024]⟩
abbrev S128x128 : Shape := ⟨2, ![128, 128]⟩
abbrev S256x128 : Shape := ⟨2, ![256, 128]⟩
abbrev S256x1024 : Shape := ⟨2, ![256, 1024]⟩
abbrev S1024x128 : Shape := ⟨2, ![1024, 128]⟩
abbrev S128x64 : Shape := ⟨2, ![128, 64]⟩
abbrev S256x64 : Shape := ⟨2, ![256, 64]⟩
abbrev S64x128 : Shape := ⟨2, ![64, 128]⟩
abbrev S64x1024 : Shape := ⟨2, ![64, 1024]⟩
abbrev S1x1x1024 : Shape := ⟨3, ![1, 1, 1024]⟩
abbrev S1x1024 : Shape := ⟨2, ![1, 1024]⟩
abbrev S1024 : Shape := ⟨1, ![1024]⟩
abbrev S64x256 : Shape := ⟨2, ![64, 256]⟩
abbrev S512x128 : Shape := ⟨2, ![512, 128]⟩
abbrev S128x512 : Shape := ⟨2, ![128, 512]⟩

abbrev nBuf : Space → Nat
  | .hbm => 11
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x128, .f32⟩
  | .hbm, ⟨2, _⟩ => ⟨S8192x128, .f32⟩
  | .hbm, ⟨3, _⟩ => ⟨S16, .f32⟩
  | .hbm, ⟨4, _⟩ => ⟨S8192x1024, .bf16⟩
  | .hbm, ⟨5, _⟩ => ⟨S8192x128, .bf16⟩
  | .hbm, ⟨6, _⟩ => ⟨S8192x128, .bf16⟩
  | .hbm, ⟨7, _⟩ => ⟨S16x128, .f32⟩
  | .hbm, ⟨8, _⟩ => ⟨S2048, .f32⟩
  | .hbm, ⟨9, _⟩ => ⟨S2x1x1024, .f32⟩
  | .hbm, ⟨10, _⟩ => ⟨S8192x1024, .f32⟩
  | .local _ .vmem, ⟨0, _⟩ => ⟨S2x1x1024, .f32⟩
  | .local _ .vmem, ⟨1, _⟩ => ⟨S128x1024, .bf16⟩
  | .local _ .vmem, ⟨2, _⟩ => ⟨S128x1024, .bf16⟩
  | .local _ .vmem, ⟨3, _⟩ => ⟨S128x128, .bf16⟩
  | .local _ .vmem, ⟨4, _⟩ => ⟨S128x128, .bf16⟩
  | .local _ .vmem, ⟨5, _⟩ => ⟨S128x128, .bf16⟩
  | .local _ .vmem, ⟨6, _⟩ => ⟨S128x128, .bf16⟩
  | .local _ .vmem, ⟨7, _⟩ => ⟨S128x128, .bf16⟩
  | .local _ .vmem, ⟨8, _⟩ => ⟨S128x128, .bf16⟩
  | .local _ .vmem, ⟨9, _⟩ => ⟨S128x128, .bf16⟩
  | .local _ .vmem, ⟨10, _⟩ => ⟨S128x128, .bf16⟩
  | .local _ .vmem, ⟨11, _⟩ => ⟨S128x1024, .f32⟩
  | .local _ .vmem, ⟨12, _⟩ => ⟨S128x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel11Ideal.lean ====
variable {F : FTy → Type} [FloatOps F] [Named F]
def κ : String → Option EReal := fun
  | "mask" => some ⊥
  | _ => none
-- ==== Reference11Ideal.lean ====
abbrev S8192x1024 : Shape := ⟨2, ![8192, 1024]⟩
abbrev S8192x128 : Shape := ⟨2, ![8192, 128]⟩
abbrev S16 : Shape := ⟨1, ![16]⟩
abbrev S64x128x2x8x64 : Shape := ⟨5, ![64, 128, 2, 8, 64]⟩
abbrev S64x128x2x64 : Shape := ⟨4, ![64, 128, 2, 64]⟩
abbrev S1x128x2x64 : Shape := ⟨4, ![1, 128, 2, 64]⟩
abbrev S_ : Shape := ⟨0, ![]⟩
abbrev S63x128x2x64 : Shape := ⟨4, ![63, 128, 2, 64]⟩
abbrev S64x256x2x64 : Shape := ⟨4, ![64, 256, 2, 64]⟩
abbrev S64x2x256x128x8 : Shape := ⟨5, ![64, 2, 256, 128, 8]⟩
abbrev S64x2x8x128x256 : Shape := ⟨5, ![64, 2, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1x1 : Shape := ⟨3, ![64, 1, 1]⟩
abbrev S1x128x256 : Shape := ⟨3, ![1, 128, 256]⟩
abbrev S1x1x256 : Shape := ⟨3, ![1, 1, 256]⟩
abbrev S64x1x256 : Shape := ⟨3, ![64, 1, 256]⟩
abbrev S64x128x256 : Shape := ⟨3, ![64, 128, 256]⟩
abbrev S64x1x1x128x256 : Shape := ⟨5, ![64, 1, 1, 128, 256]⟩
abbrev S1x2x8x1x1 : Shape := ⟨5, ![1, 2, 8, 1, 1]⟩
abbrev S64x2x8x128 : Shape := ⟨4, ![64, 2, 8, 128]⟩
abbrev S64x2x8x128x1 : Shape := ⟨5, ![64, 2, 8, 128, 1]⟩
abbrev S64x2x64x8x128 : Shape := ⟨5, ![64, 2, 64, 8, 128]⟩

abbrev nBuf : Space → Nat
  | .hbm => 84
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x128, .f32⟩
  | .hbm, ⟨2, _⟩ => ⟨S8192x128, .f32⟩
  | .hbm, ⟨3, _⟩ => ⟨S16, .f32⟩
  | .hbm, ⟨4, _⟩ => ⟨S64x128x2x8x64, .f32⟩
  | .hbm, ⟨5, _⟩ => ⟨S64x128x2x64, .f32⟩
  | .hbm, ⟨6, _⟩ => ⟨S64x128x2x64, .f32⟩
  | .hbm, ⟨7, _⟩ => ⟨S1x128x2x64, .f32⟩
  | .hbm, ⟨8, _⟩ => ⟨S_, .f32⟩
  | .hbm, ⟨9, _⟩ => ⟨S1x128x2x64, .f32⟩
  | .hbm, ⟨10, _⟩ => ⟨S63x128x2x64, .f32⟩
  | .hbm, ⟨11, _⟩ => ⟨S64x128x2x64, .f32⟩
  | .hbm, ⟨12, _⟩ => ⟨S64x256x2x64, .f32⟩
  | .hbm, ⟨13, _⟩ => ⟨S1x128x2x64, .f32⟩
  | .hbm, ⟨14, _⟩ => ⟨S_, .f32⟩
  | .hbm, ⟨15, _⟩ => ⟨S1x128x2x64, .f32⟩
  | .hbm, ⟨16, _⟩ => ⟨S63x128x2x64, .f32⟩
  | .hbm, ⟨17, _⟩ => ⟨S64x128x2x64, .f32⟩
  | .hbm, ⟨18, _⟩ => ⟨S64x256x2x64, .f32⟩
  | .hbm, ⟨19, _⟩ => ⟨S64x2x256x128x8, .f32⟩
  | .hbm, ⟨20, _⟩ => ⟨S64x2x8x128x256, .f32⟩
  | .hbm, ⟨21, _⟩ => ⟨S_, .f32⟩
  | .hbm, ⟨22, _⟩ => ⟨S64x2x8x128x256, .f32⟩
  | .hbm, ⟨23, _⟩ => ⟨S64x2x8x128x256, .f32⟩
  | .hbm, ⟨24, _⟩ => ⟨S128, .i32⟩
  | .hbm, ⟨25, _⟩ => ⟨S128x1, .i32⟩
  | .hbm, ⟨26, _⟩ => ⟨S256, .i32⟩
  | .hbm, ⟨27, _⟩ => ⟨S1x256, .i32⟩
  | .hbm, ⟨28, _⟩ => ⟨S_, .i32⟩
  | .hbm, ⟨29, _⟩ => ⟨S128x1, .i32⟩
  | .hbm, ⟨30, _⟩ => ⟨S128x1, .i32⟩
  | .hbm, ⟨31, _⟩ => ⟨S128x256, .i32⟩
  | .hbm, ⟨32, _⟩ => ⟨S128x256, .i32⟩
  | .hbm, ⟨33, _⟩ => ⟨S128x256, .i32⟩
  | .hbm, ⟨34, _⟩ => ⟨S_, .i32⟩
  | .hbm, ⟨35, _⟩ => ⟨S128x256, .i32⟩
  | .hbm, ⟨36, _⟩ => ⟨S128x256, .i1⟩
  | .hbm, ⟨37, _⟩ => ⟨S_, .i32⟩
  | .hbm, ⟨38, _⟩ => ⟨S128x256, .i32⟩
  | .hbm, ⟨39, _⟩ => ⟨S128x256, .i1⟩
  | .hbm, ⟨40, _⟩ => ⟨S128x256, .i1⟩
  | .hbm, ⟨41, _⟩ => ⟨S64, .i32⟩
  | .hbm, ⟨42, _⟩ => ⟨S64x1x1, .i32⟩
  | .hbm, ⟨43, _⟩ => ⟨S1x128x256, .i1⟩
  | .hbm, ⟨44, _⟩ => ⟨S_, .i32⟩
  | .hbm, ⟨45, _⟩ => ⟨S64x1x1, .i32⟩
  | .hbm, ⟨46, _⟩ => ⟨S64x1x1, .i1⟩
  | .hbm, ⟨47, _⟩ => ⟨S1x1x256, .i32⟩
  | .hbm, ⟨48, _⟩ => ⟨S_, .i32⟩
  | .hbm, ⟨49, _⟩ => ⟨S1x1x256, .i32⟩
  | .hbm, ⟨50, _⟩ => ⟨S1x1x256, .i1⟩
  | .hbm, ⟨51, _⟩ => ⟨S64x1x256, .i1⟩
  | .hbm, ⟨52, _⟩ => ⟨S64x1x256, .i1⟩
  | .hbm, ⟨53, _⟩ => ⟨S64x1x256, .i1⟩
  | .hbm, ⟨54, _⟩ => ⟨S64x128x256, .i1⟩
  | .hbm, ⟨55, _⟩ => ⟨S64x128x256, .i1⟩
  | .hbm, ⟨56, _⟩ => ⟨S64x128x256, .i1⟩
  | .hbm, ⟨57, _⟩ => ⟨S64x1x1x128x256, .i1⟩
  | .hbm, ⟨58, _⟩ => ⟨S_, .f32⟩
  | .hbm, ⟨59, _⟩ => ⟨S_, .f32⟩
  | .hbm, ⟨60, _⟩ => ⟨S64x2x8x128x256, .i1⟩
  | .hbm, ⟨61, _⟩ => ⟨S64x2x8x128x256, .f32⟩
  | .hbm, ⟨62, _⟩ => ⟨S64x2x8x128x256, .f32⟩
  | .hbm, ⟨63, _⟩ => ⟨S1x2x8x1x1, .f32⟩
  | .hbm, ⟨64, _⟩ => ⟨S_, .f32⟩
  | .hbm, ⟨65, _⟩ => ⟨S64x2x8x128, .f32⟩
  | .hbm, ⟨66, _⟩ => ⟨S64x2x8x128x1, .f32⟩
  | .hbm, ⟨67, _⟩ => ⟨S64x2x8x128x1, .f32⟩
  | .hbm, ⟨68, _⟩ => ⟨S64x2x8x128x1, .f32⟩
  | .hbm, ⟨69, _⟩ => ⟨S64x2x8x128x256, .f32⟩
  | .hbm, ⟨70, _⟩ => ⟨S64x2x8x128x256, .f32⟩
  | .hbm, ⟨71, _⟩ => ⟨S64x2x8x128x256, .f32⟩
  | .hbm, ⟨72, _⟩ => ⟨S_, .f32⟩
  | .hbm, ⟨73, _⟩ => ⟨S64x2x8x128, .f32⟩
  | .hbm, ⟨74, _⟩ => ⟨S64x2x8x128x1, .f32⟩
  | .hbm, ⟨75, _⟩ => ⟨S64x2x8x128x1, .f32⟩
  | .hbm, ⟨76, _⟩ => ⟨S64x2x8x128x1, .f32⟩
  | .hbm, ⟨77, _⟩ => ⟨S64x2x8x128x1, .f32⟩
  | .hbm, ⟨78, _⟩ => ⟨S64x2x8x128x1, .f32⟩
  | .hbm, ⟨79, _⟩ => ⟨S64x2x8x128x256, .f32⟩
  | .hbm, ⟨80, _⟩ => ⟨S64x2x8x128x256, .f32⟩
  | .hbm, ⟨81, _⟩ => ⟨S64x2x64x8x128, .f32⟩
  | .hbm, ⟨82, _⟩ => ⟨S64x128x2x8x64, .f32⟩
  | .hbm, ⟨83, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_c_2 : Ref sig .tc := ⟨.hbm, 34, rfl⟩
abbrev main_v26 : Ref sig .tc := ⟨.hbm, 35, rfl⟩
abbrev main_v27 : Ref sig .tc := ⟨.hbm, 36, rfl⟩
abbrev main_c_3 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_c_4 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_c_5 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_6 : Ref sig .tc := ⟨.hbm, 58, rfl⟩
abbrev main_call0_v0 : Ref sig .tc := ⟨.hbm, 59, rfl⟩
abbrev main_call0_v1 : Ref sig .tc := ⟨.hbm, 60, rfl⟩
abbrev main_call0_v2 : Ref sig .tc := ⟨.hbm, 61, rfl⟩
abbrev main_v46 : Ref sig .tc := ⟨.hbm, 62, rfl⟩
abbrev main_v47 : Ref sig .tc := ⟨.hbm, 63, rfl⟩
abbrev main_cst_7 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_8 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩

abbrev nD : Nat := 1
abbrev τ : Topo := Topo.v7x

variable {F : FTy → Type} [FloatOps F]
-- ==== Kernel12.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 12
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x1024, .f32⟩
  | .hbm, ⟨4, _⟩ => ⟨S1024, .f32⟩
  | .hbm, ⟨5, _⟩ => ⟨S8192x1024, .f32⟩
  | .hbm, ⟨6, _⟩ => ⟨S8192x1024, .bf16⟩
  | .hbm, ⟨7, _⟩ => ⟨S1024x1024, .bf16⟩
  | .hbm, ⟨8, _⟩ => ⟨S1x1024, .f32⟩
  | .hbm, ⟨9, _⟩ => ⟨S8x128, .f32⟩
  | .hbm, ⟨10, _⟩ => ⟨S8192x1024, .f32⟩
  | .hbm, ⟨11, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S8x128, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v64 : BitVec 1 := Scalar.cmpi .eq arg0 c0_i32
  let v65 : BitVec 32 := Scalar.extui v64
  let c0_i32_29 : BitVec 32 := 0#32
  let v66 : BitVec 1 := Scalar.cmpi .ne v65 c0_i32_29
  v66

def k0_cond2 (i : grid0.Coords) : BitVec 1 :=
  let arg0 : BitVec 32 := BitVec.ofNat 32 (i 0).val
  let c0_i32_30 : BitVec 32 := 0#32
  let v67 : BitVec 1 := Scalar.cmpi .sgt arg0 c0_i32_30
  let v68 : BitVec 32 := Scalar.extui v67
  let c0_i32_31 : BitVec 32 := 0#32
  let v69 : BitVec 1 := Scalar.cmpi .ne v68 c0_i32_31
  v69

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference12Ideal.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8x128 : Shape := ⟨2, ![8, 128]⟩

abbrev nBuf : Space → Nat
  | .hbm => 88
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x1024, .f32⟩
  | .hbm, ⟨4, _⟩ => ⟨S1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x1024, .f32⟩
  | .hbm, ⟨34, _⟩ => ⟨S8192x1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192, .f32⟩
  | .hbm, ⟨45, _⟩ => ⟨S_, .f32⟩
  | .hbm, ⟨46, _⟩ => ⟨S8192, .f32⟩
  | .hbm, ⟨47, _⟩ => ⟨S8192, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S8192, .f32⟩
  | .hbm, ⟨56, _⟩ => ⟨S_, .f32⟩
  | .hbm, ⟨57, _⟩ => ⟨S8192, .f32⟩
  | .hbm, ⟨58, _⟩ => ⟨S8192, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S_, .f32⟩
  | .hbm, ⟨63, _⟩ => ⟨S1024, .f32⟩
  | .hbm, ⟨64, _⟩ => ⟨S1x1024, .f32⟩
  | .hbm, ⟨65, _⟩ => ⟨S8192x1024, .f32⟩
  | .hbm, ⟨66, _⟩ => ⟨S8192x1024, .f32⟩
  | .hbm, ⟨67, _⟩ => ⟨S_, .f32⟩
  | .hbm, ⟨68, _⟩ => ⟨S1024, .f32⟩
  | .hbm, ⟨69, _⟩ => ⟨S8192x1024, .f32⟩
  | .hbm, ⟨70, _⟩ => ⟨S_, .f32⟩
  | .hbm, ⟨71, _⟩ => ⟨S8192, .f32⟩
  | .hbm, ⟨72, _⟩ => ⟨S8192x1, .f32⟩
  | .hbm, ⟨73, _⟩ => ⟨S8192x1024, .f32⟩
  | .hbm, ⟨74, _⟩ => ⟨S8192x1024, .f32⟩
  | .hbm, ⟨75, _⟩ => ⟨S8192x1, .f32⟩
  | .hbm, ⟨76, _⟩ => ⟨S_, .f32⟩
  | .hbm, ⟨77, _⟩ => ⟨S8192x1, .f32⟩
  | .hbm, ⟨78, _⟩ => ⟨S8192x1, .f32⟩
  | .hbm, ⟨79, _⟩ => ⟨S_, .f32⟩
  | .hbm, ⟨80, _⟩ => ⟨S8192, .f32⟩
  | .hbm, ⟨81, _⟩ => ⟨S8192x1024, .f32⟩
  | .hbm, ⟨82, _⟩ => ⟨S8192x1024, .f32⟩
  | .hbm, ⟨83, _⟩ => ⟨S8192x1024, .f32⟩
  | .hbm, ⟨84, _⟩ => ⟨S8192x1024, .f32⟩
  | .hbm, ⟨85, _⟩ => ⟨S8192x1024, .f32⟩
  | .hbm, ⟨86, _⟩ => ⟨S8x128, .f32⟩
  | .hbm, ⟨87, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_cst_1 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_cst_5 : Ref sig .tc := ⟨.hbm, 45, rfl⟩
abbrev main_v25 : Ref sig .tc := ⟨.hbm, 46, rfl⟩
abbrev main_v26 : Ref sig .tc := ⟨.hbm, 47, rfl⟩
abbrev main_cst_6 : Ref sig .tc := ⟨.hbm, 48, rfl⟩
abbrev main_v27 : Ref sig .tc := ⟨.hbm, 49, rfl⟩
abbrev main_cst_7 : Ref sig .tc := ⟨.hbm, 50, rfl⟩
abbrev main_v28 : Ref sig .tc := ⟨.hbm, 51, rfl⟩
abbrev main_cst_8 : Ref sig .tc := ⟨.hbm, 52, rfl⟩
abbrev main_cst_9 : Ref sig .tc := ⟨.hbm, 53, rfl⟩
abbrev main_v29 : Ref sig .tc := ⟨.hbm, 54, rfl⟩
abbrev main_v30 : Ref sig .tc := ⟨.hbm, 55, rfl⟩
abbrev main_cst_10 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_cst_11 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_12 : Ref sig .tc := ⟨.hbm, 67, rfl⟩
abbrev main_v40 : Ref sig .tc := ⟨.hbm, 68, rfl⟩
abbrev main_v41 : Ref sig .tc := ⟨.hbm, 69, rfl⟩
abbrev main_cst_13 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_14 : Ref sig .tc := ⟨.hbm, 76, rfl⟩
abbrev main_v47 : Ref sig .tc := ⟨.hbm, 77, rfl⟩
abbrev main_v48 : Ref sig .tc := ⟨.hbm, 78, rfl⟩
abbrev main_cst_15 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩

abbrev nD : Nat := 1
abbrev τ : Topo := Topo.v7x

variable {F : FTy → Type} [FloatOps F]
-- ==== Kernel13.lean ====
abbrev S8192x1024 : Shape := ⟨2, ![8192, 1024]⟩
abbrev S64x128x256 : Shape := ⟨3, ![64, 128, 256]⟩
abbrev S512x4096 : Shape := ⟨2, ![512, 4096]⟩
abbrev S8192x128 : Shape := ⟨2, ![8192, 128]⟩
abbrev S8x128x256 : Shape := ⟨3, ![8, 128, 256]⟩
abbrev S512x512 : Shape := ⟨2, ![512, 512]⟩
abbrev S512x16x128 : Shape := ⟨3, ![512, 16, 128]⟩
abbrev S16x512x128 : Shape := ⟨3, ![16, 512, 128]⟩
abbrev S1x512x128 : Shape := ⟨3, ![1, 512, 128]⟩
abbrev S512x128 : Shape := ⟨2, ![512, 128]⟩
abbrev S128x512 : Shape := ⟨2, ![128, 512]⟩
abbrev S1x128x256 : Shape := ⟨3, ![1, 128, 256]⟩
abbrev S128x256 : Shape := ⟨2, ![128, 256]⟩
abbrev S16x512 : Shape := ⟨2, ![16, 512]⟩
abbrev S256x512 : Shape := ⟨2, ![256, 512]⟩
abbrev S64x512 : Shape := ⟨2, ![64, 512]⟩

abbrev nBuf : Space → Nat
  | .hbm => 5
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S64x128x256, .f32⟩
  | .hbm, ⟨2, _⟩ => ⟨S64x128x256, .bf16⟩
  | .hbm, ⟨3, _⟩ => ⟨S512x4096, .f32⟩
  | .hbm, ⟨4, _⟩ => ⟨S512x4096, .f32⟩
  | .local _ .vmem, ⟨0, _⟩ => ⟨S8192x128, .f32⟩
  | .local _ .vmem, ⟨1, _⟩ => ⟨S8192x128, .f32⟩
  | .local _ .vmem, ⟨2, _⟩ => ⟨S8x128x256, .bf16⟩
  | .local _ .vmem, ⟨3, _⟩ => ⟨S8x128x256, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference13Ideal.lean ====
abbrev S8192x1024 : Shape := ⟨2, ![8192, 1024]⟩
abbrev S64x128x256 : Shape := ⟨3, ![64, 128, 256]⟩
abbrev S512x16x64x16 : Shape := ⟨4, ![512, 16, 64, 16]⟩
abbrev S512x64x16x16 : Shape := ⟨4, ![512, 64, 16, 16]⟩
abbrev S512x64x256 : Shape := ⟨3, ![512, 64, 256]⟩
abbrev S64x512x128 : Shape := ⟨3, ![64, 512, 128]⟩
abbrev S512x64x128 : Shape := ⟨3, ![512, 64, 128]⟩
abbrev S512x64x64 : Shape := ⟨3, ![512, 64, 64]⟩
abbrev S512x4096 : Shape := ⟨2, ![512, 4096]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S64x128x256, .f32⟩
  | .hbm, ⟨2, _⟩ => ⟨S512x16x64x16, .f32⟩
  | .hbm, ⟨3, _⟩ => ⟨S512x64x16x16, .f32⟩
  | .hbm, ⟨4, _⟩ => ⟨S512x64x256, .f32⟩
  | .hbm, ⟨5, _⟩ => ⟨S64x512x128, .f32⟩
  | .hbm, ⟨6, _⟩ => ⟨S512x64x128, .f32⟩
  | .hbm, ⟨7, _⟩ => ⟨S512x64x64, .f32⟩
  | .hbm, ⟨8, _⟩ => ⟨S512x4096, .f32⟩
  | .hbm, ⟨9, _⟩ => ⟨S512x64x64, .f32⟩
  | .hbm, ⟨10, _⟩ => ⟨S512x4096, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [FloatOps F]
-- ==== Kernel14.lean ====
abbrev S8192x1024 : Shape := ⟨2, ![8192, 1024]⟩
abbrev S512x4096 : Shape := ⟨2, ![512, 4096]⟩
abbrev S64x256x256 : Shape := ⟨3, ![64, 256, 256]⟩
abbrev S64x256x128 : Shape := ⟨3, ![64, 256, 128]⟩
abbrev S1024 : Shape := ⟨1, ![1024]⟩
abbrev S1x1024 : Shape := ⟨2, ![1, 1024]⟩
abbrev S8192x128 : Shape := ⟨2, ![8192, 128]⟩
abbrev S512x512 : Shape := ⟨2, ![512, 512]⟩
abbrev S8x256x256 : Shape := ⟨3, ![8, 256, 256]⟩
abbrev S8x256x128 : Shape := ⟨3, ![8, 256, 128]⟩
abbrev S1x128 : Shape := ⟨2, ![1, 128]⟩
abbrev S512x16x128 : Shape := ⟨3, ![512, 16, 128]⟩
abbrev S16x512x128 : Shape := ⟨3, ![16, 512, 128]⟩
abbrev S1x512x128 : Shape := ⟨3, ![1, 512, 128]⟩
abbrev S512x128 : Shape := ⟨2, ![512, 128]⟩
abbrev S128x512 : Shape := ⟨2, ![128, 512]⟩
abbrev S1x256x256 : Shape := ⟨3, ![1, 256, 256]⟩
abbrev S256x256 : Shape := ⟨2, ![256, 256]⟩
abbrev S16x512 : Shape := ⟨2, ![16, 512]⟩
abbrev S256x512 : Shape := ⟨2, ![256, 512]⟩
abbrev S1x256x128 : Shape := ⟨3, ![1, 256, 128]⟩
abbrev S256x128 : Shape := ⟨2, ![256, 128]⟩
abbrev S64x512 : Shape := ⟨2, ![64, 512]⟩

abbrev nBuf : Space → Nat
  | .hbm => 10
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S512x4096, .f32⟩
  | .hbm, ⟨2, _⟩ => ⟨S512x4096, .f32⟩
  | .hbm, ⟨3, _⟩ => ⟨S64x256x256, .f32⟩
  | .hbm, ⟨4, _⟩ => ⟨S64x256x128, .f32⟩
  | .hbm, ⟨5, _⟩ => ⟨S1024, .f32⟩
  | .hbm, ⟨6, _⟩ => ⟨S64x256x256, .bf16⟩
  | .hbm, ⟨7, _⟩ => ⟨S64x256x128, .bf16⟩
  | .hbm, ⟨8, _⟩ => ⟨S1x1024, .f32⟩
  | .hbm, ⟨9, _⟩ => ⟨S8192x1024, .f32⟩
  | .local _ .vmem, ⟨0, _⟩ => ⟨S8192x128, .f32⟩
  | .local _ .vmem, ⟨1, _⟩ => ⟨S8192x128, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S8x256x256, .bf16⟩
  | .local _ .vmem, ⟨7, _⟩ => ⟨S8x256x256, .bf16⟩
  | .local _ .vmem, ⟨8, _⟩ => ⟨S8x256x128, .bf16⟩
  | .local _ .vmem, ⟨9, _⟩ => ⟨S8x256x128, .bf16⟩
  | .local _ .vmem, ⟨10, _⟩ => ⟨S1x128, .f32⟩
  | .local _ .vmem, ⟨11, _⟩ => ⟨S1x128, .f32⟩
  | .local _ .vmem, ⟨12, _⟩ => ⟨S8192x128, .f32⟩
  | .local _ .vmem, ⟨13, _⟩ => ⟨S8192x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8192x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference14Ideal.lean ====
abbrev S8192x1024 : Shape := ⟨2, ![8192, 1024]⟩
abbrev S512x4096 : Shape := ⟨2, ![512, 4096]⟩
abbrev S64x256x256 : Shape := ⟨3, ![64, 256, 256]⟩
abbrev S64x256x128 : Shape := ⟨3, ![64, 256, 128]⟩
abbrev S1024 : Shape := ⟨1, ![1024]⟩
abbrev S512x64x64 : Shape := ⟨3, ![512, 64, 64]⟩
abbrev S512x64x128 : Shape := ⟨3, ![512, 64, 128]⟩
abbrev S512x16x64x16 : Shape := ⟨4, ![512, 16, 64, 16]⟩
abbrev S512x64x16x16 : Shape := ⟨4, ![512, 64, 16, 16]⟩
abbrev S512x64x256 : Shape := ⟨3, ![512, 64, 256]⟩
abbrev S64x512x256 : Shape := ⟨3, ![64, 512, 256]⟩
abbrev S1x1024 : Shape := ⟨2, ![1, 1024]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S512x4096, .f32⟩
  | .hbm, ⟨2, _⟩ => ⟨S512x4096, .f32⟩
  | .hbm, ⟨3, _⟩ => ⟨S64x256x256, .f32⟩
  | .hbm, ⟨4, _⟩ => ⟨S64x256x128, .f32⟩
  | .hbm, ⟨5, _⟩ => ⟨S1024, .f32⟩
  | .hbm, ⟨6, _⟩ => ⟨S512x64x64, .f32⟩
  | .hbm, ⟨7, _⟩ => ⟨S512x64x64, .f32⟩
  | .hbm, ⟨8, _⟩ => ⟨S512x64x128, .f32⟩
  | .hbm, ⟨9, _⟩ => ⟨S512x16x64x16, .f32⟩
  | .hbm, ⟨10, _⟩ => ⟨S512x64x16x16, .f32⟩
  | .hbm, ⟨11, _⟩ => ⟨S512x64x256, .f32⟩
  | .hbm, ⟨12, _⟩ => ⟨S64x512x256, .f32⟩
  | .hbm, ⟨13, _⟩ => ⟨S512x64x256, .f32⟩
  | .hbm, ⟨14, _⟩ => ⟨S64x512x256, .f32⟩
  | .hbm, ⟨15, _⟩ => ⟨S512x64x256, .f32⟩
  | .hbm, ⟨16, _⟩ => ⟨S512x64x256, .f32⟩
  | .hbm, ⟨17, _⟩ => ⟨S512x64x16x16, .f32⟩
  | .hbm, ⟨18, _⟩ => ⟨S512x16x64x16, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Kernel15.lean ====
abbrev S8192x1024 : Shape := ⟨2, ![8192, 1024]⟩
abbrev S512x4096 : Shape := ⟨2, ![512, 4096]⟩
abbrev S64x256x256 : Shape := ⟨3, ![64, 256, 256]⟩
abbrev S64x256x128 : Shape := ⟨3, ![64, 256, 128]⟩
abbrev S1024 : Shape := ⟨1, ![1024]⟩
abbrev S1x1024 : Shape := ⟨2, ![1, 1024]⟩
abbrev S64x256x16 : Shape := ⟨3, ![64, 256, 16]⟩
abbrev S64x128x256 : Shape := ⟨3, ![64, 128, 256]⟩
abbrev S8192x128 : Shape := ⟨2, ![8192, 128]⟩
abbrev S512x512 : Shape := ⟨2, ![512, 512]⟩
abbrev S8x256x256 : Shape := ⟨3, ![8, 256, 256]⟩
abbrev S8x256x128 : Shape := ⟨3, ![8, 256, 128]⟩
abbrev S1x128 : Shape := ⟨2, ![1, 128]⟩
abbrev S8x256x16 : Shape := ⟨3, ![8, 256, 16]⟩
abbrev S8x128x256 : Shape := ⟨3, ![8, 128, 256]⟩
abbrev S256x256 : Shape := ⟨2, ![256, 256]⟩
abbrev S512x16x128 : Shape := ⟨3, ![512, 16, 128]⟩
abbrev S16x512x128 : Shape := ⟨3, ![16, 512, 128]⟩
abbrev S1x512x128 : Shape := ⟨3, ![1, 512, 128]⟩
abbrev S512x128 : Shape := ⟨2, ![512, 128]⟩
abbrev S128x512 : Shape := ⟨2, ![128, 512]⟩
abbrev S16x512 : Shape := ⟨2, ![16, 512]⟩
abbrev S256x512 : Shape := ⟨2, ![256, 512]⟩
abbrev S64x512 : Shape := ⟨2, ![64, 512]⟩
abbrev S1x256x256 : Shape := ⟨3, ![1, 256, 256]⟩
abbrev S1x256x128 : Shape := ⟨3, ![1, 256, 128]⟩
abbrev S256x128 : Shape := ⟨2, ![256, 128]⟩
abbrev S256x16 : Shape := ⟨2, ![256, 16]⟩
abbrev S240x16 : Shape := ⟨2, ![240, 16]⟩
abbrev S16x16 : Shape := ⟨2, ![16, 16]⟩
abbrev S224x16 : Shape := ⟨2, ![224, 16]⟩
abbrev S32x16 : Shape := ⟨2, ![32, 16]⟩
abbrev S208x16 : Shape := ⟨2, ![208, 16]⟩
abbrev S48x16 : Shape := ⟨2, ![48, 16]⟩
abbrev S192x16 : Shape := ⟨2, ![192, 16]⟩
abbrev S64x16 : Shape := ⟨2, ![64, 16]⟩
abbrev S176x16 : Shape := ⟨2, ![176, 16]⟩
abbrev S80x16 : Shape := ⟨2, ![80, 16]⟩
abbrev S160x16 : Shape := ⟨2, ![160, 16]⟩
abbrev S96x16 : Shape := ⟨2, ![96, 16]⟩
abbrev S144x16 : Shape := ⟨2, ![144, 16]⟩
abbrev S112x16 : Shape := ⟨2, ![112, 16]⟩
abbrev S128x16 : Shape := ⟨2, ![128, 16]⟩
abbrev S1x256x16 : Shape := ⟨3, ![1, 256, 16]⟩
abbrev S128x256 : Shape := ⟨2, ![128, 256]⟩
abbrev S1x128x256 : Shape := ⟨3, ![1, 128, 256]⟩
abbrev S128 : Shape := ⟨1, ![128]⟩

abbrev nBuf : Space → Nat
  | .hbm => 17
  | .vmem => 29
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S512x4096, .f32⟩
  | .hbm, ⟨3, _⟩ => ⟨S512x4096, .f32⟩
  | .hbm, ⟨4, _⟩ => ⟨S512x4096, .f32⟩
  | .hbm, ⟨5, _⟩ => ⟨S512x4096, .f32⟩
  | .hbm, ⟨6, _⟩ => ⟨S64x256x256, .f32⟩
  | .hbm, ⟨7, _⟩ => ⟨S64x256x128, .f32⟩
  | .hbm, ⟨8, _⟩ => ⟨S1024, .f32⟩
  | .hbm, ⟨9, _⟩ => ⟨S64x256x256, .bf16⟩
  | .hbm, ⟨10, _⟩ => ⟨S64x256x128, .bf16⟩
  | .hbm, ⟨11, _⟩ => ⟨S1x1024, .f32⟩
  | .hbm, ⟨12, _⟩ => ⟨S8192x1024, .f32⟩
  | .hbm, ⟨13, _⟩ => ⟨S64x256x16, .f32⟩
  | .hbm, ⟨14, _⟩ => ⟨S64x256x128, .f32⟩
  | .hbm, ⟨15, _⟩ => ⟨S64x128x256, .f32⟩
  | .hbm, ⟨16, _⟩ => ⟨S1x1024, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S8x256x256, .bf16⟩
  | .local _ .vmem, ⟨13, _⟩ => ⟨S8x256x256, .bf16⟩
  | .local _ .vmem, ⟨14, _⟩ => ⟨S8x256x128, .bf16⟩
  | .local _ .vmem, ⟨15, _⟩ => ⟨S8x256x128, .bf16⟩
  | .local _ .vmem, ⟨16, _⟩ => ⟨S1x128, .f32⟩
  | .local _ .vmem, ⟨17, _⟩ => ⟨S1x128, .f32⟩
  | .local _ .vmem, ⟨18, _⟩ => ⟨S8192x128, .f32⟩
  | .local _ .vmem, ⟨19, _⟩ => ⟨S8192x128, .f32⟩
  | .local _ .vmem, ⟨20, _⟩ => ⟨S8x256x16, .f32⟩
  | .local _ .vmem, ⟨21, _⟩ => ⟨S8x256x16, .f32⟩
  | .local _ .vmem, ⟨22, _⟩ => ⟨S8x256x128, .f32⟩
  | .local _ .vmem, ⟨23, _⟩ => ⟨S8x256x128, .f32⟩
  | .local _ .vmem, ⟨24, _⟩ => ⟨S8x128x256, .f32⟩
  | .local _ .vmem, ⟨25, _⟩ => ⟨S8x128x256, .f32⟩
  | .local _ .vmem, ⟨26, _⟩ => ⟨S1x128, .f32⟩
  | .local _ .vmem, ⟨27, _⟩ => ⟨S1x128, .f32⟩
  | .local _ .vmem, ⟨28, _⟩ => ⟨S256x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev main_v3_2 : Ref sig .tc := ⟨.hbm, 14, rfl⟩
abbrev main_v3_3 : Ref sig .tc := ⟨.hbm, 15, rfl⟩
abbrev main_v3_4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8192x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x256x16 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x128x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference15Ideal.lean ====
abbrev S8192x1024 : Shape := ⟨2, ![8192, 1024]⟩
abbrev S512x4096 : Shape := ⟨2, ![512, 4096]⟩
abbrev S64x256x256 : Shape := ⟨3, ![64, 256, 256]⟩
abbrev S64x256x128 : Shape := ⟨3, ![64, 256, 128]⟩
abbrev S1024 : Shape := ⟨1, ![1024]⟩
abbrev S512x16x64x16 : Shape := ⟨4, ![512, 16, 64, 16]⟩
abbrev S512x64x16x16 : Shape := ⟨4, ![512, 64, 16, 16]⟩
abbrev S512x64x256 : Shape := ⟨3, ![512, 64, 256]⟩
abbrev S512x64x64 : Shape := ⟨3, ![512, 64, 64]⟩
abbrev S512x64x128 : Shape := ⟨3, ![512, 64, 128]⟩
abbrev S64x512x256 : Shape := ⟨3, ![64, 512, 256]⟩
abbrev S64x256x16 : Shape := ⟨3, ![64, 256, 16]⟩
abbrev S64x240x16 : Shape := ⟨3, ![64, 240, 16]⟩
abbrev S_ : Shape := ⟨0, ![]⟩
abbrev S64x224x16 : Shape := ⟨3, ![64, 224, 16]⟩
abbrev S64x208x16 : Shape := ⟨3, ![64, 208, 16]⟩
abbrev S64x192x16 : Shape := ⟨3, ![64, 192, 16]⟩
abbrev S64x176x16 : Shape := ⟨3, ![64, 176, 16]⟩
abbrev S64x160x16 : Shape := ⟨3, ![64, 160, 16]⟩
abbrev S64x144x16 : Shape := ⟨3, ![64, 144, 16]⟩
abbrev S64x128x16 : Shape := ⟨3, ![64, 128, 16]⟩
abbrev S64x112x16 : Shape := ⟨3, ![64, 112, 16]⟩
abbrev S64x96x16 : Shape := ⟨3, ![64, 96, 16]⟩
abbrev S64x80x16 : Shape := ⟨3, ![64, 80, 16]⟩
abbrev S64x64x16 : Shape := ⟨3, ![64, 64, 16]⟩
abbrev S64x48x16 : Shape := ⟨3, ![64, 48, 16]⟩
abbrev S64x32x16 : Shape := ⟨3, ![64, 32, 16]⟩
abbrev S64x16x16 : Shape := ⟨3, ![64, 16, 16]⟩
abbrev S1x1024 : Shape := ⟨2, ![1, 1024]⟩
abbrev S64x128x256 : Shape := ⟨3, ![64, 128, 256]⟩

abbrev nBuf : Space → Nat
  | .hbm => 116
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S512x4096, .f32⟩
  | .hbm, ⟨3, _⟩ => ⟨S512x4096, .f32⟩
  | .hbm, ⟨4, _⟩ => ⟨S512x4096, .f32⟩
  | .hbm, ⟨5, _⟩ => ⟨S512x4096, .f32⟩
  | .hbm, ⟨6, _⟩ => ⟨S64x256x256, .f32⟩
  | .hbm, ⟨7, _⟩ => ⟨S64x256x128, .f32⟩
  | .hbm, ⟨8, _⟩ => ⟨S1024, .f32⟩
  | .hbm, ⟨9, _⟩ => ⟨S512x16x64x16, .f32⟩
  | .hbm, ⟨10, _⟩ => ⟨S512x64x16x16, .f32⟩
  | .hbm, ⟨11, _⟩ => ⟨S512x64x256, .f32⟩
  | .hbm, ⟨12, _⟩ => ⟨S512x16x64x16, .f32⟩
  | .hbm, ⟨13, _⟩ => ⟨S512x64x16x16, .f32⟩
  | .hbm, ⟨14, _⟩ => ⟨S512x64x256, .f32⟩
  | .hbm, ⟨15, _⟩ => ⟨S512x64x64, .f32⟩
  | .hbm, ⟨16, _⟩ => ⟨S512x64x64, .f32⟩
  | .hbm, ⟨17, _⟩ => ⟨S512x64x128, .f32⟩
  | .hbm, ⟨18, _⟩ => ⟨S512x64x64, .f32⟩
  | .hbm, ⟨19, _⟩ => ⟨S512x64x64, .f32⟩
  | .hbm, ⟨20, _⟩ => ⟨S512x64x128, .f32⟩
  | .hbm, ⟨21, _⟩ => ⟨S64x512x256, .f32⟩
  | .hbm, ⟨22, _⟩ => ⟨S512x64x256, .f32⟩
  | .hbm, ⟨23, _⟩ => ⟨S64x512x256, .f32⟩
  | .hbm, ⟨24, _⟩ => ⟨S512x64x256, .f32⟩
  | .hbm, ⟨25, _⟩ => ⟨S512x64x256, .f32⟩
  | .hbm, ⟨26, _⟩ => ⟨S64x256x256, .f32⟩
  | .hbm, ⟨27, _⟩ => ⟨S64x256x16, .f32⟩
  | .hbm, ⟨28, _⟩ => ⟨S64x240x16, .f32⟩
  | .hbm, ⟨29, _⟩ => ⟨S_, .i32⟩
  | .hbm, ⟨30, _⟩ => ⟨S_, .f32⟩
  | .hbm, ⟨31, _⟩ => ⟨S64x256x16, .f32⟩
  | .hbm, ⟨32, _⟩ => ⟨S64x256x16, .f32⟩
  | .hbm, ⟨33, _⟩ => ⟨S64x224x16, .f32⟩
  | .hbm, ⟨34, _⟩ => ⟨S_, .i32⟩
  | .hbm, ⟨35, _⟩ => ⟨S_, .f32⟩
  | .hbm, ⟨36, _⟩ => ⟨S64x256x16, .f32⟩
  | .hbm, ⟨37, _⟩ => ⟨S64x256x16, .f32⟩
  | .hbm, ⟨38, _⟩ => ⟨S64x208x16, .f32⟩
  | .hbm, ⟨39, _⟩ => ⟨S_, .i32⟩
  | .hbm, ⟨40, _⟩ => ⟨S_, .f32⟩
  | .hbm, ⟨41, _⟩ => ⟨S64x256x16, .f32⟩
  | .hbm, ⟨42, _⟩ => ⟨S64x256x16, .f32⟩
  | .hbm, ⟨43, _⟩ => ⟨S64x192x16, .f32⟩
  | .hbm, ⟨44, _⟩ => ⟨S_, .i32⟩
  | .hbm, ⟨45, _⟩ => ⟨S_, .f32⟩
  | .hbm, ⟨46, _⟩ => ⟨S64x256x16, .f32⟩
  | .hbm, ⟨47, _⟩ => ⟨S64x256x16, .f32⟩
  | .hbm, ⟨48, _⟩ => ⟨S64x176x16, .f32⟩
  | .hbm, ⟨49, _⟩ => ⟨S_, .i32⟩
  | .hbm, ⟨50, _⟩ => ⟨S_, .f32⟩
  | .hbm, ⟨51, _⟩ => ⟨S64x256x16, .f32⟩
  | .hbm, ⟨52, _⟩ => ⟨S64x256x16, .f32⟩
  | .hbm, ⟨53, _⟩ => ⟨S64x160x16, .f32⟩
  | .hbm, ⟨54, _⟩ => ⟨S_, .i32⟩
  | .hbm, ⟨55, _⟩ => ⟨S_, .f32⟩
  | .hbm, ⟨56, _⟩ => ⟨S64x256x16, .f32⟩
  | .hbm, ⟨57, _⟩ => ⟨S64x256x16, .f32⟩
  | .hbm, ⟨58, _⟩ => ⟨S64x144x16, .f32⟩
  | .hbm, ⟨59, _⟩ => ⟨S_, .i32⟩
  | .hbm, ⟨60, _⟩ => ⟨S_, .f32⟩
  | .hbm, ⟨61, _⟩ => ⟨S64x256x16, .f32⟩
  | .hbm, ⟨62, _⟩ => ⟨S64x256x16, .f32⟩
  | .hbm, ⟨63, _⟩ => ⟨S64x128x16, .f32⟩
  | .hbm, ⟨64, _⟩ => ⟨S_, .i32⟩
  | .hbm, ⟨65, _⟩ => ⟨S_, .f32⟩
  | .hbm, ⟨66, _⟩ => ⟨S64x256x16, .f32⟩
  | .hbm, ⟨67, _⟩ => ⟨S64x256x16, .f32⟩
  | .hbm, ⟨68, _⟩ => ⟨S64x112x16, .f32⟩
  | .hbm, ⟨69, _⟩ => ⟨S_, .i32⟩
  | .hbm, ⟨70, _⟩ => ⟨S_, .f32⟩
  | .hbm, ⟨71, _⟩ => ⟨S64x256x16, .f32⟩
  | .hbm, ⟨72, _⟩ => ⟨S64x256x16, .f32⟩
  | .hbm, ⟨73, _⟩ => ⟨S64x96x16, .f32⟩
  | .hbm, ⟨74, _⟩ => ⟨S_, .i32⟩
  | .hbm, ⟨75, _⟩ => ⟨S_, .f32⟩
  | .hbm, ⟨76, _⟩ => ⟨S64x256x16, .f32⟩
  | .hbm, ⟨77, _⟩ => ⟨S64x256x16, .f32⟩
  | .hbm, ⟨78, _⟩ => ⟨S64x80x16, .f32⟩
  | .hbm, ⟨79, _⟩ => ⟨S_, .i32⟩
  | .hbm, ⟨80, _⟩ => ⟨S_, .f32⟩
  | .hbm, ⟨81, _⟩ => ⟨S64x256x16, .f32⟩
  | .hbm, ⟨82, _⟩ => ⟨S64x256x16, .f32⟩
  | .hbm, ⟨83, _⟩ => ⟨S64x64x16, .f32⟩
  | .hbm, ⟨84, _⟩ => ⟨S_, .i32⟩
  | .hbm, ⟨85, _⟩ => ⟨S_, .f32⟩
  | .hbm, ⟨86, _⟩ => ⟨S64x256x16, .f32⟩
  | .hbm, ⟨87, _⟩ => ⟨S64x256x16, .f32⟩
  | .hbm, ⟨88, _⟩ => ⟨S64x48x16, .f32⟩
  | .hbm, ⟨89, _⟩ => ⟨S_, .i32⟩
  | .hbm, ⟨90, _⟩ => ⟨S_, .f32⟩
  | .hbm, ⟨91, _⟩ => ⟨S64x256x16, .f32⟩
  | .hbm, ⟨92, _⟩ => ⟨S64x256x16, .f32⟩
  | .hbm, ⟨93, _⟩ => ⟨S64x32x16, .f32⟩
  | .hbm, ⟨94, _⟩ => ⟨S_, .i32⟩
  | .hbm, ⟨95, _⟩ => ⟨S_, .f32⟩
  | .hbm, ⟨96, _⟩ => ⟨S64x256x16, .f32⟩
  | .hbm, ⟨97, _⟩ => ⟨S64x256x16, .f32⟩
  | .hbm, ⟨98, _⟩ => ⟨S64x16x16, .f32⟩
  | .hbm, ⟨99, _⟩ => ⟨S_, .i32⟩
  | .hbm, ⟨100, _⟩ => ⟨S_, .f32⟩
  | .hbm, ⟨101, _⟩ => ⟨S64x256x16, .f32⟩
  | .hbm, ⟨102, _⟩ => ⟨S64x256x16, .f32⟩
  | .hbm, ⟨103, _⟩ => ⟨S512x64x16x16, .f32⟩
  | .hbm, ⟨104, _⟩ => ⟨S512x16x64x16, .f32⟩
  | .hbm, ⟨105, _⟩ => ⟨S8192x1024, .f32⟩
  | .hbm, ⟨106, _⟩ => ⟨S1x1024, .f32⟩
  | .hbm, ⟨107, _⟩ => ⟨S8192x1024, .f32⟩
  | .hbm, ⟨108, _⟩ => ⟨S8192x1024, .f32⟩
  | .hbm, ⟨109, _⟩ => ⟨S8192x1024, .f32⟩
  | .hbm, ⟨110, _⟩ => ⟨S64x256x128, .f32⟩
  | .hbm, ⟨111, _⟩ => ⟨S64x128x256, .f32⟩
  | .hbm, ⟨112, _⟩ => ⟨S8192x1024, .f32⟩
  | .hbm, ⟨113, _⟩ => ⟨S_, .f32⟩
  | .hbm, ⟨114, _⟩ => ⟨S1024, .f32⟩
  | .hbm, ⟨115, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c : Ref sig .tc := ⟨.hbm, 29, rfl⟩
abbrev main_call0_v0 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_0 : Ref sig .tc := ⟨.hbm, 34, rfl⟩
abbrev main_call1_v0 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_1 : Ref sig .tc := ⟨.hbm, 39, rfl⟩
abbrev main_call2_v0 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_2 : Ref sig .tc := ⟨.hbm, 44, rfl⟩
abbrev main_call3_v0 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_3 : Ref sig .tc := ⟨.hbm, 49, rfl⟩
abbrev main_call4_v0 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c_4 : Ref sig .tc := ⟨.hbm, 54, rfl⟩
abbrev main_call5_v0 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_c_5 : Ref sig .tc := ⟨.hbm, 59, rfl⟩
abbrev main_call6_v0 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_c_6 : Ref sig .tc := ⟨.hbm, 64, rfl⟩
abbrev main_call7_v0 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_c_7 : Ref sig .tc := ⟨.hbm, 69, rfl⟩
abbrev main_call8_v0 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_c_8 : Ref sig .tc := ⟨.hbm, 74, rfl⟩
abbrev main_call9_v0 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_c_9 : Ref sig .tc := ⟨.hbm, 79, rfl⟩
abbrev main_call10_v0 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_c_10 : Ref sig .tc := ⟨.hbm, 84, rfl⟩
abbrev main_call11_v0 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_c_11 : Ref sig .tc := ⟨.hbm, 89, rfl⟩
abbrev main_call12_v0 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_c_12 : Ref sig .tc := ⟨.hbm, 94, rfl⟩
abbrev main_call13_v0 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_c_13 : Ref sig .tc := ⟨.hbm, 99, rfl⟩
abbrev main_call14_v0 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_cst : Ref sig .tc := ⟨.hbm, 113, rfl⟩
abbrev main_v74 : Ref sig .tc := ⟨.hbm, 114, rfl⟩
abbrev main_v75 : Ref sig .tc := ⟨.hbm, 115, rfl⟩

abbrev nD : Nat := 1
abbrev τ : Topo := Topo.v7x

variable {F : FTy → Type} [FloatOps F]
-- ==== Proof.ScanMath.lean ====
/-
  The complex diagonal recurrence h' = a·h + x on one lane and its gradient, as functions of the row count, on the
  extended reals. Rows are numbers below 512; `rowUp k` is the row the forward scan visits at step `k`, `rowDown k` the
  row the backward scan visits there.
-/
module

public import Mathlib.Data.EReal.Operations

@[expose] public section

namespace Cert.Scan

/-- The row of step `k` of the forward scan: `k` itself for the 512 steps that run. -/
def rowUp (k : ℕ) : Fin 512 := ⟨k % 512, Nat.mod_lt _ (by decide)⟩

/-- The row of step `k` of the backward scan: `511 - k`. -/
def rowDown (k : ℕ) : Fin 512 := ⟨511 - k, by omega⟩

theorem rowUp_val {k : ℕ} (hk : k < 512) : (rowUp k).val = k := Nat.mod_eq_of_lt hk

theorem rowDown_val (k : ℕ) : (rowDown k).val = 511 - k := rfl

/-- The state before row `k` of the forward recurrence: real and imaginary part. -/
noncomputable def ahead (ar ai : EReal) (xr xi : Fin 512 → EReal) : ℕ → EReal × EReal
  | 0 => (0, 0)
  | k + 1 =>
    let h := ahead ar ai xr xi k
    (ar * h.1 - ai * h.2 + xr (rowUp k), ar * h.2 + ai * h.1 + xi (rowUp k))

/-- The carried gradient before step `k` of the backward scan: the real and imaginary part of the state's gradient and
    the running sums of the decay's gradient. -/
noncomputable def back (ar ai : EReal) (dr di hr hi : Fin 512 → EReal) : ℕ → EReal × EReal × EReal × EReal
  | 0 => (0, 0, 0, 0)
  | k + 1 =>
    let g := back ar ai dr di hr hi k
    let b := rowDown k
    (dr b + (ar * g.1 + ai * g.2.1), di b + (ar * g.2.1 - ai * g.1),
      g.2.2.1 + (hr b * g.1 + hi b * g.2.1), g.2.2.2 + (hr b * g.2.1 - hi b * g.1))

theorem ahead_zero (ar ai : EReal) (xr xi : Fin 512 → EReal) : ahead ar ai xr xi 0 = (0, 0) := rfl

theorem ahead_succ (ar ai : EReal) (xr xi : Fin 512 → EReal) (k : ℕ) : ahead ar ai xr xi (k + 1)
    = (ar * (ahead ar ai xr xi k).1 - ai * (ahead ar ai xr xi k).2 + xr (rowUp k),
      ar * (ahead ar ai xr xi k).2 + ai * (ahead ar ai xr xi k).1 + xi (rowUp k)) := rfl

theorem back_zero (ar ai : EReal) (dr di hr hi : Fin 512 → EReal) : back ar ai dr di hr hi 0 = (0, 0, 0, 0) := rfl

theorem back_succ (ar ai : EReal) (dr di hr hi : Fin 512 → EReal) (k : ℕ) : back ar ai dr di hr hi (k + 1)
    = (dr (rowDown k) + (ar * (back ar ai dr di hr hi k).1 + ai * (back ar ai dr di hr hi k).2.1),
      di (rowDown k) + (ar * (back ar ai dr di hr hi k).2.1 - ai * (back ar ai dr di hr hi k).1),
      (back ar ai dr di hr hi k).2.2.1
        + (hr (rowDown k) * (back ar ai dr di hr hi k).1 + hi (rowDown k) * (back ar ai dr di hr hi k).2.1),
      (back ar ai dr di hr hi k).2.2.2
        + (hr (rowDown k) * (back ar ai dr di hr hi k).2.1 - hi (rowDown k) * (back ar ai dr di hr hi k).1)) := rfl

attribute [irreducible] ahead back

end Cert.Scan
-- ==== Proof.ScanBwdKernel.lean ====
/-
  The values of the backward scan's kernel: its loop on one block of lanes carries `Scan.back` lane by lane, the rows it
  stores are the carried gradient, and the four results are `Scan.back` of the arguments.
-/
module

public import proofs.«01_k».proof.Proof.Gen.KernelIdeal.Value
public import proofs.«01_k».proof.Proof.ScanMath
public import Idealize.ShloMosaic.Lib.Pipeline.ValueKit
public import Idealize.ShloMosaic.Lib.WholeRead
public import Idealize.ShloMosaic.Lib.ValueIdx

@[expose] public section

noncomputable section

namespace Cert.KernelIdeal.ScanValue

open Cert.KernelIdeal Cert.KernelIdeal.Gen Idealize.ShloMosaic Idealize.ShloMosaic.TcCoe Idealize.SL.Sem

theorem trips_eq : k0_t1_loop.trips = 512 := by decide +kernel

section Block

variable (𝒱 : Variants) (c : Dev nD) (bd : Option 𝒱.V) (i : grid0.Coords)
  (arg1 : Memref sig .tc .vmem S512x2048 .f32) (harg1 : arg1.IsWhole) (arg2 : Memref sig .tc .vmem S512x2048 .f32) (harg2 : arg2.IsWhole)
  (arg3 : Memref sig .tc .vmem S512x2048 .f32) (harg3 : arg3.IsWhole) (arg4 : Memref sig .tc .vmem S512x2048 .f32) (harg4 : arg4.IsWhole)
  (arg5 : Memref sig .tc .vmem S1x2048 .f32) (harg5 : arg5.IsWhole) (arg6 : Memref sig .tc .vmem S1x2048 .f32) (harg6 : arg6.IsWhole)
  (arg7 : Memref sig .tc .vmem S512x2048 .f32) (harg7 : arg7.IsWhole) (arg8 : Memref sig .tc .vmem S512x2048 .f32) (harg8 : arg8.IsWhole)
  (arg9 : Memref sig .tc .vmem S1x2048 .f32) (harg9 : arg9.IsWhole) (arg10 : Memref sig .tc .vmem S1x2048 .f32) (harg10 : arg10.IsWhole)
  (x0 x1 x2 x3 : Vec Ideal S512x2048 .f32) (x4 x5 : Vec Ideal S1x2048 .f32)

/-- The carried gradient of one lane of a block, before step `k`. -/
@[irreducible] def lane (x0 x1 x2 x3 : Vec Ideal S512x2048 .f32) (x4 x5 : Vec Ideal S1x2048 .f32) (l : Fin 2048) (k : ℕ) :=
  Scan.back (x4 (ix2 0 l)) (x5 (ix2 0 l)) (fun r => x0 (ix2 r l)) (fun r => x1 (ix2 r l)) (fun r => x2 (ix2 r l))
    (fun r => x3 (ix2 r l)) k

/-- The loop's state before trip `k`, from zeros, over blocks `x0 … x5`. -/
abbrev state (k : ℕ) :=
  st_k0_t1 (F := Ideal) 𝒱 c bd i arg1 harg1 arg2 harg2 arg3 harg3 arg4 harg4 arg5 harg5 arg6 harg6 arg7 harg7 arg8 harg8 arg9 harg9
    arg10 harg10 x4 x5
    (harg1.unread x0) (harg2.unread x1) (harg3.unread x2) (harg4.unread x3) (k0_pay1, k0_pay1, k0_pay1, k0_pay1) k

/-- A row loaded at trip `k` holds, at lane `l`, the block's entry at row `511 - k`. -/
theorem row_read (arg : Memref sig .tc .vmem S512x2048 .f32) (harg : arg.IsWhole) (x : Vec Ideal S512x2048 .f32)
    (k : Fin k0_t1_loop.trips) (h) (l : Fin 2048) :
    View.readAt (Elt Ideal) arg.view (Rect.unit (s := S512x2048) (k0_off1 k) ![1, 2048] h).toLoadRect (harg.unread x) (ix2 0 l)
      = x (ix2 (Scan.rowDown k.val) l) := by
  rw [harg.readAt_unread]
  refine congrArg x (funext fun a => Fin.ext ?_)
  have e := k0_off1_eq k
  match a with
  | ⟨0, _⟩ => show k0_off1 k 0 + 1 * 0 = 511 - k.val; rw [e]; simp
  | ⟨1, _⟩ => show k0_off1 k 1 + 1 * l.val = l.val; rw [e]; simp

theorem par_read (arg : Memref sig .tc .vmem S1x2048 .f32) (harg : arg.IsWhole) (x : Vec Ideal S1x2048 .f32) (h) (l : Fin 2048) :
    View.readAt (Elt Ideal) arg.view (Rect.unit (s := S1x2048) ![0, 0] ![1, 2048] h).toLoadRect (harg.unread x) (ix2 0 l)
      = x (ix2 0 l) := by
  rw [harg.readAt_unread]
  refine congrArg x (funext fun a => Fin.ext ?_)
  match a with
  | ⟨0, _⟩ => rfl
  | ⟨1, _⟩ => show 0 + 1 * l.val = l.val; simp

theorem pay1_apply (y : S1x2048.Idx) : (k0_pay1 (F := Ideal)) y = 0 := Ideal.ofBits_zero_f32

/-- Before trip `k` the loop carries `Scan.back` at `k`, lane by lane. -/
theorem carried : ∀ k : ℕ, k ≤ 512 → ∀ l : Fin 2048,
    let s := (state 𝒱 c bd i arg1 harg1 arg2 harg2 arg3 harg3 arg4 harg4 arg5 harg5 arg6 harg6 arg7 harg7 arg8 harg8 arg9 harg9
      arg10 harg10 x0 x1 x2 x3 x4 x5 k).1
    (s.1 (ix2 0 l), s.2.1 (ix2 0 l), s.2.2.1 (ix2 0 l), s.2.2.2 (ix2 0 l)) = lane x0 x1 x2 x3 x4 x5 l k
  | 0, _, l => by
    dsimp only
    rw [state, st_k0_t1_zero]
    dsimp only
    rw [pay1_apply, lane, Scan.back_zero]
  | k + 1, hk, l => by
    have hk' : k < k0_t1_loop.trips := by rw [trips_eq]; omega
    have ih := carried k (by omega) l
    dsimp only at ih ⊢
    rw [state, st_k0_t1_succ _ _ _ _ _ _ _ _ _ _ _ _ _ _ _ _ _ _ _ _ _ _ _ _ _ _ _ _ _ _ _ ⟨k, hk'⟩]
    unfold tripR_k0_t1 trip_k0_t1
    dsimp only
    rw [lane] at ih ⊢
    rw [Scan.back_succ]
    unfold k0_pay2 k0_pay3 k0_pay4 k0_pay5
    simp only [addf, mulf, subf, Ideal.addf_def, Ideal.mulf_def, Ideal.subf_def, row_read]
    rw [← ih]

/-- Before trip `k` each stored piece of the first result holds the carried gradient of the rows it covers, and rows from
    `512 - k` on are covered. -/
theorem pieces7 : ∀ k : ℕ, k ≤ 512 →
    let L := (state 𝒱 c bd i arg1 harg1 arg2 harg2 arg3 harg3 arg4 harg4 arg5 harg5 arg6 harg6 arg7 harg7 arg8 harg8 arg9 harg9
      arg10 harg10 x0 x1 x2 x3 x4 x5 k).2.1
    (∀ p ∈ L, ∀ x : p.1.shape.Idx, p.2 x = (fun y : S512x2048.Idx => (lane x0 x1 x2 x3 x4 x5 (y 1) (511 - (y 0).val)).1) (p.1.emb x))
      ∧ ∀ y : S512x2048.Idx, 512 - k ≤ (y 0).val → ∃ p ∈ L, y ∈ p.1.set
  | 0, _ => ⟨fun p hp => by simp only [state, st_k0_t1] at hp; exact absurd hp List.not_mem_nil,
      fun y hy => absurd (y 0).isLt (by show ¬ (y 0).val < 512; omega)⟩
  | k + 1, hk => by
    have hk' : k < k0_t1_loop.trips := by rw [trips_eq]; omega
    obtain ⟨ihG, ihC⟩ := pieces7 k (by omega)
    have hc := carried 𝒱 c bd i arg1 harg1 arg2 harg2 arg3 harg3 arg4 harg4 arg5 harg5 arg6 harg6 arg7 harg7 arg8 harg8 arg9 harg9
      arg10 harg10 x0 x1 x2 x3 x4 x5 k (by omega)
    have e := k0_off1_eq ⟨k, hk'⟩
    dsimp only at ihG ihC hc e ⊢
    rw [state, st_k0_t1_succ _ _ _ _ _ _ _ _ _ _ _ _ _ _ _ _ _ _ _ _ _ _ _ _ _ _ _ _ _ _ _ ⟨k, hk'⟩]
    unfold tripL_k0_t1 trip_k0_t1
    dsimp only
    constructor
    · intro p hp
      rcases List.mem_append.mp hp with hp | hp
      · obtain rfl := List.mem_singleton.mp hp
        intro x
        obtain ⟨a, l, rfl⟩ : ∃ (a : Fin 1) (l : Fin 2048), x = ix2 a l := ⟨_, _, eq_ix2 x⟩
        obtain rfl : a = 0 := Subsingleton.elim _ _
        refine (congrArg Prod.fst (hc l)).trans ?_
        dsimp only
        congr 2
        · refine Fin.ext ?_
          show l.val = k0_off1 ⟨k, hk'⟩ 1 + 1 * l.val
          rw [e]; simp
        · show k = 511 - (k0_off1 ⟨k, hk'⟩ 0 + 1 * 0)
          rw [e]; simp; omega
      · exact ihG p hp
    · intro y hy
      by_cases h : 512 - k ≤ (y 0).val
      · obtain ⟨p, hp, hm⟩ := ihC y h
        exact ⟨p, List.mem_append_right _ hp, hm⟩
      · refine ⟨_, List.mem_append_left _ (List.mem_singleton_self _), ?_⟩
        refine (LoadRect.mem_set _).mpr ?_
        intro a
        match a with
        | ⟨0, _⟩ => exact ⟨0, Nat.one_pos, by show (y 0).val = k0_off1 ⟨k, hk'⟩ 0 + 1 * 0; rw [e]; simp; omega⟩
        | ⟨1, _⟩ => exact ⟨(y 1).val, (y 1).isLt, by show (y 1).val = k0_off1 ⟨k, hk'⟩ 1 + 1 * (y 1).val; rw [e]; simp⟩

/-- Before trip `k` each stored piece of the second result holds the carried gradient of the rows it covers, and rows from
    `512 - k` on are covered. -/
theorem pieces8 : ∀ k : ℕ, k ≤ 512 →
    let L := (state 𝒱 c bd i arg1 harg1 arg2 harg2 arg3 harg3 arg4 harg4 arg5 harg5 arg6 harg6 arg7 harg7 arg8 harg8 arg9 harg9
      arg10 harg10 x0 x1 x2 x3 x4 x5 k).2.2
    (∀ p ∈ L, ∀ x : p.1.shape.Idx, p.2 x = (fun y : S512x2048.Idx => (lane x0 x1 x2 x3 x4 x5 (y 1) (511 - (y 0).val)).2.1) (p.1.emb x))
      ∧ ∀ y : S512x2048.Idx, 512 - k ≤ (y 0).val → ∃ p ∈ L, y ∈ p.1.set
  | 0, _ => ⟨fun p hp => by simp only [state, st_k0_t1] at hp; exact absurd hp List.not_mem_nil,
      fun y hy => absurd (y 0).isLt (by show ¬ (y 0).val < 512; omega)⟩
  | k + 1, hk => by
    have hk' : k < k0_t1_loop.trips := by rw [trips_eq]; omega
    obtain ⟨ihG, ihC⟩ := pieces8 k (by omega)
    have hc := carried 𝒱 c bd i arg1 harg1 arg2 harg2 arg3 harg3 arg4 harg4 arg5 harg5 arg6 harg6 arg7 harg7 arg8 harg8 arg9 harg9
      arg10 harg10 x0 x1 x2 x3 x4 x5 k (by omega)
    have e := k0_off1_eq ⟨k, hk'⟩
    dsimp only at ihG ihC hc e ⊢
    rw [state, st_k0_t1_succ _ _ _ _ _ _ _ _ _ _ _ _ _ _ _ _ _ _ _ _ _ _ _ _ _ _ _ _ _ _ _ ⟨k, hk'⟩]
    unfold tripL_k0_t1 trip_k0_t1
    dsimp only
    constructor
    · intro p hp
      rcases List.mem_append.mp hp with hp | hp
      · obtain rfl := List.mem_singleton.mp hp
        intro x
        obtain ⟨a, l, rfl⟩ : ∃ (a : Fin 1) (l : Fin 2048), x = ix2 a l := ⟨_, _, eq_ix2 x⟩
        obtain rfl : a = 0 := Subsingleton.elim _ _
        refine (congrArg (fun g => g.2.1) (hc l)).trans ?_
        dsimp only
        congr 3
        · refine Fin.ext ?_
          show l.val = k0_off1 ⟨k, hk'⟩ 1 + 1 * l.val
          rw [e]; simp
        · show k = 511 - (k0_off1 ⟨k, hk'⟩ 0 + 1 * 0)
          rw [e]; simp; omega
      · exact ihG p hp
    · intro y hy
      by_cases h : 512 - k ≤ (y 0).val
      · obtain ⟨p, hp, hm⟩ := ihC y h
        exact ⟨p, List.mem_append_right _ hp, hm⟩
      · refine ⟨_, List.mem_append_left _ (List.mem_singleton_self _), ?_⟩
        refine (LoadRect.mem_set _).mpr ?_
        intro a
        match a with
        | ⟨0, _⟩ => exact ⟨0, Nat.one_pos, by show (y 0).val = k0_off1 ⟨k, hk'⟩ 0 + 1 * 0; rw [e]; simp; omega⟩
        | ⟨1, _⟩ => exact ⟨(y 1).val, (y 1).isLt, by show (y 1).val = k0_off1 ⟨k, hk'⟩ 1 + 1 * (y 1).val; rw [e]; simp⟩

theorem par_whole (arg : Memref sig .tc .vmem S1x2048 .f32) (harg : arg.IsWhole) (x : Vec Ideal S1x2048 .f32) :
    View.readAt (Elt Ideal) arg.view (Rect.unit (s := S1x2048) ![0, 0] ![1, 2048] inb_S1x2048_S1x2048_0_0).toLoadRect (harg.unread x)
      = x := by
  funext y
  obtain ⟨a, l, rfl⟩ : ∃ (a : Fin 1) (l : Fin 2048), y = ix2 a l := ⟨_, _, eq_ix2 y⟩
  obtain rfl : a = 0 := Subsingleton.elim _ _
  exact par_read arg harg x _ l

theorem loop_trips : Scf.trips (0#32) (Scalar.addi 0#32 512#32) 1#32 = 512 := trips_eq

/-- What the body leaves in the first result's block: the carried gradient's real part. -/
theorem out6_apply (y : S512x2048.Idx) :
    out0_A_6 (F := Ideal) c i arg1 harg1 arg2 harg2 arg3 harg3 arg4 harg4 arg5 harg5 arg6 harg6 arg7 harg7 arg8 harg8 arg9 harg9
      arg10 harg10 x0 x1 x2 x3 x4 x5 y = (lane x0 x1 x2 x3 x4 x5 (y 1) (511 - (y 0).val)).1 := by
  unfold out0_A_6 kernelRun0_A
  dsimp only
  rw [par_whole arg5, par_whole arg6, loop_trips]
  have h := pieces7 Variants.none c none i arg1 harg1 arg2 harg2 arg3 harg3 arg4 harg4 arg5 harg5 arg6 harg6 arg7 harg7 arg8 harg8
    arg9 harg9 arg10 harg10 x0 x1 x2 x3 x4 x5 512 le_rfl
  exact View.read_writes_apply_of_pieces _ _ (fun y : S512x2048.Idx => (lane x0 x1 x2 x3 x4 x5 (y 1) (511 - (y 0).val)).1) _ h.1 y
    (h.2 y (by omega))

/-- What the body leaves in the second result's block: the carried gradient's imaginary part. -/
theorem out7_apply (y : S512x2048.Idx) :
    out0_A_7 (F := Ideal) c i arg1 harg1 arg2 harg2 arg3 harg3 arg4 harg4 arg5 harg5 arg6 harg6 arg7 harg7 arg8 harg8 arg9 harg9
      arg10 harg10 x0 x1 x2 x3 x4 x5 y = (lane x0 x1 x2 x3 x4 x5 (y 1) (511 - (y 0).val)).2.1 := by
  unfold out0_A_7 kernelRun0_A
  dsimp only
  rw [par_whole arg5, par_whole arg6, loop_trips]
  have h := pieces8 Variants.none c none i arg1 harg1 arg2 harg2 arg3 harg3 arg4 harg4 arg5 harg5 arg6 harg6 arg7 harg7 arg8 harg8
    arg9 harg9 arg10 harg10 x0 x1 x2 x3 x4 x5 512 le_rfl
  exact View.read_writes_apply_of_pieces _ _ (fun y : S512x2048.Idx => (lane x0 x1 x2 x3 x4 x5 (y 1) (511 - (y 0).val)).2.1) _ h.1 y
    (h.2 y (by omega))

/-- What the body leaves in the third result's block: the sum of the decay's gradient, real part. -/
theorem out8_apply (y : S1x2048.Idx) :
    out0_A_8 (F := Ideal) c i arg1 harg1 arg2 harg2 arg3 harg3 arg4 harg4 arg5 harg5 arg6 harg6 arg7 harg7 arg8 harg8 arg9 harg9
      arg10 harg10 x0 x1 x2 x3 x4 x5 y = (lane x0 x1 x2 x3 x4 x5 (y 1) 512).2.2.1 := by
  obtain ⟨a, l, rfl⟩ : ∃ (a : Fin 1) (l : Fin 2048), y = ix2 a l := ⟨_, _, eq_ix2 y⟩
  obtain rfl : a = 0 := Subsingleton.elim _ _
  unfold out0_A_8 kernelRun0_A
  dsimp only
  rw [par_whole arg5, par_whole arg6, loop_trips]
  have h := carried Variants.none c none i arg1 harg1 arg2 harg2 arg3 harg3 arg4 harg4 arg5 harg5 arg6 harg6 arg7 harg7 arg8 harg8
    arg9 harg9 arg10 harg10 x0 x1 x2 x3 x4 x5 512 le_rfl l
  refine Eq.trans ?_ (congrArg (fun g => g.2.2.1) h)
  refine View.read_writes_cons_hit_of_coords _ _ (Rect.unit (s := S1x2048) ![0, 0] ![1, 2048] inb_S1x2048_S1x2048_0_0) _ _ (ix2 0 l)
    (ix2 0 l) fun a => ?_
  match a with
  | ⟨0, _⟩ => rfl
  | ⟨1, _⟩ => show l.val = 0 + 1 * l.val; simp

/-- What the body leaves in the fourth result's block: the sum of the decay's gradient, imaginary part. -/
theorem out9_apply (y : S1x2048.Idx) :
    out0_A_9 (F := Ideal) c i arg1 harg1 arg2 harg2 arg3 harg3 arg4 harg4 arg5 harg5 arg6 harg6 arg7 harg7 arg8 harg8 arg9 harg9
      arg10 harg10 x0 x1 x2 x3 x4 x5 y = (lane x0 x1 x2 x3 x4 x5 (y 1) 512).2.2.2 := by
  obtain ⟨a, l, rfl⟩ : ∃ (a : Fin 1) (l : Fin 2048), y = ix2 a l := ⟨_, _, eq_ix2 y⟩
  obtain rfl : a = 0 := Subsingleton.elim _ _
  unfold out0_A_9 kernelRun0_A
  dsimp only
  rw [par_whole arg5, par_whole arg6, loop_trips]
  have h := carried Variants.none c none i arg1 harg1 arg2 harg2 arg3 harg3 arg4 harg4 arg5 harg5 arg6 harg6 arg7 harg7 arg8 harg8
    arg9 harg9 arg10 harg10 x0 x1 x2 x3 x4 x5 512 le_rfl l
  refine Eq.trans ?_ (congrArg (fun g => g.2.2.2) h)
  refine View.read_writes_cons_hit_of_coords _ _ (Rect.unit (s := S1x2048) ![0, 0] ![1, 2048] inb_S1x2048_S1x2048_0_0) _ _ (ix2 0 l)
    (ix2 0 l) fun a => ?_
  match a with
  | ⟨0, _⟩ => rfl
  | ⟨1, _⟩ => show l.val = 0 + 1 * l.val; simp

end Block

variable (m : (ℓ : Loc nD τ sig) → Buf (Elt Ideal) ℓ) (ρ : Dev nD → PrngReg)

/-- The carried gradient of lane `l` of the arguments before step `k`. -/
@[irreducible] def lanes (c : Dev nD) (l : Fin 4096) (k : ℕ) :=
  Scan.back (m ((c : Thread nD τ).loc main_arg4) (ix2 0 l)) (m ((c : Thread nD τ).loc main_arg5) (ix2 0 l))
    (fun r => m ((c : Thread nD τ).loc main_arg0) (ix2 r l)) (fun r => m ((c : Thread nD τ).loc main_arg1) (ix2 r l))
    (fun r => m ((c : Thread nD τ).loc main_arg2) (ix2 r l)) (fun r => m ((c : Thread nD τ).loc main_arg3) (ix2 r l)) k

theorem idx0 : ∀ t : Fin cfg0.N, win0_0.index t = ![0, t.val] :=
  (by decide +kernel : ∀ t : Fin grid0.N, win0_0.index t = ![0, t.val])

theorem idx1 : ∀ t : Fin cfg0.N, win0_1.index t = ![0, t.val] :=
  (by decide +kernel : ∀ t : Fin grid0.N, win0_1.index t = ![0, t.val])

theorem idx2 : ∀ t : Fin cfg0.N, win0_2.index t = ![0, t.val] :=
  (by decide +kernel : ∀ t : Fin grid0.N, win0_2.index t = ![0, t.val])

theorem idx3 : ∀ t : Fin cfg0.N, win0_3.index t = ![0, t.val] :=
  (by decide +kernel : ∀ t : Fin grid0.N, win0_3.index t = ![0, t.val])

theorem idx4 : ∀ t : Fin cfg0.N, win0_4.index t = ![0, t.val] :=
  (by decide +kernel : ∀ t : Fin grid0.N, win0_4.index t = ![0, t.val])

theorem idx5 : ∀ t : Fin cfg0.N, win0_5.index t = ![0, t.val] :=
  (by decide +kernel : ∀ t : Fin grid0.N, win0_5.index t = ![0, t.val])

theorem idx6 : ∀ t : Fin cfg0.N, win0_6.index t = ![0, t.val] :=
  (by decide +kernel : ∀ t : Fin grid0.N, win0_6.index t = ![0, t.val])

theorem idx7 : ∀ t : Fin cfg0.N, win0_7.index t = ![0, t.val] :=
  (by decide +kernel : ∀ t : Fin grid0.N, win0_7.index t = ![0, t.val])

theorem idx8 : ∀ t : Fin cfg0.N, win0_8.index t = ![0, t.val] :=
  (by decide +kernel : ∀ t : Fin grid0.N, win0_8.index t = ![0, t.val])

theorem idx9 : ∀ t : Fin cfg0.N, win0_9.index t = ![0, t.val] :=
  (by decide +kernel : ∀ t : Fin grid0.N, win0_9.index t = ![0, t.val])

theorem emb0 (t : Fin cfg0.N) (r : Fin 512) (l : Fin 2048) (L : Fin 4096) (hL : L.val = t.val * 2048 + l.val) :
    (win0_0.blk t).view.emb (ix2 r l) = ix2 r L := by
  refine (eq_ix2 _).trans (congrArg₂ ix2 (Fin.ext ?_) (Fin.ext ?_)) <;> blk_simp <;> rw [idx0]
  · simp
  · exact hL.symm

theorem emb1 (t : Fin cfg0.N) (r : Fin 512) (l : Fin 2048) (L : Fin 4096) (hL : L.val = t.val * 2048 + l.val) :
    (win0_1.blk t).view.emb (ix2 r l) = ix2 r L := by
  refine (eq_ix2 _).trans (congrArg₂ ix2 (Fin.ext ?_) (Fin.ext ?_)) <;> blk_simp <;> rw [idx1]
  · simp
  · exact hL.symm

theorem emb2 (t : Fin cfg0.N) (r : Fin 512) (l : Fin 2048) (L : Fin 4096) (hL : L.val = t.val * 2048 + l.val) :
    (win0_2.blk t).view.emb (ix2 r l) = ix2 r L := by
  refine (eq_ix2 _).trans (congrArg₂ ix2 (Fin.ext ?_) (Fin.ext ?_)) <;> blk_simp <;> rw [idx2]
  · simp
  · exact hL.symm

theorem emb3 (t : Fin cfg0.N) (r : Fin 512) (l : Fin 2048) (L : Fin 4096) (hL : L.val = t.val * 2048 + l.val) :
    (win0_3.blk t).view.emb (ix2 r l) = ix2 r L := by
  refine (eq_ix2 _).trans (congrArg₂ ix2 (Fin.ext ?_) (Fin.ext ?_)) <;> blk_simp <;> rw [idx3]
  · simp
  · exact hL.symm

theorem emb4 (t : Fin cfg0.N) (l : Fin 2048) (L : Fin 4096) (hL : L.val = t.val * 2048 + l.val) :
    (win0_4.blk t).view.emb (ix2 0 l) = ix2 0 L := by
  refine (eq_ix2 _).trans (congrArg₂ ix2 (Fin.ext ?_) (Fin.ext ?_)) <;> blk_simp <;> rw [idx4]
  · simp
  · exact hL.symm

theorem emb5 (t : Fin cfg0.N) (l : Fin 2048) (L : Fin 4096) (hL : L.val = t.val * 2048 + l.val) :
    (win0_5.blk t).view.emb (ix2 0 l) = ix2 0 L := by
  refine (eq_ix2 _).trans (congrArg₂ ix2 (Fin.ext ?_) (Fin.ext ?_)) <;> blk_simp <;> rw [idx5]
  · simp
  · exact hL.symm

/-- The lanes of block `t` are the arguments' lanes from `2048 t` on. -/
theorem lane_iblk (c : Dev nD) (t : Fin cfg0.N) (l : Fin 2048) (L : Fin 4096) (hL : L.val = t.val * 2048 + l.val) (k : ℕ) :
    lane (iblk m c 0 t) (iblk m c 1 t) (iblk m c 2 t) (iblk m c 3 t) (iblk m c 4 t) (iblk m c 5 t) l k = lanes m c L k := by
  unfold lane lanes
  blk_simp [iblk]
  simp only [emb0 t _ l L hL, emb1 t _ l L hL, emb2 t _ l L hL, emb3 t _ l L hL, emb4 t l L hL, emb5 t l L hL, V_main_arg0, V_main_arg1,
    V_main_arg2, V_main_arg3, V_main_arg4, V_main_arg5]

/-- The first result: row by row, the real part of the carried gradient. -/
theorem arr6 (c : Dev nD) :
    (dats m 0 c).arrAt 6 cfg0.N = fun Y : S512x4096.Idx => (lanes m c (Y 1) (511 - (Y 0).val)).1 := by
  refine (dats m 0 c).arrAt_eq_of_covers 6 _ (by decide +kernel) fun t hf y => ?_
  blk_simp
  rw [after0_6, idx6]
  refine (out6_apply ..).trans ?_
  rw [lane_iblk m c t (y 1) (((cfg0.win 6).blk t).view.emb y 1) (by blk_simp; rw [idx6]; rfl)]
  simp

/-- The second result: row by row, the imaginary part of the carried gradient. -/
theorem arr7 (c : Dev nD) :
    (dats m 0 c).arrAt 7 cfg0.N = fun Y : S512x4096.Idx => (lanes m c (Y 1) (511 - (Y 0).val)).2.1 := by
  refine (dats m 0 c).arrAt_eq_of_covers 7 _ (by decide +kernel) fun t hf y => ?_
  blk_simp
  rw [after0_7, idx7]
  refine (out7_apply ..).trans ?_
  rw [lane_iblk m c t (y 1) (((cfg0.win 7).blk t).view.emb y 1) (by blk_simp; rw [idx7]; rfl)]
  simp

/-- The third result: the decay's gradient, real part. -/
theorem arr8 (c : Dev nD) : (dats m 0 c).arrAt 8 cfg0.N = fun Y : S1x4096.Idx => (lanes m c (Y 1) 512).2.2.1 := by
  refine (dats m 0 c).arrAt_eq_of_covers 8 _ (by decide +kernel) fun t hf y => ?_
  blk_simp
  rw [after0_8]
  unfold outsAt0
  dsimp only
  rw [out8_apply, lane_iblk m c t (y 1) (((cfg0.win 8).blk t).view.emb y 1) (by blk_simp; rw [idx8]; rfl)]

/-- The fourth result: the decay's gradient, imaginary part. -/
theorem arr9 (c : Dev nD) : (dats m 0 c).arrAt 9 cfg0.N = fun Y : S1x4096.Idx => (lanes m c (Y 1) 512).2.2.2 := by
  refine (dats m 0 c).arrAt_eq_of_covers 9 _ (by decide +kernel) fun t hf y => ?_
  blk_simp
  rw [after0_9]
  unfold outsAt0
  dsimp only
  rw [out9_apply, lane_iblk m c t (y 1) (((cfg0.win 9).blk t).view.emb y 1) (by blk_simp; rw [idx9]; rfl)]

end Cert.KernelIdeal.ScanValue
-- ==== Proof.ScanBwdReference.lean ====
/-
  The values of the backward scan's reference: after `k` trips of its loop the carried vectors are `Scan.back` lane by
  lane, and the rows written so far hold the carried gradient.
-/
module

public import proofs.«01_k».proof.Proof.Gen.ReferenceIdeal.Run
public import proofs.«01_k».proof.Proof.ScanMath
public import Idealize.ShloMosaic.Lib.ValueIdx
public import Idealize.ShloMosaic.Lib.ValueLayout
public import Idealize.ShloMosaic.Lib.WordCmp
public import Idealize.ShloMosaic.Lib.Pointwise.Tactic

@[expose] public section

noncomputable section

namespace Cert.ReferenceIdeal.ScanValue

open Cert.ReferenceIdeal Cert.ReferenceIdeal.Gen Cert.ReferenceIdeal.Value Idealize.ShloMosaic Idealize.ShloMosaic.TcCoe
open Idealize.ShloMosaic.StableHlo Idealize.SL.Sem

variable (m : (ℓ : Loc nD τ sig) → Buf (Elt Ideal) ℓ)

/-- The carried gradient of lane `l` of the arguments before step `k`. -/
@[irreducible] def lanes (c : Dev nD) (l : Fin 4096) (k : ℕ) :=
  Scan.back (m ((c : Thread nD τ).loc main_arg4) (ix2 0 l)) (m ((c : Thread nD τ).loc main_arg5) (ix2 0 l))
    (fun r => m ((c : Thread nD τ).loc main_arg0) (ix2 r l)) (fun r => m ((c : Thread nD τ).loc main_arg1) (ix2 r l))
    (fun r => m ((c : Thread nD τ).loc main_arg2) (ix2 r l)) (fun r => m ((c : Thread nD τ).loc main_arg3) (ix2 r l)) k

/-- The word of the row a trip visits. -/
theorem row_word (k : ℕ) (hk : k < 512) : (512#32 - BitVec.ofNat 32 k - 1#32 : BitVec 32).toInt = ((511 - k : ℕ) : ℤ) := by
  have h : ∀ j : Fin 512, (512#32 - BitVec.ofNat 32 j.val - 1#32 : BitVec 32).toInt = ((511 - j.val : ℕ) : ℤ) := by decide +kernel
  exact h ⟨k, hk⟩

/-- The contents before trip `k`, on the arguments of device `c`. -/
structure At (c : Dev nD) (k : ℕ) (V : Valuation τ sig (Elt Ideal)) : Prop where
  dr : V (Proc.devRef .tc main_v3_2) = m ((c : Thread nD τ).loc main_arg0)
  di : V (Proc.devRef .tc main_v3_3) = m ((c : Thread nD τ).loc main_arg1)
  hr : V (Proc.devRef .tc main_v3_0) = m ((c : Thread nD τ).loc main_arg2)
  hi : V (Proc.devRef .tc main_v3_1) = m ((c : Thread nD τ).loc main_arg3)
  ar : V (Proc.devRef .tc main_v3_4) = m ((c : Thread nD τ).loc main_arg4)
  ai : V (Proc.devRef .tc main_v3_5) = m ((c : Thread nD τ).loc main_arg5)
  ctr : V (Proc.devRef .tc main_v3_6) = fun _ => BitVec.ofNat 32 k
  carry : ∀ l : Fin 4096, (V (Proc.devRef .tc main_v3_7) (ix1 l), V (Proc.devRef .tc main_v3_8) (ix1 l),
    V (Proc.devRef .tc main_v3_9) (ix1 l), V (Proc.devRef .tc main_v3_10) (ix1 l)) = lanes m c l k
  out : ∀ (r : Fin 512) (l : Fin 4096), 512 - k ≤ r.val →
    V (Proc.devRef .tc main_v3_11) (ix2 r l) = (lanes m c l (511 - r.val)).1
      ∧ V (Proc.devRef .tc main_v3_12) (ix2 r l) = (lanes m c l (511 - r.val)).2.1

theorem at_zero (c : Dev nD) : At m c 0 (entryContents preI m c) where
  dr := by (simp only [entryContents, afterL_cons, afterL_nil]; after_reads_simp) <;> rfl
  di := by (simp only [entryContents, afterL_cons, afterL_nil]; after_reads_simp) <;> rfl
  hr := by (simp only [entryContents, afterL_cons, afterL_nil]; after_reads_simp) <;> rfl
  hi := by (simp only [entryContents, afterL_cons, afterL_nil]; after_reads_simp) <;> rfl
  ar := by (simp only [entryContents, afterL_cons, afterL_nil]; after_reads_simp) <;> rfl
  ai := by (simp only [entryContents, afterL_cons, afterL_nil]; after_reads_simp) <;> rfl
  ctr := ctr_entry m c
  carry l := by
    have h7 : entryContents preI m c (Proc.devRef .tc main_v3_7) = broadcastInDim S4096 ![] bcast_S_S4096 (constant (F := Ideal) S_ .f32 0x00000000#32) := by
      (simp only [entryContents, afterL_cons, afterL_nil]; after_reads_simp) <;> rfl
    have h8 : entryContents preI m c (Proc.devRef .tc main_v3_8) = broadcastInDim S4096 ![] bcast_S_S4096 (constant (F := Ideal) S_ .f32 0x00000000#32) := by
      (simp only [entryContents, afterL_cons, afterL_nil]; after_reads_simp) <;> rfl
    have h9 : entryContents preI m c (Proc.devRef .tc main_v3_9) = broadcastInDim S4096 ![] bcast_S_S4096 (constant (F := Ideal) S_ .f32 0x00000000#32) := by
      (simp only [entryContents, afterL_cons, afterL_nil]; after_reads_simp) <;> rfl
    have h10 : entryContents preI m c (Proc.devRef .tc main_v3_10) = broadcastInDim S4096 ![] bcast_S_S4096 (constant (F := Ideal) S_ .f32 0x00000000#32) := by
      (simp only [entryContents, afterL_cons, afterL_nil]; after_reads_simp) <;> rfl
    have hz : broadcastInDim S4096 ![] bcast_S_S4096 (constant (F := Ideal) S_ .f32 0x00000000#32) (ix1 l) = (0 : EReal) :=
      Idealize.ShloMosaic.Ideal.ofBits_zero .f32
    rw [h7, h8, h9, h10, hz, lanes, Scan.back_zero]
  out r l h := absurd r.isLt (by omega)

/-- A row read at the trip's row. -/
theorem row_read (x : S512x4096.Idx → EReal) (w : (⟨S_, .i32⟩ : BufTy).Contents (Elt Ideal)) (r : Fin 512)
    (hw : (w (Shape.Idx.first h_S_)).toInt = (r.val : ℤ)) (h h') (l : Fin 4096) :
    shapeCast S4096 (Host.dynamicSlice S1x4096 x (fun k => (((![w, constantI S_ 32 0#32] : Fin 2 → (⟨S_, .i32⟩ : BufTy).Contents (Elt Ideal))) k (Shape.Idx.first h_S_)).toInt) h) h' (ix1 l) = x (ix2 r l) := by
  have hk : S512x4096.Slices ![r.val, 0] S1x4096 := ⟨rfl, fun a => by
    match a with
    | ⟨0, _⟩ => show r.val + 1 ≤ 512; omega
    | ⟨1, _⟩ => exact le_rfl⟩
  rw [WordCmp.dynamicSlice_eq_extract S1x4096 x _ h ![r.val, 0] hk (fun a => by
    match a with
    | ⟨0, _⟩ => exact hw
    | ⟨1, _⟩ => exact (by decide : (0#32 : BitVec 32).toInt = 0))]
  refine (ValueIdx.shapeCast_1a_a_apply _ _ _).trans ?_
  refine congrArg x (funext fun a => Fin.ext ?_)
  match a with
  | ⟨0, _⟩ => show r.val + 0 = r.val; omega
  | ⟨1, _⟩ => show 0 + l.val = l.val; omega

/-- A row written at the trip's row. -/
theorem row_write (x : S512x4096.Idx → EReal) (u : S4096.Idx → EReal) (w : (⟨S_, .i32⟩ : BufTy).Contents (Elt Ideal))
    (b : Fin 512) (hw : (w (Shape.Idx.first h_S_)).toInt = (b.val : ℤ)) (h h') (r : Fin 512) (l : Fin 4096) :
    Host.dynamicUpdateSlice x (broadcastInDim S1x4096 ![1] h' u) (fun k => (((![w, constantI S_ 32 0#32] : Fin 2 → (⟨S_, .i32⟩ : BufTy).Contents (Elt Ideal))) k (Shape.Idx.first h_S_)).toInt) h (ix2 r l) = if r = b then u (ix1 l) else x (ix2 r l) := by
  have hk : S512x4096.Slices ![b.val, 0] S1x4096 := ⟨rfl, fun a => by
    match a with
    | ⟨0, _⟩ => show b.val + 1 ≤ 512; omega
    | ⟨1, _⟩ => exact le_rfl⟩
  rw [WordCmp.dynamicUpdateSlice_eq_update x _ _ h ![b.val, 0] hk (fun a => by
    match a with
    | ⟨0, _⟩ => exact hw
    | ⟨1, _⟩ => exact (by decide : (0#32 : BitVec 32).toInt = 0))]
  unfold updateSlice
  by_cases hr : r = b
  · subst hr
    rw [dif_pos (fun a => by
      match a with
      | ⟨0, _⟩ => exact ⟨le_rfl, Nat.lt_succ_self _⟩
      | ⟨1, _⟩ => exact ⟨Nat.zero_le _, by show l.val < 0 + 4096; omega⟩), if_pos rfl]
    refine congrArg u (funext fun a => Fin.ext ?_)
    match a with
    | ⟨0, _⟩ => rfl
  · rw [dif_neg (fun hh => hr (Fin.ext (by
      have h0 : b.val ≤ r.val ∧ r.val < b.val + 1 := hh 0
      omega))), if_neg hr]

section Trip

variable {m} {c : Dev nD} {k : ℕ} {V : Valuation τ sig (Elt Ideal)} (h : At m c k V) (l : Fin 4096)
include h

theorem row_trip (hk : k < 512) : (res_main_while0b_v7 V (Shape.Idx.first h_S_)).toInt = ((Scan.rowDown k).val : ℤ) := by
  unfold res_main_while0b_v7
  rw [h.ctr]
  exact row_word k hk

theorem v8_apply (hk : k < 512) : res_main_while0b_v8 V (ix1 l) = m ((c : Thread nD τ).loc main_arg2) (ix2 (Scan.rowDown k) l) := by
  unfold res_main_while0b_v8
  rw [h.hr]
  exact row_read _ _ _ (row_trip h hk) _ _ l

theorem v9_apply (hk : k < 512) : res_main_while0b_v9 V (ix1 l) = m ((c : Thread nD τ).loc main_arg3) (ix2 (Scan.rowDown k) l) := by
  unfold res_main_while0b_v9
  rw [h.hi]
  exact row_read _ _ _ (row_trip h hk) _ _ l

theorem v14_apply : res_main_while0b_v14 V (ix1 l) = m ((c : Thread nD τ).loc main_arg4) (ix2 0 l) := by
  unfold res_main_while0b_v14
  rw [h.ar]
  exact ValueIdx.shapeCast_1a_a_apply _ _ _

theorem v15_apply : res_main_while0b_v15 V (ix1 l) = m ((c : Thread nD τ).loc main_arg5) (ix2 0 l) := by
  unfold res_main_while0b_v15
  rw [h.ai]
  exact ValueIdx.shapeCast_1a_a_apply _ _ _

theorem step7_apply (hk : k < 512) {a b d p q : EReal}
    (ha : m ((c : Thread nD τ).loc main_arg4) (ix2 0 l) = a) (hb : m ((c : Thread nD τ).loc main_arg5) (ix2 0 l) = b) (hd : m ((c : Thread nD τ).loc main_arg0) (ix2 (Scan.rowDown k) l) = d) (hp : V (Proc.devRef .tc main_v3_7) (ix1 l) = p) (hq : V (Proc.devRef .tc main_v3_8) (ix1 l) = q) :
    (step_main_v3_7 V (ix1 l) : EReal) = d + (a * p + b * q) := by
  have e := row_read (m ((c : Thread nD τ).loc main_arg0)) _ _ (row_trip h hk) sliceFits_S512x4096_S1x4096 shapeCasts_S1x4096_S4096 l
  rw [← ha, ← hb, ← hd, ← hp, ← hq, ← v14_apply h l, ← v15_apply h l, ← e, ← h.dr, add_comm]
  exact congrArg (· + _) (add_comm _ _)

theorem step8_apply (hk : k < 512) {a b d p q : EReal}
    (ha : m ((c : Thread nD τ).loc main_arg4) (ix2 0 l) = a) (hb : m ((c : Thread nD τ).loc main_arg5) (ix2 0 l) = b) (hd : m ((c : Thread nD τ).loc main_arg1) (ix2 (Scan.rowDown k) l) = d) (hp : V (Proc.devRef .tc main_v3_7) (ix1 l) = p) (hq : V (Proc.devRef .tc main_v3_8) (ix1 l) = q) :
    (step_main_v3_8 V (ix1 l) : EReal) = d + (a * q - b * p) := by
  have e := row_read (m ((c : Thread nD τ).loc main_arg1)) _ _ (row_trip h hk) sliceFits_S512x4096_S1x4096 shapeCasts_S1x4096_S4096 l
  rw [← ha, ← hb, ← hd, ← hp, ← hq, ← v14_apply h l, ← v15_apply h l, ← e, ← h.di, add_comm, sub_eq_add_neg, ← mul_neg]
  rfl

theorem step9_apply (hk : k < 512) {a b d p q : EReal}
    (ha : m ((c : Thread nD τ).loc main_arg2) (ix2 (Scan.rowDown k) l) = a) (hb : m ((c : Thread nD τ).loc main_arg3) (ix2 (Scan.rowDown k) l) = b) (hd : V (Proc.devRef .tc main_v3_9) (ix1 l) = d) (hp : V (Proc.devRef .tc main_v3_7) (ix1 l) = p) (hq : V (Proc.devRef .tc main_v3_8) (ix1 l) = q) :
    (step_main_v3_9 V (ix1 l) : EReal) = d + (a * p + b * q) := by
  rw [add_comm (a * p), mul_comm a, mul_comm b, ← ha, ← hb, ← hd, ← hp, ← hq, ← v8_apply h l hk, ← v9_apply h l hk]
  rfl

theorem step10_apply (hk : k < 512) {a b d p q : EReal}
    (ha : m ((c : Thread nD τ).loc main_arg2) (ix2 (Scan.rowDown k) l) = a) (hb : m ((c : Thread nD τ).loc main_arg3) (ix2 (Scan.rowDown k) l) = b) (hd : V (Proc.devRef .tc main_v3_10) (ix1 l) = d) (hp : V (Proc.devRef .tc main_v3_7) (ix1 l) = p) (hq : V (Proc.devRef .tc main_v3_8) (ix1 l) = q) :
    (step_main_v3_10 V (ix1 l) : EReal) = d + (a * q - b * p) := by
  rw [sub_eq_add_neg, mul_comm a, mul_comm b, ← neg_mul, ← ha, ← hb, ← hd, ← hp, ← hq, ← v8_apply h l hk, ← v9_apply h l hk]
  rfl

theorem step11_apply (hk : k < 512) (r : Fin 512) : step_main_v3_11 V (ix2 r l)
    = if r = Scan.rowDown k then V (Proc.devRef .tc main_v3_7) (ix1 l) else V (Proc.devRef .tc main_v3_11) (ix2 r l) :=
  row_write _ _ _ _ (row_trip h hk) updateFits_S512x4096_S1x4096 bcast_S4096_S1x4096_1 r l

theorem step12_apply (hk : k < 512) (r : Fin 512) : step_main_v3_12 V (ix2 r l)
    = if r = Scan.rowDown k then V (Proc.devRef .tc main_v3_8) (ix1 l) else V (Proc.devRef .tc main_v3_12) (ix2 r l) :=
  row_write _ _ _ _ (row_trip h hk) updateFits_S512x4096_S1x4096 bcast_S4096_S1x4096_1 r l

end Trip

theorem at_succ (c : Dev nD) (k : ℕ) (hk : k < 512) (V : Valuation τ sig (Elt Ideal)) (h : At m c k V) : At m c (k + 1) (STEP V) where
  dr := (STEP_main_v3_2 V).trans h.dr
  di := (STEP_main_v3_3 V).trans h.di
  hr := (STEP_main_v3_0 V).trans h.hr
  hi := (STEP_main_v3_1 V).trans h.hi
  ar := (STEP_main_v3_4 V).trans h.ar
  ai := (STEP_main_v3_5 V).trans h.ai
  ctr := by
    rw [STEP_main_v3_6, step_main_v3_6, h.ctr]
    exact funext fun _ => WordCmp.addi_ofNat k 1
  carry l := by
    have hc := h.carry l
    rw [lanes] at hc ⊢
    rw [Scan.back_succ, ← hc, STEP_main_v3_7, STEP_main_v3_8, STEP_main_v3_9, STEP_main_v3_10]
    exact Prod.ext (step7_apply h l hk rfl rfl rfl rfl rfl) (Prod.ext (step8_apply h l hk rfl rfl rfl rfl rfl)
      (Prod.ext (step9_apply h l hk rfl rfl rfl rfl rfl) (step10_apply h l hk rfl rfl rfl rfl rfl)))
  out r l hr := by
    have hc := h.carry l
    rw [STEP_main_v3_11, STEP_main_v3_12, step11_apply h l hk, step12_apply h l hk]
    constructor
    all_goals
      by_cases e : r = Scan.rowDown k
      · subst e
        rw [if_pos rfl, show 511 - (Scan.rowDown k).val = k from by rw [Scan.rowDown_val]; omega, ← hc]
      · rw [if_neg e]
        have : r.val ≠ 511 - k := fun h => e (Fin.ext h)
        first
        | exact (h.out r l (by omega)).1
        | exact (h.out r l (by omega)).2

theorem at_all (c : Dev nD) : ∀ k : ℕ, k ≤ 512 → At m c k (STEP^[k] (entryContents preI m c))
  | 0, _ => at_zero m c
  | k + 1, hk => by
    rw [Function.iterate_succ_apply']
    exact at_succ m c k hk _ (at_all c k (by omega))

/-- The first two results, row by row. -/
theorem rows (c : Dev nD) (V : Valuation τ sig (Elt Ideal)) (h : At m c 512 V) :
    V (Proc.devRef .tc main_v3_11) = (fun Y : S512x4096.Idx => (lanes m c (Y 1) (511 - (Y 0).val)).1)
      ∧ V (Proc.devRef .tc main_v3_12) = (fun Y : S512x4096.Idx => (lanes m c (Y 1) (511 - (Y 0).val)).2.1) := by
  constructor <;> funext Y <;> obtain ⟨r, l, rfl⟩ : ∃ (r : Fin 512) (l : Fin 4096), Y = ix2 r l := ⟨_, _, eq_ix2 Y⟩
  · exact (h.out r l (by omega)).1
  · exact (h.out r l (by omega)).2

/-- The last two results, the sums. -/
theorem sums (c : Dev nD) (V : Valuation τ sig (Elt Ideal)) (h : At m c 512 V) :
    out_main_v4 V = (fun Y : S1x4096.Idx => (lanes m c (Y 1) 512).2.2.1)
      ∧ out_main_v5 V = (fun Y : S1x4096.Idx => (lanes m c (Y 1) 512).2.2.2) := by
  constructor <;> funext Y <;> obtain ⟨r, l, rfl⟩ : ∃ (r : Fin 1) (l : Fin 4096), Y = ix2 r l := ⟨_, _, eq_ix2 Y⟩
  · exact (ValueIdx.shapeCast_a_1a_apply _ _ r l).trans (congrArg (fun g => g.2.2.1) (h.carry l))
  · exact (ValueIdx.shapeCast_a_1a_apply _ _ r l).trans (congrArg (fun g => g.2.2.2) (h.carry l))

end Cert.ReferenceIdeal.ScanValue
-- ==== Proof.ScanBwd.lean ====
/-
  The two claims about the values of the backward scan: the reference's frame, and the equality of the kernel's four
  results with the reference's.
-/
module

public import proofs.«01_k».proof.Proof.ScanBwdKernel
public import proofs.«01_k».proof.Proof.ScanBwdReference
public import proofs.«01_k».proof.Defs

@[expose] public section

noncomputable section

namespace Cert.Proof.ScanBwd

open Idealize.ShloMosaic Idealize.SL.Sem

/-- The reference runs to its end, keeps its arguments and leaves the counters at zero. -/
theorem frame_reference : Cert.quiescent_ReferenceIdeal := fun m ρ _ =>
  (θ_run _ _ _).mono (fun r h => ⟨fun c => (h c).2.2.2.2, Idealize.ShloMosaic.sem_eq_zero_of_no_sems (by decide) r.2⟩)
    (Cert.ReferenceIdeal.Value.run (F := Ideal) m ρ)

/-- Equal arguments give equal lanes on the two sides. -/
theorem lanes_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' (c.tc.loc Cert.ReferenceIdeal.main_arg0) = m (c.tc.loc Cert.KernelIdeal.main_arg0))
    (h1 : m' (c.tc.loc Cert.ReferenceIdeal.main_arg1) = m (c.tc.loc Cert.KernelIdeal.main_arg1))
    (h2 : m' (c.tc.loc Cert.ReferenceIdeal.main_arg2) = m (c.tc.loc Cert.KernelIdeal.main_arg2))
    (h3 : m' (c.tc.loc Cert.ReferenceIdeal.main_arg3) = m (c.tc.loc Cert.KernelIdeal.main_arg3))
    (h4 : m' (c.tc.loc Cert.ReferenceIdeal.main_arg4) = m (c.tc.loc Cert.KernelIdeal.main_arg4))
    (h5 : m' (c.tc.loc Cert.ReferenceIdeal.main_arg5) = m (c.tc.loc Cert.KernelIdeal.main_arg5)) (l : Fin 4096) (k : ℕ) :
    Cert.ReferenceIdeal.ScanValue.lanes m' c l k = Cert.KernelIdeal.ScanValue.lanes m c l k := by
  unfold Cert.ReferenceIdeal.ScanValue.lanes Cert.KernelIdeal.ScanValue.lanes
  rw [h0, h1, h2, h3, h4, h5]

/-- The kernel's four results are the reference's. -/
theorem algebraic : Cert.algebraic_KernelIdeal_ReferenceIdeal := fun m g m' g' _ hm => by
  have hl := fun c => lanes_eq m m' c (hm c).1 (hm c).2.1 (hm c).2.2.1 (hm c).2.2.2.1 (hm c).2.2.2.2.1 (hm c).2.2.2.2.2
  have hv := fun c => Cert.ReferenceIdeal.ScanValue.at_all m' c 512 le_rfl
  refine ⟨fun c => (Cert.KernelIdeal.Gen.dats m 0 c).arrAt 6 Cert.KernelIdeal.cfg0.N,
    fun c => (Cert.KernelIdeal.Gen.dats m 0 c).arrAt 7 Cert.KernelIdeal.cfg0.N,
    fun c => (Cert.KernelIdeal.Gen.dats m 0 c).arrAt 8 Cert.KernelIdeal.cfg0.N,
    fun c => (Cert.KernelIdeal.Gen.dats m 0 c).arrAt 9 Cert.KernelIdeal.cfg0.N,
    Cert.KernelIdeal.Value.run_blocks (F := Ideal) m g, ?_⟩
  refine (θ_run _ _ _).mono (fun r h c => ⟨(h c).1.trans ?_, (h c).2.1.trans ?_, (h c).2.2.1.trans ?_, (h c).2.2.2.1.trans ?_,
    (h c).2.2.2.2⟩) (Cert.ReferenceIdeal.Value.run (F := Ideal) m' g')
  · rw [(Cert.ReferenceIdeal.ScanValue.rows m' c _ (hv c)).1]
    refine Eq.trans ?_ (Cert.KernelIdeal.ScanValue.arr6 m c).symm
    exact funext fun Y => congrArg (fun g => g.1) (hl c (Y 1) (511 - (Y 0).val))
  · rw [(Cert.ReferenceIdeal.ScanValue.rows m' c _ (hv c)).2]
    refine Eq.trans ?_ (Cert.KernelIdeal.ScanValue.arr7 m c).symm
    exact funext fun Y => congrArg (fun g => g.2.1) (hl c (Y 1) (511 - (Y 0).val))
  · rw [(Cert.ReferenceIdeal.ScanValue.sums m' c _ (hv c)).1]
    refine Eq.trans ?_ (Cert.KernelIdeal.ScanValue.arr8 m c).symm
    exact funext fun Y => congrArg (fun g => g.2.2.1) (hl c (Y 1) 512)
  · rw [(Cert.ReferenceIdeal.ScanValue.sums m' c _ (hv c)).2]
    refine Eq.trans ?_ (Cert.KernelIdeal.ScanValue.arr9 m c).symm
    exact funext fun Y => congrArg (fun g => g.2.2.2) (hl c (Y 1) 512)

end Cert.Proof.ScanBwd
-- ==== Proof.ScanFwdKernel.lean ====
/-
  The values of the forward scan's kernel: its loop on one block of lanes carries `Scan.ahead` lane by lane, the rows it
  stores are the carried state, and the two results are `Scan.ahead` of the arguments.
-/
module

public import proofs.«01_k».proof.Proof.Gen.Kernel2Ideal.Value
public import proofs.«01_k».proof.Proof.ScanMath
public import Idealize.ShloMosaic.Lib.Pipeline.ValueKit
public import Idealize.ShloMosaic.Lib.WholeRead
public import Idealize.ShloMosaic.Lib.ValueIdx

@[expose] public section

noncomputable section

namespace Cert.Kernel2Ideal.ScanValue

open Cert.Kernel2Ideal Cert.Kernel2Ideal.Gen Idealize.ShloMosaic Idealize.ShloMosaic.TcCoe Idealize.SL.Sem

theorem trips_eq : k0_t1_loop.trips = 512 := by decide +kernel

section Block

variable (𝒱 : Variants) (c : Dev nD) (bd : Option 𝒱.V) (i : grid0.Coords)
  (arg1 : Memref sig .tc .vmem S512x2048 .f32) (harg1 : arg1.IsWhole) (arg2 : Memref sig .tc .vmem S512x2048 .f32) (harg2 : arg2.IsWhole)
  (arg3 : Memref sig .tc .vmem S1x2048 .f32) (harg3 : arg3.IsWhole) (arg4 : Memref sig .tc .vmem S1x2048 .f32) (harg4 : arg4.IsWhole)
  (arg5 : Memref sig .tc .vmem S512x2048 .f32) (harg5 : arg5.IsWhole) (arg6 : Memref sig .tc .vmem S512x2048 .f32) (harg6 : arg6.IsWhole)
  (x0 x1 : Vec Ideal S512x2048 .f32) (x2 x3 : Vec Ideal S1x2048 .f32)

/-- The carried state of one lane of a block, before step `k`. -/
@[irreducible] def lane (x0 x1 : Vec Ideal S512x2048 .f32) (x2 x3 : Vec Ideal S1x2048 .f32) (l : Fin 2048) (k : ℕ) :=
  Scan.ahead (x2 (ix2 0 l)) (x3 (ix2 0 l)) (fun r => x0 (ix2 r l)) (fun r => x1 (ix2 r l)) k

/-- The loop's state before trip `k`, from zeros, over blocks `x0 … x3`. -/
abbrev state (k : ℕ) :=
  st_k0_t1 (F := Ideal) 𝒱 c bd i arg1 harg1 arg2 harg2 arg3 harg3 arg4 harg4 arg5 harg5 arg6 harg6 x2 x3
    (harg1.unread x0) (harg2.unread x1) (k0_pay1, k0_pay1) k

/-- A row loaded at trip `k` holds, at lane `l`, the block's entry at row `k`. -/
theorem row_read (arg : Memref sig .tc .vmem S512x2048 .f32) (harg : arg.IsWhole) (x : Vec Ideal S512x2048 .f32)
    (k : Fin k0_t1_loop.trips) (h) (l : Fin 2048) :
    View.readAt (Elt Ideal) arg.view (Rect.unit (s := S512x2048) (k0_off1 k) ![1, 2048] h).toLoadRect (harg.unread x) (ix2 0 l)
      = x (ix2 (Scan.rowUp k.val) l) := by
  rw [harg.readAt_unread]
  refine congrArg x (funext fun a => Fin.ext ?_)
  have e := k0_off1_eq k
  match a with
  | ⟨0, _⟩ => show k0_off1 k 0 + 1 * 0 = (Scan.rowUp k.val).val; rw [e, Scan.rowUp_val (trips_eq ▸ k.isLt)]; simp
  | ⟨1, _⟩ => show k0_off1 k 1 + 1 * l.val = l.val; rw [e]; simp

theorem par_read (arg : Memref sig .tc .vmem S1x2048 .f32) (harg : arg.IsWhole) (x : Vec Ideal S1x2048 .f32) (h) (l : Fin 2048) :
    View.readAt (Elt Ideal) arg.view (Rect.unit (s := S1x2048) ![0, 0] ![1, 2048] h).toLoadRect (harg.unread x) (ix2 0 l)
      = x (ix2 0 l) := by
  rw [harg.readAt_unread]
  refine congrArg x (funext fun a => Fin.ext ?_)
  match a with
  | ⟨0, _⟩ => rfl
  | ⟨1, _⟩ => show 0 + 1 * l.val = l.val; simp

theorem pay1_apply (y : S1x2048.Idx) : (k0_pay1 (F := Ideal)) y = 0 := Ideal.ofBits_zero_f32

/-- Before trip `k` the loop carries `Scan.ahead` at `k`, lane by lane. -/
theorem carried : ∀ k : ℕ, k ≤ 512 → ∀ l : Fin 2048,
    let s := (state 𝒱 c bd i arg1 harg1 arg2 harg2 arg3 harg3 arg4 harg4 arg5 harg5 arg6 harg6 x0 x1 x2 x3 k).1
    (s.1 (ix2 0 l), s.2 (ix2 0 l)) = lane x0 x1 x2 x3 l k
  | 0, _, l => by
    dsimp only
    rw [state, st_k0_t1_zero]
    dsimp only
    rw [pay1_apply, lane, Scan.ahead_zero]
  | k + 1, hk, l => by
    have hk' : k < k0_t1_loop.trips := by rw [trips_eq]; omega
    have ih := carried k (by omega) l
    dsimp only at ih ⊢
    rw [state, st_k0_t1_succ _ _ _ _ _ _ _ _ _ _ _ _ _ _ _ _ _ _ _ _ _ ⟨k, hk'⟩]
    unfold tripR_k0_t1 trip_k0_t1
    dsimp only
    rw [lane] at ih ⊢
    rw [Scan.ahead_succ]
    unfold k0_pay2 k0_pay3
    simp only [addf, mulf, subf, Ideal.addf_def, Ideal.mulf_def, Ideal.subf_def, row_read]
    rw [← ih]

/-- Before trip `k` each stored piece of the first result holds the carried state of the rows it covers, and rows
    below `k` are covered. -/
theorem pieces5 : ∀ k : ℕ, k ≤ 512 →
    let L := (state 𝒱 c bd i arg1 harg1 arg2 harg2 arg3 harg3 arg4 harg4 arg5 harg5 arg6 harg6 x0 x1 x2 x3 k).2.1
    (∀ p ∈ L, ∀ x : p.1.shape.Idx, p.2 x = (fun y : S512x2048.Idx => (lane x0 x1 x2 x3 (y 1) (y 0).val).1) (p.1.emb x))
      ∧ ∀ y : S512x2048.Idx, (y 0).val < k → ∃ p ∈ L, y ∈ p.1.set
  | 0, _ => ⟨fun p hp => by simp only [state, st_k0_t1] at hp; exact absurd hp List.not_mem_nil,
      fun y hy => absurd hy (Nat.not_lt_zero _)⟩
  | k + 1, hk => by
    have hk' : k < k0_t1_loop.trips := by rw [trips_eq]; omega
    obtain ⟨ihG, ihC⟩ := pieces5 k (by omega)
    have hc := carried 𝒱 c bd i arg1 harg1 arg2 harg2 arg3 harg3 arg4 harg4 arg5 harg5 arg6 harg6 x0 x1 x2 x3 k (by omega)
    have e := k0_off1_eq ⟨k, hk'⟩
    dsimp only at ihG ihC hc e ⊢
    rw [state, st_k0_t1_succ _ _ _ _ _ _ _ _ _ _ _ _ _ _ _ _ _ _ _ _ _ ⟨k, hk'⟩]
    unfold tripL_k0_t1 trip_k0_t1
    dsimp only
    constructor
    · intro p hp
      rcases List.mem_append.mp hp with hp | hp
      · obtain rfl := List.mem_singleton.mp hp
        intro x
        obtain ⟨a, l, rfl⟩ : ∃ (a : Fin 1) (l : Fin 2048), x = ix2 a l := ⟨_, _, eq_ix2 x⟩
        obtain rfl : a = 0 := Subsingleton.elim _ _
        refine (congrArg Prod.fst (hc l)).trans ?_
        dsimp only
        congr 2
        · refine Fin.ext ?_
          show l.val = k0_off1 ⟨k, hk'⟩ 1 + 1 * l.val
          rw [e]; simp
        · show k = k0_off1 ⟨k, hk'⟩ 0 + 1 * 0
          rw [e]; simp
      · exact ihG p hp
    · intro y hy
      by_cases h : (y 0).val < k
      · obtain ⟨p, hp, hm⟩ := ihC y h
        exact ⟨p, List.mem_append_right _ hp, hm⟩
      · refine ⟨_, List.mem_append_left _ (List.mem_singleton_self _), ?_⟩
        refine (LoadRect.mem_set _).mpr ?_
        intro a
        match a with
        | ⟨0, _⟩ => exact ⟨0, Nat.one_pos, by show (y 0).val = k0_off1 ⟨k, hk'⟩ 0 + 1 * 0; rw [e]; simp; omega⟩
        | ⟨1, _⟩ => exact ⟨(y 1).val, (y 1).isLt, by show (y 1).val = k0_off1 ⟨k, hk'⟩ 1 + 1 * (y 1).val; rw [e]; simp⟩

/-- Before trip `k` each stored piece of the second result holds the carried state of the rows it covers, and rows
    below `k` are covered. -/
theorem pieces6 : ∀ k : ℕ, k ≤ 512 →
    let L := (state 𝒱 c bd i arg1 harg1 arg2 harg2 arg3 harg3 arg4 harg4 arg5 harg5 arg6 harg6 x0 x1 x2 x3 k).2.2
    (∀ p ∈ L, ∀ x : p.1.shape.Idx, p.2 x = (fun y : S512x2048.Idx => (lane x0 x1 x2 x3 (y 1) (y 0).val).2) (p.1.emb x))
      ∧ ∀ y : S512x2048.Idx, (y 0).val < k → ∃ p ∈ L, y ∈ p.1.set
  | 0, _ => ⟨fun p hp => by simp only [state, st_k0_t1] at hp; exact absurd hp List.not_mem_nil,
      fun y hy => absurd hy (Nat.not_lt_zero _)⟩
  | k + 1, hk => by
    have hk' : k < k0_t1_loop.trips := by rw [trips_eq]; omega
    obtain ⟨ihG, ihC⟩ := pieces6 k (by omega)
    have hc := carried 𝒱 c bd i arg1 harg1 arg2 harg2 arg3 harg3 arg4 harg4 arg5 harg5 arg6 harg6 x0 x1 x2 x3 k (by omega)
    have e := k0_off1_eq ⟨k, hk'⟩
    dsimp only at ihG ihC hc e ⊢
    rw [state, st_k0_t1_succ _ _ _ _ _ _ _ _ _ _ _ _ _ _ _ _ _ _ _ _ _ ⟨k, hk'⟩]
    unfold tripL_k0_t1 trip_k0_t1
    dsimp only
    constructor
    · intro p hp
      rcases List.mem_append.mp hp with hp | hp
      · obtain rfl := List.mem_singleton.mp hp
        intro x
        obtain ⟨a, l, rfl⟩ : ∃ (a : Fin 1) (l : Fin 2048), x = ix2 a l := ⟨_, _, eq_ix2 x⟩
        obtain rfl : a = 0 := Subsingleton.elim _ _
        refine (congrArg Prod.snd (hc l)).trans ?_
        dsimp only
        congr 2
        · refine Fin.ext ?_
          show l.val = k0_off1 ⟨k, hk'⟩ 1 + 1 * l.val
          rw [e]; simp
        · show k = k0_off1 ⟨k, hk'⟩ 0 + 1 * 0
          rw [e]; simp
      · exact ihG p hp
    · intro y hy
      by_cases h : (y 0).val < k
      · obtain ⟨p, hp, hm⟩ := ihC y h
        exact ⟨p, List.mem_append_right _ hp, hm⟩
      · refine ⟨_, List.mem_append_left _ (List.mem_singleton_self _), ?_⟩
        refine (LoadRect.mem_set _).mpr ?_
        intro a
        match a with
        | ⟨0, _⟩ => exact ⟨0, Nat.one_pos, by show (y 0).val = k0_off1 ⟨k, hk'⟩ 0 + 1 * 0; rw [e]; simp; omega⟩
        | ⟨1, _⟩ => exact ⟨(y 1).val, (y 1).isLt, by show (y 1).val = k0_off1 ⟨k, hk'⟩ 1 + 1 * (y 1).val; rw [e]; simp⟩

theorem par_whole (arg : Memref sig .tc .vmem S1x2048 .f32) (harg : arg.IsWhole) (x : Vec Ideal S1x2048 .f32) :
    View.readAt (Elt Ideal) arg.view (Rect.unit (s := S1x2048) ![0, 0] ![1, 2048] inb_S1x2048_S1x2048_0_0).toLoadRect (harg.unread x)
      = x := by
  funext y
  obtain ⟨a, l, rfl⟩ : ∃ (a : Fin 1) (l : Fin 2048), y = ix2 a l := ⟨_, _, eq_ix2 y⟩
  obtain rfl : a = 0 := Subsingleton.elim _ _
  exact par_read arg harg x _ l

theorem loop_trips : Scf.trips (0#32) (Scalar.addi 0#32 512#32) 1#32 = 512 := trips_eq

/-- What the body leaves in the first result's block: the state's real part. -/
theorem out4_apply (y : S512x2048.Idx) :
    out0_A_4 (F := Ideal) c i arg1 harg1 arg2 harg2 arg3 harg3 arg4 harg4 arg5 harg5 arg6 harg6 x0 x1 x2 x3 y = (lane x0 x1 x2 x3 (y 1) (y 0).val).1 := by
  unfold out0_A_4 kernelRun0_A
  dsimp only
  rw [par_whole arg3, par_whole arg4, loop_trips]
  have h := pieces5 Variants.none c none i arg1 harg1 arg2 harg2 arg3 harg3 arg4 harg4 arg5 harg5 arg6 harg6 x0 x1 x2 x3 512 le_rfl
  exact View.read_writes_apply_of_pieces _ _ (fun y : S512x2048.Idx => (lane x0 x1 x2 x3 (y 1) (y 0).val).1) _ h.1 y
    (h.2 y (y 0).isLt)

/-- What the body leaves in the second result's block: the state's imaginary part. -/
theorem out5_apply (y : S512x2048.Idx) :
    out0_A_5 (F := Ideal) c i arg1 harg1 arg2 harg2 arg3 harg3 arg4 harg4 arg5 harg5 arg6 harg6 x0 x1 x2 x3 y = (lane x0 x1 x2 x3 (y 1) (y 0).val).2 := by
  unfold out0_A_5 kernelRun0_A
  dsimp only
  rw [par_whole arg3, par_whole arg4, loop_trips]
  have h := pieces6 Variants.none c none i arg1 harg1 arg2 harg2 arg3 harg3 arg4 harg4 arg5 harg5 arg6 harg6 x0 x1 x2 x3 512 le_rfl
  exact View.read_writes_apply_of_pieces _ _ (fun y : S512x2048.Idx => (lane x0 x1 x2 x3 (y 1) (y 0).val).2) _ h.1 y
    (h.2 y (y 0).isLt)

end Block

variable (m : (ℓ : Loc nD τ sig) → Buf (Elt Ideal) ℓ) (ρ : Dev nD → PrngReg)

/-- The carried state of lane `l` of the arguments before step `k`. -/
@[irreducible] def lanes (c : Dev nD) (l : Fin 4096) (k : ℕ) :=
  Scan.ahead (m ((c : Thread nD τ).loc main_arg2) (ix2 0 l)) (m ((c : Thread nD τ).loc main_arg3) (ix2 0 l))
    (fun r => m ((c : Thread nD τ).loc main_arg0) (ix2 r l)) (fun r => m ((c : Thread nD τ).loc main_arg1) (ix2 r l)) k

theorem idx0 : ∀ t : Fin cfg0.N, win0_0.index t = ![0, t.val] :=
  (by decide +kernel : ∀ t : Fin grid0.N, win0_0.index t = ![0, t.val])

theorem idx1 : ∀ t : Fin cfg0.N, win0_1.index t = ![0, t.val] :=
  (by decide +kernel : ∀ t : Fin grid0.N, win0_1.index t = ![0, t.val])

theorem idx2 : ∀ t : Fin cfg0.N, win0_2.index t = ![0, t.val] :=
  (by decide +kernel : ∀ t : Fin grid0.N, win0_2.index t = ![0, t.val])

theorem idx3 : ∀ t : Fin cfg0.N, win0_3.index t = ![0, t.val] :=
  (by decide +kernel : ∀ t : Fin grid0.N, win0_3.index t = ![0, t.val])

theorem idx4 : ∀ t : Fin cfg0.N, win0_4.index t = ![0, t.val] :=
  (by decide +kernel : ∀ t : Fin grid0.N, win0_4.index t = ![0, t.val])

theorem idx5 : ∀ t : Fin cfg0.N, win0_5.index t = ![0, t.val] :=
  (by decide +kernel : ∀ t : Fin grid0.N, win0_5.index t = ![0, t.val])

theorem emb0 (t : Fin cfg0.N) (r : Fin 512) (l : Fin 2048) (L : Fin 4096) (hL : L.val = t.val * 2048 + l.val) :
    (win0_0.blk t).view.emb (ix2 r l) = ix2 r L := by
  refine (eq_ix2 _).trans (congrArg₂ ix2 (Fin.ext ?_) (Fin.ext ?_)) <;> blk_simp <;> rw [idx0]
  · simp
  · exact hL.symm

theorem emb1 (t : Fin cfg0.N) (r : Fin 512) (l : Fin 2048) (L : Fin 4096) (hL : L.val = t.val * 2048 + l.val) :
    (win0_1.blk t).view.emb (ix2 r l) = ix2 r L := by
  refine (eq_ix2 _).trans (congrArg₂ ix2 (Fin.ext ?_) (Fin.ext ?_)) <;> blk_simp <;> rw [idx1]
  · simp
  · exact hL.symm

theorem emb2 (t : Fin cfg0.N) (l : Fin 2048) (L : Fin 4096) (hL : L.val = t.val * 2048 + l.val) :
    (win0_2.blk t).view.emb (ix2 0 l) = ix2 0 L := by
  refine (eq_ix2 _).trans (congrArg₂ ix2 (Fin.ext ?_) (Fin.ext ?_)) <;> blk_simp <;> rw [idx2]
  · simp
  · exact hL.symm

theorem emb3 (t : Fin cfg0.N) (l : Fin 2048) (L : Fin 4096) (hL : L.val = t.val * 2048 + l.val) :
    (win0_3.blk t).view.emb (ix2 0 l) = ix2 0 L := by
  refine (eq_ix2 _).trans (congrArg₂ ix2 (Fin.ext ?_) (Fin.ext ?_)) <;> blk_simp <;> rw [idx3]
  · simp
  · exact hL.symm

/-- The lanes of block `t` are the arguments' lanes from `2048 t` on. -/
theorem lane_iblk (c : Dev nD) (t : Fin cfg0.N) (l : Fin 2048) (L : Fin 4096) (hL : L.val = t.val * 2048 + l.val) (k : ℕ) :
    lane (iblk m c 0 t) (iblk m c 1 t) (iblk m c 2 t) (iblk m c 3 t) l k = lanes m c L k := by
  unfold lane lanes
  blk_simp [iblk]
  simp only [emb0 t _ l L hL, emb1 t _ l L hL, emb2 t l L hL, emb3 t l L hL, V_main_arg0, V_main_arg1,
    V_main_arg2, V_main_arg3]

/-- The first result: row by row, the real part of the carried state. -/
theorem arr4 (c : Dev nD) :
    (dats m 0 c).arrAt 4 cfg0.N = fun Y : S512x4096.Idx => (lanes m c (Y 1) (Y 0).val).1 := by
  refine (dats m 0 c).arrAt_eq_of_covers 4 _ (by decide +kernel) fun t hf y => ?_
  blk_simp
  rw [after0_4, idx4]
  refine (out4_apply ..).trans ?_
  rw [lane_iblk m c t (y 1) (((cfg0.win 4).blk t).view.emb y 1) (by blk_simp; rw [idx4]; rfl)]
  simp

/-- The second result: row by row, the imaginary part of the carried state. -/
theorem arr5 (c : Dev nD) :
    (dats m 0 c).arrAt 5 cfg0.N = fun Y : S512x4096.Idx => (lanes m c (Y 1) (Y 0).val).2 := by
  refine (dats m 0 c).arrAt_eq_of_covers 5 _ (by decide +kernel) fun t hf y => ?_
  blk_simp
  rw [after0_5, idx5]
  refine (out5_apply ..).trans ?_
  rw [lane_iblk m c t (y 1) (((cfg0.win 5).blk t).view.emb y 1) (by blk_simp; rw [idx5]; rfl)]
  simp

end Cert.Kernel2Ideal.ScanValue
-- ==== Proof.ScanFwdReference.lean ====
/-
  The values of the forward scan's reference: after `k` trips of its loop the carried vectors are `Scan.ahead` lane by
  lane, and the rows written so far hold the carried state.
-/
module

public import proofs.«01_k».proof.Proof.Gen.Reference2Ideal.Run
public import proofs.«01_k».proof.Proof.ScanMath
public import Idealize.ShloMosaic.Lib.ValueIdx
public import Idealize.ShloMosaic.Lib.ValueLayout
public import Idealize.ShloMosaic.Lib.WordCmp
public import Idealize.ShloMosaic.Lib.Pointwise.Tactic

@[expose] public section

noncomputable section

namespace Cert.Reference2Ideal.ScanValue

open Cert.Reference2Ideal Cert.Reference2Ideal.Gen Cert.Reference2Ideal.Value Idealize.ShloMosaic Idealize.ShloMosaic.TcCoe
open Idealize.ShloMosaic.StableHlo Idealize.SL.Sem

variable (m : (ℓ : Loc nD τ sig) → Buf (Elt Ideal) ℓ)

/-- The carried state of lane `l` of the arguments before step `k`. -/
@[irreducible] def lanes (c : Dev nD) (l : Fin 4096) (k : ℕ) :=
  Scan.ahead (m ((c : Thread nD τ).loc main_arg2) (ix2 0 l)) (m ((c : Thread nD τ).loc main_arg3) (ix2 0 l))
    (fun r => m ((c : Thread nD τ).loc main_arg0) (ix2 r l)) (fun r => m ((c : Thread nD τ).loc main_arg1) (ix2 r l)) k

/-- The word of the row a trip visits. -/
theorem row_word (k : ℕ) (hk : k < 512) : (BitVec.ofNat 32 k : BitVec 32).toInt = (k : ℤ) := by
  have h : ∀ j : Fin 512, (BitVec.ofNat 32 j.val : BitVec 32).toInt = (j.val : ℤ) := by decide +kernel
  exact h ⟨k, hk⟩

/-- The contents before trip `k`, on the arguments of device `c`. -/
structure At (c : Dev nD) (k : ℕ) (V : Valuation τ sig (Elt Ideal)) : Prop where
  xr : V (Proc.devRef .tc main_v3_0) = m ((c : Thread nD τ).loc main_arg0)
  xi : V (Proc.devRef .tc main_v3_1) = m ((c : Thread nD τ).loc main_arg1)
  ar : V (Proc.devRef .tc main_v3_2) = m ((c : Thread nD τ).loc main_arg2)
  ai : V (Proc.devRef .tc main_v3_3) = m ((c : Thread nD τ).loc main_arg3)
  ctr : V (Proc.devRef .tc main_v3_4) = fun _ => BitVec.ofNat 32 k
  carry : ∀ l : Fin 4096, (V (Proc.devRef .tc main_v3_5) (ix1 l), V (Proc.devRef .tc main_v3_6) (ix1 l)) = lanes m c l k
  out : ∀ (r : Fin 512) (l : Fin 4096), r.val < k →
    V (Proc.devRef .tc main_v3_7) (ix2 r l) = (lanes m c l r.val).1
      ∧ V (Proc.devRef .tc main_v3_8) (ix2 r l) = (lanes m c l r.val).2

theorem at_zero (c : Dev nD) : At m c 0 (entryContents preI m c) where
  xr := by (simp only [entryContents, afterL_cons, afterL_nil]; after_reads_simp) <;> rfl
  xi := by (simp only [entryContents, afterL_cons, afterL_nil]; after_reads_simp) <;> rfl
  ar := by (simp only [entryContents, afterL_cons, afterL_nil]; after_reads_simp) <;> rfl
  ai := by (simp only [entryContents, afterL_cons, afterL_nil]; after_reads_simp) <;> rfl
  ctr := ctr_entry m c
  carry l := by
    have h5 : entryContents preI m c (Proc.devRef .tc main_v3_5) = broadcastInDim S4096 ![] bcast_S_S4096 (constant (F := Ideal) S_ .f32 0x00000000#32) := by
      (simp only [entryContents, afterL_cons, afterL_nil]; after_reads_simp) <;> rfl
    have h6 : entryContents preI m c (Proc.devRef .tc main_v3_6) = broadcastInDim S4096 ![] bcast_S_S4096 (constant (F := Ideal) S_ .f32 0x00000000#32) := by
      (simp only [entryContents, afterL_cons, afterL_nil]; after_reads_simp) <;> rfl
    have hz : broadcastInDim S4096 ![] bcast_S_S4096 (constant (F := Ideal) S_ .f32 0x00000000#32) (ix1 l) = (0 : EReal) :=
      Idealize.ShloMosaic.Ideal.ofBits_zero .f32
    rw [h5, h6, hz, lanes, Scan.ahead_zero]
  out r l h := absurd h (Nat.not_lt_zero _)

/-- A row read at the trip's row. -/
theorem row_read (x : S512x4096.Idx → EReal) (w : (⟨S_, .i32⟩ : BufTy).Contents (Elt Ideal)) (r : Fin 512)
    (hw : (w (Shape.Idx.first h_S_)).toInt = (r.val : ℤ)) (h h') (l : Fin 4096) :
    shapeCast S4096 (Host.dynamicSlice S1x4096 x (fun k => (((![w, constantI S_ 32 0#32] : Fin 2 → (⟨S_, .i32⟩ : BufTy).Contents (Elt Ideal))) k (Shape.Idx.first h_S_)).toInt) h) h' (ix1 l) = x (ix2 r l) := by
  have hk : S512x4096.Slices ![r.val, 0] S1x4096 := ⟨rfl, fun a => by
    match a with
    | ⟨0, _⟩ => show r.val + 1 ≤ 512; omega
    | ⟨1, _⟩ => exact le_rfl⟩
  rw [WordCmp.dynamicSlice_eq_extract S1x4096 x _ h ![r.val, 0] hk (fun a => by
    match a with
    | ⟨0, _⟩ => exact hw
    | ⟨1, _⟩ => exact (by decide : (0#32 : BitVec 32).toInt = 0))]
  refine (ValueIdx.shapeCast_1a_a_apply _ _ _).trans ?_
  refine congrArg x (funext fun a => Fin.ext ?_)
  match a with
  | ⟨0, _⟩ => show r.val + 0 = r.val; omega
  | ⟨1, _⟩ => show 0 + l.val = l.val; omega

/-- A row written at the trip's row. -/
theorem row_write (x : S512x4096.Idx → EReal) (u : S4096.Idx → EReal) (w : (⟨S_, .i32⟩ : BufTy).Contents (Elt Ideal))
    (b : Fin 512) (hw : (w (Shape.Idx.first h_S_)).toInt = (b.val : ℤ)) (h h') (r : Fin 512) (l : Fin 4096) :
    Host.dynamicUpdateSlice x (broadcastInDim S1x4096 ![1] h' u) (fun k => (((![w, constantI S_ 32 0#32] : Fin 2 → (⟨S_, .i32⟩ : BufTy).Contents (Elt Ideal))) k (Shape.Idx.first h_S_)).toInt) h (ix2 r l) = if r = b then u (ix1 l) else x (ix2 r l) := by
  have hk : S512x4096.Slices ![b.val, 0] S1x4096 := ⟨rfl, fun a => by
    match a with
    | ⟨0, _⟩ => show b.val + 1 ≤ 512; omega
    | ⟨1, _⟩ => exact le_rfl⟩
  rw [WordCmp.dynamicUpdateSlice_eq_update x _ _ h ![b.val, 0] hk (fun a => by
    match a with
    | ⟨0, _⟩ => exact hw
    | ⟨1, _⟩ => exact (by decide : (0#32 : BitVec 32).toInt = 0))]
  unfold updateSlice
  by_cases hr : r = b
  · subst hr
    rw [dif_pos (fun a => by
      match a with
      | ⟨0, _⟩ => exact ⟨le_rfl, Nat.lt_succ_self _⟩
      | ⟨1, _⟩ => exact ⟨Nat.zero_le _, by show l.val < 0 + 4096; omega⟩), if_pos rfl]
    refine congrArg u (funext fun a => Fin.ext ?_)
    match a with
    | ⟨0, _⟩ => rfl
  · rw [dif_neg (fun hh => hr (Fin.ext (by
      have h0 : b.val ≤ r.val ∧ r.val < b.val + 1 := hh 0
      omega))), if_neg hr]

section Trip

variable {m} {c : Dev nD} {k : ℕ} {V : Valuation τ sig (Elt Ideal)} (h : At m c k V) (l : Fin 4096)
include h

theorem row_trip (hk : k < 512) : ((V (Proc.devRef .tc main_v3_4)) (Shape.Idx.first h_S_)).toInt = ((Scan.rowUp k).val : ℤ) := by
  rw [h.ctr, Scan.rowUp_val hk]
  exact row_word k hk

theorem v6_apply : res_main_while0b_v6 V (ix1 l) = m ((c : Thread nD τ).loc main_arg2) (ix2 0 l) := by
  unfold res_main_while0b_v6
  rw [h.ar]
  exact ValueIdx.shapeCast_1a_a_apply _ _ _

theorem v7_apply : res_main_while0b_v7 V (ix1 l) = m ((c : Thread nD τ).loc main_arg3) (ix2 0 l) := by
  unfold res_main_while0b_v7
  rw [h.ai]
  exact ValueIdx.shapeCast_1a_a_apply _ _ _

theorem step5_apply (hk : k < 512) {a b p q d : EReal}
    (ha : m ((c : Thread nD τ).loc main_arg2) (ix2 0 l) = a) (hb : m ((c : Thread nD τ).loc main_arg3) (ix2 0 l) = b) (hp : V (Proc.devRef .tc main_v3_5) (ix1 l) = p) (hq : V (Proc.devRef .tc main_v3_6) (ix1 l) = q) (hd : m ((c : Thread nD τ).loc main_arg0) (ix2 (Scan.rowUp k) l) = d) :
    (step_main_v3_5 V (ix1 l) : EReal) = a * p - b * q + d := by
  have e := row_read (m ((c : Thread nD τ).loc main_arg0)) (V (Proc.devRef .tc main_v3_4)) _ (row_trip h hk) sliceFits_S512x4096_S1x4096 shapeCasts_S1x4096_S4096 l
  rw [← ha, ← hb, ← hd, ← hp, ← hq, ← v6_apply h l, ← v7_apply h l, ← e, ← h.xr]
  rfl

theorem step6_apply (hk : k < 512) {a b p q d : EReal}
    (ha : m ((c : Thread nD τ).loc main_arg2) (ix2 0 l) = a) (hb : m ((c : Thread nD τ).loc main_arg3) (ix2 0 l) = b) (hp : V (Proc.devRef .tc main_v3_5) (ix1 l) = p) (hq : V (Proc.devRef .tc main_v3_6) (ix1 l) = q) (hd : m ((c : Thread nD τ).loc main_arg1) (ix2 (Scan.rowUp k) l) = d) :
    (step_main_v3_6 V (ix1 l) : EReal) = a * q + b * p + d := by
  have e := row_read (m ((c : Thread nD τ).loc main_arg1)) (V (Proc.devRef .tc main_v3_4)) _ (row_trip h hk) sliceFits_S512x4096_S1x4096 shapeCasts_S1x4096_S4096 l
  rw [← ha, ← hb, ← hd, ← hp, ← hq, ← v6_apply h l, ← v7_apply h l, ← e, ← h.xi]
  rfl

theorem step7_apply (hk : k < 512) (r : Fin 512) : step_main_v3_7 V (ix2 r l)
    = if r = Scan.rowUp k then V (Proc.devRef .tc main_v3_5) (ix1 l) else V (Proc.devRef .tc main_v3_7) (ix2 r l) :=
  row_write _ _ _ _ (row_trip h hk) updateFits_S512x4096_S1x4096 bcast_S4096_S1x4096_1 r l

theorem step8_apply (hk : k < 512) (r : Fin 512) : step_main_v3_8 V (ix2 r l)
    = if r = Scan.rowUp k then V (Proc.devRef .tc main_v3_6) (ix1 l) else V (Proc.devRef .tc main_v3_8) (ix2 r l) :=
  row_write _ _ _ _ (row_trip h hk) updateFits_S512x4096_S1x4096 bcast_S4096_S1x4096_1 r l

end Trip

theorem at_succ (c : Dev nD) (k : ℕ) (hk : k < 512) (V : Valuation τ sig (Elt Ideal)) (h : At m c k V) : At m c (k + 1) (STEP V) where
  xr := (STEP_main_v3_0 V).trans h.xr
  xi := (STEP_main_v3_1 V).trans h.xi
  ar := (STEP_main_v3_2 V).trans h.ar
  ai := (STEP_main_v3_3 V).trans h.ai
  ctr := by
    rw [STEP_main_v3_4, step_main_v3_4, h.ctr]
    exact funext fun _ => WordCmp.addi_ofNat k 1
  carry l := by
    have hc := h.carry l
    rw [lanes] at hc ⊢
    rw [Scan.ahead_succ, ← hc, STEP_main_v3_5, STEP_main_v3_6]
    exact Prod.ext (step5_apply h l hk rfl rfl rfl rfl rfl) (step6_apply h l hk rfl rfl rfl rfl rfl)
  out r l hr := by
    have hc := h.carry l
    rw [STEP_main_v3_7, STEP_main_v3_8, step7_apply h l hk, step8_apply h l hk]
    constructor
    all_goals
      by_cases e : r = Scan.rowUp k
      · subst e
        rw [if_pos rfl, Scan.rowUp_val hk, ← hc]
      · rw [if_neg e]
        have : r.val ≠ k := fun h => e (Fin.ext (h.trans (Scan.rowUp_val hk).symm))
        first
        | exact (h.out r l (by omega)).1
        | exact (h.out r l (by omega)).2

theorem at_all (c : Dev nD) : ∀ k : ℕ, k ≤ 512 → At m c k (STEP^[k] (entryContents preI m c))
  | 0, _ => at_zero m c
  | k + 1, hk => by
    rw [Function.iterate_succ_apply']
    exact at_succ m c k hk _ (at_all c k (by omega))

/-- The two results, row by row. -/
theorem rows (c : Dev nD) (V : Valuation τ sig (Elt Ideal)) (h : At m c 512 V) :
    V (Proc.devRef .tc main_v3_7) = (fun Y : S512x4096.Idx => (lanes m c (Y 1) (Y 0).val).1)
      ∧ V (Proc.devRef .tc main_v3_8) = (fun Y : S512x4096.Idx => (lanes m c (Y 1) (Y 0).val).2) := by
  constructor <;> funext Y <;> obtain ⟨r, l, rfl⟩ : ∃ (r : Fin 512) (l : Fin 4096), Y = ix2 r l := ⟨_, _, eq_ix2 Y⟩
  · exact (h.out r l r.isLt).1
  · exact (h.out r l r.isLt).2

end Cert.Reference2Ideal.ScanValue
-- ==== Proof.ScanFwd.lean ====
/-
  The two claims about the values of the forward scan: the reference's frame, and the equality of the kernel's two
  results with the reference's.
-/
module

public import proofs.«01_k».proof.Proof.ScanFwdKernel
public import proofs.«01_k».proof.Proof.ScanFwdReference
public import proofs.«01_k».proof.Defs

@[expose] public section

noncomputable section

namespace Cert.Proof.ScanFwd

open Idealize.ShloMosaic Idealize.SL.Sem

/-- The reference runs to its end, keeps its arguments and leaves the counters at zero. -/
theorem frame_reference : Cert.quiescent_Reference2Ideal := fun m ρ _ =>
  (θ_run _ _ _).mono (fun r h => ⟨fun c => (h c).2.2, Idealize.ShloMosaic.sem_eq_zero_of_no_sems (by decide) r.2⟩)
    (Cert.Reference2Ideal.Value.run (F := Ideal) m ρ)

/-- Equal arguments give equal lanes on the two sides. -/
theorem lanes_eq (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) (c : Dev Cert.Kernel2Ideal.nD)
    (h0 : m' (c.tc.loc Cert.Reference2Ideal.main_arg0) = m (c.tc.loc Cert.Kernel2Ideal.main_arg0))
    (h1 : m' (c.tc.loc Cert.Reference2Ideal.main_arg1) = m (c.tc.loc Cert.Kernel2Ideal.main_arg1))
    (h2 : m' (c.tc.loc Cert.Reference2Ideal.main_arg2) = m (c.tc.loc Cert.Kernel2Ideal.main_arg2))
    (h3 : m' (c.tc.loc Cert.Reference2Ideal.main_arg3) = m (c.tc.loc Cert.Kernel2Ideal.main_arg3)) (l : Fin 4096) (k : ℕ) :
    Cert.Reference2Ideal.ScanValue.lanes m' c l k = Cert.Kernel2Ideal.ScanValue.lanes m c l k := by
  unfold Cert.Reference2Ideal.ScanValue.lanes Cert.Kernel2Ideal.ScanValue.lanes
  rw [h0, h1, h2, h3]

/-- The kernel's two results are the reference's. -/
theorem algebraic : Cert.algebraic_Kernel2Ideal_Reference2Ideal := fun m g m' g' _ hm => by
  have hl := fun c => lanes_eq m m' c (hm c).1 (hm c).2.1 (hm c).2.2.1 (hm c).2.2.2
  have hv := fun c => Cert.Reference2Ideal.ScanValue.at_all m' c 512 le_rfl
  refine ⟨fun c => (Cert.Kernel2Ideal.Gen.dats m 0 c).arrAt 4 Cert.Kernel2Ideal.cfg0.N,
    fun c => (Cert.Kernel2Ideal.Gen.dats m 0 c).arrAt 5 Cert.Kernel2Ideal.cfg0.N,
    Cert.Kernel2Ideal.Value.run_blocks (F := Ideal) m g, ?_⟩
  refine (θ_run _ _ _).mono (fun r h c => ⟨(h c).1.trans ?_, (h c).2.1.trans ?_, (h c).2.2⟩)
    (Cert.Reference2Ideal.Value.run (F := Ideal) m' g')
  · rw [(Cert.Reference2Ideal.ScanValue.rows m' c _ (hv c)).1]
    refine Eq.trans ?_ (Cert.Kernel2Ideal.ScanValue.arr4 m c).symm
    exact funext fun Y => congrArg Prod.fst (hl c (Y 1) (Y 0).val)
  · rw [(Cert.Reference2Ideal.ScanValue.rows m' c _ (hv c)).2]
    refine Eq.trans ?_ (Cert.Kernel2Ideal.ScanValue.arr5 m c).symm
    exact funext fun Y => congrArg Prod.snd (hl c (Y 1) (Y 0).val)

end Cert.Proof.ScanFwd
-- ==== Proof.InprojMath.lean ====
/-
  One row of the gradient of `(x / √(mean x² + ε)) · n` followed by a product, on the extended reals: the kernel's form of
  the row's gradient equals the form that differentiating the normalisation gives, for every input.
-/
module

public import Idealize.ShloMosaic.Lib.Pointwise

@[expose] public section

noncomputable section

namespace Cert.Proof.Inproj

open Idealize.ShloMosaic

/-- Mean of the squares plus the small constant. -/
def var (x : Fin 1024 → EReal) : EReal :=
  Ideal.div (∑ k, x k * x k) (Ideal.ofBits .f32 0x44800000#32) + Ideal.ofBits .f32 0x3727C5AC#32

def rstd (x : Fin 1024 → EReal) : EReal := Ideal.rsqrt (var x)

/-- The kernel's row: `r · (g n − x r · mean (g n · x r)) + e`. -/
def dxKernel (x n g : Fin 1024 → EReal) (e : EReal) (l : Fin 1024) : EReal :=
  rstd x * (g l * n l - x l * rstd x * Ideal.div (∑ k, g k * n k * (x k * rstd x)) (Ideal.ofBits .f32 0x44800000#32)) + e

/-- What the gradient of `v ↦ 1/√v` carries back, for the row. -/
def back (x n g : Fin 1024 → EReal) : EReal :=
  Ideal.div ((∑ k, x k * (g k * n k)) * (Ideal.ofBits .f32 0xBF000000#32 * Ideal.div (rstd x) (var x)))
    (Ideal.ofBits .f32 0x44800000#32)

/-- The reference's row. -/
def dxReference (x n g : Fin 1024 → EReal) (e : EReal) (l : Fin 1024) : EReal :=
  e + g l * n l * rstd x + x l * back x n g + back x n g * x l

theorem c1024 : Ideal.ofBits .f32 0x44800000#32 = ((1024 : ℝ) : EReal) := by
  simp [Ideal.ofBits, Ideal.ieee]; rw [← EReal.coe_mul]; norm_num

theorem cHalf : Ideal.ofBits .f32 0xBF000000#32 = ((-(1 / 2) : ℝ) : EReal) := by
  simp [Ideal.ofBits, Ideal.ieee]; rw [← EReal.coe_mul]; norm_num

theorem cEps : ∃ ε : ℝ, 0 < ε ∧ Ideal.ofBits .f32 0x3727C5AC#32 = (ε : EReal) := by
  refine ⟨_, ?_, by simp [Ideal.ofBits, Ideal.ieee]; rfl⟩
  positivity

theorem mul_sum_real {ι : Type} (s : Finset ι) (f : ι → EReal) (r : ℝ) (hr : 0 ≤ r) :
    ∑ k ∈ s, f k * (r : EReal) = (∑ k ∈ s, f k) * (r : EReal) := by
  classical
  induction s using Finset.induction_on with
  | empty => simp
  | insert a s ha ih =>
    rw [Finset.sum_insert ha, Finset.sum_insert ha, ih, mul_comm (_ + _), mul_comm (f a), mul_comm (∑ k ∈ s, f k),
      EReal.left_distrib_of_nonneg_of_ne_top (by exact_mod_cast hr) (EReal.coe_ne_top r)]

theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

theorem self_add (z : EReal) : z + z = z * ((2 : ℝ) : EReal) := by
  induction z using EReal.rec with
  | bot => rw [EReal.bot_mul_coe_of_pos (by norm_num)]; rfl
  | top => rw [EReal.top_mul_coe_of_pos (by norm_num)]; rfl
  | coe r => norm_cast; ring

theorem sq_nonneg' (a : EReal) : 0 ≤ a * a := by
  induction a using EReal.rec with
  | bot => simp
  | top => simp
  | coe r => norm_cast; exact mul_self_nonneg r

/-- An infinite entry makes the row's sum of squares infinite. -/
theorem sum_top (x : Fin 1024 → EReal) (k : Fin 1024) (h : x k * x k = ⊤) : ∑ k, x k * x k = ⊤ := by
  refine top_le_iff.mp (h ▸ ?_)
  exact Finset.single_le_sum (f := fun k => x k * x k) (fun i _ => sq_nonneg' (x i)) (Finset.mem_univ k)

/-- Either the row's variance is `⊤`, or the row is real and its variance a positive real. -/
theorem var_cases (x : Fin 1024 → EReal) :
    var x = ⊤ ∨ ∃ (y : Fin 1024 → ℝ) (v : ℝ), (∀ k, x k = (y k : EReal)) ∧ 0 < v ∧ var x = (v : EReal) := by
  obtain ⟨ε, hε, he⟩ := cEps
  by_cases h : ∃ k, x k * x k = ⊤
  · obtain ⟨k, hk⟩ := h
    left
    rw [var, sum_top x k hk, c1024, Ideal.div_coe (by norm_num), EReal.top_mul_coe_of_pos (by norm_num), he]
    rfl
  · right
    have hx : ∀ k, ∃ r : ℝ, x k = (r : EReal) := fun k => by
      have := fun e => h ⟨k, e⟩
      generalize x k = a at this
      induction a using EReal.rec with
      | bot => exact absurd (by simp) this
      | top => exact absurd (by simp) this
      | coe r => exact ⟨r, rfl⟩
    choose y hy using hx
    have h0 : 0 ≤ ∑ k, y k * y k := Finset.sum_nonneg fun k _ => mul_self_nonneg (y k)
    refine ⟨y, (∑ k, y k * y k) * (1 / 1024) + ε, hy, by positivity, ?_⟩
    rw [var, c1024, Ideal.div_coe (by norm_num), he, EReal.coe_add, EReal.coe_mul, coe_sum]
    simp only [hy, EReal.coe_mul]

/-- The two forms of the row agree, whatever the entries. -/
theorem dx_eq (x n g : Fin 1024 → EReal) (e : EReal) (l : Fin 1024) : dxKernel x n g e l = dxReference x n g e l := by
  rcases var_cases x with hv | ⟨y, v, hy, hv0, hv⟩
  · have hr : rstd x = 0 := by rw [rstd, hv]; rfl
    have hb : back x n g = 0 := by
      rw [back, hr, hv, c1024, Ideal.div_coe (by norm_num), Ideal.div]
      simp
    rw [dxKernel, dxReference, hb, hr]
    simp
  · have hr : rstd x = (((Real.sqrt v)⁻¹ : ℝ) : EReal) := by
      rw [rstd, hv, Ideal.rsqrt_coe, if_neg hv0.le.not_gt, if_neg hv0.ne']
    have hs : (Real.sqrt v)⁻¹ * (Real.sqrt v)⁻¹ = 1 / v := by
      rw [← mul_inv, Real.mul_self_sqrt hv0.le, one_div]
    have hρ : 0 < (Real.sqrt v)⁻¹ := inv_pos.mpr (Real.sqrt_pos.mpr hv0)
    generalize (Real.sqrt v)⁻¹ = ρ at hr hs hρ
    rw [dxKernel, dxReference, back, hr, hv, c1024, cHalf, Ideal.div_coe (by norm_num), Ideal.div_coe (by norm_num),
      Ideal.div_coe hv0.ne']
    have hT : ∑ k, g k * n k * (x k * (ρ : EReal)) = (∑ k, x k * (g k * n k)) * (ρ : EReal) := by
      rw [← mul_sum_real _ _ _ hρ.le]
      exact Finset.sum_congr rfl fun k _ => by rw [← mul_assoc, mul_comm (g k * n k)]
    rw [hT, hy l]
    generalize (∑ k, x k * (g k * n k)) = T
    generalize g l * n l = G
    have hα : ((y l : ℝ) : EReal) * (T * (((-(1 / 2) : ℝ) : EReal) * ((ρ : EReal) * ((1 / v : ℝ) : EReal))) * ((1 / 1024 : ℝ) : EReal))
        = T * ((y l * (-(1 / 2) * (ρ * (1 / v))) * (1 / 1024) : ℝ) : EReal) := by
      push_cast
      ac_rfl
    have hβ : (ρ : EReal) * (((y l : ℝ) : EReal) * (ρ : EReal) * (T * (ρ : EReal) * ((1 / 1024 : ℝ) : EReal)))
        = T * ((ρ * (y l * ρ * (ρ * (1 / 1024))) : ℝ) : EReal) := by
      push_cast
      ac_rfl
    rw [mul_comm (T * _ * _) ((y l : ℝ) : EReal), hα, sub_eq_add_neg,
      EReal.left_distrib_of_nonneg_of_ne_top (by exact_mod_cast hρ.le) (EReal.coe_ne_top ρ), mul_neg, hβ, add_assoc (e + _),
      self_add, mul_assoc T, ← EReal.coe_mul, ← mul_neg, ← EReal.coe_neg, add_comm _ e, ← add_assoc, mul_comm (ρ : EReal) G]
    congr 3
    rw [show y l * ρ * (ρ * (1 / 1024)) = y l * (ρ * ρ) * (1 / 1024) by ring, hs]
    ring

/-! ## The whole arrays -/

/-- Row `r` of block `k` of 512 rows. -/
def row (k : ℕ) (r : Fin 512) : Fin 8192 := ⟨(k * 512 + r.val) % 8192, Nat.mod_lt _ (by norm_num)⟩

theorem row_val {k : ℕ} (hk : k < 16) (r : Fin 512) : (row k r).val = k * 512 + r.val := by
  have := r.isLt
  exact Nat.mod_eq_of_lt (by omega)

/-- The sixteen blocks of rows are all rows. -/
theorem sum_rows (f : Fin 8192 → EReal) : ∑ k ∈ Finset.range 16, ∑ r : Fin 512, f (row k r) = ∑ r, f r := by
  rw [Finset.sum_range, ← Fintype.sum_prod_type' (f := fun (k : Fin 16) (r : Fin 512) => f (row k.val r))]
  refine Fintype.sum_equiv (finProdFinEquiv (m := 16) (n := 512)) _ _ fun p => ?_
  refine congrArg f (Fin.ext ?_)
  rw [row_val p.1.isLt]
  show p.1.val * 512 + p.2.val = p.2.val + 512 * p.1.val
  omega

/-- Two pieces side by side. -/
def pieces2 (a b : Fin 1024 → EReal) (l : Fin 2048) : EReal :=
  if h : l.val < 1024 then a ⟨l.val, h⟩ else b ⟨l.val - 1024, by have := l.isLt; omega⟩

/-- Four pieces side by side. -/
def pieces4 (a : Fin 1024 → EReal) (b c : Fin 128 → EReal) (d : Fin 1024 → EReal) (l : Fin 2304) : EReal :=
  if h : l.val < 1024 then a ⟨l.val, h⟩
  else if h : l.val - 1024 < 128 then b ⟨l.val - 1024, h⟩
  else if h : l.val - 1024 - 128 < 128 then c ⟨l.val - 1024 - 128, h⟩
  else d ⟨l.val - 1024 - 128 - 128, by have := l.isLt; omega⟩

/-- One row of the gradient of the normed row: the product with the transposed weight. -/
def dh {n : ℕ} (d : Fin n → EReal) (w : Fin 1024 → Fin n → EReal) (l : Fin 1024) : EReal := ∑ q, d q * w l q

/-- The normed row before the scale. -/
def xhat (x : Fin 1024 → EReal) (l : Fin 1024) : EReal := x l * rstd x

/-- A row times the scale. -/
def scaled (s g : Fin 1024 → EReal) (l : Fin 1024) : EReal := g l * s l

/-- The weight's gradient after a block of rows, from what it was before. -/
def stepW {n : ℕ} (o : EReal) (x : Fin 512 → Fin 1024 → EReal) (s : Fin 1024 → EReal) (d : Fin 512 → Fin n → EReal)
    (k : Fin 1024) (q : Fin n) : EReal := o + ∑ r, x r k * rstd (x r) * s k * d r q

/-- The scale's gradient after a block of rows, from what it was before. -/
def stepN {n : ℕ} (o : EReal) (x : Fin 512 → Fin 1024 → EReal) (w : Fin 1024 → Fin n → EReal) (d : Fin 512 → Fin n → EReal)
    (l : Fin 1024) : EReal := o + ∑ r, dh (d r) w l * (x r l * rstd (x r))

variable {n : ℕ} (X : Fin 8192 → Fin 1024 → EReal) (N : Fin 1024 → EReal) (W : Fin 1024 → Fin n → EReal)
  (D : Fin 8192 → Fin n → EReal) (E : Fin 8192 → Fin 1024 → EReal)

/-- The gradient of the input. -/
def gradX (r : Fin 8192) (l : Fin 1024) : EReal := dxKernel (X r) N (dh (D r) W) (E r l) l

/-- The gradient of the weight. -/
def gradW (k : Fin 1024) (q : Fin n) : EReal := ∑ r, X r k * rstd (X r) * N k * D r q

/-- The gradient of the norm's scale. -/
def gradN (l : Fin 1024) : EReal := ∑ r, dh (D r) W l * (X r l * rstd (X r))

end Cert.Proof.Inproj
-- ==== Proof.InprojKernel.lean ====
/-
  The values of the projection's gradient kernel (a state-space layer): its three results are `Inproj.gradX`,
  `Inproj.gradW` and `Inproj.gradN` of the arguments.
-/
module

public import proofs.«01_k».proof.Proof.Gen.Kernel3Ideal.Value
public import proofs.«01_k».proof.Proof.InprojMath
public import Idealize.ShloMosaic.Lib.Pipeline.ValueKit
public import Idealize.ShloMosaic.Lib.Pointwise

@[expose] public section

set_option maxRecDepth 16384

noncomputable section

namespace Cert.Kernel3Ideal.InprojValue

open Cert.Kernel3Ideal Cert.Kernel3Ideal.Gen Idealize.ShloMosaic Idealize.ShloMosaic.TcCoe Idealize.SL.Sem Cert.Proof

variable (m : (ℓ : Loc nD τ sig) → Buf (Elt Ideal) ℓ)

theorem pay5_apply (x : Vec Ideal S512x1024 .f32) (r : Fin 512) : k0_pay5 x (ix2 r 0) = Inproj.rstd fun k => x (ix2 r k) := by
  pointwise [k0_pay5]
  rfl

theorem pay6_apply (x : Vec Ideal S512x1024 .f32) (r : Fin 512) (l : Fin 1024) :
    k0_pay6 x (ix2 r l) = Inproj.xhat (fun k => x (ix2 r k)) l := by
  pointwise [k0_pay6]
  rw [pay5_apply]
  rfl

theorem pay7_apply (d0 : Vec Ideal S512x1024 .f32) (d1 : Vec Ideal S512x1024 .bf16) (r : Fin 512) (q : Fin 2048) :
    k0_pay7 d0 d1 (ix2 r q) = Inproj.pieces2 (fun k => d0 (ix2 r k)) (fun k => d1 (ix2 r k)) q := by
  pointwise [k0_pay7]
  rfl

theorem pay8_apply (d0 : Vec Ideal S512x1024 .f32) (d1 : Vec Ideal S512x1024 .bf16) (w : Vec Ideal S1024x2048 .bf16)
    (r : Fin 512) (l : Fin 1024) :
    k0_pay8 d0 d1 w (ix2 r l)
      = Inproj.dh (Inproj.pieces2 (fun k => d0 (ix2 r k)) fun k => d1 (ix2 r k)) (fun k q => w (ix2 k q)) l := by
  pointwise [k0_pay8]
  simp only [pay7_apply]
  rfl

/-- The block of the input's gradient. -/
theorem dx_apply (x : Vec Ideal S512x1024 .f32) (n : Vec Ideal S1x1024 .f32) (w : Vec Ideal S1024x2048 .bf16)
    (e d0 : Vec Ideal S512x1024 .f32) (d1 : Vec Ideal S512x1024 .bf16) (r : Fin 512) (l : Fin 1024) :
    k0_pay2 (k0_pay5 x) (k0_pay6 x) (k0_pay8 d0 d1 w) n e (ix2 r l)
      = Inproj.dxKernel (fun k => x (ix2 r k)) (fun k => n (ix2 0 k))
          (Inproj.dh (Inproj.pieces2 (fun k => d0 (ix2 r k)) fun k => d1 (ix2 r k)) fun k q => w (ix2 k q)) (e (ix2 r l)) l := by
  pointwise [k0_pay2]
  simp only [pay5_apply, pay6_apply, pay8_apply]
  rfl

/-- What one block of rows adds to the weight's gradient. -/
theorem dw_apply (x : Vec Ideal S512x1024 .f32) (n : Vec Ideal S1x1024 .f32)
    (d0 : Vec Ideal S512x1024 .f32) (d1 : Vec Ideal S512x1024 .bf16) (o : Vec Ideal S1024x2048 .f32) (k : Fin 1024) (q : Fin 2048) :
    k0_pay9 x n d0 d1 o (ix2 k q)
      = Inproj.stepW (o (ix2 k q)) (fun r k => x (ix2 r k)) (fun k => n (ix2 0 k))
          (fun r => Inproj.pieces2 (fun k => d0 (ix2 r k)) fun k => d1 (ix2 r k)) k q := by
  pointwise [k0_pay9]
  simp only [pay6_apply, pay7_apply]
  rfl

/-- What one block of rows adds to the scale's gradient. -/
theorem dn_apply (x : Vec Ideal S512x1024 .f32) (w : Vec Ideal S1024x2048 .bf16)
    (d0 : Vec Ideal S512x1024 .f32) (d1 : Vec Ideal S512x1024 .bf16) (o : Vec Ideal S1x1024 .f32) (l : Fin 1024) :
    k0_pay1 (k0_pay6 x) (k0_pay8 d0 d1 w) (k0_pay10 o) (ix2 0 l)
      = Inproj.stepN (o (ix2 0 l)) (fun r k => x (ix2 r k)) (fun k q => w (ix2 k q))
          (fun r => Inproj.pieces2 (fun k => d0 (ix2 r k)) fun k => d1 (ix2 r k)) l := by
  pointwise [k0_pay1, k0_pay10]
  simp only [pay6_apply, pay8_apply]
  rfl

theorem pay3_apply (j) : k0_pay3 (F := Ideal) j = 0 := Ideal.ofBits_zero_f32
theorem pay4_apply (j) : k0_pay4 (F := Ideal) j = 0 := Ideal.ofBits_zero_f32

/-! ## The arguments and their blocks -/

def X (c : Dev nD) (r : Fin 8192) (k : Fin 1024) : EReal := m ((c : Thread nD τ).loc main_arg0) (ix2 r k)
def N (c : Dev nD) (k : Fin 1024) : EReal := m ((c : Thread nD τ).loc main_arg1) (ix1 k)
def W (c : Dev nD) (k : Fin 1024) (q : Fin 2048) : EReal := m ((c : Thread nD τ).loc main_arg2) (ix2 k q)
def D0 (c : Dev nD) (r : Fin 8192) (k : Fin 1024) : EReal := m ((c : Thread nD τ).loc main_arg3) (ix2 r k)
def D1 (c : Dev nD) (r : Fin 8192) (k : Fin 1024) : EReal := m ((c : Thread nD τ).loc main_arg4) (ix2 r k)
def E (c : Dev nD) (r : Fin 8192) (k : Fin 1024) : EReal := m ((c : Thread nD τ).loc main_arg5) (ix2 r k)
def D (c : Dev nD) (r : Fin 8192) : Fin 2048 → EReal := Inproj.pieces2 (D0 m c r) (D1 m c r)

theorem idx0 : ∀ t : Fin grid0.N, win0_0.index t 0 = t.val ∧ win0_0.index t 1 = 0 := by decide +kernel
theorem idx1 : ∀ t : Fin grid0.N, win0_1.index t 0 = 0 ∧ win0_1.index t 1 = 0 := by decide +kernel
theorem idx2 : ∀ t : Fin grid0.N, win0_2.index t 0 = 0 ∧ win0_2.index t 1 = 0 := by decide +kernel
theorem idx3 : ∀ t : Fin grid0.N, win0_3.index t 0 = t.val ∧ win0_3.index t 1 = 0 := by decide +kernel
theorem idx4 : ∀ t : Fin grid0.N, win0_4.index t 0 = t.val ∧ win0_4.index t 1 = 0 := by decide +kernel
theorem idx5 : ∀ t : Fin grid0.N, win0_5.index t 0 = t.val ∧ win0_5.index t 1 = 0 := by decide +kernel
theorem idx6 : ∀ t : Fin grid0.N, win0_6.index t 0 = t.val ∧ win0_6.index t 1 = 0 := by decide +kernel

theorem rv (t : Fin cfg0.N) (r : Fin 512) : (Inproj.row t.val r).val = t.val * 512 + r.val :=
  Inproj.row_val (by have := t.isLt; have : cfg0.N = 16 := N_0; omega) r

theorem b0 (c : Dev nD) (t : Fin cfg0.N) (r : Fin 512) (l : Fin 1024) : iblk m c 0 t (ix2 r l) = X m c (Inproj.row t.val r) l := by
  unfold X
  blk_point [iblk, rv, (idx0 t).1, (idx0 t).2]
theorem b1 (c : Dev nD) (t : Fin cfg0.N) (l : Fin 1024) : iblk m c 1 t (ix2 0 l) = N m c l := by
  unfold N
  blk_point [iblk, (idx1 t).1, (idx1 t).2]
theorem b2 (c : Dev nD) (t : Fin cfg0.N) (k : Fin 1024) (q : Fin 2048) : iblk m c 2 t (ix2 k q) = W m c k q := by
  unfold W
  blk_point [iblk, (idx2 t).1, (idx2 t).2]
theorem b3 (c : Dev nD) (t : Fin cfg0.N) (r : Fin 512) (l : Fin 1024) : iblk m c 3 t (ix2 r l) = E m c (Inproj.row t.val r) l := by
  unfold E
  blk_point [iblk, rv, (idx3 t).1, (idx3 t).2]
theorem b4 (c : Dev nD) (t : Fin cfg0.N) (r : Fin 512) (l : Fin 1024) : iblk m c 4 t (ix2 r l) = D0 m c (Inproj.row t.val r) l := by
  unfold D0
  blk_point [iblk, rv, (idx4 t).1, (idx4 t).2]
theorem b5 (c : Dev nD) (t : Fin cfg0.N) (r : Fin 512) (l : Fin 1024) : iblk m c 5 t (ix2 r l) = D1 m c (Inproj.row t.val r) l := by
  unfold D1
  blk_point [iblk, rv, (idx5 t).1, (idx5 t).2]

/-! ## The buffers after a point -/

theorem outs_A (c : Dev nD) (t : Fin cfg0.N) (h : t.val % 16 = 0) :
    outsAt0 m c t.val t.isLt
      = (k0_pay2 (F := Ideal) (k0_pay5 (iblk m c 0 t)) (k0_pay6 (iblk m c 0 t)) (k0_pay8 (iblk m c 4 t) (iblk m c 5 t) (iblk m c 2 t))
          (iblk m c 1 t) (iblk m c 3 t),
        k0_pay9 (iblk m c 0 t) (iblk m c 1 t) (iblk m c 4 t) (iblk m c 5 t) (k0_pay3 (F := Ideal)),
        k0_pay1 (k0_pay6 (iblk m c 0 t)) (k0_pay8 (iblk m c 4 t) (iblk m c 5 t) (iblk m c 2 t)) (k0_pay10 (k0_pay4 (F := Ideal)))) := by
  rw [outsAt0_A m c t h]
  refine Prod.ext ?_ (Prod.ext ?_ ?_) <;> dsimp only <;> frame_out

theorem outs_B (c : Dev nD) (t : Fin cfg0.N) (h : ¬t.val % 16 = 0) :
    outsAt0 m c t.val t.isLt
      = (k0_pay2 (F := Ideal) (k0_pay5 (iblk m c 0 t)) (k0_pay6 (iblk m c 0 t)) (k0_pay8 (iblk m c 4 t) (iblk m c 5 t) (iblk m c 2 t))
          (iblk m c 1 t) (iblk m c 3 t),
        k0_pay9 (iblk m c 0 t) (iblk m c 1 t) (iblk m c 4 t) (iblk m c 5 t)
          (outsAt0 m c (t.val - 1) (Nat.lt_of_le_of_lt (Nat.sub_le _ _) t.isLt)).2.1,
        k0_pay1 (k0_pay6 (iblk m c 0 t)) (k0_pay8 (iblk m c 4 t) (iblk m c 5 t) (iblk m c 2 t))
          (k0_pay10 (outsAt0 m c (t.val - 1) (Nat.lt_of_le_of_lt (Nat.sub_le _ _) t.isLt)).2.2)) := by
  rw [outsAt0_B m c t h]
  refine Prod.ext ?_ (Prod.ext ?_ ?_) <;> dsimp only <;> frame_out

theorem dx_at (c : Dev nD) (t : Fin cfg0.N) (r : Fin 512) (l : Fin 1024) :
    (outsAt0 m c t.val t.isLt).1 (ix2 r l) = Inproj.gradX (X m c) (N m c) (W m c) (D m c) (E m c) (Inproj.row t.val r) l := by
  have e : (outsAt0 m c t.val t.isLt).1 = k0_pay2 (F := Ideal) (k0_pay5 (iblk m c 0 t)) (k0_pay6 (iblk m c 0 t))
      (k0_pay8 (iblk m c 4 t) (iblk m c 5 t) (iblk m c 2 t)) (iblk m c 1 t) (iblk m c 3 t) := by
    by_cases h : t.val % 16 = 0
    · rw [outs_A m c t h]
    · rw [outs_B m c t h]
  rw [e, dx_apply]
  simp only [b0, b1, b2, b3, b4, b5]
  rfl

theorem dw_at (c : Dev nD) (t : Fin cfg0.N) (j : S1024x2048.Idx) :
    (outsAt0 m c t.val t.isLt).2.1 j = (0 : EReal) + ∑ p ∈ Finset.range (t.val + 1), ∑ r : Fin 512,
      X m c (Inproj.row p r) (j 0) * Inproj.rstd (X m c (Inproj.row p r)) * N m c (j 0) * D m c (Inproj.row p r) (j 1) := by
  refine Pipeline.eq_sum_of_reset_step_apply_single (M := EReal) (fun n h => (outsAt0 m c n h).2.1) 16 (fun _ => (0 : EReal))
    (fun p (j : S1024x2048.Idx) => ∑ r : Fin 512,
      X m c (Inproj.row p r) (j 0) * Inproj.rstd (X m c (Inproj.row p r)) * N m c (j 0) * D m c (Inproj.row p r) (j 1))
    (fun t h j => ?_) (fun t h j => ?_) (by rw [show cfg0.N = 16 from N_0]) t j
  · obtain ⟨k, q, rfl⟩ : ∃ k q, j = ix2 k q := ⟨_, _, eq_ix2 j⟩
    rw [outs_A m c t h]
    dsimp only
    rw [dw_apply, pay3_apply]
    simp only [b0, b1, b4, b5]
    rfl
  · obtain ⟨k, q, rfl⟩ : ∃ k q, j = ix2 k q := ⟨_, _, eq_ix2 j⟩
    rw [outs_B m c t h]
    dsimp only
    rw [dw_apply]
    simp only [b0, b1, b4, b5]
    rfl

theorem dn_at (c : Dev nD) (t : Fin cfg0.N) (j : S1x1024.Idx) :
    (outsAt0 m c t.val t.isLt).2.2 j = (0 : EReal) + ∑ p ∈ Finset.range (t.val + 1), ∑ r : Fin 512,
      Inproj.dh (D m c (Inproj.row p r)) (W m c) (j 1) * (X m c (Inproj.row p r) (j 1) * Inproj.rstd (X m c (Inproj.row p r))) := by
  refine Pipeline.eq_sum_of_reset_step_apply_single (M := EReal) (fun n h => (outsAt0 m c n h).2.2) 16 (fun _ => (0 : EReal))
    (fun p (j : S1x1024.Idx) => ∑ r : Fin 512,
      Inproj.dh (D m c (Inproj.row p r)) (W m c) (j 1) * (X m c (Inproj.row p r) (j 1) * Inproj.rstd (X m c (Inproj.row p r))))
    (fun t h j => ?_) (fun t h j => ?_) (by rw [show cfg0.N = 16 from N_0]) t j
  · obtain ⟨k, l, rfl⟩ : ∃ k l, j = ix2 k l := ⟨_, _, eq_ix2 j⟩
    obtain rfl : k = 0 := Subsingleton.elim _ _
    rw [outs_A m c t h]
    dsimp only
    rw [dn_apply, pay4_apply]
    simp only [b0, b2, b4, b5]
    rfl
  · obtain ⟨k, l, rfl⟩ : ∃ k l, j = ix2 k l := ⟨_, _, eq_ix2 j⟩
    obtain rfl : k = 0 := Subsingleton.elim _ _
    rw [outs_B m c t h]
    dsimp only
    rw [dn_apply]
    simp only [b0, b2, b4, b5]
    rfl

/-! ## The results -/

theorem final_dx (c : Dev nD) : (dats m 0 c).arrAt 6 cfg0.N
    = fun j : S8192x1024.Idx => Inproj.gradX (X m c) (N m c) (W m c) (D m c) (E m c) (j 0) (j 1) := by
  refine (dats m 0 c).arrAt_eq_of_covers 6 _ (by decide +kernel) fun t hf y => ?_
  blk_simp
  rw [after0_6]
  obtain ⟨r, l, rfl⟩ : ∃ r l, y = ix2 r l := ⟨_, _, eq_ix2 y⟩
  rw [dx_at]
  congr 1
  · refine Fin.ext ?_
    rw [rv]
    blk_simp [(idx6 t).1]
  · refine Fin.ext ?_
    blk_simp [(idx6 t).2]

theorem final_dw (c : Dev nD) : (dats m 0 c).arrAt 7 cfg0.N
    = fun j : S1024x2048.Idx => Inproj.gradW (X m c) (N m c) (D m c) (j 0) (j 1) := by
  refine (dats m 0 c).arrAt_eq_of_after_last 7 t0_15 (by decide +kernel) _ fun j => ?_
  blk_simp
  rw [after0_7, dw_at, zero_add]
  exact Inproj.sum_rows fun r => X m c r (j 0) * Inproj.rstd (X m c r) * N m c (j 0) * D m c r (j 1)

theorem final_dn (c : Dev nD) : (dats m 0 c).arrAt 8 cfg0.N
    = fun j : S1x1024.Idx => Inproj.gradN (X m c) (W m c) (D m c) (j 1) := by
  refine (dats m 0 c).arrAt_eq_of_after_last 8 t0_15 (by decide +kernel) _ fun j => ?_
  blk_simp
  rw [after0_8, dn_at, zero_add]
  exact Inproj.sum_rows fun r => Inproj.dh (D m c r) (W m c) (j 1) * (X m c r (j 1) * Inproj.rstd (X m c r))

end Cert.Kernel3Ideal.InprojValue

end
-- ==== Proof.InprojReference.lean ====
/-
  The values of the projection's gradient reference (a state-space layer): its three results are the rows that differentiating
  the normed product gives, of the arguments.
-/
module

public import proofs.«01_k».proof.Proof.Gen.Reference3Ideal.Read
public import proofs.«01_k».proof.Proof.InprojMath
public import Idealize.ShloMosaic.Lib.Pointwise

@[expose] public section

set_option maxRecDepth 16384

noncomputable section

namespace Cert.Reference3Ideal.InprojValue

open Cert.Reference3Ideal Cert.Reference3Ideal.Gen Idealize.ShloMosaic Idealize.ShloMosaic.TcCoe Idealize.SL.Sem Cert.Proof
open Cert.Reference3Ideal.Read

abbrev Mat (a b : ℕ) := (⟨⟨2, ![a, b]⟩, .f32⟩ : BufTy).Contents (Elt Ideal)
abbrev Col (a : ℕ) := (⟨⟨1, ![a]⟩, .f32⟩ : BufTy).Contents (Elt Ideal)

variable (x : Mat 8192 1024) (n : Col 1024) (w : Mat 1024 2048) (d0 d1 e : Mat 8192 1024)

theorem var_apply (r : Fin 8192) : val_main_v6 (F := Ideal) x (ix2 r 0) = Inproj.var fun k => x (ix2 r k) := by
  pointwise [val_main_v6, val_main_v5, val_main_v4, val_main_v3, val_main_v2, val_main_v1, val_main_v0, val_main_cst,
    val_main_cst_0, val_main_cst_1]
  rfl

theorem rstd_apply (r : Fin 8192) : val_main_v7 (F := Ideal) x (ix2 r 0) = Inproj.rstd fun k => x (ix2 r k) := by
  pointwise [val_main_v7]
  rw [var_apply]
  rfl

theorem xhat_apply (r : Fin 8192) (l : Fin 1024) :
    val_main_v12 (F := Ideal) x (ix2 r l) = Inproj.xhat (fun k => x (ix2 r k)) l := by
  pointwise [val_main_v12, val_main_v11]
  rw [rstd_apply]
  rfl

/-- The gradient of the product, row by row. -/
def D (r : Fin 8192) : Fin 2048 → EReal := Inproj.pieces2 (fun k => d0 (ix2 r k)) fun k => d1 (ix2 r k)

theorem d_apply (r : Fin 8192) (q : Fin 2048) : val_main_v19 (F := Ideal) d0 d1 (ix2 r q) = D d0 d1 r q := by
  pointwise [val_main_v19]
  rfl

theorem dh_apply (r : Fin 8192) (l : Fin 1024) :
    val_main_v22 (F := Ideal) w d0 d1 (ix2 r l) = Inproj.dh (D d0 d1 r) (fun k q => w (ix2 k q)) l := by
  pointwise [val_main_v22]
  simp only [d_apply]
  rfl

theorem dw_apply (k : Fin 1024) (q : Fin 2048) :
    val_main_v21 (F := Ideal) x n d0 d1 (ix2 k q)
      = Inproj.gradW (fun r k => x (ix2 r k)) (fun k => n (ix1 k)) (D d0 d1) k q := by
  pointwise [val_main_v21, val_main_v20, val_main_v15, val_main_v14, val_main_v13]
  simp only [d_apply, xhat_apply]
  exact Finset.sum_congr rfl fun r _ => mul_comm _ _

theorem dn_sum_apply (l : Fin 1024) :
    val_main_v24 (F := Ideal) x w d0 d1 (ix1 l)
      = Inproj.gradN (fun r k => x (ix2 r k)) (fun k q => w (ix2 k q)) (D d0 d1) l := by
  pointwise [val_main_v24, val_main_v23, val_main_cst_3]
  simp only [dh_apply, xhat_apply]
  exact Finset.sum_congr rfl fun r _ => mul_comm _ _

theorem dn_apply (l : Fin 1024) :
    val_main_v44 (F := Ideal) x w d0 d1 (ix2 0 l)
      = Inproj.gradN (fun r k => x (ix2 r k)) (fun k q => w (ix2 k q)) (D d0 d1) l := by
  pointwise [val_main_v44, val_main_v28, val_main_v25, val_main_cst_4]
  rw [Fin.sum_univ_one, dn_sum_apply]

theorem dg_apply (r : Fin 8192) (l : Fin 1024) :
    val_main_v27 (F := Ideal) n w d0 d1 (ix2 r l)
      = Inproj.scaled (fun k => n (ix1 k)) (Inproj.dh (D d0 d1 r) (fun k q => w (ix2 k q))) l := by
  pointwise [val_main_v27, val_main_v26, val_main_v13]
  rw [dh_apply]
  rfl

theorem back_apply (r : Fin 8192) (l : Fin 1024) :
    val_main_v39 (F := Ideal) x n w d0 d1 (ix2 r l)
      = Inproj.back (fun k => x (ix2 r k)) (fun k => n (ix1 k)) (Inproj.dh (D d0 d1 r) (fun k q => w (ix2 k q))) := by
  pointwise [val_main_v39, val_main_v38, val_main_v37, val_main_v36, val_main_v35, val_main_v31, val_main_v30, val_main_v29,
    val_main_v10, val_main_v9, val_main_v8, val_main_cst_2, val_main_cst_5, val_main_cst_6, val_main_cst_7]
  rw [Fin.sum_univ_one]
  simp only [dg_apply, var_apply, rstd_apply]
  rfl

theorem dx_apply (r : Fin 8192) (l : Fin 1024) :
    val_main_v43 (F := Ideal) x n w d0 d1 e (ix2 r l)
      = Inproj.dxReference (fun k => x (ix2 r k)) (fun k => n (ix1 k)) (Inproj.dh (D d0 d1 r) (fun k q => w (ix2 k q)))
          (e (ix2 r l)) l := by
  pointwise [val_main_v43, val_main_v42, val_main_v41, val_main_v40, val_main_v34, val_main_v33, val_main_v32]
  simp only [dg_apply, back_apply, rstd_apply]
  rfl

end Cert.Reference3Ideal.InprojValue

end
-- ==== Proof.Inproj.lean ====
/-
  The two claims about the values of the projection's gradient (a state-space layer): the reference's frame, and the equality
  of the kernel's three results with the reference's.
-/
module

public import proofs.«01_k».proof.Proof.InprojKernel
public import proofs.«01_k».proof.Proof.InprojReference
public import proofs.«01_k».proof.Defs

@[expose] public section

noncomputable section

namespace Cert.Proof.Inproj

open Idealize.ShloMosaic Idealize.SL.Sem

/-- The reference runs to its end, keeps its arguments and leaves the counters at zero. -/
theorem frame_reference : Cert.quiescent_Reference3Ideal := fun m ρ _ =>
  (θ_run _ _ _).mono (fun r h => ⟨fun c => (h c).2.2.2, Idealize.ShloMosaic.sem_eq_zero_of_no_sems (by decide) r.2⟩)
    (Cert.Reference3Ideal.Value.run (F := Ideal) m ρ)

/-- The kernel's three results are the reference's. -/
theorem algebraic : Cert.algebraic_Kernel3Ideal_Reference3Ideal := fun m g m' g' _ hm => by
  refine ⟨fun c => (Cert.Kernel3Ideal.Gen.dats m 0 c).arrAt 6 Cert.Kernel3Ideal.cfg0.N,
    fun c => (Cert.Kernel3Ideal.Gen.dats m 0 c).arrAt 7 Cert.Kernel3Ideal.cfg0.N,
    fun c => (Cert.Kernel3Ideal.Gen.dats m 0 c).arrAt 8 Cert.Kernel3Ideal.cfg0.N,
    Cert.Kernel3Ideal.Value.run_blocks (F := Ideal) m g, ?_⟩
  refine (θ_run _ _ _).mono (fun r h c => ⟨(h c).1.trans ?_, (h c).2.1.trans ?_, (h c).2.2.1.trans ?_, (h c).2.2.2⟩)
    (Cert.Reference3Ideal.Value.run (F := Ideal) m' g')
  · obtain ⟨h0, h1, h2, h3, h4, h5⟩ := hm c
    rw [Cert.Reference3Ideal.Read.val_main_v43_eq, h0, h1, h2, h3, h4, h5]
    refine Eq.trans (funext fun j => ?_) (Cert.Kernel3Ideal.InprojValue.final_dx m c).symm
    obtain ⟨a, b, rfl⟩ : ∃ a b, j = ix2 a b := ⟨_, _, eq_ix2 j⟩
    rw [Cert.Reference3Ideal.InprojValue.dx_apply]
    exact (dx_eq _ _ _ _ _).symm
  · obtain ⟨h0, h1, h2, h3, h4, h5⟩ := hm c
    rw [Cert.Reference3Ideal.Read.val_main_v21_eq, h0, h1, h3, h4]
    refine Eq.trans (funext fun j => ?_) (Cert.Kernel3Ideal.InprojValue.final_dw m c).symm
    obtain ⟨a, b, rfl⟩ : ∃ a b, j = ix2 a b := ⟨_, _, eq_ix2 j⟩
    rw [Cert.Reference3Ideal.InprojValue.dw_apply]
    rfl
  · obtain ⟨h0, h1, h2, h3, h4, h5⟩ := hm c
    rw [Cert.Reference3Ideal.Read.val_main_v44_eq, h0, h2, h3, h4]
    refine Eq.trans (funext fun j => ?_) (Cert.Kernel3Ideal.InprojValue.final_dn m c).symm
    obtain ⟨a, b, rfl⟩ : ∃ a b, j = ix2 a b := ⟨_, _, eq_ix2 j⟩
    obtain rfl : a = 0 := Subsingleton.elim _ _
    rw [Cert.Reference3Ideal.InprojValue.dn_apply]
    rfl

end Cert.Proof.Inproj

end
-- ==== Proof.InprojAttnKernel.lean ====
/-
  The values of the projection's gradient kernel (an attention layer): its three results are `Inproj.gradX`,
  `Inproj.gradW` and `Inproj.gradN` of the arguments.
-/
module

public import proofs.«01_k».proof.Proof.Gen.Kernel4Ideal.Value
public import proofs.«01_k».proof.Proof.InprojMath
public import Idealize.ShloMosaic.Lib.Pipeline.ValueKit
public import Idealize.ShloMosaic.Lib.Pointwise

@[expose] public section

set_option maxRecDepth 16384

noncomputable section

namespace Cert.Kernel4Ideal.InprojValue

open Cert.Kernel4Ideal Cert.Kernel4Ideal.Gen Idealize.ShloMosaic Idealize.ShloMosaic.TcCoe Idealize.SL.Sem Cert.Proof

variable (m : (ℓ : Loc nD τ sig) → Buf (Elt Ideal) ℓ)

theorem pay5_apply (x : Vec Ideal S512x1024 .f32) (r : Fin 512) : k0_pay5 x (ix2 r 0) = Inproj.rstd fun k => x (ix2 r k) := by
  pointwise [k0_pay5]
  rfl

theorem pay6_apply (x : Vec Ideal S512x1024 .f32) (r : Fin 512) (l : Fin 1024) :
    k0_pay6 x (ix2 r l) = Inproj.xhat (fun k => x (ix2 r k)) l := by
  pointwise [k0_pay6]
  rw [pay5_apply]
  rfl

theorem pay7_apply (d0 : Vec Ideal S512x1024 .bf16) (d1 d2 : Vec Ideal S512x128 .bf16) (d3 : Vec Ideal S512x1024 .bf16) (r : Fin 512) (q : Fin 2304) :
    k0_pay7 d0 d1 d2 d3 (ix2 r q) = Inproj.pieces4 (fun k => d0 (ix2 r k)) (fun k => d1 (ix2 r k)) (fun k => d2 (ix2 r k)) (fun k => d3 (ix2 r k)) q := by
  pointwise [k0_pay7]
  rfl

theorem pay8_apply (d0 : Vec Ideal S512x1024 .bf16) (d1 d2 : Vec Ideal S512x128 .bf16) (d3 : Vec Ideal S512x1024 .bf16) (w : Vec Ideal S1024x2304 .bf16)
    (r : Fin 512) (l : Fin 1024) :
    k0_pay8 d0 d1 d2 d3 w (ix2 r l)
      = Inproj.dh (Inproj.pieces4 (fun k => d0 (ix2 r k)) (fun k => d1 (ix2 r k)) (fun k => d2 (ix2 r k)) fun k => d3 (ix2 r k)) (fun k q => w (ix2 k q)) l := by
  pointwise [k0_pay8]
  simp only [pay7_apply]
  rfl

/-- The block of the input's gradient. -/
theorem dx_apply (x : Vec Ideal S512x1024 .f32) (n : Vec Ideal S1x1024 .f32) (w : Vec Ideal S1024x2304 .bf16)
    (e : Vec Ideal S512x1024 .f32) (d0 : Vec Ideal S512x1024 .bf16) (d1 d2 : Vec Ideal S512x128 .bf16) (d3 : Vec Ideal S512x1024 .bf16) (r : Fin 512) (l : Fin 1024) :
    k0_pay2 (k0_pay5 x) (k0_pay6 x) (k0_pay8 d0 d1 d2 d3 w) n e (ix2 r l)
      = Inproj.dxKernel (fun k => x (ix2 r k)) (fun k => n (ix2 0 k))
          (Inproj.dh (Inproj.pieces4 (fun k => d0 (ix2 r k)) (fun k => d1 (ix2 r k)) (fun k => d2 (ix2 r k)) fun k => d3 (ix2 r k)) fun k q => w (ix2 k q)) (e (ix2 r l)) l := by
  pointwise [k0_pay2]
  simp only [pay5_apply, pay6_apply, pay8_apply]
  rfl

/-- What one block of rows adds to the weight's gradient. -/
theorem dw_apply (x : Vec Ideal S512x1024 .f32) (n : Vec Ideal S1x1024 .f32)
    (d0 : Vec Ideal S512x1024 .bf16) (d1 d2 : Vec Ideal S512x128 .bf16) (d3 : Vec Ideal S512x1024 .bf16) (o : Vec Ideal S1024x2304 .f32) (k : Fin 1024) (q : Fin 2304) :
    k0_pay9 x n d0 d1 d2 d3 o (ix2 k q)
      = Inproj.stepW (o (ix2 k q)) (fun r k => x (ix2 r k)) (fun k => n (ix2 0 k))
          (fun r => Inproj.pieces4 (fun k => d0 (ix2 r k)) (fun k => d1 (ix2 r k)) (fun k => d2 (ix2 r k)) fun k => d3 (ix2 r k)) k q := by
  pointwise [k0_pay9]
  simp only [pay6_apply, pay7_apply]
  rfl

/-- What one block of rows adds to the scale's gradient. -/
theorem dn_apply (x : Vec Ideal S512x1024 .f32) (w : Vec Ideal S1024x2304 .bf16)
    (d0 : Vec Ideal S512x1024 .bf16) (d1 d2 : Vec Ideal S512x128 .bf16) (d3 : Vec Ideal S512x1024 .bf16) (o : Vec Ideal S1x1024 .f32) (l : Fin 1024) :
    k0_pay1 (k0_pay6 x) (k0_pay8 d0 d1 d2 d3 w) o (ix2 0 l)
      = Inproj.stepN (o (ix2 0 l)) (fun r k => x (ix2 r k)) (fun k q => w (ix2 k q))
          (fun r => Inproj.pieces4 (fun k => d0 (ix2 r k)) (fun k => d1 (ix2 r k)) (fun k => d2 (ix2 r k)) fun k => d3 (ix2 r k)) l := by
  pointwise [k0_pay1]
  simp only [pay6_apply, pay8_apply]
  rfl

theorem pay3_apply (j) : k0_pay3 (F := Ideal) j = 0 := Ideal.ofBits_zero_f32
theorem pay4_apply (j) : k0_pay4 (F := Ideal) j = 0 := Ideal.ofBits_zero_f32

/-! ## The arguments and their blocks -/

def X (c : Dev nD) (r : Fin 8192) (k : Fin 1024) : EReal := m ((c : Thread nD τ).loc main_arg0) (ix2 r k)
def N (c : Dev nD) (k : Fin 1024) : EReal := m ((c : Thread nD τ).loc main_arg1) (ix1 k)
def W (c : Dev nD) (k : Fin 1024) (q : Fin 2304) : EReal := m ((c : Thread nD τ).loc main_arg2) (ix2 k q)
def D0 (c : Dev nD) (r : Fin 8192) (k : Fin 1024) : EReal := m ((c : Thread nD τ).loc main_arg3) (ix2 r k)
def D1 (c : Dev nD) (r : Fin 8192) (k : Fin 128) : EReal := m ((c : Thread nD τ).loc main_arg4) (ix2 r k)
def D2 (c : Dev nD) (r : Fin 8192) (k : Fin 128) : EReal := m ((c : Thread nD τ).loc main_arg5) (ix2 r k)
def D3 (c : Dev nD) (r : Fin 8192) (k : Fin 1024) : EReal := m ((c : Thread nD τ).loc main_arg6) (ix2 r k)
def E (c : Dev nD) (r : Fin 8192) (k : Fin 1024) : EReal := m ((c : Thread nD τ).loc main_arg7) (ix2 r k)
def D (c : Dev nD) (r : Fin 8192) : Fin 2304 → EReal := Inproj.pieces4 (D0 m c r) (D1 m c r) (D2 m c r) (D3 m c r)

theorem idx0 : ∀ t : Fin grid0.N, win0_0.index t 0 = t.val ∧ win0_0.index t 1 = 0 := by decide +kernel
theorem idx1 : ∀ t : Fin grid0.N, win0_1.index t 0 = 0 ∧ win0_1.index t 1 = 0 := by decide +kernel
theorem idx2 : ∀ t : Fin grid0.N, win0_2.index t 0 = 0 ∧ win0_2.index t 1 = 0 := by decide +kernel
theorem idx3 : ∀ t : Fin grid0.N, win0_3.index t 0 = t.val ∧ win0_3.index t 1 = 0 := by decide +kernel
theorem idx4 : ∀ t : Fin grid0.N, win0_4.index t 0 = t.val ∧ win0_4.index t 1 = 0 := by decide +kernel
theorem idx5 : ∀ t : Fin grid0.N, win0_5.index t 0 = t.val ∧ win0_5.index t 1 = 0 := by decide +kernel
theorem idx6 : ∀ t : Fin grid0.N, win0_6.index t 0 = t.val ∧ win0_6.index t 1 = 0 := by decide +kernel
theorem idx7 : ∀ t : Fin grid0.N, win0_7.index t 0 = t.val ∧ win0_7.index t 1 = 0 := by decide +kernel
theorem idx8 : ∀ t : Fin grid0.N, win0_8.index t 0 = t.val ∧ win0_8.index t 1 = 0 := by decide +kernel

theorem rv (t : Fin cfg0.N) (r : Fin 512) : (Inproj.row t.val r).val = t.val * 512 + r.val :=
  Inproj.row_val (by have := t.isLt; have : cfg0.N = 16 := N_0; omega) r

theorem b0 (c : Dev nD) (t : Fin cfg0.N) (r : Fin 512) (l : Fin 1024) : iblk m c 0 t (ix2 r l) = X m c (Inproj.row t.val r) l := by
  unfold X
  blk_point [iblk, rv, (idx0 t).1, (idx0 t).2]
theorem b1 (c : Dev nD) (t : Fin cfg0.N) (l : Fin 1024) : iblk m c 1 t (ix2 0 l) = N m c l := by
  unfold N
  blk_point [iblk, (idx1 t).1, (idx1 t).2]
theorem b2 (c : Dev nD) (t : Fin cfg0.N) (k : Fin 1024) (q : Fin 2304) : iblk m c 2 t (ix2 k q) = W m c k q := by
  unfold W
  blk_point [iblk, (idx2 t).1, (idx2 t).2]
theorem b3 (c : Dev nD) (t : Fin cfg0.N) (r : Fin 512) (l : Fin 1024) : iblk m c 3 t (ix2 r l) = E m c (Inproj.row t.val r) l := by
  unfold E
  blk_point [iblk, rv, (idx3 t).1, (idx3 t).2]
theorem b4 (c : Dev nD) (t : Fin cfg0.N) (r : Fin 512) (l : Fin 1024) : iblk m c 4 t (ix2 r l) = D0 m c (Inproj.row t.val r) l := by
  unfold D0
  blk_point [iblk, rv, (idx4 t).1, (idx4 t).2]
theorem b5 (c : Dev nD) (t : Fin cfg0.N) (r : Fin 512) (l : Fin 128) : iblk m c 5 t (ix2 r l) = D1 m c (Inproj.row t.val r) l := by
  unfold D1
  blk_point [iblk, rv, (idx5 t).1, (idx5 t).2]
theorem b6 (c : Dev nD) (t : Fin cfg0.N) (r : Fin 512) (l : Fin 128) : iblk m c 6 t (ix2 r l) = D2 m c (Inproj.row t.val r) l := by
  unfold D2
  blk_point [iblk, rv, (idx6 t).1, (idx6 t).2]
theorem b7 (c : Dev nD) (t : Fin cfg0.N) (r : Fin 512) (l : Fin 1024) : iblk m c 7 t (ix2 r l) = D3 m c (Inproj.row t.val r) l := by
  unfold D3
  blk_point [iblk, rv, (idx7 t).1, (idx7 t).2]

/-! ## The buffers after a point -/

theorem outs_A (c : Dev nD) (t : Fin cfg0.N) (h : t.val % 16 = 0) :
    outsAt0 m c t.val t.isLt
      = (k0_pay2 (F := Ideal) (k0_pay5 (iblk m c 0 t)) (k0_pay6 (iblk m c 0 t)) (k0_pay8 (iblk m c 4 t) (iblk m c 5 t) (iblk m c 6 t) (iblk m c 7 t) (iblk m c 2 t))
          (iblk m c 1 t) (iblk m c 3 t),
        k0_pay9 (iblk m c 0 t) (iblk m c 1 t) (iblk m c 4 t) (iblk m c 5 t) (iblk m c 6 t) (iblk m c 7 t) (k0_pay3 (F := Ideal)),
        k0_pay1 (k0_pay6 (iblk m c 0 t)) (k0_pay8 (iblk m c 4 t) (iblk m c 5 t) (iblk m c 6 t) (iblk m c 7 t) (iblk m c 2 t)) (k0_pay4 (F := Ideal))) := by
  rw [outsAt0_A m c t h]
  refine Prod.ext ?_ (Prod.ext ?_ ?_) <;> dsimp only <;> frame_out

theorem outs_B (c : Dev nD) (t : Fin cfg0.N) (h : ¬t.val % 16 = 0) :
    outsAt0 m c t.val t.isLt
      = (k0_pay2 (F := Ideal) (k0_pay5 (iblk m c 0 t)) (k0_pay6 (iblk m c 0 t)) (k0_pay8 (iblk m c 4 t) (iblk m c 5 t) (iblk m c 6 t) (iblk m c 7 t) (iblk m c 2 t))
          (iblk m c 1 t) (iblk m c 3 t),
        k0_pay9 (iblk m c 0 t) (iblk m c 1 t) (iblk m c 4 t) (iblk m c 5 t) (iblk m c 6 t) (iblk m c 7 t)
          (outsAt0 m c (t.val - 1) (Nat.lt_of_le_of_lt (Nat.sub_le _ _) t.isLt)).2.1,
        k0_pay1 (k0_pay6 (iblk m c 0 t)) (k0_pay8 (iblk m c 4 t) (iblk m c 5 t) (iblk m c 6 t) (iblk m c 7 t) (iblk m c 2 t))
          (outsAt0 m c (t.val - 1) (Nat.lt_of_le_of_lt (Nat.sub_le _ _) t.isLt)).2.2) := by
  rw [outsAt0_B m c t h]
  refine Prod.ext ?_ (Prod.ext ?_ ?_) <;> dsimp only <;> frame_out

theorem dx_at (c : Dev nD) (t : Fin cfg0.N) (r : Fin 512) (l : Fin 1024) :
    (outsAt0 m c t.val t.isLt).1 (ix2 r l) = Inproj.gradX (X m c) (N m c) (W m c) (D m c) (E m c) (Inproj.row t.val r) l := by
  have e : (outsAt0 m c t.val t.isLt).1 = k0_pay2 (F := Ideal) (k0_pay5 (iblk m c 0 t)) (k0_pay6 (iblk m c 0 t))
      (k0_pay8 (iblk m c 4 t) (iblk m c 5 t) (iblk m c 6 t) (iblk m c 7 t) (iblk m c 2 t)) (iblk m c 1 t) (iblk m c 3 t) := by
    by_cases h : t.val % 16 = 0
    · rw [outs_A m c t h]
    · rw [outs_B m c t h]
  rw [e, dx_apply]
  simp only [b0, b1, b2, b3, b4, b5, b6, b7]
  rfl

theorem dw_at (c : Dev nD) (t : Fin cfg0.N) (j : S1024x2304.Idx) :
    (outsAt0 m c t.val t.isLt).2.1 j = (0 : EReal) + ∑ p ∈ Finset.range (t.val + 1), ∑ r : Fin 512,
      X m c (Inproj.row p r) (j 0) * Inproj.rstd (X m c (Inproj.row p r)) * N m c (j 0) * D m c (Inproj.row p r) (j 1) := by
  refine Pipeline.eq_sum_of_reset_step_apply_single (M := EReal) (fun n h => (outsAt0 m c n h).2.1) 16 (fun _ => (0 : EReal))
    (fun p (j : S1024x2304.Idx) => ∑ r : Fin 512,
      X m c (Inproj.row p r) (j 0) * Inproj.rstd (X m c (Inproj.row p r)) * N m c (j 0) * D m c (Inproj.row p r) (j 1))
    (fun t h j => ?_) (fun t h j => ?_) (by rw [show cfg0.N = 16 from N_0]) t j
  · obtain ⟨k, q, rfl⟩ : ∃ k q, j = ix2 k q := ⟨_, _, eq_ix2 j⟩
    rw [outs_A m c t h]
    dsimp only
    rw [dw_apply, pay3_apply]
    simp only [b0, b1, b4, b5, b6, b7]
    rfl
  · obtain ⟨k, q, rfl⟩ : ∃ k q, j = ix2 k q := ⟨_, _, eq_ix2 j⟩
    rw [outs_B m c t h]
    dsimp only
    rw [dw_apply]
    simp only [b0, b1, b4, b5, b6, b7]
    rfl

theorem dn_at (c : Dev nD) (t : Fin cfg0.N) (j : S1x1024.Idx) :
    (outsAt0 m c t.val t.isLt).2.2 j = (0 : EReal) + ∑ p ∈ Finset.range (t.val + 1), ∑ r : Fin 512,
      Inproj.dh (D m c (Inproj.row p r)) (W m c) (j 1) * (X m c (Inproj.row p r) (j 1) * Inproj.rstd (X m c (Inproj.row p r))) := by
  refine Pipeline.eq_sum_of_reset_step_apply_single (M := EReal) (fun n h => (outsAt0 m c n h).2.2) 16 (fun _ => (0 : EReal))
    (fun p (j : S1x1024.Idx) => ∑ r : Fin 512,
      Inproj.dh (D m c (Inproj.row p r)) (W m c) (j 1) * (X m c (Inproj.row p r) (j 1) * Inproj.rstd (X m c (Inproj.row p r))))
    (fun t h j => ?_) (fun t h j => ?_) (by rw [show cfg0.N = 16 from N_0]) t j
  · obtain ⟨k, l, rfl⟩ : ∃ k l, j = ix2 k l := ⟨_, _, eq_ix2 j⟩
    obtain rfl : k = 0 := Subsingleton.elim _ _
    rw [outs_A m c t h]
    dsimp only
    rw [dn_apply, pay4_apply]
    simp only [b0, b2, b4, b5, b6, b7]
    rfl
  · obtain ⟨k, l, rfl⟩ : ∃ k l, j = ix2 k l := ⟨_, _, eq_ix2 j⟩
    obtain rfl : k = 0 := Subsingleton.elim _ _
    rw [outs_B m c t h]
    dsimp only
    rw [dn_apply]
    simp only [b0, b2, b4, b5, b6, b7]
    rfl

/-! ## The results -/

theorem final_dx (c : Dev nD) : (dats m 0 c).arrAt 8 cfg0.N
    = fun j : S8192x1024.Idx => Inproj.gradX (X m c) (N m c) (W m c) (D m c) (E m c) (j 0) (j 1) := by
  refine (dats m 0 c).arrAt_eq_of_covers 8 _ (by decide +kernel) fun t hf y => ?_
  blk_simp
  rw [after0_8]
  obtain ⟨r, l, rfl⟩ : ∃ r l, y = ix2 r l := ⟨_, _, eq_ix2 y⟩
  rw [dx_at]
  congr 1
  · refine Fin.ext ?_
    rw [rv]
    blk_simp [(idx8 t).1]
  · refine Fin.ext ?_
    blk_simp [(idx8 t).2]

theorem final_dw (c : Dev nD) : (dats m 0 c).arrAt 9 cfg0.N
    = fun j : S1024x2304.Idx => Inproj.gradW (X m c) (N m c) (D m c) (j 0) (j 1) := by
  refine (dats m 0 c).arrAt_eq_of_after_last 9 t0_15 (by decide +kernel) _ fun j => ?_
  blk_simp
  rw [after0_9, dw_at, zero_add]
  exact Inproj.sum_rows fun r => X m c r (j 0) * Inproj.rstd (X m c r) * N m c (j 0) * D m c r (j 1)

theorem final_dn (c : Dev nD) : (dats m 0 c).arrAt 10 cfg0.N
    = fun j : S1x1024.Idx => Inproj.gradN (X m c) (W m c) (D m c) (j 1) := by
  refine (dats m 0 c).arrAt_eq_of_after_last 10 t0_15 (by decide +kernel) _ fun j => ?_
  blk_simp
  rw [after0_10, dn_at, zero_add]
  exact Inproj.sum_rows fun r => Inproj.dh (D m c r) (W m c) (j 1) * (X m c r (j 1) * Inproj.rstd (X m c r))

end Cert.Kernel4Ideal.InprojValue

end
-- ==== Proof.InprojAttnReference.lean ====
/-
  The values of the projection's gradient reference (an attention layer): its three results are the rows that differentiating
  the normed product gives, of the arguments.
-/
module

public import proofs.«01_k».proof.Proof.Gen.Reference4Ideal.Read
public import proofs.«01_k».proof.Proof.InprojMath
public import Idealize.ShloMosaic.Lib.Pointwise

@[expose] public section

set_option maxRecDepth 16384

noncomputable section

namespace Cert.Reference4Ideal.InprojValue

open Cert.Reference4Ideal Cert.Reference4Ideal.Gen Idealize.ShloMosaic Idealize.ShloMosaic.TcCoe Idealize.SL.Sem Cert.Proof
open Cert.Reference4Ideal.Read

abbrev Mat (a b : ℕ) := (⟨⟨2, ![a, b]⟩, .f32⟩ : BufTy).Contents (Elt Ideal)
abbrev Col (a : ℕ) := (⟨⟨1, ![a]⟩, .f32⟩ : BufTy).Contents (Elt Ideal)

variable (x : Mat 8192 1024) (n : Col 1024) (w : Mat 1024 2304) (d0 : Mat 8192 1024) (d1 d2 : Mat 8192 128) (d3 e : Mat 8192 1024)

theorem var_apply (r : Fin 8192) : val_main_v6 (F := Ideal) x (ix2 r 0) = Inproj.var fun k => x (ix2 r k) := by
  pointwise [val_main_v6, val_main_v5, val_main_v4, val_main_v3, val_main_v2, val_main_v1, val_main_v0, val_main_cst,
    val_main_cst_0, val_main_cst_1]
  rfl

theorem rstd_apply (r : Fin 8192) : val_main_v7 (F := Ideal) x (ix2 r 0) = Inproj.rstd fun k => x (ix2 r k) := by
  pointwise [val_main_v7]
  rw [var_apply]
  rfl

theorem xhat_apply (r : Fin 8192) (l : Fin 1024) :
    val_main_v12 (F := Ideal) x (ix2 r l) = Inproj.xhat (fun k => x (ix2 r k)) l := by
  pointwise [val_main_v12, val_main_v11]
  rw [rstd_apply]
  rfl

/-- The gradient of the product, row by row. -/
def D (r : Fin 8192) : Fin 2304 → EReal := Inproj.pieces4 (fun k => d0 (ix2 r k)) (fun k => d1 (ix2 r k)) (fun k => d2 (ix2 r k)) fun k => d3 (ix2 r k)

theorem d_apply (r : Fin 8192) (q : Fin 2304) : val_main_v21 (F := Ideal) d0 d1 d2 d3 (ix2 r q) = D d0 d1 d2 d3 r q := by
  pointwise [val_main_v21]
  rfl

theorem dh_apply (r : Fin 8192) (l : Fin 1024) :
    val_main_v24 (F := Ideal) w d0 d1 d2 d3 (ix2 r l) = Inproj.dh (D d0 d1 d2 d3 r) (fun k q => w (ix2 k q)) l := by
  pointwise [val_main_v24]
  simp only [d_apply]
  rfl

theorem dw_apply (k : Fin 1024) (q : Fin 2304) :
    val_main_v23 (F := Ideal) x n d0 d1 d2 d3 (ix2 k q)
      = Inproj.gradW (fun r k => x (ix2 r k)) (fun k => n (ix1 k)) (D d0 d1 d2 d3) k q := by
  pointwise [val_main_v23, val_main_v22, val_main_v15, val_main_v14, val_main_v13]
  simp only [d_apply, xhat_apply]
  exact Finset.sum_congr rfl fun r _ => mul_comm _ _

theorem dn_sum_apply (l : Fin 1024) :
    val_main_v26 (F := Ideal) x w d0 d1 d2 d3 (ix1 l)
      = Inproj.gradN (fun r k => x (ix2 r k)) (fun k q => w (ix2 k q)) (D d0 d1 d2 d3) l := by
  pointwise [val_main_v26, val_main_v25, val_main_cst_3]
  simp only [dh_apply, xhat_apply]
  exact Finset.sum_congr rfl fun r _ => mul_comm _ _

theorem dn_apply (l : Fin 1024) :
    val_main_v46 (F := Ideal) x w d0 d1 d2 d3 (ix2 0 l)
      = Inproj.gradN (fun r k => x (ix2 r k)) (fun k q => w (ix2 k q)) (D d0 d1 d2 d3) l := by
  pointwise [val_main_v46, val_main_v30, val_main_v27, val_main_cst_4]
  rw [Fin.sum_univ_one, dn_sum_apply]

theorem dg_apply (r : Fin 8192) (l : Fin 1024) :
    val_main_v29 (F := Ideal) n w d0 d1 d2 d3 (ix2 r l)
      = Inproj.scaled (fun k => n (ix1 k)) (Inproj.dh (D d0 d1 d2 d3 r) (fun k q => w (ix2 k q))) l := by
  pointwise [val_main_v29, val_main_v28, val_main_v13]
  rw [dh_apply]
  rfl

theorem back_apply (r : Fin 8192) (l : Fin 1024) :
    val_main_v41 (F := Ideal) x n w d0 d1 d2 d3 (ix2 r l)
      = Inproj.back (fun k => x (ix2 r k)) (fun k => n (ix1 k)) (Inproj.dh (D d0 d1 d2 d3 r) (fun k q => w (ix2 k q))) := by
  pointwise [val_main_v41, val_main_v40, val_main_v39, val_main_v38, val_main_v37, val_main_v33, val_main_v32, val_main_v31,
    val_main_v10, val_main_v9, val_main_v8, val_main_cst_2, val_main_cst_5, val_main_cst_6, val_main_cst_7]
  rw [Fin.sum_univ_one]
  simp only [dg_apply, var_apply, rstd_apply]
  rfl

theorem dx_apply (r : Fin 8192) (l : Fin 1024) :
    val_main_v45 (F := Ideal) x n w d0 d1 d2 d3 e (ix2 r l)
      = Inproj.dxReference (fun k => x (ix2 r k)) (fun k => n (ix1 k)) (Inproj.dh (D d0 d1 d2 d3 r) (fun k q => w (ix2 k q)))
          (e (ix2 r l)) l := by
  pointwise [val_main_v45, val_main_v44, val_main_v43, val_main_v42, val_main_v36, val_main_v35, val_main_v34]
  simp only [dg_apply, back_apply, rstd_apply]
  rfl

end Cert.Reference4Ideal.InprojValue

end
-- ==== Proof.InprojAttn.lean ====
/-
  The two claims about the values of the projection's gradient (an attention layer): the reference's frame, and the equality
  of the kernel's three results with the reference's.
-/
module

public import proofs.«01_k».proof.Proof.InprojAttnKernel
public import proofs.«01_k».proof.Proof.InprojAttnReference
public import proofs.«01_k».proof.Defs

@[expose] public section

noncomputable section

namespace Cert.Proof.InprojAttn

open Idealize.ShloMosaic Idealize.SL.Sem

/-- The reference runs to its end, keeps its arguments and leaves the counters at zero. -/
theorem frame_reference : Cert.quiescent_Reference4Ideal := fun m ρ _ =>
  (θ_run _ _ _).mono (fun r h => ⟨fun c => (h c).2.2.2, Idealize.ShloMosaic.sem_eq_zero_of_no_sems (by decide) r.2⟩)
    (Cert.Reference4Ideal.Value.run (F := Ideal) m ρ)

/-- The kernel's three results are the reference's. -/
theorem algebraic : Cert.algebraic_Kernel4Ideal_Reference4Ideal := fun m g m' g' _ hm => by
  refine ⟨fun c => (Cert.Kernel4Ideal.Gen.dats m 0 c).arrAt 8 Cert.Kernel4Ideal.cfg0.N,
    fun c => (Cert.Kernel4Ideal.Gen.dats m 0 c).arrAt 9 Cert.Kernel4Ideal.cfg0.N,
    fun c => (Cert.Kernel4Ideal.Gen.dats m 0 c).arrAt 10 Cert.Kernel4Ideal.cfg0.N,
    Cert.Kernel4Ideal.Value.run_blocks (F := Ideal) m g, ?_⟩
  refine (θ_run _ _ _).mono (fun r h c => ⟨(h c).1.trans ?_, (h c).2.1.trans ?_, (h c).2.2.1.trans ?_, (h c).2.2.2⟩)
    (Cert.Reference4Ideal.Value.run (F := Ideal) m' g')
  · obtain ⟨h0, h1, h2, h3, h4, h5, h6, h7⟩ := hm c
    rw [Cert.Reference4Ideal.Read.val_main_v45_eq, h0, h1, h2, h3, h4, h5, h6, h7]
    refine Eq.trans (funext fun j => ?_) (Cert.Kernel4Ideal.InprojValue.final_dx m c).symm
    obtain ⟨a, b, rfl⟩ : ∃ a b, j = ix2 a b := ⟨_, _, eq_ix2 j⟩
    rw [Cert.Reference4Ideal.InprojValue.dx_apply]
    exact (Inproj.dx_eq _ _ _ _ _).symm
  · obtain ⟨h0, h1, h2, h3, h4, h5, h6, h7⟩ := hm c
    rw [Cert.Reference4Ideal.Read.val_main_v23_eq, h0, h1, h3, h4, h5, h6]
    refine Eq.trans (funext fun j => ?_) (Cert.Kernel4Ideal.InprojValue.final_dw m c).symm
    obtain ⟨a, b, rfl⟩ : ∃ a b, j = ix2 a b := ⟨_, _, eq_ix2 j⟩
    rw [Cert.Reference4Ideal.InprojValue.dw_apply]
    rfl
  · obtain ⟨h0, h1, h2, h3, h4, h5, h6, h7⟩ := hm c
    rw [Cert.Reference4Ideal.Read.val_main_v46_eq, h0, h2, h3, h4, h5, h6]
    refine Eq.trans (funext fun j => ?_) (Cert.Kernel4Ideal.InprojValue.final_dn m c).symm
    obtain ⟨a, b, rfl⟩ : ∃ a b, j = ix2 a b := ⟨_, _, eq_ix2 j⟩
    obtain rfl : a = 0 := Subsingleton.elim _ _
    rw [Cert.Reference4Ideal.InprojValue.dn_apply]
    rfl

end Cert.Proof.InprojAttn

end
-- ==== Proof.GateMath.lean ====
/-
  The gate `g ↦ g / (1 + e⁻ᵍ)` and its derivative on the extended reals, and small facts about real entries.
-/
module

public import proofs.«01_k».proof.Proof.InprojMath

@[expose] public section

noncomputable section

namespace Cert.Proof.Gate

open Idealize.ShloMosaic

theorem inf_bits : Ideal.ofBits .f32 0x7F800000#32 = ⊤ := by
  simp [Ideal.ofBits, Ideal.ieee]

/-- The logistic function as the kernel writes it. -/
def sg (x : EReal) : EReal := Ideal.div 1 (1 + Ideal.exp (0 - x))

theorem sg_eq (x : EReal) : sg x = Ideal.logistic x := by
  rw [sg, zero_sub]
  rfl

/-- The logistic function as the reference writes it. -/
theorem sgRef_sg (x : EReal) : Ideal.div 1 (1 + Ideal.exp (-x)) = sg x := by rw [sg, zero_sub]

/-- The logistic function's values are real. -/
theorem sg_real (x : EReal) : ∃ s : ℝ, sg x = (s : EReal) := by
  rw [sg_eq]
  induction x using EReal.rec with
  | bot => exact ⟨0, by simp⟩
  | top => exact ⟨1, by simp⟩
  | coe r => exact ⟨_, Ideal.logistic_coe r⟩

def silu (g : EReal) : EReal := g * sg g

/-- The derivative of the gate as the kernel writes it. -/
def dsilu (g : EReal) : EReal :=
  sg g * (1 + g * (1 - sg g))

/-- What differentiating the gate gives, at the incoming gradient `p`. -/
def dsiluRef (p g : EReal) : EReal :=
  p * sg g + g * p * (sg g * (1 - sg g))

theorem dsilu_eq (p : ℝ) (g : EReal) : (p : EReal) * dsilu g = dsiluRef p g := by
  rw [dsilu, dsiluRef, sg_eq]
  induction g using EReal.rec with
  | bot => simp
  | top =>
    have : (1 : EReal) - 1 = 0 := by rw [← EReal.coe_one, ← EReal.coe_sub]; simp
    simp [this]
  | coe r =>
    rw [Ideal.logistic_coe]
    generalize (1 + Real.exp (-r))⁻¹ = s
    norm_cast
    ring

/-- An extended real that is a real number. -/
def IsReal (x : EReal) : Prop := ∃ r : ℝ, x = (r : EReal)

theorem IsReal.mul {x y : EReal} (hx : IsReal x) (hy : IsReal y) : IsReal (x * y) := by
  obtain ⟨a, rfl⟩ := hx
  obtain ⟨b, rfl⟩ := hy
  exact ⟨a * b, by norm_cast⟩

theorem IsReal.add {x y : EReal} (hx : IsReal x) (hy : IsReal y) : IsReal (x + y) := by
  obtain ⟨a, rfl⟩ := hx
  obtain ⟨b, rfl⟩ := hy
  exact ⟨a + b, by norm_cast⟩

theorem IsReal.sum {ι : Type} [Fintype ι] {f : ι → EReal} (h : ∀ i, IsReal (f i)) : IsReal (∑ i, f i) := by
  choose g hg using h
  exact ⟨∑ i, g i, by rw [Inproj.coe_sum]; exact Finset.sum_congr rfl fun i _ => hg i⟩

/-- The finiteness test, read at one entry. -/
theorem isReal_of_lt {x : EReal} (h : Ideal.cmp .olt (max x (-x)) (Ideal.ofBits .f32 0x7F800000#32) = 1#1) : IsReal x := by
  rw [inf_bits] at h
  induction x using EReal.rec with
  | bot => simp [Ideal.cmp] at h
  | top => simp [Ideal.cmp] at h
  | coe r => exact ⟨r, rfl⟩

end Cert.Proof.Gate

end
-- ==== Proof.AttnOutBwdKernel.lean ====
/-
  The values of the kernel for the gradient of the attention layer's gate and output projection.
-/
module

public import proofs.«01_k».proof.Proof.Gen.Kernel5Ideal.Value
public import proofs.«01_k».proof.Proof.GateMath
public import Idealize.ShloMosaic.Lib.Pipeline.ValueKit
public import Idealize.ShloMosaic.Lib.Pointwise

@[expose] public section

set_option maxRecDepth 16384

noncomputable section

namespace Cert.Kernel5Ideal.OutValue

open Cert.Kernel5Ideal Cert.Kernel5Ideal.Gen Idealize.ShloMosaic Idealize.ShloMosaic.TcCoe Idealize.SL.Sem Cert.Proof

variable (m : (ℓ : Loc nD τ sig) → Buf (Elt Ideal) ℓ)

/-- Row `r` of the gradient of the gated row: the product with the transposed weight. -/
def da (e : Fin 1024 → EReal) (w : Fin 1024 → Fin 1024 → EReal) (l : Fin 1024) : EReal := ∑ q, e q * w l q

def stepW (b : EReal) (o g e : Fin 512 → Fin 1024 → EReal) (k q : Fin 1024) : EReal :=
  b + ∑ r, o r k * Gate.silu (g r k) * e r q

def dO (e : Fin 1024 → EReal) (g : EReal) (w : Fin 1024 → Fin 1024 → EReal) (l : Fin 1024) : EReal := da e w l * Gate.silu g

def dG (e : Fin 1024 → EReal) (o g : EReal) (w : Fin 1024 → Fin 1024 → EReal) (l : Fin 1024) : EReal :=
  da e w l * o * Gate.dsilu g

theorem pay4_apply (g : Vec Ideal S512x1024 .bf16) (r : Fin 512) (l : Fin 1024) :
    k0_pay4 g (ix2 r l) = Gate.sg (g (ix2 r l)) := by
  pointwise [k0_pay4, k0_pay3]
  rfl

theorem pay5_apply (g : Vec Ideal S512x1024 .bf16) (r : Fin 512) (l : Fin 1024) :
    k0_pay5 g (ix2 r l) = Gate.silu (g (ix2 r l)) := by
  pointwise [k0_pay5, k0_pay3]
  rw [pay4_apply]
  rfl

theorem pay7_apply (e : Vec Ideal S512x1024 .f32) (w : Vec Ideal S1024x1024 .bf16) (r : Fin 512) (l : Fin 1024) :
    k0_pay7 e w (ix2 r l) = da (fun k => e (ix2 r k)) (fun k q => w (ix2 k q)) l := by
  pointwise [k0_pay7, k0_pay6]
  rfl

theorem do_apply (g : Vec Ideal S512x1024 .bf16) (e : Vec Ideal S512x1024 .f32) (w : Vec Ideal S1024x1024 .bf16)
    (r : Fin 512) (l : Fin 1024) :
    k0_pay9 g e w (ix2 r l) = dO (fun k => e (ix2 r k)) (g (ix2 r l)) (fun k q => w (ix2 k q)) l := by
  pointwise [k0_pay9]
  rw [pay7_apply, pay5_apply]
  rfl

theorem dg_apply (g : Vec Ideal S512x1024 .bf16) (o e : Vec Ideal S512x1024 .f32) (w : Vec Ideal S1024x1024 .bf16)
    (r : Fin 512) (l : Fin 1024) :
    k0_pay1 (k0_pay4 g) (k0_pay10 o e w) (k0_pay11 g) (Scalar.ofBits .f32 0x3F800000#32) (ix2 r l)
      = dG (fun k => e (ix2 r k)) (o (ix2 r l)) (g (ix2 r l)) (fun k q => w (ix2 k q)) l := by
  pointwise [k0_pay1, k0_pay10, k0_pay11, k0_pay3]
  simp only [pay4_apply, pay7_apply]
  rfl

theorem dw_apply (g : Vec Ideal S512x1024 .bf16) (o e : Vec Ideal S512x1024 .f32) (b : Vec Ideal S1024x1024 .f32)
    (k q : Fin 1024) :
    k0_pay8 g o e b (ix2 k q)
      = stepW (b (ix2 k q)) (fun r k => o (ix2 r k)) (fun r k => g (ix2 r k)) (fun r k => e (ix2 r k)) k q := by
  pointwise [k0_pay8, k0_pay6]
  simp only [pay5_apply]
  rfl

theorem pay2_apply (j) : k0_pay2 (F := Ideal) j = 0 := Ideal.ofBits_zero_f32

/-! ## The arguments and their blocks -/

def E (c : Dev nD) (r : Fin 8192) (k : Fin 1024) : EReal := m ((c : Thread nD τ).loc main_arg0) (ix2 r k)
def O (c : Dev nD) (r : Fin 8192) (k : Fin 1024) : EReal := m ((c : Thread nD τ).loc main_arg1) (ix2 r k)
def G (c : Dev nD) (r : Fin 8192) (k : Fin 1024) : EReal := m ((c : Thread nD τ).loc main_arg2) (ix2 r k)
def W (c : Dev nD) (k q : Fin 1024) : EReal := m ((c : Thread nD τ).loc main_arg3) (ix2 k q)

/-- The gradient of the attention's output, of the whole arguments. -/
def gradO (E G : Fin 8192 → Fin 1024 → EReal) (w : Fin 1024 → Fin 1024 → EReal) (i : Fin 8192) (l : Fin 1024) : EReal :=
  dO (E i) (G i l) w l

/-- The gradient of the gate, of the whole arguments. -/
def gradG (E O G : Fin 8192 → Fin 1024 → EReal) (w : Fin 1024 → Fin 1024 → EReal) (i : Fin 8192) (l : Fin 1024) : EReal :=
  dG (E i) (O i l) (G i l) w l

theorem idx0 : ∀ t : Fin grid0.N, win0_0.index t 0 = t.val ∧ win0_0.index t 1 = 0 := by decide +kernel
theorem idx1 : ∀ t : Fin grid0.N, win0_1.index t 0 = t.val ∧ win0_1.index t 1 = 0 := by decide +kernel
theorem idx2 : ∀ t : Fin grid0.N, win0_2.index t 0 = t.val ∧ win0_2.index t 1 = 0 := by decide +kernel
theorem idx3 : ∀ t : Fin grid0.N, win0_3.index t 0 = 0 ∧ win0_3.index t 1 = 0 := by decide +kernel
theorem idx4 : ∀ t : Fin grid0.N, win0_4.index t 0 = t.val ∧ win0_4.index t 1 = 0 := by decide +kernel
theorem idx5 : ∀ t : Fin grid0.N, win0_5.index t 0 = t.val ∧ win0_5.index t 1 = 0 := by decide +kernel

theorem rv (t : Fin cfg0.N) (r : Fin 512) : (Inproj.row t.val r).val = t.val * 512 + r.val :=
  Inproj.row_val (by have := t.isLt; have : cfg0.N = 16 := N_0; omega) r

theorem b0 (c : Dev nD) (t : Fin cfg0.N) (r : Fin 512) (l : Fin 1024) : iblk m c 0 t (ix2 r l) = E m c (Inproj.row t.val r) l := by
  unfold E
  blk_point [iblk, rv, (idx0 t).1, (idx0 t).2]
theorem b1 (c : Dev nD) (t : Fin cfg0.N) (r : Fin 512) (l : Fin 1024) : iblk m c 1 t (ix2 r l) = O m c (Inproj.row t.val r) l := by
  unfold O
  blk_point [iblk, rv, (idx1 t).1, (idx1 t).2]
theorem b2 (c : Dev nD) (t : Fin cfg0.N) (r : Fin 512) (l : Fin 1024) : iblk m c 2 t (ix2 r l) = G m c (Inproj.row t.val r) l := by
  unfold G
  blk_point [iblk, rv, (idx2 t).1, (idx2 t).2]
theorem b3 (c : Dev nD) (t : Fin cfg0.N) (k q : Fin 1024) : iblk m c 3 t (ix2 k q) = W m c k q := by
  unfold W
  blk_point [iblk, (idx3 t).1, (idx3 t).2]

/-! ## The buffers after a point -/

theorem outs_A (c : Dev nD) (t : Fin cfg0.N) (h : t.val % 16 = 0) :
    outsAt0 m c t.val t.isLt
      = (k0_pay9 (F := Ideal) (iblk m c 2 t) (iblk m c 0 t) (iblk m c 3 t),
        k0_pay1 (F := Ideal) (k0_pay4 (iblk m c 2 t)) (k0_pay10 (iblk m c 1 t) (iblk m c 0 t) (iblk m c 3 t)) (k0_pay11 (iblk m c 2 t))
          (Scalar.ofBits .f32 0x3F800000#32),
        k0_pay8 (F := Ideal) (iblk m c 2 t) (iblk m c 1 t) (iblk m c 0 t) (k0_pay2 (F := Ideal))) := by
  rw [outsAt0_A m c t h]
  refine Prod.ext ?_ (Prod.ext ?_ ?_) <;> dsimp only <;> frame_out

theorem outs_B (c : Dev nD) (t : Fin cfg0.N) (h : ¬t.val % 16 = 0) :
    outsAt0 m c t.val t.isLt
      = (k0_pay9 (F := Ideal) (iblk m c 2 t) (iblk m c 0 t) (iblk m c 3 t),
        k0_pay1 (F := Ideal) (k0_pay4 (iblk m c 2 t)) (k0_pay10 (iblk m c 1 t) (iblk m c 0 t) (iblk m c 3 t)) (k0_pay11 (iblk m c 2 t))
          (Scalar.ofBits .f32 0x3F800000#32),
        k0_pay8 (F := Ideal) (iblk m c 2 t) (iblk m c 1 t) (iblk m c 0 t)
          (outsAt0 m c (t.val - 1) (Nat.lt_of_le_of_lt (Nat.sub_le _ _) t.isLt)).2.2) := by
  rw [outsAt0_B m c t h]
  refine Prod.ext ?_ (Prod.ext ?_ ?_) <;> dsimp only <;> frame_out

theorem do_at (c : Dev nD) (t : Fin cfg0.N) (r : Fin 512) (l : Fin 1024) :
    (outsAt0 m c t.val t.isLt).1 (ix2 r l)
      = gradO (E m c) (G m c) (W m c) (Inproj.row t.val r) l := by
  have e : (outsAt0 m c t.val t.isLt).1 = k0_pay9 (F := Ideal) (iblk m c 2 t) (iblk m c 0 t) (iblk m c 3 t) := by
    by_cases h : t.val % 16 = 0
    · rw [outs_A m c t h]
    · rw [outs_B m c t h]
  rw [e, do_apply]
  simp only [b0, b2, b3]
  rfl

theorem dg_at (c : Dev nD) (t : Fin cfg0.N) (r : Fin 512) (l : Fin 1024) :
    (outsAt0 m c t.val t.isLt).2.1 (ix2 r l)
      = gradG (E m c) (O m c) (G m c) (W m c) (Inproj.row t.val r) l := by
  have e : (outsAt0 m c t.val t.isLt).2.1 = k0_pay1 (F := Ideal) (k0_pay4 (iblk m c 2 t))
      (k0_pay10 (iblk m c 1 t) (iblk m c 0 t) (iblk m c 3 t)) (k0_pay11 (iblk m c 2 t)) (Scalar.ofBits .f32 0x3F800000#32) := by
    by_cases h : t.val % 16 = 0
    · rw [outs_A m c t h]
    · rw [outs_B m c t h]
  rw [e, dg_apply]
  simp only [b0, b1, b2, b3]
  rfl

theorem dw_at (c : Dev nD) (t : Fin cfg0.N) (j : S1024x1024.Idx) :
    (outsAt0 m c t.val t.isLt).2.2 j = (0 : EReal) + ∑ p ∈ Finset.range (t.val + 1), ∑ r : Fin 512,
      O m c (Inproj.row p r) (j 0) * Gate.silu (G m c (Inproj.row p r) (j 0)) * E m c (Inproj.row p r) (j 1) := by
  refine Pipeline.eq_sum_of_reset_step_apply_single (M := EReal) (fun n h => (outsAt0 m c n h).2.2) 16 (fun _ => (0 : EReal))
    (fun p (j : S1024x1024.Idx) => ∑ r : Fin 512,
      O m c (Inproj.row p r) (j 0) * Gate.silu (G m c (Inproj.row p r) (j 0)) * E m c (Inproj.row p r) (j 1))
    (fun t h j => ?_) (fun t h j => ?_) (by rw [show cfg0.N = 16 from N_0]) t j
  · obtain ⟨k, q, rfl⟩ : ∃ k q, j = ix2 k q := ⟨_, _, eq_ix2 j⟩
    rw [outs_A m c t h]
    dsimp only
    rw [dw_apply, pay2_apply]
    simp only [b0, b1, b2]
    rfl
  · obtain ⟨k, q, rfl⟩ : ∃ k q, j = ix2 k q := ⟨_, _, eq_ix2 j⟩
    rw [outs_B m c t h]
    dsimp only
    rw [dw_apply]
    simp only [b0, b1, b2]
    rfl

/-! ## The results -/

theorem final_do (c : Dev nD) : (dats m 0 c).arrAt 4 cfg0.N
    = fun j : S8192x1024.Idx => gradO (E m c) (G m c) (W m c) (j 0) (j 1) := by
  refine (dats m 0 c).arrAt_eq_of_covers 4 _ (by decide +kernel) fun t hf y => ?_
  blk_simp
  rw [after0_4]
  obtain ⟨r, l, rfl⟩ : ∃ r l, y = ix2 r l := ⟨_, _, eq_ix2 y⟩
  rw [do_at]
  congr 1
  · refine Fin.ext ?_
    rw [rv]
    blk_simp [(idx4 t).1]
  · refine Fin.ext ?_
    blk_simp [(idx4 t).2]

theorem final_dg (c : Dev nD) : (dats m 0 c).arrAt 5 cfg0.N
    = fun j : S8192x1024.Idx => gradG (E m c) (O m c) (G m c) (W m c) (j 0) (j 1) := by
  refine (dats m 0 c).arrAt_eq_of_covers 5 _ (by decide +kernel) fun t hf y => ?_
  blk_simp
  rw [after0_5]
  obtain ⟨r, l, rfl⟩ : ∃ r l, y = ix2 r l := ⟨_, _, eq_ix2 y⟩
  rw [dg_at]
  congr 1
  · refine Fin.ext ?_
    rw [rv]
    blk_simp [(idx5 t).1]
  · refine Fin.ext ?_
    blk_simp [(idx5 t).2]

theorem final_dw (c : Dev nD) : (dats m 0 c).arrAt 6 cfg0.N
    = fun j : S1024x1024.Idx => ∑ r, O m c r (j 0) * Gate.silu (G m c r (j 0)) * E m c r (j 1) := by
  refine (dats m 0 c).arrAt_eq_of_after_last 6 t0_15 (by decide +kernel) _ fun j => ?_
  blk_simp
  rw [after0_6, dw_at, zero_add]
  exact Inproj.sum_rows fun r => O m c r (j 0) * Gate.silu (G m c r (j 0)) * E m c r (j 1)

end Cert.Kernel5Ideal.OutValue

end
-- ==== Proof.AttnOutBwdReference.lean ====
/-
  The values of the reference for the gradient of the attention layer's gate and output projection.
-/
module

public import proofs.«01_k».proof.Proof.Gen.Reference5Ideal.Read
public import proofs.«01_k».proof.Proof.GateMath
public import Idealize.ShloMosaic.Lib.Pointwise

@[expose] public section

set_option maxRecDepth 16384

noncomputable section

namespace Cert.Reference5Ideal.OutValue

open Cert.Reference5Ideal Cert.Reference5Ideal.Gen Idealize.ShloMosaic Idealize.ShloMosaic.TcCoe Idealize.SL.Sem Cert.Proof
open Cert.Reference5Ideal.Read

abbrev Mat (a b : ℕ) := (⟨⟨2, ![a, b]⟩, .f32⟩ : BufTy).Contents (Elt Ideal)

variable (e o g : Mat 8192 1024) (w : Mat 1024 1024)

theorem sg_apply (r : Fin 8192) (l : Fin 1024) : val_main_v0_2 (F := Ideal) g (ix2 r l) = Gate.sg (g (ix2 r l)) := by
  pointwise [val_main_v0_2, val_main_call0_v4, val_main_call0_v3, val_main_call0_v2, val_main_call0_v1, val_main_call0_v0,
    val_main_call0_cst, val_main_call0_cst_0]
  exact Gate.sgRef_sg _

theorem silu_apply (r : Fin 8192) (l : Fin 1024) : val_main_v0_0 (F := Ideal) g (ix2 r l) = Gate.silu (g (ix2 r l)) := by
  pointwise [val_main_v0_0]
  rw [sg_apply]
  rfl

theorem slope_apply (r : Fin 8192) (l : Fin 1024) :
    val_main_v0_1 (F := Ideal) g (ix2 r l) = Gate.sg (g (ix2 r l)) * (1 - Gate.sg (g (ix2 r l))) := by
  pointwise [val_main_v0_1, val_main_call0_v7, val_main_call0_v6, val_main_call0_cst_1]
  rw [sg_apply]

theorem dw_apply (k q : Fin 1024) :
    val_main_v4 (F := Ideal) e o g (ix2 k q) = ∑ r, e (ix2 r q) * (o (ix2 r k) * Gate.silu (g (ix2 r k))) := by
  pointwise [val_main_v4, val_main_v3, val_main_v1]
  simp only [silu_apply]

theorem da_apply (r : Fin 8192) (l : Fin 1024) : val_main_v5 (F := Ideal) e w (ix2 r l) = ∑ q, e (ix2 r q) * w (ix2 l q) := by
  pointwise [val_main_v5]

theorem do_apply (r : Fin 8192) (l : Fin 1024) :
    val_main_v7 (F := Ideal) e g w (ix2 r l) = (∑ q, e (ix2 r q) * w (ix2 l q)) * Gate.silu (g (ix2 r l)) := by
  pointwise [val_main_v7]
  rw [da_apply, silu_apply]

theorem dg_apply (r : Fin 8192) (l : Fin 1024) :
    val_main_v9 (F := Ideal) e o g w (ix2 r l)
      = Gate.dsiluRef (o (ix2 r l) * ∑ q, e (ix2 r q) * w (ix2 l q)) (g (ix2 r l)) := by
  pointwise [val_main_v9, val_main_v8, val_main_call1_v0, val_main_call1_v1, val_main_call1_v2, val_main_v6]
  rw [da_apply, slope_apply, sg_apply]
  rfl

end Cert.Reference5Ideal.OutValue

end
-- ==== Proof.Finite.lean ====
/-
  The finiteness test of a whole array, read back at one entry.
-/
module

public import proofs.«01_k».proof.Proof.GateMath
public import Idealize.ShloMosaic.Lib.ReduceAll
public import Idealize.ShloMosaic.Lib.StableHlo

@[expose] public section

noncomputable section

namespace Cert.Proof.Gate

open Idealize.ShloMosaic

/-- Every entry of an array whose magnitudes are all below infinity is real. -/
theorem isReal_of_all {s u t : Shape} {axes : List (Fin s.rank)} [Subsingleton t.Idx] (x : FVec Ideal s .f32) (c : FVec Ideal s .f32)
    (hc : ∀ i, c i = Ideal.ofBits .f32 0x7F800000#32) (init : IVec u 1) (h : s.ReducesTo axes t) (hu : 0 < u.numel) (j : t.Idx)
    (e : Host.reduce IntOp.andi (cmpf .olt (Host.absf x) c) init h hu j = 1#1) (i : s.Idx) : IsReal (x i) := by
  have := Host.reduce_andi_all _ _ h hu j e i
  refine isReal_of_lt ?_
  rw [← hc i]
  exact this

theorem andi_split {s : Shape} {a b : IVec s 1} {j : s.Idx} (h : andi a b j = 1#1) : a j = 1#1 ∧ b j = 1#1 := by
  have h' : IntOp.andi (a j) (b j) = 1#1 := h
  exact IntOp.andi_eq_one.1 h'

end Cert.Proof.Gate

end
-- ==== Proof.AttnOutBwd.lean ====
/-
  The two claims about the values of the gradient of the attention layer's gate and output projection: the reference's frame,
  and the equality of the kernel's three results with the reference's where the arguments other than the gate are finite.
-/
module

public import proofs.«01_k».proof.Proof.AttnOutBwdKernel
public import proofs.«01_k».proof.Proof.AttnOutBwdReference
public import proofs.«01_k».proof.Proof.Finite
public import proofs.«01_k».proof.Proof.Gen.Pre_finite5
public import proofs.«01_k».proof.Defs

@[expose] public section

noncomputable section

namespace Cert.Proof.AttnOutBwd

open Idealize.ShloMosaic Idealize.SL.Sem

/-- The reference runs to its end, keeps its arguments and leaves the counters at zero. -/
theorem frame_reference : Cert.quiescent_Reference5Ideal := fun m ρ _ =>
  (θ_run _ _ _).mono (fun r h => ⟨fun c => (h c).2.2.2, Idealize.ShloMosaic.sem_eq_zero_of_no_sems (by decide) r.2⟩)
    (Cert.Reference5Ideal.Value.run (F := Ideal) m ρ)

/-- The same where the arguments are finite. -/
theorem frame_reference_pre : Cert.quiescent_Reference5Ideal_pre_finite5 := fun m ρ _ => frame_reference m ρ trivial

/-- What the precondition says: the incoming gradient, the attention's output and the weight are real. -/
theorem real {m : (ℓ : Loc Cert.Kernel5Ideal.nD Cert.Kernel5Ideal.τ Cert.Kernel5Ideal.sig) → Buf (Elt Ideal) ℓ}
    (h : Cert.Pre_Kernel5Ideal_finite5 m) (c : Dev Cert.Kernel5Ideal.nD) :
    (∀ r k, Gate.IsReal (Cert.Kernel5Ideal.OutValue.E m c r k)) ∧ (∀ r k, Gate.IsReal (Cert.Kernel5Ideal.OutValue.O m c r k))
      ∧ (∀ k q, Gate.IsReal (Cert.Kernel5Ideal.OutValue.W m c k q)) := by
  have h := congrFun (h c) finZeroElim
  dsimp only [Cert.Pre_finite5.fn] at h
  obtain ⟨h, h3⟩ := Gate.andi_split h
  obtain ⟨h1, h2⟩ := Gate.andi_split h
  haveI : Subsingleton Cert.Pre_finite5.S_.Idx := ⟨fun a b => funext fun i => i.elim0⟩
  exact ⟨fun r k => Gate.isReal_of_all _ _ (fun _ => rfl) _ _ _ _ h1 (ix2 r k),
    fun r k => Gate.isReal_of_all _ _ (fun _ => rfl) _ _ _ _ h2 (ix2 r k),
    fun r k => Gate.isReal_of_all _ _ (fun _ => rfl) _ _ _ _ h3 (ix2 r k)⟩

/-- The kernel's three results are the reference's. -/
theorem algebraic : Cert.algebraic_Kernel5Ideal_Reference5Ideal_pre_finite5 := fun m g m' g' hpre hm => by
  refine ⟨fun c => (Cert.Kernel5Ideal.Gen.dats m 0 c).arrAt 4 Cert.Kernel5Ideal.cfg0.N,
    fun c => (Cert.Kernel5Ideal.Gen.dats m 0 c).arrAt 5 Cert.Kernel5Ideal.cfg0.N,
    fun c => (Cert.Kernel5Ideal.Gen.dats m 0 c).arrAt 6 Cert.Kernel5Ideal.cfg0.N,
    Cert.Kernel5Ideal.Value.run_blocks (F := Ideal) m g, ?_⟩
  refine (θ_run _ _ _).mono (fun r h c => ⟨(h c).1.trans ?_, (h c).2.1.trans ?_, (h c).2.2.1.trans ?_, (h c).2.2.2⟩)
    (Cert.Reference5Ideal.Value.run (F := Ideal) m' g')
  · obtain ⟨h0, h1, h2, h3⟩ := hm c
    rw [Cert.Reference5Ideal.Read.val_main_v7_eq, h0, h2, h3]
    refine Eq.trans (funext fun j => ?_) (Cert.Kernel5Ideal.OutValue.final_do m c).symm
    obtain ⟨a, b, rfl⟩ : ∃ a b, j = ix2 a b := ⟨_, _, eq_ix2 j⟩
    rw [Cert.Reference5Ideal.OutValue.do_apply]
    rfl
  · obtain ⟨h0, h1, h2, h3⟩ := hm c
    rw [Cert.Reference5Ideal.Read.val_main_v9_eq, h0, h1, h2, h3]
    refine Eq.trans (funext fun j => ?_) (Cert.Kernel5Ideal.OutValue.final_dg m c).symm
    obtain ⟨a, b, rfl⟩ : ∃ a b, j = ix2 a b := ⟨_, _, eq_ix2 j⟩
    rw [Cert.Reference5Ideal.OutValue.dg_apply]
    obtain ⟨hE, hO, hW⟩ := real hpre c
    obtain ⟨p, hp⟩ : Gate.IsReal (Cert.Kernel5Ideal.OutValue.da (Cert.Kernel5Ideal.OutValue.E m c a) (Cert.Kernel5Ideal.OutValue.W m c) b
        * Cert.Kernel5Ideal.OutValue.O m c a b) := (Gate.IsReal.sum fun q => (hE a q).mul (hW b q)).mul (hO a b)
    have e := Gate.dsilu_eq p (Cert.Kernel5Ideal.OutValue.G m c a b)
    rw [← hp] at e
    refine Eq.trans ?_ e.symm
    rw [mul_comm (Cert.Kernel5Ideal.OutValue.da _ _ _)]
    rfl
  · obtain ⟨h0, h1, h2, h3⟩ := hm c
    rw [Cert.Reference5Ideal.Read.val_main_v4_eq, h0, h1, h2]
    refine Eq.trans (funext fun j => ?_) (Cert.Kernel5Ideal.OutValue.final_dw m c).symm
    obtain ⟨a, b, rfl⟩ : ∃ a b, j = ix2 a b := ⟨_, _, eq_ix2 j⟩
    rw [Cert.Reference5Ideal.OutValue.dw_apply]
    exact Finset.sum_congr rfl fun r _ => mul_comm _ _

end Cert.Proof.AttnOutBwd

end
-- ==== Proof.SsmOutBwdMath.lean ====
/-
  One row of the gradient of a state-space layer's output on the extended reals: the kernel's closed form of the nonlinearity's
  derivative equals what differentiating it gives.
-/
module

public import proofs.«01_k».proof.Proof.GateMath

@[expose] public section

noncomputable section

namespace Cert.Proof.SsmBwd

open Idealize.ShloMosaic Cert.Proof.Gate

/-- The decimal 0.044715. -/
def cube : EReal := ((8943 / 200000 : ℝ) : EReal)

/-- The decimal 0.134145. -/
def square : EReal := ((26829 / 200000 : ℝ) : EReal)

/-- The rounded `√(2/π)`, as both programs hold it. -/
def kk : EReal := Ideal.ofBits .f32 0x3F4C422A#32

def hf : EReal := Ideal.ofBits .f32 0x3F000000#32

theorem kk_real : ∃ r : ℝ, kk = (r : EReal) := ⟨_, by simp [kk, Ideal.ofBits, Ideal.ieee]; rfl⟩

theorem hf_eq : hf = ((1 / 2 : ℝ) : EReal) := by
  simp [hf, Ideal.ofBits, Ideal.ieee]; rw [← EReal.coe_mul]; norm_num

theorem num_eq : Ideal.ofBits .f32 0x472EAB00#32 = ((44715 : ℝ) : EReal) := by
  simp [Ideal.ofBits, Ideal.ieee]; rw [← EReal.coe_mul]; norm_num

theorem den_eq : Ideal.ofBits .f32 0x49742400#32 = ((1000000 : ℝ) : EReal) := by
  simp [Ideal.ofBits, Ideal.ieee]; rw [← EReal.coe_mul]; norm_num

theorem three_eq : Ideal.ofBits .f32 0x40400000#32 = ((3 : ℝ) : EReal) := by
  simp [Ideal.ofBits, Ideal.ieee]; rw [← EReal.coe_mul]; norm_num

/-! ## The nonlinearity -/

def th (y : EReal) : EReal := Ideal.tanh (kk * (y + cube * (y * y * y)))

def cdf (y : EReal) : EReal := hf * (1 + th y)

def gelu (y : EReal) : EReal := y * cdf y

/-- Its derivative as the kernel writes it. -/
def slope (y : EReal) : EReal := cdf y + hf * y * (1 - th y * th y) * (kk * (1 + square * (y * y)))

/-- The reference's, with the decimal as a quotient. -/
def thRef (y : EReal) : EReal :=
  Ideal.tanh (kk * (y + Ideal.div (Ideal.ofBits .f32 0x472EAB00#32 * (y * y * y)) (Ideal.ofBits .f32 0x49742400#32)))

/-- What the gradient carries through the argument of the hyperbolic tangent. -/
def thru (d y : EReal) : EReal := kk * (hf * (y * d) * ((1 + th y) * (1 - th y)))

/-- What the gradient carries through the cube's coefficient. -/
def coef (d y : EReal) : EReal :=
  Ideal.ofBits .f32 0x472EAB00#32 * Ideal.div (thru d y) (Ideal.ofBits .f32 0x49742400#32)

/-- What differentiating the nonlinearity gives, at the incoming gradient `d`. -/
def dyRef (d y : EReal) : EReal :=
  d * cdf y + thru d y + coef d y * (Ideal.ofBits .f32 0x40400000#32 * (y * y))

theorem thRef_eq (y : ℝ) : thRef (y : EReal) = th y := by
  have e : Ideal.div (((44715 : ℝ) : EReal) * ((y : EReal) * y * y)) ((1000000 : ℝ) : EReal) = cube * ((y : EReal) * y * y) := by
    rw [Ideal.div_coe (by norm_num), cube]
    norm_cast
    ring
  rw [thRef, th, num_eq, den_eq, e]

theorem th_real (y : ℝ) : ∃ t : ℝ, th (y : EReal) = (t : EReal) ∧ -1 < t := by
  obtain ⟨k, hk⟩ := kk_real
  refine ⟨Real.tanh (k * (y + 8943 / 200000 * (y * y * y))), ?_, Real.neg_one_lt_tanh _⟩
  rw [th, hk, cube, ← Ideal.tanh_coe]
  norm_cast

theorem gelu_real (y : ℝ) : IsReal (gelu (y : EReal)) := by
  obtain ⟨t, ht, -⟩ := th_real y
  exact ⟨y * (1 / 2 * (1 + t)), by rw [gelu, cdf, ht, hf_eq]; norm_cast⟩

theorem gelu_ne_zero {y : ℝ} (h : y ≠ 0) : gelu (y : EReal) ≠ 0 := by
  obtain ⟨t, ht, h1⟩ := th_real y
  rw [gelu, cdf, ht, hf_eq]
  have : y * (1 / 2 * (1 + t)) ≠ 0 := mul_ne_zero h (by have : 0 < 1 + t := by linarith
                                                        positivity)
  intro e
  exact this (by exact_mod_cast e)

/-- The kernel's derivative is what differentiating gives, at a real argument and a real incoming gradient. -/
theorem dy_eq_real (d y : ℝ) : (d : EReal) * slope y = dyRef d y := by
  obtain ⟨t, ht, -⟩ := th_real y
  obtain ⟨k, hk⟩ := kk_real
  have e : coef (d : EReal) y = ((44715 * (k * (1 / 2 * (y * d) * ((1 + t) * (1 - t))) * (1 / 1000000)) : ℝ) : EReal) := by
    rw [coef, thru, num_eq, den_eq, Ideal.div_coe (by norm_num), ht, hk, hf_eq]
    norm_cast
  rw [dyRef, e, thru, slope, cdf, ht, hk, hf_eq, square, three_eq]
  norm_cast
  ring

/-- At a zero argument the same holds of every incoming gradient. -/
theorem dy_eq_zero (d : EReal) : d * slope 0 = dyRef d 0 := by
  have ht : th 0 = 0 := by
    have : th 0 = Ideal.tanh ((0 : ℝ) : EReal) := by simp [th]
    rw [this, Ideal.tanh_coe]
    simp
  have e : thru d 0 = 0 := by simp [thru]
  have e' : coef d 0 = 0 := by
    rw [coef, e, den_eq, Ideal.div_coe (by norm_num)]
    simp
  rw [dyRef, e, e', slope, cdf, ht]
  simp

/-! ## Finite sums -/

theorem IsReal.of_add {a b : EReal} (h : IsReal (a + b)) : IsReal a ∧ IsReal b := by
  obtain ⟨r, hr⟩ := h
  induction a using EReal.rec with
  | bot => simp at hr
  | top =>
    induction b using EReal.rec with
    | bot => simp at hr
    | top => simp at hr
    | coe b => simp at hr
  | coe a =>
    induction b using EReal.rec with
    | bot => simp at hr
    | top => simp at hr
    | coe b => exact ⟨⟨a, rfl⟩, ⟨b, rfl⟩⟩

theorem IsReal.of_sum {ι : Type} [Fintype ι] {f : ι → EReal} (h : IsReal (∑ i, f i)) (i : ι) : IsReal (f i) := by
  classical
  rw [← Finset.add_sum_erase _ _ (Finset.mem_univ i)] at h
  exact (IsReal.of_add h).1

/-- An extended real whose product with a nonzero real is real. -/
theorem IsReal.of_mul {a b : EReal} (ha : IsReal a) (h0 : a ≠ 0) (h : IsReal (a * b)) : IsReal b := by
  obtain ⟨x, rfl⟩ := ha
  obtain ⟨r, hr⟩ := h
  have hx : x ≠ 0 := fun e => h0 (by rw [e]; rfl)
  induction b using EReal.rec with
  | coe b => exact ⟨b, rfl⟩
  | bot =>
    rcases lt_or_gt_of_ne hx with h | h
    · rw [EReal.coe_mul_bot_of_neg h] at hr; simp at hr
    · rw [EReal.coe_mul_bot_of_pos h] at hr; simp at hr
  | top =>
    rcases lt_or_gt_of_ne hx with h | h
    · rw [EReal.coe_mul_top_of_neg h] at hr; simp at hr
    · rw [EReal.coe_mul_top_of_pos h] at hr; simp at hr

/-- The logistic function's slope vanishes at both infinities. -/
theorem real_of_slope {x : EReal} (h : sg x * (1 - sg x) ≠ 0) : IsReal x := by
  induction x using EReal.rec with
  | coe r => exact ⟨r, rfl⟩
  | bot => exact absurd (by rw [sg_eq]; simp) h
  | top =>
    refine absurd ?_ h
    have : (1 : EReal) - 1 = 0 := by rw [← EReal.coe_one, ← EReal.coe_sub]; simp
    rw [sg_eq]; simp [this]

/-! ## The row -/

section Row

variable (y z e g : Fin 1024 → EReal) (w : Fin 1024 → Fin 1024 → EReal) (b : Fin 1024 → EReal) (v : Fin 1024 → Fin 1024 → EReal)

/-- The gated linear unit's gate at the row `z`. -/
def gl (l : Fin 1024) : EReal := sg ((∑ k, z k * w k l) + b l)

def da (l : Fin 1024) : EReal := ∑ q, e q * v l q

def dz (l : Fin 1024) : EReal := da e v l * silu (g l)

/-- The gradient of the gated linear unit's product. -/
def dpre (l : Fin 1024) : EReal := dz e g v l * z l * (gl z w b l * (1 - gl z w b l))

/-- The gradient of the nonlinearity's value. -/
def dgelu (l : Fin 1024) : EReal := dz e g v l * gl z w b l + ∑ q, dpre z e g w b v q * w l q

def dg (l : Fin 1024) : EReal := da e v l * (z l * gl z w b l) * dsilu (g l)

def dy (l : Fin 1024) : EReal := dgelu z e g w b v l * slope (y l)

end Row

section Eq

variable {y e g : Fin 1024 → EReal} {w : Fin 1024 → Fin 1024 → EReal} {b : Fin 1024 → EReal} {v : Fin 1024 → Fin 1024 → EReal}

theorem gl_real (z : Fin 1024 → EReal) (w : Fin 1024 → Fin 1024 → EReal) (b : Fin 1024 → EReal) (l : Fin 1024) : IsReal (gl z w b l) :=
  sg_real _

theorem silu_real {x : EReal} (h : IsReal x) : IsReal (silu x) := h.mul (sg_real x)

theorem sub_real {a : EReal} (h : IsReal a) : IsReal (1 - a) := by
  obtain ⟨r, rfl⟩ := h
  exact ⟨1 - r, by norm_cast⟩

theorem dz_real (he : ∀ q, IsReal (e q)) (hg : ∀ l, IsReal (g l)) (hv : ∀ k q, IsReal (v k q)) (l : Fin 1024) : IsReal (dz e g v l) :=
  (IsReal.sum fun q => (he q).mul (hv l q)).mul (silu_real (hg l))

/-- Where the argument is not zero the gradient of the nonlinearity's value is real, infinite weights or not. -/
theorem dgelu_real (hy : ∀ k, IsReal (y k)) (he : ∀ q, IsReal (e q)) (hg : ∀ l, IsReal (g l)) (hv : ∀ k q, IsReal (v k q))
    (l : Fin 1024) (h0 : y l ≠ 0) : IsReal (dgelu (fun k => gelu (y k)) e g w b v l) := by
  have hz : ∀ k, IsReal (gelu (y k)) := fun k => by obtain ⟨r, hr⟩ := hy k; rw [hr]; exact gelu_real r
  have hz0 : gelu (y l) ≠ 0 := by
    obtain ⟨r, hr⟩ := hy l
    rw [hr] at h0 ⊢
    exact gelu_ne_zero fun e => h0 (by rw [e]; rfl)
  refine IsReal.add ((dz_real he hg hv l).mul (gl_real _ _ _ _)) (IsReal.sum fun q => ?_)
  have hd : IsReal (dpre (fun k => gelu (y k)) e g w b v q) :=
    ((dz_real he hg hv q).mul (hz q)).mul ((gl_real _ _ _ _).mul (sub_real (gl_real _ _ _ _)))
  by_cases h : gl (fun k => gelu (y k)) w b q * (1 - gl (fun k => gelu (y k)) w b q) = 0
  · have : dpre (fun k => gelu (y k)) e g w b v q = 0 := by rw [dpre, h, mul_zero]
    rw [this, zero_mul]
    exact ⟨0, rfl⟩
  · exact hd.mul (IsReal.of_mul (hz l) hz0 (IsReal.of_sum (IsReal.of_add (real_of_slope h)).1 l))

/-- The kernel's row of the gradient of the layer's argument is the reference's. -/
theorem dy_eq (hy : ∀ k, IsReal (y k)) (he : ∀ q, IsReal (e q)) (hg : ∀ l, IsReal (g l)) (hv : ∀ k q, IsReal (v k q)) (l : Fin 1024) :
    dy y (fun k => gelu (y k)) e g w b v l = dyRef (dgelu (fun k => gelu (y k)) e g w b v l) (y l) := by
  by_cases h0 : y l = 0
  · rw [dy, h0]
    exact dy_eq_zero _
  · obtain ⟨d, hd⟩ := dgelu_real (w := w) (b := b) hy he hg hv l h0
    obtain ⟨r, hr⟩ := hy l
    rw [dy, hd, hr]
    exact dy_eq_real d r

/-- The kernel's row of the gate's gradient is the reference's. -/
theorem dg_eq (hy : ∀ k, IsReal (y k)) (he : ∀ q, IsReal (e q)) (hv : ∀ k q, IsReal (v k q)) (l : Fin 1024) :
    dg (fun k => gelu (y k)) e g w b v l
      = dsiluRef (gelu (y l) * gl (fun k => gelu (y k)) w b l * da e v l) (g l) := by
  have hz : IsReal (gelu (y l)) := by obtain ⟨r, hr⟩ := hy l; rw [hr]; exact gelu_real r
  obtain ⟨p, hp⟩ : IsReal (da e v l * (gelu (y l) * gl (fun k => gelu (y k)) w b l)) :=
    (IsReal.sum fun q => (he q).mul (hv l q)).mul (hz.mul (gl_real _ _ _ _))
  rw [dg, mul_comm (gelu (y l) * _), hp]
  exact dsilu_eq p (g l)

end Eq

end Cert.Proof.SsmBwd

end
-- ==== Proof.SsmOutBwdKernel.lean ====
/-
  The values of the kernel for the gradient of a state-space layer's output.
-/
module

public import proofs.«01_k».proof.Proof.Gen.Kernel6Ideal.Value
public import proofs.«01_k».proof.Proof.SsmOutBwdMath
public import Idealize.ShloMosaic.Lib.Pipeline.ValueKit
public import Idealize.ShloMosaic.Lib.Pointwise

@[expose] public section

set_option maxRecDepth 16384

noncomputable section

namespace Cert.Kernel6Ideal.SsmOutBwdValue

open Cert.Kernel6Ideal Cert.Kernel6Ideal.Gen Idealize.ShloMosaic Idealize.ShloMosaic.TcCoe Idealize.SL.Sem Cert.Proof

variable (m : (ℓ : Loc nD τ sig) → Buf (Elt Ideal) ℓ)

theorem pay5_apply (y : Vec Ideal S512x1024 .f32) (r : Fin 512) (l : Fin 1024) : k0_pay5 y (ix2 r l) = SsmBwd.gelu (y (ix2 r l)) := by
  pointwise [k0_pay5]
  rfl

theorem pay6_apply (y : Vec Ideal S512x1024 .f32) (r : Fin 512) (l : Fin 1024) : k0_pay6 y (ix2 r l) = SsmBwd.gelu (y (ix2 r l)) := by
  pointwise [k0_pay6]
  rw [pay5_apply]

theorem pay7_apply (y : Vec Ideal S512x1024 .f32) (w : Vec Ideal S1024x1024 .bf16) (b : Vec Ideal S1x1024 .f32) (r : Fin 512) (l : Fin 1024) :
    k0_pay7 y w b (ix2 r l) = SsmBwd.gl (fun k => SsmBwd.gelu (y (ix2 r k))) (fun k q => w (ix2 k q)) (fun k => b (ix2 0 k)) l := by
  pointwise [k0_pay7]
  simp only [pay6_apply]
  rfl

theorem pay8_apply (y : Vec Ideal S512x1024 .f32) (w : Vec Ideal S1024x1024 .bf16) (b : Vec Ideal S1x1024 .f32) (r : Fin 512) (l : Fin 1024) :
    k0_pay8 y w b (ix2 r l) = SsmBwd.gelu (y (ix2 r l)) * SsmBwd.gl (fun k => SsmBwd.gelu (y (ix2 r k))) (fun k q => w (ix2 k q)) (fun k => b (ix2 0 k)) l := by
  pointwise [k0_pay8]
  rw [pay7_apply, pay5_apply]

theorem pay9_apply (g : Vec Ideal S512x1024 .bf16) (r : Fin 512) (l : Fin 1024) : k0_pay9 g (ix2 r l) = g (ix2 r l) := by
  pointwise [k0_pay9]

theorem pay11_apply (g : Vec Ideal S512x1024 .bf16) (r : Fin 512) (l : Fin 1024) : k0_pay11 (k0_pay10 g) (ix2 r l) = Gate.sg (g (ix2 r l)) := by
  pointwise [k0_pay11, k0_pay10]
  rw [pay9_apply]
  rfl

theorem pay12_apply (g : Vec Ideal S512x1024 .bf16) (r : Fin 512) (l : Fin 1024) :
    k0_pay12 (k0_pay9 g) (k0_pay10 g) (ix2 r l) = Gate.silu (g (ix2 r l)) := by
  pointwise [k0_pay12]
  rw [pay11_apply, pay9_apply]
  rfl

theorem pay13_apply (e : Vec Ideal S512x1024 .f32) (r : Fin 512) (l : Fin 1024) : k0_pay13 e (ix2 r l) = e (ix2 r l) := by
  pointwise [k0_pay13]

theorem pay14_apply (e : Vec Ideal S512x1024 .f32) (v : Vec Ideal S1024x1024 .bf16) (r : Fin 512) (l : Fin 1024) :
    k0_pay14 e v (ix2 r l) = SsmBwd.da (fun k => e (ix2 r k)) (fun k q => v (ix2 k q)) l := by
  pointwise [k0_pay14]
  simp only [pay13_apply]
  rfl

theorem pay16_apply (g : Vec Ideal S512x1024 .bf16) (e : Vec Ideal S512x1024 .f32) (v : Vec Ideal S1024x1024 .bf16) (r : Fin 512) (l : Fin 1024) :
    k0_pay16 (k0_pay9 g) (k0_pay10 g) e v (ix2 r l) = SsmBwd.dz (fun k => e (ix2 r k)) (fun k => g (ix2 r k)) (fun k q => v (ix2 k q)) l := by
  pointwise [k0_pay16]
  rw [pay14_apply, pay12_apply]
  rfl

section Row

variable (y : Vec Ideal S512x1024 .f32) (w : Vec Ideal S1024x1024 .bf16) (b : Vec Ideal S1x1024 .f32) (g : Vec Ideal S512x1024 .bf16) (e : Vec Ideal S512x1024 .f32) (v : Vec Ideal S1024x1024 .bf16)

/-- The gradient of the gated linear unit's product, as the kernel's body holds it. -/
abbrev pre : FVec Ideal S512x1024 .f32 := k0_pay18 (k0_pay5 y) (k0_pay7 y w b) (k0_pay9 g) (k0_pay10 g) e v

theorem pre_apply (r : Fin 512) (l : Fin 1024) :
    pre y w b g e v (ix2 r l) = SsmBwd.dpre (fun k => SsmBwd.gelu (y (ix2 r k))) (fun k => e (ix2 r k)) (fun k => g (ix2 r k)) (fun k q => w (ix2 k q)) (fun k => b (ix2 0 k)) (fun k q => v (ix2 k q)) l := by
  unfold pre
  pointwise [k0_pay18]
  rw [pay16_apply, pay5_apply, pay7_apply]
  rfl

theorem pay19_apply (r : Fin 512) (l : Fin 1024) :
    k0_pay19 (k0_pay5 y) (k0_pay7 y w b) (k0_pay9 g) (k0_pay10 g) e v (ix2 r l) = SsmBwd.dpre (fun k => SsmBwd.gelu (y (ix2 r k))) (fun k => e (ix2 r k)) (fun k => g (ix2 r k)) (fun k q => w (ix2 k q)) (fun k => b (ix2 0 k)) (fun k q => v (ix2 k q)) l := by
  pointwise [k0_pay19]
  exact pre_apply y w b g e v r l

/-- The gradient of the nonlinearity's value, as the kernel's body holds it. -/
abbrev dgl : FVec Ideal S512x1024 .f32 :=
  k0_pay22 (k0_pay20 (k0_pay7 y w b) (k0_pay9 g) (k0_pay10 g) e v)
    (k0_pay21 (k0_pay5 y) (k0_pay7 y w b) (k0_pay9 g) (k0_pay10 g) e v w)

theorem pay21_apply (r : Fin 512) (l : Fin 1024) :
    k0_pay21 (k0_pay5 y) (k0_pay7 y w b) (k0_pay9 g) (k0_pay10 g) e v w (ix2 r l)
      = ∑ q, SsmBwd.dpre (fun k => SsmBwd.gelu (y (ix2 r k))) (fun k => e (ix2 r k)) (fun k => g (ix2 r k)) (fun k q => w (ix2 k q)) (fun k => b (ix2 0 k)) (fun k q => v (ix2 k q)) q * w (ix2 l q) := by
  pointwise [k0_pay21]
  simp only [pay19_apply]

theorem pay20_apply (r : Fin 512) (l : Fin 1024) :
    k0_pay20 (k0_pay7 y w b) (k0_pay9 g) (k0_pay10 g) e v (ix2 r l)
      = SsmBwd.dz (fun k => e (ix2 r k)) (fun k => g (ix2 r k)) (fun k q => v (ix2 k q)) l * SsmBwd.gl (fun k => SsmBwd.gelu (y (ix2 r k))) (fun k q => w (ix2 k q)) (fun k => b (ix2 0 k)) l := by
  pointwise [k0_pay20]
  rw [pay16_apply, pay7_apply]

theorem dgl_apply (r : Fin 512) (l : Fin 1024) : dgl y w b g e v (ix2 r l) = SsmBwd.dgelu (fun k => SsmBwd.gelu (y (ix2 r k))) (fun k => e (ix2 r k)) (fun k => g (ix2 r k)) (fun k q => w (ix2 k q)) (fun k => b (ix2 0 k)) (fun k q => v (ix2 k q)) l := by
  unfold dgl
  pointwise [k0_pay22]
  rw [pay20_apply, pay21_apply]
  rfl

theorem slope_apply (r : Fin 512) (l : Fin 1024) : k0_pay25 y (ix2 r l) = SsmBwd.slope (y (ix2 r l)) := by
  pointwise [k0_pay25]
  rfl

theorem dy_apply (r : Fin 512) (l : Fin 1024) :
    k0_pay1 (dgl y w b g e v) (k0_pay25 y) (ix2 r l) = SsmBwd.dy (fun k => y (ix2 r k)) (fun k => SsmBwd.gelu (y (ix2 r k))) (fun k => e (ix2 r k)) (fun k => g (ix2 r k)) (fun k q => w (ix2 k q)) (fun k => b (ix2 0 k)) (fun k q => v (ix2 k q)) l := by
  pointwise [k0_pay1]
  rw [dgl_apply, slope_apply]
  rfl

theorem dg_apply (r : Fin 512) (l : Fin 1024) :
    k0_pay17 (k0_pay8 y w b) (k0_pay9 g) (k0_pay10 g) e v (ix2 r l) = SsmBwd.dg (fun k => SsmBwd.gelu (y (ix2 r k))) (fun k => e (ix2 r k)) (fun k => g (ix2 r k)) (fun k q => w (ix2 k q)) (fun k => b (ix2 0 k)) (fun k q => v (ix2 k q)) l := by
  pointwise [k0_pay17]
  simp only [pay14_apply, pay8_apply, pay9_apply, pay11_apply]
  rfl

theorem dwg_apply (a : Vec Ideal S1024x1024 .f32) (k q : Fin 1024) :
    k0_pay23 (k0_pay6 y) (k0_pay19 (k0_pay5 y) (k0_pay7 y w b) (k0_pay9 g) (k0_pay10 g) e v) a (ix2 k q)
      = a (ix2 k q) + ∑ r : Fin 512, SsmBwd.gelu (y (ix2 r k)) * SsmBwd.dpre (fun k => SsmBwd.gelu (y (ix2 r k))) (fun k => e (ix2 r k)) (fun k => g (ix2 r k)) (fun k q => w (ix2 k q)) (fun k => b (ix2 0 k)) (fun k q => v (ix2 k q)) q := by
  pointwise [k0_pay23]
  simp only [pay6_apply, pay19_apply]

theorem dbg_apply (a : Vec Ideal S1x1024 .f32) (q : Fin 1024) :
    k0_pay24 (pre y w b g e v) a (ix2 0 q) = a (ix2 0 q) + ∑ r : Fin 512, SsmBwd.dpre (fun k => SsmBwd.gelu (y (ix2 r k))) (fun k => e (ix2 r k)) (fun k => g (ix2 r k)) (fun k q => w (ix2 k q)) (fun k => b (ix2 0 k)) (fun k q => v (ix2 k q)) q := by
  pointwise [k0_pay24]
  simp only [pre_apply]

theorem dwo_apply (a : Vec Ideal S1024x1024 .f32) (k q : Fin 1024) :
    k0_pay15 (k0_pay8 y w b) (k0_pay9 g) (k0_pay10 g) e a (ix2 k q)
      = a (ix2 k q) + ∑ r : Fin 512, SsmBwd.gelu (y (ix2 r k)) * SsmBwd.gl (fun k => SsmBwd.gelu (y (ix2 r k))) (fun k q => w (ix2 k q)) (fun k => b (ix2 0 k)) k * Gate.silu (g (ix2 r k)) * e (ix2 r q) := by
  pointwise [k0_pay15]
  simp only [pay8_apply, pay12_apply, pay13_apply]

end Row

theorem zero2_apply (j) : k0_pay2 (F := Ideal) j = 0 := Ideal.ofBits_zero_f32
theorem zero3_apply (j) : k0_pay3 (F := Ideal) j = 0 := Ideal.ofBits_zero_f32
theorem zero4_apply (j) : k0_pay4 (F := Ideal) j = 0 := Ideal.ofBits_zero_f32

/-! ## The arguments and their blocks -/

def E (c : Dev nD) (r : Fin 8192) (k : Fin 1024) : EReal := m ((c : Thread nD τ).loc main_arg0) (ix2 r k)
def Y (c : Dev nD) (r : Fin 8192) (k : Fin 1024) : EReal := m ((c : Thread nD τ).loc main_arg1) (ix2 r k)
def G (c : Dev nD) (r : Fin 8192) (k : Fin 1024) : EReal := m ((c : Thread nD τ).loc main_arg2) (ix2 r k)
def W (c : Dev nD) (k : Fin 1024) (q : Fin 1024) : EReal := m ((c : Thread nD τ).loc main_arg3) (ix2 k q)
def B (c : Dev nD) (k : Fin 1024) : EReal := m ((c : Thread nD τ).loc main_arg4) (ix1 k)
def U (c : Dev nD) (k : Fin 1024) (q : Fin 1024) : EReal := m ((c : Thread nD τ).loc main_arg5) (ix2 k q)

/-- The nonlinearity's value. -/
def Z (c : Dev nD) (r : Fin 8192) (k : Fin 1024) : EReal := SsmBwd.gelu (Y m c r k)

/-- The gradient of the layer's argument. -/
def gradY (c : Dev nD) (i : Fin 8192) (l : Fin 1024) : EReal :=
  SsmBwd.dy (Y m c i) (Z m c i) (E m c i) (G m c i) (W m c) (B m c) (U m c) l

/-- The gradient of the gate. -/
def gradG (c : Dev nD) (i : Fin 8192) (l : Fin 1024) : EReal :=
  SsmBwd.dg (Z m c i) (E m c i) (G m c i) (W m c) (B m c) (U m c) l

/-- The gradient of the gated linear unit's product. -/
def pr (c : Dev nD) (i : Fin 8192) (l : Fin 1024) : EReal :=
  SsmBwd.dpre (Z m c i) (E m c i) (G m c i) (W m c) (B m c) (U m c) l

/-- The row of the argument of the output projection. -/
def act (c : Dev nD) (i : Fin 8192) (l : Fin 1024) : EReal :=
  Z m c i l * SsmBwd.gl (Z m c i) (W m c) (B m c) l * Gate.silu (G m c i l)

theorem idx0 : ∀ t : Fin grid0.N, win0_0.index t 0 = t.val ∧ win0_0.index t 1 = 0 := by decide +kernel
theorem idx1 : ∀ t : Fin grid0.N, win0_1.index t 0 = t.val ∧ win0_1.index t 1 = 0 := by decide +kernel
theorem idx2 : ∀ t : Fin grid0.N, win0_2.index t 0 = t.val ∧ win0_2.index t 1 = 0 := by decide +kernel
theorem idx3 : ∀ t : Fin grid0.N, win0_3.index t 0 = 0 ∧ win0_3.index t 1 = 0 := by decide +kernel
theorem idx4 : ∀ t : Fin grid0.N, win0_4.index t 0 = 0 ∧ win0_4.index t 1 = 0 := by decide +kernel
theorem idx5 : ∀ t : Fin grid0.N, win0_5.index t 0 = 0 ∧ win0_5.index t 1 = 0 := by decide +kernel
theorem idx6 : ∀ t : Fin grid0.N, win0_6.index t 0 = t.val ∧ win0_6.index t 1 = 0 := by decide +kernel
theorem idx7 : ∀ t : Fin grid0.N, win0_7.index t 0 = t.val ∧ win0_7.index t 1 = 0 := by decide +kernel

theorem rv (t : Fin cfg0.N) (r : Fin 512) : (Inproj.row t.val r).val = t.val * 512 + r.val :=
  Inproj.row_val (by have := t.isLt; have : cfg0.N = 16 := N_0; omega) r

theorem b0 (c : Dev nD) (t : Fin cfg0.N) (r : Fin 512) (l : Fin 1024) : iblk m c 0 t (ix2 r l) = E m c (Inproj.row t.val r) l := by
  unfold E
  blk_point [iblk, rv, (idx0 t).1, (idx0 t).2]
theorem b1 (c : Dev nD) (t : Fin cfg0.N) (r : Fin 512) (l : Fin 1024) : iblk m c 1 t (ix2 r l) = Y m c (Inproj.row t.val r) l := by
  unfold Y
  blk_point [iblk, rv, (idx1 t).1, (idx1 t).2]
theorem b2 (c : Dev nD) (t : Fin cfg0.N) (r : Fin 512) (l : Fin 1024) : iblk m c 2 t (ix2 r l) = G m c (Inproj.row t.val r) l := by
  unfold G
  blk_point [iblk, rv, (idx2 t).1, (idx2 t).2]
theorem b3 (c : Dev nD) (t : Fin cfg0.N) (k : Fin 1024) (q : Fin 1024) : iblk m c 3 t (ix2 k q) = W m c k q := by
  unfold W
  blk_point [iblk, (idx3 t).1, (idx3 t).2]
theorem b4 (c : Dev nD) (t : Fin cfg0.N) (l : Fin 1024) : iblk m c 4 t (ix2 0 l) = B m c l := by
  unfold B
  blk_point [iblk, (idx4 t).1, (idx4 t).2]
theorem b5 (c : Dev nD) (t : Fin cfg0.N) (k : Fin 1024) (q : Fin 1024) : iblk m c 5 t (ix2 k q) = U m c k q := by
  unfold U
  blk_point [iblk, (idx5 t).1, (idx5 t).2]

/-! ## The buffers after a point -/

theorem outs_A (c : Dev nD) (t : Fin cfg0.N) (h : t.val % 16 = 0) :
    outsAt0 m c t.val t.isLt
      = (k0_pay1 (F := Ideal) (dgl (iblk m c 1 t) (iblk m c 3 t) (iblk m c 4 t) (iblk m c 2 t) (iblk m c 0 t) (iblk m c 5 t)) (k0_pay25 (iblk m c 1 t)),
        k0_pay17 (F := Ideal) (k0_pay8 (iblk m c 1 t) (iblk m c 3 t) (iblk m c 4 t)) (k0_pay9 (iblk m c 2 t)) (k0_pay10 (iblk m c 2 t)) (iblk m c 0 t) (iblk m c 5 t),
        k0_pay23 (F := Ideal) (k0_pay6 (iblk m c 1 t)) (k0_pay19 (k0_pay5 (iblk m c 1 t)) (k0_pay7 (iblk m c 1 t) (iblk m c 3 t) (iblk m c 4 t)) (k0_pay9 (iblk m c 2 t)) (k0_pay10 (iblk m c 2 t)) (iblk m c 0 t) (iblk m c 5 t)) (k0_pay3 (F := Ideal)),
        k0_pay24 (F := Ideal) (pre (iblk m c 1 t) (iblk m c 3 t) (iblk m c 4 t) (iblk m c 2 t) (iblk m c 0 t) (iblk m c 5 t)) (k0_pay4 (F := Ideal)),
        k0_pay15 (F := Ideal) (k0_pay8 (iblk m c 1 t) (iblk m c 3 t) (iblk m c 4 t)) (k0_pay9 (iblk m c 2 t)) (k0_pay10 (iblk m c 2 t)) (iblk m c 0 t) (k0_pay2 (F := Ideal))) := by
  rw [outsAt0_A m c t h]
  refine Prod.ext ?_ (Prod.ext ?_ (Prod.ext ?_ (Prod.ext ?_ ?_))) <;> dsimp only <;> frame_out

theorem outs_B (c : Dev nD) (t : Fin cfg0.N) (h : ¬t.val % 16 = 0) :
    outsAt0 m c t.val t.isLt
      = (k0_pay1 (F := Ideal) (dgl (iblk m c 1 t) (iblk m c 3 t) (iblk m c 4 t) (iblk m c 2 t) (iblk m c 0 t) (iblk m c 5 t)) (k0_pay25 (iblk m c 1 t)),
        k0_pay17 (F := Ideal) (k0_pay8 (iblk m c 1 t) (iblk m c 3 t) (iblk m c 4 t)) (k0_pay9 (iblk m c 2 t)) (k0_pay10 (iblk m c 2 t)) (iblk m c 0 t) (iblk m c 5 t),
        k0_pay23 (F := Ideal) (k0_pay6 (iblk m c 1 t)) (k0_pay19 (k0_pay5 (iblk m c 1 t)) (k0_pay7 (iblk m c 1 t) (iblk m c 3 t) (iblk m c 4 t)) (k0_pay9 (iblk m c 2 t)) (k0_pay10 (iblk m c 2 t)) (iblk m c 0 t) (iblk m c 5 t)) (outsAt0 m c (t.val - 1) (Nat.lt_of_le_of_lt (Nat.sub_le _ _) t.isLt)).2.2.1,
        k0_pay24 (F := Ideal) (pre (iblk m c 1 t) (iblk m c 3 t) (iblk m c 4 t) (iblk m c 2 t) (iblk m c 0 t) (iblk m c 5 t)) (outsAt0 m c (t.val - 1) (Nat.lt_of_le_of_lt (Nat.sub_le _ _) t.isLt)).2.2.2.1,
        k0_pay15 (F := Ideal) (k0_pay8 (iblk m c 1 t) (iblk m c 3 t) (iblk m c 4 t)) (k0_pay9 (iblk m c 2 t)) (k0_pay10 (iblk m c 2 t)) (iblk m c 0 t) (outsAt0 m c (t.val - 1) (Nat.lt_of_le_of_lt (Nat.sub_le _ _) t.isLt)).2.2.2.2) := by
  rw [outsAt0_B m c t h]
  refine Prod.ext ?_ (Prod.ext ?_ (Prod.ext ?_ (Prod.ext ?_ ?_))) <;> dsimp only <;> frame_out

theorem dy_at (c : Dev nD) (t : Fin cfg0.N) (r : Fin 512) (l : Fin 1024) :
    (outsAt0 m c t.val t.isLt).1 (ix2 r l) = gradY m c (Inproj.row t.val r) l := by
  have e : (outsAt0 m c t.val t.isLt).1 = k0_pay1 (F := Ideal) (dgl (iblk m c 1 t) (iblk m c 3 t) (iblk m c 4 t) (iblk m c 2 t) (iblk m c 0 t) (iblk m c 5 t)) (k0_pay25 (iblk m c 1 t)) := by
    by_cases h : t.val % 16 = 0
    · rw [outs_A m c t h]
    · rw [outs_B m c t h]
  rw [e, dy_apply]
  simp only [b0, b1, b2, b3, b4, b5]
  rfl

theorem dg_at (c : Dev nD) (t : Fin cfg0.N) (r : Fin 512) (l : Fin 1024) :
    (outsAt0 m c t.val t.isLt).2.1 (ix2 r l) = gradG m c (Inproj.row t.val r) l := by
  have e : (outsAt0 m c t.val t.isLt).2.1 = k0_pay17 (F := Ideal) (k0_pay8 (iblk m c 1 t) (iblk m c 3 t) (iblk m c 4 t)) (k0_pay9 (iblk m c 2 t)) (k0_pay10 (iblk m c 2 t)) (iblk m c 0 t) (iblk m c 5 t) := by
    by_cases h : t.val % 16 = 0
    · rw [outs_A m c t h]
    · rw [outs_B m c t h]
  rw [e, dg_apply]
  simp only [b0, b1, b2, b3, b4, b5]
  rfl

theorem dwg_at (c : Dev nD) (t : Fin cfg0.N) (j : S1024x1024.Idx) :
    (outsAt0 m c t.val t.isLt).2.2.1 j = (0 : EReal) + ∑ p ∈ Finset.range (t.val + 1), ∑ r : Fin 512, Z m c (Inproj.row p r) (j 0) * pr m c (Inproj.row p r) (j 1) := by
  refine Pipeline.eq_sum_of_reset_step_apply_single (M := EReal) (fun n h => (outsAt0 m c n h).2.2.1) 16 (fun _ => (0 : EReal))
    (fun p (j : S1024x1024.Idx) => ∑ r : Fin 512, Z m c (Inproj.row p r) (j 0) * pr m c (Inproj.row p r) (j 1))
    (fun t h j => ?_) (fun t h j => ?_) (by rw [show cfg0.N = 16 from N_0]) t j
  · obtain ⟨k, q, rfl⟩ : ∃ k q, j = ix2 k q := ⟨_, _, eq_ix2 j⟩
    rw [outs_A m c t h]
    dsimp only
    rw [dwg_apply, zero3_apply]
    simp only [b0, b1, b2, b3, b4, b5]
    rfl
  · obtain ⟨k, q, rfl⟩ : ∃ k q, j = ix2 k q := ⟨_, _, eq_ix2 j⟩
    rw [outs_B m c t h]
    dsimp only
    rw [dwg_apply]
    simp only [b0, b1, b2, b3, b4, b5]
    rfl

theorem dbg_at (c : Dev nD) (t : Fin cfg0.N) (j : S1x1024.Idx) :
    (outsAt0 m c t.val t.isLt).2.2.2.1 j = (0 : EReal) + ∑ p ∈ Finset.range (t.val + 1), ∑ r : Fin 512, pr m c (Inproj.row p r) (j 1) := by
  refine Pipeline.eq_sum_of_reset_step_apply_single (M := EReal) (fun n h => (outsAt0 m c n h).2.2.2.1) 16 (fun _ => (0 : EReal))
    (fun p (j : S1x1024.Idx) => ∑ r : Fin 512, pr m c (Inproj.row p r) (j 1))
    (fun t h j => ?_) (fun t h j => ?_) (by rw [show cfg0.N = 16 from N_0]) t j
  · obtain ⟨q, rfl⟩ : ∃ q, j = ix2 0 q := ⟨j 1, by rw [eq_ix2 j]; congr 1; exact Subsingleton.elim (α := Fin 1) _ _⟩
    rw [outs_A m c t h]
    dsimp only
    rw [dbg_apply, zero4_apply]
    simp only [b0, b1, b2, b3, b4, b5]
    rfl
  · obtain ⟨q, rfl⟩ : ∃ q, j = ix2 0 q := ⟨j 1, by rw [eq_ix2 j]; congr 1; exact Subsingleton.elim (α := Fin 1) _ _⟩
    rw [outs_B m c t h]
    dsimp only
    rw [dbg_apply]
    simp only [b0, b1, b2, b3, b4, b5]
    rfl

theorem dwo_at (c : Dev nD) (t : Fin cfg0.N) (j : S1024x1024.Idx) :
    (outsAt0 m c t.val t.isLt).2.2.2.2 j = (0 : EReal) + ∑ p ∈ Finset.range (t.val + 1), ∑ r : Fin 512, act m c (Inproj.row p r) (j 0) * E m c (Inproj.row p r) (j 1) := by
  refine Pipeline.eq_sum_of_reset_step_apply_single (M := EReal) (fun n h => (outsAt0 m c n h).2.2.2.2) 16 (fun _ => (0 : EReal))
    (fun p (j : S1024x1024.Idx) => ∑ r : Fin 512, act m c (Inproj.row p r) (j 0) * E m c (Inproj.row p r) (j 1))
    (fun t h j => ?_) (fun t h j => ?_) (by rw [show cfg0.N = 16 from N_0]) t j
  · obtain ⟨k, q, rfl⟩ : ∃ k q, j = ix2 k q := ⟨_, _, eq_ix2 j⟩
    rw [outs_A m c t h]
    dsimp only
    rw [dwo_apply, zero2_apply]
    simp only [b0, b1, b2, b3, b4, b5]
    rfl
  · obtain ⟨k, q, rfl⟩ : ∃ k q, j = ix2 k q := ⟨_, _, eq_ix2 j⟩
    rw [outs_B m c t h]
    dsimp only
    rw [dwo_apply]
    simp only [b0, b1, b2, b3, b4, b5]
    rfl

/-! ## The results -/

theorem final6 (c : Dev nD) : (dats m 0 c).arrAt 6 cfg0.N
    = fun j : S8192x1024.Idx => gradY m c (j 0) (j 1) := by
  refine (dats m 0 c).arrAt_eq_of_covers 6 _ (by decide +kernel) fun t hf y => ?_
  blk_simp
  rw [after0_6]
  obtain ⟨r, l, rfl⟩ : ∃ r l, y = ix2 r l := ⟨_, _, eq_ix2 y⟩
  rw [dy_at]
  congr 1
  · refine Fin.ext ?_
    rw [rv]
    blk_simp [(idx6 t).1]
  · refine Fin.ext ?_
    blk_simp [(idx6 t).2]

theorem final7 (c : Dev nD) : (dats m 0 c).arrAt 7 cfg0.N
    = fun j : S8192x1024.Idx => gradG m c (j 0) (j 1) := by
  refine (dats m 0 c).arrAt_eq_of_covers 7 _ (by decide +kernel) fun t hf y => ?_
  blk_simp
  rw [after0_7]
  obtain ⟨r, l, rfl⟩ : ∃ r l, y = ix2 r l := ⟨_, _, eq_ix2 y⟩
  rw [dg_at]
  congr 1
  · refine Fin.ext ?_
    rw [rv]
    blk_simp [(idx7 t).1]
  · refine Fin.ext ?_
    blk_simp [(idx7 t).2]

theorem final8 (c : Dev nD) : (dats m 0 c).arrAt 8 cfg0.N = fun j : S1024x1024.Idx => ∑ r, Z m c r (j 0) * pr m c r (j 1) := by
  refine (dats m 0 c).arrAt_eq_of_after_last 8 t0_15 (by decide +kernel) _ fun j => ?_
  blk_simp
  rw [after0_8, dwg_at, zero_add]
  exact Inproj.sum_rows fun r => Z m c r (j 0) * pr m c r (j 1)

theorem final9 (c : Dev nD) : (dats m 0 c).arrAt 9 cfg0.N = fun j : S1x1024.Idx => ∑ r, pr m c r (j 1) := by
  refine (dats m 0 c).arrAt_eq_of_after_last 9 t0_15 (by decide +kernel) _ fun j => ?_
  blk_simp
  rw [after0_9, dbg_at, zero_add]
  exact Inproj.sum_rows fun r => pr m c r (j 1)

theorem final10 (c : Dev nD) : (dats m 0 c).arrAt 10 cfg0.N = fun j : S1024x1024.Idx => ∑ r, act m c r (j 0) * E m c r (j 1) := by
  refine (dats m 0 c).arrAt_eq_of_after_last 10 t0_15 (by decide +kernel) _ fun j => ?_
  blk_simp
  rw [after0_10, dwo_at, zero_add]
  exact Inproj.sum_rows fun r => act m c r (j 0) * E m c r (j 1)

end Cert.Kernel6Ideal.SsmOutBwdValue

end
-- ==== Proof.SsmOutBwdReference.lean ====
/-
  The values of the reference for the gradient of a state-space layer's output.
-/
module

public import proofs.«01_k».proof.Proof.Gen.Reference6Ideal.Read
public import proofs.«01_k».proof.Proof.SsmOutBwdMath
public import Idealize.ShloMosaic.Lib.Pointwise

@[expose] public section

set_option maxRecDepth 16384

noncomputable section

namespace Cert.Reference6Ideal.SsmOutBwdValue

open Cert.Reference6Ideal Cert.Reference6Ideal.Gen Idealize.ShloMosaic Idealize.ShloMosaic.TcCoe Idealize.SL.Sem Cert.Proof
open Cert.Reference6Ideal.Read

abbrev Mat (a b : ℕ) := (⟨⟨2, ![a, b]⟩, .f32⟩ : BufTy).Contents (Elt Ideal)
abbrev Col (a : ℕ) := (⟨⟨1, ![a]⟩, .f32⟩ : BufTy).Contents (Elt Ideal)

variable (e y g : Mat 8192 1024) (w v : Mat 1024 1024) (b : Col 1024)

theorem th_apply (r : Fin 8192) (l : Fin 1024) : val_main_v12 (F := Ideal) y (ix2 r l) = SsmBwd.thRef (y (ix2 r l)) := by
  pointwise [val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]
  rfl

theorem sg_apply (r : Fin 8192) (l : Fin 1024) : val_main_v37_2 (F := Ideal) g (ix2 r l) = Gate.sg (g (ix2 r l)) := by
  pointwise [val_main_v37_2, val_main_call0_v4, val_main_call0_v3, val_main_call0_v2, val_main_call0_v1, val_main_call0_v0,
    val_main_call0_cst, val_main_call0_cst_0]
  exact Gate.sgRef_sg _

theorem silu_apply (r : Fin 8192) (l : Fin 1024) : val_main_v37_0 (F := Ideal) g (ix2 r l) = Gate.silu (g (ix2 r l)) := by
  pointwise [val_main_v37_0]
  rw [sg_apply]
  rfl

theorem slope_apply (r : Fin 8192) (l : Fin 1024) :
    val_main_v37_1 (F := Ideal) g (ix2 r l) = Gate.sg (g (ix2 r l)) * (1 - Gate.sg (g (ix2 r l))) := by
  pointwise [val_main_v37_1, val_main_call0_v7, val_main_call0_v6, val_main_call0_cst_1]
  rw [sg_apply]

theorem da_apply (r : Fin 8192) (l : Fin 1024) : val_main_v42 (F := Ideal) e v (ix2 r l) = SsmBwd.da (fun k => e (ix2 r k)) (fun k q => v (ix2 k q)) l := by
  pointwise [val_main_v42]
  rfl

theorem dz_apply (r : Fin 8192) (l : Fin 1024) :
    val_main_v44 (F := Ideal) e g v (ix2 r l) = SsmBwd.dz (fun k => e (ix2 r k)) (fun k => g (ix2 r k)) (fun k q => v (ix2 k q)) l := by
  pointwise [val_main_v44]
  rw [da_apply, silu_apply]
  rfl

section Real

variable (hy : ∀ r k, Gate.IsReal (y (ix2 r k)))

include hy

theorem th_real (r : Fin 8192) (l : Fin 1024) : val_main_v12 (F := Ideal) y (ix2 r l) = SsmBwd.th (y (ix2 r l)) := by
  obtain ⟨a, ha⟩ := hy r l
  rw [th_apply, ha, SsmBwd.thRef_eq]

theorem cdf_apply (r : Fin 8192) (l : Fin 1024) : val_main_v21 (F := Ideal) y (ix2 r l) = SsmBwd.cdf (y (ix2 r l)) := by
  pointwise [val_main_v21, val_main_v20, val_main_v19, val_main_v18, val_main_cst_5, val_main_cst_6]
  rw [th_real y hy]
  rfl

theorem gelu_apply (r : Fin 8192) (l : Fin 1024) : val_main_v22 (F := Ideal) y (ix2 r l) = SsmBwd.gelu (y (ix2 r l)) := by
  pointwise [val_main_v22]
  rw [cdf_apply y hy]
  rfl

theorem gl_apply (r : Fin 8192) (l : Fin 1024) : val_main_v32 (F := Ideal) y w b (ix2 r l) = SsmBwd.gl (fun k => SsmBwd.gelu (y (ix2 r k))) (fun k q => w (ix2 k q)) (fun k => b (ix1 k)) l := by
  pointwise [val_main_v32, val_main_v31, val_main_v30, val_main_v29, val_main_v28, val_main_v27, val_main_v26, val_main_v25, val_main_v24, val_main_v23, val_main_cst_7, val_main_cst_8]
  simp only [gelu_apply y hy]
  rw [Gate.sgRef_sg]
  rfl

theorem glu_apply (r : Fin 8192) (l : Fin 1024) :
    val_main_v36 (F := Ideal) y w b (ix2 r l) = SsmBwd.gelu (y (ix2 r l)) * SsmBwd.gl (fun k => SsmBwd.gelu (y (ix2 r k))) (fun k q => w (ix2 k q)) (fun k => b (ix1 k)) l := by
  pointwise [val_main_v36]
  rw [gelu_apply y hy, gl_apply y w b hy]

theorem pre_apply (r : Fin 8192) (l : Fin 1024) : val_main_v48 (F := Ideal) e y g w b v (ix2 r l) = SsmBwd.dpre (fun k => SsmBwd.gelu (y (ix2 r k))) (fun k => e (ix2 r k)) (fun k => g (ix2 r k)) (fun k q => w (ix2 k q)) (fun k => b (ix1 k)) (fun k q => v (ix2 k q)) l := by
  pointwise [val_main_v48, val_main_v46, val_main_v35, val_main_v34, val_main_v33, val_main_cst_9]
  rw [gelu_apply y hy, gl_apply y w b hy, dz_apply, SsmBwd.dpre, mul_comm (SsmBwd.gelu _)]

theorem dgelu_apply (r : Fin 8192) (l : Fin 1024) : val_main_v55 (F := Ideal) e y g w b v (ix2 r l) = SsmBwd.dgelu (fun k => SsmBwd.gelu (y (ix2 r k))) (fun k => e (ix2 r k)) (fun k => g (ix2 r k)) (fun k q => w (ix2 k q)) (fun k => b (ix1 k)) (fun k q => v (ix2 k q)) l := by
  pointwise [val_main_v55, val_main_v54, val_main_v47]
  simp only [pre_apply e y g w v b hy]
  rw [gl_apply y w b hy, dz_apply]
  rfl

theorem thru_apply (r : Fin 8192) (l : Fin 1024) :
    val_main_v62 (F := Ideal) e y g w b v (ix2 r l) = SsmBwd.thru (SsmBwd.dgelu (fun k => SsmBwd.gelu (y (ix2 r k))) (fun k => e (ix2 r k)) (fun k => g (ix2 r k)) (fun k q => w (ix2 k q)) (fun k => b (ix1 k)) (fun k q => v (ix2 k q)) l) (y (ix2 r l)) := by
  pointwise [val_main_v62, val_main_v61, val_main_v60, val_main_v59, val_main_v58, val_main_v56, val_main_v17, val_main_v16,
    val_main_v15, val_main_v14, val_main_v13, val_main_cst_3, val_main_cst_4, val_main_cst_12, val_main_cst_13]
  rw [dgelu_apply e y g w v b hy, th_real y hy]
  rfl

theorem coef_apply (r : Fin 8192) (l : Fin 1024) :
    val_main_v67 (F := Ideal) e y g w b v (ix2 r l) = SsmBwd.coef (SsmBwd.dgelu (fun k => SsmBwd.gelu (y (ix2 r k))) (fun k => e (ix2 r k)) (fun k => g (ix2 r k)) (fun k q => w (ix2 k q)) (fun k => b (ix1 k)) (fun k q => v (ix2 k q)) l) (y (ix2 r l)) := by
  pointwise [val_main_v67, val_main_v66, val_main_v65, val_main_v64, val_main_cst_14, val_main_cst_15]
  rw [thru_apply e y g w v b hy]
  rfl

theorem dy_apply (r : Fin 8192) (l : Fin 1024) :
    val_main_v69 (F := Ideal) e y g w b v (ix2 r l) = SsmBwd.dyRef (SsmBwd.dgelu (fun k => SsmBwd.gelu (y (ix2 r k))) (fun k => e (ix2 r k)) (fun k => g (ix2 r k)) (fun k q => w (ix2 k q)) (fun k => b (ix1 k)) (fun k q => v (ix2 k q)) l) (y (ix2 r l)) := by
  pointwise [val_main_v69, val_main_v68, val_main_v63, val_main_v57, val_main_v4, val_main_v3, val_main_v2, val_main_cst]
  rw [dgelu_apply e y g w v b hy, thru_apply e y g w v b hy, coef_apply e y g w v b hy, cdf_apply y hy]
  rfl

theorem dg_apply (r : Fin 8192) (l : Fin 1024) :
    val_main_v70 (F := Ideal) e y g w b v (ix2 r l)
      = Gate.dsiluRef (SsmBwd.gelu (y (ix2 r l)) * SsmBwd.gl (fun k => SsmBwd.gelu (y (ix2 r k))) (fun k q => w (ix2 k q)) (fun k => b (ix1 k)) l * SsmBwd.da (fun k => e (ix2 r k)) (fun k q => v (ix2 k q)) l) (g (ix2 r l)) := by
  pointwise [val_main_v70, val_main_v45, val_main_call1_v0, val_main_call1_v1, val_main_call1_v2, val_main_v43]
  rw [da_apply, slope_apply, sg_apply, glu_apply y w b hy]
  rfl

theorem dwg_apply (k q : Fin 1024) :
    val_main_v53 (F := Ideal) e y g w b v (ix2 k q)
      = ∑ r : Fin 8192, SsmBwd.dpre (fun k => SsmBwd.gelu (y (ix2 r k))) (fun k => e (ix2 r k)) (fun k => g (ix2 r k)) (fun k q => w (ix2 k q)) (fun k => b (ix1 k)) (fun k q => v (ix2 k q)) q * SsmBwd.gelu (y (ix2 r k)) := by
  pointwise [val_main_v53, val_main_v52]
  simp only [gelu_apply y hy, pre_apply e y g w v b hy]

theorem dbg_apply (q : Fin 1024) :
    val_main_v71 (F := Ideal) e y g w b v (ix2 0 q) = ∑ r : Fin 8192, SsmBwd.dpre (fun k => SsmBwd.gelu (y (ix2 r k))) (fun k => e (ix2 r k)) (fun k => g (ix2 r k)) (fun k q => w (ix2 k q)) (fun k => b (ix1 k)) (fun k q => v (ix2 k q)) q := by
  pointwise [val_main_v71, val_main_v51, val_main_v50, val_main_v49, val_main_cst_10, val_main_cst_11]
  simp only [pre_apply e y g w v b hy]
  exact Fintype.sum_unique (ι := Fin 1) _

theorem dwo_apply (k q : Fin 1024) :
    val_main_v41 (F := Ideal) e y g w b (ix2 k q)
      = ∑ r : Fin 8192, e (ix2 r q) * (SsmBwd.gelu (y (ix2 r k)) * SsmBwd.gl (fun k => SsmBwd.gelu (y (ix2 r k))) (fun k q => w (ix2 k q)) (fun k => b (ix1 k)) k * Gate.silu (g (ix2 r k))) := by
  pointwise [val_main_v41, val_main_v40, val_main_v38]
  simp only [glu_apply y w b hy, silu_apply]

end Real

end Cert.Reference6Ideal.SsmOutBwdValue

end
-- ==== Proof.SsmOutBwd.lean ====
/-
  The two claims about the values of the gradient of a state-space layer's output.
-/
module

public import proofs.«01_k».proof.Proof.SsmOutBwdKernel
public import proofs.«01_k».proof.Proof.SsmOutBwdReference
public import proofs.«01_k».proof.Proof.Finite
public import proofs.«01_k».proof.Proof.Gen.Pre_finite6
public import proofs.«01_k».proof.Defs

@[expose] public section

set_option maxHeartbeats 2000000

noncomputable section

namespace Cert.Proof.SsmOutBwd

open Idealize.ShloMosaic Idealize.SL.Sem

/-- The reference runs to its end, keeps its arguments and leaves the counters at zero. -/
theorem frame_reference : Cert.quiescent_Reference6Ideal := fun m ρ _ =>
  (θ_run _ _ _).mono (fun r h => ⟨fun c => (h c).2.2.2.2.2, Idealize.ShloMosaic.sem_eq_zero_of_no_sems (by decide) r.2⟩)
    (Cert.Reference6Ideal.Value.run (F := Ideal) m ρ)

/-- The same where the arguments are finite. -/
theorem frame_reference_pre : Cert.quiescent_Reference6Ideal_pre_finite6 := fun m ρ _ => frame_reference m ρ trivial

/-- The two named constants are the kernel's own, read exactly. -/
theorem preserves : Cert.preserves_Kernel6_Kernel6Ideal :=
  ⟨IdealRules.named_const.statement Cert.Kernel6Ideal.κ "cube" .f32 0x3D372713#32 ((8943 / 200000 : ℝ) : EReal) rfl,
    IdealRules.named_const.statement Cert.Kernel6Ideal.κ "square" .f32 0x3E095D4F#32 ((26829 / 200000 : ℝ) : EReal) rfl⟩

/-- What the precondition says: the incoming gradient, the scan's output, the gate and the output weight are real. -/
theorem real {m : (ℓ : Loc Cert.Kernel6Ideal.nD Cert.Kernel6Ideal.τ Cert.Kernel6Ideal.sig) → Buf (Elt Ideal) ℓ}
    (h : Cert.Pre_Kernel6Ideal_finite6 m) (c : Dev Cert.Kernel6Ideal.nD) :
    (∀ r k, Gate.IsReal (Cert.Kernel6Ideal.SsmOutBwdValue.E m c r k)) ∧ (∀ r k, Gate.IsReal (Cert.Kernel6Ideal.SsmOutBwdValue.Y m c r k))
      ∧ (∀ r k, Gate.IsReal (Cert.Kernel6Ideal.SsmOutBwdValue.G m c r k)) ∧ (∀ k q, Gate.IsReal (Cert.Kernel6Ideal.SsmOutBwdValue.U m c k q)) := by
  have h := congrFun (h c) finZeroElim
  dsimp only [Cert.Pre_finite6.fn, Cert.Pre_finite6.fn_part1] at h
  obtain ⟨h, h4⟩ := Gate.andi_split h
  obtain ⟨h, h3⟩ := Gate.andi_split h
  obtain ⟨h1, h2⟩ := Gate.andi_split h
  haveI : Subsingleton Cert.Pre_finite6.S_.Idx := ⟨fun a b => funext fun i => i.elim0⟩
  exact ⟨fun r k => Gate.isReal_of_all _ _ (fun _ => rfl) _ _ _ _ h1 (ix2 r k),
    fun r k => Gate.isReal_of_all _ _ (fun _ => rfl) _ _ _ _ h2 (ix2 r k),
    fun r k => Gate.isReal_of_all _ _ (fun _ => rfl) _ _ _ _ h3 (ix2 r k),
    fun r k => Gate.isReal_of_all _ _ (fun _ => rfl) _ _ _ _ h4 (ix2 r k)⟩

/-- The kernel's results are the reference's. -/
theorem algebraic : Cert.algebraic_Kernel6Ideal_Reference6Ideal_pre_finite6 := fun m g m' g' hpre hm => by
  refine ⟨fun c => (Cert.Kernel6Ideal.Gen.dats m 0 c).arrAt 6 Cert.Kernel6Ideal.cfg0.N,
    fun c => (Cert.Kernel6Ideal.Gen.dats m 0 c).arrAt 7 Cert.Kernel6Ideal.cfg0.N,
    fun c => (Cert.Kernel6Ideal.Gen.dats m 0 c).arrAt 8 Cert.Kernel6Ideal.cfg0.N,
    fun c => (Cert.Kernel6Ideal.Gen.dats m 0 c).arrAt 9 Cert.Kernel6Ideal.cfg0.N,
    fun c => (Cert.Kernel6Ideal.Gen.dats m 0 c).arrAt 10 Cert.Kernel6Ideal.cfg0.N,
    Cert.Kernel6Ideal.Value.run_blocks (F := Ideal) m g, ?_⟩
  refine (θ_run _ _ _).mono (fun r h c => ⟨(h c).1.trans ?_, (h c).2.1.trans ?_, (h c).2.2.1.trans ?_, (h c).2.2.2.1.trans ?_, (h c).2.2.2.2.1.trans ?_, (h c).2.2.2.2.2⟩)
    (Cert.Reference6Ideal.Value.run (F := Ideal) m' g')
  · obtain ⟨hE, hY, hG, hU⟩ := real hpre c
    obtain ⟨h0, h1, h2, h3, h4, h5⟩ := hm c
    rw [Cert.Reference6Ideal.Read.val_main_v69_eq, h0, h1, h2, h3, h4, h5]
    refine Eq.trans (funext fun j => ?_) (Cert.Kernel6Ideal.SsmOutBwdValue.final6 m c).symm
    obtain ⟨a, b, rfl⟩ : ∃ a b, j = ix2 a b := ⟨_, _, eq_ix2 j⟩
    rw [Cert.Reference6Ideal.SsmOutBwdValue.dy_apply _ _ _ _ _ _ hY]
    exact (SsmBwd.dy_eq (y := Cert.Kernel6Ideal.SsmOutBwdValue.Y m c a) (e := Cert.Kernel6Ideal.SsmOutBwdValue.E m c a) (g := Cert.Kernel6Ideal.SsmOutBwdValue.G m c a) (w := Cert.Kernel6Ideal.SsmOutBwdValue.W m c) (b := Cert.Kernel6Ideal.SsmOutBwdValue.B m c) (v := Cert.Kernel6Ideal.SsmOutBwdValue.U m c)
      (hY a) (hE a) (hG a) hU b).symm
  · obtain ⟨hE, hY, hG, hU⟩ := real hpre c
    obtain ⟨h0, h1, h2, h3, h4, h5⟩ := hm c
    rw [Cert.Reference6Ideal.Read.val_main_v70_eq, h0, h1, h2, h3, h4, h5]
    refine Eq.trans (funext fun j => ?_) (Cert.Kernel6Ideal.SsmOutBwdValue.final7 m c).symm
    obtain ⟨a, b, rfl⟩ : ∃ a b, j = ix2 a b := ⟨_, _, eq_ix2 j⟩
    rw [Cert.Reference6Ideal.SsmOutBwdValue.dg_apply _ _ _ _ _ _ hY]
    exact (SsmBwd.dg_eq (y := Cert.Kernel6Ideal.SsmOutBwdValue.Y m c a) (e := Cert.Kernel6Ideal.SsmOutBwdValue.E m c a) (g := Cert.Kernel6Ideal.SsmOutBwdValue.G m c a) (w := Cert.Kernel6Ideal.SsmOutBwdValue.W m c) (b := Cert.Kernel6Ideal.SsmOutBwdValue.B m c) (v := Cert.Kernel6Ideal.SsmOutBwdValue.U m c)
      (hY a) (hE a) hU b).symm
  · obtain ⟨hE, hY, hG, hU⟩ := real hpre c
    obtain ⟨h0, h1, h2, h3, h4, h5⟩ := hm c
    rw [Cert.Reference6Ideal.Read.val_main_v53_eq, h0, h1, h2, h3, h4, h5]
    refine Eq.trans (funext fun j => ?_) (Cert.Kernel6Ideal.SsmOutBwdValue.final8 m c).symm
    obtain ⟨a, b, rfl⟩ : ∃ a b, j = ix2 a b := ⟨_, _, eq_ix2 j⟩
    rw [Cert.Reference6Ideal.SsmOutBwdValue.dwg_apply _ _ _ _ _ _ hY]
    exact Finset.sum_congr rfl fun r _ => mul_comm _ _
  · obtain ⟨hE, hY, hG, hU⟩ := real hpre c
    obtain ⟨h0, h1, h2, h3, h4, h5⟩ := hm c
    rw [Cert.Reference6Ideal.Read.val_main_v71_eq, h0, h1, h2, h3, h4, h5]
    refine Eq.trans (funext fun j => ?_) (Cert.Kernel6Ideal.SsmOutBwdValue.final9 m c).symm
    obtain ⟨a, b, rfl⟩ : ∃ a b, j = ix2 a b := ⟨_, _, eq_ix2 j⟩
    obtain rfl : a = 0 := Subsingleton.elim (α := Fin 1) _ _
    rw [Cert.Reference6Ideal.SsmOutBwdValue.dbg_apply _ _ _ _ _ _ hY]
    show _ = ∑ r, Cert.Kernel6Ideal.SsmOutBwdValue.pr m c r b
    exact Finset.sum_congr rfl fun r _ => rfl
  · obtain ⟨hE, hY, hG, hU⟩ := real hpre c
    obtain ⟨h0, h1, h2, h3, h4, h5⟩ := hm c
    rw [Cert.Reference6Ideal.Read.val_main_v41_eq, h0, h1, h2, h3, h4]
    refine Eq.trans (funext fun j => ?_) (Cert.Kernel6Ideal.SsmOutBwdValue.final10 m c).symm
    obtain ⟨a, b, rfl⟩ : ∃ a b, j = ix2 a b := ⟨_, _, eq_ix2 j⟩
    rw [Cert.Reference6Ideal.SsmOutBwdValue.dwo_apply _ _ _ _ _ hY]
    show _ = ∑ r, Cert.Kernel6Ideal.SsmOutBwdValue.act m c r a * Cert.Kernel6Ideal.SsmOutBwdValue.E m c r b
    exact Finset.sum_congr rfl fun r _ => mul_comm _ _

end Cert.Proof.SsmOutBwd

end
-- ==== Proof.InprojFwdKernel.lean ====
/-
  The values of the kernel for a state-space layer's norm and input projection.
-/
module

public import proofs.«01_k».proof.Proof.Gen.Kernel7Ideal.Value
public import proofs.«01_k».proof.Proof.InprojMath
public import Idealize.ShloMosaic.Lib.Pipeline.ValueKit
public import Idealize.ShloMosaic.Lib.Pointwise

@[expose] public section

set_option maxRecDepth 16384

noncomputable section

namespace Cert.Kernel7Ideal.InprojFwdValue

open Cert.Kernel7Ideal Cert.Kernel7Ideal.Gen Idealize.ShloMosaic Idealize.ShloMosaic.TcCoe Idealize.SL.Sem Cert.Proof

variable (m : (ℓ : Loc nD τ sig) → Buf (Elt Ideal) ℓ)

/-- One entry of the product of a normed row. -/
def projRow (x n : Fin 1024 → EReal) (w : Fin 1024 → Fin 2048 → EReal) (q : Fin 2048) : EReal := ∑ k, Inproj.xhat x k * n k * w k q

/-- The half of the product that the recurrence reads, of the whole arguments. -/
def proj0 (X : Fin 8192 → Fin 1024 → EReal) (n : Fin 1024 → EReal) (w : Fin 1024 → Fin 2048 → EReal) (i : Fin 8192) (l : Fin 1024) :
    EReal := projRow (X i) n w ⟨l.val, by omega⟩

/-- The half of the product that is the gate, of the whole arguments. -/
def proj1 (X : Fin 8192 → Fin 1024 → EReal) (n : Fin 1024 → EReal) (w : Fin 1024 → Fin 2048 → EReal) (i : Fin 8192) (l : Fin 1024) :
    EReal := projRow (X i) n w ⟨1024 + l.val, by omega⟩

theorem pay1_apply (x : Vec Ideal S512x1024 .f32) (n : Vec Ideal S1x1024 .f32) (w : Vec Ideal S1024x2048 .bf16)
    (r : Fin 512) (q : Fin 2048) :
    k0_pay1 x n w (ix2 r q) = projRow (fun k => x (ix2 r k)) (fun k => n (ix2 0 k)) (fun k q => w (ix2 k q)) q := by
  pointwise [k0_pay1]
  rfl

theorem pay2_apply (x : Vec Ideal S512x1024 .f32) (n : Vec Ideal S1x1024 .f32) (w : Vec Ideal S1024x2048 .bf16)
    (r : Fin 512) (l : Fin 1024) :
    k0_pay2 x n w (ix2 r l) = projRow (fun k => x (ix2 r k)) (fun k => n (ix2 0 k)) (fun k q => w (ix2 k q)) ⟨l.val, by omega⟩ := by
  pointwise [k0_pay2]
  rw [pay1_apply]

theorem pay3_apply (x : Vec Ideal S512x1024 .f32) (n : Vec Ideal S1x1024 .f32) (w : Vec Ideal S1024x2048 .bf16)
    (r : Fin 512) (l : Fin 1024) :
    k0_pay3 x n w (ix2 r l) = projRow (fun k => x (ix2 r k)) (fun k => n (ix2 0 k)) (fun k q => w (ix2 k q)) ⟨1024 + l.val, by omega⟩ := by
  pointwise [k0_pay3]
  rw [pay1_apply]

def X (c : Dev nD) (r : Fin 8192) (k : Fin 1024) : EReal := m ((c : Thread nD τ).loc main_arg0) (ix2 r k)
def N (c : Dev nD) (k : Fin 1024) : EReal := m ((c : Thread nD τ).loc main_arg1) (ix1 k)
def W (c : Dev nD) (k : Fin 1024) (q : Fin 2048) : EReal := m ((c : Thread nD τ).loc main_arg2) (ix2 k q)

theorem idx0 : ∀ t : Fin grid0.N, win0_0.index t 0 = t.val ∧ win0_0.index t 1 = 0 := by decide +kernel
theorem idx1 : ∀ t : Fin grid0.N, win0_1.index t 0 = 0 ∧ win0_1.index t 1 = 0 := by decide +kernel
theorem idx2 : ∀ t : Fin grid0.N, win0_2.index t 0 = 0 ∧ win0_2.index t 1 = 0 := by decide +kernel
theorem idx3 : ∀ t : Fin grid0.N, win0_3.index t 0 = t.val ∧ win0_3.index t 1 = 0 := by decide +kernel
theorem idx4 : ∀ t : Fin grid0.N, win0_4.index t 0 = t.val ∧ win0_4.index t 1 = 0 := by decide +kernel

theorem rv (t : Fin cfg0.N) (r : Fin 512) : (Inproj.row t.val r).val = t.val * 512 + r.val :=
  Inproj.row_val (by have := t.isLt; have : cfg0.N = 16 := N_0; omega) r

theorem b0 (c : Dev nD) (t : Fin cfg0.N) (r : Fin 512) (l : Fin 1024) : iblk m c 0 t (ix2 r l) = X m c (Inproj.row t.val r) l := by
  unfold X
  blk_point [iblk, rv, (idx0 t).1, (idx0 t).2]
theorem b1 (c : Dev nD) (t : Fin cfg0.N) (l : Fin 1024) : iblk m c 1 t (ix2 0 l) = N m c l := by
  unfold N
  blk_point [iblk, (idx1 t).1, (idx1 t).2]
theorem b2 (c : Dev nD) (t : Fin cfg0.N) (k : Fin 1024) (q : Fin 2048) : iblk m c 2 t (ix2 k q) = W m c k q := by
  unfold W
  blk_point [iblk, (idx2 t).1, (idx2 t).2]

theorem out0_at (c : Dev nD) (t : Fin cfg0.N) (r : Fin 512) (l : Fin 1024) :
    out0_3 (iblk m c 0 t) (iblk m c 1 t) (iblk m c 2 t) (ix2 r l) = proj0 (X m c) (N m c) (W m c) (Inproj.row t.val r) l := by
  have e : out0_3 (F := Ideal) (iblk m c 0 t) (iblk m c 1 t) (iblk m c 2 t)
      = k0_pay2 (F := Ideal) (iblk m c 0 t) (iblk m c 1 t) (iblk m c 2 t) := by frame_out
  rw [e, pay2_apply]
  simp only [b0, b1, b2]
  rfl

theorem out1_at (c : Dev nD) (t : Fin cfg0.N) (r : Fin 512) (l : Fin 1024) :
    out0_4 (iblk m c 0 t) (iblk m c 1 t) (iblk m c 2 t) (ix2 r l) = proj1 (X m c) (N m c) (W m c) (Inproj.row t.val r) l := by
  have e : out0_4 (F := Ideal) (iblk m c 0 t) (iblk m c 1 t) (iblk m c 2 t)
      = k0_pay3 (F := Ideal) (iblk m c 0 t) (iblk m c 1 t) (iblk m c 2 t) := by frame_out
  rw [e, pay3_apply]
  simp only [b0, b1, b2]
  rfl

theorem final3 (c : Dev nD) : (dats m 0 c).arrAt 3 cfg0.N
    = fun j : S8192x1024.Idx => proj0 (X m c) (N m c) (W m c) (j 0) (j 1) := by
  refine (dats m 0 c).arrAt_eq_of_covers 3 _ (by decide +kernel) fun t hf y => ?_
  blk_simp
  rw [after0_3]
  obtain ⟨r, l, rfl⟩ : ∃ r l, y = ix2 r l := ⟨_, _, eq_ix2 y⟩
  rw [out0_at]
  congr 1
  · refine Fin.ext ?_
    rw [rv]
    blk_simp [(idx3 t).1]
  · refine Fin.ext ?_
    blk_simp [(idx3 t).2]

theorem final4 (c : Dev nD) : (dats m 0 c).arrAt 4 cfg0.N
    = fun j : S8192x1024.Idx => proj1 (X m c) (N m c) (W m c) (j 0) (j 1) := by
  refine (dats m 0 c).arrAt_eq_of_covers 4 _ (by decide +kernel) fun t hf y => ?_
  blk_simp
  rw [after0_4]
  obtain ⟨r, l, rfl⟩ : ∃ r l, y = ix2 r l := ⟨_, _, eq_ix2 y⟩
  rw [out1_at]
  congr 1
  · refine Fin.ext ?_
    rw [rv]
    blk_simp [(idx4 t).1]
  · refine Fin.ext ?_
    blk_simp [(idx4 t).2]

end Cert.Kernel7Ideal.InprojFwdValue

end
-- ==== Proof.InprojFwdReference.lean ====
/-
  The values of the reference for a state-space layer's norm and input projection.
-/
module

public import proofs.«01_k».proof.Proof.Gen.Reference7Ideal.Read
public import proofs.«01_k».proof.Proof.InprojMath
public import Idealize.ShloMosaic.Lib.Pointwise

@[expose] public section

set_option maxRecDepth 16384

noncomputable section

namespace Cert.Reference7Ideal.InprojFwdValue

open Cert.Reference7Ideal Cert.Reference7Ideal.Gen Idealize.ShloMosaic Idealize.ShloMosaic.TcCoe Idealize.SL.Sem Cert.Proof
open Cert.Reference7Ideal.Read

abbrev Mat (a b : ℕ) := (⟨⟨2, ![a, b]⟩, .f32⟩ : BufTy).Contents (Elt Ideal)
abbrev Col (a : ℕ) := (⟨⟨1, ![a]⟩, .f32⟩ : BufTy).Contents (Elt Ideal)

variable (x : Mat 8192 1024) (n : Col 1024) (w : Mat 1024 2048)

theorem rstd_apply (r : Fin 8192) : val_main_v7 (F := Ideal) x (ix2 r 0) = Inproj.rstd fun k => x (ix2 r k) := by
  pointwise [val_main_v7, val_main_v6, val_main_v5, val_main_v4, val_main_v3, val_main_v2, val_main_v1, val_main_v0, val_main_cst,
    val_main_cst_0, val_main_cst_1]
  rfl

theorem normed_apply (r : Fin 8192) (l : Fin 1024) :
    val_main_v12 (F := Ideal) x n (ix2 r l) = Inproj.xhat (fun k => x (ix2 r k)) l * n (ix1 l) := by
  pointwise [val_main_v12, val_main_v11, val_main_v10, val_main_v9, val_main_v8]
  rw [rstd_apply]
  rfl

theorem prod_apply (r : Fin 8192) (q : Fin 2048) :
    val_main_v13 (F := Ideal) x n w (ix2 r q) = ∑ k, Inproj.xhat (fun k => x (ix2 r k)) k * n (ix1 k) * w (ix2 k q) := by
  pointwise [val_main_v13]
  simp only [normed_apply]

theorem out0_apply (r : Fin 8192) (l : Fin 1024) :
    val_main_v14 (F := Ideal) x n w (ix2 r l)
      = ∑ k, Inproj.xhat (fun k => x (ix2 r k)) k * n (ix1 k) * w (ix2 k ⟨l.val, by omega⟩) := by
  pointwise [val_main_v14]
  rw [prod_apply]

theorem out1_apply (r : Fin 8192) (l : Fin 1024) :
    val_main_v16 (F := Ideal) x n w (ix2 r l)
      = ∑ k, Inproj.xhat (fun k => x (ix2 r k)) k * n (ix1 k) * w (ix2 k ⟨1024 + l.val, by omega⟩) := by
  pointwise [val_main_v16, val_main_v15]
  rw [prod_apply]

end Cert.Reference7Ideal.InprojFwdValue

end
-- ==== Proof.InprojFwd.lean ====
/-
  The two claims about the values of a state-space layer's norm and input projection.
-/
module

public import proofs.«01_k».proof.Proof.InprojFwdKernel
public import proofs.«01_k».proof.Proof.InprojFwdReference
public import proofs.«01_k».proof.Defs

@[expose] public section

noncomputable section

namespace Cert.Proof.InprojFwd

open Idealize.ShloMosaic Idealize.SL.Sem

/-- The reference runs to its end, keeps its arguments and leaves the counters at zero. -/
theorem frame_reference : Cert.quiescent_Reference7Ideal := fun m ρ _ =>
  (θ_run _ _ _).mono (fun r h => ⟨fun c => (h c).2.2, Idealize.ShloMosaic.sem_eq_zero_of_no_sems (by decide) r.2⟩)
    (Cert.Reference7Ideal.Value.run (F := Ideal) m ρ)

/-- The kernel's results are the reference's. -/
theorem algebraic : Cert.algebraic_Kernel7Ideal_Reference7Ideal := fun m g m' g' _ hm => by
  refine ⟨fun c => (Cert.Kernel7Ideal.Gen.dats m 0 c).arrAt 3 Cert.Kernel7Ideal.cfg0.N,
    fun c => (Cert.Kernel7Ideal.Gen.dats m 0 c).arrAt 4 Cert.Kernel7Ideal.cfg0.N,
    Cert.Kernel7Ideal.Value.run_blocks (F := Ideal) m g, ?_⟩
  refine (θ_run _ _ _).mono (fun r h c => ⟨(h c).1.trans ?_, (h c).2.1.trans ?_, (h c).2.2⟩)
    (Cert.Reference7Ideal.Value.run (F := Ideal) m' g')
  · obtain ⟨h0, h1, h2⟩ := hm c
    rw [Cert.Reference7Ideal.Read.val_main_v14_eq, h0, h1, h2]
    refine Eq.trans (funext fun j => ?_) (Cert.Kernel7Ideal.InprojFwdValue.final3 m c).symm
    obtain ⟨a, b, rfl⟩ : ∃ a b, j = ix2 a b := ⟨_, _, eq_ix2 j⟩
    rw [Cert.Reference7Ideal.InprojFwdValue.out0_apply]
    rfl
  · obtain ⟨h0, h1, h2⟩ := hm c
    rw [Cert.Reference7Ideal.Read.val_main_v16_eq, h0, h1, h2]
    refine Eq.trans (funext fun j => ?_) (Cert.Kernel7Ideal.InprojFwdValue.final4 m c).symm
    obtain ⟨a, b, rfl⟩ : ∃ a b, j = ix2 a b := ⟨_, _, eq_ix2 j⟩
    rw [Cert.Reference7Ideal.InprojFwdValue.out1_apply]
    rfl

end Cert.Proof.InprojFwd

end
-- ==== Proof.SsmOutMath.lean ====
/-
  One row of a state-space layer's output: the smooth nonlinearity, the gated linear unit, the gate and the output projection.
-/
module

public import proofs.«01_k».proof.Proof.GateMath

@[expose] public section

noncomputable section

namespace Cert.Proof.SsmOut

open Idealize.ShloMosaic

/-- The nonlinearity `x ↦ x · ½ (1 + tanh (√(2/π) (x + 0.044715 x³)))`, its constants as they are rounded. -/
def gelu (x : EReal) : EReal :=
  x * (Ideal.ofBits .f32 0x3F000000#32
    * (1 + Ideal.tanh (Ideal.ofBits .f32 0x3F4C422A#32 * (x + Ideal.ofBits .f32 0x3D372713#32 * (x * x * x)))))

/-- The gated linear unit of a row. -/
def glu (y : Fin 1024 → EReal) (w : Fin 1024 → Fin 1024 → EReal) (b : Fin 1024 → EReal) (l : Fin 1024) : EReal :=
  gelu (y l) * Gate.sg ((∑ k, gelu (y k) * w k l) + b l)

/-- One entry of a row of the result. -/
def outRow (y g : Fin 1024 → EReal) (x : EReal) (w : Fin 1024 → Fin 1024 → EReal) (b : Fin 1024 → EReal)
    (v : Fin 1024 → Fin 1024 → EReal) (l : Fin 1024) : EReal :=
  x + ∑ k, glu y w b k * Gate.silu (g k) * v k l

/-- The result of the whole arguments. -/
def out (Y G X : Fin 8192 → Fin 1024 → EReal) (w : Fin 1024 → Fin 1024 → EReal) (b : Fin 1024 → EReal)
    (v : Fin 1024 → Fin 1024 → EReal) (i : Fin 8192) (l : Fin 1024) : EReal :=
  outRow (Y i) (G i) (X i l) w b v l

end Cert.Proof.SsmOut

end
-- ==== Proof.SsmOutFwdKernel.lean ====
/-
  The values of the kernel for a state-space layer's output: nonlinearity, gated linear unit, gate, projection, residual sum.
-/
module

public import proofs.«01_k».proof.Proof.Gen.Kernel9Ideal.Value
public import proofs.«01_k».proof.Proof.SsmOutMath
public import Idealize.ShloMosaic.Lib.Pipeline.ValueKit
public import Idealize.ShloMosaic.Lib.Pointwise

@[expose] public section

set_option maxRecDepth 16384

noncomputable section

namespace Cert.Kernel9Ideal.SsmOutFwdValue

open Cert.Kernel9Ideal Cert.Kernel9Ideal.Gen Idealize.ShloMosaic Idealize.ShloMosaic.TcCoe Idealize.SL.Sem Cert.Proof

variable (m : (ℓ : Loc nD τ sig) → Buf (Elt Ideal) ℓ)

theorem pay2_apply (g : Vec Ideal S512x1024 .bf16) (r : Fin 512) (l : Fin 1024) : k0_pay2 g (ix2 r l) = g (ix2 r l) := by
  pointwise [k0_pay2]

theorem pay4_apply (g : Vec Ideal S512x1024 .bf16) (r : Fin 512) (l : Fin 1024) : k0_pay4 g (ix2 r l) = Gate.sg (g (ix2 r l)) := by
  pointwise [k0_pay4]
  rw [pay2_apply]
  rfl

theorem pay3_apply (y : Vec Ideal S512x1024 .f32) (w : Vec Ideal S1024x1024 .bf16) (b : Vec Ideal S1x1024 .f32)
    (r : Fin 512) (l : Fin 1024) :
    k0_pay3 y w b (ix2 r l) = SsmOut.glu (fun k => y (ix2 r k)) (fun k q => w (ix2 k q)) (fun k => b (ix2 0 k)) l := by
  pointwise [k0_pay3]
  rfl

theorem pay_apply (y : Vec Ideal S512x1024 .f32) (g : Vec Ideal S512x1024 .bf16) (x : Vec Ideal S512x1024 .f32)
    (w : Vec Ideal S1024x1024 .bf16) (b : Vec Ideal S1x1024 .f32) (v : Vec Ideal S1024x1024 .bf16) (r : Fin 512) (l : Fin 1024) :
    k0_pay1 (k0_pay2 g) (k0_pay3 y w b) (k0_pay4 g) x v (ix2 r l)
      = SsmOut.outRow (fun k => y (ix2 r k)) (fun k => g (ix2 r k)) (x (ix2 r l)) (fun k q => w (ix2 k q)) (fun k => b (ix2 0 k))
          (fun k q => v (ix2 k q)) l := by
  pointwise [k0_pay1]
  simp only [pay2_apply, pay3_apply, pay4_apply]
  rfl

def Y (c : Dev nD) (r : Fin 8192) (k : Fin 1024) : EReal := m ((c : Thread nD τ).loc main_arg0) (ix2 r k)
def G (c : Dev nD) (r : Fin 8192) (k : Fin 1024) : EReal := m ((c : Thread nD τ).loc main_arg1) (ix2 r k)
def X (c : Dev nD) (r : Fin 8192) (k : Fin 1024) : EReal := m ((c : Thread nD τ).loc main_arg2) (ix2 r k)
def W (c : Dev nD) (k : Fin 1024) (q : Fin 1024) : EReal := m ((c : Thread nD τ).loc main_arg3) (ix2 k q)
def B (c : Dev nD) (k : Fin 1024) : EReal := m ((c : Thread nD τ).loc main_arg4) (ix1 k)
def U (c : Dev nD) (k : Fin 1024) (q : Fin 1024) : EReal := m ((c : Thread nD τ).loc main_arg5) (ix2 k q)

theorem idx0 : ∀ t : Fin grid0.N, win0_0.index t 0 = t.val ∧ win0_0.index t 1 = 0 := by decide +kernel
theorem idx1 : ∀ t : Fin grid0.N, win0_1.index t 0 = t.val ∧ win0_1.index t 1 = 0 := by decide +kernel
theorem idx2 : ∀ t : Fin grid0.N, win0_2.index t 0 = t.val ∧ win0_2.index t 1 = 0 := by decide +kernel
theorem idx3 : ∀ t : Fin grid0.N, win0_3.index t 0 = 0 ∧ win0_3.index t 1 = 0 := by decide +kernel
theorem idx4 : ∀ t : Fin grid0.N, win0_4.index t 0 = 0 ∧ win0_4.index t 1 = 0 := by decide +kernel
theorem idx5 : ∀ t : Fin grid0.N, win0_5.index t 0 = 0 ∧ win0_5.index t 1 = 0 := by decide +kernel
theorem idx6 : ∀ t : Fin grid0.N, win0_6.index t 0 = t.val ∧ win0_6.index t 1 = 0 := by decide +kernel

theorem rv (t : Fin cfg0.N) (r : Fin 512) : (Inproj.row t.val r).val = t.val * 512 + r.val :=
  Inproj.row_val (by have := t.isLt; have : cfg0.N = 16 := N_0; omega) r

theorem b0 (c : Dev nD) (t : Fin cfg0.N) (r : Fin 512) (l : Fin 1024) : iblk m c 0 t (ix2 r l) = Y m c (Inproj.row t.val r) l := by
  unfold Y
  blk_point [iblk, rv, (idx0 t).1, (idx0 t).2]
theorem b1 (c : Dev nD) (t : Fin cfg0.N) (r : Fin 512) (l : Fin 1024) : iblk m c 1 t (ix2 r l) = G m c (Inproj.row t.val r) l := by
  unfold G
  blk_point [iblk, rv, (idx1 t).1, (idx1 t).2]
theorem b2 (c : Dev nD) (t : Fin cfg0.N) (r : Fin 512) (l : Fin 1024) : iblk m c 2 t (ix2 r l) = X m c (Inproj.row t.val r) l := by
  unfold X
  blk_point [iblk, rv, (idx2 t).1, (idx2 t).2]
theorem b3 (c : Dev nD) (t : Fin cfg0.N) (k : Fin 1024) (q : Fin 1024) : iblk m c 3 t (ix2 k q) = W m c k q := by
  unfold W
  blk_point [iblk, (idx3 t).1, (idx3 t).2]
theorem b4 (c : Dev nD) (t : Fin cfg0.N) (l : Fin 1024) : iblk m c 4 t (ix2 0 l) = B m c l := by
  unfold B
  blk_point [iblk, (idx4 t).1, (idx4 t).2]
theorem b5 (c : Dev nD) (t : Fin cfg0.N) (k : Fin 1024) (q : Fin 1024) : iblk m c 5 t (ix2 k q) = U m c k q := by
  unfold U
  blk_point [iblk, (idx5 t).1, (idx5 t).2]

theorem out_at (c : Dev nD) (t : Fin cfg0.N) (r : Fin 512) (l : Fin 1024) :
    out0_6 (iblk m c 0 t) (iblk m c 1 t) (iblk m c 2 t) (iblk m c 3 t) (iblk m c 4 t) (iblk m c 5 t) (ix2 r l)
      = SsmOut.out (Y m c) (G m c) (X m c) (W m c) (B m c) (U m c) (Inproj.row t.val r) l := by
  have e : out0_6 (F := Ideal) (iblk m c 0 t) (iblk m c 1 t) (iblk m c 2 t) (iblk m c 3 t) (iblk m c 4 t) (iblk m c 5 t)
      = k0_pay1 (F := Ideal) (k0_pay2 (iblk m c 1 t)) (k0_pay3 (iblk m c 0 t) (iblk m c 3 t) (iblk m c 4 t)) (k0_pay4 (iblk m c 1 t))
          (iblk m c 2 t) (iblk m c 5 t) := by frame_out
  rw [e, pay_apply]
  simp only [b0, b1, b2, b3, b4, b5]
  rfl

theorem final6 (c : Dev nD) : (dats m 0 c).arrAt 6 cfg0.N
    = fun j : S8192x1024.Idx => SsmOut.out (Y m c) (G m c) (X m c) (W m c) (B m c) (U m c) (j 0) (j 1) := by
  refine (dats m 0 c).arrAt_eq_of_covers 6 _ (by decide +kernel) fun t hf y => ?_
  blk_simp
  rw [after0_6]
  obtain ⟨r, l, rfl⟩ : ∃ r l, y = ix2 r l := ⟨_, _, eq_ix2 y⟩
  rw [out_at]
  congr 1
  · refine Fin.ext ?_
    rw [rv]
    blk_simp [(idx6 t).1]
  · refine Fin.ext ?_
    blk_simp [(idx6 t).2]

end Cert.Kernel9Ideal.SsmOutFwdValue

end
-- ==== Proof.SsmOutFwdReference.lean ====
/-
  The values of the reference for a state-space layer's output: nonlinearity, gated linear unit, gate, projection, residual sum.
-/
module

public import proofs.«01_k».proof.Proof.Gen.Reference9Ideal.Read
public import proofs.«01_k».proof.Proof.SsmOutMath
public import Idealize.ShloMosaic.Lib.Pointwise

@[expose] public section

set_option maxRecDepth 16384

noncomputable section

namespace Cert.Reference9Ideal.SsmOutFwdValue

open Cert.Reference9Ideal Cert.Reference9Ideal.Gen Idealize.ShloMosaic Idealize.ShloMosaic.TcCoe Idealize.SL.Sem Cert.Proof
open Cert.Reference9Ideal.Read

abbrev Mat (a b : ℕ) := (⟨⟨2, ![a, b]⟩, .f32⟩ : BufTy).Contents (Elt Ideal)
abbrev Col (a : ℕ) := (⟨⟨1, ![a]⟩, .f32⟩ : BufTy).Contents (Elt Ideal)

variable (y g x : Mat 8192 1024) (w v : Mat 1024 1024) (b : Col 1024)

theorem silu_apply (r : Fin 8192) (l : Fin 1024) : val_main_v24 (F := Ideal) g (ix2 r l) = Gate.silu (g (ix2 r l)) := by
  pointwise [val_main_v24, val_main_call0_v5, val_main_call0_v4, val_main_call0_v3, val_main_call0_v2, val_main_call0_v1,
    val_main_call0_v0, val_main_call0_cst, val_main_call0_cst_0]
  rw [Gate.sgRef_sg]
  rfl

theorem gelu_apply (r : Fin 8192) (l : Fin 1024) : val_main_v12 (F := Ideal) y (ix2 r l) = SsmOut.gelu (y (ix2 r l)) := by
  pointwise [val_main_v12, val_main_v11, val_main_v10, val_main_v9, val_main_v8, val_main_v7, val_main_v6, val_main_v5, val_main_v4,
    val_main_v3, val_main_v2, val_main_v1, val_main_v0, val_main_cst, val_main_cst_0, val_main_cst_1, val_main_cst_2]
  rfl

theorem pre_apply (r : Fin 8192) (l : Fin 1024) :
    val_main_v16 (F := Ideal) y w b (ix2 r l) = (∑ k, SsmOut.gelu (y (ix2 r k)) * w (ix2 k l)) + b (ix1 l) := by
  pointwise [val_main_v16, val_main_v15, val_main_v14, val_main_v13]
  simp only [gelu_apply]

theorem glu_apply (r : Fin 8192) (l : Fin 1024) :
    val_main_v23 (F := Ideal) y w b (ix2 r l)
      = SsmOut.glu (fun k => y (ix2 r k)) (fun k q => w (ix2 k q)) (fun k => b (ix1 k)) l := by
  pointwise [val_main_v23, val_main_v22, val_main_v21, val_main_v20, val_main_v19, val_main_v18, val_main_v17, val_main_cst_3,
    val_main_cst_4]
  rw [pre_apply, gelu_apply, Gate.sgRef_sg]
  rfl

theorem out_apply (r : Fin 8192) (l : Fin 1024) :
    val_main_v27 (F := Ideal) y g x w b v (ix2 r l)
      = SsmOut.outRow (fun k => y (ix2 r k)) (fun k => g (ix2 r k)) (x (ix2 r l)) (fun k q => w (ix2 k q)) (fun k => b (ix1 k))
          (fun k q => v (ix2 k q)) l := by
  pointwise [val_main_v27, val_main_v26, val_main_v25]
  simp only [silu_apply, glu_apply]
  rfl

end Cert.Reference9Ideal.SsmOutFwdValue

end
-- ==== Proof.SsmOutFwd.lean ====
/-
  The two claims about the values of a state-space layer's output.
-/
module

public import proofs.«01_k».proof.Proof.SsmOutFwdKernel
public import proofs.«01_k».proof.Proof.SsmOutFwdReference
public import proofs.«01_k».proof.Defs

@[expose] public section

noncomputable section

namespace Cert.Proof.SsmOutFwd

open Idealize.ShloMosaic Idealize.SL.Sem

/-- The reference runs to its end, keeps its arguments and leaves the counters at zero. -/
theorem frame_reference : Cert.quiescent_Reference9Ideal := fun m ρ _ =>
  (θ_run _ _ _).mono (fun r h => ⟨fun c => (h c).2, Idealize.ShloMosaic.sem_eq_zero_of_no_sems (by decide) r.2⟩)
    (Cert.Reference9Ideal.Value.run (F := Ideal) m ρ)

/-- The kernel's results are the reference's. -/
theorem algebraic : Cert.algebraic_Kernel9Ideal_Reference9Ideal := fun m g m' g' _ hm => by
  refine ⟨fun c => (Cert.Kernel9Ideal.Gen.dats m 0 c).arrAt 6 Cert.Kernel9Ideal.cfg0.N,
    Cert.Kernel9Ideal.Value.run_blocks (F := Ideal) m g, ?_⟩
  refine (θ_run _ _ _).mono (fun r h c => ⟨(h c).1.trans ?_, (h c).2⟩)
    (Cert.Reference9Ideal.Value.run (F := Ideal) m' g')
  · obtain ⟨h0, h1, h2, h3, h4, h5⟩ := hm c
    rw [Cert.Reference9Ideal.Read.val_main_v27_eq, h0, h1, h2, h3, h4, h5]
    refine Eq.trans (funext fun j => ?_) (Cert.Kernel9Ideal.SsmOutFwdValue.final6 m c).symm
    obtain ⟨a, b, rfl⟩ : ∃ a b, j = ix2 a b := ⟨_, _, eq_ix2 j⟩
    rw [Cert.Reference9Ideal.SsmOutFwdValue.out_apply]
    rfl

end Cert.Proof.SsmOutFwd

end
-- ==== Proof.AttnOutFwdKernel.lean ====
/-
  The values of the kernel for the attention layer's gate, output projection and residual sum.
-/
module

public import proofs.«01_k».proof.Proof.Gen.Kernel10Ideal.Value
public import proofs.«01_k».proof.Proof.GateMath
public import Idealize.ShloMosaic.Lib.Pipeline.ValueKit
public import Idealize.ShloMosaic.Lib.Pointwise

@[expose] public section

set_option maxRecDepth 16384

noncomputable section

namespace Cert.Kernel10Ideal.AttnOutFwdValue

open Cert.Kernel10Ideal Cert.Kernel10Ideal.Gen Idealize.ShloMosaic Idealize.ShloMosaic.TcCoe Idealize.SL.Sem Cert.Proof

variable (m : (ℓ : Loc nD τ sig) → Buf (Elt Ideal) ℓ)

/-- One entry of a row of the result. -/
def outRow (o g : Fin 1024 → EReal) (x : EReal) (w : Fin 1024 → Fin 1024 → EReal) (l : Fin 1024) : EReal :=
  x + ∑ k, o k * Gate.silu (g k) * w k l

/-- The result of the whole arguments. -/
def out (O G X : Fin 8192 → Fin 1024 → EReal) (w : Fin 1024 → Fin 1024 → EReal) (i : Fin 8192) (l : Fin 1024) : EReal :=
  outRow (O i) (G i) (X i l) w l

theorem pay_apply (g : Vec Ideal S512x1024 .bf16) (o x : Vec Ideal S512x1024 .f32) (w : Vec Ideal S1024x1024 .bf16)
    (r : Fin 512) (l : Fin 1024) :
    k0_pay1 g o x w (ix2 r l) = outRow (fun k => o (ix2 r k)) (fun k => g (ix2 r k)) (x (ix2 r l)) (fun k q => w (ix2 k q)) l := by
  pointwise [k0_pay1]
  rfl

def O (c : Dev nD) (r : Fin 8192) (k : Fin 1024) : EReal := m ((c : Thread nD τ).loc main_arg0) (ix2 r k)
def G (c : Dev nD) (r : Fin 8192) (k : Fin 1024) : EReal := m ((c : Thread nD τ).loc main_arg1) (ix2 r k)
def X (c : Dev nD) (r : Fin 8192) (k : Fin 1024) : EReal := m ((c : Thread nD τ).loc main_arg2) (ix2 r k)
def W (c : Dev nD) (k : Fin 1024) (q : Fin 1024) : EReal := m ((c : Thread nD τ).loc main_arg3) (ix2 k q)

theorem idx0 : ∀ t : Fin grid0.N, win0_0.index t 0 = t.val ∧ win0_0.index t 1 = 0 := by decide +kernel
theorem idx1 : ∀ t : Fin grid0.N, win0_1.index t 0 = t.val ∧ win0_1.index t 1 = 0 := by decide +kernel
theorem idx2 : ∀ t : Fin grid0.N, win0_2.index t 0 = t.val ∧ win0_2.index t 1 = 0 := by decide +kernel
theorem idx3 : ∀ t : Fin grid0.N, win0_3.index t 0 = 0 ∧ win0_3.index t 1 = 0 := by decide +kernel
theorem idx4 : ∀ t : Fin grid0.N, win0_4.index t 0 = t.val ∧ win0_4.index t 1 = 0 := by decide +kernel

theorem rv (t : Fin cfg0.N) (r : Fin 512) : (Inproj.row t.val r).val = t.val * 512 + r.val :=
  Inproj.row_val (by have := t.isLt; have : cfg0.N = 16 := N_0; omega) r

theorem b0 (c : Dev nD) (t : Fin cfg0.N) (r : Fin 512) (l : Fin 1024) : iblk m c 0 t (ix2 r l) = O m c (Inproj.row t.val r) l := by
  unfold O
  blk_point [iblk, rv, (idx0 t).1, (idx0 t).2]
theorem b1 (c : Dev nD) (t : Fin cfg0.N) (r : Fin 512) (l : Fin 1024) : iblk m c 1 t (ix2 r l) = G m c (Inproj.row t.val r) l := by
  unfold G
  blk_point [iblk, rv, (idx1 t).1, (idx1 t).2]
theorem b2 (c : Dev nD) (t : Fin cfg0.N) (r : Fin 512) (l : Fin 1024) : iblk m c 2 t (ix2 r l) = X m c (Inproj.row t.val r) l := by
  unfold X
  blk_point [iblk, rv, (idx2 t).1, (idx2 t).2]
theorem b3 (c : Dev nD) (t : Fin cfg0.N) (k : Fin 1024) (q : Fin 1024) : iblk m c 3 t (ix2 k q) = W m c k q := by
  unfold W
  blk_point [iblk, (idx3 t).1, (idx3 t).2]

theorem out_at (c : Dev nD) (t : Fin cfg0.N) (r : Fin 512) (l : Fin 1024) :
    out0_4 (iblk m c 0 t) (iblk m c 1 t) (iblk m c 2 t) (iblk m c 3 t) (ix2 r l)
      = out (O m c) (G m c) (X m c) (W m c) (Inproj.row t.val r) l := by
  have e : out0_4 (F := Ideal) (iblk m c 0 t) (iblk m c 1 t) (iblk m c 2 t) (iblk m c 3 t)
      = k0_pay1 (F := Ideal) (iblk m c 1 t) (iblk m c 0 t) (iblk m c 2 t) (iblk m c 3 t) := by frame_out
  rw [e, pay_apply]
  simp only [b0, b1, b2, b3]
  rfl

theorem final4 (c : Dev nD) : (dats m 0 c).arrAt 4 cfg0.N
    = fun j : S8192x1024.Idx => out (O m c) (G m c) (X m c) (W m c) (j 0) (j 1) := by
  refine (dats m 0 c).arrAt_eq_of_covers 4 _ (by decide +kernel) fun t hf y => ?_
  blk_simp
  rw [after0_4]
  obtain ⟨r, l, rfl⟩ : ∃ r l, y = ix2 r l := ⟨_, _, eq_ix2 y⟩
  rw [out_at]
  congr 1
  · refine Fin.ext ?_
    rw [rv]
    blk_simp [(idx4 t).1]
  · refine Fin.ext ?_
    blk_simp [(idx4 t).2]

end Cert.Kernel10Ideal.AttnOutFwdValue

end
-- ==== Proof.AttnOutFwdReference.lean ====
/-
  The values of the reference for the attention layer's gate, output projection and residual sum.
-/
module

public import proofs.«01_k».proof.Proof.Gen.Reference10Ideal.Read
public import proofs.«01_k».proof.Proof.GateMath
public import Idealize.ShloMosaic.Lib.Pointwise

@[expose] public section

set_option maxRecDepth 16384

noncomputable section

namespace Cert.Reference10Ideal.AttnOutFwdValue

open Cert.Reference10Ideal Cert.Reference10Ideal.Gen Idealize.ShloMosaic Idealize.ShloMosaic.TcCoe Idealize.SL.Sem Cert.Proof
open Cert.Reference10Ideal.Read

abbrev Mat (a b : ℕ) := (⟨⟨2, ![a, b]⟩, .f32⟩ : BufTy).Contents (Elt Ideal)
abbrev Col (a : ℕ) := (⟨⟨1, ![a]⟩, .f32⟩ : BufTy).Contents (Elt Ideal)

variable (o g x : Mat 8192 1024) (w : Mat 1024 1024)

theorem silu_apply (r : Fin 8192) (l : Fin 1024) : val_main_v0 (F := Ideal) g (ix2 r l) = Gate.silu (g (ix2 r l)) := by
  pointwise [val_main_v0, val_main_call0_v5, val_main_call0_v4, val_main_call0_v3, val_main_call0_v2, val_main_call0_v1,
    val_main_call0_v0, val_main_call0_cst, val_main_call0_cst_0]
  rw [Gate.sgRef_sg]
  rfl

theorem out_apply (r : Fin 8192) (l : Fin 1024) :
    val_main_v3 (F := Ideal) o g x w (ix2 r l)
      = x (ix2 r l) + ∑ k, o (ix2 r k) * Gate.silu (g (ix2 r k)) * w (ix2 k l) := by
  pointwise [val_main_v3, val_main_v2, val_main_v1]
  simp only [silu_apply]

end Cert.Reference10Ideal.AttnOutFwdValue

end
-- ==== Proof.AttnOutFwd.lean ====
/-
  The two claims about the values of the attention layer's gate, output projection and residual sum.
-/
module

public import proofs.«01_k».proof.Proof.AttnOutFwdKernel
public import proofs.«01_k».proof.Proof.AttnOutFwdReference
public import proofs.«01_k».proof.Defs

@[expose] public section

noncomputable section

namespace Cert.Proof.AttnOutFwd

open Idealize.ShloMosaic Idealize.SL.Sem

/-- The reference runs to its end, keeps its arguments and leaves the counters at zero. -/
theorem frame_reference : Cert.quiescent_Reference10Ideal := fun m ρ _ =>
  (θ_run _ _ _).mono (fun r h => ⟨fun c => (h c).2, Idealize.ShloMosaic.sem_eq_zero_of_no_sems (by decide) r.2⟩)
    (Cert.Reference10Ideal.Value.run (F := Ideal) m ρ)

/-- The kernel's results are the reference's. -/
theorem algebraic : Cert.algebraic_Kernel10Ideal_Reference10Ideal := fun m g m' g' _ hm => by
  refine ⟨fun c => (Cert.Kernel10Ideal.Gen.dats m 0 c).arrAt 4 Cert.Kernel10Ideal.cfg0.N,
    Cert.Kernel10Ideal.Value.run_blocks (F := Ideal) m g, ?_⟩
  refine (θ_run _ _ _).mono (fun r h c => ⟨(h c).1.trans ?_, (h c).2⟩)
    (Cert.Reference10Ideal.Value.run (F := Ideal) m' g')
  · obtain ⟨h0, h1, h2, h3⟩ := hm c
    rw [Cert.Reference10Ideal.Read.val_main_v3_eq, h0, h1, h2, h3]
    refine Eq.trans (funext fun j => ?_) (Cert.Kernel10Ideal.AttnOutFwdValue.final4 m c).symm
    obtain ⟨a, b, rfl⟩ : ∃ a b, j = ix2 a b := ⟨_, _, eq_ix2 j⟩
    rw [Cert.Reference10Ideal.AttnOutFwdValue.out_apply]
    rfl

end Cert.Proof.AttnOutFwd

end
-- ==== Proof.RopeMath.lean ====
/-
  Rotation of the heads' rows by position: the angles and the rotated values.
-/
module

public import proofs.«01_k».proof.Proof.InprojMath

@[expose] public section

noncomputable section

namespace Cert.Proof.Rope

open Idealize.ShloMosaic

/-- The lane that a lane is rotated with: the one of the same number in the other half of its head. -/
def partner (n : ℕ) (hn : 64 ∣ n) (l : Fin n) : Fin n :=
  ⟨if l.val % 64 < 32 then l.val + 32 else l.val - 32, by have := l.isLt; split <;> omega⟩

/-- A value and its partner, mixed. -/
def mix (a b c s : EReal) : EReal := a * c + b * s

/-- The angle of a position and a lane of a half. -/
def angle (r : Fin 8192) (i : Fin 32) : EReal :=
  (FloatOps.sitofp FTy.f32 (BitVec.ofNat 32 r.val) : Ideal .f32)
    * Ideal.pow (Ideal.ofBits .f32 0x461C4000#32)
        (Ideal.div (-(Ideal.ofBits .f32 0x40000000#32 * (FloatOps.sitofp FTy.f32 (BitVec.ofNat 32 i.val) : Ideal .f32)))
          (Ideal.ofBits .f32 0x42800000#32))

/-- The lane of a half that a lane is. -/
def half (l : ℕ) : Fin 32 := ⟨l % 32, Nat.mod_lt _ (by decide)⟩

def cosTab (r : Fin 8192) (l : ℕ) : EReal := Ideal.cos (angle r (half l))

/-- The sine, with the sign that the kernel's table carries. -/
def sinTab (r : Fin 8192) (l : ℕ) : EReal :=
  if l % 64 < 32 then -Ideal.sin (angle r (half l)) else Ideal.sin (angle r (half l))

theorem mix_low (a b : EReal) (r : Fin 8192) (l : ℕ) (h : l % 64 < 32) :
    mix a b (cosTab r l) (sinTab r l) = a * Ideal.cos (angle r (half l)) - b * Ideal.sin (angle r (half l)) := by
  unfold mix cosTab sinTab
  rw [if_pos h, mul_neg, sub_eq_add_neg]

theorem mix_high (a b : EReal) (r : Fin 8192) (l : ℕ) (h : ¬l % 64 < 32) :
    mix a b (cosTab r l) (sinTab r l) = a * Ideal.cos (angle r (half l)) + b * Ideal.sin (angle r (half l)) := by
  unfold mix cosTab sinTab
  rw [if_neg h]

end Cert.Proof.Rope

end
-- ==== Proof.InprojAttnFwdKernel.lean ====
/-
  The values of the kernel for an attention layer's norm, input projection and rotation by position.
-/
module

public import proofs.«01_k».proof.Proof.Gen.Kernel8Ideal.Value
public import proofs.«01_k».proof.Proof.RopeMath
public import Idealize.ShloMosaic.Lib.Pipeline.ValueKit
public import Idealize.ShloMosaic.Lib.Pointwise

@[expose] public section

set_option maxRecDepth 16384

noncomputable section

namespace Cert.Kernel8Ideal.InprojAttnFwdValue

open Cert.Kernel8Ideal Cert.Kernel8Ideal.Gen Idealize.ShloMosaic Idealize.ShloMosaic.TcCoe Idealize.SL.Sem Cert.Proof

variable (m : (ℓ : Loc nD τ sig) → Buf (Elt Ideal) ℓ)

/-- One entry of the product of a normed row. -/
def projRow (x n : Fin 1024 → EReal) (w : Fin 1024 → Fin 2304 → EReal) (q : Fin 2304) : EReal := ∑ k, Inproj.xhat x k * n k * w k q

/-- The rotated query part of the product, of the whole arguments. -/
def projQ (X : Fin 8192 → Fin 1024 → EReal) (n : Fin 1024 → EReal) (w : Fin 1024 → Fin 2304 → EReal) (i : Fin 8192) (l : Fin 1024) :
    EReal :=
  Rope.mix (projRow (X i) n w ⟨l.val, by omega⟩) (projRow (X i) n w ⟨(Rope.partner 1024 (by decide) l).val, by omega⟩)
    (Rope.cosTab i l.val) (Rope.sinTab i l.val)

/-- The rotated key part of the product, of the whole arguments. -/
def projK (X : Fin 8192 → Fin 1024 → EReal) (n : Fin 1024 → EReal) (w : Fin 1024 → Fin 2304 → EReal) (i : Fin 8192) (l : Fin 128) :
    EReal :=
  Rope.mix (projRow (X i) n w ⟨1024 + l.val, by omega⟩) (projRow (X i) n w ⟨1024 + (Rope.partner 128 (by decide) l).val, by omega⟩)
    (Rope.cosTab i l.val) (Rope.sinTab i l.val)

/-- The value part of the product, of the whole arguments. -/
def projV (X : Fin 8192 → Fin 1024 → EReal) (n : Fin 1024 → EReal) (w : Fin 1024 → Fin 2304 → EReal) (i : Fin 8192) (l : Fin 128) :
    EReal := projRow (X i) n w ⟨1152 + l.val, by omega⟩

/-- The gate part of the product, of the whole arguments. -/
def projG (X : Fin 8192 → Fin 1024 → EReal) (n : Fin 1024 → EReal) (w : Fin 1024 → Fin 2304 → EReal) (i : Fin 8192) (l : Fin 1024) :
    EReal := projRow (X i) n w ⟨1280 + l.val, by omega⟩

/-- One piece of 128 columns, rotated, as the kernel writes it. -/
def rotated (t c s : FVec Ideal S512x128 .f32) (mask : IVec S1x128 1) : FVec Ideal S512x128 .f32 :=
  addf (mulf t c)
    (mulf (broadcast S512x128 (Scalar.ofBits .f32 0x3F800000#32))
      (mulf
        (select (broadcastTo S512x128 (shapeCast S1x128 mask shapeCasts_S1x128_S1x128) broadcasts_S1x128_S512x128)
          (dynamicRotate 1 96#32 none t rotates_S512x128_d1) (dynamicRotate 1 32#32 none t rotates_S512x128_d1)) s))

/-- Which lanes hold the first half of a head. -/
def mask : IVec S1x128 1 := k0_pay9 k0_pay6 k0_pay7 k0_pay8

theorem mask_apply : ∀ l : Fin 128, mask (ix2 0 l) = if l.val % 64 < 32 then 1#1 else 0#1 := by
  intro l
  pointwise [mask, k0_pay9, k0_pay6, k0_pay7, k0_pay8]
  revert l
  decide +kernel

theorem rotated_apply (t c s : FVec Ideal S512x128 .f32) (r : Fin 512) (l : Fin 128) :
    rotated t c s mask (ix2 r l) = Rope.mix (t (ix2 r l)) (t (ix2 r (Rope.partner 128 (by decide) l))) (c (ix2 r l)) (s (ix2 r l)) := by
  pointwise [rotated]
  rw [mask_apply]
  unfold Rope.mix Rope.partner
  by_cases h : l.val % 64 < 32
  · rw [if_pos h]
    simp only [if_pos h]
    have e : (l.val + 128 - 96) % 128 = l.val + 32 := by omega
    simp only [e]
    rfl
  · rw [if_neg h]
    simp only [if_neg h]
    have e : (l.val + 128 - 32) % 128 = l.val - 32 := by omega
    simp only [e]
    rfl

theorem pay17_eq (v : FVec Ideal S512x2304 .f32) (c s : Vec Ideal S512x128 .f32) :
    k0_pay17 v c s = truncf .bf16 (rotated (extractStridedSlice S512x128 ![0, 1024] v slices_S512x2304_o0_1024_S512x128)
      (shapeCast S512x128 c shapeCasts_S512x128_S512x128) (shapeCast S512x128 s shapeCasts_S512x128_S512x128) mask) bitsLt_bf16_f32 := rfl

theorem pay17_apply (v : FVec Ideal S512x2304 .f32) (c s : Vec Ideal S512x128 .f32) (r : Fin 512) (l : Fin 128) :
    k0_pay17 v c s (ix2 r l) = Rope.mix (v (ix2 r ⟨1024 + l.val, by omega⟩)) (v (ix2 r ⟨1024 + (Rope.partner 128 (by decide) l).val, by omega⟩))
      (c (ix2 r l)) (s (ix2 r l)) := by
  rw [pay17_eq]
  pointwise
  rw [rotated_apply]
  pointwise

/-- A piece of 128 columns cut out of the queries and rotated. -/
theorem piece_apply (o : ℕ) (ho : o % 64 = 0) (h : S512x1024.Slices ![0, o] S512x128) (v : FVec Ideal S512x1024 .f32)
    (c s : FVec Ideal S512x128 .f32) (r : Fin 512) (l : Fin 128) (j : Fin 1024) (hj : j.val = o + l.val) :
    rotated (extractStridedSlice S512x128 ![0, o] v h) c s mask (ix2 r l)
      = Rope.mix (v (ix2 r j)) (v (ix2 r (Rope.partner 1024 (by decide) j))) (c (ix2 r l)) (s (ix2 r l)) := by
  rw [rotated_apply]
  pointwise
  have e1 : (⟨o + l.val, by have := j.isLt; omega⟩ : Fin 1024) = j := Fin.ext hj.symm
  have e2 : o + (Rope.partner 128 (by decide) l).val = (Rope.partner 1024 (by decide) j).val := by
    unfold Rope.partner
    dsimp only
    rw [hj]
    by_cases hl : l.val % 64 < 32
    · rw [if_pos hl, if_pos (by omega)]
      omega
    · rw [if_neg hl, if_neg (by omega)]
      omega
  have e3 : (⟨o + (Rope.partner 128 (by decide) l).val, by have := (Rope.partner 1024 (by decide) j).isLt; omega⟩ : Fin 1024)
      = Rope.partner 1024 (by decide) j := Fin.ext e2
  rw [e1, e3]

theorem piece_at (o : ℕ) (ho : o % 64 = 0) (h : S512x1024.Slices ![0, o] S512x128) (v : FVec Ideal S512x1024 .f32)
    (c s : FVec Ideal S512x128 .f32) (r : Fin 512) (j : Fin 1024) (l : Fin 128) (hj : j.val = o + l.val) (hl : l.val = j.val % 128) :
    rotated (extractStridedSlice S512x128 ![0, o] v h) c s mask (ix2 r l)
      = Rope.mix (v (ix2 r j)) (v (ix2 r (Rope.partner 1024 (by decide) j)))
        (c (ix2 r ⟨j.val % 128, Nat.mod_lt _ (by decide)⟩)) (s (ix2 r ⟨j.val % 128, Nat.mod_lt _ (by decide)⟩)) := by
  have e : l = ⟨j.val % 128, Nat.mod_lt _ (by decide)⟩ := Fin.ext hl
  rw [piece_apply o ho h v c s r l j hj, ← e]

/-- All the queries, the eight pieces side by side. -/
def stacked (v : FVec Ideal S512x1024 .f32) (c s : FVec Ideal S512x128 .f32) : FVec Ideal S512x1024 .f32 :=
  concatenate S512x1024 1 [⟨S512x128, rotated (extractStridedSlice S512x128 ![0, 0] v slices_S512x1024_o0_0_S512x128) c s mask⟩, ⟨S512x128, rotated (extractStridedSlice S512x128 ![0, 128] v slices_S512x1024_o0_128_S512x128) c s mask⟩, ⟨S512x128, rotated (extractStridedSlice S512x128 ![0, 256] v slices_S512x1024_o0_256_S512x128) c s mask⟩, ⟨S512x128, rotated (extractStridedSlice S512x128 ![0, 384] v slices_S512x1024_o0_384_S512x128) c s mask⟩, ⟨S512x128, rotated (extractStridedSlice S512x128 ![0, 512] v slices_S512x1024_o0_512_S512x128) c s mask⟩, ⟨S512x128, rotated (extractStridedSlice S512x128 ![0, 640] v slices_S512x1024_o0_640_S512x128) c s mask⟩, ⟨S512x128, rotated (extractStridedSlice S512x128 ![0, 768] v slices_S512x1024_o0_768_S512x128) c s mask⟩, ⟨S512x128, rotated (extractStridedSlice S512x128 ![0, 896] v slices_S512x1024_o0_896_S512x128) c s mask⟩] concatenates_S512x128_S512x128_S512x128_S512x128_S512x128_S512x128_S512x128_S512x128_S512x1024_d1

theorem pay16_eq (v : FVec Ideal S512x1024 .f32) (c s : FVec Ideal S512x128 .f32) :
    k0_pay16 v c s (k0_pay9 k0_pay6 k0_pay7 k0_pay8) (k0_pay10 v c s k0_pay6 k0_pay7 k0_pay8) (k0_pay11 v c s k0_pay6 k0_pay7 k0_pay8)
      (k0_pay12 v c s k0_pay6 k0_pay7 k0_pay8) (k0_pay14 v c) (k0_pay15 v s k0_pay6 k0_pay7 k0_pay8)
      = truncf .bf16 (stacked v c s) bitsLt_bf16_f32 := rfl

theorem stacked_apply (v : FVec Ideal S512x1024 .f32) (c s : FVec Ideal S512x128 .f32) (r : Fin 512) (j : Fin 1024) :
    stacked v c s (ix2 r j) = Rope.mix (v (ix2 r j)) (v (ix2 r (Rope.partner 1024 (by decide) j)))
      (c (ix2 r ⟨j.val % 128, Nat.mod_lt _ (by decide)⟩)) (s (ix2 r ⟨j.val % 128, Nat.mod_lt _ (by decide)⟩)) := by
  pointwise [stacked]
  by_cases h0 : j.val < 128
  · refine (dif_pos h0).trans ?_
    exact piece_at 0 (by decide) _ v c s r j _ (by show _ = 0 + (j.val); omega) (by show j.val = j.val % 128; omega)
  refine (dif_neg h0).trans ?_
  by_cases h1 : j.val - 128 < 128
  · refine (dif_pos h1).trans ?_
    exact piece_at 128 (by decide) _ v c s r j _ (by show _ = 128 + (j.val - 128); omega) (by show j.val - 128 = j.val % 128; omega)
  refine (dif_neg h1).trans ?_
  by_cases h2 : j.val - 128 - 128 < 128
  · refine (dif_pos h2).trans ?_
    exact piece_at 256 (by decide) _ v c s r j _ (by show _ = 256 + (j.val - 128 - 128); omega) (by show j.val - 128 - 128 = j.val % 128; omega)
  refine (dif_neg h2).trans ?_
  by_cases h3 : j.val - 128 - 128 - 128 < 128
  · refine (dif_pos h3).trans ?_
    exact piece_at 384 (by decide) _ v c s r j _ (by show _ = 384 + (j.val - 128 - 128 - 128); omega) (by show j.val - 128 - 128 - 128 = j.val % 128; omega)
  refine (dif_neg h3).trans ?_
  by_cases h4 : j.val - 128 - 128 - 128 - 128 < 128
  · refine (dif_pos h4).trans ?_
    exact piece_at 512 (by decide) _ v c s r j _ (by show _ = 512 + (j.val - 128 - 128 - 128 - 128); omega) (by show j.val - 128 - 128 - 128 - 128 = j.val % 128; omega)
  refine (dif_neg h4).trans ?_
  by_cases h5 : j.val - 128 - 128 - 128 - 128 - 128 < 128
  · refine (dif_pos h5).trans ?_
    exact piece_at 640 (by decide) _ v c s r j _ (by show _ = 640 + (j.val - 128 - 128 - 128 - 128 - 128); omega) (by show j.val - 128 - 128 - 128 - 128 - 128 = j.val % 128; omega)
  refine (dif_neg h5).trans ?_
  by_cases h6 : j.val - 128 - 128 - 128 - 128 - 128 - 128 < 128
  · refine (dif_pos h6).trans ?_
    exact piece_at 768 (by decide) _ v c s r j _ (by show _ = 768 + (j.val - 128 - 128 - 128 - 128 - 128 - 128); omega) (by show j.val - 128 - 128 - 128 - 128 - 128 - 128 = j.val % 128; omega)
  refine (dif_neg h6).trans ?_
  exact piece_at 896 (by decide) _ v c s r j _ (by show _ = 896 + (j.val - 128 - 128 - 128 - 128 - 128 - 128 - 128); omega) (by show j.val - 128 - 128 - 128 - 128 - 128 - 128 - 128 = j.val % 128; omega)

def X (c : Dev nD) (r : Fin 8192) (k : Fin 1024) : EReal := m ((c : Thread nD τ).loc main_arg0) (ix2 r k)
def N (c : Dev nD) (k : Fin 1024) : EReal := m ((c : Thread nD τ).loc main_arg1) (ix1 k)
def W (c : Dev nD) (k : Fin 1024) (q : Fin 2304) : EReal := m ((c : Thread nD τ).loc main_arg2) (ix2 k q)

theorem idx0 : ∀ t : Fin grid0.N, win0_0.index t 0 = t.val ∧ win0_0.index t 1 = 0 := by decide +kernel
theorem idx1 : ∀ t : Fin grid0.N, win0_1.index t 0 = 0 ∧ win0_1.index t 1 = 0 := by decide +kernel
theorem idx2 : ∀ t : Fin grid0.N, win0_2.index t 0 = 0 ∧ win0_2.index t 1 = 0 := by decide +kernel
theorem idx3 : ∀ t : Fin grid0.N, win0_3.index t 0 = t.val ∧ win0_3.index t 1 = 0 := by decide +kernel
theorem idx4 : ∀ t : Fin grid0.N, win0_4.index t 0 = t.val ∧ win0_4.index t 1 = 0 := by decide +kernel
theorem idx5 : ∀ t : Fin grid0.N, win0_5.index t 0 = t.val ∧ win0_5.index t 1 = 0 := by decide +kernel
theorem idx6 : ∀ t : Fin grid0.N, win0_6.index t 0 = t.val ∧ win0_6.index t 1 = 0 := by decide +kernel
theorem idx7 : ∀ t : Fin grid0.N, win0_7.index t 0 = t.val ∧ win0_7.index t 1 = 0 := by decide +kernel
theorem idx8 : ∀ t : Fin grid0.N, win0_8.index t 0 = t.val ∧ win0_8.index t 1 = 0 := by decide +kernel
theorem rv (t : Fin cfg0.N) (r : Fin 512) : (Inproj.row t.val r).val = t.val * 512 + r.val :=
  Inproj.row_val (by have := t.isLt; have : cfg0.N = 16 := N_0; omega) r

theorem b0 (c : Dev nD) (t : Fin cfg0.N) (r : Fin 512) (l : Fin 1024) : iblk m c 0 t (ix2 r l) = X m c (Inproj.row t.val r) l := by
  unfold X
  blk_point [iblk, rv, (idx0 t).1, (idx0 t).2]
theorem b1 (c : Dev nD) (t : Fin cfg0.N) (l : Fin 1024) : iblk m c 1 t (ix2 0 l) = N m c l := by
  unfold N
  blk_point [iblk, (idx1 t).1, (idx1 t).2]
theorem b2 (c : Dev nD) (t : Fin cfg0.N) (k : Fin 1024) (q : Fin 2304) : iblk m c 2 t (ix2 k q) = W m c k q := by
  unfold W
  blk_point [iblk, (idx2 t).1, (idx2 t).2]

theorem V3 (c : Dev nD) : V m c main_v21 = fun j : S8192x128.Idx => Rope.cosTab (j 0) (j 1).val := by
  funext j
  obtain ⟨r, l, rfl⟩ : ∃ r l, j = ix2 r l := ⟨_, _, eq_ix2 j⟩
  entry_read
  pointwise
  show _ = Ideal.cos (Rope.angle r (Rope.half l.val))
  unfold Rope.angle Rope.half
  by_cases h : l.val % 64 < 32
  · refine (dif_pos h).trans ?_
    have e : l.val % 64 = l.val % 32 := by omega
    rw [e]
  · refine (dif_neg h).trans ?_
    have e : l.val % 64 - 32 = l.val % 32 := by omega
    rw [e]

theorem V4 (c : Dev nD) : V m c main_v26 = fun j : S8192x128.Idx => Rope.sinTab (j 0) (j 1).val := by
  funext j
  obtain ⟨r, l, rfl⟩ : ∃ r l, j = ix2 r l := ⟨_, _, eq_ix2 j⟩
  entry_read
  pointwise
  show _ = if l.val % 64 < 32 then -Ideal.sin (Rope.angle r (Rope.half l.val)) else Ideal.sin (Rope.angle r (Rope.half l.val))
  unfold Rope.angle Rope.half
  by_cases h : l.val % 64 < 32
  · refine (dif_pos h).trans ?_
    have e : l.val % 64 = l.val % 32 := by omega
    rw [if_pos h, e]
  · refine (dif_neg h).trans ?_
    have e : l.val % 64 - 32 = l.val % 32 := by omega
    rw [if_neg h, e]

theorem b3 (c : Dev nD) (t : Fin cfg0.N) (r : Fin 512) (l : Fin 128) :
    iblk m c 3 t (ix2 r l) = Rope.cosTab (Inproj.row t.val r) l.val := by
  show V m c main_v21 ((win0_3.blk t).view.emb (ix2 r l)) = _
  rw [V3]
  show Rope.cosTab ((win0_3.blk t).view.emb (ix2 r l) 0) ((win0_3.blk t).view.emb (ix2 r l) 1).val = _
  congr 1
  · refine Fin.ext ?_
    rw [rv]
    blk_simp [(idx3 t).1]
  · blk_simp [(idx3 t).2]

theorem b4 (c : Dev nD) (t : Fin cfg0.N) (r : Fin 512) (l : Fin 128) :
    iblk m c 4 t (ix2 r l) = Rope.sinTab (Inproj.row t.val r) l.val := by
  show V m c main_v26 ((win0_4.blk t).view.emb (ix2 r l)) = _
  rw [V4]
  show Rope.sinTab ((win0_4.blk t).view.emb (ix2 r l) 0) ((win0_4.blk t).view.emb (ix2 r l) 1).val = _
  congr 1
  · refine Fin.ext ?_
    rw [rv]
    blk_simp [(idx4 t).1]
  · blk_simp [(idx4 t).2]

theorem pay2_apply (x : Vec Ideal S512x1024 .f32) (n : Vec Ideal S1x1024 .f32) (w : Vec Ideal S1024x2304 .bf16)
    (r : Fin 512) (q : Fin 2304) :
    k0_pay2 x n w (ix2 r q) = projRow (fun k => x (ix2 r k)) (fun k => n (ix2 0 k)) (fun k q => w (ix2 k q)) q := by
  pointwise [k0_pay2]
  rfl

theorem pay18_apply (v : FVec Ideal S512x2304 .f32) (r : Fin 512) (l : Fin 128) :
    k0_pay18 v (ix2 r l) = v (ix2 r ⟨1152 + l.val, by omega⟩) := by
  pointwise [k0_pay18]

theorem pay1_apply (v : FVec Ideal S512x2304 .f32) (r : Fin 512) (l : Fin 1024) :
    k0_pay1 v (ix2 r l) = v (ix2 r ⟨1280 + l.val, by omega⟩) := by
  pointwise [k0_pay1]

theorem pay3_apply (x : Vec Ideal S512x1024 .f32) (n : Vec Ideal S1x1024 .f32) (w : Vec Ideal S1024x2304 .bf16)
    (r : Fin 512) (l : Fin 1024) :
    k0_pay3 x n w (ix2 r l) = k0_pay2 x n w (ix2 r ⟨l.val, by omega⟩) := by
  pointwise [k0_pay3]

theorem prod_at (c : Dev nD) (t : Fin cfg0.N) (r : Fin 512) (q : Fin 2304) :
    k0_pay2 (F := Ideal) (iblk m c 0 t) (iblk m c 1 t) (iblk m c 2 t) (ix2 r q)
      = projRow (X m c (Inproj.row t.val r)) (N m c) (W m c) q := by
  rw [pay2_apply]
  simp only [b0, b1, b2]

theorem outQ_at (c : Dev nD) (t : Fin cfg0.N) (r : Fin 512) (l : Fin 1024) :
    out0_5 (iblk m c 0 t) (iblk m c 1 t) (iblk m c 2 t) (iblk m c 3 t) (iblk m c 4 t) (ix2 r l)
      = projQ (X m c) (N m c) (W m c) (Inproj.row t.val r) l := by
  have e : out0_5 (F := Ideal) (iblk m c 0 t) (iblk m c 1 t) (iblk m c 2 t) (iblk m c 3 t) (iblk m c 4 t)
      = truncf .bf16 (stacked (k0_pay3 (F := Ideal) (iblk m c 0 t) (iblk m c 1 t) (iblk m c 2 t)) (k0_pay4 (iblk m c 3 t)) (k0_pay5 (iblk m c 4 t)))
          bitsLt_bf16_f32 := by
    rw [← pay16_eq]
    unfold_out out0_5
    frame_out
  rw [e]
  pointwise
  rw [stacked_apply, pay3_apply, pay3_apply, prod_at, prod_at]
  pointwise [k0_pay4, k0_pay5]
  rw [b3, b4]
  unfold projQ Rope.cosTab Rope.sinTab Rope.half
  dsimp only
  have e1 : l.val % 128 % 64 = l.val % 64 := by omega
  have e2 : l.val % 128 % 32 = l.val % 32 := by omega
  rw [e1]
  simp only [e2]

theorem outK_at (c : Dev nD) (t : Fin cfg0.N) (r : Fin 512) (l : Fin 128) :
    out0_6 (iblk m c 0 t) (iblk m c 1 t) (iblk m c 2 t) (iblk m c 3 t) (iblk m c 4 t) (ix2 r l)
      = projK (X m c) (N m c) (W m c) (Inproj.row t.val r) l := by
  have e : out0_6 (F := Ideal) (iblk m c 0 t) (iblk m c 1 t) (iblk m c 2 t) (iblk m c 3 t) (iblk m c 4 t)
      = k0_pay17 (k0_pay2 (F := Ideal) (iblk m c 0 t) (iblk m c 1 t) (iblk m c 2 t)) (iblk m c 3 t) (iblk m c 4 t) := by
    unfold_out out0_6
    frame_out
  rw [e, pay17_apply, prod_at, prod_at, b3, b4]
  rfl

theorem outV_at (c : Dev nD) (t : Fin cfg0.N) (r : Fin 512) (l : Fin 128) :
    out0_7 (iblk m c 0 t) (iblk m c 1 t) (iblk m c 2 t) (iblk m c 3 t) (iblk m c 4 t) (ix2 r l)
      = projV (X m c) (N m c) (W m c) (Inproj.row t.val r) l := by
  have e : out0_7 (F := Ideal) (iblk m c 0 t) (iblk m c 1 t) (iblk m c 2 t) (iblk m c 3 t) (iblk m c 4 t)
      = k0_pay18 (k0_pay2 (F := Ideal) (iblk m c 0 t) (iblk m c 1 t) (iblk m c 2 t)) := by
    unfold_out out0_7
    frame_out
  rw [e, pay18_apply, prod_at]
  rfl

theorem outG_at (c : Dev nD) (t : Fin cfg0.N) (r : Fin 512) (l : Fin 1024) :
    out0_8 (iblk m c 0 t) (iblk m c 1 t) (iblk m c 2 t) (iblk m c 3 t) (iblk m c 4 t) (ix2 r l)
      = projG (X m c) (N m c) (W m c) (Inproj.row t.val r) l := by
  have e : out0_8 (F := Ideal) (iblk m c 0 t) (iblk m c 1 t) (iblk m c 2 t) (iblk m c 3 t) (iblk m c 4 t)
      = k0_pay1 (k0_pay2 (F := Ideal) (iblk m c 0 t) (iblk m c 1 t) (iblk m c 2 t)) := by
    unfold_out out0_8
    frame_out
  rw [e, pay1_apply, prod_at]
  rfl

theorem final5 (c : Dev nD) : (dats m 0 c).arrAt 5 cfg0.N
    = fun j : S8192x1024.Idx => projQ (X m c) (N m c) (W m c) (j 0) (j 1) := by
  refine (dats m 0 c).arrAt_eq_of_covers 5 _ (by decide +kernel) fun t hf y => ?_
  blk_simp
  rw [after0_5]
  obtain ⟨r, l, rfl⟩ : ∃ r l, y = ix2 r l := ⟨_, _, eq_ix2 y⟩
  rw [outQ_at]
  congr 1
  · refine Fin.ext ?_
    rw [rv]
    blk_simp [(idx5 t).1]
  · refine Fin.ext ?_
    blk_simp [(idx5 t).2]

theorem final6 (c : Dev nD) : (dats m 0 c).arrAt 6 cfg0.N
    = fun j : S8192x128.Idx => projK (X m c) (N m c) (W m c) (j 0) (j 1) := by
  refine (dats m 0 c).arrAt_eq_of_covers 6 _ (by decide +kernel) fun t hf y => ?_
  blk_simp
  rw [after0_6]
  obtain ⟨r, l, rfl⟩ : ∃ r l, y = ix2 r l := ⟨_, _, eq_ix2 y⟩
  rw [outK_at]
  congr 1
  · refine Fin.ext ?_
    rw [rv]
    blk_simp [(idx6 t).1]
  · refine Fin.ext ?_
    blk_simp [(idx6 t).2]

theorem final7 (c : Dev nD) : (dats m 0 c).arrAt 7 cfg0.N
    = fun j : S8192x128.Idx => projV (X m c) (N m c) (W m c) (j 0) (j 1) := by
  refine (dats m 0 c).arrAt_eq_of_covers 7 _ (by decide +kernel) fun t hf y => ?_
  blk_simp
  rw [after0_7]
  obtain ⟨r, l, rfl⟩ : ∃ r l, y = ix2 r l := ⟨_, _, eq_ix2 y⟩
  rw [outV_at]
  congr 1
  · refine Fin.ext ?_
    rw [rv]
    blk_simp [(idx7 t).1]
  · refine Fin.ext ?_
    blk_simp [(idx7 t).2]

theorem final8 (c : Dev nD) : (dats m 0 c).arrAt 8 cfg0.N
    = fun j : S8192x1024.Idx => projG (X m c) (N m c) (W m c) (j 0) (j 1) := by
  refine (dats m 0 c).arrAt_eq_of_covers 8 _ (by decide +kernel) fun t hf y => ?_
  blk_simp
  rw [after0_8]
  obtain ⟨r, l, rfl⟩ : ∃ r l, y = ix2 r l := ⟨_, _, eq_ix2 y⟩
  rw [outG_at]
  congr 1
  · refine Fin.ext ?_
    rw [rv]
    blk_simp [(idx8 t).1]
  · refine Fin.ext ?_
    blk_simp [(idx8 t).2]

end Cert.Kernel8Ideal.InprojAttnFwdValue

end
-- ==== Proof.InprojAttnFwdReference.lean ====
/-
  The values of the reference for an attention layer's norm, input projection and rotation by position.
-/
module

public import proofs.«01_k».proof.Proof.Gen.Reference8Ideal.Read
public import proofs.«01_k».proof.Proof.RopeMath
public import Idealize.ShloMosaic.Lib.Pointwise

@[expose] public section

set_option maxRecDepth 16384

noncomputable section

namespace Cert.Reference8Ideal.InprojAttnFwdValue

open Cert.Reference8Ideal Cert.Reference8Ideal.Gen Idealize.ShloMosaic Idealize.ShloMosaic.TcCoe Idealize.SL.Sem Cert.Proof
open Cert.Reference8Ideal.Read

abbrev Mat (a b : ℕ) := (⟨⟨2, ![a, b]⟩, .f32⟩ : BufTy).Contents (Elt Ideal)
abbrev Col (a : ℕ) := (⟨⟨1, ![a]⟩, .f32⟩ : BufTy).Contents (Elt Ideal)

theorem angle_apply (r : Fin 8192) (i : Fin 32) : val_main_v35 (F := Ideal) (ix2 r i) = Rope.angle r i := by
  pointwise [val_main_v35, val_main_v34, val_main_v33, val_main_v32, val_main_v31, val_main_v30, val_main_v29, val_main_v28, val_main_v27,
    val_main_v26, val_main_v25, val_main_v24, val_main_v23, val_main_v22, val_main_v21, val_main_v20, val_main_cst_5, val_main_cst_4,
    val_main_cst_3, val_main_cst_2]
  rfl

theorem cos_apply (r : Fin 8192) (i : Fin 32) : val_main_v37 (F := Ideal) (ix3 r 0 i) = Ideal.cos (Rope.angle r i) := by
  pointwise [val_main_v37, val_main_v36]
  rw [angle_apply]

theorem sin_apply (r : Fin 8192) (i : Fin 32) : val_main_v39 (F := Ideal) (ix3 r 0 i) = Ideal.sin (Rope.angle r i) := by
  pointwise [val_main_v39, val_main_v38]
  rw [angle_apply]

variable (x : Mat 8192 1024) (n : Col 1024) (w : Mat 1024 2304)

theorem rstd_apply (r : Fin 8192) : val_main_v7 (F := Ideal) x (ix2 r 0) = Inproj.rstd fun k => x (ix2 r k) := by
  pointwise [val_main_v7, val_main_v6, val_main_v5, val_main_v4, val_main_v3, val_main_v2, val_main_v1, val_main_v0, val_main_cst,
    val_main_cst_0, val_main_cst_1]
  rfl

theorem normed_apply (r : Fin 8192) (l : Fin 1024) :
    val_main_v12 (F := Ideal) x n (ix2 r l) = Inproj.xhat (fun k => x (ix2 r k)) l * n (ix1 l) := by
  pointwise [val_main_v12, val_main_v11, val_main_v10, val_main_v9, val_main_v8]
  rw [rstd_apply]
  rfl

/-- One entry of the product. -/
def entry (r : Fin 8192) (q : Fin 2304) : EReal := ∑ k, Inproj.xhat (fun k => x (ix2 r k)) k * n (ix1 k) * w (ix2 k q)

theorem prod_apply (r : Fin 8192) (q : Fin 2304) : val_main_v13 (F := Ideal) x n w (ix2 r q) = entry x n w r q := by
  pointwise [val_main_v13]
  simp only [normed_apply]
  rfl

theorem heads_apply (r : Fin 8192) (h : Fin 16) (d : Fin 64) :
    val_main_v18 (F := Ideal) x n w (ix3 r h d) = entry x n w r ⟨64 * h.val + d.val, by omega⟩ := by
  pointwise [val_main_v18, val_main_v14]
  rw [prod_apply]
  congr 1
  exact Fin.ext (by show h.val * 64 + d.val = 64 * h.val + d.val; omega)

theorem keys_apply (r : Fin 8192) (h : Fin 2) (d : Fin 64) :
    val_main_v19 (F := Ideal) x n w (ix3 r h d) = entry x n w r ⟨1024 + (64 * h.val + d.val), by omega⟩ := by
  pointwise [val_main_v19, val_main_v15]
  rw [prod_apply]
  congr 1
  exact Fin.ext (by show 1024 + (h.val * 64 + d.val) = 1024 + (64 * h.val + d.val); omega)

theorem q_low (r : Fin 8192) (h : Fin 16) (d : Fin 32) :
    val_main_v46 (F := Ideal) x n w (ix3 r h d)
      = entry x n w r ⟨64 * h.val + d.val, by omega⟩ * Ideal.cos (Rope.angle r d)
        - entry x n w r ⟨64 * h.val + (32 + d.val), by omega⟩ * Ideal.sin (Rope.angle r d) := by
  pointwise [val_main_v46, val_main_v43, val_main_v45, val_main_v40, val_main_v41, val_main_v42, val_main_v44]
  rw [heads_apply, heads_apply, cos_apply, sin_apply]

theorem q_high (r : Fin 8192) (h : Fin 16) (d : Fin 32) :
    val_main_v51 (F := Ideal) x n w (ix3 r h d)
      = entry x n w r ⟨64 * h.val + (32 + d.val), by omega⟩ * Ideal.cos (Rope.angle r d)
        + entry x n w r ⟨64 * h.val + d.val, by omega⟩ * Ideal.sin (Rope.angle r d) := by
  pointwise [val_main_v51, val_main_v48, val_main_v50, val_main_v40, val_main_v41, val_main_v47, val_main_v49]
  rw [heads_apply, heads_apply, cos_apply, sin_apply]

theorem k_low (r : Fin 8192) (h : Fin 2) (d : Fin 32) :
    val_main_v60 (F := Ideal) x n w (ix3 r h d)
      = entry x n w r ⟨1024 + (64 * h.val + d.val), by omega⟩ * Ideal.cos (Rope.angle r d)
        - entry x n w r ⟨1024 + (64 * h.val + (32 + d.val)), by omega⟩ * Ideal.sin (Rope.angle r d) := by
  pointwise [val_main_v60, val_main_v57, val_main_v59, val_main_v54, val_main_v55, val_main_v56, val_main_v58]
  rw [keys_apply, keys_apply, cos_apply, sin_apply]

theorem k_high (r : Fin 8192) (h : Fin 2) (d : Fin 32) :
    val_main_v65 (F := Ideal) x n w (ix3 r h d)
      = entry x n w r ⟨1024 + (64 * h.val + (32 + d.val)), by omega⟩ * Ideal.cos (Rope.angle r d)
        + entry x n w r ⟨1024 + (64 * h.val + d.val), by omega⟩ * Ideal.sin (Rope.angle r d) := by
  pointwise [val_main_v65, val_main_v62, val_main_v64, val_main_v54, val_main_v55, val_main_v61, val_main_v63]
  rw [keys_apply, keys_apply, cos_apply, sin_apply]

theorem outQ_apply (r : Fin 8192) (l : Fin 1024) :
    val_main_v68 (F := Ideal) x n w (ix2 r l)
      = Rope.mix (entry x n w r ⟨l.val, by omega⟩) (entry x n w r ⟨(Rope.partner 1024 (by decide) l).val, by omega⟩)
        (Rope.cosTab r l.val) (Rope.sinTab r l.val) := by
  pointwise [val_main_v68, val_main_v53, val_main_v52]
  by_cases h : l.val % 64 < 32
  · refine (dif_pos h).trans ?_
    have e1 : (⟨64 * (l.val / 64) + l.val % 64, by omega⟩ : Fin 2304) = ⟨l.val, by omega⟩ :=
      Fin.ext (by show 64 * (l.val / 64) + l.val % 64 = l.val; omega)
    have e2 : (⟨64 * (l.val / 64) + (32 + l.val % 64), by omega⟩ : Fin 2304) = ⟨(Rope.partner 1024 (by decide) l).val, by omega⟩ :=
      Fin.ext (by
        show 64 * (l.val / 64) + (32 + l.val % 64) = (if l.val % 64 < 32 then l.val + 32 else l.val - 32)
        rw [if_pos h]
        omega)
    have e3 : (⟨l.val % 64, by omega⟩ : Fin 32) = Rope.half l.val := Fin.ext (by show l.val % 64 = l.val % 32; omega)
    rw [q_low, Rope.mix_low _ _ _ _ h]
    dsimp only
    rw [e1, e2, e3]
  · refine (dif_neg h).trans ?_
    have e1 : (⟨64 * (l.val / 64) + (32 + (l.val % 64 - 32)), by omega⟩ : Fin 2304) = ⟨l.val, by omega⟩ :=
      Fin.ext (by show 64 * (l.val / 64) + (32 + (l.val % 64 - 32)) = l.val; omega)
    have e2 : (⟨64 * (l.val / 64) + (l.val % 64 - 32), by omega⟩ : Fin 2304) = ⟨(Rope.partner 1024 (by decide) l).val, by omega⟩ :=
      Fin.ext (by
        show 64 * (l.val / 64) + (l.val % 64 - 32) = (if l.val % 64 < 32 then l.val + 32 else l.val - 32)
        rw [if_neg h]
        omega)
    have e3 : (⟨l.val % 64 - 32, by omega⟩ : Fin 32) = Rope.half l.val := Fin.ext (by show l.val % 64 - 32 = l.val % 32; omega)
    rw [q_high, Rope.mix_high _ _ _ _ h]
    dsimp only
    rw [e1, e2, e3]

theorem outK_apply (r : Fin 8192) (l : Fin 128) :
    val_main_v69 (F := Ideal) x n w (ix2 r l)
      = Rope.mix (entry x n w r ⟨1024 + l.val, by omega⟩) (entry x n w r ⟨1024 + (Rope.partner 128 (by decide) l).val, by omega⟩)
        (Rope.cosTab r l.val) (Rope.sinTab r l.val) := by
  pointwise [val_main_v69, val_main_v67, val_main_v66]
  by_cases h : l.val % 64 < 32
  · refine (dif_pos h).trans ?_
    have e1 : (⟨1024 + (64 * (l.val / 64) + l.val % 64), by omega⟩ : Fin 2304) = ⟨1024 + l.val, by omega⟩ :=
      Fin.ext (by show 1024 + (64 * (l.val / 64) + l.val % 64) = 1024 + l.val; omega)
    have e2 : (⟨1024 + (64 * (l.val / 64) + (32 + l.val % 64)), by omega⟩ : Fin 2304) = ⟨1024 + (Rope.partner 128 (by decide) l).val, by omega⟩ :=
      Fin.ext (by
        show 1024 + (64 * (l.val / 64) + (32 + l.val % 64)) = 1024 + (if l.val % 64 < 32 then l.val + 32 else l.val - 32)
        rw [if_pos h]
        omega)
    have e3 : (⟨l.val % 64, by omega⟩ : Fin 32) = Rope.half l.val := Fin.ext (by show l.val % 64 = l.val % 32; omega)
    rw [k_low, Rope.mix_low _ _ _ _ h]
    dsimp only
    rw [e1, e2, e3]
  · refine (dif_neg h).trans ?_
    have e1 : (⟨1024 + (64 * (l.val / 64) + (32 + (l.val % 64 - 32))), by omega⟩ : Fin 2304) = ⟨1024 + l.val, by omega⟩ :=
      Fin.ext (by show 1024 + (64 * (l.val / 64) + (32 + (l.val % 64 - 32))) = 1024 + l.val; omega)
    have e2 : (⟨1024 + (64 * (l.val / 64) + (l.val % 64 - 32)), by omega⟩ : Fin 2304) = ⟨1024 + (Rope.partner 128 (by decide) l).val, by omega⟩ :=
      Fin.ext (by
        show 1024 + (64 * (l.val / 64) + (l.val % 64 - 32)) = 1024 + (if l.val % 64 < 32 then l.val + 32 else l.val - 32)
        rw [if_neg h]
        omega)
    have e3 : (⟨l.val % 64 - 32, by omega⟩ : Fin 32) = Rope.half l.val := Fin.ext (by show l.val % 64 - 32 = l.val % 32; omega)
    rw [k_high, Rope.mix_high _ _ _ _ h]
    dsimp only
    rw [e1, e2, e3]

theorem outV_apply (r : Fin 8192) (l : Fin 128) :
    val_main_v70 (F := Ideal) x n w (ix2 r l) = entry x n w r ⟨1152 + l.val, by omega⟩ := by
  pointwise [val_main_v70, val_main_v16]
  rw [prod_apply]

theorem outG_apply (r : Fin 8192) (l : Fin 1024) :
    val_main_v71 (F := Ideal) x n w (ix2 r l) = entry x n w r ⟨1280 + l.val, by omega⟩ := by
  pointwise [val_main_v71, val_main_v17]
  rw [prod_apply]

end Cert.Reference8Ideal.InprojAttnFwdValue

end
-- ==== Proof.InprojAttnFwd.lean ====
/-
  The two claims about the values of an attention layer's norm, input projection and rotation by position.
-/
module

public import proofs.«01_k».proof.Proof.InprojAttnFwdKernel
public import proofs.«01_k».proof.Proof.InprojAttnFwdReference
public import proofs.«01_k».proof.Defs

@[expose] public section

noncomputable section

namespace Cert.Proof.InprojAttnFwd

open Idealize.ShloMosaic Idealize.SL.Sem

/-- The reference runs to its end, keeps its arguments and leaves the counters at zero. -/
theorem frame_reference : Cert.quiescent_Reference8Ideal := fun m ρ _ =>
  (θ_run _ _ _).mono (fun r h => ⟨fun c => (h c).2.2.2.2, Idealize.ShloMosaic.sem_eq_zero_of_no_sems (by decide) r.2⟩)
    (Cert.Reference8Ideal.Value.run (F := Ideal) m ρ)

/-- The kernel's results are the reference's. -/
theorem algebraic : Cert.algebraic_Kernel8Ideal_Reference8Ideal := fun m g m' g' _ hm => by
  refine ⟨fun c => (Cert.Kernel8Ideal.Gen.dats m 0 c).arrAt 5 Cert.Kernel8Ideal.cfg0.N,
    fun c => (Cert.Kernel8Ideal.Gen.dats m 0 c).arrAt 6 Cert.Kernel8Ideal.cfg0.N,
    fun c => (Cert.Kernel8Ideal.Gen.dats m 0 c).arrAt 7 Cert.Kernel8Ideal.cfg0.N,
    fun c => (Cert.Kernel8Ideal.Gen.dats m 0 c).arrAt 8 Cert.Kernel8Ideal.cfg0.N,
    Cert.Kernel8Ideal.Value.run_blocks (F := Ideal) m g, ?_⟩
  refine (θ_run _ _ _).mono (fun r h c => ⟨(h c).1.trans ?_, (h c).2.1.trans ?_, (h c).2.2.1.trans ?_, (h c).2.2.2.1.trans ?_,
    (h c).2.2.2.2⟩)
    (Cert.Reference8Ideal.Value.run (F := Ideal) m' g')
  · obtain ⟨h0, h1, h2⟩ := hm c
    rw [Cert.Reference8Ideal.Read.val_main_v68_eq, h0, h1, h2]
    refine Eq.trans (funext fun j => ?_) (Cert.Kernel8Ideal.InprojAttnFwdValue.final5 m c).symm
    obtain ⟨a, b, rfl⟩ : ∃ a b, j = ix2 a b := ⟨_, _, eq_ix2 j⟩
    rw [Cert.Reference8Ideal.InprojAttnFwdValue.outQ_apply]
    rfl
  · obtain ⟨h0, h1, h2⟩ := hm c
    rw [Cert.Reference8Ideal.Read.val_main_v69_eq, h0, h1, h2]
    refine Eq.trans (funext fun j => ?_) (Cert.Kernel8Ideal.InprojAttnFwdValue.final6 m c).symm
    obtain ⟨a, b, rfl⟩ : ∃ a b, j = ix2 a b := ⟨_, _, eq_ix2 j⟩
    rw [Cert.Reference8Ideal.InprojAttnFwdValue.outK_apply]
    rfl
  · obtain ⟨h0, h1, h2⟩ := hm c
    rw [Cert.Reference8Ideal.Read.val_main_v70_eq, h0, h1, h2]
    refine Eq.trans (funext fun j => ?_) (Cert.Kernel8Ideal.InprojAttnFwdValue.final7 m c).symm
    obtain ⟨a, b, rfl⟩ : ∃ a b, j = ix2 a b := ⟨_, _, eq_ix2 j⟩
    rw [Cert.Reference8Ideal.InprojAttnFwdValue.outV_apply]
    rfl
  · obtain ⟨h0, h1, h2⟩ := hm c
    rw [Cert.Reference8Ideal.Read.val_main_v71_eq, h0, h1, h2]
    refine Eq.trans (funext fun j => ?_) (Cert.Kernel8Ideal.InprojAttnFwdValue.final8 m c).symm
    obtain ⟨a, b, rfl⟩ : ∃ a b, j = ix2 a b := ⟨_, _, eq_ix2 j⟩
    rw [Cert.Reference8Ideal.InprojAttnFwdValue.outG_apply]
    rfl

end Cert.Proof.InprojAttnFwd

end
-- ==== Proof.AttnMath.lean ====
/-
  Attention over 256 keys with a sink, for one query: the scores, the weights in the two spellings (the product with the
  reciprocal of the total, the quotient by the total) and which keys a query of a block sees.
-/
module

public import proofs.«01_k».proof.Proof.GateMath

@[expose] public section

noncomputable section

namespace Cert.Proof.Attn

open Idealize.ShloMosaic

/-- Whether query `q` of block `n` sees key `k` of the two blocks: not after it, less than 128 back, and a key there is. -/
def sees (n q k : ℕ) : BitVec 1 :=
  IntOp.andi
    (IntOp.andi (IntOp.cmpi .sge (IntOp.subi (IntOp.addi (BitVec.ofNat 32 q) 128#32) (BitVec.ofNat 32 k)) 0#32)
      (IntOp.cmpi .slt (IntOp.subi (IntOp.addi (BitVec.ofNat 32 q) 128#32) (BitVec.ofNat 32 k)) 128#32))
    (IntOp.ori (Scalar.xori (Scalar.cmpi .eq (BitVec.ofNat 32 n) 0#32) 1#1) (IntOp.cmpi .sge (BitVec.ofNat 32 k) 128#32))

theorem before_first : ∀ k : Fin 128, IntOp.cmpi .sge (BitVec.ofNat 32 k.val) 128#32 = 0#1 := by decide +kernel

/-- The first block's queries see no key of a block before it. -/
theorem sees_first (q k : ℕ) (hk : k < 128) : sees 0 q k = 0#1 := by
  unfold sees
  rw [before_first ⟨k, hk⟩]
  have h : ∀ b : BitVec 1, IntOp.andi b (IntOp.ori (Scalar.xori (Scalar.cmpi .eq (BitVec.ofNat 32 0) 0#32) 1#1) 0#1) = 0#1 := by decide
  exact h _

/-- The bit that a block is not the first, in the two spellings. -/
theorem not_first : ∀ n : Fin 64, IntOp.cmpi .sgt (BitVec.ofNat 32 n.val) 0#32 = Scalar.xori (Scalar.cmpi .eq (BitVec.ofNat 32 n.val) 0#32) 1#1 := by
  decide +kernel

/-- The scale of the scores, 1/8. -/
def scale : EReal := Ideal.ofBits .f32 1040187392#32

theorem scale_real : Gate.IsReal scale := ⟨_, by simp [scale, Ideal.ofBits, Ideal.ieee]; rfl⟩

/-- The value from which a maximum starts. -/
def low : EReal := Ideal.ofBits .f32 4286578688#32

theorem low_eq : low = ⊥ := by
  simp [low, Ideal.ofBits, Ideal.ieee]

/-- The score of one key, masked by adding minus infinity. -/
def scoreAdd (b : BitVec 1) (q k : Fin 64 → EReal) : EReal := (∑ x, k x * q x) * scale + Scalar.select b 0 ⊥

/-- The score of one key, masked by choice. -/
def score (b : BitVec 1) (q k : Fin 64 → EReal) : EReal := Scalar.select b ((∑ x, k x * q x) * scale) ⊥

theorem scoreAdd_eq (b : BitVec 1) (q k : Fin 64 → EReal) : scoreAdd b q k = score b q k := by
  unfold scoreAdd score Scalar.select
  split <;> simp

theorem score_masked (q k : Fin 64 → EReal) : score 0#1 q k = ⊥ := rfl

theorem score_ne_top (b : BitVec 1) (q k : Fin 64 → EReal) (hq : ∀ x, Gate.IsReal (q x)) (hk : b = 1#1 → ∀ x, Gate.IsReal (k x)) : score b q k ≠ ⊤ := by
  unfold score Scalar.select
  split
  · rename_i h
    obtain ⟨r, hr⟩ := (Gate.IsReal.sum fun x => (hk h x).mul (hq x)).mul scale_real
    rw [hr]
    exact EReal.coe_ne_top r
  · exact bot_ne_top

/-- The greatest of the scores and the sink. -/
def peak (s : Fin 256 → EReal) (z : EReal) : EReal := max (Finset.fold max low s Finset.univ) z

/-- The total of the exponentials, the sink's among them. -/
def total (s : Fin 256 → EReal) (z : EReal) : EReal := ∑ x, Ideal.exp (s x - peak s z) + Ideal.exp (z - peak s z)

/-- A key's weight, as a product with the reciprocal of the total. -/
def weightMul (s : Fin 256 → EReal) (z : EReal) (k : Fin 256) : EReal := Ideal.exp (s k - peak s z) * Ideal.div 1 (total s z)

/-- A key's weight, as a quotient. -/
def weight (s : Fin 256 → EReal) (z : EReal) (k : Fin 256) : EReal := Ideal.div (Ideal.exp (s k - peak s z)) (total s z)

theorem exp_nonneg (x : EReal) : 0 ≤ Ideal.exp x := by
  induction x with
  | bot => exact le_refl _
  | top => exact le_top
  | coe r => exact EReal.coe_nonneg.2 (Real.exp_pos r).le

theorem peak_ne_top (s : Fin 256 → EReal) (z : EReal) (hs : ∀ k, s k ≠ ⊤) (hz : Gate.IsReal z) : peak s z ≠ ⊤ := by
  obtain ⟨r, rfl⟩ := hz
  refine ne_of_lt (max_lt ?_ (EReal.coe_lt_top r))
  refine Finset.fold_max_lt _ |>.2 ⟨?_, fun k _ => lt_top_iff_ne_top.2 (hs k)⟩
  rw [low_eq]
  exact bot_lt_top

theorem total_ne_zero (s : Fin 256 → EReal) (z : EReal) (hs : ∀ k, s k ≠ ⊤) (hz : Gate.IsReal z) : total s z ≠ 0 := by
  have ht := peak_ne_top s z hs hz
  obtain ⟨r, rfl⟩ := hz
  have hb : peak s r ≠ ⊥ := ne_of_gt (lt_of_lt_of_le (EReal.bot_lt_coe r) (le_max_right _ _))
  unfold total
  generalize peak s r = p at ht hb ⊢
  lift p to ℝ using ⟨ht, hb⟩
  have hp : (0 : EReal) < Ideal.exp ((r : EReal) - (p : EReal)) := by
    rw [← EReal.coe_sub, Ideal.exp_coe]
    exact EReal.coe_pos.2 (Real.exp_pos _)
  exact ne_of_gt (lt_of_lt_of_le hp (le_add_of_nonneg_left (Finset.sum_nonneg fun x _ => exp_nonneg _)))

theorem weightMul_eq (s : Fin 256 → EReal) (z : EReal) (hs : ∀ k, s k ≠ ⊤) (hz : Gate.IsReal z) (k : Fin 256) : weightMul s z k = weight s z k := by
  unfold weightMul weight Ideal.div
  rw [if_neg (total_ne_zero s z hs hz), if_neg (total_ne_zero s z hs hz), one_mul]

theorem weightMul_masked (s : Fin 256 → EReal) (z : EReal) (k : Fin 256) (hk : s k = ⊥) : weightMul s z k = 0 := by
  unfold weightMul
  rw [hk, EReal.bot_sub, show Ideal.exp ⊥ = 0 from rfl, zero_mul]

/-- One entry of the output: the values under the weights. -/
def outMul (s : Fin 256 → EReal) (z : EReal) (v : Fin 256 → EReal) : EReal := ∑ k, v k * weightMul s z k

/-- The same with the quotients. -/
def out (s : Fin 256 → EReal) (z : EReal) (v : Fin 256 → EReal) : EReal := ∑ k, weight s z k * v k

/-- The two agree where no score is `⊤`, the sink is real, and the values agree on the keys that are seen. -/
theorem outMul_eq (s : Fin 256 → EReal) (z : EReal) (v v' : Fin 256 → EReal) (hs : ∀ k, s k ≠ ⊤) (hz : Gate.IsReal z)
    (hv : ∀ k, s k = ⊥ ∨ v k = v' k) : outMul s z v = out s z v' := by
  refine Finset.sum_congr rfl fun k _ => ?_
  rw [← weightMul_eq s z hs hz]
  rcases hv k with h | h
  · rw [weightMul_masked s z k h, mul_zero, zero_mul]
  · rw [h, mul_comm]

/-! ## The rows of a block and of the one before it -/

/-- The row of key `k` among the two blocks that the queries of block `n` look at, the first block standing for the one before it. -/
def keyRow (n : ℕ) (k : Fin 256) : Fin 8192 :=
  ⟨(if k.val < 128 then (n - 1) * 128 + k.val else n * 128 + (k.val - 128)) % 8192, Nat.mod_lt _ (by decide)⟩

/-- The row of query `q` of block `n`. -/
def queryRow (n : ℕ) (q : Fin 128) : Fin 8192 := ⟨(n * 128 + q.val) % 8192, Nat.mod_lt _ (by decide)⟩

/-- Coordinate `d` of query head `8 h + g`. -/
def queryCol (h : Fin 2) (g : Fin 8) (d : Fin 64) : Fin 1024 := ⟨512 * h.val + 64 * g.val + d.val, by omega⟩

/-- Coordinate `d` of key head `h`. -/
def keyCol (h : Fin 2) (d : Fin 64) : Fin 128 := ⟨64 * h.val + d.val, by omega⟩

/-- The query head's number. -/
def head (h : Fin 2) (g : Fin 8) : Fin 16 := ⟨8 * h.val + g.val, by omega⟩

end Cert.Proof.Attn

end
-- ==== Proof.AttnFwdKernel.lean ====
/-
  The values of the attention kernel: its result is the attention of the two arguments blocks, head by head.
-/
module

public import proofs.«01_k».proof.Proof.Gen.Kernel11Ideal.Value
public import proofs.«01_k».proof.Proof.AttnMath
public import Idealize.ShloMosaic.Lib.Pipeline.ValueKit
public import Idealize.ShloMosaic.Lib.Pointwise

@[expose] public section

set_option maxRecDepth 16384

noncomputable section

namespace Cert.Kernel11Ideal.AttnValue

open Cert.Kernel11Ideal Cert.Kernel11Ideal.Gen Idealize.ShloMosaic Idealize.ShloMosaic.TcCoe Idealize.SL.Sem Cert.Proof

variable (m : (ℓ : Loc nD τ sig) → Buf (Elt Ideal) ℓ)

/-! ## The pieces of the kernel body -/

/-- The weights of one key head's 256 keys for its 8 × 128 queries. -/
def probs (b : FVec Ideal S256x1024 .f32) (kk : FVec Ideal S256x64 .bf16) (qc : FVec Ideal S64x1024 .bf16) (sk : FVec Ideal S1x1024 .f32) : FVec Ideal S256x1024 .f32 :=
  have s : FVec Ideal S256x1024 .f32 := addf (mulf (matmul dot_S256x64_S64x1024_S256x1024_1_0_0_1_n_n none kk qc (constant S256x1024 .f32 0x00000000#32)) (broadcast S256x1024 (Scalar.ofBits .f32 0x3E000000#32))) b
  have m : FVec Ideal S1x1024 .f32 := maximumf (shapeCast S1x1024 (multiReduction .maximumf [0] S1024 s 0xFF800000#32 reduces_S256x1024_S1024 (.inl rfl) rfl) shapeCasts_S1024_S1x1024) sk
  have p : FVec Ideal S256x1024 .f32 := exp (subf s (broadcastTo S256x1024 m broadcasts_S1x1024_S256x1024))
  have d : FVec Ideal S1x1024 .f32 := addf (shapeCast S1x1024 (multiReduction .add [0] S1024 p 0x00000000#32 reduces_S256x1024_S1024 (.inl rfl) rfl) shapeCasts_S1024_S1x1024) (exp (subf sk m))
  mulf p (broadcastTo S256x1024 (divf (broadcast S1x1024 (Scalar.ofBits .f32 0x3F800000#32)) d) broadcasts_S1x1024_S256x1024)

theorem probs_apply (b : FVec Ideal S256x1024 .f32) (kk : FVec Ideal S256x64 .bf16) (qc : FVec Ideal S64x1024 .bf16) (sk : FVec Ideal S1x1024 .f32) (k : Fin 256) (j : Fin 1024) :
    probs b kk qc sk (ix2 k j) = Attn.weightMul (fun k => (∑ x : Fin 64, kk (ix2 k x) * qc (ix2 x j)) * Attn.scale + b (ix2 k j)) (sk (ix2 0 j)) k := by
  pointwise [probs]
  rfl

/-- Eight heads' queries side by side. -/
def cols (f : Fin 8 → FVec Ideal S64x128 .f32) : FVec Ideal S64x1024 .f32 :=
  concatenate S64x1024 1 [⟨S64x128, f 0⟩, ⟨S64x128, f 1⟩, ⟨S64x128, f 2⟩, ⟨S64x128, f 3⟩, ⟨S64x128, f 4⟩, ⟨S64x128, f 5⟩, ⟨S64x128, f 6⟩, ⟨S64x128, f 7⟩]
    concatenates_S64x128_S64x128_S64x128_S64x128_S64x128_S64x128_S64x128_S64x128_S64x1024_d1

/-- The place of query `q` of head `g` among the eight heads' queries. -/
def place (g : Fin 8) (q : Fin 128) : Fin 1024 := ⟨128 * g.val + q.val, by omega⟩

theorem cols_apply (f : Fin 8 → FVec Ideal S64x128 .f32) (d : Fin 64) (g : Fin 8) (q : Fin 128) : cols f (ix2 d (place g q)) = f g (ix2 d q) := by
  unfold cols
  refine concatenate_ofFn_apply (t := S64x1024) (s₁ := S64x128) 1 f _ rfl 128 rfl (ix2 d (place g q)) g ?_ (ix2 d q) ?_ ?_
  · show (128 * g.val + q.val) / 128 = g.val
    omega
  · show q.val = (128 * g.val + q.val) % 128
    omega
  · intro b hb
    fin_cases b
    · rfl
    · exact absurd rfl hb

/-- Eight heads' outputs one under the other, turned over. -/
def rows (f : Fin 8 → FVec Ideal S64x128 .f32) : FVec Ideal S128x512 .f32 :=
  transpose S128x512 [1, 0] (concatenate S512x128 0 [⟨S64x128, f 0⟩, ⟨S64x128, f 1⟩, ⟨S64x128, f 2⟩, ⟨S64x128, f 3⟩, ⟨S64x128, f 4⟩, ⟨S64x128, f 5⟩, ⟨S64x128, f 6⟩, ⟨S64x128, f 7⟩]
    concatenates_S64x128_S64x128_S64x128_S64x128_S64x128_S64x128_S64x128_S64x128_S512x128_d0) transposes_S512x128_p1_0_S128x512

theorem rows_apply (f : Fin 8 → FVec Ideal S64x128 .f32) (d : Fin 64) (g : Fin 8) (q : Fin 128) (j : Fin 512) (hj : j.val = 64 * g.val + d.val) :
    rows f (ix2 q j) = f g (ix2 d q) := by
  have e : rows f (ix2 q j) = concatenate S512x128 0 [⟨S64x128, f 0⟩, ⟨S64x128, f 1⟩, ⟨S64x128, f 2⟩, ⟨S64x128, f 3⟩, ⟨S64x128, f 4⟩, ⟨S64x128, f 5⟩, ⟨S64x128, f 6⟩, ⟨S64x128, f 7⟩]
      concatenates_S64x128_S64x128_S64x128_S64x128_S64x128_S64x128_S64x128_S64x128_S512x128_d0 (ix2 j q) := by
    unfold rows
    generalize concatenate S512x128 0 _ _ = w
    pointwise
  rw [e]
  refine concatenate_ofFn_apply (t := S512x128) (s₁ := S64x128) 0 f _ rfl 64 rfl (ix2 j q) g ?_ (ix2 d q) ?_ ?_
  · show j.val / 64 = g.val
    omega
  · show d.val = j.val % 64
    omega
  · intro b hb
    fin_cases b
    · exact absurd rfl hb
    · rfl

/-- The product of the values with the weights. -/
def outs (vp vc : FVec Ideal S64x128 .f32) (p : FVec Ideal S256x1024 .f32) : FVec Ideal S64x1024 .f32 :=
  matmul dot_S64x256_S256x1024_S64x1024_1_0_0_1_n_n none
    (truncf .bf16 (concatenate S64x256 1 [⟨S64x128, vp⟩, ⟨S64x128, vc⟩] concatenates_S64x128_S64x128_S64x256_d1) bitsLt_bf16_f32)
    (truncf .bf16 p bitsLt_bf16_f32) (constant S64x1024 .f32 0x00000000#32)

theorem outs_apply (vp vc : FVec Ideal S64x128 .f32) (p : FVec Ideal S256x1024 .f32) (d : Fin 64) (j : Fin 1024) :
    outs vp vc p (ix2 d j) = ∑ k : Fin 256, (if h : k.val < 128 then vp (ix2 d ⟨k.val, h⟩) else vc (ix2 d ⟨k.val - 128, by omega⟩)) * p (ix2 k j) := by
  pointwise [outs]

/-- The mask of one head. -/
def tile (i : grid0.Coords) : FVec Ideal S256x128 .f32 :=
  have v1 : IVec S256x128 32 := iota .tc S256x128 32 [0] iota_S256x128_d0_w32
  have v5 : IVec S256x128 32 := subi (addi (iota .tc S256x128 32 [1] iota_S256x128_d1_w32) (broadcast S256x128 128#32)) v1
  select (andi (andi (cmpi .sge v5 (broadcast S256x128 0#32)) (cmpi .slt v5 (broadcast S256x128 128#32)))
      (ori (broadcast S256x128 (Scalar.xori (Scalar.cmpi .eq (BitVec.ofNat 32 (i 0).val) 0#32) 1#1)) (cmpi .sge v1 (broadcast S256x128 128#32))))
    (broadcast S256x128 (Scalar.ofBits .f32 0x00000000#32 : Ideal .f32)) (broadcast S256x128 (Named.named κ "mask" 0xF149F2CA#32 : Ideal .f32))

theorem tile_apply (i : grid0.Coords) (k : Fin 256) (q : Fin 128) : tile i (ix2 k q) = Scalar.select (Attn.sees (i 0).val q.val k.val) 0 ⊥ := by
  pointwise [tile]
  rfl

theorem pay2_apply (i : grid0.Coords) (k : Fin 256) (g : Fin 8) (q : Fin 128) :
    k0_pay2 (F := Ideal) i (ix2 k (place g q)) = Scalar.select (Attn.sees (i 0).val q.val k.val) 0 ⊥ := by
  have e : k0_pay2 (F := Ideal) i = concatenate S256x1024 1 [⟨S256x128, tile i⟩, ⟨S256x128, tile i⟩, ⟨S256x128, tile i⟩, ⟨S256x128, tile i⟩, ⟨S256x128, tile i⟩, ⟨S256x128, tile i⟩, ⟨S256x128, tile i⟩, ⟨S256x128, tile i⟩]
      concatenates_S256x128_S256x128_S256x128_S256x128_S256x128_S256x128_S256x128_S256x128_S256x1024_d1 := rfl
  rw [e, ← tile_apply]
  refine concatenate_ofFn_apply (t := S256x1024) (s₁ := S256x128) 1 (fun _ : Fin 8 => tile i) _ rfl 128 rfl (ix2 k (place g q)) g ?_ (ix2 k q) ?_ ?_
  · show (128 * g.val + q.val) / 128 = g.val
    omega
  · show q.val = (128 * g.val + q.val) % 128
    omega
  · intro b hb
    fin_cases b
    · rfl
    · exact absurd rfl hb

theorem pay3_apply (x : Vec Ideal S128x1024 .bf16) (k : Fin 1024) (j : Fin 128) : k0_pay3 (F := Ideal) x (ix2 k j) = x (ix2 j k) := by
  pointwise [k0_pay3]

theorem pay4_apply (x : Vec Ideal S128x128 .bf16) (k : Fin 128) (j : Fin 128) : k0_pay4 (F := Ideal) x (ix2 k j) = x (ix2 j k) := by
  pointwise [k0_pay4]

theorem pay5_apply (x : Vec Ideal S128x128 .bf16) (k : Fin 128) (j : Fin 128) : k0_pay5 (F := Ideal) x (ix2 k j) = x (ix2 j k) := by
  pointwise [k0_pay5]

theorem pay6_apply (x y : Vec Ideal S128x64 .bf16) (k : Fin 256) (j : Fin 64) :
    k0_pay6 (F := Ideal) x y (ix2 k j) = if h : k.val < 128 then x (ix2 ⟨k.val, h⟩ j) else y (ix2 ⟨k.val - 128, by omega⟩ j) := by
  pointwise [k0_pay6]

/-- The queries of the heads of key head 0. -/
def queries0 (v : FVec Ideal S1024x128 .f32) : FVec Ideal S64x1024 .f32 :=
  cols ![extractStridedSlice S64x128 ![0, 0] v slices_S1024x128_o0_0_S64x128, extractStridedSlice S64x128 ![64, 0] v slices_S1024x128_o64_0_S64x128, extractStridedSlice S64x128 ![128, 0] v slices_S1024x128_o128_0_S64x128, extractStridedSlice S64x128 ![192, 0] v slices_S1024x128_o192_0_S64x128, extractStridedSlice S64x128 ![256, 0] v slices_S1024x128_o256_0_S64x128, extractStridedSlice S64x128 ![320, 0] v slices_S1024x128_o320_0_S64x128, extractStridedSlice S64x128 ![384, 0] v slices_S1024x128_o384_0_S64x128, extractStridedSlice S64x128 ![448, 0] v slices_S1024x128_o448_0_S64x128]

theorem queries0_apply (v : FVec Ideal S1024x128 .f32) (d : Fin 64) (g : Fin 8) (q : Fin 128) :
    queries0 v (ix2 d (place g q)) = v (ix2 (Attn.queryCol 0 g d) q) := by
  unfold queries0
  rw [cols_apply]
  fin_cases g <;> pointwise [Attn.queryCol] <;> congr 2 <;> refine Fin.ext ?_ <;> simp

/-- The queries of the heads of key head 1. -/
def queries1 (v : FVec Ideal S1024x128 .f32) : FVec Ideal S64x1024 .f32 :=
  cols ![extractStridedSlice S64x128 ![512, 0] v slices_S1024x128_o512_0_S64x128, extractStridedSlice S64x128 ![576, 0] v slices_S1024x128_o576_0_S64x128, extractStridedSlice S64x128 ![640, 0] v slices_S1024x128_o640_0_S64x128, extractStridedSlice S64x128 ![704, 0] v slices_S1024x128_o704_0_S64x128, extractStridedSlice S64x128 ![768, 0] v slices_S1024x128_o768_0_S64x128, extractStridedSlice S64x128 ![832, 0] v slices_S1024x128_o832_0_S64x128, extractStridedSlice S64x128 ![896, 0] v slices_S1024x128_o896_0_S64x128, extractStridedSlice S64x128 ![960, 0] v slices_S1024x128_o960_0_S64x128]

theorem queries1_apply (v : FVec Ideal S1024x128 .f32) (d : Fin 64) (g : Fin 8) (q : Fin 128) :
    queries1 v (ix2 d (place g q)) = v (ix2 (Attn.queryCol 1 g d) q) := by
  unfold queries1
  rw [cols_apply]
  fin_cases g <;> pointwise [Attn.queryCol] <;> congr 2 <;> refine Fin.ext ?_ <;> simp

/-- The outputs of eight heads, a query to a row. -/
def turned (v : FVec Ideal S64x1024 .f32) : FVec Ideal S128x512 .f32 :=
  rows ![extractStridedSlice S64x128 ![0, 0] v slices_S64x1024_o0_0_S64x128, extractStridedSlice S64x128 ![0, 128] v slices_S64x1024_o0_128_S64x128, extractStridedSlice S64x128 ![0, 256] v slices_S64x1024_o0_256_S64x128, extractStridedSlice S64x128 ![0, 384] v slices_S64x1024_o0_384_S64x128, extractStridedSlice S64x128 ![0, 512] v slices_S64x1024_o0_512_S64x128, extractStridedSlice S64x128 ![0, 640] v slices_S64x1024_o0_640_S64x128, extractStridedSlice S64x128 ![0, 768] v slices_S64x1024_o0_768_S64x128, extractStridedSlice S64x128 ![0, 896] v slices_S64x1024_o0_896_S64x128]

theorem turned_apply (v : FVec Ideal S64x1024 .f32) (d : Fin 64) (g : Fin 8) (q : Fin 128) (j : Fin 512) (hj : j.val = 64 * g.val + d.val) :
    turned v (ix2 q j) = v (ix2 d (place g q)) := by
  unfold turned
  rw [rows_apply _ d g q j hj]
  fin_cases g <;> pointwise [place] <;> congr 2 <;> refine Fin.ext ?_ <;> simp

theorem pay10_eq (b : FVec Ideal S256x1024 .f32) (x : Vec Ideal S128x1024 .bf16) (p c : FVec Ideal S128x128 .f32) (kk : FVec Ideal S256x64 .bf16) (z : Vec Ideal S1x1x1024 .f32) :
    k0_pay10 b (k0_pay3 x) p c kk (k0_pay7 x) (k0_pay8 x) (k0_pay9 x) z
      = turned (outs (extractStridedSlice S64x128 ![0, 0] p slices_S128x128_o0_0_S64x128) (extractStridedSlice S64x128 ![0, 0] c slices_S128x128_o0_0_S64x128)
          (probs b kk (truncf .bf16 (queries0 (k0_pay3 x)) bitsLt_bf16_f32) (shapeCast S1x1024 z shapeCasts_S1x1x1024_S1x1024))) := rfl

theorem pay11_eq (b : FVec Ideal S256x1024 .f32) (w : FVec Ideal S1024x128 .f32) (p c : FVec Ideal S128x128 .f32) (x y : Vec Ideal S128x64 .bf16) (z : Vec Ideal S1x1x1024 .f32) :
    k0_pay11 b w p c x y z
      = outs (extractStridedSlice S64x128 ![64, 0] p slices_S128x128_o64_0_S64x128) (extractStridedSlice S64x128 ![64, 0] c slices_S128x128_o64_0_S64x128)
          (probs b (k0_pay6 x y) (truncf .bf16 (queries1 w) bitsLt_bf16_f32) (shapeCast S1x1024 z shapeCasts_S1x1x1024_S1x1024)) := rfl

theorem pay1_eq (b : FVec Ideal S256x1024 .f32) (w : FVec Ideal S1024x128 .f32) (p c : FVec Ideal S128x128 .f32) (x y : Vec Ideal S128x64 .bf16) (z : Vec Ideal S1x1x1024 .f32) :
    k0_pay1 (k0_pay12 b w p c x y z) (k0_pay13 b w p c x y z) (k0_pay14 b w p c x y z) (k0_pay15 b w p c x y z) (k0_pay16 b w p c x y z) (k0_pay17 b w p c x y z) (k0_pay18 b w p c x y z) (k0_pay19 b w p c x y z)
      = turned (k0_pay11 b w p c x y z) := rfl

theorem first_apply (i : grid0.Coords) (x : Vec Ideal S128x1024 .bf16) (vp vc : Vec Ideal S128x128 .bf16) (kp kc : Vec Ideal S128x64 .bf16) (z : Vec Ideal S1x1x1024 .f32)
    (q : Fin 128) (g : Fin 8) (d : Fin 64) (j : Fin 512) (hj : j.val = 64 * g.val + d.val) :
    k0_pay10 (k0_pay2 i) (k0_pay3 x) (k0_pay4 vp) (k0_pay5 vc) (k0_pay6 kp kc) (k0_pay7 x) (k0_pay8 x) (k0_pay9 x) z (ix2 q j)
      = Attn.outMul (fun k => Attn.scoreAdd (Attn.sees (i 0).val q.val k.val) (fun y => x (ix2 q (Attn.queryCol 0 g y)))
            fun y => if h : k.val < 128 then kp (ix2 ⟨k.val, h⟩ y) else kc (ix2 ⟨k.val - 128, by omega⟩ y))
          (z (ix3 0 0 (place g q)))
          fun k => if h : k.val < 128 then vp (ix2 ⟨k.val, h⟩ (Attn.keyCol 0 d)) else vc (ix2 ⟨k.val - 128, by omega⟩ (Attn.keyCol 0 d)) := by
  rw [pay10_eq, turned_apply _ d g q j hj, outs_apply]
  refine Finset.sum_congr rfl fun k _ => congrArg₂ (fun a b : EReal => a * b) ?_ ?_
  · by_cases hk : k.val < 128
    · rw [dif_pos hk]; dsimp only; rw [dif_pos hk]
      pointwise
      rw [pay4_apply]
      exact congrArg (fun c => vp (ix2 _ c)) (Fin.ext (by simp [Attn.keyCol]))
    · rw [dif_neg hk]; dsimp only; rw [dif_neg hk]
      pointwise
      rw [pay5_apply]
      exact congrArg (fun c => vc (ix2 _ c)) (Fin.ext (by simp [Attn.keyCol]))
  · rw [probs_apply]
    refine congr (congr (congrArg Attn.weightMul (funext fun k' => ?_)) ?_) rfl
    · exact congrArg₂ (fun a b : EReal => a + b) (congrArg (fun a : EReal => a * Attn.scale) (Finset.sum_congr rfl fun y _ =>
        congrArg₂ (fun a b : EReal => a * b) (pay6_apply _ _ _ _) ((queries0_apply _ _ _ _).trans (pay3_apply _ _ _)))) (pay2_apply _ _ _ _)
    · pointwise

theorem second_apply (i : grid0.Coords) (x : Vec Ideal S128x1024 .bf16) (vp vc : Vec Ideal S128x128 .bf16) (kp kc : Vec Ideal S128x64 .bf16) (z : Vec Ideal S1x1x1024 .f32)
    (q : Fin 128) (g : Fin 8) (d : Fin 64) (j : Fin 512) (hj : j.val = 64 * g.val + d.val) :
    k0_pay1 (k0_pay12 (k0_pay2 i) (k0_pay3 x) (k0_pay4 vp) (k0_pay5 vc) kp kc z) (k0_pay13 (k0_pay2 i) (k0_pay3 x) (k0_pay4 vp) (k0_pay5 vc) kp kc z) (k0_pay14 (k0_pay2 i) (k0_pay3 x) (k0_pay4 vp) (k0_pay5 vc) kp kc z) (k0_pay15 (k0_pay2 i) (k0_pay3 x) (k0_pay4 vp) (k0_pay5 vc) kp kc z) (k0_pay16 (k0_pay2 i) (k0_pay3 x) (k0_pay4 vp) (k0_pay5 vc) kp kc z) (k0_pay17 (k0_pay2 i) (k0_pay3 x) (k0_pay4 vp) (k0_pay5 vc) kp kc z) (k0_pay18 (k0_pay2 i) (k0_pay3 x) (k0_pay4 vp) (k0_pay5 vc) kp kc z) (k0_pay19 (k0_pay2 i) (k0_pay3 x) (k0_pay4 vp) (k0_pay5 vc) kp kc z) (ix2 q j)
      = Attn.outMul (fun k => Attn.scoreAdd (Attn.sees (i 0).val q.val k.val) (fun y => x (ix2 q (Attn.queryCol 1 g y)))
            fun y => if h : k.val < 128 then kp (ix2 ⟨k.val, h⟩ y) else kc (ix2 ⟨k.val - 128, by omega⟩ y))
          (z (ix3 0 0 (place g q)))
          fun k => if h : k.val < 128 then vp (ix2 ⟨k.val, h⟩ (Attn.keyCol 1 d)) else vc (ix2 ⟨k.val - 128, by omega⟩ (Attn.keyCol 1 d)) := by
  rw [pay1_eq, turned_apply _ d g q j hj, pay11_eq, outs_apply]
  refine Finset.sum_congr rfl fun k _ => congrArg₂ (fun a b : EReal => a * b) ?_ ?_
  · by_cases hk : k.val < 128
    · rw [dif_pos hk]; dsimp only; rw [dif_pos hk]
      pointwise
      rw [pay4_apply]
      exact congrArg (fun c => vp (ix2 _ c)) (Fin.ext (by simp [Attn.keyCol]))
    · rw [dif_neg hk]; dsimp only; rw [dif_neg hk]
      pointwise
      rw [pay5_apply]
      exact congrArg (fun c => vc (ix2 _ c)) (Fin.ext (by simp [Attn.keyCol]))
  · rw [probs_apply]
    refine congr (congr (congrArg Attn.weightMul (funext fun k' => ?_)) ?_) rfl
    · exact congrArg₂ (fun a b : EReal => a + b) (congrArg (fun a : EReal => a * Attn.scale) (Finset.sum_congr rfl fun y _ =>
        congrArg₂ (fun a b : EReal => a * b) (pay6_apply _ _ _ _) ((queries1_apply _ _ _ _).trans (pay3_apply _ _ _)))) (pay2_apply _ _ _ _)
    · pointwise

end Cert.Kernel11Ideal.AttnValue

end
-- ==== Proof.AttnFwdValue.lean ====
/-
  The result of the attention kernel: the block each grid point writes, and the whole array.
-/
module

public import proofs.«01_k».proof.Proof.AttnFwdKernel
public import Idealize.ShloMosaic.Lib.Pipeline.ValueKit
public import Idealize.ShloMosaic.Lib.Pointwise

@[expose] public section

set_option maxRecDepth 16384

noncomputable section

namespace Cert.Kernel11Ideal.AttnValue

open Cert.Kernel11Ideal Cert.Kernel11Ideal.Gen Idealize.ShloMosaic Idealize.ShloMosaic.TcCoe Idealize.SL.Sem Cert.Proof

variable (m : (ℓ : Loc nD τ sig) → Buf (Elt Ideal) ℓ)

def Q (c : Dev nD) (r : Fin 8192) (k : Fin 1024) : EReal := m ((c : Thread nD τ).loc main_arg0) (ix2 r k)
def K (c : Dev nD) (r : Fin 8192) (k : Fin 128) : EReal := m ((c : Thread nD τ).loc main_arg1) (ix2 r k)
def U (c : Dev nD) (r : Fin 8192) (k : Fin 128) : EReal := m ((c : Thread nD τ).loc main_arg2) (ix2 r k)
def Z (c : Dev nD) (k : Fin 16) : EReal := m ((c : Thread nD τ).loc main_arg3) (ix1 k)

theorem idx0 : ∀ t : Fin grid0.N, win0_0.index t 0 = 0 ∧ win0_0.index t 1 = 0 ∧ win0_0.index t 2 = 0 := by decide +kernel
theorem idx1 : ∀ t : Fin grid0.N, win0_1.index t 0 = t.val ∧ win0_1.index t 1 = 0 := by decide +kernel
theorem idx2 : ∀ t : Fin grid0.N, win0_2.index t 0 = t.val ∧ win0_2.index t 1 = 0 := by decide +kernel
theorem idx3 : ∀ t : Fin grid0.N, win0_3.index t 0 = t.val - 1 ∧ win0_3.index t 1 = 0 := by decide +kernel
theorem idx4 : ∀ t : Fin grid0.N, win0_4.index t 0 = t.val ∧ win0_4.index t 1 = 0 := by decide +kernel
theorem idx5 : ∀ t : Fin grid0.N, win0_5.index t 0 = t.val - 1 ∧ win0_5.index t 1 = 0 := by decide +kernel
theorem idx6 : ∀ t : Fin grid0.N, win0_6.index t 0 = t.val ∧ win0_6.index t 1 = 0 := by decide +kernel
theorem point : ∀ t : Fin grid0.N, (grid0.coords t 0).val = t.val := by decide +kernel

theorem rv (t : Fin cfg0.N) (q : Fin 128) : (Attn.queryRow t.val q).val = t.val * 128 + q.val := by
  have := t.isLt
  have : cfg0.N = 64 := N_0
  show (t.val * 128 + q.val) % 8192 = _
  omega

/-- The row of key `k` of the block before. -/
def before (t : ℕ) (k : Fin 128) : Fin 8192 := ⟨((t - 1) * 128 + k.val) % 8192, Nat.mod_lt _ (by decide)⟩

theorem bv (t : Fin cfg0.N) (q : Fin 128) : (before t.val q).val = (t.val - 1) * 128 + q.val := by
  have := t.isLt
  have : cfg0.N = 64 := N_0
  show ((t.val - 1) * 128 + q.val) % 8192 = _
  omega

theorem keys (x : Fin 8192 → EReal) (t : ℕ) (k : Fin 256) :
    (if h : k.val < 128 then x (before t ⟨k.val, h⟩) else x (Attn.queryRow t ⟨k.val - 128, by omega⟩)) = x (Attn.keyRow t k) := by
  split <;> rename_i h <;> refine congrArg x (Fin.ext ?_)
  · simp [before, Attn.keyRow, h]
  · simp [Attn.queryRow, Attn.keyRow, h]

theorem b1 (c : Dev nD) (t : Fin cfg0.N) (q : Fin 128) (l : Fin 1024) : iblk m c 1 t (ix2 q l) = Q m c (Attn.queryRow t.val q) l := by
  unfold Q
  blk_point [iblk, rv, (idx1 t).1, (idx1 t).2]
theorem b2 (c : Dev nD) (t : Fin cfg0.N) (q : Fin 128) (l : Fin 128) : iblk m c 2 t (ix2 q l) = K m c (Attn.queryRow t.val q) l := by
  unfold K
  blk_point [iblk, rv, (idx2 t).1, (idx2 t).2]
theorem b3 (c : Dev nD) (t : Fin cfg0.N) (q : Fin 128) (l : Fin 128) : iblk m c 3 t (ix2 q l) = K m c (before t.val q) l := by
  unfold K
  blk_point [iblk, bv, (idx3 t).1, (idx3 t).2]
theorem b4 (c : Dev nD) (t : Fin cfg0.N) (q : Fin 128) (l : Fin 128) : iblk m c 4 t (ix2 q l) = U m c (Attn.queryRow t.val q) l := by
  unfold U
  blk_point [iblk, rv, (idx4 t).1, (idx4 t).2]
theorem b5 (c : Dev nD) (t : Fin cfg0.N) (q : Fin 128) (l : Fin 128) : iblk m c 5 t (ix2 q l) = U m c (before t.val q) l := by
  unfold U
  blk_point [iblk, bv, (idx5 t).1, (idx5 t).2]

theorem b0 (c : Dev nD) (t : Fin cfg0.N) (h : Fin 2) (g : Fin 8) (q : Fin 128) : iblk m c 0 t (ix3 h 0 (place g q)) = Z m c (Attn.head h g) := by
  unfold Z
  blk_point [iblk, (idx0 t).1, (idx0 t).2.1, (idx0 t).2.2]
  simp only [place, Attn.head]
  omega

theorem ld0 (x : Vec Ideal S128x1024 .bf16) (q : Fin 128) (l : Fin 1024) : View.ld x r0_0 (ix2 q l) = x (ix2 q l) := by
  pointwise
theorem ld1 (x : Vec Ideal S128x128 .bf16) (q : Fin 128) (l : Fin 128) : View.ld x r0_1 (ix2 q l) = x (ix2 q l) := by
  pointwise
theorem ld2 (x : Vec Ideal S128x128 .bf16) (q : Fin 128) (l : Fin 64) : View.ld x r0_2 (ix2 q l) = x (ix2 q (Attn.keyCol 0 l)) := by
  pointwise
  exact congrArg (fun b => x (ix2 q b)) (Fin.ext (by simp [Attn.keyCol]))
theorem ld5 (x : Vec Ideal S128x128 .bf16) (q : Fin 128) (l : Fin 64) : View.ld x r0_5 (ix2 q l) = x (ix2 q (Attn.keyCol 1 l)) := by
  pointwise
  exact congrArg (fun b => x (ix2 q b)) (Fin.ext (by simp [Attn.keyCol]))
theorem ld3 (x : Vec Ideal S2x1x1024 .f32) (l : Fin 1024) : View.ld x r0_3 (ix3 0 0 l) = x (ix3 0 0 l) := by
  pointwise
theorem ld6 (x : Vec Ideal S2x1x1024 .f32) (l : Fin 1024) : View.ld x r0_6 (ix3 0 0 l) = x (ix3 1 0 l) := by
  pointwise

/-- One entry of the result. -/
def entry (c : Dev nD) (t : ℕ) (h : Fin 2) (q : Fin 128) (g : Fin 8) (d : Fin 64) : EReal :=
  Attn.outMul (fun k => Attn.scoreAdd (Attn.sees t q.val k.val) (fun y => Q m c (Attn.queryRow t q) (Attn.queryCol h g y)) fun y => K m c (Attn.keyRow t k) (Attn.keyCol h y))
    (Z m c (Attn.head h g)) fun k => U m c (Attn.keyRow t k) (Attn.keyCol h d)

theorem out_at (c : Dev nD) (t : Fin cfg0.N) (h : Fin 2) (q : Fin 128) (g : Fin 8) (d : Fin 64) :
    out0_6 (grid0.coords t) (iblk m c 0 t) (iblk m c 1 t) (iblk m c 2 t) (iblk m c 3 t) (iblk m c 4 t) (iblk m c 5 t) (ix2 q (Attn.queryCol h g d)) = entry m c t.val h q g d := by
  obtain rfl | rfl : h = 0 ∨ h = 1 := by omega
  · unfold_out out0_6
    rw [View.canon_cons_of_not_mem _ _ (by
        rw [Rect.mem_set_unit]
        intro hm
        have := (hm 1).1
        simp [Attn.queryCol] at this
        omega),
      show (ix2 q (Attn.queryCol 0 g d) : S128x1024.Idx) = r0_4.emb (ix2 q (⟨64 * g.val + d.val, by omega⟩ : Fin 512)) from by
        funext a; refine Fin.ext ?_; rw [ValueKit.rect_emb_unit_val]; fin_cases a <;> simp [Attn.queryCol, Nat.add_assoc],
      View.canon_cons_emb]
    refine (first_apply _ _ _ _ _ _ _ q g d _ rfl).trans ?_
    refine congr (congr (congrArg Attn.outMul (funext fun k => ?_)) ?_) (funext fun k => ?_)
    · rw [point]
      refine congrArg₂ (fun a b => Attn.scoreAdd _ a b) (funext fun y => ?_) (funext fun y => ?_)
      · rw [ld0, b1]
      · rw [← keys (fun r => K m c r (Attn.keyCol 0 y))]
        by_cases hk : k.val < 128
        · rw [dif_pos hk, dif_pos hk, ld2, b3]
        · rw [dif_neg hk, dif_neg hk, ld2, b2]
    · rw [ld3, b0]
    · rw [← keys (fun r => U m c r (Attn.keyCol 0 d))]
      by_cases hk : k.val < 128
      · rw [dif_pos hk, dif_pos hk, ld1, b5]
      · rw [dif_neg hk, dif_neg hk, ld1, b4]
  · unfold_out out0_6
    rw [show (ix2 q (Attn.queryCol 1 g d) : S128x1024.Idx) = r0_7.emb (ix2 q (⟨64 * g.val + d.val, by omega⟩ : Fin 512)) from by
        funext a; refine Fin.ext ?_; rw [ValueKit.rect_emb_unit_val]; fin_cases a <;> simp [Attn.queryCol, Nat.add_assoc],
      View.canon_cons_emb]
    refine (second_apply _ _ _ _ _ _ _ q g d _ rfl).trans ?_
    refine congr (congr (congrArg Attn.outMul (funext fun k => ?_)) ?_) (funext fun k => ?_)
    · rw [point]
      refine congrArg₂ (fun a b => Attn.scoreAdd _ a b) (funext fun y => ?_) (funext fun y => ?_)
      · rw [ld0, b1]
      · rw [← keys (fun r => K m c r (Attn.keyCol 1 y))]
        by_cases hk : k.val < 128
        · rw [dif_pos hk, dif_pos hk, ld5, b3]
        · rw [dif_neg hk, dif_neg hk, ld5, b2]
    · rw [ld6, b0]
    · rw [← keys (fun r => U m c r (Attn.keyCol 1 d))]
      by_cases hk : k.val < 128
      · rw [dif_pos hk, dif_pos hk, ld1, b5]
      · rw [dif_neg hk, dif_neg hk, ld1, b4]

/-- The result at row `a`, column `b`. -/
def value (c : Dev nD) (a : Fin 8192) (b : Fin 1024) : EReal :=
  entry m c (a.val / 128) ⟨b.val / 512, by omega⟩ ⟨a.val % 128, by omega⟩ ⟨b.val / 64 % 8, by omega⟩ ⟨b.val % 64, by omega⟩

theorem final6 (c : Dev nD) : (dats m 0 c).arrAt 6 cfg0.N = fun j : S8192x1024.Idx => value m c (j 0) (j 1) := by
  refine (dats m 0 c).arrAt_eq_of_covers 6 _ (by decide +kernel) fun t hf y => ?_
  blk_simp
  rw [after0_6]
  obtain ⟨r, l, rfl⟩ : ∃ r l, y = ix2 r l := ⟨_, _, eq_ix2 y⟩
  obtain ⟨h, g, d, rfl⟩ : ∃ h g d, l = Attn.queryCol h g d :=
    ⟨⟨l.val / 512, by omega⟩, ⟨l.val / 64 % 8, by omega⟩, ⟨l.val % 64, by omega⟩, Fin.ext (by simp only [Attn.queryCol]; omega)⟩
  rw [out_at]
  unfold value
  have e0 := rv t r
  congr 1
  · blk_simp [(idx6 t).1]
    omega
  · refine Fin.ext ?_
    blk_simp [(idx6 t).2]
    simp only [Attn.queryCol]
    omega
  · refine Fin.ext ?_
    blk_simp [(idx6 t).1]
    show r.val = (t.val * 128 + r.val) % 128
    omega
  · refine Fin.ext ?_
    blk_simp [(idx6 t).2]
    simp only [Attn.queryCol]
    omega
  · refine Fin.ext ?_
    blk_simp [(idx6 t).2]
    simp only [Attn.queryCol]
    omega

end Cert.Kernel11Ideal.AttnValue

end
-- ==== Proof.AttnFwdReference.lean ====
/-
  The values of the reference for attention.
-/
module

public import proofs.«01_k».proof.Proof.Gen.Reference11Ideal.Read
public import proofs.«01_k».proof.Proof.AttnMath
public import Idealize.ShloMosaic.Lib.Pointwise

@[expose] public section

set_option maxRecDepth 16384

noncomputable section

namespace Cert.Reference11Ideal.AttnValue

open Cert.Reference11Ideal Cert.Reference11Ideal.Gen Idealize.ShloMosaic Idealize.ShloMosaic.TcCoe Idealize.SL.Sem Cert.Proof
open Cert.Reference11Ideal.Read

abbrev Mat (a b : ℕ) := (⟨⟨2, ![a, b]⟩, .f32⟩ : BufTy).Contents (Elt Ideal)
abbrev Col (a : ℕ) := (⟨⟨1, ![a]⟩, .f32⟩ : BufTy).Contents (Elt Ideal)

variable (x0 : Mat 8192 1024) (x1 x2 : Mat 8192 128) (x3 : Col 16)

/-- The keys or values a block's queries look at: nothing before the first block. -/
def near (x : Mat 8192 128) (n : Fin 64) (k : Fin 256) (h : Fin 2) (d : Fin 64) : EReal :=
  if n.val = 0 ∧ k.val < 128 then 0 else x (ix2 (Attn.keyRow n.val k) (Attn.keyCol h d))

theorem block_apply (n : Fin 64) (q : Fin 128) (h : Fin 2) (d : Fin 64) : val_main_v1 (F := Ideal) x1 (ix4 n q h d) = x1 (ix2 (Attn.queryRow n.val q) (Attn.keyCol h d)) := by
  pointwise [val_main_v1]
  refine congrArg x1 (congrArg₂ ix2 (Fin.ext ?_) (Fin.ext ?_)) <;> simp only [Attn.queryRow, Attn.keyCol] <;> omega

theorem keys_apply (n : Fin 64) (k : Fin 256) (h : Fin 2) (d : Fin 64) : val_main_v7 (F := Ideal) x1 (ix4 n k h d) = near x1 n k h d := by
  pointwise [val_main_v7, val_main_v6, val_main_v5, val_main_v4, val_main_cst]
  unfold near
  by_cases hk : k.val < 128
  · refine (dif_pos hk).trans ?_
    by_cases hn : n.val < 1
    · exact (dif_pos hn).trans (if_pos ⟨by omega, hk⟩).symm
    · refine (dif_neg hn).trans (((block_apply x1 _ _ h d).trans ?_).trans (if_neg (fun e => hn (by omega))).symm)
      exact congrArg (fun r => x1 (ix2 r _)) (Fin.ext (by simp [Attn.queryRow, Attn.keyRow, hk]))
  · refine (dif_neg hk).trans (((block_apply x1 _ _ h d).trans ?_).trans (if_neg (fun e => hk e.2)).symm)
    exact congrArg (fun r => x1 (ix2 r _)) (Fin.ext (by simp [Attn.queryRow, Attn.keyRow, hk]))

theorem sees_apply (n : Fin 64) (q : Fin 128) (k : Fin 256) : val_main_v44 (F := Ideal) (ix3 n q k) = Attn.sees n.val q.val k.val := by
  pointwise [val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_c, val_main_c_2, val_main_c_3, val_main_c_4, val_main_c_5]
  rw [Attn.not_first]
  rfl

theorem score_apply (n : Fin 64) (h : Fin 2) (g : Fin 8) (q : Fin 128) (k : Fin 256) : val_main_v46 (F := Ideal) x0 x1 (ix5 n h g q k)
    = Attn.score (Attn.sees n.val q.val k.val) (fun y => x0 (ix2 (Attn.queryRow n.val q) (Attn.queryCol h g y))) (fun y => near x1 n k h y) := by
  pointwise [val_main_v46, val_main_call0_v1, val_main_v45, val_main_call0_v2, val_main_call0_v0, val_main_cst_6, val_main_v16, val_main_v15, val_main_cst_1, val_main_v14, val_main_v13, val_main_v0]
  rw [sees_apply]
  refine congrArg₂ (fun a b : EReal => Scalar.select (Attn.sees n.val q.val k.val) (a * Attn.scale) b) (Finset.sum_congr rfl fun y _ => ?_) Attn.low_eq
  rw [keys_apply]
  refine congrArg (fun a => near x1 n k h y * x0 a) (congrArg₂ ix2 (Fin.ext ?_) (Fin.ext ?_)) <;> simp only [Attn.queryRow, Attn.queryCol] <;> omega

/-- The scores of one query. -/
def scores (n : Fin 64) (h : Fin 2) (g : Fin 8) (q : Fin 128) (k : Fin 256) : EReal :=
  Attn.score (Attn.sees n.val q.val k.val) (fun y => x0 (ix2 (Attn.queryRow n.val q) (Attn.queryCol h g y))) (fun y => near x1 n k h y)

theorem sink_apply (h : Fin 2) (g : Fin 8) : val_main_v47 (F := Ideal) x3 (ix5 0 h g 0 0) = x3 (ix1 (Attn.head h g)) := by
  pointwise [val_main_v47]
  exact congrArg (fun a => x3 (ix1 a)) (Fin.ext (by simp only [Attn.head]; omega))

theorem greatest (v : FVec Ideal S64x2x8x128x256 .f32) (c : FVec Ideal S_ .f32) (n : Fin 64) (h : Fin 2) (g : Fin 8) (q : Fin 128) :
    Host.reduce FloatOps.maximumf v c reducesTo_S64x2x8x128x256_S64x2x8x128_d4 h_S_ (ix4 n h g q) = Finset.fold max (c (Shape.Idx.first h_S_)) (fun k => v (ix5 n h g q k)) Finset.univ := by
  pointwise

theorem max_apply (n : Fin 64) (h : Fin 2) (g : Fin 8) (q : Fin 128) : val_main_v48 (F := Ideal) x0 x1 (ix4 n h g q)
    = Finset.fold max Attn.low (scores x0 x1 n h g q) Finset.univ := by
  unfold val_main_v48
  rw [greatest]
  exact congrArg (fun f => Finset.fold max Attn.low f Finset.univ) (funext fun k => score_apply x0 x1 n h g q k)

theorem spread_apply (n : Fin 64) (h : Fin 2) (g : Fin 8) (q : Fin 128) : val_main_v49 (F := Ideal) x0 x1 (ix5 n h g q 0) = val_main_v48 (F := Ideal) x0 x1 (ix4 n h g q) := by
  unfold val_main_v49
  generalize val_main_v48 (F := Ideal) x0 x1 = w
  pointwise

theorem sink5_apply (n : Fin 64) (h : Fin 2) (g : Fin 8) (q : Fin 128) : val_main_v50 (F := Ideal) x3 (ix5 n h g q 0) = x3 (ix1 (Attn.head h g)) := by
  rw [← sink_apply x3 h g]
  unfold val_main_v50
  generalize val_main_v47 (F := Ideal) x3 = w
  pointwise

theorem max5 (u w : FVec Ideal S64x2x8x128x1 .f32) (j : S64x2x8x128x1.Idx) : maximumf u w j = max (u j) (w j) := rfl

theorem peak_apply (n : Fin 64) (h : Fin 2) (g : Fin 8) (q : Fin 128) : val_main_v51 (F := Ideal) x0 x1 x3 (ix5 n h g q 0)
    = Attn.peak (scores x0 x1 n h g q) (x3 (ix1 (Attn.head h g))) := by
  unfold val_main_v51 Attn.peak
  rw [max5, spread_apply, max_apply, sink5_apply]

theorem total_apply (n : Fin 64) (h : Fin 2) (g : Fin 8) (q : Fin 128) : val_main_v60 (F := Ideal) x0 x1 x3 (ix5 n h g q 0)
    = Attn.total (scores x0 x1 n h g q) (x3 (ix1 (Attn.head h g))) := by
  pointwise [val_main_v60, val_main_v59, val_main_v58, val_main_v57, val_main_v56, val_main_v55, val_main_v54, val_main_v53, val_main_v52, val_main_cst_8]
  rw [sink_apply]
  simp only [score_apply, peak_apply]
  rfl

theorem weight_apply (n : Fin 64) (h : Fin 2) (g : Fin 8) (q : Fin 128) (k : Fin 256) : val_main_v62 (F := Ideal) x0 x1 x3 (ix5 n h g q k)
    = Attn.weight (scores x0 x1 n h g q) (x3 (ix1 (Attn.head h g))) k := by
  pointwise [val_main_v62, val_main_v61, val_main_v54, val_main_v53, val_main_v52]
  simp only [score_apply, peak_apply, total_apply]
  rfl

theorem out_apply (n : Fin 64) (h : Fin 2) (g : Fin 8) (q : Fin 128) (d : Fin 64) : val_main_v63 (F := Ideal) x0 x1 x2 x3 (ix5 n h d g q)
    = Attn.out (scores x0 x1 n h g q) (x3 (ix1 (Attn.head h g))) (fun k => near x2 n k h d) := by
  pointwise [val_main_v63]
  refine Finset.sum_congr rfl fun k _ => ?_
  rw [weight_apply, show val_main_v12 (F := Ideal) x2 (ix4 n k h d) = near x2 n k h d from keys_apply x2 n k h d, mul_comm]

theorem res_apply (a : Fin 8192) (b : Fin 1024) : val_main_v65 (F := Ideal) x0 x1 x2 x3 (ix2 a b)
    = Attn.out (scores x0 x1 ⟨a.val / 128, by omega⟩ ⟨b.val / 512, by omega⟩ ⟨b.val / 64 % 8, by omega⟩ ⟨a.val % 128, by omega⟩)
        (x3 (ix1 (Attn.head ⟨b.val / 512, by omega⟩ ⟨b.val / 64 % 8, by omega⟩)))
        (fun k => near x2 ⟨a.val / 128, by omega⟩ k ⟨b.val / 512, by omega⟩ ⟨b.val % 64, by omega⟩) := by
  rw [← out_apply]
  pointwise [val_main_v65, val_main_v64]

end Cert.Reference11Ideal.AttnValue

end
-- ==== Proof.AttnFwd.lean ====
/-
  The two claims about the values of attention.
-/
module

public import proofs.«01_k».proof.Proof.AttnFwdValue
public import proofs.«01_k».proof.Proof.AttnFwdReference
public import proofs.«01_k».proof.Proof.Finite
public import proofs.«01_k».proof.Proof.Gen.Reference11Ideal.Run
public import proofs.«01_k».proof.Proof.Gen.Pre_finite11
public import proofs.«01_k».proof.Defs

@[expose] public section

set_option maxHeartbeats 2000000

noncomputable section

namespace Cert.Proof.AttnFwd

open Idealize.ShloMosaic Idealize.SL.Sem

/-- The reference runs to its end, keeps its arguments and leaves the counters at zero. -/
theorem frame_reference : Cert.quiescent_Reference11Ideal := fun m ρ _ =>
  (θ_run _ _ _).mono (fun r h => ⟨fun c => (h c).2, Idealize.ShloMosaic.sem_eq_zero_of_no_sems (by decide) r.2⟩)
    (Cert.Reference11Ideal.Value.run (F := Ideal) m ρ)

/-- The same where the arguments are finite. -/
theorem frame_reference_pre : Cert.quiescent_Reference11Ideal_pre_finite11 := fun m ρ _ => frame_reference m ρ trivial

/-- The named constant is the kernel's own mask, read as minus infinity. -/
theorem preserves : Cert.preserves_Kernel11_Kernel11Ideal :=
  IdealRules.named_const.statement Cert.Kernel11Ideal.κ "mask" .f32 0xF149F2CA#32 ⊥ rfl

/-- What the precondition says: the queries, the keys and the sinks are real. -/
theorem real {m : (ℓ : Loc Cert.Kernel11Ideal.nD Cert.Kernel11Ideal.τ Cert.Kernel11Ideal.sig) → Buf (Elt Ideal) ℓ}
    (h : Cert.Pre_Kernel11Ideal_finite11 m) (c : Dev Cert.Kernel11Ideal.nD) :
    (∀ r k, Gate.IsReal (Cert.Kernel11Ideal.AttnValue.Q m c r k)) ∧ (∀ r k, Gate.IsReal (Cert.Kernel11Ideal.AttnValue.K m c r k))
      ∧ (∀ k, Gate.IsReal (Cert.Kernel11Ideal.AttnValue.Z m c k)) := by
  have h := congrFun (h c) finZeroElim
  dsimp only [Cert.Pre_finite11.fn] at h
  obtain ⟨h, h3⟩ := Gate.andi_split h
  obtain ⟨h1, h2⟩ := Gate.andi_split h
  haveI : Subsingleton Cert.Pre_finite11.S_.Idx := ⟨fun a b => funext fun i => i.elim0⟩
  exact ⟨fun r k => Gate.isReal_of_all _ _ (fun _ => rfl) _ _ _ _ h1 (ix2 r k),
    fun r k => Gate.isReal_of_all _ _ (fun _ => rfl) _ _ _ _ h2 (ix2 r k),
    fun k => Gate.isReal_of_all _ _ (fun _ => rfl) _ _ _ _ h3 (ix1 k)⟩

open Cert.Reference11Ideal.AttnValue in
/-- One entry of the output, the kernel's and the reference's: a key that is not there is masked. -/
theorem entry_eq (x0 : Mat 8192 1024) (x1 x2 : Mat 8192 128) (z : EReal) (hq : ∀ r k, Gate.IsReal (x0 (ix2 r k)))
    (hk : ∀ r k, Gate.IsReal (x1 (ix2 r k))) (hz : Gate.IsReal z) (n : Fin 64) (h : Fin 2) (g : Fin 8) (q : Fin 128) (d : Fin 64) :
    Attn.out (scores x0 x1 n h g q) z (fun k => near x2 n k h d)
      = Attn.outMul (fun k => Attn.scoreAdd (Attn.sees n.val q.val k.val) (fun y => x0 (ix2 (Attn.queryRow n.val q) (Attn.queryCol h g y)))
          fun y => x1 (ix2 (Attn.keyRow n.val k) (Attn.keyCol h y))) z fun k => x2 (ix2 (Attn.keyRow n.val k) (Attn.keyCol h d)) := by
  have hs : (fun k : Fin 256 => Attn.scoreAdd (Attn.sees n.val q.val k.val) (fun y => x0 (ix2 (Attn.queryRow n.val q) (Attn.queryCol h g y)))
      fun y => x1 (ix2 (Attn.keyRow n.val k) (Attn.keyCol h y))) = scores x0 x1 n h g q := by
    refine funext fun k => (Attn.scoreAdd_eq _ _ _).trans ?_
    unfold scores
    by_cases hn : n.val = 0 ∧ k.val < 128
    · rw [hn.1, Attn.sees_first _ _ hn.2, Attn.score_masked, Attn.score_masked]
    · exact congrArg (Attn.score _ _) (funext fun y => (if_neg hn).symm)
  rw [hs]
  refine (Attn.outMul_eq _ z _ _ (fun k => ?_) hz fun k => ?_).symm
  · refine Attn.score_ne_top _ _ _ (fun y => hq _ _) fun hb y => ?_
    unfold near
    split
    · exact ⟨0, rfl⟩
    · exact hk _ _
  · by_cases hn : n.val = 0 ∧ k.val < 128
    · left
      unfold scores
      rw [hn.1, Attn.sees_first _ _ hn.2, Attn.score_masked]
    · exact Or.inr (if_neg hn).symm

/-- The kernel's result is the reference's. -/
theorem algebraic : Cert.algebraic_Kernel11Ideal_Reference11Ideal_pre_finite11 := fun m g m' g' hpre hm => by
  refine ⟨fun c => (Cert.Kernel11Ideal.Gen.dats m 0 c).arrAt 6 Cert.Kernel11Ideal.cfg0.N,
    Cert.Kernel11Ideal.Value.run_blocks (F := Ideal) m g, ?_⟩
  refine (θ_run _ _ _).mono (fun r h c => ⟨(h c).1.trans ?_, (h c).2⟩)
    (Cert.Reference11Ideal.Value.run (F := Ideal) m' g')
  obtain ⟨hQ, hK, hZ⟩ := real hpre c
  obtain ⟨h0, h1, h2, h3⟩ := hm c
  rw [Cert.Reference11Ideal.Read.val_main_v65_eq, h0, h1, h2, h3]
  refine Eq.trans (funext fun j => ?_) (Cert.Kernel11Ideal.AttnValue.final6 m c).symm
  obtain ⟨a, b, rfl⟩ : ∃ a b, j = ix2 a b := ⟨_, _, eq_ix2 j⟩
  rw [Cert.Reference11Ideal.AttnValue.res_apply]
  exact entry_eq _ _ _ _ hQ hK (hZ _) ⟨a.val / 128, by omega⟩ ⟨b.val / 512, by omega⟩ ⟨b.val / 64 % 8, by omega⟩ ⟨a.val % 128, by omega⟩ ⟨b.val % 64, by omega⟩

end Cert.Proof.AttnFwd

end
-- ==== Proof.OutLossMath.lean ====
/-
  The last attention layer's output and the loss: one row of the residual stream, the row's error against the target, the
  loss and its gradients, on the extended reals.
-/
module

public import proofs.«01_k».proof.Proof.GateMath

@[expose] public section

set_option maxRecDepth 16384

noncomputable section

namespace Cert.Proof.OutLoss

open Idealize.ShloMosaic Cert.Proof

/-- One row of the residual stream after the layer. -/
def stream (o g x : Fin 1024 → EReal) (w : Fin 1024 → Fin 1024 → EReal) (l : Fin 1024) : EReal :=
  x l + ∑ k, o k * Gate.silu (g k) * w k l

/-- The normed row minus the target. -/
def err (y n t : Fin 1024 → EReal) (l : Fin 1024) : EReal := Inproj.xhat y l * n l - t l

/-- The gradient of the loss at the normed row. -/
def dy (y n t : Fin 1024 → EReal) (l : Fin 1024) : EReal := err y n t l * Ideal.ofBits .f32 0x3A800000#32

/-- The row's mean of the squared error. -/
def mse (y n t : Fin 1024 → EReal) : EReal :=
  Ideal.div (∑ k, err y n t k * err y n t k) (Ideal.ofBits .f32 0x44800000#32)

theorem half : Ideal.ofBits .f32 0x3F000000#32 = ((1 / 2 : ℝ) : EReal) := by
  simp [Ideal.ofBits, Ideal.ieee]; rw [← EReal.coe_mul]; norm_num

theorem two : Ideal.ofBits .f32 0x40000000#32 = ((2 : ℝ) : EReal) := by
  simp [Ideal.ofBits, Ideal.ieee]; rw [← EReal.coe_mul]; norm_num

theorem inv1024 : Ideal.ofBits .f32 0x3A800000#32 = ((1 / 1024 : ℝ) : EReal) := by
  simp [Ideal.ofBits, Ideal.ieee]; rw [← EReal.coe_mul]; norm_num

/-- The gradient at the normed row as differentiating the loss gives it. -/
theorem dy_eq (e : EReal) :
    Ideal.div (Ideal.ofBits .f32 0x3F000000#32) (Ideal.ofBits .f32 0x44800000#32) * (Ideal.ofBits .f32 0x40000000#32 * e)
      = e * Ideal.ofBits .f32 0x3A800000#32 := by
  rw [half, two, inv1024, Inproj.c1024, Ideal.div_coe (by norm_num), ← mul_assoc, mul_comm _ e]
  congr 1
  norm_cast
  norm_num

variable (O G X : Fin 8192 → Fin 1024 → EReal) (W : Fin 1024 → Fin 1024 → EReal) (N : Fin 1024 → EReal)
  (T : Fin 8192 → Fin 1024 → EReal)

/-- The residual stream of the whole arguments. -/
def Y (r : Fin 8192) : Fin 1024 → EReal := stream (O r) (G r) (X r) W

/-- The loss. -/
def loss : EReal := Ideal.ofBits .f32 0x3F000000#32 * ∑ r, mse (Y O G X W r) N (T r)

/-- The loss's gradient at the residual stream. -/
def gradX (r : Fin 8192) (l : Fin 1024) : EReal :=
  Inproj.dxKernel (Y O G X W r) N (dy (Y O G X W r) N (T r)) 0 l

/-- The loss's gradient at the norm's scale. -/
def gradN (l : Fin 1024) : EReal := ∑ r, dy (Y O G X W r) N (T r) l * Inproj.xhat (Y O G X W r) l

/-- Halving each block's sum halves the sum. -/
theorem loss_blocks (f : Fin 8192 → EReal) :
    ∑ k ∈ Finset.range 16, Ideal.ofBits .f32 0x3F000000#32 * ∑ r : Fin 512, f (Inproj.row k r)
      = Ideal.ofBits .f32 0x3F000000#32 * ∑ r, f r := by
  rw [half, mul_comm _ (∑ r, f r), ← Inproj.sum_rows f, ← Inproj.mul_sum_real _ _ _ (by norm_num)]
  exact Finset.sum_congr rfl fun k _ => mul_comm _ _

end Cert.Proof.OutLoss

end
-- ==== Proof.AttnOutLossKernel.lean ====
/-
  The values of the kernel for the last attention layer's output and the loss: its three results are `OutLoss.loss` in every
  entry, `OutLoss.gradX` and `OutLoss.gradN` of the arguments.
-/
module

public import proofs.«01_k».proof.Proof.Gen.Kernel12Ideal.Value
public import proofs.«01_k».proof.Proof.OutLossMath
public import Idealize.ShloMosaic.Lib.Pipeline.ValueKit
public import Idealize.ShloMosaic.Lib.Pointwise

@[expose] public section

set_option maxRecDepth 16384

noncomputable section

namespace Cert.Kernel12Ideal.OutLossValue

open Cert.Kernel12Ideal Cert.Kernel12Ideal.Gen Idealize.ShloMosaic Idealize.ShloMosaic.TcCoe Idealize.SL.Sem Cert.Proof

variable (m : (ℓ : Loc nD τ sig) → Buf (Elt Ideal) ℓ)

/-- A row of a block's residual stream. -/
def yrow (v0 : Vec Ideal S512x1024 .bf16) (v3 v13 : Vec Ideal S512x1024 .f32) (v15 : Vec Ideal S1024x1024 .bf16) (r : Fin 512) : Fin 1024 → EReal :=
  OutLoss.stream (fun k => v3 (ix2 r k)) (fun k => v0 (ix2 r k)) (fun k => v13 (ix2 r k)) fun k q => v15 (ix2 k q)

theorem pay8_apply (v0 : Vec Ideal S512x1024 .bf16) (v3 v13 : Vec Ideal S512x1024 .f32) (v15 : Vec Ideal S1024x1024 .bf16) (r : Fin 512) (l : Fin 1024) : k0_pay8 v0 v3 v13 v15 (ix2 r l) = yrow v0 v3 v13 v15 r l := by
  pointwise [k0_pay8]
  rfl

theorem pay9_apply (v0 : Vec Ideal S512x1024 .bf16) (v3 v13 : Vec Ideal S512x1024 .f32) (v15 : Vec Ideal S1024x1024 .bf16) (r : Fin 512) : k0_pay9 v0 v3 v13 v15 (ix2 r 0) = Inproj.rstd (yrow v0 v3 v13 v15 r) := by
  pointwise [k0_pay9]
  simp only [pay8_apply]
  rfl

theorem pay10_apply (v0 : Vec Ideal S512x1024 .bf16) (v3 v13 : Vec Ideal S512x1024 .f32) (v15 : Vec Ideal S1024x1024 .bf16) (r : Fin 512) (l : Fin 1024) : k0_pay10 v0 v3 v13 v15 (ix2 r l) = Inproj.xhat (yrow v0 v3 v13 v15 r) l := by
  pointwise [k0_pay10]
  rw [pay8_apply, pay9_apply]
  rfl

theorem pay11_apply (v0 : Vec Ideal S512x1024 .bf16) (v3 v13 : Vec Ideal S512x1024 .f32) (v15 : Vec Ideal S1024x1024 .bf16) (n : Vec Ideal S1x1024 .f32) (t : Vec Ideal S512x1024 .f32) (r : Fin 512) (l : Fin 1024) :
    k0_pay11 v0 v3 v13 v15 n t (ix2 r l) = OutLoss.err (yrow v0 v3 v13 v15 r) (fun k => n (ix2 0 k)) (fun k => t (ix2 r k)) l := by
  pointwise [k0_pay11]
  rw [pay10_apply]
  rfl

theorem pay12_apply (v0 : Vec Ideal S512x1024 .bf16) (v3 v13 : Vec Ideal S512x1024 .f32) (v15 : Vec Ideal S1024x1024 .bf16) (n : Vec Ideal S1x1024 .f32) (t : Vec Ideal S512x1024 .f32) (r : Fin 512) :
    k0_pay12 v0 v3 v13 v15 n t (ix2 r 0) = ∑ l, OutLoss.err (yrow v0 v3 v13 v15 r) (fun k => n (ix2 0 k)) (fun k => t (ix2 r k)) l * OutLoss.err (yrow v0 v3 v13 v15 r) (fun k => n (ix2 0 k)) (fun k => t (ix2 r k)) l := by
  pointwise [k0_pay12]
  simp only [pay11_apply]

theorem pay1_apply (v0 : Vec Ideal S512x1024 .bf16) (v3 v13 : Vec Ideal S512x1024 .f32) (v15 : Vec Ideal S1024x1024 .bf16) (n : Vec Ideal S1x1024 .f32) (t : Vec Ideal S512x1024 .f32) :
    k0_pay1 (F := Ideal) (k0_pay12 v0 v3 v13 v15 n t) (Scalar.ofBits .f32 0x44800000#32) (ix2 0 0)
      = Ideal.ofBits .f32 0x3F000000#32 * ∑ r : Fin 512, OutLoss.mse (yrow v0 v3 v13 v15 r) (fun k => n (ix2 0 k)) (fun k => t (ix2 r k)) := by
  pointwise [k0_pay1]
  simp only [pay12_apply]
  rfl

theorem pay2_apply (v0 : Vec Ideal S512x1024 .bf16) (v3 v13 : Vec Ideal S512x1024 .f32) (v15 : Vec Ideal S1024x1024 .bf16) (n : Vec Ideal S1x1024 .f32) (t : Vec Ideal S512x1024 .f32) (r : Fin 512) (l : Fin 1024) :
    k0_pay2 (F := Ideal) (k0_pay11 v0 v3 v13 v15 n t) (ix2 r l) = OutLoss.dy (yrow v0 v3 v13 v15 r) (fun k => n (ix2 0 k)) (fun k => t (ix2 r k)) l := by
  pointwise [k0_pay2]
  rw [pay11_apply]
  rfl

theorem pay3_apply (v0 : Vec Ideal S512x1024 .bf16) (v3 v13 : Vec Ideal S512x1024 .f32) (v15 : Vec Ideal S1024x1024 .bf16) (n : Vec Ideal S1x1024 .f32) (t : Vec Ideal S512x1024 .f32) (l : Fin 1024) :
    k0_pay3 (F := Ideal) (k0_pay10 v0 v3 v13 v15) (k0_pay11 v0 v3 v13 v15 n t) (ix2 0 l)
      = ∑ r : Fin 512, OutLoss.dy (yrow v0 v3 v13 v15 r) (fun k => n (ix2 0 k)) (fun k => t (ix2 r k)) l * Inproj.xhat (yrow v0 v3 v13 v15 r) l := by
  pointwise [k0_pay3]
  simp only [pay2_apply, pay10_apply]

/-- The block of the residual stream's gradient. -/
theorem dx_apply (v0 : Vec Ideal S512x1024 .bf16) (v3 v13 : Vec Ideal S512x1024 .f32) (v15 : Vec Ideal S1024x1024 .bf16) (n : Vec Ideal S1x1024 .f32) (t : Vec Ideal S512x1024 .f32) (r : Fin 512) (l : Fin 1024) :
    k0_pay4 (F := Ideal) (k0_pay9 v0 v3 v13 v15) (k0_pay10 v0 v3 v13 v15) (k0_pay11 v0 v3 v13 v15 n t) n (ix2 r l)
      = Inproj.dxKernel (yrow v0 v3 v13 v15 r) (fun k => n (ix2 0 k)) (OutLoss.dy (yrow v0 v3 v13 v15 r) (fun k => n (ix2 0 k)) (fun k => t (ix2 r k))) 0 l := by
  pointwise [k0_pay4]
  simp only [pay2_apply, pay9_apply, pay10_apply]
  exact (add_zero _).symm

theorem loss_first (v0 : Vec Ideal S512x1024 .bf16) (v3 v13 : Vec Ideal S512x1024 .f32) (v15 : Vec Ideal S1024x1024 .bf16) (n : Vec Ideal S1x1024 .f32) (t : Vec Ideal S512x1024 .f32) (a : Fin 8) (b : Fin 128) :
    k0_pay5 (F := Ideal) (k0_pay12 v0 v3 v13 v15 n t) (Scalar.ofBits .f32 0x44800000#32) (ix2 a b)
      = Ideal.ofBits .f32 0x3F000000#32 * ∑ r : Fin 512, OutLoss.mse (yrow v0 v3 v13 v15 r) (fun k => n (ix2 0 k)) (fun k => t (ix2 r k)) := by
  pointwise [k0_pay5]
  exact pay1_apply v0 v3 v13 v15 n t

theorem loss_next (v0 : Vec Ideal S512x1024 .bf16) (v3 v13 : Vec Ideal S512x1024 .f32) (v15 : Vec Ideal S1024x1024 .bf16) (n : Vec Ideal S1x1024 .f32) (t : Vec Ideal S512x1024 .f32) (p : Vec Ideal S8x128 .f32) (a : Fin 8) (b : Fin 128) :
    k0_pay6 (F := Ideal) (k0_pay12 v0 v3 v13 v15 n t) (Scalar.ofBits .f32 0x44800000#32) p (ix2 a b)
      = p (ix2 a b) + Ideal.ofBits .f32 0x3F000000#32 * ∑ r : Fin 512, OutLoss.mse (yrow v0 v3 v13 v15 r) (fun k => n (ix2 0 k)) (fun k => t (ix2 r k)) := by
  pointwise [k0_pay6]
  exact congrArg (p (ix2 a b) + ·) (pay1_apply v0 v3 v13 v15 n t)

theorem dn_next (v0 : Vec Ideal S512x1024 .bf16) (v3 v13 : Vec Ideal S512x1024 .f32) (v15 : Vec Ideal S1024x1024 .bf16) (n : Vec Ideal S1x1024 .f32) (t : Vec Ideal S512x1024 .f32) (p : Vec Ideal S1x1024 .f32) (l : Fin 1024) :
    k0_pay7 (F := Ideal) (k0_pay10 v0 v3 v13 v15) (k0_pay11 v0 v3 v13 v15 n t) p (ix2 0 l)
      = p (ix2 0 l) + ∑ r : Fin 512, OutLoss.dy (yrow v0 v3 v13 v15 r) (fun k => n (ix2 0 k)) (fun k => t (ix2 r k)) l * Inproj.xhat (yrow v0 v3 v13 v15 r) l := by
  pointwise [k0_pay7]
  rw [pay3_apply]

/-! ## The arguments and their blocks -/

def O (c : Dev nD) (r : Fin 8192) (k : Fin 1024) : EReal := m ((c : Thread nD τ).loc main_arg0) (ix2 r k)
def G (c : Dev nD) (r : Fin 8192) (k : Fin 1024) : EReal := m ((c : Thread nD τ).loc main_arg1) (ix2 r k)
def X (c : Dev nD) (r : Fin 8192) (k : Fin 1024) : EReal := m ((c : Thread nD τ).loc main_arg2) (ix2 r k)
def W (c : Dev nD) (k : Fin 1024) (q : Fin 1024) : EReal := m ((c : Thread nD τ).loc main_arg3) (ix2 k q)
def N (c : Dev nD) (k : Fin 1024) : EReal := m ((c : Thread nD τ).loc main_arg4) (ix1 k)
def T (c : Dev nD) (r : Fin 8192) (k : Fin 1024) : EReal := m ((c : Thread nD τ).loc main_arg5) (ix2 r k)

theorem idx0 : ∀ t : Fin grid0.N, win0_0.index t 0 = t.val ∧ win0_0.index t 1 = 0 := by decide +kernel
theorem idx1 : ∀ t : Fin grid0.N, win0_1.index t 0 = t.val ∧ win0_1.index t 1 = 0 := by decide +kernel
theorem idx2 : ∀ t : Fin grid0.N, win0_2.index t 0 = t.val ∧ win0_2.index t 1 = 0 := by decide +kernel
theorem idx3 : ∀ t : Fin grid0.N, win0_3.index t 0 = 0 ∧ win0_3.index t 1 = 0 := by decide +kernel
theorem idx4 : ∀ t : Fin grid0.N, win0_4.index t 0 = 0 ∧ win0_4.index t 1 = 0 := by decide +kernel
theorem idx5 : ∀ t : Fin grid0.N, win0_5.index t 0 = t.val ∧ win0_5.index t 1 = 0 := by decide +kernel
theorem idx7 : ∀ t : Fin grid0.N, win0_7.index t 0 = t.val ∧ win0_7.index t 1 = 0 := by decide +kernel

theorem rv (t : Fin cfg0.N) (r : Fin 512) : (Inproj.row t.val r).val = t.val * 512 + r.val :=
  Inproj.row_val (by have := t.isLt; have : cfg0.N = 16 := N_0; omega) r

theorem b0 (c : Dev nD) (t : Fin cfg0.N) (r : Fin 512) (l : Fin 1024) : iblk m c 0 t (ix2 r l) = O m c (Inproj.row t.val r) l := by
  unfold O
  blk_point [iblk, rv, (idx0 t).1, (idx0 t).2]
theorem b1 (c : Dev nD) (t : Fin cfg0.N) (r : Fin 512) (l : Fin 1024) : iblk m c 1 t (ix2 r l) = G m c (Inproj.row t.val r) l := by
  unfold G
  blk_point [iblk, rv, (idx1 t).1, (idx1 t).2]
theorem b2 (c : Dev nD) (t : Fin cfg0.N) (r : Fin 512) (l : Fin 1024) : iblk m c 2 t (ix2 r l) = X m c (Inproj.row t.val r) l := by
  unfold X
  blk_point [iblk, rv, (idx2 t).1, (idx2 t).2]
theorem b3 (c : Dev nD) (t : Fin cfg0.N) (k : Fin 1024) (q : Fin 1024) : iblk m c 3 t (ix2 k q) = W m c k q := by
  unfold W
  blk_point [iblk, (idx3 t).1, (idx3 t).2]
theorem b4 (c : Dev nD) (t : Fin cfg0.N) (l : Fin 1024) : iblk m c 4 t (ix2 0 l) = N m c l := by
  unfold N
  blk_point [iblk, (idx4 t).1, (idx4 t).2]
theorem b5 (c : Dev nD) (t : Fin cfg0.N) (r : Fin 512) (l : Fin 1024) : iblk m c 5 t (ix2 r l) = T m c (Inproj.row t.val r) l := by
  unfold T
  blk_point [iblk, rv, (idx5 t).1, (idx5 t).2]

theorem yrow_at (c : Dev nD) (t : Fin cfg0.N) (r : Fin 512) :
    yrow (iblk m c 1 t) (iblk m c 0 t) (iblk m c 2 t) (iblk m c 3 t) r = OutLoss.Y (O m c) (G m c) (X m c) (W m c) (Inproj.row t.val r) := by
  unfold yrow OutLoss.Y
  simp only [b0, b1, b2, b3]

/-! ## The buffers after a point -/

theorem outs_A (c : Dev nD) (t : Fin cfg0.N) (h : t.val % 16 = 0) (h' : ¬1 ≤ t.val) :
    outsAt0 m c t.val t.isLt
      = (k0_pay5 (F := Ideal) (k0_pay12 (iblk m c 1 t) (iblk m c 0 t) (iblk m c 2 t) (iblk m c 3 t) (iblk m c 4 t) (iblk m c 5 t)) (Scalar.ofBits .f32 0x44800000#32),
        k0_pay4 (k0_pay9 (iblk m c 1 t) (iblk m c 0 t) (iblk m c 2 t) (iblk m c 3 t)) (k0_pay10 (iblk m c 1 t) (iblk m c 0 t) (iblk m c 2 t) (iblk m c 3 t)) (k0_pay11 (iblk m c 1 t) (iblk m c 0 t) (iblk m c 2 t) (iblk m c 3 t) (iblk m c 4 t) (iblk m c 5 t)) (iblk m c 4 t),
        k0_pay3 (k0_pay10 (iblk m c 1 t) (iblk m c 0 t) (iblk m c 2 t) (iblk m c 3 t)) (k0_pay11 (iblk m c 1 t) (iblk m c 0 t) (iblk m c 2 t) (iblk m c 3 t) (iblk m c 4 t) (iblk m c 5 t))) := by
  rw [outsAt0_A m c t h h']
  refine Prod.ext ?_ (Prod.ext ?_ ?_) <;> dsimp only <;> frame_out

theorem outs_B (c : Dev nD) (t : Fin cfg0.N) (h : ¬t.val % 16 = 0) (h' : 1 ≤ t.val) :
    outsAt0 m c t.val t.isLt
      = (k0_pay6 (F := Ideal) (k0_pay12 (iblk m c 1 t) (iblk m c 0 t) (iblk m c 2 t) (iblk m c 3 t) (iblk m c 4 t) (iblk m c 5 t)) (Scalar.ofBits .f32 0x44800000#32) (outsAt0 m c (t.val - 1) (Nat.lt_of_le_of_lt (Nat.sub_le _ _) t.isLt)).1,
        k0_pay4 (k0_pay9 (iblk m c 1 t) (iblk m c 0 t) (iblk m c 2 t) (iblk m c 3 t)) (k0_pay10 (iblk m c 1 t) (iblk m c 0 t) (iblk m c 2 t) (iblk m c 3 t)) (k0_pay11 (iblk m c 1 t) (iblk m c 0 t) (iblk m c 2 t) (iblk m c 3 t) (iblk m c 4 t) (iblk m c 5 t)) (iblk m c 4 t),
        k0_pay7 (k0_pay10 (iblk m c 1 t) (iblk m c 0 t) (iblk m c 2 t) (iblk m c 3 t)) (k0_pay11 (iblk m c 1 t) (iblk m c 0 t) (iblk m c 2 t) (iblk m c 3 t) (iblk m c 4 t) (iblk m c 5 t)) (outsAt0 m c (t.val - 1) (Nat.lt_of_le_of_lt (Nat.sub_le _ _) t.isLt)).2.2) := by
  rw [outsAt0_B m c t h h']
  refine Prod.ext ?_ (Prod.ext ?_ ?_) <;> dsimp only <;> frame_out

theorem first (t : Fin cfg0.N) (h : t.val % 16 = 0) : ¬1 ≤ t.val := by
  have := t.isLt
  have : cfg0.N = 16 := N_0
  omega

theorem next (t : Fin cfg0.N) (h : ¬t.val % 16 = 0) : 1 ≤ t.val := by omega

theorem dx_at (c : Dev nD) (t : Fin cfg0.N) (r : Fin 512) (l : Fin 1024) :
    (outsAt0 m c t.val t.isLt).2.1 (ix2 r l) = OutLoss.gradX (O m c) (G m c) (X m c) (W m c) (N m c) (T m c) (Inproj.row t.val r) l := by
  have e : (outsAt0 m c t.val t.isLt).2.1 = k0_pay4 (F := Ideal) (k0_pay9 (iblk m c 1 t) (iblk m c 0 t) (iblk m c 2 t) (iblk m c 3 t)) (k0_pay10 (iblk m c 1 t) (iblk m c 0 t) (iblk m c 2 t) (iblk m c 3 t)) (k0_pay11 (iblk m c 1 t) (iblk m c 0 t) (iblk m c 2 t) (iblk m c 3 t) (iblk m c 4 t) (iblk m c 5 t)) (iblk m c 4 t) := by
    by_cases h : t.val % 16 = 0
    · rw [outs_A m c t h (first t h)]
    · rw [outs_B m c t h (next t h)]
  rw [e, dx_apply]
  simp only [yrow_at, b4, b5]
  rfl

theorem loss_at (c : Dev nD) (t : Fin cfg0.N) (j : S8x128.Idx) :
    (outsAt0 m c t.val t.isLt).1 j = (0 : EReal) + ∑ p ∈ Finset.range (t.val + 1),
      Ideal.ofBits .f32 0x3F000000#32 * ∑ r : Fin 512, OutLoss.mse (OutLoss.Y (O m c) (G m c) (X m c) (W m c) (Inproj.row p r)) (N m c) (T m c (Inproj.row p r)) := by
  refine Pipeline.eq_sum_of_reset_step_apply_single (M := EReal) (fun n h => (outsAt0 m c n h).1) 16 (fun _ => (0 : EReal))
    (fun p (_ : S8x128.Idx) => Ideal.ofBits .f32 0x3F000000#32 * ∑ r : Fin 512,
      OutLoss.mse (OutLoss.Y (O m c) (G m c) (X m c) (W m c) (Inproj.row p r)) (N m c) (T m c (Inproj.row p r)))
    (fun t h j => ?_) (fun t h j => ?_) (by rw [show cfg0.N = 16 from N_0]) t j
  · obtain ⟨a, b, rfl⟩ : ∃ a b, j = ix2 a b := ⟨_, _, eq_ix2 j⟩
    rw [outs_A m c t h (first t h)]
    dsimp only
    rw [loss_first]
    simp only [yrow_at, b4, b5]
    exact (zero_add _).symm
  · obtain ⟨a, b, rfl⟩ : ∃ a b, j = ix2 a b := ⟨_, _, eq_ix2 j⟩
    rw [outs_B m c t h (next t h)]
    dsimp only
    rw [loss_next]
    simp only [yrow_at, b4, b5]

theorem dn_at (c : Dev nD) (t : Fin cfg0.N) (j : S1x1024.Idx) :
    (outsAt0 m c t.val t.isLt).2.2 j = (0 : EReal) + ∑ p ∈ Finset.range (t.val + 1), ∑ r : Fin 512,
      OutLoss.dy (OutLoss.Y (O m c) (G m c) (X m c) (W m c) (Inproj.row p r)) (N m c) (T m c (Inproj.row p r)) (j 1)
        * Inproj.xhat (OutLoss.Y (O m c) (G m c) (X m c) (W m c) (Inproj.row p r)) (j 1) := by
  refine Pipeline.eq_sum_of_reset_step_apply_single (M := EReal) (fun n h => (outsAt0 m c n h).2.2) 16 (fun _ => (0 : EReal))
    (fun p (j : S1x1024.Idx) => ∑ r : Fin 512,
      OutLoss.dy (OutLoss.Y (O m c) (G m c) (X m c) (W m c) (Inproj.row p r)) (N m c) (T m c (Inproj.row p r)) (j 1)
        * Inproj.xhat (OutLoss.Y (O m c) (G m c) (X m c) (W m c) (Inproj.row p r)) (j 1))
    (fun t h j => ?_) (fun t h j => ?_) (by rw [show cfg0.N = 16 from N_0]) t j
  · obtain ⟨k, l, rfl⟩ : ∃ k l, j = ix2 k l := ⟨_, _, eq_ix2 j⟩
    obtain rfl : k = 0 := Subsingleton.elim _ _
    rw [outs_A m c t h (first t h)]
    dsimp only
    rw [pay3_apply]
    simp only [yrow_at, b4, b5]
    exact (zero_add _).symm
  · obtain ⟨k, l, rfl⟩ : ∃ k l, j = ix2 k l := ⟨_, _, eq_ix2 j⟩
    obtain rfl : k = 0 := Subsingleton.elim _ _
    rw [outs_B m c t h (next t h)]
    dsimp only
    rw [dn_next]
    simp only [yrow_at, b4, b5]
    rfl

/-! ## The results -/

theorem final_loss (c : Dev nD) : (dats m 0 c).arrAt 6 cfg0.N
    = fun _ : S8x128.Idx => OutLoss.loss (O m c) (G m c) (X m c) (W m c) (N m c) (T m c) := by
  refine (dats m 0 c).arrAt_eq_of_after_last 6 t0_15 (by decide +kernel) _ fun j => ?_
  blk_simp
  rw [after0_6, loss_at, zero_add]
  exact OutLoss.loss_blocks fun r => OutLoss.mse (OutLoss.Y (O m c) (G m c) (X m c) (W m c) r) (N m c) (T m c r)

theorem final_dx (c : Dev nD) : (dats m 0 c).arrAt 7 cfg0.N
    = fun j : S8192x1024.Idx => OutLoss.gradX (O m c) (G m c) (X m c) (W m c) (N m c) (T m c) (j 0) (j 1) := by
  refine (dats m 0 c).arrAt_eq_of_covers 7 _ (by decide +kernel) fun t hf y => ?_
  blk_simp
  rw [after0_7]
  obtain ⟨r, l, rfl⟩ : ∃ r l, y = ix2 r l := ⟨_, _, eq_ix2 y⟩
  rw [dx_at]
  congr 1
  · refine Fin.ext ?_
    rw [rv]
    blk_simp [(idx7 t).1]
  · refine Fin.ext ?_
    blk_simp [(idx7 t).2]

theorem final_dn (c : Dev nD) : (dats m 0 c).arrAt 8 cfg0.N
    = fun j : S1x1024.Idx => OutLoss.gradN (O m c) (G m c) (X m c) (W m c) (N m c) (T m c) (j 1) := by
  refine (dats m 0 c).arrAt_eq_of_after_last 8 t0_15 (by decide +kernel) _ fun j => ?_
  blk_simp
  rw [after0_8, dn_at, zero_add]
  exact Inproj.sum_rows fun r => OutLoss.dy (OutLoss.Y (O m c) (G m c) (X m c) (W m c) r) (N m c) (T m c r) (j 1) * Inproj.xhat (OutLoss.Y (O m c) (G m c) (X m c) (W m c) r) (j 1)

end Cert.Kernel12Ideal.OutLossValue

end
-- ==== Proof.AttnOutLossReference.lean ====
/-
  The values of the reference for the last attention layer's output and the loss.
-/
module

public import proofs.«01_k».proof.Proof.Gen.Reference12Ideal.Read
public import proofs.«01_k».proof.Proof.OutLossMath
public import Idealize.ShloMosaic.Lib.Pointwise

@[expose] public section

set_option maxRecDepth 16384

noncomputable section

namespace Cert.Reference12Ideal.OutLossValue

open Cert.Reference12Ideal Cert.Reference12Ideal.Gen Idealize.ShloMosaic Idealize.ShloMosaic.TcCoe Idealize.SL.Sem Cert.Proof
open Cert.Reference12Ideal.Read

abbrev Mat (a b : ℕ) := (⟨⟨2, ![a, b]⟩, .f32⟩ : BufTy).Contents (Elt Ideal)
abbrev Col (a : ℕ) := (⟨⟨1, ![a]⟩, .f32⟩ : BufTy).Contents (Elt Ideal)

variable (o g x : Mat 8192 1024) (w : Mat 1024 1024) (n : Col 1024) (t : Mat 8192 1024)

/-- A row of the residual stream. -/
def Y (r : Fin 8192) : Fin 1024 → EReal :=
  OutLoss.Y (fun r k => o (ix2 r k)) (fun r k => g (ix2 r k)) (fun r k => x (ix2 r k)) (fun k q => w (ix2 k q)) r

theorem silu_apply (r : Fin 8192) (l : Fin 1024) : val_main_v0 (F := Ideal) g (ix2 r l) = Gate.silu (g (ix2 r l)) := by
  pointwise [val_main_v0, val_main_call0_v5, val_main_call0_v4, val_main_call0_v3, val_main_call0_v2, val_main_call0_v1,
    val_main_call0_v0, val_main_call0_cst, val_main_call0_cst_0]
  rw [Gate.sgRef_sg]
  rfl

theorem stream_apply (r : Fin 8192) (l : Fin 1024) : val_main_v3 (F := Ideal) o g x w (ix2 r l) = Y o g x w r l := by
  pointwise [val_main_v3, val_main_v2, val_main_v1]
  simp only [silu_apply]
  rfl

theorem var_apply (r : Fin 8192) : val_main_v10 (F := Ideal) o g x w (ix2 r 0) = Inproj.var (Y o g x w r) := by
  pointwise [val_main_v10, val_main_v9, val_main_v8, val_main_v7, val_main_v6, val_main_v5, val_main_v4, val_main_cst,
    val_main_cst_0, val_main_cst_1]
  simp only [stream_apply]
  rfl

theorem rstd_apply (r : Fin 8192) : val_main_v11 (F := Ideal) o g x w (ix2 r 0) = Inproj.rstd (Y o g x w r) := by
  pointwise [val_main_v11]
  rw [var_apply]
  rfl

theorem xhat_apply (r : Fin 8192) (l : Fin 1024) : val_main_v16 (F := Ideal) o g x w (ix2 r l) = Inproj.xhat (Y o g x w r) l := by
  pointwise [val_main_v16, val_main_v15]
  rw [rstd_apply, stream_apply]
  rfl

theorem err_apply (r : Fin 8192) (l : Fin 1024) :
    val_main_v20 (F := Ideal) o g x w n t (ix2 r l) = OutLoss.err (Y o g x w r) (fun k => n (ix1 k)) (fun k => t (ix2 r k)) l := by
  pointwise [val_main_v20, val_main_v19, val_main_v18, val_main_v17]
  rw [xhat_apply]
  rfl

theorem mse_apply (r : Fin 8192) : val_main_v26 (F := Ideal) o g x w n t (ix1 r) = OutLoss.mse (Y o g x w r) (fun k => n (ix1 k)) (fun k => t (ix2 r k)) := by
  pointwise [val_main_v26, val_main_v25, val_main_v24, val_main_v21, val_main_cst_4, val_main_cst_5]
  simp only [err_apply]
  rfl

theorem loss_apply (a : Fin 8) (b : Fin 128) :
    val_main_v55 (F := Ideal) o g x w n t (ix2 a b)
      = OutLoss.loss (fun r k => o (ix2 r k)) (fun r k => g (ix2 r k)) (fun r k => x (ix2 r k)) (fun k q => w (ix2 k q))
          (fun k => n (ix1 k)) fun r k => t (ix2 r k) := by
  pointwise [val_main_v55, val_main_v28, val_main_v27, val_main_cst_6, val_main_cst_7]
  simp only [mse_apply]
  rfl

theorem dy_apply (r : Fin 8192) (l : Fin 1024) :
    val_main_v34 (F := Ideal) o g x w n t (ix2 r l) = OutLoss.dy (Y o g x w r) (fun k => n (ix1 k)) (fun k => t (ix2 r k)) l := by
  pointwise [val_main_v34, val_main_v33, val_main_v32, val_main_v31, val_main_v30, val_main_v29, val_main_v23, val_main_v22,
    val_main_cst_3, val_main_cst_8, val_main_cst_9, val_main_cst_10]
  rw [err_apply]
  exact OutLoss.dy_eq _

theorem dn_apply (l : Fin 1024) :
    val_main_v56 (F := Ideal) o g x w n t (ix2 0 l)
      = OutLoss.gradN (fun r k => o (ix2 r k)) (fun r k => g (ix2 r k)) (fun r k => x (ix2 r k)) (fun k q => w (ix2 k q))
          (fun k => n (ix1 k)) (fun r k => t (ix2 r k)) l := by
  pointwise [val_main_v56, val_main_v40, val_main_v37, val_main_v36, val_main_v35, val_main_cst_11, val_main_cst_12]
  rw [Fin.sum_univ_one]
  simp only [dy_apply, xhat_apply]
  exact Finset.sum_congr rfl fun r _ => mul_comm _ _

theorem dg_apply (r : Fin 8192) (l : Fin 1024) :
    val_main_v39 (F := Ideal) o g x w n t (ix2 r l)
      = Inproj.scaled (fun k => n (ix1 k)) (OutLoss.dy (Y o g x w r) (fun k => n (ix1 k)) (fun k => t (ix2 r k))) l := by
  pointwise [val_main_v39, val_main_v38, val_main_v17]
  rw [dy_apply]
  rfl

theorem back_apply (r : Fin 8192) (l : Fin 1024) :
    val_main_v50 (F := Ideal) o g x w n t (ix2 r l)
      = Inproj.back (Y o g x w r) (fun k => n (ix1 k)) (OutLoss.dy (Y o g x w r) (fun k => n (ix1 k)) (fun k => t (ix2 r k))) := by
  pointwise [val_main_v50, val_main_v49, val_main_v48, val_main_v47, val_main_v46, val_main_v43, val_main_v42, val_main_v41,
    val_main_v14, val_main_v13, val_main_v12, val_main_cst_2, val_main_cst_13, val_main_cst_14, val_main_cst_15]
  rw [Fin.sum_univ_one]
  simp only [dg_apply, var_apply, rstd_apply, stream_apply]
  rfl

theorem dx_apply (r : Fin 8192) (l : Fin 1024) :
    val_main_v54 (F := Ideal) o g x w n t (ix2 r l)
      = Inproj.dxReference (Y o g x w r) (fun k => n (ix1 k)) (OutLoss.dy (Y o g x w r) (fun k => n (ix1 k)) (fun k => t (ix2 r k))) 0 l := by
  pointwise [val_main_v54, val_main_v53, val_main_v52, val_main_v51, val_main_v45, val_main_v44]
  simp only [dg_apply, back_apply, rstd_apply, stream_apply]
  rw [Inproj.dxReference, zero_add]
  rfl

end Cert.Reference12Ideal.OutLossValue

end
-- ==== Proof.AttnOutLoss.lean ====
/-
  The two claims about the values of the last attention layer's output, the loss and the loss's gradients.
-/
module

public import proofs.«01_k».proof.Proof.AttnOutLossKernel
public import proofs.«01_k».proof.Proof.AttnOutLossReference
public import proofs.«01_k».proof.Defs

@[expose] public section

noncomputable section

namespace Cert.Proof.AttnOutLoss

open Idealize.ShloMosaic Idealize.SL.Sem

/-- The reference runs to its end, keeps its arguments and leaves the counters at zero. -/
theorem frame_reference : Cert.quiescent_Reference12Ideal := fun m ρ _ =>
  (θ_run _ _ _).mono (fun r h => ⟨fun c => (h c).2.2.2, Idealize.ShloMosaic.sem_eq_zero_of_no_sems (by decide) r.2⟩)
    (Cert.Reference12Ideal.Value.run (F := Ideal) m ρ)

/-- The kernel's three results are the reference's. -/
theorem algebraic : Cert.algebraic_Kernel12Ideal_Reference12Ideal := fun m g m' g' _ hm => by
  refine ⟨fun c => (Cert.Kernel12Ideal.Gen.dats m 0 c).arrAt 6 Cert.Kernel12Ideal.cfg0.N,
    fun c => (Cert.Kernel12Ideal.Gen.dats m 0 c).arrAt 7 Cert.Kernel12Ideal.cfg0.N,
    fun c => (Cert.Kernel12Ideal.Gen.dats m 0 c).arrAt 8 Cert.Kernel12Ideal.cfg0.N,
    Cert.Kernel12Ideal.Value.run_blocks (F := Ideal) m g, ?_⟩
  refine (θ_run _ _ _).mono (fun r h c => ⟨(h c).1.trans ?_, (h c).2.1.trans ?_, (h c).2.2.1.trans ?_, (h c).2.2.2⟩)
    (Cert.Reference12Ideal.Value.run (F := Ideal) m' g')
  · obtain ⟨h0, h1, h2, h3, h4, h5⟩ := hm c
    rw [Cert.Reference12Ideal.Read.val_main_v55_eq, h0, h1, h2, h3, h4, h5]
    refine Eq.trans (funext fun j => ?_) (Cert.Kernel12Ideal.OutLossValue.final_loss m c).symm
    obtain ⟨a, b, rfl⟩ : ∃ a b, j = ix2 a b := ⟨_, _, eq_ix2 j⟩
    rw [Cert.Reference12Ideal.OutLossValue.loss_apply]
    rfl
  · obtain ⟨h0, h1, h2, h3, h4, h5⟩ := hm c
    rw [Cert.Reference12Ideal.Read.val_main_v54_eq, h0, h1, h2, h3, h4, h5]
    refine Eq.trans (funext fun j => ?_) (Cert.Kernel12Ideal.OutLossValue.final_dx m c).symm
    obtain ⟨a, b, rfl⟩ : ∃ a b, j = ix2 a b := ⟨_, _, eq_ix2 j⟩
    rw [Cert.Reference12Ideal.OutLossValue.dx_apply]
    exact (Inproj.dx_eq _ _ _ _ _).symm
  · obtain ⟨h0, h1, h2, h3, h4, h5⟩ := hm c
    rw [Cert.Reference12Ideal.Read.val_main_v56_eq, h0, h1, h2, h3, h4, h5]
    refine Eq.trans (funext fun j => ?_) (Cert.Kernel12Ideal.OutLossValue.final_dn m c).symm
    obtain ⟨a, b, rfl⟩ : ∃ a b, j = ix2 a b := ⟨_, _, eq_ix2 j⟩
    obtain rfl : a = 0 := Subsingleton.elim _ _
    rw [Cert.Reference12Ideal.OutLossValue.dn_apply]
    rfl

end Cert.Proof.AttnOutLoss

end
-- ==== Proof.SsmInMath.lean ====
/-
  The products that enter the recurrence: one entry of the two results.
-/
module

public import Idealize.ShloMosaic.Lib.Pipeline.ValueKit
public import Idealize.ShloMosaic.Lib.Pointwise

@[expose] public section

noncomputable section

namespace Cert.Proof.SsmIn

open Idealize.ShloMosaic

/-- The row of position `s` of block `b`. -/
def row (b : Fin 512) (s : Fin 16) : Fin 8192 := ⟨b.val * 16 + s.val, by omega⟩

/-- The position of entry `q` of a group's block. -/
def hi (q : Fin 256) : Fin 16 := ⟨q.val / 16, by omega⟩

/-- The channel of entry `q` of a group's block. -/
def lo (q : Fin 256) : Fin 16 := ⟨q.val % 16, by omega⟩

/-- Channel `l` of group `g` of an octet. -/
def channel (g : Fin 8) (l : Fin 16) : Fin 128 := ⟨16 * g.val + l.val, by omega⟩

/-- Channel `l` of group `g`. -/
def column (g : Fin 64) (l : Fin 16) : Fin 1024 := ⟨16 * g.val + l.val, by omega⟩

/-- The state a lane of two groups' states belongs to. -/
def state (l : Fin 128) : Fin 64 := ⟨l.val % 64, by omega⟩

/-- The row of the matrix that gives the real part of state `p`. -/
def reRow (p : Fin 64) : Fin 128 := ⟨p.val, by omega⟩

/-- The row of the matrix that gives the imaginary part of state `p`. -/
def imRow (p : Fin 64) : Fin 128 := ⟨64 + p.val, by omega⟩

/-- The group of a column of states. -/
def group (j : Fin 4096) : Fin 64 := ⟨j.val / 64, by omega⟩

/-- The state of a column of states. -/
def place (j : Fin 4096) : Fin 64 := ⟨j.val % 64, by omega⟩

/-- Row `k` of group `g`'s matrix times block `b` of the group. -/
def entry (u : Fin 8192 → Fin 1024 → EReal) (w : Fin 64 → Fin 128 → Fin 256 → EReal) (b : Fin 512) (g : Fin 64) (k : Fin 128) : EReal :=
  ∑ q : Fin 256, w g k q * u (row b (hi q)) (column g (lo q))

end Cert.Proof.SsmIn

end
-- ==== Proof.SsmInKernel.lean ====
/-
  The values of the kernel for the products that enter the recurrence: its two results are `SsmIn.entry` of the
  arguments.
-/
module

public import proofs.«01_k».proof.Proof.Gen.Kernel13Ideal.Value
public import proofs.«01_k».proof.Proof.SsmInMath
public import Idealize.ShloMosaic.Lib.Pipeline.ValueKit
public import Idealize.ShloMosaic.Lib.Pointwise

@[expose] public section

set_option maxRecDepth 16384

noncomputable section

namespace Cert.Kernel13Ideal.SsmInValue

open Cert.Kernel13Ideal Cert.Kernel13Ideal.Gen Idealize.ShloMosaic Idealize.ShloMosaic.TcCoe Idealize.SL.Sem Cert.Proof

variable (m : (ℓ : Loc nD τ sig) → Buf (Elt Ideal) ℓ)

/-! ## The payloads -/

/-- The sixteen positions of every block, turned over. -/
def pos (a : Vec Ideal S8192x128 .f32) : Fin 16 → FVec Ideal S128x512 .f32 := ![k0_pay5 a, k0_pay6 a, k0_pay7 a, k0_pay8 a, k0_pay9 a, k0_pay10 a, k0_pay11 a, k0_pay12 a, k0_pay13 a, k0_pay14 a, k0_pay15 a, k0_pay16 a, k0_pay17 a, k0_pay18 a, k0_pay19 a, k0_pay20 a]

theorem pos_apply (a : Vec Ideal S8192x128 .f32) (s : Fin 16) (l : Fin 128) (b : Fin 512) :
    pos a s (ix2 l b) = a (ix2 (SsmIn.row b s) l) := by
  fin_cases s
  · show k0_pay5 a (ix2 l b) = _
    pointwise [k0_pay5, k0_pay4]
    rfl
  · show k0_pay6 a (ix2 l b) = _
    pointwise [k0_pay6, k0_pay4]
    rfl
  · show k0_pay7 a (ix2 l b) = _
    pointwise [k0_pay7, k0_pay4]
    rfl
  · show k0_pay8 a (ix2 l b) = _
    pointwise [k0_pay8, k0_pay4]
    rfl
  · show k0_pay9 a (ix2 l b) = _
    pointwise [k0_pay9, k0_pay4]
    rfl
  · show k0_pay10 a (ix2 l b) = _
    pointwise [k0_pay10, k0_pay4]
    rfl
  · show k0_pay11 a (ix2 l b) = _
    pointwise [k0_pay11, k0_pay4]
    rfl
  · show k0_pay12 a (ix2 l b) = _
    pointwise [k0_pay12, k0_pay4]
    rfl
  · show k0_pay13 a (ix2 l b) = _
    pointwise [k0_pay13, k0_pay4]
    rfl
  · show k0_pay14 a (ix2 l b) = _
    pointwise [k0_pay14, k0_pay4]
    rfl
  · show k0_pay15 a (ix2 l b) = _
    pointwise [k0_pay15, k0_pay4]
    rfl
  · show k0_pay16 a (ix2 l b) = _
    pointwise [k0_pay16, k0_pay4]
    rfl
  · show k0_pay17 a (ix2 l b) = _
    pointwise [k0_pay17, k0_pay4]
    rfl
  · show k0_pay18 a (ix2 l b) = _
    pointwise [k0_pay18, k0_pay4]
    rfl
  · show k0_pay19 a (ix2 l b) = _
    pointwise [k0_pay19, k0_pay4]
    rfl
  · show k0_pay20 a (ix2 l b) = _
    pointwise [k0_pay20, k0_pay4]
    rfl

/-- The sixteen channels of group `g`. -/
def take (g : Fin 8) (v : FVec Ideal S128x512 .f32) : FVec Ideal S16x512 .f32 :=
  extractStridedSlice S16x512 ![16 * g.val, 0] v (by fin_cases g <;> decide)

theorem take_apply (g : Fin 8) (v : FVec Ideal S128x512 .f32) (l : Fin 16) (b : Fin 512) :
    take g v (ix2 l b) = v (ix2 (SsmIn.channel g l) b) := by
  fin_cases g <;> (unfold take; pointwise; exact congrArg (fun k => v (ix2 k b)) (Fin.ext (by simp [SsmIn.channel])))

/-- Sixteen pieces one under the other. -/
def gathered (f : Fin 16 → FVec Ideal S16x512 .f32) : FVec Ideal S256x512 .f32 :=
  concatenate S256x512 0 [⟨S16x512, f 0⟩, ⟨S16x512, f 1⟩, ⟨S16x512, f 2⟩, ⟨S16x512, f 3⟩, ⟨S16x512, f 4⟩, ⟨S16x512, f 5⟩, ⟨S16x512, f 6⟩, ⟨S16x512, f 7⟩, ⟨S16x512, f 8⟩, ⟨S16x512, f 9⟩, ⟨S16x512, f 10⟩, ⟨S16x512, f 11⟩, ⟨S16x512, f 12⟩, ⟨S16x512, f 13⟩, ⟨S16x512, f 14⟩, ⟨S16x512, f 15⟩] concatenates_S16x512_S16x512_S16x512_S16x512_S16x512_S16x512_S16x512_S16x512_S16x512_S16x512_S16x512_S16x512_S16x512_S16x512_S16x512_S16x512_S256x512_d0

theorem gathered_apply (f : Fin 16 → FVec Ideal S16x512 .f32) (q : Fin 256) (b : Fin 512) :
    gathered f (ix2 q b) = f (SsmIn.hi q) (ix2 (SsmIn.lo q) b) := by
  unfold gathered
  refine concatenate_ofFn_apply (t := S256x512) (s₁ := S16x512) 0 f _ rfl 16 rfl (ix2 q b) (SsmIn.hi q) ?_ (ix2 (SsmIn.lo q) b) ?_ ?_
  · rfl
  · rfl
  · intro c hc
    fin_cases c
    · exact absurd rfl hc
    · rfl

/-- The product of group `g`. -/
def product (P : Fin 16 → FVec Ideal S128x512 .f32) (g : Fin 8) (w : Vec Ideal S1x128x256 .bf16) : FVec Ideal S128x512 .f32 :=
  k0_pay1 (k0_pay21 w) (truncf .bf16 (gathered fun s => take g (P s)) bitsLt_bf16_f32)

theorem pay1_apply (w : FVec Ideal S128x256 .bf16) (x : FVec Ideal S256x512 .bf16) (k : Fin 128) (b : Fin 512) :
    k0_pay1 w x (ix2 k b) = ∑ q : Fin 256, w (ix2 k q) * x (ix2 q b) := by
  pointwise [k0_pay1]

theorem pay21_apply (w : Vec Ideal S1x128x256 .bf16) (k : Fin 128) (q : Fin 256) : k0_pay21 w (ix2 k q) = w (ix3 0 k q) := by
  pointwise [k0_pay21]

theorem product_apply (a : Vec Ideal S8192x128 .f32) (g : Fin 8) (w : Vec Ideal S1x128x256 .bf16) (k : Fin 128) (b : Fin 512) :
    product (pos a) g w (ix2 k b) = ∑ q : Fin 256, w (ix3 0 k q) * a (ix2 (SsmIn.row b (SsmIn.hi q)) (SsmIn.channel g (SsmIn.lo q))) := by
  unfold product
  rw [pay1_apply]
  refine Finset.sum_congr rfl fun q _ => ?_
  rw [pay21_apply]
  refine congrArg (w (ix3 0 k q) * ·) ?_
  refine (gathered_apply (fun s => take g (pos a s)) q b).trans ?_
  rw [take_apply, pos_apply]

/-- Rows 0 to 63 of two products, side by side. -/
def upper (x y : FVec Ideal S128x512 .f32) : FVec Ideal S512x128 .f32 := transpose S512x128 [1, 0] (concatenate S128x512 0
  [⟨S64x512, extractStridedSlice S64x512 ![0, 0] x slices_S128x512_o0_0_S64x512⟩, ⟨S64x512, extractStridedSlice S64x512 ![0, 0] y slices_S128x512_o0_0_S64x512⟩]
  concatenates_S64x512_S64x512_S128x512_d0) transposes_S128x512_p1_0_S512x128

/-- Rows 64 to 127 of two products, side by side. -/
def lower (x y : FVec Ideal S128x512 .f32) : FVec Ideal S512x128 .f32 := transpose S512x128 [1, 0] (concatenate S128x512 0
  [⟨S64x512, extractStridedSlice S64x512 ![64, 0] x slices_S128x512_o64_0_S64x512⟩, ⟨S64x512, extractStridedSlice S64x512 ![64, 0] y slices_S128x512_o64_0_S64x512⟩]
  concatenates_S64x512_S64x512_S128x512_d0) transposes_S128x512_p1_0_S512x128

theorem upper_apply (x y : FVec Ideal S128x512 .f32) (b : Fin 512) (l : Fin 128) :
    upper x y (ix2 b l) = (if l.val < 64 then x else y) (ix2 (SsmIn.reRow (SsmIn.state l)) b) := by
  pointwise [upper]
  by_cases h : l.val < 64
  · rw [if_pos h]
    refine (dif_pos h).trans (congrArg (fun k => x (ix2 k b)) (Fin.ext ?_))
    simp only [SsmIn.reRow, SsmIn.state]
    omega
  · rw [if_neg h]
    refine (dif_neg h).trans (congrArg (fun k => y (ix2 k b)) (Fin.ext ?_))
    simp only [SsmIn.reRow, SsmIn.state]
    omega

theorem lower_apply (x y : FVec Ideal S128x512 .f32) (b : Fin 512) (l : Fin 128) :
    lower x y (ix2 b l) = (if l.val < 64 then x else y) (ix2 (SsmIn.imRow (SsmIn.state l)) b) := by
  pointwise [lower]
  by_cases h : l.val < 64
  · rw [if_pos h]
    refine (dif_pos h).trans (congrArg (fun k => x (ix2 k b)) (Fin.ext ?_))
    simp only [SsmIn.imRow, SsmIn.state]
    omega
  · rw [if_neg h]
    refine (dif_neg h).trans (congrArg (fun k => y (ix2 k b)) (Fin.ext ?_))
    simp only [SsmIn.imRow, SsmIn.state]
    omega

/-! ## The blocks -/

theorem ld0 (x : Vec Ideal S8192x128 .f32) : View.ld x r0_0 = x := by
  funext j
  obtain ⟨a, l, rfl⟩ : ∃ a l, j = ix2 a l := ⟨_, _, eq_ix2 j⟩
  pointwise

/-- The matrix of group `g` of a block. -/
def mat (x : Vec Ideal S8x128x256 .bf16) : Fin 8 → Vec Ideal S1x128x256 .bf16 :=
  ![View.ld x r0_1, View.ld x r0_2, View.ld x r0_4, View.ld x r0_5, View.ld x r0_7, View.ld x r0_8, View.ld x r0_10, View.ld x r0_11]

theorem mat_apply (x : Vec Ideal S8x128x256 .bf16) (g : Fin 8) (k : Fin 128) (q : Fin 256) : mat x g (ix3 0 k q) = x (ix3 g k q) := by
  fin_cases g
  · show View.ld x r0_1 (ix3 0 k q) = _
    pointwise
  · show View.ld x r0_2 (ix3 0 k q) = _
    pointwise
  · show View.ld x r0_4 (ix3 0 k q) = _
    pointwise
  · show View.ld x r0_5 (ix3 0 k q) = _
    pointwise
  · show View.ld x r0_7 (ix3 0 k q) = _
    pointwise
  · show View.ld x r0_8 (ix3 0 k q) = _
    pointwise
  · show View.ld x r0_10 (ix3 0 k q) = _
    pointwise
  · show View.ld x r0_11 (ix3 0 k q) = _
    pointwise

theorem re_eq (x0 : Vec Ideal S8192x128 .f32) (x1 : Vec Ideal S8x128x256 .bf16) : out0_2 x0 x1
    = View.canon [⟨r0_12, upper (product (pos x0) 6 (mat x1 6)) (product (pos x0) 7 (mat x1 7))⟩,
        ⟨r0_9, upper (product (pos x0) 4 (mat x1 4)) (product (pos x0) 5 (mat x1 5))⟩,
        ⟨r0_6, upper (product (pos x0) 2 (mat x1 2)) (product (pos x0) 3 (mat x1 3))⟩,
        ⟨r0_3, upper (product (pos x0) 0 (mat x1 0)) (product (pos x0) 1 (mat x1 1))⟩] := by
  unfold_out out0_2
  rw [ld0]
  rfl

theorem im_eq (x0 : Vec Ideal S8192x128 .f32) (x1 : Vec Ideal S8x128x256 .bf16) : out0_3 x0 x1
    = View.canon [⟨r0_12, lower (product (pos x0) 6 (mat x1 6)) (product (pos x0) 7 (mat x1 7))⟩,
        ⟨r0_9, lower (product (pos x0) 4 (mat x1 4)) (product (pos x0) 5 (mat x1 5))⟩,
        ⟨r0_6, lower (product (pos x0) 2 (mat x1 2)) (product (pos x0) 3 (mat x1 3))⟩,
        ⟨r0_3, lower (product (pos x0) 0 (mat x1 0)) (product (pos x0) 1 (mat x1 1))⟩] := by
  unfold_out out0_3
  rw [ld0]
  rfl

/-- Lane `l` of piece `h`. -/
def lane (h : Fin 4) (l : Fin 128) : Fin 512 := ⟨128 * h.val + l.val, by omega⟩

theorem pieces_apply (p : Fin 4 → FVec Ideal S512x128 .f32) (b : Fin 512) (h : Fin 4) (l : Fin 128) :
    (View.canon [⟨r0_12, p 3⟩, ⟨r0_9, p 2⟩, ⟨r0_6, p 1⟩, ⟨r0_3, p 0⟩] : Vec Ideal S512x512 .f32) (ix2 b (lane h l)) = p h (ix2 b l) := by
  obtain rfl | rfl | rfl | rfl : h = 0 ∨ h = 1 ∨ h = 2 ∨ h = 3 := by omega
  · rw [View.canon_cons_of_not_mem _ _ (by
        rw [Rect.mem_set_unit]
        intro hm
        have := (hm 1).1
        simp [lane] at this
        omega),
      View.canon_cons_of_not_mem _ _ (by
        rw [Rect.mem_set_unit]
        intro hm
        have := (hm 1).1
        simp [lane] at this
        omega),
      View.canon_cons_of_not_mem _ _ (by
        rw [Rect.mem_set_unit]
        intro hm
        have := (hm 1).1
        simp [lane] at this
        omega),
      show (ix2 b (lane 0 l) : S512x512.Idx) = r0_3.emb (ix2 b l) from by
        funext a; refine Fin.ext ?_; rw [ValueKit.rect_emb_unit_val]; fin_cases a <;> simp [lane],
      View.canon_cons_emb]
  · rw [View.canon_cons_of_not_mem _ _ (by
        rw [Rect.mem_set_unit]
        intro hm
        have := (hm 1).1
        simp [lane] at this
        omega),
      View.canon_cons_of_not_mem _ _ (by
        rw [Rect.mem_set_unit]
        intro hm
        have := (hm 1).1
        simp [lane] at this
        omega),
      show (ix2 b (lane 1 l) : S512x512.Idx) = r0_6.emb (ix2 b l) from by
        funext a; refine Fin.ext ?_; rw [ValueKit.rect_emb_unit_val]; fin_cases a <;> simp [lane],
      View.canon_cons_emb]
  · rw [View.canon_cons_of_not_mem _ _ (by
        rw [Rect.mem_set_unit]
        intro hm
        have := (hm 1).1
        simp [lane] at this
        omega),
      show (ix2 b (lane 2 l) : S512x512.Idx) = r0_9.emb (ix2 b l) from by
        funext a; refine Fin.ext ?_; rw [ValueKit.rect_emb_unit_val]; fin_cases a <;> simp [lane],
      View.canon_cons_emb]
  · rw [show (ix2 b (lane 3 l) : S512x512.Idx) = r0_12.emb (ix2 b l) from by
        funext a; refine Fin.ext ?_; rw [ValueKit.rect_emb_unit_val]; fin_cases a <;> simp [lane],
      View.canon_cons_emb]

/-- The group of lane `l` of piece `h`. -/
def groupOf (h : Fin 4) (l : Fin 128) : Fin 8 := ⟨2 * h.val + l.val / 64, by omega⟩

theorem re_at (x0 : Vec Ideal S8192x128 .f32) (x1 : Vec Ideal S8x128x256 .bf16) (b : Fin 512) (h : Fin 4) (l : Fin 128) :
    out0_2 x0 x1 (ix2 b (lane h l)) = ∑ q : Fin 256, x1 (ix3 (groupOf h l) (SsmIn.reRow (SsmIn.state l)) q)
      * x0 (ix2 (SsmIn.row b (SsmIn.hi q)) (SsmIn.channel (groupOf h l) (SsmIn.lo q))) := by
  rw [re_eq]
  refine (pieces_apply ![upper (product (pos x0) 0 (mat x1 0)) (product (pos x0) 1 (mat x1 1)),
    upper (product (pos x0) 2 (mat x1 2)) (product (pos x0) 3 (mat x1 3)), upper (product (pos x0) 4 (mat x1 4)) (product (pos x0) 5 (mat x1 5)),
    upper (product (pos x0) 6 (mat x1 6)) (product (pos x0) 7 (mat x1 7))] b h l).trans ?_
  have e : ∀ g : Fin 8, groupOf h l = g → product (pos x0) g (mat x1 g) (ix2 (SsmIn.reRow (SsmIn.state l)) b)
      = ∑ q : Fin 256, x1 (ix3 (groupOf h l) (SsmIn.reRow (SsmIn.state l)) q)
        * x0 (ix2 (SsmIn.row b (SsmIn.hi q)) (SsmIn.channel (groupOf h l) (SsmIn.lo q))) := by
    intro g hg
    rw [product_apply, hg]
    simp only [mat_apply]
  obtain rfl | rfl | rfl | rfl : h = 0 ∨ h = 1 ∨ h = 2 ∨ h = 3 := by omega
  · refine (upper_apply (product (pos x0) 0 (mat x1 0)) (product (pos x0) 1 (mat x1 1)) b l).trans ?_
    by_cases hl : l.val < 64
    · rw [if_pos hl]
      exact e 0 (Fin.ext (by show 2 * 0 + l.val / 64 = 0; omega))
    · rw [if_neg hl]
      exact e 1 (Fin.ext (by show 2 * 0 + l.val / 64 = 1; omega))
  · refine (upper_apply (product (pos x0) 2 (mat x1 2)) (product (pos x0) 3 (mat x1 3)) b l).trans ?_
    by_cases hl : l.val < 64
    · rw [if_pos hl]
      exact e 2 (Fin.ext (by show 2 * 1 + l.val / 64 = 2; omega))
    · rw [if_neg hl]
      exact e 3 (Fin.ext (by show 2 * 1 + l.val / 64 = 3; omega))
  · refine (upper_apply (product (pos x0) 4 (mat x1 4)) (product (pos x0) 5 (mat x1 5)) b l).trans ?_
    by_cases hl : l.val < 64
    · rw [if_pos hl]
      exact e 4 (Fin.ext (by show 2 * 2 + l.val / 64 = 4; omega))
    · rw [if_neg hl]
      exact e 5 (Fin.ext (by show 2 * 2 + l.val / 64 = 5; omega))
  · refine (upper_apply (product (pos x0) 6 (mat x1 6)) (product (pos x0) 7 (mat x1 7)) b l).trans ?_
    by_cases hl : l.val < 64
    · rw [if_pos hl]
      exact e 6 (Fin.ext (by show 2 * 3 + l.val / 64 = 6; omega))
    · rw [if_neg hl]
      exact e 7 (Fin.ext (by show 2 * 3 + l.val / 64 = 7; omega))

theorem im_at (x0 : Vec Ideal S8192x128 .f32) (x1 : Vec Ideal S8x128x256 .bf16) (b : Fin 512) (h : Fin 4) (l : Fin 128) :
    out0_3 x0 x1 (ix2 b (lane h l)) = ∑ q : Fin 256, x1 (ix3 (groupOf h l) (SsmIn.imRow (SsmIn.state l)) q)
      * x0 (ix2 (SsmIn.row b (SsmIn.hi q)) (SsmIn.channel (groupOf h l) (SsmIn.lo q))) := by
  rw [im_eq]
  refine (pieces_apply ![lower (product (pos x0) 0 (mat x1 0)) (product (pos x0) 1 (mat x1 1)),
    lower (product (pos x0) 2 (mat x1 2)) (product (pos x0) 3 (mat x1 3)), lower (product (pos x0) 4 (mat x1 4)) (product (pos x0) 5 (mat x1 5)),
    lower (product (pos x0) 6 (mat x1 6)) (product (pos x0) 7 (mat x1 7))] b h l).trans ?_
  have e : ∀ g : Fin 8, groupOf h l = g → product (pos x0) g (mat x1 g) (ix2 (SsmIn.imRow (SsmIn.state l)) b)
      = ∑ q : Fin 256, x1 (ix3 (groupOf h l) (SsmIn.imRow (SsmIn.state l)) q)
        * x0 (ix2 (SsmIn.row b (SsmIn.hi q)) (SsmIn.channel (groupOf h l) (SsmIn.lo q))) := by
    intro g hg
    rw [product_apply, hg]
    simp only [mat_apply]
  obtain rfl | rfl | rfl | rfl : h = 0 ∨ h = 1 ∨ h = 2 ∨ h = 3 := by omega
  · refine (lower_apply (product (pos x0) 0 (mat x1 0)) (product (pos x0) 1 (mat x1 1)) b l).trans ?_
    by_cases hl : l.val < 64
    · rw [if_pos hl]
      exact e 0 (Fin.ext (by show 2 * 0 + l.val / 64 = 0; omega))
    · rw [if_neg hl]
      exact e 1 (Fin.ext (by show 2 * 0 + l.val / 64 = 1; omega))
  · refine (lower_apply (product (pos x0) 2 (mat x1 2)) (product (pos x0) 3 (mat x1 3)) b l).trans ?_
    by_cases hl : l.val < 64
    · rw [if_pos hl]
      exact e 2 (Fin.ext (by show 2 * 1 + l.val / 64 = 2; omega))
    · rw [if_neg hl]
      exact e 3 (Fin.ext (by show 2 * 1 + l.val / 64 = 3; omega))
  · refine (lower_apply (product (pos x0) 4 (mat x1 4)) (product (pos x0) 5 (mat x1 5)) b l).trans ?_
    by_cases hl : l.val < 64
    · rw [if_pos hl]
      exact e 4 (Fin.ext (by show 2 * 2 + l.val / 64 = 4; omega))
    · rw [if_neg hl]
      exact e 5 (Fin.ext (by show 2 * 2 + l.val / 64 = 5; omega))
  · refine (lower_apply (product (pos x0) 6 (mat x1 6)) (product (pos x0) 7 (mat x1 7)) b l).trans ?_
    by_cases hl : l.val < 64
    · rw [if_pos hl]
      exact e 6 (Fin.ext (by show 2 * 3 + l.val / 64 = 6; omega))
    · rw [if_neg hl]
      exact e 7 (Fin.ext (by show 2 * 3 + l.val / 64 = 7; omega))

/-! ## The arguments and their blocks -/

def U (c : Dev nD) (r : Fin 8192) (k : Fin 1024) : EReal := m ((c : Thread nD τ).loc main_arg0) (ix2 r k)
def W (c : Dev nD) (g : Fin 64) (k : Fin 128) (q : Fin 256) : EReal := m ((c : Thread nD τ).loc main_arg1) (ix3 g k q)

theorem idx0 : ∀ t : Fin grid0.N, win0_0.index t 0 = 0 ∧ win0_0.index t 1 = t.val := by decide +kernel
theorem idx1 : ∀ t : Fin grid0.N, win0_1.index t 0 = t.val ∧ win0_1.index t 1 = 0 ∧ win0_1.index t 2 = 0 := by decide +kernel
theorem idx2 : ∀ t : Fin grid0.N, win0_2.index t 0 = 0 ∧ win0_2.index t 1 = t.val := by decide +kernel
theorem idx3 : ∀ t : Fin grid0.N, win0_3.index t 0 = 0 ∧ win0_3.index t 1 = t.val := by decide +kernel

theorem point (t : Fin cfg0.N) : t.val < 8 := by
  have h := t.isLt
  have e : cfg0.N = 8 := N_0
  omega

/-- Group `g` of octet `t`. -/
def octet (t : Fin cfg0.N) (g : Fin 8) : Fin 64 := ⟨8 * t.val + g.val, by have := point t; omega⟩

theorem b0 (c : Dev nD) (t : Fin cfg0.N) (r : Fin 8192) (g : Fin 8) (l : Fin 16) :
    iblk m c 0 t (ix2 r (SsmIn.channel g l)) = U m c r (SsmIn.column (octet t g) l) := by
  unfold U
  have h := point t
  have e : (SsmIn.column (octet t g) l).val = t.val * 128 + (16 * g.val + l.val) := by
    simp only [SsmIn.column, octet]
    omega
  blk_point [iblk, e, SsmIn.channel, (idx0 t).1, (idx0 t).2]

theorem b1 (c : Dev nD) (t : Fin cfg0.N) (g : Fin 8) (k : Fin 128) (q : Fin 256) :
    iblk m c 1 t (ix3 g k q) = W m c (octet t g) k q := by
  unfold W
  have e : (octet t g).val = t.val * 8 + g.val := by
    simp only [octet]
    omega
  blk_point [iblk, e, (idx1 t).1, (idx1 t).2.1, (idx1 t).2.2]

theorem re_point (c : Dev nD) (t : Fin cfg0.N) (b : Fin 512) (h : Fin 4) (l : Fin 128) :
    out0_2 (iblk m c 0 t) (iblk m c 1 t) (ix2 b (lane h l)) = SsmIn.entry (U m c) (W m c) b (octet t (groupOf h l)) (SsmIn.reRow (SsmIn.state l)) := by
  rw [re_at]
  simp only [b0, b1]
  rfl

theorem im_point (c : Dev nD) (t : Fin cfg0.N) (b : Fin 512) (h : Fin 4) (l : Fin 128) :
    out0_3 (iblk m c 0 t) (iblk m c 1 t) (ix2 b (lane h l)) = SsmIn.entry (U m c) (W m c) b (octet t (groupOf h l)) (SsmIn.imRow (SsmIn.state l)) := by
  rw [im_at]
  simp only [b0, b1]
  rfl

/-! ## The results -/

theorem final2 (c : Dev nD) : (dats m 0 c).arrAt 2 cfg0.N
    = fun j : S512x4096.Idx => SsmIn.entry (U m c) (W m c) (j 0) (SsmIn.group (j 1)) (SsmIn.reRow (SsmIn.place (j 1))) := by
  refine (dats m 0 c).arrAt_eq_of_covers 2 _ (by decide +kernel) fun t hf y => ?_
  blk_simp
  rw [after0_2]
  obtain ⟨b, j, rfl⟩ : ∃ b j, y = ix2 b j := ⟨_, _, eq_ix2 y⟩
  obtain ⟨h, l, rfl⟩ : ∃ h l, j = lane h l := ⟨⟨j.val / 128, by omega⟩, ⟨j.val % 128, by omega⟩, Fin.ext (by simp only [lane]; omega)⟩
  rw [re_point]
  have col : ((win0_2.blk t).view.emb (ix2 b (lane h l)) 1).val = t.val * 512 + (128 * h.val + l.val) := by
    blk_simp [(idx2 t).2]
    rfl
  have ht := point t
  congr 1
  · refine Fin.ext ?_
    blk_simp [(idx2 t).1]
  · refine Fin.ext ?_
    simp only [SsmIn.group, octet, groupOf]
    rw [col]
    omega
  · refine congrArg SsmIn.reRow (Fin.ext ?_)
    simp only [SsmIn.state, SsmIn.place]
    rw [col]
    omega

theorem final3 (c : Dev nD) : (dats m 0 c).arrAt 3 cfg0.N
    = fun j : S512x4096.Idx => SsmIn.entry (U m c) (W m c) (j 0) (SsmIn.group (j 1)) (SsmIn.imRow (SsmIn.place (j 1))) := by
  refine (dats m 0 c).arrAt_eq_of_covers 3 _ (by decide +kernel) fun t hf y => ?_
  blk_simp
  rw [after0_3]
  obtain ⟨b, j, rfl⟩ : ∃ b j, y = ix2 b j := ⟨_, _, eq_ix2 y⟩
  obtain ⟨h, l, rfl⟩ : ∃ h l, j = lane h l := ⟨⟨j.val / 128, by omega⟩, ⟨j.val % 128, by omega⟩, Fin.ext (by simp only [lane]; omega)⟩
  rw [im_point]
  have col : ((win0_3.blk t).view.emb (ix2 b (lane h l)) 1).val = t.val * 512 + (128 * h.val + l.val) := by
    blk_simp [(idx3 t).2]
    rfl
  have ht := point t
  congr 1
  · refine Fin.ext ?_
    blk_simp [(idx3 t).1]
  · refine Fin.ext ?_
    simp only [SsmIn.group, octet, groupOf]
    rw [col]
    omega
  · refine congrArg SsmIn.imRow (Fin.ext ?_)
    simp only [SsmIn.state, SsmIn.place]
    rw [col]
    omega

end Cert.Kernel13Ideal.SsmInValue

end
-- ==== Proof.SsmInReference.lean ====
/-
  The values of the reference for the products that enter the recurrence.
-/
module

public import proofs.«01_k».proof.Proof.Gen.Reference13Ideal.Read
public import proofs.«01_k».proof.Proof.SsmInMath
public import Idealize.ShloMosaic.Lib.Pointwise

@[expose] public section

set_option maxRecDepth 16384

noncomputable section

namespace Cert.Reference13Ideal.SsmInValue

open Cert.Reference13Ideal Cert.Reference13Ideal.Gen Idealize.ShloMosaic Idealize.ShloMosaic.TcCoe Idealize.SL.Sem Cert.Proof
open Cert.Reference13Ideal.Read

variable (u : (⟨S8192x1024, .f32⟩ : BufTy).Contents (Elt Ideal)) (w : (⟨S64x128x256, .f32⟩ : BufTy).Contents (Elt Ideal))

theorem block_apply (b : Fin 512) (g : Fin 64) (q : Fin 256) :
    val_main_v2 (F := Ideal) u (ix3 b g q) = u (ix2 (SsmIn.row b (SsmIn.hi q)) (SsmIn.column g (SsmIn.lo q))) := by
  pointwise [val_main_v2, val_main_v1, val_main_v0]
  congr 2 <;> (refine Fin.ext ?_; simp only [SsmIn.row, SsmIn.hi, SsmIn.column, SsmIn.lo]; omega)

theorem product_apply (b : Fin 512) (g : Fin 64) (k : Fin 128) :
    val_main_v4 (F := Ideal) u w (ix3 b g k) = SsmIn.entry (fun r l => u (ix2 r l)) (fun g k q => w (ix3 g k q)) b g k := by
  pointwise [val_main_v4, val_main_v3]
  simp only [block_apply]
  exact Finset.sum_congr rfl fun q _ => mul_comm _ _

theorem re_apply (b : Fin 512) (j : Fin 4096) :
    val_main_v6 (F := Ideal) u w (ix2 b j)
      = SsmIn.entry (fun r l => u (ix2 r l)) (fun g k q => w (ix3 g k q)) b (SsmIn.group j) (SsmIn.reRow (SsmIn.place j)) := by
  pointwise [val_main_v6, val_main_v5]
  rw [product_apply]
  rfl

theorem im_apply (b : Fin 512) (j : Fin 4096) :
    val_main_v8 (F := Ideal) u w (ix2 b j)
      = SsmIn.entry (fun r l => u (ix2 r l)) (fun g k q => w (ix3 g k q)) b (SsmIn.group j) (SsmIn.imRow (SsmIn.place j)) := by
  pointwise [val_main_v8, val_main_v7]
  rw [product_apply]
  rfl

end Cert.Reference13Ideal.SsmInValue

end
-- ==== Proof.SsmIn.lean ====
/-
  The two claims about the values of the products that enter the recurrence.
-/
module

public import proofs.«01_k».proof.Proof.SsmInKernel
public import proofs.«01_k».proof.Proof.SsmInReference
public import proofs.«01_k».proof.Defs

@[expose] public section

noncomputable section

namespace Cert.Proof.SsmIn

open Idealize.ShloMosaic Idealize.SL.Sem

/-- The reference runs to its end, keeps its arguments and leaves the counters at zero. -/
theorem frame_reference : Cert.quiescent_Reference13Ideal := fun m ρ _ =>
  (θ_run _ _ _).mono (fun r h => ⟨fun c => (h c).2.2, Idealize.ShloMosaic.sem_eq_zero_of_no_sems (by decide) r.2⟩)
    (Cert.Reference13Ideal.Value.run (F := Ideal) m ρ)

/-- The kernel's two results are the reference's. -/
theorem algebraic : Cert.algebraic_Kernel13Ideal_Reference13Ideal := fun m g m' g' _ hm => by
  refine ⟨fun c => (Cert.Kernel13Ideal.Gen.dats m 0 c).arrAt 2 Cert.Kernel13Ideal.cfg0.N,
    fun c => (Cert.Kernel13Ideal.Gen.dats m 0 c).arrAt 3 Cert.Kernel13Ideal.cfg0.N,
    Cert.Kernel13Ideal.Value.run_blocks (F := Ideal) m g, ?_⟩
  refine (θ_run _ _ _).mono (fun r h c => ⟨(h c).1.trans ?_, (h c).2.1.trans ?_, (h c).2.2⟩)
    (Cert.Reference13Ideal.Value.run (F := Ideal) m' g')
  · obtain ⟨h0, h1⟩ := hm c
    rw [Cert.Reference13Ideal.Read.val_main_v6_eq, h0, h1]
    refine Eq.trans (funext fun j => ?_) (Cert.Kernel13Ideal.SsmInValue.final2 m c).symm
    obtain ⟨a, b, rfl⟩ : ∃ a b, j = ix2 a b := ⟨_, _, eq_ix2 j⟩
    rw [Cert.Reference13Ideal.SsmInValue.re_apply]
    rfl
  · obtain ⟨h0, h1⟩ := hm c
    rw [Cert.Reference13Ideal.Read.val_main_v8_eq, h0, h1]
    refine Eq.trans (funext fun j => ?_) (Cert.Kernel13Ideal.SsmInValue.final3 m c).symm
    obtain ⟨a, b, rfl⟩ : ∃ a b, j = ix2 a b := ⟨_, _, eq_ix2 j⟩
    rw [Cert.Reference13Ideal.SsmInValue.im_apply]
    rfl

end Cert.Proof.SsmIn

end
-- ==== Proof.SsmOutputsMath.lean ====
/-
  The products that leave the recurrence: one entry of the result.
-/
module

public import proofs.«01_k».proof.Proof.SsmInMath

@[expose] public section

noncomputable section

namespace Cert.Proof.SsmOutputs

open Idealize.ShloMosaic

/-- Channel `l` at position `s` of a group's block. -/
def at16 (s : Fin 16) (l : Fin 16) : Fin 256 := ⟨16 * s.val + l.val, by omega⟩

/-- The column of state `p` of group `g`. -/
def stateCol (g : Fin 64) (p : Fin 64) : Fin 4096 := ⟨64 * g.val + p.val, by omega⟩

/-- The block of a row. -/
def block (r : Fin 8192) : Fin 512 := ⟨r.val / 16, by omega⟩

/-- The position of a row in its block. -/
def position (r : Fin 8192) : Fin 16 := ⟨r.val % 16, by omega⟩

/-- The group of a column. -/
def groupOf (j : Fin 1024) : Fin 64 := ⟨j.val / 16, by omega⟩

/-- The channel of a column in its group. -/
def channelOf (j : Fin 1024) : Fin 16 := ⟨j.val % 16, by omega⟩

/-- The output of group `g` at position `s` of block `b`: what the block's inputs give, what the state before the block
    gives, and the input itself times its scale. -/
def entry (u : Fin 8192 → Fin 1024 → EReal) (hr hm : Fin 512 → Fin 4096 → EReal) (t : Fin 64 → Fin 256 → Fin 256 → EReal)
    (w : Fin 64 → Fin 256 → Fin 128 → EReal) (d : Fin 1024 → EReal) (b : Fin 512) (s : Fin 16) (g : Fin 64) (l : Fin 16) : EReal :=
  ((∑ q : Fin 256, t g (at16 s l) q * u (SsmIn.row b (SsmIn.hi q)) (SsmIn.column g (SsmIn.lo q)))
    + ∑ k : Fin 128, w g (at16 s l) k * if k.val < 64 then hr b (stateCol g (SsmIn.state k)) else hm b (stateCol g (SsmIn.state k)))
    + d (SsmIn.column g l) * u (SsmIn.row b s) (SsmIn.column g l)

end Cert.Proof.SsmOutputs

end
-- ==== Proof.SsmOutputsKernel.lean ====
/-
  The values of the kernel for the products that leave the recurrence: its result is `SsmOutputs.entry` of the arguments.
-/
module

public import proofs.«01_k».proof.Proof.Gen.Kernel14Ideal.Value
public import proofs.«01_k».proof.Proof.SsmOutputsMath
public import Idealize.ShloMosaic.Lib.Pipeline.ValueKit
public import Idealize.ShloMosaic.Lib.Pointwise

@[expose] public section

set_option maxRecDepth 16384

noncomputable section

namespace Cert.Kernel14Ideal.SsmOutputsValue

open Cert.Kernel14Ideal Cert.Kernel14Ideal.Gen Idealize.ShloMosaic Idealize.ShloMosaic.TcCoe Idealize.SL.Sem Cert.Proof

variable (m : (ℓ : Loc nD τ sig) → Buf (Elt Ideal) ℓ)

/-! ## The payloads -/

/-- The sixteen positions of every block. -/
def pos (a : Vec Ideal S8192x128 .f32) : Fin 16 → FVec Ideal S512x128 .f32 := ![k0_pay2 a, k0_pay3 a, k0_pay4 a, k0_pay5 a, k0_pay6 a, k0_pay7 a, k0_pay8 a, k0_pay9 a, k0_pay10 a, k0_pay11 a, k0_pay12 a, k0_pay13 a, k0_pay14 a, k0_pay15 a, k0_pay16 a, k0_pay17 a]

theorem pos_apply (a : Vec Ideal S8192x128 .f32) (s : Fin 16) (b : Fin 512) (l : Fin 128) :
    pos a s (ix2 b l) = a (ix2 (SsmIn.row b s) l) := by
  fin_cases s
  · show k0_pay2 a (ix2 b l) = _
    pointwise [k0_pay2, k0_pay1]
    rfl
  · show k0_pay3 a (ix2 b l) = _
    pointwise [k0_pay3, k0_pay1]
    rfl
  · show k0_pay4 a (ix2 b l) = _
    pointwise [k0_pay4, k0_pay1]
    rfl
  · show k0_pay5 a (ix2 b l) = _
    pointwise [k0_pay5, k0_pay1]
    rfl
  · show k0_pay6 a (ix2 b l) = _
    pointwise [k0_pay6, k0_pay1]
    rfl
  · show k0_pay7 a (ix2 b l) = _
    pointwise [k0_pay7, k0_pay1]
    rfl
  · show k0_pay8 a (ix2 b l) = _
    pointwise [k0_pay8, k0_pay1]
    rfl
  · show k0_pay9 a (ix2 b l) = _
    pointwise [k0_pay9, k0_pay1]
    rfl
  · show k0_pay10 a (ix2 b l) = _
    pointwise [k0_pay10, k0_pay1]
    rfl
  · show k0_pay11 a (ix2 b l) = _
    pointwise [k0_pay11, k0_pay1]
    rfl
  · show k0_pay12 a (ix2 b l) = _
    pointwise [k0_pay12, k0_pay1]
    rfl
  · show k0_pay13 a (ix2 b l) = _
    pointwise [k0_pay13, k0_pay1]
    rfl
  · show k0_pay14 a (ix2 b l) = _
    pointwise [k0_pay14, k0_pay1]
    rfl
  · show k0_pay15 a (ix2 b l) = _
    pointwise [k0_pay15, k0_pay1]
    rfl
  · show k0_pay16 a (ix2 b l) = _
    pointwise [k0_pay16, k0_pay1]
    rfl
  · show k0_pay17 a (ix2 b l) = _
    pointwise [k0_pay17, k0_pay1]
    rfl

/-- The sixteen positions of every block, turned over. -/
def turned (a : Vec Ideal S8192x128 .f32) : Fin 16 → FVec Ideal S128x512 .f32 := ![k0_pay18 a, k0_pay19 a, k0_pay20 a, k0_pay21 a, k0_pay22 a, k0_pay23 a, k0_pay24 a, k0_pay25 a, k0_pay26 a, k0_pay27 a, k0_pay28 a, k0_pay29 a, k0_pay30 a, k0_pay31 a, k0_pay32 a, k0_pay33 a]

theorem turned_apply (a : Vec Ideal S8192x128 .f32) (s : Fin 16) (l : Fin 128) (b : Fin 512) :
    turned a s (ix2 l b) = a (ix2 (SsmIn.row b s) l) := by
  fin_cases s
  · show k0_pay18 a (ix2 l b) = _
    pointwise [k0_pay18, k0_pay2, k0_pay1]
    rfl
  · show k0_pay19 a (ix2 l b) = _
    pointwise [k0_pay19, k0_pay3, k0_pay1]
    rfl
  · show k0_pay20 a (ix2 l b) = _
    pointwise [k0_pay20, k0_pay4, k0_pay1]
    rfl
  · show k0_pay21 a (ix2 l b) = _
    pointwise [k0_pay21, k0_pay5, k0_pay1]
    rfl
  · show k0_pay22 a (ix2 l b) = _
    pointwise [k0_pay22, k0_pay6, k0_pay1]
    rfl
  · show k0_pay23 a (ix2 l b) = _
    pointwise [k0_pay23, k0_pay7, k0_pay1]
    rfl
  · show k0_pay24 a (ix2 l b) = _
    pointwise [k0_pay24, k0_pay8, k0_pay1]
    rfl
  · show k0_pay25 a (ix2 l b) = _
    pointwise [k0_pay25, k0_pay9, k0_pay1]
    rfl
  · show k0_pay26 a (ix2 l b) = _
    pointwise [k0_pay26, k0_pay10, k0_pay1]
    rfl
  · show k0_pay27 a (ix2 l b) = _
    pointwise [k0_pay27, k0_pay11, k0_pay1]
    rfl
  · show k0_pay28 a (ix2 l b) = _
    pointwise [k0_pay28, k0_pay12, k0_pay1]
    rfl
  · show k0_pay29 a (ix2 l b) = _
    pointwise [k0_pay29, k0_pay13, k0_pay1]
    rfl
  · show k0_pay30 a (ix2 l b) = _
    pointwise [k0_pay30, k0_pay14, k0_pay1]
    rfl
  · show k0_pay31 a (ix2 l b) = _
    pointwise [k0_pay31, k0_pay15, k0_pay1]
    rfl
  · show k0_pay32 a (ix2 l b) = _
    pointwise [k0_pay32, k0_pay16, k0_pay1]
    rfl
  · show k0_pay33 a (ix2 l b) = _
    pointwise [k0_pay33, k0_pay17, k0_pay1]
    rfl

/-- The sixteen channels of group `g`. -/
def take (g : Fin 8) (v : FVec Ideal S128x512 .f32) : FVec Ideal S16x512 .f32 :=
  extractStridedSlice S16x512 ![16 * g.val, 0] v (by fin_cases g <;> decide)

theorem take_apply (g : Fin 8) (v : FVec Ideal S128x512 .f32) (l : Fin 16) (b : Fin 512) :
    take g v (ix2 l b) = v (ix2 (SsmIn.channel g l) b) := by
  fin_cases g <;> (unfold take; pointwise; exact congrArg (fun k => v (ix2 k b)) (Fin.ext (by simp [SsmIn.channel])))

/-- Sixteen pieces one under the other. -/
def gathered (f : Fin 16 → FVec Ideal S16x512 .f32) : FVec Ideal S256x512 .f32 :=
  concatenate S256x512 0 [⟨S16x512, f 0⟩, ⟨S16x512, f 1⟩, ⟨S16x512, f 2⟩, ⟨S16x512, f 3⟩, ⟨S16x512, f 4⟩, ⟨S16x512, f 5⟩, ⟨S16x512, f 6⟩, ⟨S16x512, f 7⟩, ⟨S16x512, f 8⟩, ⟨S16x512, f 9⟩, ⟨S16x512, f 10⟩, ⟨S16x512, f 11⟩, ⟨S16x512, f 12⟩, ⟨S16x512, f 13⟩, ⟨S16x512, f 14⟩, ⟨S16x512, f 15⟩] concatenates_S16x512_S16x512_S16x512_S16x512_S16x512_S16x512_S16x512_S16x512_S16x512_S16x512_S16x512_S16x512_S16x512_S16x512_S16x512_S16x512_S256x512_d0

theorem gathered_apply (f : Fin 16 → FVec Ideal S16x512 .f32) (q : Fin 256) (b : Fin 512) :
    gathered f (ix2 q b) = f (SsmIn.hi q) (ix2 (SsmIn.lo q) b) := by
  unfold gathered
  refine concatenate_ofFn_apply (t := S256x512) (s₁ := S16x512) 0 f _ rfl 16 rfl (ix2 q b) (SsmIn.hi q) ?_ (ix2 (SsmIn.lo q) b) ?_ ?_
  · rfl
  · rfl
  · intro c hc
    fin_cases c
    · exact absurd rfl hc
    · rfl

/-- The real and imaginary parts of the states of group `g`, turned over and one under the other. -/
def states (g : Fin 8) (hr hm : Vec Ideal S512x512 .f32) : FVec Ideal S128x512 .f32 :=
  concatenate S128x512 0 [⟨S64x512, extractStridedSlice S64x512 ![64 * g.val, 0] (k0_pay34 hr) (by fin_cases g <;> decide)⟩,
    ⟨S64x512, extractStridedSlice S64x512 ![64 * g.val, 0] (k0_pay35 hm) (by fin_cases g <;> decide)⟩] concatenates_S64x512_S64x512_S128x512_d0

/-- State `p` of group `g` of an octet. -/
def slot (g : Fin 8) (p : Fin 64) : Fin 512 := ⟨64 * g.val + p.val, by omega⟩

theorem states_apply (g : Fin 8) (hr hm : Vec Ideal S512x512 .f32) (k : Fin 128) (b : Fin 512) :
    states g hr hm (ix2 k b) = if k.val < 64 then hr (ix2 b (slot g (SsmIn.state k))) else hm (ix2 b (slot g (SsmIn.state k))) := by
  by_cases h : k.val < 64
  · rw [if_pos h]
    fin_cases g <;> (unfold states; pointwise [k0_pay34, k0_pay35]; refine (dif_pos h).trans (congrArg (fun k => hr (ix2 b k)) (Fin.ext ?_)); simp [slot, SsmIn.state]; omega)
  · rw [if_neg h]
    fin_cases g <;> (unfold states; pointwise [k0_pay34, k0_pay35]; refine (dif_neg h).trans (congrArg (fun k => hm (ix2 b k)) (Fin.ext ?_)); simp [slot, SsmIn.state]; omega)

/-- The two products of a group. -/
def mixed (x : FVec Ideal S256x256 .bf16) (y : FVec Ideal S256x512 .bf16) (c : FVec Ideal S256x128 .bf16) (h : FVec Ideal S128x512 .bf16) : FVec Ideal S256x512 .f32 :=
  addf (matmul dot_S256x256_S256x512_S256x512_1_0_0_1_n_n none x y (constant S256x512 .f32 0x00000000#32))
    (matmul dot_S256x128_S128x512_S256x512_1_0_0_1_n_n none c h (constant S256x512 .f32 0x00000000#32))

theorem mixed_apply (x : FVec Ideal S256x256 .bf16) (y : FVec Ideal S256x512 .bf16) (c : FVec Ideal S256x128 .bf16) (h : FVec Ideal S128x512 .bf16) (i : Fin 256) (b : Fin 512) :
    mixed x y c h (ix2 i b) = (∑ q : Fin 256, x (ix2 i q) * y (ix2 q b)) + ∑ k : Fin 128, c (ix2 i k) * h (ix2 k b) := by
  pointwise [mixed]

theorem pay37_apply (w : Vec Ideal S1x256x256 .bf16) (k : Fin 256) (q : Fin 256) : k0_pay37 w (ix2 k q) = w (ix3 0 k q) := by
  pointwise [k0_pay37]

theorem pay61_apply (w : Vec Ideal S1x256x128 .bf16) (k : Fin 256) (q : Fin 128) : k0_pay61 w (ix2 k q) = w (ix3 0 k q) := by
  pointwise [k0_pay61]

/-- The products of group `g`. -/
def product (a : Vec Ideal S8192x128 .f32) (hr hm : Vec Ideal S512x512 .f32) (g : Fin 8) (w : Vec Ideal S1x256x256 .bf16) (v : Vec Ideal S1x256x128 .bf16) : FVec Ideal S256x512 .f32 :=
  mixed (k0_pay37 w) (truncf .bf16 (gathered fun s => take g (turned a s)) bitsLt_bf16_f32) (k0_pay61 v) (truncf .bf16 (states g hr hm) bitsLt_bf16_f32)

theorem product_apply (a : Vec Ideal S8192x128 .f32) (hr hm : Vec Ideal S512x512 .f32) (g : Fin 8) (w : Vec Ideal S1x256x256 .bf16) (v : Vec Ideal S1x256x128 .bf16) (i : Fin 256) (b : Fin 512) :
    product a hr hm g w v (ix2 i b) = (∑ q : Fin 256, w (ix3 0 i q) * a (ix2 (SsmIn.row b (SsmIn.hi q)) (SsmIn.channel g (SsmIn.lo q))))
      + ∑ k : Fin 128, v (ix3 0 i k) * if k.val < 64 then hr (ix2 b (slot g (SsmIn.state k))) else hm (ix2 b (slot g (SsmIn.state k))) := by
  unfold product
  rw [mixed_apply]
  refine congrArg₂ (· + ·) (Finset.sum_congr rfl fun q _ => ?_) (Finset.sum_congr rfl fun k _ => ?_)
  · rw [pay37_apply]
    refine congrArg (w (ix3 0 i q) * ·) ?_
    refine (gathered_apply (fun s => take g (turned a s)) q b).trans ?_
    rw [take_apply, turned_apply]
  · rw [pay61_apply]
    exact congrArg (v (ix3 0 i k) * ·) (states_apply g hr hm k b)

/-- The rows of position `s` of one group's product. -/
def pick (s : Fin 16) (v : FVec Ideal S256x512 .f32) : FVec Ideal S16x512 .f32 :=
  extractStridedSlice S16x512 ![16 * s.val, 0] v (by fin_cases s <;> decide)

theorem pick_apply (s : Fin 16) (v : FVec Ideal S256x512 .f32) (l : Fin 16) (b : Fin 512) :
    pick s v (ix2 l b) = v (ix2 (SsmOutputs.at16 s l) b) := by
  fin_cases s <;> (unfold pick; pointwise; exact congrArg (fun k => v (ix2 k b)) (Fin.ext (by simp [SsmOutputs.at16])))

/-- Eight pieces one under the other. -/
def eight (f : Fin 8 → FVec Ideal S16x512 .f32) : FVec Ideal S128x512 .f32 :=
  concatenate S128x512 0 [⟨S16x512, f 0⟩, ⟨S16x512, f 1⟩, ⟨S16x512, f 2⟩, ⟨S16x512, f 3⟩, ⟨S16x512, f 4⟩, ⟨S16x512, f 5⟩, ⟨S16x512, f 6⟩, ⟨S16x512, f 7⟩] concatenates_S16x512_S16x512_S16x512_S16x512_S16x512_S16x512_S16x512_S16x512_S128x512_d0

theorem eight_apply (f : Fin 8 → FVec Ideal S16x512 .f32) (g : Fin 8) (l : Fin 16) (b : Fin 512) :
    eight f (ix2 (SsmIn.channel g l) b) = f g (ix2 l b) := by
  unfold eight
  refine concatenate_ofFn_apply (t := S128x512) (s₁ := S16x512) 0 f _ rfl 16 rfl (ix2 (SsmIn.channel g l) b) g ?_ (ix2 l b) ?_ ?_
  · show (16 * g.val + l.val) / 16 = g.val
    omega
  · show l.val = (16 * g.val + l.val) % 16
    omega
  · intro c hc
    fin_cases c
    · exact absurd rfl hc
    · rfl

/-- The rows of one position. -/
def rowsAt (e : FVec Ideal S128x512 .f32) (u : FVec Ideal S512x128 .f32) (d : Vec Ideal S1x128 .f32) : FVec Ideal S512x128 .f32 :=
  addf (transpose S512x128 [1, 0] e transposes_S128x512_p1_0_S512x128)
    (mulf (broadcastTo S512x128 (shapeCast S1x128 d shapeCasts_S1x128_S1x128) broadcasts_S1x128_S512x128) u)

theorem rowsAt_apply (e : FVec Ideal S128x512 .f32) (u : FVec Ideal S512x128 .f32) (d : Vec Ideal S1x128 .f32) (b : Fin 512) (l : Fin 128) :
    rowsAt e u d (ix2 b l) = e (ix2 l b) + d (ix2 0 l) * u (ix2 b l) := by
  pointwise [rowsAt]

/-- Sixteen positions, stacked. -/
def stacked (f : Fin 16 → FVec Ideal S1x512x128 .f32) : FVec Ideal S16x512x128 .f32 :=
  concatenate S16x512x128 0 [⟨S1x512x128, f 0⟩, ⟨S1x512x128, f 1⟩, ⟨S1x512x128, f 2⟩, ⟨S1x512x128, f 3⟩, ⟨S1x512x128, f 4⟩, ⟨S1x512x128, f 5⟩, ⟨S1x512x128, f 6⟩, ⟨S1x512x128, f 7⟩, ⟨S1x512x128, f 8⟩, ⟨S1x512x128, f 9⟩, ⟨S1x512x128, f 10⟩, ⟨S1x512x128, f 11⟩, ⟨S1x512x128, f 12⟩, ⟨S1x512x128, f 13⟩, ⟨S1x512x128, f 14⟩, ⟨S1x512x128, f 15⟩] concatenates_S1x512x128_S1x512x128_S1x512x128_S1x512x128_S1x512x128_S1x512x128_S1x512x128_S1x512x128_S1x512x128_S1x512x128_S1x512x128_S1x512x128_S1x512x128_S1x512x128_S1x512x128_S1x512x128_S16x512x128_d0

theorem stacked_apply (f : Fin 16 → FVec Ideal S1x512x128 .f32) (s : Fin 16) (b : Fin 512) (l : Fin 128) :
    stacked f (ix3 s b l) = f s (ix3 0 b l) := by
  unfold stacked
  refine concatenate_ofFn_apply (t := S16x512x128) (s₁ := S1x512x128) 0 f _ rfl 1 rfl (ix3 s b l) s ?_ (ix3 0 b l) ?_ ?_
  · exact Nat.div_one _
  · show 0 = s.val % 1
    omega
  · intro c hc
    fin_cases c
    · exact absurd rfl hc
    · rfl
    · rfl

/-- The block's rows in their order. -/
def ordered (f : Fin 16 → FVec Ideal S512x128 .f32) : FVec Ideal S8192x128 .f32 :=
  shapeCast S8192x128 (transpose S512x16x128 [1, 0, 2] (stacked fun s => shapeCast S1x512x128 (f s) shapeCasts_S512x128_S1x512x128) transposes_S16x512x128_p1_0_2_S512x16x128) shapeCasts_S512x16x128_S8192x128

theorem ordered_apply (f : Fin 16 → FVec Ideal S512x128 .f32) (b : Fin 512) (s : Fin 16) (l : Fin 128) :
    ordered f (ix2 (SsmIn.row b s) l) = f s (ix2 b l) := by
  have e : ordered f (ix2 (SsmIn.row b s) l) = stacked (fun s => shapeCast S1x512x128 (f s) shapeCasts_S512x128_S1x512x128) (ix3 s b l) := by
    unfold ordered
    generalize stacked _ = w
    pointwise
    congr 2 <;> (refine Fin.ext ?_; simp only [SsmIn.row]; omega)
  rw [e, stacked_apply]
  generalize f s = w
  pointwise

theorem payload_eq (a : Vec Ideal S8192x128 .f32) (Y : Fin 8 → FVec Ideal S256x512 .f32) (d : Vec Ideal S1x128 .f32) :
    k0_pay105 (k0_pay80 (k0_pay2 a) (Y 2) (Y 3) (Y 4) (Y 5) (Y 6) (Y 7) (k0_pay78 (Y 0)) (k0_pay79 (Y 1)) d) (k0_pay81 (k0_pay3 a) (Y 0) (Y 1) (Y 2) (Y 3) (Y 4) (Y 5) (Y 6) (Y 7) d) (k0_pay82 (k0_pay4 a) (Y 0) (Y 1) (Y 2) (Y 3) (Y 4) (Y 5) (Y 6) (Y 7) d) (k0_pay84 (k0_pay5 a) (k0_pay83 (Y 0) (Y 1) (Y 2) (Y 3) (Y 4) (Y 5) (Y 6) (Y 7)) d) (k0_pay85 (k0_pay6 a) (Y 0) (Y 1) (Y 2) (Y 3) (Y 4) (Y 5) (Y 6) (Y 7) d) (k0_pay86 (k0_pay7 a) (Y 0) (Y 1) (Y 2) (Y 3) (Y 4) (Y 5) (Y 6) (Y 7) d) (k0_pay87 (k0_pay8 a) (Y 0) (Y 1) (Y 2) (Y 3) (Y 4) (Y 5) (Y 6) (Y 7) d) (k0_pay91 (k0_pay9 a) (Y 3) (Y 4) (Y 5) (Y 6) (Y 7) (k0_pay88 (Y 0)) (k0_pay89 (Y 1)) (k0_pay90 (Y 2)) d) (k0_pay92 (k0_pay10 a) (Y 0) (Y 1) (Y 2) (Y 3) (Y 4) (Y 5) (Y 6) (Y 7) d) (k0_pay93 (k0_pay11 a) (Y 0) (Y 1) (Y 2) (Y 3) (Y 4) (Y 5) (Y 6) (Y 7) d) (k0_pay95 (k0_pay12 a) (k0_pay94 (Y 0) (Y 1) (Y 2) (Y 3) (Y 4) (Y 5) (Y 6) (Y 7)) d) (k0_pay96 (k0_pay13 a) (Y 0) (Y 1) (Y 2) (Y 3) (Y 4) (Y 5) (Y 6) (Y 7) d) (k0_pay97 (k0_pay14 a) (Y 0) (Y 1) (Y 2) (Y 3) (Y 4) (Y 5) (Y 6) (Y 7) d) (k0_pay98 (k0_pay15 a) (Y 0) (Y 1) (Y 2) (Y 3) (Y 4) (Y 5) (Y 6) (Y 7) d) (k0_pay103 (k0_pay16 a) (Y 4) (Y 5) (Y 6) (Y 7) (k0_pay99 (Y 0)) (k0_pay100 (Y 1)) (k0_pay101 (Y 2)) (k0_pay102 (Y 3)) d) (k0_pay104 (k0_pay17 a) (Y 0) (Y 1) (Y 2) (Y 3) (Y 4) (Y 5) (Y 6) (Y 7) d)
      = ordered fun s => rowsAt (eight fun g => pick s (Y g)) (pos a s) d := rfl

/-! ## The blocks -/

theorem ld0 (x : Vec Ideal S8192x128 .f32) : View.ld x r0_0 = x := by
  funext j
  obtain ⟨a, l, rfl⟩ : ∃ a l, j = ix2 a l := ⟨_, _, eq_ix2 j⟩
  pointwise
theorem ld1 (x : Vec Ideal S512x512 .f32) : View.ld x r0_1 = x := by
  funext j
  obtain ⟨a, l, rfl⟩ : ∃ a l, j = ix2 a l := ⟨_, _, eq_ix2 j⟩
  pointwise
theorem ld18 (x : Vec Ideal S1x128 .f32) : View.ld x r0_18 = x := by
  funext j
  obtain ⟨a, l, rfl⟩ : ∃ a l, j = ix2 a l := ⟨_, _, eq_ix2 j⟩
  obtain rfl : a = 0 := Subsingleton.elim _ _
  pointwise

/-- The matrices of group `g` of a block. -/
def mat (x : Vec Ideal S8x256x256 .bf16) : Fin 8 → Vec Ideal S1x256x256 .bf16 :=
  ![View.ld x r0_2, View.ld x r0_4, View.ld x r0_6, View.ld x r0_8, View.ld x r0_10, View.ld x r0_12, View.ld x r0_14, View.ld x r0_16]
def mat' (x : Vec Ideal S8x256x128 .bf16) : Fin 8 → Vec Ideal S1x256x128 .bf16 :=
  ![View.ld x r0_3, View.ld x r0_5, View.ld x r0_7, View.ld x r0_9, View.ld x r0_11, View.ld x r0_13, View.ld x r0_15, View.ld x r0_17]

theorem mat_apply (x : Vec Ideal S8x256x256 .bf16) (g : Fin 8) (k : Fin 256) (q : Fin 256) : mat x g (ix3 0 k q) = x (ix3 g k q) := by
  fin_cases g
  · show View.ld x r0_2 (ix3 0 k q) = _
    pointwise
  · show View.ld x r0_4 (ix3 0 k q) = _
    pointwise
  · show View.ld x r0_6 (ix3 0 k q) = _
    pointwise
  · show View.ld x r0_8 (ix3 0 k q) = _
    pointwise
  · show View.ld x r0_10 (ix3 0 k q) = _
    pointwise
  · show View.ld x r0_12 (ix3 0 k q) = _
    pointwise
  · show View.ld x r0_14 (ix3 0 k q) = _
    pointwise
  · show View.ld x r0_16 (ix3 0 k q) = _
    pointwise

theorem mat'_apply (x : Vec Ideal S8x256x128 .bf16) (g : Fin 8) (k : Fin 256) (q : Fin 128) : mat' x g (ix3 0 k q) = x (ix3 g k q) := by
  fin_cases g
  · show View.ld x r0_3 (ix3 0 k q) = _
    pointwise
  · show View.ld x r0_5 (ix3 0 k q) = _
    pointwise
  · show View.ld x r0_7 (ix3 0 k q) = _
    pointwise
  · show View.ld x r0_9 (ix3 0 k q) = _
    pointwise
  · show View.ld x r0_11 (ix3 0 k q) = _
    pointwise
  · show View.ld x r0_13 (ix3 0 k q) = _
    pointwise
  · show View.ld x r0_15 (ix3 0 k q) = _
    pointwise
  · show View.ld x r0_17 (ix3 0 k q) = _
    pointwise

variable (x0 : Vec Ideal S8192x128 .f32) (x1 x2 : Vec Ideal S512x512 .f32) (x3 : Vec Ideal S8x256x256 .bf16) (x4 : Vec Ideal S8x256x128 .bf16) (x5 : Vec Ideal S1x128 .f32)

theorem group0 : k0_pay124 x0 x1 x2 x3 x4 x5 = product (View.ld x0 r0_0) (View.ld x1 r0_1) (View.ld x2 r0_1) 0 (mat x3 0) (mat' x4 0) := rfl
theorem group1 : k0_pay125 x0 x1 x2 x3 x4 x5 = product (View.ld x0 r0_0) (View.ld x1 r0_1) (View.ld x2 r0_1) 1 (mat x3 1) (mat' x4 1) := rfl
theorem group2 : k0_pay126 x0 x1 x2 x3 x4 x5 = product (View.ld x0 r0_0) (View.ld x1 r0_1) (View.ld x2 r0_1) 2 (mat x3 2) (mat' x4 2) := rfl
theorem group3 : k0_pay127 x0 x1 x2 x3 x4 x5 = product (View.ld x0 r0_0) (View.ld x1 r0_1) (View.ld x2 r0_1) 3 (mat x3 3) (mat' x4 3) := rfl
theorem group4 : k0_pay128 x0 x1 x2 x3 x4 x5 = product (View.ld x0 r0_0) (View.ld x1 r0_1) (View.ld x2 r0_1) 4 (mat x3 4) (mat' x4 4) := rfl
theorem group5 : k0_pay129 x0 x1 x2 x3 x4 x5 = product (View.ld x0 r0_0) (View.ld x1 r0_1) (View.ld x2 r0_1) 5 (mat x3 5) (mat' x4 5) := rfl
theorem group6 : k0_pay130 x0 x1 x2 x3 x4 x5 = product (View.ld x0 r0_0) (View.ld x1 r0_1) (View.ld x2 r0_1) 6 (mat x3 6) (mat' x4 6) := rfl
theorem group7 : k0_pay131 x0 x1 x2 x3 x4 x5 = product (View.ld x0 r0_0) (View.ld x1 r0_1) (View.ld x2 r0_1) 7 (mat x3 7) (mat' x4 7) := rfl

theorem out_eq : out0_6 x0 x1 x2 x3 x4 x5
    = View.canon [⟨r0_0, ordered fun s => rowsAt (eight fun g => pick s (product x0 x1 x2 g (mat x3 g) (mat' x4 g))) (pos x0 s) x5⟩] := by
  unfold out0_6
  rw [group0, group1, group2, group3, group4, group5, group6, group7, ld0, ld1, ld1, ld18]
  exact congrArg (fun p => View.canon [(⟨r0_0, p⟩ : View.Piece (Elt Ideal) S8192x128 .f32)])
    (payload_eq x0 (fun g => product x0 x1 x2 g (mat x3 g) (mat' x4 g)) x5)

theorem out_at (b : Fin 512) (s : Fin 16) (g : Fin 8) (l : Fin 16) : out0_6 x0 x1 x2 x3 x4 x5 (ix2 (SsmIn.row b s) (SsmIn.channel g l))
    = ((∑ q : Fin 256, x3 (ix3 g (SsmOutputs.at16 s l) q) * x0 (ix2 (SsmIn.row b (SsmIn.hi q)) (SsmIn.channel g (SsmIn.lo q))))
      + ∑ k : Fin 128, x4 (ix3 g (SsmOutputs.at16 s l) k) * if k.val < 64 then x1 (ix2 b (slot g (SsmIn.state k))) else x2 (ix2 b (slot g (SsmIn.state k))))
      + x5 (ix2 0 (SsmIn.channel g l)) * x0 (ix2 (SsmIn.row b s) (SsmIn.channel g l)) := by
  have e : (ix2 (SsmIn.row b s) (SsmIn.channel g l) : S8192x128.Idx) = r0_0.emb (ix2 (SsmIn.row b s) (SsmIn.channel g l)) := by
    funext a; refine Fin.ext ?_; rw [ValueKit.rect_emb_unit_val]; fin_cases a <;> simp
  rw [out_eq]
  refine (congrArg _ e).trans ?_
  rw [View.canon_cons_emb, ordered_apply, rowsAt_apply, pos_apply, eight_apply, pick_apply, product_apply]
  simp only [mat_apply, mat'_apply]

/-! ## The arguments and their blocks -/

def U (c : Dev nD) (r : Fin 8192) (k : Fin 1024) : EReal := m ((c : Thread nD τ).loc main_arg0) (ix2 r k)
def Hr (c : Dev nD) (b : Fin 512) (k : Fin 4096) : EReal := m ((c : Thread nD τ).loc main_arg1) (ix2 b k)
def Hm (c : Dev nD) (b : Fin 512) (k : Fin 4096) : EReal := m ((c : Thread nD τ).loc main_arg2) (ix2 b k)
def T (c : Dev nD) (g : Fin 64) (k : Fin 256) (q : Fin 256) : EReal := m ((c : Thread nD τ).loc main_arg3) (ix3 g k q)
def W (c : Dev nD) (g : Fin 64) (k : Fin 256) (q : Fin 128) : EReal := m ((c : Thread nD τ).loc main_arg4) (ix3 g k q)
def D (c : Dev nD) (k : Fin 1024) : EReal := m ((c : Thread nD τ).loc main_arg5) (ix1 k)

theorem idx0 : ∀ t : Fin grid0.N, win0_0.index t 0 = 0 ∧ win0_0.index t 1 = t.val := by decide +kernel
theorem idx1 : ∀ t : Fin grid0.N, win0_1.index t 0 = 0 ∧ win0_1.index t 1 = t.val := by decide +kernel
theorem idx2 : ∀ t : Fin grid0.N, win0_2.index t 0 = 0 ∧ win0_2.index t 1 = t.val := by decide +kernel
theorem idx3 : ∀ t : Fin grid0.N, win0_3.index t 0 = t.val ∧ win0_3.index t 1 = 0 ∧ win0_3.index t 2 = 0 := by decide +kernel
theorem idx4 : ∀ t : Fin grid0.N, win0_4.index t 0 = t.val ∧ win0_4.index t 1 = 0 ∧ win0_4.index t 2 = 0 := by decide +kernel
theorem idx5 : ∀ t : Fin grid0.N, win0_5.index t 0 = 0 ∧ win0_5.index t 1 = t.val := by decide +kernel
theorem idx6 : ∀ t : Fin grid0.N, win0_6.index t 0 = 0 ∧ win0_6.index t 1 = t.val := by decide +kernel

theorem point (t : Fin cfg0.N) : t.val < 8 := by
  have h := t.isLt
  have e : cfg0.N = 8 := N_0
  omega

/-- Group `g` of octet `t`. -/
def octet (t : Fin cfg0.N) (g : Fin 8) : Fin 64 := ⟨8 * t.val + g.val, by have := point t; omega⟩

theorem column_val (t : Fin cfg0.N) (g : Fin 8) (l : Fin 16) : (SsmIn.column (octet t g) l).val = t.val * 128 + (16 * g.val + l.val) := by
  simp only [SsmIn.column, octet]
  omega

theorem octet_val (t : Fin cfg0.N) (g : Fin 8) : (octet t g).val = t.val * 8 + g.val := by
  simp only [octet]
  omega

theorem stateCol_val (t : Fin cfg0.N) (g : Fin 8) (p : Fin 64) : (SsmOutputs.stateCol (octet t g) p).val = t.val * 512 + (64 * g.val + p.val) := by
  simp only [SsmOutputs.stateCol, octet]
  omega

theorem b0 (c : Dev nD) (t : Fin cfg0.N) (r : Fin 8192) (g : Fin 8) (l : Fin 16) :
    iblk m c 0 t (ix2 r (SsmIn.channel g l)) = U m c r (SsmIn.column (octet t g) l) := by
  unfold U
  have e := column_val t g l
  blk_point [iblk, e, SsmIn.channel, (idx0 t).1, (idx0 t).2]
theorem b1 (c : Dev nD) (t : Fin cfg0.N) (b : Fin 512) (g : Fin 8) (p : Fin 64) :
    iblk m c 1 t (ix2 b (slot g p)) = Hr m c b (SsmOutputs.stateCol (octet t g) p) := by
  unfold Hr
  have e := stateCol_val t g p
  blk_point [iblk, e, slot, (idx1 t).1, (idx1 t).2]
theorem b2 (c : Dev nD) (t : Fin cfg0.N) (b : Fin 512) (g : Fin 8) (p : Fin 64) :
    iblk m c 2 t (ix2 b (slot g p)) = Hm m c b (SsmOutputs.stateCol (octet t g) p) := by
  unfold Hm
  have e := stateCol_val t g p
  blk_point [iblk, e, slot, (idx2 t).1, (idx2 t).2]
theorem b3 (c : Dev nD) (t : Fin cfg0.N) (g : Fin 8) (k : Fin 256) (q : Fin 256) :
    iblk m c 3 t (ix3 g k q) = T m c (octet t g) k q := by
  unfold T
  have e := octet_val t g
  blk_point [iblk, e, (idx3 t).1, (idx3 t).2.1, (idx3 t).2.2]
theorem b4 (c : Dev nD) (t : Fin cfg0.N) (g : Fin 8) (k : Fin 256) (q : Fin 128) :
    iblk m c 4 t (ix3 g k q) = W m c (octet t g) k q := by
  unfold W
  have e := octet_val t g
  blk_point [iblk, e, (idx4 t).1, (idx4 t).2.1, (idx4 t).2.2]
theorem b5 (c : Dev nD) (t : Fin cfg0.N) (g : Fin 8) (l : Fin 16) :
    iblk m c 5 t (ix2 0 (SsmIn.channel g l)) = D m c (SsmIn.column (octet t g) l) := by
  unfold D
  have e := column_val t g l
  blk_point [iblk, e, SsmIn.channel, (idx5 t).1, (idx5 t).2]

theorem out_point (c : Dev nD) (t : Fin cfg0.N) (b : Fin 512) (s : Fin 16) (g : Fin 8) (l : Fin 16) :
    out0_6 (iblk m c 0 t) (iblk m c 1 t) (iblk m c 2 t) (iblk m c 3 t) (iblk m c 4 t) (iblk m c 5 t) (ix2 (SsmIn.row b s) (SsmIn.channel g l))
      = SsmOutputs.entry (U m c) (Hr m c) (Hm m c) (T m c) (W m c) (D m c) b s (octet t g) l := by
  rw [out_at]
  simp only [b0, b1, b2, b3, b4, b5]
  rfl

/-! ## The result -/

theorem final6 (c : Dev nD) : (dats m 0 c).arrAt 6 cfg0.N
    = fun j : S8192x1024.Idx => SsmOutputs.entry (U m c) (Hr m c) (Hm m c) (T m c) (W m c) (D m c) (SsmOutputs.block (j 0)) (SsmOutputs.position (j 0)) (SsmOutputs.groupOf (j 1)) (SsmOutputs.channelOf (j 1)) := by
  refine (dats m 0 c).arrAt_eq_of_covers 6 _ (by decide +kernel) fun t hf y => ?_
  blk_simp
  rw [after0_6]
  obtain ⟨r, j, rfl⟩ : ∃ r j, y = ix2 r j := ⟨_, _, eq_ix2 y⟩
  obtain ⟨b, s, rfl⟩ : ∃ b s, r = SsmIn.row b s := ⟨⟨r.val / 16, by omega⟩, ⟨r.val % 16, by omega⟩, Fin.ext (by simp only [SsmIn.row]; omega)⟩
  obtain ⟨g, l, rfl⟩ : ∃ g l, j = SsmIn.channel g l := ⟨⟨j.val / 16, by omega⟩, ⟨j.val % 16, by omega⟩, Fin.ext (by simp only [SsmIn.channel]; omega)⟩
  rw [out_point]
  have row : ((win0_6.blk t).view.emb (ix2 (SsmIn.row b s) (SsmIn.channel g l)) 0).val = b.val * 16 + s.val := by
    blk_simp [(idx6 t).1]
    rfl
  have col : ((win0_6.blk t).view.emb (ix2 (SsmIn.row b s) (SsmIn.channel g l)) 1).val = t.val * 128 + (16 * g.val + l.val) := by
    blk_simp [(idx6 t).2]
    rfl
  have ht := point t
  congr 1
  · refine Fin.ext ?_
    simp only [SsmOutputs.block]
    rw [row]
    omega
  · refine Fin.ext ?_
    simp only [SsmOutputs.position]
    rw [row]
    omega
  · refine Fin.ext ?_
    simp only [SsmOutputs.groupOf, octet]
    rw [col]
    omega
  · refine Fin.ext ?_
    simp only [SsmOutputs.channelOf]
    rw [col]
    omega

end Cert.Kernel14Ideal.SsmOutputsValue

end
-- ==== Proof.SsmOutputsReference.lean ====
/-
  The values of the reference for the products that leave the recurrence.
-/
module

public import proofs.«01_k».proof.Proof.Gen.Reference14Ideal.Read
public import proofs.«01_k».proof.Proof.SsmOutputsMath
public import Idealize.ShloMosaic.Lib.Pointwise

@[expose] public section

set_option maxRecDepth 16384

noncomputable section

namespace Cert.Reference14Ideal.SsmOutputsValue

open Cert.Reference14Ideal Cert.Reference14Ideal.Gen Idealize.ShloMosaic Idealize.ShloMosaic.TcCoe Idealize.SL.Sem Cert.Proof
open Cert.Reference14Ideal.Read

variable (u : (⟨S8192x1024, .f32⟩ : BufTy).Contents (Elt Ideal)) (hr hm : (⟨S512x4096, .f32⟩ : BufTy).Contents (Elt Ideal))
  (t : (⟨S64x256x256, .f32⟩ : BufTy).Contents (Elt Ideal)) (w : (⟨S64x256x128, .f32⟩ : BufTy).Contents (Elt Ideal))
  (d : (⟨S1024, .f32⟩ : BufTy).Contents (Elt Ideal))

theorem block_apply (b : Fin 512) (g : Fin 64) (q : Fin 256) :
    val_main_v5 (F := Ideal) u (ix3 b g q) = u (ix2 (SsmIn.row b (SsmIn.hi q)) (SsmIn.column g (SsmIn.lo q))) := by
  pointwise [val_main_v5, val_main_v4, val_main_v3]
  congr 2 <;> (refine Fin.ext ?_; simp only [SsmIn.row, SsmIn.hi, SsmIn.column, SsmIn.lo]; omega)

theorem states_apply (b : Fin 512) (g : Fin 64) (k : Fin 128) :
    val_main_v2 (F := Ideal) hr hm (ix3 b g k)
      = if k.val < 64 then hr (ix2 b (SsmOutputs.stateCol g (SsmIn.state k))) else hm (ix2 b (SsmOutputs.stateCol g (SsmIn.state k))) := by
  pointwise [val_main_v2, val_main_v1, val_main_v0]
  by_cases h : k.val < 64
  · rw [if_pos h]
    refine (dif_pos h).trans (congrArg (fun k => hr (ix2 b k)) (Fin.ext ?_))
    simp only [SsmOutputs.stateCol, SsmIn.state]
    omega
  · rw [if_neg h]
    refine (dif_neg h).trans (congrArg (fun k => hm (ix2 b k)) (Fin.ext ?_))
    simp only [SsmOutputs.stateCol, SsmIn.state]
    omega

theorem products_apply (b : Fin 512) (g : Fin 64) (i : Fin 256) :
    val_main_v10 (F := Ideal) u hr hm t w (ix3 b g i)
      = (∑ q : Fin 256, t (ix3 g i q) * u (ix2 (SsmIn.row b (SsmIn.hi q)) (SsmIn.column g (SsmIn.lo q))))
        + ∑ k : Fin 128, w (ix3 g i k) * if k.val < 64 then hr (ix2 b (SsmOutputs.stateCol g (SsmIn.state k))) else hm (ix2 b (SsmOutputs.stateCol g (SsmIn.state k))) := by
  have e : val_main_v10 (F := Ideal) u hr hm t w (ix3 b g i)
      = (∑ q : Fin 256, val_main_v5 (F := Ideal) u (ix3 b g q) * t (ix3 g i q)) + ∑ k : Fin 128, val_main_v2 (F := Ideal) hr hm (ix3 b g k) * w (ix3 g i k) := by
    pointwise [val_main_v10, val_main_v9, val_main_v8, val_main_v7, val_main_v6]
  rw [e]
  simp only [block_apply, states_apply]
  exact congrArg₂ (· + ·) (Finset.sum_congr rfl fun q _ => mul_comm _ _) (Finset.sum_congr rfl fun k _ => mul_comm _ _)

theorem sum_apply (r : Fin 8192) (j : Fin 1024) :
    val_main_v13 (F := Ideal) u hr hm t w (ix2 r j)
      = val_main_v10 (F := Ideal) u hr hm t w (ix3 (SsmOutputs.block r) (SsmOutputs.groupOf j) (SsmOutputs.at16 (SsmOutputs.position r) (SsmOutputs.channelOf j))) := by
  pointwise [val_main_v13, val_main_v12, val_main_v11]
  congr 2 <;> (refine Fin.ext ?_; simp only [SsmOutputs.block, SsmOutputs.groupOf, SsmOutputs.at16, SsmOutputs.position, SsmOutputs.channelOf]; omega)

theorem out_apply (r : Fin 8192) (j : Fin 1024) :
    val_main_v17 (F := Ideal) u hr hm t w d (ix2 r j)
      = SsmOutputs.entry (fun r l => u (ix2 r l)) (fun b k => hr (ix2 b k)) (fun b k => hm (ix2 b k)) (fun g i q => t (ix3 g i q)) (fun g i k => w (ix3 g i k))
        (fun l => d (ix1 l)) (SsmOutputs.block r) (SsmOutputs.position r) (SsmOutputs.groupOf j) (SsmOutputs.channelOf j) := by
  have er : SsmIn.row (SsmOutputs.block r) (SsmOutputs.position r) = r := Fin.ext (by simp only [SsmIn.row, SsmOutputs.block, SsmOutputs.position]; omega)
  have ej : SsmIn.column (SsmOutputs.groupOf j) (SsmOutputs.channelOf j) = j := Fin.ext (by simp only [SsmIn.column, SsmOutputs.groupOf, SsmOutputs.channelOf]; omega)
  pointwise [val_main_v17, val_main_v16, val_main_v15, val_main_v14]
  rw [sum_apply, products_apply]
  unfold SsmOutputs.entry
  rw [er, ej]

end Cert.Reference14Ideal.SsmOutputsValue

end
-- ==== Proof.SsmOutputs.lean ====
/-
  The two claims about the values of the products that leave the recurrence.
-/
module

public import proofs.«01_k».proof.Proof.SsmOutputsKernel
public import proofs.«01_k».proof.Proof.SsmOutputsReference
public import proofs.«01_k».proof.Defs

@[expose] public section

noncomputable section

namespace Cert.Proof.SsmOutputs

open Idealize.ShloMosaic Idealize.SL.Sem

/-- The reference runs to its end, keeps its arguments and leaves the counters at zero. -/
theorem frame_reference : Cert.quiescent_Reference14Ideal := fun m ρ _ =>
  (θ_run _ _ _).mono (fun r h => ⟨fun c => (h c).2, Idealize.ShloMosaic.sem_eq_zero_of_no_sems (by decide) r.2⟩)
    (Cert.Reference14Ideal.Value.run (F := Ideal) m ρ)

/-- The kernel's result is the reference's. -/
theorem algebraic : Cert.algebraic_Kernel14Ideal_Reference14Ideal := fun m g m' g' _ hm => by
  refine ⟨fun c => (Cert.Kernel14Ideal.Gen.dats m 0 c).arrAt 6 Cert.Kernel14Ideal.cfg0.N,
    Cert.Kernel14Ideal.Value.run_blocks (F := Ideal) m g, ?_⟩
  refine (θ_run _ _ _).mono (fun r h c => ⟨(h c).1.trans ?_, (h c).2⟩)
    (Cert.Reference14Ideal.Value.run (F := Ideal) m' g')
  obtain ⟨h0, h1, h2, h3, h4, h5⟩ := hm c
  rw [Cert.Reference14Ideal.Read.val_main_v17_eq, h0, h1, h2, h3, h4, h5]
  refine Eq.trans (funext fun j => ?_) (Cert.Kernel14Ideal.SsmOutputsValue.final6 m c).symm
  obtain ⟨a, b, rfl⟩ : ∃ a b, j = ix2 a b := ⟨_, _, eq_ix2 j⟩
  rw [Cert.Reference14Ideal.SsmOutputsValue.out_apply]
  rfl

end Cert.Proof.SsmOutputs

end
-- ==== Proof.SsmMixMath.lean ====
/-
  The gradient of the products that leave the recurrence: one entry of each result.
-/
module

public import proofs.«01_k».proof.Proof.SsmOutputsMath

@[expose] public section

noncomputable section

namespace Cert.Proof.SsmMix

open Idealize.ShloMosaic

/-- Sixteen terms, added in their order. -/
def sixteen (f : Fin 16 → EReal) : EReal :=
  f 0 + f 1 + f 2 + f 3 + f 4 + f 5 + f 6 + f 7 + f 8 + f 9 + f 10 + f 11 + f 12 + f 13 + f 14 + f 15

theorem sixteen_eq (f : Fin 16 → EReal) : sixteen f = ∑ s, f s := by
  simp only [Fin.sum_univ_succ, Fin.sum_univ_zero, add_zero, sixteen]
  simp only [add_assoc]
  rfl

/-- The entry `16 s` rows below and `16 s` columns right of `p`, `l`; nothing where the rows end. -/
def shifted (a : Fin 256 → Fin 256 → EReal) (p : Fin 256) (l : Fin 16) (s : Fin 16) : EReal :=
  if h : p.val < 256 - 16 * s.val then a ⟨16 * s.val + p.val, by omega⟩ (SsmOutputs.at16 s l) else 0

/-- The gradient of a matrix that is the same along its block diagonals: the sum along the diagonal. -/
def along (a : Fin 256 → Fin 256 → EReal) (p : Fin 256) (l : Fin 16) : EReal := sixteen (shifted a p l)

/-- Position `q` of group `g` in block `b`. -/
def at' (u : Fin 8192 → Fin 1024 → EReal) (g : Fin 64) (b : Fin 512) (q : Fin 256) : EReal :=
  u (SsmIn.row b (SsmIn.hi q)) (SsmIn.column g (SsmIn.lo q))

/-- State `k` of group `g` before block `b`. -/
def state' (hr hm : Fin 512 → Fin 4096 → EReal) (g : Fin 64) (b : Fin 512) (k : Fin 128) : EReal :=
  if k.val < 64 then hr b (SsmOutputs.stateCol g (SsmIn.state k)) else hm b (SsmOutputs.stateCol g (SsmIn.state k))

/-- The gradient of the matrix from inputs to outputs. -/
def pairs (y u : Fin 8192 → Fin 1024 → EReal) (g : Fin 64) (q r : Fin 256) : EReal := ∑ b : Fin 512, at' y g b q * at' u g b r

/-- The gradient of the matrix from states to outputs. -/
def outs (y : Fin 8192 → Fin 1024 → EReal) (hr hm : Fin 512 → Fin 4096 → EReal) (g : Fin 64) (r : Fin 256) (k : Fin 128) : EReal :=
  ∑ b : Fin 512, at' y g b r * state' hr hm g b k

/-- The gradient of the matrix from inputs to states. -/
def ins (u : Fin 8192 → Fin 1024 → EReal) (xr xm : Fin 512 → Fin 4096 → EReal) (g : Fin 64) (k : Fin 128) (q : Fin 256) : EReal :=
  ∑ b : Fin 512, state' xr xm g b k * at' u g b q

/-- The gradient of the scale of one column. -/
def scale (y u : Fin 8192 → Fin 1024 → EReal) (j : Fin 1024) : EReal := ∑ r : Fin 8192, y r j * u r j

/-- A sum over the rows, position by position. -/
theorem sum_rows (f : Fin 8192 → EReal) : ∑ r : Fin 8192, f r = sixteen fun s => ∑ b : Fin 512, f (SsmIn.row b s) := by
  rw [sixteen_eq, Finset.sum_comm, ← Fintype.sum_prod_type']
  refine (Fintype.sum_equiv (finProdFinEquiv (m := 512) (n := 16)) (fun x => f (SsmIn.row x.1 x.2)) f fun x => congrArg f (Fin.ext ?_)).symm
  simp only [SsmIn.row, finProdFinEquiv, Equiv.coe_fn_mk]
  omega

end Cert.Proof.SsmMix

end
-- ==== Proof.SsmMixKernel.lean ====
/-
  The values of the kernel for the gradient of the products that leave the recurrence: what one group's payloads hold.
-/
module

public import proofs.«01_k».proof.Proof.Gen.Kernel15Ideal.Value
public import proofs.«01_k».proof.Proof.SsmMixMath
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel15Ideal.SsmMixValue

open Cert.Kernel15Ideal Cert.Kernel15Ideal.Gen Idealize.ShloMosaic Idealize.ShloMosaic.TcCoe Idealize.SL.Sem Cert.Proof

/-- Position `s` of every block. -/
def pos (a : Vec Ideal S8192x128 .f32) (s : Fin 16) : FVec Ideal S512x128 .f32 :=
  shapeCast S512x128 (extractStridedSlice S1x512x128 ![s.val, 0, 0] (k0_pay1 a) (by fin_cases s <;> decide)) shapeCasts_S1x512x128_S512x128

theorem pos_apply (a : Vec Ideal S8192x128 .f32) (s : Fin 16) (b : Fin 512) (l : Fin 128) :
    pos a s (ix2 b l) = a (ix2 (SsmIn.row b s) l) := by
  fin_cases s <;> (unfold pos; pointwise [k0_pay1]; rfl)

/-- Position `s` of every block, turned over. -/
def turned (a : Vec Ideal S8192x128 .f32) (s : Fin 16) : FVec Ideal S128x512 .f32 :=
  transpose S128x512 [1, 0] (pos a s) transposes_S512x128_p1_0_S128x512

theorem turned_apply (a : Vec Ideal S8192x128 .f32) (s : Fin 16) (l : Fin 128) (b : Fin 512) :
    turned a s (ix2 l b) = a (ix2 (SsmIn.row b s) l) := by
  refine Eq.trans ?_ (pos_apply a s b l)
  unfold turned
  generalize pos a s = w
  pointwise

/-- The sixteen channels of group `g`. -/
def take (g : Fin 8) (v : FVec Ideal S128x512 .f32) : FVec Ideal S16x512 .f32 :=
  extractStridedSlice S16x512 ![16 * g.val, 0] v (by fin_cases g <;> decide)

theorem take_apply (g : Fin 8) (v : FVec Ideal S128x512 .f32) (l : Fin 16) (b : Fin 512) :
    take g v (ix2 l b) = v (ix2 (SsmIn.channel g l) b) := by
  fin_cases g <;> (unfold take; pointwise; exact congrArg (fun k => v (ix2 k b)) (Fin.ext (by simp [SsmIn.channel])))

/-- Sixteen pieces one under the other. -/
def gathered (f : Fin 16 → FVec Ideal S16x512 .f32) : FVec Ideal S256x512 .f32 :=
  concatenate S256x512 0 [⟨S16x512, f 0⟩, ⟨S16x512, f 1⟩, ⟨S16x512, f 2⟩, ⟨S16x512, f 3⟩, ⟨S16x512, f 4⟩, ⟨S16x512, f 5⟩, ⟨S16x512, f 6⟩, ⟨S16x512, f 7⟩, ⟨S16x512, f 8⟩, ⟨S16x512, f 9⟩, ⟨S16x512, f 10⟩, ⟨S16x512, f 11⟩, ⟨S16x512, f 12⟩, ⟨S16x512, f 13⟩, ⟨S16x512, f 14⟩, ⟨S16x512, f 15⟩] concatenates_S16x512_S16x512_S16x512_S16x512_S16x512_S16x512_S16x512_S16x512_S16x512_S16x512_S16x512_S16x512_S16x512_S16x512_S16x512_S16x512_S256x512_d0

theorem gathered_apply (f : Fin 16 → FVec Ideal S16x512 .f32) (q : Fin 256) (b : Fin 512) :
    gathered f (ix2 q b) = f (SsmIn.hi q) (ix2 (SsmIn.lo q) b) := by
  unfold gathered
  refine concatenate_ofFn_apply (t := S256x512) (s₁ := S16x512) 0 f _ rfl 16 rfl (ix2 q b) (SsmIn.hi q) ?_ (ix2 (SsmIn.lo q) b) ?_ ?_
  · rfl
  · rfl
  · intro c hc
    fin_cases c
    · exact absurd rfl hc
    · rfl

/-- The positions of group `g`, one row each. -/
def group (a : Vec Ideal S8192x128 .f32) (g : Fin 8) : FVec Ideal S256x512 .bf16 :=
  truncf .bf16 (gathered fun s => take g (turned a s)) bitsLt_bf16_f32

theorem group_apply (a : Vec Ideal S8192x128 .f32) (g : Fin 8) (q : Fin 256) (b : Fin 512) :
    group a g (ix2 q b) = a (ix2 (SsmIn.row b (SsmIn.hi q)) (SsmIn.channel g (SsmIn.lo q))) := by
  refine (gathered_apply (fun s => take g (turned a s)) q b).trans ?_
  rw [take_apply, turned_apply]

/-- The real and imaginary parts of the states of group `g`, turned over and one under the other. -/
def states (g : Fin 8) (hr hm : Vec Ideal S512x512 .f32) : FVec Ideal S128x512 .f32 :=
  concatenate S128x512 0 [⟨S64x512, extractStridedSlice S64x512 ![64 * g.val, 0] (transpose S512x512 [1, 0] hr transposes_S512x512_p1_0_S512x512) (by fin_cases g <;> decide)⟩,
    ⟨S64x512, extractStridedSlice S64x512 ![64 * g.val, 0] (transpose S512x512 [1, 0] hm transposes_S512x512_p1_0_S512x512) (by fin_cases g <;> decide)⟩] concatenates_S64x512_S64x512_S128x512_d0

/-- State `p` of group `g` of an octet. -/
def slot (g : Fin 8) (p : Fin 64) : Fin 512 := ⟨64 * g.val + p.val, by omega⟩

theorem states_apply (g : Fin 8) (hr hm : Vec Ideal S512x512 .f32) (k : Fin 128) (b : Fin 512) :
    states g hr hm (ix2 k b) = if k.val < 64 then hr (ix2 b (slot g (SsmIn.state k))) else hm (ix2 b (slot g (SsmIn.state k))) := by
  by_cases h : k.val < 64
  · rw [if_pos h]
    fin_cases g <;> (unfold states; pointwise; refine (dif_pos h).trans (congrArg (fun k => hr (ix2 b k)) (Fin.ext ?_)); simp [slot, SsmIn.state]; omega)
  · rw [if_neg h]
    fin_cases g <;> (unfold states; pointwise; refine (dif_neg h).trans (congrArg (fun k => hm (ix2 b k)) (Fin.ext ?_)); simp [slot, SsmIn.state]; omega)

/-- The states of group `g`. -/
def states' (g : Fin 8) (hr hm : Vec Ideal S512x512 .f32) : FVec Ideal S128x512 .bf16 := truncf .bf16 (states g hr hm) bitsLt_bf16_f32

theorem states'_apply (g : Fin 8) (hr hm : Vec Ideal S512x512 .f32) (k : Fin 128) (b : Fin 512) :
    states' g hr hm (ix2 k b) = if k.val < 64 then hr (ix2 b (slot g (SsmIn.state k))) else hm (ix2 b (slot g (SsmIn.state k))) := states_apply g hr hm k b

/-- The two products of a group. -/
def mixed (x : FVec Ideal S256x256 .bf16) (y : FVec Ideal S256x512 .bf16) (c : FVec Ideal S256x128 .bf16) (h : FVec Ideal S128x512 .bf16) : FVec Ideal S256x512 .f32 :=
  addf (matmul dot_S256x256_S256x512_S256x512_1_0_0_1_n_n none x y (constant S256x512 .f32 0x00000000#32))
    (matmul dot_S256x128_S128x512_S256x512_1_0_0_1_n_n none c h (constant S256x512 .f32 0x00000000#32))

theorem mixed_apply (x : FVec Ideal S256x256 .bf16) (y : FVec Ideal S256x512 .bf16) (c : FVec Ideal S256x128 .bf16) (h : FVec Ideal S128x512 .bf16) (i : Fin 256) (b : Fin 512) :
    mixed x y c h (ix2 i b) = (∑ q : Fin 256, x (ix2 i q) * y (ix2 q b)) + ∑ k : Fin 128, c (ix2 i k) * h (ix2 k b) := by
  pointwise [mixed]

/-- The products of group `g`. -/
def product (a : Vec Ideal S8192x128 .f32) (hr hm : Vec Ideal S512x512 .f32) (g : Fin 8) (w : Vec Ideal S1x256x256 .bf16) (v : Vec Ideal S1x256x128 .bf16) : FVec Ideal S256x512 .f32 :=
  mixed (shapeCast S256x256 w shapeCasts_S1x256x256_S256x256) (group a g) (shapeCast S256x128 v shapeCasts_S1x256x128_S256x128) (states' g hr hm)

theorem product_apply (a : Vec Ideal S8192x128 .f32) (hr hm : Vec Ideal S512x512 .f32) (g : Fin 8) (w : Vec Ideal S1x256x256 .bf16) (v : Vec Ideal S1x256x128 .bf16) (i : Fin 256) (b : Fin 512) :
    product a hr hm g w v (ix2 i b) = (∑ q : Fin 256, w (ix3 0 i q) * a (ix2 (SsmIn.row b (SsmIn.hi q)) (SsmIn.channel g (SsmIn.lo q))))
      + ∑ k : Fin 128, v (ix3 0 i k) * if k.val < 64 then hr (ix2 b (slot g (SsmIn.state k))) else hm (ix2 b (slot g (SsmIn.state k))) := by
  have ew (q : Fin 256) : shapeCast S256x256 w shapeCasts_S1x256x256_S256x256 (ix2 i q) = w (ix3 0 i q) := by pointwise
  have ev (q : Fin 128) : shapeCast S256x128 v shapeCasts_S1x256x128_S256x128 (ix2 i q) = v (ix3 0 i q) := by pointwise
  unfold product
  rw [mixed_apply]
  refine congrArg₂ (· + ·) (Finset.sum_congr rfl fun q _ => ?_) (Finset.sum_congr rfl fun k _ => ?_)
  · exact congrArg₂ (· * ·) (ew q) (group_apply a g q b)
  · exact congrArg₂ (· * ·) (ev k) (states'_apply g hr hm k b)

/-- The rows of position `s` of one group's product. -/
def pick (s : Fin 16) (v : FVec Ideal S256x512 .f32) : FVec Ideal S16x512 .f32 :=
  extractStridedSlice S16x512 ![16 * s.val, 0] v (by fin_cases s <;> decide)

theorem pick_apply (s : Fin 16) (v : FVec Ideal S256x512 .f32) (l : Fin 16) (b : Fin 512) :
    pick s v (ix2 l b) = v (ix2 (SsmOutputs.at16 s l) b) := by
  fin_cases s <;> (unfold pick; pointwise; exact congrArg (fun k => v (ix2 k b)) (Fin.ext (by simp [SsmOutputs.at16])))

/-- Eight pieces one under the other. -/
def eight (f : Fin 8 → FVec Ideal S16x512 .f32) : FVec Ideal S128x512 .f32 :=
  concatenate S128x512 0 [⟨S16x512, f 0⟩, ⟨S16x512, f 1⟩, ⟨S16x512, f 2⟩, ⟨S16x512, f 3⟩, ⟨S16x512, f 4⟩, ⟨S16x512, f 5⟩, ⟨S16x512, f 6⟩, ⟨S16x512, f 7⟩] concatenates_S16x512_S16x512_S16x512_S16x512_S16x512_S16x512_S16x512_S16x512_S128x512_d0

theorem eight_apply (f : Fin 8 → FVec Ideal S16x512 .f32) (g : Fin 8) (l : Fin 16) (b : Fin 512) :
    eight f (ix2 (SsmIn.channel g l) b) = f g (ix2 l b) := by
  unfold eight
  refine concatenate_ofFn_apply (t := S128x512) (s₁ := S16x512) 0 f _ rfl 16 rfl (ix2 (SsmIn.channel g l) b) g ?_ (ix2 l b) ?_ ?_
  · show (16 * g.val + l.val) / 16 = g.val
    omega
  · show l.val = (16 * g.val + l.val) % 16
    omega
  · intro c hc
    fin_cases c
    · exact absurd rfl hc
    · rfl

/-- The rows of one position. -/
def rowsAt (e : FVec Ideal S128x512 .f32) (u : FVec Ideal S512x128 .f32) (d : Vec Ideal S1x128 .f32) : FVec Ideal S512x128 .f32 :=
  addf (transpose S512x128 [1, 0] e transposes_S128x512_p1_0_S512x128)
    (mulf (broadcastTo S512x128 (shapeCast S1x128 d shapeCasts_S1x128_S1x128) broadcasts_S1x128_S512x128) u)

theorem rowsAt_apply (e : FVec Ideal S128x512 .f32) (u : FVec Ideal S512x128 .f32) (d : Vec Ideal S1x128 .f32) (b : Fin 512) (l : Fin 128) :
    rowsAt e u d (ix2 b l) = e (ix2 l b) + d (ix2 0 l) * u (ix2 b l) := by
  pointwise [rowsAt]

/-- Sixteen positions, stacked. -/
def stacked (f : Fin 16 → FVec Ideal S1x512x128 .f32) : FVec Ideal S16x512x128 .f32 :=
  concatenate S16x512x128 0 [⟨S1x512x128, f 0⟩, ⟨S1x512x128, f 1⟩, ⟨S1x512x128, f 2⟩, ⟨S1x512x128, f 3⟩, ⟨S1x512x128, f 4⟩, ⟨S1x512x128, f 5⟩, ⟨S1x512x128, f 6⟩, ⟨S1x512x128, f 7⟩, ⟨S1x512x128, f 8⟩, ⟨S1x512x128, f 9⟩, ⟨S1x512x128, f 10⟩, ⟨S1x512x128, f 11⟩, ⟨S1x512x128, f 12⟩, ⟨S1x512x128, f 13⟩, ⟨S1x512x128, f 14⟩, ⟨S1x512x128, f 15⟩] concatenates_S1x512x128_S1x512x128_S1x512x128_S1x512x128_S1x512x128_S1x512x128_S1x512x128_S1x512x128_S1x512x128_S1x512x128_S1x512x128_S1x512x128_S1x512x128_S1x512x128_S1x512x128_S1x512x128_S16x512x128_d0

theorem stacked_apply (f : Fin 16 → FVec Ideal S1x512x128 .f32) (s : Fin 16) (b : Fin 512) (l : Fin 128) :
    stacked f (ix3 s b l) = f s (ix3 0 b l) := by
  unfold stacked
  refine concatenate_ofFn_apply (t := S16x512x128) (s₁ := S1x512x128) 0 f _ rfl 1 rfl (ix3 s b l) s ?_ (ix3 0 b l) ?_ ?_
  · exact Nat.div_one _
  · show 0 = s.val % 1
    omega
  · intro c hc
    fin_cases c
    · exact absurd rfl hc
    · rfl
    · rfl

/-- The block's rows in their order. -/
def ordered (f : Fin 16 → FVec Ideal S512x128 .f32) : FVec Ideal S8192x128 .f32 :=
  shapeCast S8192x128 (transpose S512x16x128 [1, 0, 2] (stacked fun s => shapeCast S1x512x128 (f s) shapeCasts_S512x128_S1x512x128) transposes_S16x512x128_p1_0_2_S512x16x128) shapeCasts_S512x16x128_S8192x128

theorem ordered_apply (f : Fin 16 → FVec Ideal S512x128 .f32) (b : Fin 512) (s : Fin 16) (l : Fin 128) :
    ordered f (ix2 (SsmIn.row b s) l) = f s (ix2 b l) := by
  have e : ordered f (ix2 (SsmIn.row b s) l) = stacked (fun s => shapeCast S1x512x128 (f s) shapeCasts_S512x128_S1x512x128) (ix3 s b l) := by
    unfold ordered
    generalize stacked _ = w
    pointwise
    congr 2 <;> (refine Fin.ext ?_; simp only [SsmIn.row]; omega)
  rw [e, stacked_apply]
  generalize f s = w
  pointwise

/-- The gradient of the matrix from inputs to outputs, before its diagonals are added. -/
def outer (x y : FVec Ideal S256x512 .bf16) : FVec Ideal S256x256 .f32 := k0_pay79 x y

theorem outer_apply (x y : FVec Ideal S256x512 .bf16) (q r : Fin 256) : outer x y (ix2 q r) = ∑ b : Fin 512, x (ix2 q b) * y (ix2 r b) := by
  pointwise [outer, k0_pay79]

theorem pay84_apply (x : FVec Ideal S256x512 .bf16) (y : FVec Ideal S128x512 .bf16) (r : Fin 256) (k : Fin 128) :
    k0_pay84 x y (ix3 0 r k) = ∑ b : Fin 512, x (ix2 r b) * y (ix2 k b) := by
  pointwise [k0_pay84]

theorem pay85_apply (y : FVec Ideal S256x512 .bf16) (x : FVec Ideal S128x512 .bf16) (k : Fin 128) (q : Fin 256) :
    k0_pay85 y x (ix3 0 k q) = ∑ b : Fin 512, x (ix2 k b) * y (ix2 q b) := by
  pointwise [k0_pay85]

/-- The last 16 rows filled with zeros. -/
def fill1 (a : FVec Ideal S240x16 .f32) : FVec Ideal S256x16 .f32 :=
  concatenate S256x16 0 [⟨S240x16, a⟩, ⟨S16x16, broadcast S16x16 (Scalar.ofBits .f32 0x00000000#32 : Ideal .f32)⟩] concatenates_S240x16_S16x16_S256x16_d0

theorem fill1_apply (z : Vec Ideal S256x256 .f32) (p : Fin 256) (l : Fin 16) :
    fill1 (View.ld z (Rect.unit ![16, 16] S240x16.size inb_S256x256_S240x16_16_16 : Rect S256x256)) (ix2 p l) = SsmMix.shifted (fun q r => z (ix2 q r)) p l 1 := by
  unfold fill1 SsmMix.shifted
  pointwise
  rfl

/-- The last 32 rows filled with zeros. -/
def fill2 (a : FVec Ideal S224x16 .f32) : FVec Ideal S256x16 .f32 :=
  concatenate S256x16 0 [⟨S224x16, a⟩, ⟨S32x16, broadcast S32x16 (Scalar.ofBits .f32 0x00000000#32 : Ideal .f32)⟩] concatenates_S224x16_S32x16_S256x16_d0

theorem fill2_apply (z : Vec Ideal S256x256 .f32) (p : Fin 256) (l : Fin 16) :
    fill2 (View.ld z (Rect.unit ![32, 32] S224x16.size inb_S256x256_S224x16_32_32 : Rect S256x256)) (ix2 p l) = SsmMix.shifted (fun q r => z (ix2 q r)) p l 2 := by
  unfold fill2 SsmMix.shifted
  pointwise
  rfl

/-- The last 48 rows filled with zeros. -/
def fill3 (a : FVec Ideal S208x16 .f32) : FVec Ideal S256x16 .f32 :=
  concatenate S256x16 0 [⟨S208x16, a⟩, ⟨S48x16, broadcast S48x16 (Scalar.ofBits .f32 0x00000000#32 : Ideal .f32)⟩] concatenates_S208x16_S48x16_S256x16_d0

theorem fill3_apply (z : Vec Ideal S256x256 .f32) (p : Fin 256) (l : Fin 16) :
    fill3 (View.ld z (Rect.unit ![48, 48] S208x16.size inb_S256x256_S208x16_48_48 : Rect S256x256)) (ix2 p l) = SsmMix.shifted (fun q r => z (ix2 q r)) p l 3 := by
  unfold fill3 SsmMix.shifted
  pointwise
  rfl

/-- The last 64 rows filled with zeros. -/
def fill4 (a : FVec Ideal S192x16 .f32) : FVec Ideal S256x16 .f32 :=
  concatenate S256x16 0 [⟨S192x16, a⟩, ⟨S64x16, broadcast S64x16 (Scalar.ofBits .f32 0x00000000#32 : Ideal .f32)⟩] concatenates_S192x16_S64x16_S256x16_d0

theorem fill4_apply (z : Vec Ideal S256x256 .f32) (p : Fin 256) (l : Fin 16) :
    fill4 (View.ld z (Rect.unit ![64, 64] S192x16.size inb_S256x256_S192x16_64_64 : Rect S256x256)) (ix2 p l) = SsmMix.shifted (fun q r => z (ix2 q r)) p l 4 := by
  unfold fill4 SsmMix.shifted
  pointwise
  rfl

/-- The last 80 rows filled with zeros. -/
def fill5 (a : FVec Ideal S176x16 .f32) : FVec Ideal S256x16 .f32 :=
  concatenate S256x16 0 [⟨S176x16, a⟩, ⟨S80x16, broadcast S80x16 (Scalar.ofBits .f32 0x00000000#32 : Ideal .f32)⟩] concatenates_S176x16_S80x16_S256x16_d0

theorem fill5_apply (z : Vec Ideal S256x256 .f32) (p : Fin 256) (l : Fin 16) :
    fill5 (View.ld z (Rect.unit ![80, 80] S176x16.size inb_S256x256_S176x16_80_80 : Rect S256x256)) (ix2 p l) = SsmMix.shifted (fun q r => z (ix2 q r)) p l 5 := by
  unfold fill5 SsmMix.shifted
  pointwise
  rfl

/-- The last 96 rows filled with zeros. -/
def fill6 (a : FVec Ideal S160x16 .f32) : FVec Ideal S256x16 .f32 :=
  concatenate S256x16 0 [⟨S160x16, a⟩, ⟨S96x16, broadcast S96x16 (Scalar.ofBits .f32 0x00000000#32 : Ideal .f32)⟩] concatenates_S160x16_S96x16_S256x16_d0

theorem fill6_apply (z : Vec Ideal S256x256 .f32) (p : Fin 256) (l : Fin 16) :
    fill6 (View.ld z (Rect.unit ![96, 96] S160x16.size inb_S256x256_S160x16_96_96 : Rect S256x256)) (ix2 p l) = SsmMix.shifted (fun q r => z (ix2 q r)) p l 6 := by
  unfold fill6 SsmMix.shifted
  pointwise
  rfl

/-- The last 112 rows filled with zeros. -/
def fill7 (a : FVec Ideal S144x16 .f32) : FVec Ideal S256x16 .f32 :=
  concatenate S256x16 0 [⟨S144x16, a⟩, ⟨S112x16, broadcast S112x16 (Scalar.ofBits .f32 0x00000000#32 : Ideal .f32)⟩] concatenates_S144x16_S112x16_S256x16_d0

theorem fill7_apply (z : Vec Ideal S256x256 .f32) (p : Fin 256) (l : Fin 16) :
    fill7 (View.ld z (Rect.unit ![112, 112] S144x16.size inb_S256x256_S144x16_112_112 : Rect S256x256)) (ix2 p l) = SsmMix.shifted (fun q r => z (ix2 q r)) p l 7 := by
  unfold fill7 SsmMix.shifted
  pointwise
  rfl

/-- The last 128 rows filled with zeros. -/
def fill8 (a : FVec Ideal S128x16 .f32) : FVec Ideal S256x16 .f32 :=
  concatenate S256x16 0 [⟨S128x16, a⟩, ⟨S128x16, broadcast S128x16 (Scalar.ofBits .f32 0x00000000#32 : Ideal .f32)⟩] concatenates_S128x16_S128x16_S256x16_d0

theorem fill8_apply (z : Vec Ideal S256x256 .f32) (p : Fin 256) (l : Fin 16) :
    fill8 (View.ld z (Rect.unit ![128, 128] S128x16.size inb_S256x256_S128x16_128_128 : Rect S256x256)) (ix2 p l) = SsmMix.shifted (fun q r => z (ix2 q r)) p l 8 := by
  unfold fill8 SsmMix.shifted
  pointwise
  rfl

/-- The last 144 rows filled with zeros. -/
def fill9 (a : FVec Ideal S112x16 .f32) : FVec Ideal S256x16 .f32 :=
  concatenate S256x16 0 [⟨S112x16, a⟩, ⟨S144x16, broadcast S144x16 (Scalar.ofBits .f32 0x00000000#32 : Ideal .f32)⟩] concatenates_S112x16_S144x16_S256x16_d0

theorem fill9_apply (z : Vec Ideal S256x256 .f32) (p : Fin 256) (l : Fin 16) :
    fill9 (View.ld z (Rect.unit ![144, 144] S112x16.size inb_S256x256_S112x16_144_144 : Rect S256x256)) (ix2 p l) = SsmMix.shifted (fun q r => z (ix2 q r)) p l 9 := by
  unfold fill9 SsmMix.shifted
  pointwise
  rfl

/-- The last 160 rows filled with zeros. -/
def fill10 (a : FVec Ideal S96x16 .f32) : FVec Ideal S256x16 .f32 :=
  concatenate S256x16 0 [⟨S96x16, a⟩, ⟨S160x16, broadcast S160x16 (Scalar.ofBits .f32 0x00000000#32 : Ideal .f32)⟩] concatenates_S96x16_S160x16_S256x16_d0

theorem fill10_apply (z : Vec Ideal S256x256 .f32) (p : Fin 256) (l : Fin 16) :
    fill10 (View.ld z (Rect.unit ![160, 160] S96x16.size inb_S256x256_S96x16_160_160 : Rect S256x256)) (ix2 p l) = SsmMix.shifted (fun q r => z (ix2 q r)) p l 10 := by
  unfold fill10 SsmMix.shifted
  pointwise
  rfl

/-- The last 176 rows filled with zeros. -/
def fill11 (a : FVec Ideal S80x16 .f32) : FVec Ideal S256x16 .f32 :=
  concatenate S256x16 0 [⟨S80x16, a⟩, ⟨S176x16, broadcast S176x16 (Scalar.ofBits .f32 0x00000000#32 : Ideal .f32)⟩] concatenates_S80x16_S176x16_S256x16_d0

theorem fill11_apply (z : Vec Ideal S256x256 .f32) (p : Fin 256) (l : Fin 16) :
    fill11 (View.ld z (Rect.unit ![176, 176] S80x16.size inb_S256x256_S80x16_176_176 : Rect S256x256)) (ix2 p l) = SsmMix.shifted (fun q r => z (ix2 q r)) p l 11 := by
  unfold fill11 SsmMix.shifted
  pointwise
  rfl

/-- The last 192 rows filled with zeros. -/
def fill12 (a : FVec Ideal S64x16 .f32) : FVec Ideal S256x16 .f32 :=
  concatenate S256x16 0 [⟨S64x16, a⟩, ⟨S192x16, broadcast S192x16 (Scalar.ofBits .f32 0x00000000#32 : Ideal .f32)⟩] concatenates_S64x16_S192x16_S256x16_d0

theorem fill12_apply (z : Vec Ideal S256x256 .f32) (p : Fin 256) (l : Fin 16) :
    fill12 (View.ld z (Rect.unit ![192, 192] S64x16.size inb_S256x256_S64x16_192_192 : Rect S256x256)) (ix2 p l) = SsmMix.shifted (fun q r => z (ix2 q r)) p l 12 := by
  unfold fill12 SsmMix.shifted
  pointwise
  rfl

/-- The last 208 rows filled with zeros. -/
def fill13 (a : FVec Ideal S48x16 .f32) : FVec Ideal S256x16 .f32 :=
  concatenate S256x16 0 [⟨S48x16, a⟩, ⟨S208x16, broadcast S208x16 (Scalar.ofBits .f32 0x00000000#32 : Ideal .f32)⟩] concatenates_S48x16_S208x16_S256x16_d0

theorem fill13_apply (z : Vec Ideal S256x256 .f32) (p : Fin 256) (l : Fin 16) :
    fill13 (View.ld z (Rect.unit ![208, 208] S48x16.size inb_S256x256_S48x16_208_208 : Rect S256x256)) (ix2 p l) = SsmMix.shifted (fun q r => z (ix2 q r)) p l 13 := by
  unfold fill13 SsmMix.shifted
  pointwise
  rfl

/-- The last 224 rows filled with zeros. -/
def fill14 (a : FVec Ideal S32x16 .f32) : FVec Ideal S256x16 .f32 :=
  concatenate S256x16 0 [⟨S32x16, a⟩, ⟨S224x16, broadcast S224x16 (Scalar.ofBits .f32 0x00000000#32 : Ideal .f32)⟩] concatenates_S32x16_S224x16_S256x16_d0

theorem fill14_apply (z : Vec Ideal S256x256 .f32) (p : Fin 256) (l : Fin 16) :
    fill14 (View.ld z (Rect.unit ![224, 224] S32x16.size inb_S256x256_S32x16_224_224 : Rect S256x256)) (ix2 p l) = SsmMix.shifted (fun q r => z (ix2 q r)) p l 14 := by
  unfold fill14 SsmMix.shifted
  pointwise
  rfl

/-- The last 240 rows filled with zeros. -/
def fill15 (a : FVec Ideal S16x16 .f32) : FVec Ideal S256x16 .f32 :=
  concatenate S256x16 0 [⟨S16x16, a⟩, ⟨S240x16, broadcast S240x16 (Scalar.ofBits .f32 0x00000000#32 : Ideal .f32)⟩] concatenates_S16x16_S240x16_S256x16_d0

theorem fill15_apply (z : Vec Ideal S256x256 .f32) (p : Fin 256) (l : Fin 16) :
    fill15 (View.ld z (Rect.unit ![240, 240] S16x16.size inb_S256x256_S16x16_240_240 : Rect S256x256)) (ix2 p l) = SsmMix.shifted (fun q r => z (ix2 q r)) p l 15 := by
  unfold fill15 SsmMix.shifted
  pointwise
  rfl

/-- The sixteen slices added. -/
def chain (a0 : FVec Ideal S256x16 .f32) (a1 : FVec Ideal S240x16 .f32) (a2 : FVec Ideal S224x16 .f32) (a3 : FVec Ideal S208x16 .f32) (a4 : FVec Ideal S192x16 .f32) (a5 : FVec Ideal S176x16 .f32) (a6 : FVec Ideal S160x16 .f32) (a7 : FVec Ideal S144x16 .f32) (a8 : FVec Ideal S128x16 .f32) (a9 : FVec Ideal S112x16 .f32) (a10 : FVec Ideal S96x16 .f32) (a11 : FVec Ideal S80x16 .f32) (a12 : FVec Ideal S64x16 .f32) (a13 : FVec Ideal S48x16 .f32) (a14 : FVec Ideal S32x16 .f32) (a15 : FVec Ideal S16x16 .f32) : FVec Ideal S256x16 .f32 :=
  addf (addf (addf (addf (addf (addf (addf (addf (addf (addf (addf (addf (addf (addf (addf a0 (fill1 a1)) (fill2 a2)) (fill3 a3)) (fill4 a4)) (fill5 a5)) (fill6 a6)) (fill7 a7)) (fill8 a8)) (fill9 a9)) (fill10 a10)) (fill11 a11)) (fill12 a12)) (fill13 a13)) (fill14 a14)) (fill15 a15)

/-- The sums along the block diagonals. -/
def diag (z : Vec Ideal S256x256 .f32) : FVec Ideal S256x16 .f32 :=
  chain (View.ld z (Rect.unit ![0, 0] S256x16.size inb_S256x256_S256x16_0_0 : Rect S256x256))
    (View.ld z (Rect.unit ![16, 16] S240x16.size inb_S256x256_S240x16_16_16 : Rect S256x256))
    (View.ld z (Rect.unit ![32, 32] S224x16.size inb_S256x256_S224x16_32_32 : Rect S256x256))
    (View.ld z (Rect.unit ![48, 48] S208x16.size inb_S256x256_S208x16_48_48 : Rect S256x256))
    (View.ld z (Rect.unit ![64, 64] S192x16.size inb_S256x256_S192x16_64_64 : Rect S256x256))
    (View.ld z (Rect.unit ![80, 80] S176x16.size inb_S256x256_S176x16_80_80 : Rect S256x256))
    (View.ld z (Rect.unit ![96, 96] S160x16.size inb_S256x256_S160x16_96_96 : Rect S256x256))
    (View.ld z (Rect.unit ![112, 112] S144x16.size inb_S256x256_S144x16_112_112 : Rect S256x256))
    (View.ld z (Rect.unit ![128, 128] S128x16.size inb_S256x256_S128x16_128_128 : Rect S256x256))
    (View.ld z (Rect.unit ![144, 144] S112x16.size inb_S256x256_S112x16_144_144 : Rect S256x256))
    (View.ld z (Rect.unit ![160, 160] S96x16.size inb_S256x256_S96x16_160_160 : Rect S256x256))
    (View.ld z (Rect.unit ![176, 176] S80x16.size inb_S256x256_S80x16_176_176 : Rect S256x256))
    (View.ld z (Rect.unit ![192, 192] S64x16.size inb_S256x256_S64x16_192_192 : Rect S256x256))
    (View.ld z (Rect.unit ![208, 208] S48x16.size inb_S256x256_S48x16_208_208 : Rect S256x256))
    (View.ld z (Rect.unit ![224, 224] S32x16.size inb_S256x256_S32x16_224_224 : Rect S256x256))
    (View.ld z (Rect.unit ![240, 240] S16x16.size inb_S256x256_S16x16_240_240 : Rect S256x256))

theorem diag_apply (z : Vec Ideal S256x256 .f32) (p : Fin 256) (l : Fin 16) :
    diag z (ix2 p l) = SsmMix.along (fun q r => z (ix2 q r)) p l := by
  have e : (View.ld z (Rect.unit ![0, 0] S256x16.size inb_S256x256_S256x16_0_0 : Rect S256x256)) (ix2 p l) = SsmMix.shifted (fun q r => z (ix2 q r)) p l 0 := by
    unfold SsmMix.shifted
    rw [dif_pos (by simp)]
    pointwise
    congr 2 <;> (refine Fin.ext ?_; simp [SsmOutputs.at16])
  unfold SsmMix.along SsmMix.sixteen
  rw [← e, ← fill1_apply z p l, ← fill2_apply z p l, ← fill3_apply z p l, ← fill4_apply z p l, ← fill5_apply z p l, ← fill6_apply z p l, ← fill7_apply z p l, ← fill8_apply z p l, ← fill9_apply z p l, ← fill10_apply z p l, ← fill11_apply z p l, ← fill12_apply z p l, ← fill13_apply z p l, ← fill14_apply z p l, ← fill15_apply z p l]
  rfl

/-- The slices as the kernel reads them back from what it has written. -/
def back (v : View sig .tc .vmem S256x256 .f32) (L : List (View.Piece (Elt Ideal) S256x256 .f32)) : FVec Ideal S256x16 .f32 :=
  chain (v.readCov L (Rect.unit ![0, 0] S256x16.size inb_S256x256_S256x16_0_0 : Rect S256x256).toLoadRect)
    (v.readCov L (Rect.unit ![16, 16] S240x16.size inb_S256x256_S240x16_16_16 : Rect S256x256).toLoadRect)
    (v.readCov L (Rect.unit ![32, 32] S224x16.size inb_S256x256_S224x16_32_32 : Rect S256x256).toLoadRect)
    (v.readCov L (Rect.unit ![48, 48] S208x16.size inb_S256x256_S208x16_48_48 : Rect S256x256).toLoadRect)
    (v.readCov L (Rect.unit ![64, 64] S192x16.size inb_S256x256_S192x16_64_64 : Rect S256x256).toLoadRect)
    (v.readCov L (Rect.unit ![80, 80] S176x16.size inb_S256x256_S176x16_80_80 : Rect S256x256).toLoadRect)
    (v.readCov L (Rect.unit ![96, 96] S160x16.size inb_S256x256_S160x16_96_96 : Rect S256x256).toLoadRect)
    (v.readCov L (Rect.unit ![112, 112] S144x16.size inb_S256x256_S144x16_112_112 : Rect S256x256).toLoadRect)
    (v.readCov L (Rect.unit ![128, 128] S128x16.size inb_S256x256_S128x16_128_128 : Rect S256x256).toLoadRect)
    (v.readCov L (Rect.unit ![144, 144] S112x16.size inb_S256x256_S112x16_144_144 : Rect S256x256).toLoadRect)
    (v.readCov L (Rect.unit ![160, 160] S96x16.size inb_S256x256_S96x16_160_160 : Rect S256x256).toLoadRect)
    (v.readCov L (Rect.unit ![176, 176] S80x16.size inb_S256x256_S80x16_176_176 : Rect S256x256).toLoadRect)
    (v.readCov L (Rect.unit ![192, 192] S64x16.size inb_S256x256_S64x16_192_192 : Rect S256x256).toLoadRect)
    (v.readCov L (Rect.unit ![208, 208] S48x16.size inb_S256x256_S48x16_208_208 : Rect S256x256).toLoadRect)
    (v.readCov L (Rect.unit ![224, 224] S32x16.size inb_S256x256_S32x16_224_224 : Rect S256x256).toLoadRect)
    (v.readCov L (Rect.unit ![240, 240] S16x16.size inb_S256x256_S16x16_240_240 : Rect S256x256).toLoadRect)

/-- The whole matrix. -/
def whole : Rect S256x256 := Rect.unit ![0, 0] S256x256.size inb_S256x256_S256x256_0_0

theorem back_eq (v : View sig .tc .vmem S256x256 .f32) (z : Vec Ideal S256x256 .f32) (L : List (View.Piece (Elt Ideal) S256x256 .f32)) :
    back v (⟨whole, z⟩ :: L) = diag z := by
  unfold back diag whole
  have h : ∀ a : Fin 2, (![0, 0] : Fin 2 → ℕ) a = 0 := by decide
  iterate 16 rw [View.readCov_fill v _ z L _ h]

/-- One position's share of the gradient of the scale. -/
def dotRows (x y : FVec Ideal S512x128 .f32) : FVec Ideal S1x128 .f32 :=
  shapeCast S1x128 (multiReduction .add [0] S128 (mulf x y) 0x00000000#32 reduces_S512x128_S128 (.inl rfl) rfl) shapeCasts_S128_S1x128

theorem dotRows_apply (x y : FVec Ideal S512x128 .f32) (l : Fin 128) : dotRows x y (ix2 0 l) = ∑ b : Fin 512, x (ix2 b l) * y (ix2 b l) := by
  pointwise [dotRows]

/-- The sixteen positions' shares. -/
def scales (x y : Fin 16 → FVec Ideal S512x128 .f32) : FVec Ideal S1x128 .f32 :=
  addf (addf (addf (addf (addf (addf (addf (addf (addf (addf (addf (addf (addf (addf (addf (addf (broadcast S1x128 (Scalar.ofBits .f32 0x00000000#32 : Ideal .f32)) (dotRows (x 0) (y 0))) (dotRows (x 1) (y 1))) (dotRows (x 2) (y 2))) (dotRows (x 3) (y 3))) (dotRows (x 4) (y 4))) (dotRows (x 5) (y 5))) (dotRows (x 6) (y 6))) (dotRows (x 7) (y 7))) (dotRows (x 8) (y 8))) (dotRows (x 9) (y 9))) (dotRows (x 10) (y 10))) (dotRows (x 11) (y 11))) (dotRows (x 12) (y 12))) (dotRows (x 13) (y 13))) (dotRows (x 14) (y 14))) (dotRows (x 15) (y 15))

theorem scales_apply (x y : Fin 16 → FVec Ideal S512x128 .f32) (l : Fin 128) :
    scales x y (ix2 0 l) = SsmMix.sixteen fun s => ∑ b : Fin 512, x s (ix2 b l) * y s (ix2 b l) := by
  simp only [← dotRows_apply]
  have z : (broadcast S1x128 (Scalar.ofBits .f32 0x00000000#32 : Ideal .f32)) (ix2 0 l) = (0 : EReal) := by pointwise
  unfold SsmMix.sixteen
  beta_reduce
  rw [← zero_add (dotRows (x 0) (y 0) (ix2 0 l)), ← z]
  rfl

end Cert.Kernel15Ideal.SsmMixValue

end
-- ==== Proof.SsmMixBlocks.lean ====
/-
  The values of the kernel for the gradient of the products that leave the recurrence: what its five blocks hold.
-/
module

public import proofs.«01_k».proof.Proof.Gen.Kernel15Ideal.Value
public import proofs.«01_k».proof.Proof.SsmMixKernel
public import Idealize.ShloMosaic.Lib.Pipeline.ValueKit
public import Idealize.ShloMosaic.Lib.Pipeline.ReadBack
public import Idealize.ShloMosaic.Lib.WholeRead
public import Idealize.ShloMosaic.Lib.Pointwise

@[expose] public section

set_option maxRecDepth 16384

noncomputable section

namespace Cert.Kernel15Ideal.SsmMixValue

open Cert.Kernel15Ideal Cert.Kernel15Ideal.Gen Idealize.ShloMosaic Idealize.ShloMosaic.TcCoe Idealize.SL.Sem Cert.Proof

variable (c : Dev nD) (i : grid0.Coords) (arg1 : Memref sig .tc .vmem S8192x128 .f32) (harg1 : arg1.IsWhole) (arg2 : Memref sig .tc .vmem S8192x128 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S8x256x256 .bf16) (harg7 : arg7.IsWhole) (arg8 : Memref sig .tc .vmem S8x256x128 .bf16) (harg8 : arg8.IsWhole) (arg9 : Memref sig .tc .vmem S1x128 .f32) (harg9 : arg9.IsWhole) (arg10 : Memref sig .tc .vmem S8192x128 .f32) (harg10 : arg10.IsWhole) (arg11 : Memref sig .tc .vmem S8x256x16 .f32) (harg11 : arg11.IsWhole) (arg12 : Memref sig .tc .vmem S8x256x128 .f32) (harg12 : arg12.IsWhole) (arg13 : Memref sig .tc .vmem S8x128x256 .f32) (harg13 : arg13.IsWhole) (arg14 : Memref sig .tc .vmem S1x128 .f32) (harg14 : arg14.IsWhole) (arg15 : Memref sig .tc .vmem S256x256 .f32) (harg15 : arg15.IsWhole)
  (x0 : Vec Ideal S8192x128 .f32) (x1 : Vec Ideal S8192x128 .f32) (x2 : Vec Ideal S512x512 .f32) (x3 : Vec Ideal S512x512 .f32) (x4 : Vec Ideal S512x512 .f32) (x5 : Vec Ideal S512x512 .f32) (x6 : Vec Ideal S8x256x256 .bf16) (x7 : Vec Ideal S8x256x128 .bf16) (x8 : Vec Ideal S1x128 .f32)

/-! ## What the kernel reads -/

theorem readAt_eq {s : Shape} {e : EltTy} (w : Memref sig .tc .vmem s e) (h : w.IsWhole) (x : Vec Ideal s e) (r : Rect s) :
    View.readAt (Elt Ideal) w.view r.toLoadRect (h.unread x) = View.ld x r :=
  funext fun j => h.readAt_unread x r.toLoadRect j

theorem ldRows (x : Vec Ideal S8192x128 .f32) : View.ld x (Rect.unit ![0, 0] S8192x128.size inb_S8192x128_S8192x128_0_0 : Rect S8192x128) = x := by
  funext j
  obtain ⟨a, l, rfl⟩ : ∃ a l, j = ix2 a l := ⟨_, _, eq_ix2 j⟩
  pointwise
theorem ldStates (x : Vec Ideal S512x512 .f32) : View.ld x (Rect.unit ![0, 0] S512x512.size inb_S512x512_S512x512_0_0 : Rect S512x512) = x := by
  funext j
  obtain ⟨a, l, rfl⟩ : ∃ a l, j = ix2 a l := ⟨_, _, eq_ix2 j⟩
  pointwise
theorem ldScale (x : Vec Ideal S1x128 .f32) : View.ld x (Rect.unit ![0, 0] S1x128.size inb_S1x128_S1x128_0_0 : Rect S1x128) = x := by
  funext j
  obtain ⟨a, l, rfl⟩ : ∃ a l, j = ix2 a l := ⟨_, _, eq_ix2 j⟩
  obtain rfl : a = 0 := Subsingleton.elim _ _
  pointwise

def y' : Vec Ideal S8192x128 .f32 := (View.readAt (Elt Ideal) arg1.view (Rect.unit ![0, 0] S8192x128.size inb_S8192x128_S8192x128_0_0 : Rect S8192x128).toLoadRect (harg1.unread x0))
def u' : Vec Ideal S8192x128 .f32 := (View.readAt (Elt Ideal) arg2.view (Rect.unit ![0, 0] S8192x128.size inb_S8192x128_S8192x128_0_0 : Rect S8192x128).toLoadRect (harg2.unread x1))
def hr' : Vec Ideal S512x512 .f32 := (View.readAt (Elt Ideal) arg3.view (Rect.unit ![0, 0] S512x512.size inb_S512x512_S512x512_0_0 : Rect S512x512).toLoadRect (harg3.unread x2))
def hm' : Vec Ideal S512x512 .f32 := (View.readAt (Elt Ideal) arg4.view (Rect.unit ![0, 0] S512x512.size inb_S512x512_S512x512_0_0 : Rect S512x512).toLoadRect (harg4.unread x3))
def xr' : Vec Ideal S512x512 .f32 := (View.readAt (Elt Ideal) arg5.view (Rect.unit ![0, 0] S512x512.size inb_S512x512_S512x512_0_0 : Rect S512x512).toLoadRect (harg5.unread x4))
def xm' : Vec Ideal S512x512 .f32 := (View.readAt (Elt Ideal) arg6.view (Rect.unit ![0, 0] S512x512.size inb_S512x512_S512x512_0_0 : Rect S512x512).toLoadRect (harg6.unread x5))
def d' : Vec Ideal S1x128 .f32 := (View.readAt (Elt Ideal) arg9.view (Rect.unit ![0, 0] S1x128.size inb_S1x128_S1x128_0_0 : Rect S1x128).toLoadRect (harg9.unread x8))
/-- The matrices of group `g` of a block. -/
def mat : Fin 8 → Vec Ideal S1x256x256 .bf16 := ![(View.readAt (Elt Ideal) arg7.view (Rect.unit ![0, 0, 0] S1x256x256.size inb_S8x256x256_S1x256x256_0_0_0 : Rect S8x256x256).toLoadRect (harg7.unread x6)), (View.readAt (Elt Ideal) arg7.view (Rect.unit ![1, 0, 0] S1x256x256.size inb_S8x256x256_S1x256x256_1_0_0 : Rect S8x256x256).toLoadRect (harg7.unread x6)), (View.readAt (Elt Ideal) arg7.view (Rect.unit ![2, 0, 0] S1x256x256.size inb_S8x256x256_S1x256x256_2_0_0 : Rect S8x256x256).toLoadRect (harg7.unread x6)), (View.readAt (Elt Ideal) arg7.view (Rect.unit ![3, 0, 0] S1x256x256.size inb_S8x256x256_S1x256x256_3_0_0 : Rect S8x256x256).toLoadRect (harg7.unread x6)), (View.readAt (Elt Ideal) arg7.view (Rect.unit ![4, 0, 0] S1x256x256.size inb_S8x256x256_S1x256x256_4_0_0 : Rect S8x256x256).toLoadRect (harg7.unread x6)), (View.readAt (Elt Ideal) arg7.view (Rect.unit ![5, 0, 0] S1x256x256.size inb_S8x256x256_S1x256x256_5_0_0 : Rect S8x256x256).toLoadRect (harg7.unread x6)), (View.readAt (Elt Ideal) arg7.view (Rect.unit ![6, 0, 0] S1x256x256.size inb_S8x256x256_S1x256x256_6_0_0 : Rect S8x256x256).toLoadRect (harg7.unread x6)), (View.readAt (Elt Ideal) arg7.view (Rect.unit ![7, 0, 0] S1x256x256.size inb_S8x256x256_S1x256x256_7_0_0 : Rect S8x256x256).toLoadRect (harg7.unread x6))]
def mat' : Fin 8 → Vec Ideal S1x256x128 .bf16 := ![(View.readAt (Elt Ideal) arg8.view (Rect.unit ![0, 0, 0] S1x256x128.size inb_S8x256x128_S1x256x128_0_0_0 : Rect S8x256x128).toLoadRect (harg8.unread x7)), (View.readAt (Elt Ideal) arg8.view (Rect.unit ![1, 0, 0] S1x256x128.size inb_S8x256x128_S1x256x128_1_0_0 : Rect S8x256x128).toLoadRect (harg8.unread x7)), (View.readAt (Elt Ideal) arg8.view (Rect.unit ![2, 0, 0] S1x256x128.size inb_S8x256x128_S1x256x128_2_0_0 : Rect S8x256x128).toLoadRect (harg8.unread x7)), (View.readAt (Elt Ideal) arg8.view (Rect.unit ![3, 0, 0] S1x256x128.size inb_S8x256x128_S1x256x128_3_0_0 : Rect S8x256x128).toLoadRect (harg8.unread x7)), (View.readAt (Elt Ideal) arg8.view (Rect.unit ![4, 0, 0] S1x256x128.size inb_S8x256x128_S1x256x128_4_0_0 : Rect S8x256x128).toLoadRect (harg8.unread x7)), (View.readAt (Elt Ideal) arg8.view (Rect.unit ![5, 0, 0] S1x256x128.size inb_S8x256x128_S1x256x128_5_0_0 : Rect S8x256x128).toLoadRect (harg8.unread x7)), (View.readAt (Elt Ideal) arg8.view (Rect.unit ![6, 0, 0] S1x256x128.size inb_S8x256x128_S1x256x128_6_0_0 : Rect S8x256x128).toLoadRect (harg8.unread x7)), (View.readAt (Elt Ideal) arg8.view (Rect.unit ![7, 0, 0] S1x256x128.size inb_S8x256x128_S1x256x128_7_0_0 : Rect S8x256x128).toLoadRect (harg8.unread x7))]

theorem y'_eq : y' arg1 harg1 x0 = x0 := (readAt_eq _ _ _ _).trans (ldRows x0)
theorem u'_eq : u' arg2 harg2 x1 = x1 := (readAt_eq _ _ _ _).trans (ldRows x1)
theorem hr'_eq : hr' arg3 harg3 x2 = x2 := (readAt_eq _ _ _ _).trans (ldStates x2)
theorem hm'_eq : hm' arg4 harg4 x3 = x3 := (readAt_eq _ _ _ _).trans (ldStates x3)
theorem xr'_eq : xr' arg5 harg5 x4 = x4 := (readAt_eq _ _ _ _).trans (ldStates x4)
theorem xm'_eq : xm' arg6 harg6 x5 = x5 := (readAt_eq _ _ _ _).trans (ldStates x5)
theorem d'_eq : d' arg9 harg9 x8 = x8 := (readAt_eq _ _ _ _).trans (ldScale x8)

theorem mat_apply (g : Fin 8) (k : Fin 256) (q : Fin 256) : mat arg7 harg7 x6 g (ix3 0 k q) = x6 (ix3 g k q) := by
  fin_cases g
  · refine (congrFun (readAt_eq arg7 harg7 x6 (Rect.unit ![0, 0, 0] S1x256x256.size inb_S8x256x256_S1x256x256_0_0_0 : Rect S8x256x256)) (ix3 0 k q)).trans ?_
    pointwise
  · refine (congrFun (readAt_eq arg7 harg7 x6 (Rect.unit ![1, 0, 0] S1x256x256.size inb_S8x256x256_S1x256x256_1_0_0 : Rect S8x256x256)) (ix3 0 k q)).trans ?_
    pointwise
  · refine (congrFun (readAt_eq arg7 harg7 x6 (Rect.unit ![2, 0, 0] S1x256x256.size inb_S8x256x256_S1x256x256_2_0_0 : Rect S8x256x256)) (ix3 0 k q)).trans ?_
    pointwise
  · refine (congrFun (readAt_eq arg7 harg7 x6 (Rect.unit ![3, 0, 0] S1x256x256.size inb_S8x256x256_S1x256x256_3_0_0 : Rect S8x256x256)) (ix3 0 k q)).trans ?_
    pointwise
  · refine (congrFun (readAt_eq arg7 harg7 x6 (Rect.unit ![4, 0, 0] S1x256x256.size inb_S8x256x256_S1x256x256_4_0_0 : Rect S8x256x256)) (ix3 0 k q)).trans ?_
    pointwise
  · refine (congrFun (readAt_eq arg7 harg7 x6 (Rect.unit ![5, 0, 0] S1x256x256.size inb_S8x256x256_S1x256x256_5_0_0 : Rect S8x256x256)) (ix3 0 k q)).trans ?_
    pointwise
  · refine (congrFun (readAt_eq arg7 harg7 x6 (Rect.unit ![6, 0, 0] S1x256x256.size inb_S8x256x256_S1x256x256_6_0_0 : Rect S8x256x256)) (ix3 0 k q)).trans ?_
    pointwise
  · refine (congrFun (readAt_eq arg7 harg7 x6 (Rect.unit ![7, 0, 0] S1x256x256.size inb_S8x256x256_S1x256x256_7_0_0 : Rect S8x256x256)) (ix3 0 k q)).trans ?_
    pointwise

theorem mat'_apply (g : Fin 8) (k : Fin 256) (q : Fin 128) : mat' arg8 harg8 x7 g (ix3 0 k q) = x7 (ix3 g k q) := by
  fin_cases g
  · refine (congrFun (readAt_eq arg8 harg8 x7 (Rect.unit ![0, 0, 0] S1x256x128.size inb_S8x256x128_S1x256x128_0_0_0 : Rect S8x256x128)) (ix3 0 k q)).trans ?_
    pointwise
  · refine (congrFun (readAt_eq arg8 harg8 x7 (Rect.unit ![1, 0, 0] S1x256x128.size inb_S8x256x128_S1x256x128_1_0_0 : Rect S8x256x128)) (ix3 0 k q)).trans ?_
    pointwise
  · refine (congrFun (readAt_eq arg8 harg8 x7 (Rect.unit ![2, 0, 0] S1x256x128.size inb_S8x256x128_S1x256x128_2_0_0 : Rect S8x256x128)) (ix3 0 k q)).trans ?_
    pointwise
  · refine (congrFun (readAt_eq arg8 harg8 x7 (Rect.unit ![3, 0, 0] S1x256x128.size inb_S8x256x128_S1x256x128_3_0_0 : Rect S8x256x128)) (ix3 0 k q)).trans ?_
    pointwise
  · refine (congrFun (readAt_eq arg8 harg8 x7 (Rect.unit ![4, 0, 0] S1x256x128.size inb_S8x256x128_S1x256x128_4_0_0 : Rect S8x256x128)) (ix3 0 k q)).trans ?_
    pointwise
  · refine (congrFun (readAt_eq arg8 harg8 x7 (Rect.unit ![5, 0, 0] S1x256x128.size inb_S8x256x128_S1x256x128_5_0_0 : Rect S8x256x128)) (ix3 0 k q)).trans ?_
    pointwise
  · refine (congrFun (readAt_eq arg8 harg8 x7 (Rect.unit ![6, 0, 0] S1x256x128.size inb_S8x256x128_S1x256x128_6_0_0 : Rect S8x256x128)) (ix3 0 k q)).trans ?_
    pointwise
  · refine (congrFun (readAt_eq arg8 harg8 x7 (Rect.unit ![7, 0, 0] S1x256x128.size inb_S8x256x128_S1x256x128_7_0_0 : Rect S8x256x128)) (ix3 0 k q)).trans ?_
    pointwise

/-! ## What the kernel writes -/

/-- The products written over the same scratch, the latest first. -/
def held (z : Fin 8 → Vec Ideal S256x256 .f32) : ℕ → List (View.Piece (Elt Ideal) S256x256 .f32)
  | 0 => []
  | n + 1 => ⟨whole, z (Fin.ofNat 8 n)⟩ :: held z n

theorem pieces10 : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8).2.1
    = [⟨(Rect.unit ![7, 0, 0] S1x256x16.size inb_S8x256x16_S1x256x16_7_0_0 : Rect S8x256x16), shapeCast S1x256x16 (back arg15.view (held (fun g => outer (group (y' arg1 harg1 x0) g) (group (u' arg2 harg2 x1) g)) 8)) shapeCasts_S256x16_S1x256x16⟩,
      ⟨(Rect.unit ![6, 0, 0] S1x256x16.size inb_S8x256x16_S1x256x16_6_0_0 : Rect S8x256x16), shapeCast S1x256x16 (back arg15.view (held (fun g => outer (group (y' arg1 harg1 x0) g) (group (u' arg2 harg2 x1) g)) 7)) shapeCasts_S256x16_S1x256x16⟩,
      ⟨(Rect.unit ![5, 0, 0] S1x256x16.size inb_S8x256x16_S1x256x16_5_0_0 : Rect S8x256x16), shapeCast S1x256x16 (back arg15.view (held (fun g => outer (group (y' arg1 harg1 x0) g) (group (u' arg2 harg2 x1) g)) 6)) shapeCasts_S256x16_S1x256x16⟩,
      ⟨(Rect.unit ![4, 0, 0] S1x256x16.size inb_S8x256x16_S1x256x16_4_0_0 : Rect S8x256x16), shapeCast S1x256x16 (back arg15.view (held (fun g => outer (group (y' arg1 harg1 x0) g) (group (u' arg2 harg2 x1) g)) 5)) shapeCasts_S256x16_S1x256x16⟩,
      ⟨(Rect.unit ![3, 0, 0] S1x256x16.size inb_S8x256x16_S1x256x16_3_0_0 : Rect S8x256x16), shapeCast S1x256x16 (back arg15.view (held (fun g => outer (group (y' arg1 harg1 x0) g) (group (u' arg2 harg2 x1) g)) 4)) shapeCasts_S256x16_S1x256x16⟩,
      ⟨(Rect.unit ![2, 0, 0] S1x256x16.size inb_S8x256x16_S1x256x16_2_0_0 : Rect S8x256x16), shapeCast S1x256x16 (back arg15.view (held (fun g => outer (group (y' arg1 harg1 x0) g) (group (u' arg2 harg2 x1) g)) 3)) shapeCasts_S256x16_S1x256x16⟩,
      ⟨(Rect.unit ![1, 0, 0] S1x256x16.size inb_S8x256x16_S1x256x16_1_0_0 : Rect S8x256x16), shapeCast S1x256x16 (back arg15.view (held (fun g => outer (group (y' arg1 harg1 x0) g) (group (u' arg2 harg2 x1) g)) 2)) shapeCasts_S256x16_S1x256x16⟩,
      ⟨(Rect.unit ![0, 0, 0] S1x256x16.size inb_S8x256x16_S1x256x16_0_0_0 : Rect S8x256x16), shapeCast S1x256x16 (back arg15.view (held (fun g => outer (group (y' arg1 harg1 x0) g) (group (u' arg2 harg2 x1) g)) 1)) shapeCasts_S256x16_S1x256x16⟩] := rfl

theorem pieces11 : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8).2.2.1
    = [⟨(Rect.unit ![7, 0, 0] S1x256x128.size inb_S8x256x128_S1x256x128_7_0_0 : Rect S8x256x128), k0_pay84 (group (y' arg1 harg1 x0) 7) (states' 7 (hr' arg3 harg3 x2) (hm' arg4 harg4 x3))⟩,
      ⟨(Rect.unit ![6, 0, 0] S1x256x128.size inb_S8x256x128_S1x256x128_6_0_0 : Rect S8x256x128), k0_pay84 (group (y' arg1 harg1 x0) 6) (states' 6 (hr' arg3 harg3 x2) (hm' arg4 harg4 x3))⟩,
      ⟨(Rect.unit ![5, 0, 0] S1x256x128.size inb_S8x256x128_S1x256x128_5_0_0 : Rect S8x256x128), k0_pay84 (group (y' arg1 harg1 x0) 5) (states' 5 (hr' arg3 harg3 x2) (hm' arg4 harg4 x3))⟩,
      ⟨(Rect.unit ![4, 0, 0] S1x256x128.size inb_S8x256x128_S1x256x128_4_0_0 : Rect S8x256x128), k0_pay84 (group (y' arg1 harg1 x0) 4) (states' 4 (hr' arg3 harg3 x2) (hm' arg4 harg4 x3))⟩,
      ⟨(Rect.unit ![3, 0, 0] S1x256x128.size inb_S8x256x128_S1x256x128_3_0_0 : Rect S8x256x128), k0_pay84 (group (y' arg1 harg1 x0) 3) (states' 3 (hr' arg3 harg3 x2) (hm' arg4 harg4 x3))⟩,
      ⟨(Rect.unit ![2, 0, 0] S1x256x128.size inb_S8x256x128_S1x256x128_2_0_0 : Rect S8x256x128), k0_pay84 (group (y' arg1 harg1 x0) 2) (states' 2 (hr' arg3 harg3 x2) (hm' arg4 harg4 x3))⟩,
      ⟨(Rect.unit ![1, 0, 0] S1x256x128.size inb_S8x256x128_S1x256x128_1_0_0 : Rect S8x256x128), k0_pay84 (group (y' arg1 harg1 x0) 1) (states' 1 (hr' arg3 harg3 x2) (hm' arg4 harg4 x3))⟩,
      ⟨(Rect.unit ![0, 0, 0] S1x256x128.size inb_S8x256x128_S1x256x128_0_0_0 : Rect S8x256x128), k0_pay84 (group (y' arg1 harg1 x0) 0) (states' 0 (hr' arg3 harg3 x2) (hm' arg4 harg4 x3))⟩] := rfl

theorem pieces12 : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8).2.2.2.1
    = [⟨(Rect.unit ![7, 0, 0] S1x128x256.size inb_S8x128x256_S1x128x256_7_0_0 : Rect S8x128x256), k0_pay85 (group (u' arg2 harg2 x1) 7) (states' 7 (xr' arg5 harg5 x4) (xm' arg6 harg6 x5))⟩,
      ⟨(Rect.unit ![6, 0, 0] S1x128x256.size inb_S8x128x256_S1x128x256_6_0_0 : Rect S8x128x256), k0_pay85 (group (u' arg2 harg2 x1) 6) (states' 6 (xr' arg5 harg5 x4) (xm' arg6 harg6 x5))⟩,
      ⟨(Rect.unit ![5, 0, 0] S1x128x256.size inb_S8x128x256_S1x128x256_5_0_0 : Rect S8x128x256), k0_pay85 (group (u' arg2 harg2 x1) 5) (states' 5 (xr' arg5 harg5 x4) (xm' arg6 harg6 x5))⟩,
      ⟨(Rect.unit ![4, 0, 0] S1x128x256.size inb_S8x128x256_S1x128x256_4_0_0 : Rect S8x128x256), k0_pay85 (group (u' arg2 harg2 x1) 4) (states' 4 (xr' arg5 harg5 x4) (xm' arg6 harg6 x5))⟩,
      ⟨(Rect.unit ![3, 0, 0] S1x128x256.size inb_S8x128x256_S1x128x256_3_0_0 : Rect S8x128x256), k0_pay85 (group (u' arg2 harg2 x1) 3) (states' 3 (xr' arg5 harg5 x4) (xm' arg6 harg6 x5))⟩,
      ⟨(Rect.unit ![2, 0, 0] S1x128x256.size inb_S8x128x256_S1x128x256_2_0_0 : Rect S8x128x256), k0_pay85 (group (u' arg2 harg2 x1) 2) (states' 2 (xr' arg5 harg5 x4) (xm' arg6 harg6 x5))⟩,
      ⟨(Rect.unit ![1, 0, 0] S1x128x256.size inb_S8x128x256_S1x128x256_1_0_0 : Rect S8x128x256), k0_pay85 (group (u' arg2 harg2 x1) 1) (states' 1 (xr' arg5 harg5 x4) (xm' arg6 harg6 x5))⟩,
      ⟨(Rect.unit ![0, 0, 0] S1x128x256.size inb_S8x128x256_S1x128x256_0_0_0 : Rect S8x128x256), k0_pay85 (group (u' arg2 harg2 x1) 0) (states' 0 (xr' arg5 harg5 x4) (xm' arg6 harg6 x5))⟩] := rfl

theorem piece13 : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8).2.2.2.2.1
    = [⟨(Rect.unit ![0, 0] S1x128.size inb_S1x128_S1x128_0_0 : Rect S1x128), scales (pos (y' arg1 harg1 x0)) (pos (u' arg2 harg2 x1))⟩] := rfl

theorem group0 : kernelRun0_A.sl.r_76 c arg1 harg1 arg5 harg5 arg6 harg6 arg7 harg7 arg8 harg8 x0 x4 x5 x6 x7 = product (y' arg1 harg1 x0) (xr' arg5 harg5 x4) (xm' arg6 harg6 x5) 0 (mat arg7 harg7 x6 0) (mat' arg8 harg8 x7 0) := rfl

theorem group1 : kernelRun0_A.sl.r_84 c arg1 harg1 arg5 harg5 arg6 harg6 arg7 harg7 arg8 harg8 x0 x4 x5 x6 x7 = product (y' arg1 harg1 x0) (xr' arg5 harg5 x4) (xm' arg6 harg6 x5) 1 (mat arg7 harg7 x6 1) (mat' arg8 harg8 x7 1) := rfl

theorem group2 : kernelRun0_A.sl.r_93 c arg1 harg1 arg5 harg5 arg6 harg6 arg7 harg7 arg8 harg8 x0 x4 x5 x6 x7 = product (y' arg1 harg1 x0) (xr' arg5 harg5 x4) (xm' arg6 harg6 x5) 2 (mat arg7 harg7 x6 2) (mat' arg8 harg8 x7 2) := rfl

theorem group3 : kernelRun0_A.sl.r_103 c arg1 harg1 arg5 harg5 arg6 harg6 arg7 harg7 arg8 harg8 x0 x4 x5 x6 x7 = product (y' arg1 harg1 x0) (xr' arg5 harg5 x4) (xm' arg6 harg6 x5) 3 (mat arg7 harg7 x6 3) (mat' arg8 harg8 x7 3) := rfl

theorem group4 : kernelRun0_A.sl.r_111 c arg1 harg1 arg5 harg5 arg6 harg6 arg7 harg7 arg8 harg8 x0 x4 x5 x6 x7 = product (y' arg1 harg1 x0) (xr' arg5 harg5 x4) (xm' arg6 harg6 x5) 4 (mat arg7 harg7 x6 4) (mat' arg8 harg8 x7 4) := rfl

theorem group5 : kernelRun0_A.sl.r_120 c arg1 harg1 arg5 harg5 arg6 harg6 arg7 harg7 arg8 harg8 x0 x4 x5 x6 x7 = product (y' arg1 harg1 x0) (xr' arg5 harg5 x4) (xm' arg6 harg6 x5) 5 (mat arg7 harg7 x6 5) (mat' arg8 harg8 x7 5) := rfl

theorem group6 : kernelRun0_A.sl.r_130 c arg1 harg1 arg5 harg5 arg6 harg6 arg7 harg7 arg8 harg8 x0 x4 x5 x6 x7 = product (y' arg1 harg1 x0) (xr' arg5 harg5 x4) (xm' arg6 harg6 x5) 6 (mat arg7 harg7 x6 6) (mat' arg8 harg8 x7 6) := rfl

theorem group7 : kernelRun0_A.sl.r_138 c arg1 harg1 arg5 harg5 arg6 harg6 arg7 harg7 arg8 harg8 x0 x4 x5 x6 x7 = product (y' arg1 harg1 x0) (xr' arg5 harg5 x4) (xm' arg6 harg6 x5) 7 (mat arg7 harg7 x6 7) (mat' arg8 harg8 x7 7) := rfl

theorem piece9 : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8).1
    = [⟨(Rect.unit ![0, 0] S8192x128.size inb_S8192x128_S8192x128_0_0 : Rect S8192x128),
      ordered fun s => rowsAt (eight fun g => pick s (product (y' arg1 harg1 x0) (xr' arg5 harg5 x4) (xm' arg6 harg6 x5) g (mat arg7 harg7 x6 g) (mat' arg8 harg8 x7 g))) (pos (y' arg1 harg1 x0) s) (d' arg9 harg9 x8)⟩] := by
  obtain ⟨z, hz⟩ : ∃ z : Fin 8 → FVec Ideal S256x512 .f32, ∀ g, product (y' arg1 harg1 x0) (xr' arg5 harg5 x4) (xm' arg6 harg6 x5) g (mat arg7 harg7 x6 g) (mat' arg8 harg8 x7 g) = z g := ⟨_, fun _ => rfl⟩
  unfold kernelRun0_A
  dsimp only
  simp only [kernelRun0_A.sl.r_142, kernelRun0_A.sl.r_143, kernelRun0_A.sl.r_144, kernelRun0_A.sl.r_145, kernelRun0_A.sl.r_146, kernelRun0_A.sl.r_148, kernelRun0_A.sl.r_149, kernelRun0_A.sl.r_150, kernelRun0_A.sl.r_151, kernelRun0_A.sl.r_153, kernelRun0_A.sl.r_154, kernelRun0_A.sl.r_155, kernelRun0_A.sl.r_156, kernelRun0_A.sl.r_157, kernelRun0_A.sl.r_159, kernelRun0_A.sl.r_161, kernelRun0_A.sl.r_162, kernelRun0_A.sl.r_164, kernelRun0_A.sl.r_166, kernelRun0_A.sl.r_167, kernelRun0_A.sl.r_168, kernelRun0_A.sl.r_170, kernelRun0_A.sl.r_171, kernelRun0_A.sl.r_172, kernelRun0_A.sl.r_173, kernelRun0_A.sl.r_174, kernelRun0_A.sl.r_175, kernelRun0_A.sl.r_176]
  simp only [group0, group1, group2, group3, group4, group5, group6, group7, hz]
  rfl

end Cert.Kernel15Ideal.SsmMixValue

end
-- ==== Proof.SsmMixResults.lean ====
/-
  The values of the kernel for the gradient of the products that leave the recurrence: its five results.
-/
module

public import proofs.«01_k».proof.Proof.Gen.Kernel15Ideal.Value
public import proofs.«01_k».proof.Proof.SsmMixBlocks
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel15Ideal.SsmMixValue

open Cert.Kernel15Ideal Cert.Kernel15Ideal.Gen Idealize.ShloMosaic Idealize.ShloMosaic.TcCoe Idealize.SL.Sem Cert.Proof

variable (m : (ℓ : Loc nD τ sig) → Buf (Elt Ideal) ℓ)

/-! ## Eight pieces, one for each group -/

theorem canon10 (p : Fin 8 → Vec Ideal S1x256x16 .f32) (g : Fin 8) (k : Fin 256) (q : Fin 16) :
    (View.canon [⟨(Rect.unit ![7, 0, 0] S1x256x16.size inb_S8x256x16_S1x256x16_7_0_0 : Rect S8x256x16), p 7⟩, ⟨(Rect.unit ![6, 0, 0] S1x256x16.size inb_S8x256x16_S1x256x16_6_0_0 : Rect S8x256x16), p 6⟩, ⟨(Rect.unit ![5, 0, 0] S1x256x16.size inb_S8x256x16_S1x256x16_5_0_0 : Rect S8x256x16), p 5⟩, ⟨(Rect.unit ![4, 0, 0] S1x256x16.size inb_S8x256x16_S1x256x16_4_0_0 : Rect S8x256x16), p 4⟩, ⟨(Rect.unit ![3, 0, 0] S1x256x16.size inb_S8x256x16_S1x256x16_3_0_0 : Rect S8x256x16), p 3⟩, ⟨(Rect.unit ![2, 0, 0] S1x256x16.size inb_S8x256x16_S1x256x16_2_0_0 : Rect S8x256x16), p 2⟩, ⟨(Rect.unit ![1, 0, 0] S1x256x16.size inb_S8x256x16_S1x256x16_1_0_0 : Rect S8x256x16), p 1⟩, ⟨(Rect.unit ![0, 0, 0] S1x256x16.size inb_S8x256x16_S1x256x16_0_0_0 : Rect S8x256x16), p 0⟩] : Vec Ideal S8x256x16 .f32) (ix3 g k q) = p g (ix3 0 k q) := by
  obtain rfl | rfl | rfl | rfl | rfl | rfl | rfl | rfl : g = 0 ∨ g = 1 ∨ g = 2 ∨ g = 3 ∨ g = 4 ∨ g = 5 ∨ g = 6 ∨ g = 7 := by omega
  · rw [View.canon_cons_of_not_mem _ _ (by
        rw [Rect.mem_set_unit]
        intro hm
        have := (hm 0).1
        simp at this),
      View.canon_cons_of_not_mem _ _ (by
        rw [Rect.mem_set_unit]
        intro hm
        have := (hm 0).1
        simp at this),
      View.canon_cons_of_not_mem _ _ (by
        rw [Rect.mem_set_unit]
        intro hm
        have := (hm 0).1
        simp at this),
      View.canon_cons_of_not_mem _ _ (by
        rw [Rect.mem_set_unit]
        intro hm
        have := (hm 0).1
        simp at this),
      View.canon_cons_of_not_mem _ _ (by
        rw [Rect.mem_set_unit]
        intro hm
        have := (hm 0).1
        simp at this),
      View.canon_cons_of_not_mem _ _ (by
        rw [Rect.mem_set_unit]
        intro hm
        have := (hm 0).1
        simp at this),
      View.canon_cons_of_not_mem _ _ (by
        rw [Rect.mem_set_unit]
        intro hm
        have := (hm 0).1
        simp at this),
      show (ix3 (0 : Fin 8) k q : S8x256x16.Idx) = (Rect.unit ![0, 0, 0] S1x256x16.size inb_S8x256x16_S1x256x16_0_0_0 : Rect S8x256x16).emb (ix3 0 k q) from by
        funext a; refine Fin.ext ?_; rw [ValueKit.rect_emb_unit_val]; fin_cases a <;> simp,
      View.canon_cons_emb]
  · rw [View.canon_cons_of_not_mem _ _ (by
        rw [Rect.mem_set_unit]
        intro hm
        have := (hm 0).1
        simp at this),
      View.canon_cons_of_not_mem _ _ (by
        rw [Rect.mem_set_unit]
        intro hm
        have := (hm 0).1
        simp at this),
      View.canon_cons_of_not_mem _ _ (by
        rw [Rect.mem_set_unit]
        intro hm
        have := (hm 0).1
        simp at this),
      View.canon_cons_of_not_mem _ _ (by
        rw [Rect.mem_set_unit]
        intro hm
        have := (hm 0).1
        simp at this),
      View.canon_cons_of_not_mem _ _ (by
        rw [Rect.mem_set_unit]
        intro hm
        have := (hm 0).1
        simp at this),
      View.canon_cons_of_not_mem _ _ (by
        rw [Rect.mem_set_unit]
        intro hm
        have := (hm 0).1
        simp at this),
      show (ix3 (1 : Fin 8) k q : S8x256x16.Idx) = (Rect.unit ![1, 0, 0] S1x256x16.size inb_S8x256x16_S1x256x16_1_0_0 : Rect S8x256x16).emb (ix3 0 k q) from by
        funext a; refine Fin.ext ?_; rw [ValueKit.rect_emb_unit_val]; fin_cases a <;> simp,
      View.canon_cons_emb]
  · rw [View.canon_cons_of_not_mem _ _ (by
        rw [Rect.mem_set_unit]
        intro hm
        have := (hm 0).1
        simp at this),
      View.canon_cons_of_not_mem _ _ (by
        rw [Rect.mem_set_unit]
        intro hm
        have := (hm 0).1
        simp at this),
      View.canon_cons_of_not_mem _ _ (by
        rw [Rect.mem_set_unit]
        intro hm
        have := (hm 0).1
        simp at this),
      View.canon_cons_of_not_mem _ _ (by
        rw [Rect.mem_set_unit]
        intro hm
        have := (hm 0).1
        simp at this),
      View.canon_cons_of_not_mem _ _ (by
        rw [Rect.mem_set_unit]
        intro hm
        have := (hm 0).1
        simp at this),
      show (ix3 (2 : Fin 8) k q : S8x256x16.Idx) = (Rect.unit ![2, 0, 0] S1x256x16.size inb_S8x256x16_S1x256x16_2_0_0 : Rect S8x256x16).emb (ix3 0 k q) from by
        funext a; refine Fin.ext ?_; rw [ValueKit.rect_emb_unit_val]; fin_cases a <;> simp,
      View.canon_cons_emb]
  · rw [View.canon_cons_of_not_mem _ _ (by
        rw [Rect.mem_set_unit]
        intro hm
        have := (hm 0).1
        simp at this),
      View.canon_cons_of_not_mem _ _ (by
        rw [Rect.mem_set_unit]
        intro hm
        have := (hm 0).1
        simp at this),
      View.canon_cons_of_not_mem _ _ (by
        rw [Rect.mem_set_unit]
        intro hm
        have := (hm 0).1
        simp at this),
      View.canon_cons_of_not_mem _ _ (by
        rw [Rect.mem_set_unit]
        intro hm
        have := (hm 0).1
        simp at this),
      show (ix3 (3 : Fin 8) k q : S8x256x16.Idx) = (Rect.unit ![3, 0, 0] S1x256x16.size inb_S8x256x16_S1x256x16_3_0_0 : Rect S8x256x16).emb (ix3 0 k q) from by
        funext a; refine Fin.ext ?_; rw [ValueKit.rect_emb_unit_val]; fin_cases a <;> simp,
      View.canon_cons_emb]
  · rw [View.canon_cons_of_not_mem _ _ (by
        rw [Rect.mem_set_unit]
        intro hm
        have := (hm 0).1
        simp at this),
      View.canon_cons_of_not_mem _ _ (by
        rw [Rect.mem_set_unit]
        intro hm
        have := (hm 0).1
        simp at this),
      View.canon_cons_of_not_mem _ _ (by
        rw [Rect.mem_set_unit]
        intro hm
        have := (hm 0).1
        simp at this),
      show (ix3 (4 : Fin 8) k q : S8x256x16.Idx) = (Rect.unit ![4, 0, 0] S1x256x16.size inb_S8x256x16_S1x256x16_4_0_0 : Rect S8x256x16).emb (ix3 0 k q) from by
        funext a; refine Fin.ext ?_; rw [ValueKit.rect_emb_unit_val]; fin_cases a <;> simp,
      View.canon_cons_emb]
  · rw [View.canon_cons_of_not_mem _ _ (by
        rw [Rect.mem_set_unit]
        intro hm
        have := (hm 0).1
        simp at this),
      View.canon_cons_of_not_mem _ _ (by
        rw [Rect.mem_set_unit]
        intro hm
        have := (hm 0).1
        simp at this),
      show (ix3 (5 : Fin 8) k q : S8x256x16.Idx) = (Rect.unit ![5, 0, 0] S1x256x16.size inb_S8x256x16_S1x256x16_5_0_0 : Rect S8x256x16).emb (ix3 0 k q) from by
        funext a; refine Fin.ext ?_; rw [ValueKit.rect_emb_unit_val]; fin_cases a <;> simp,
      View.canon_cons_emb]
  · rw [View.canon_cons_of_not_mem _ _ (by
        rw [Rect.mem_set_unit]
        intro hm
        have := (hm 0).1
        simp at this),
      show (ix3 (6 : Fin 8) k q : S8x256x16.Idx) = (Rect.unit ![6, 0, 0] S1x256x16.size inb_S8x256x16_S1x256x16_6_0_0 : Rect S8x256x16).emb (ix3 0 k q) from by
        funext a; refine Fin.ext ?_; rw [ValueKit.rect_emb_unit_val]; fin_cases a <;> simp,
      View.canon_cons_emb]
  · rw [show (ix3 (7 : Fin 8) k q : S8x256x16.Idx) = (Rect.unit ![7, 0, 0] S1x256x16.size inb_S8x256x16_S1x256x16_7_0_0 : Rect S8x256x16).emb (ix3 0 k q) from by
        funext a; refine Fin.ext ?_; rw [ValueKit.rect_emb_unit_val]; fin_cases a <;> simp,
      View.canon_cons_emb]

theorem canon11 (p : Fin 8 → Vec Ideal S1x256x128 .f32) (g : Fin 8) (k : Fin 256) (q : Fin 128) :
    (View.canon [⟨(Rect.unit ![7, 0, 0] S1x256x128.size inb_S8x256x128_S1x256x128_7_0_0 : Rect S8x256x128), p 7⟩, ⟨(Rect.unit ![6, 0, 0] S1x256x128.size inb_S8x256x128_S1x256x128_6_0_0 : Rect S8x256x128), p 6⟩, ⟨(Rect.unit ![5, 0, 0] S1x256x128.size inb_S8x256x128_S1x256x128_5_0_0 : Rect S8x256x128), p 5⟩, ⟨(Rect.unit ![4, 0, 0] S1x256x128.size inb_S8x256x128_S1x256x128_4_0_0 : Rect S8x256x128), p 4⟩, ⟨(Rect.unit ![3, 0, 0] S1x256x128.size inb_S8x256x128_S1x256x128_3_0_0 : Rect S8x256x128), p 3⟩, ⟨(Rect.unit ![2, 0, 0] S1x256x128.size inb_S8x256x128_S1x256x128_2_0_0 : Rect S8x256x128), p 2⟩, ⟨(Rect.unit ![1, 0, 0] S1x256x128.size inb_S8x256x128_S1x256x128_1_0_0 : Rect S8x256x128), p 1⟩, ⟨(Rect.unit ![0, 0, 0] S1x256x128.size inb_S8x256x128_S1x256x128_0_0_0 : Rect S8x256x128), p 0⟩] : Vec Ideal S8x256x128 .f32) (ix3 g k q) = p g (ix3 0 k q) := by
  obtain rfl | rfl | rfl | rfl | rfl | rfl | rfl | rfl : g = 0 ∨ g = 1 ∨ g = 2 ∨ g = 3 ∨ g = 4 ∨ g = 5 ∨ g = 6 ∨ g = 7 := by omega
  · rw [View.canon_cons_of_not_mem _ _ (by
        rw [Rect.mem_set_unit]
        intro hm
        have := (hm 0).1
        simp at this),
      View.canon_cons_of_not_mem _ _ (by
        rw [Rect.mem_set_unit]
        intro hm
        have := (hm 0).1
        simp at this),
      View.canon_cons_of_not_mem _ _ (by
        rw [Rect.mem_set_unit]
        intro hm
        have := (hm 0).1
        simp at this),
      View.canon_cons_of_not_mem _ _ (by
        rw [Rect.mem_set_unit]
        intro hm
        have := (hm 0).1
        simp at this),
      View.canon_cons_of_not_mem _ _ (by
        rw [Rect.mem_set_unit]
        intro hm
        have := (hm 0).1
        simp at this),
      View.canon_cons_of_not_mem _ _ (by
        rw [Rect.mem_set_unit]
        intro hm
        have := (hm 0).1
        simp at this),
      View.canon_cons_of_not_mem _ _ (by
        rw [Rect.mem_set_unit]
        intro hm
        have := (hm 0).1
        simp at this),
      show (ix3 (0 : Fin 8) k q : S8x256x128.Idx) = (Rect.unit ![0, 0, 0] S1x256x128.size inb_S8x256x128_S1x256x128_0_0_0 : Rect S8x256x128).emb (ix3 0 k q) from by
        funext a; refine Fin.ext ?_; rw [ValueKit.rect_emb_unit_val]; fin_cases a <;> simp,
      View.canon_cons_emb]
  · rw [View.canon_cons_of_not_mem _ _ (by
        rw [Rect.mem_set_unit]
        intro hm
        have := (hm 0).1
        simp at this),
      View.canon_cons_of_not_mem _ _ (by
        rw [Rect.mem_set_unit]
        intro hm
        have := (hm 0).1
        simp at this),
      View.canon_cons_of_not_mem _ _ (by
        rw [Rect.mem_set_unit]
        intro hm
        have := (hm 0).1
        simp at this),
      View.canon_cons_of_not_mem _ _ (by
        rw [Rect.mem_set_unit]
        intro hm
        have := (hm 0).1
        simp at this),
      View.canon_cons_of_not_mem _ _ (by
        rw [Rect.mem_set_unit]
        intro hm
        have := (hm 0).1
        simp at this),
      View.canon_cons_of_not_mem _ _ (by
        rw [Rect.mem_set_unit]
        intro hm
        have := (hm 0).1
        simp at this),
      show (ix3 (1 : Fin 8) k q : S8x256x128.Idx) = (Rect.unit ![1, 0, 0] S1x256x128.size inb_S8x256x128_S1x256x128_1_0_0 : Rect S8x256x128).emb (ix3 0 k q) from by
        funext a; refine Fin.ext ?_; rw [ValueKit.rect_emb_unit_val]; fin_cases a <;> simp,
      View.canon_cons_emb]
  · rw [View.canon_cons_of_not_mem _ _ (by
        rw [Rect.mem_set_unit]
        intro hm
        have := (hm 0).1
        simp at this),
      View.canon_cons_of_not_mem _ _ (by
        rw [Rect.mem_set_unit]
        intro hm
        have := (hm 0).1
        simp at this),
      View.canon_cons_of_not_mem _ _ (by
        rw [Rect.mem_set_unit]
        intro hm
        have := (hm 0).1
        simp at this),
      View.canon_cons_of_not_mem _ _ (by
        rw [Rect.mem_set_unit]
        intro hm
        have := (hm 0).1
        simp at this),
      View.canon_cons_of_not_mem _ _ (by
        rw [Rect.mem_set_unit]
        intro hm
        have := (hm 0).1
        simp at this),
      show (ix3 (2 : Fin 8) k q : S8x256x128.Idx) = (Rect.unit ![2, 0, 0] S1x256x128.size inb_S8x256x128_S1x256x128_2_0_0 : Rect S8x256x128).emb (ix3 0 k q) from by
        funext a; refine Fin.ext ?_; rw [ValueKit.rect_emb_unit_val]; fin_cases a <;> simp,
      View.canon_cons_emb]
  · rw [View.canon_cons_of_not_mem _ _ (by
        rw [Rect.mem_set_unit]
        intro hm
        have := (hm 0).1
        simp at this),
      View.canon_cons_of_not_mem _ _ (by
        rw [Rect.mem_set_unit]
        intro hm
        have := (hm 0).1
        simp at this),
      View.canon_cons_of_not_mem _ _ (by
        rw [Rect.mem_set_unit]
        intro hm
        have := (hm 0).1
        simp at this),
      View.canon_cons_of_not_mem _ _ (by
        rw [Rect.mem_set_unit]
        intro hm
        have := (hm 0).1
        simp at this),
      show (ix3 (3 : Fin 8) k q : S8x256x128.Idx) = (Rect.unit ![3, 0, 0] S1x256x128.size inb_S8x256x128_S1x256x128_3_0_0 : Rect S8x256x128).emb (ix3 0 k q) from by
        funext a; refine Fin.ext ?_; rw [ValueKit.rect_emb_unit_val]; fin_cases a <;> simp,
      View.canon_cons_emb]
  · rw [View.canon_cons_of_not_mem _ _ (by
        rw [Rect.mem_set_unit]
        intro hm
        have := (hm 0).1
        simp at this),
      View.canon_cons_of_not_mem _ _ (by
        rw [Rect.mem_set_unit]
        intro hm
        have := (hm 0).1
        simp at this),
      View.canon_cons_of_not_mem _ _ (by
        rw [Rect.mem_set_unit]
        intro hm
        have := (hm 0).1
        simp at this),
      show (ix3 (4 : Fin 8) k q : S8x256x128.Idx) = (Rect.unit ![4, 0, 0] S1x256x128.size inb_S8x256x128_S1x256x128_4_0_0 : Rect S8x256x128).emb (ix3 0 k q) from by
        funext a; refine Fin.ext ?_; rw [ValueKit.rect_emb_unit_val]; fin_cases a <;> simp,
      View.canon_cons_emb]
  · rw [View.canon_cons_of_not_mem _ _ (by
        rw [Rect.mem_set_unit]
        intro hm
        have := (hm 0).1
        simp at this),
      View.canon_cons_of_not_mem _ _ (by
        rw [Rect.mem_set_unit]
        intro hm
        have := (hm 0).1
        simp at this),
      show (ix3 (5 : Fin 8) k q : S8x256x128.Idx) = (Rect.unit ![5, 0, 0] S1x256x128.size inb_S8x256x128_S1x256x128_5_0_0 : Rect S8x256x128).emb (ix3 0 k q) from by
        funext a; refine Fin.ext ?_; rw [ValueKit.rect_emb_unit_val]; fin_cases a <;> simp,
      View.canon_cons_emb]
  · rw [View.canon_cons_of_not_mem _ _ (by
        rw [Rect.mem_set_unit]
        intro hm
        have := (hm 0).1
        simp at this),
      show (ix3 (6 : Fin 8) k q : S8x256x128.Idx) = (Rect.unit ![6, 0, 0] S1x256x128.size inb_S8x256x128_S1x256x128_6_0_0 : Rect S8x256x128).emb (ix3 0 k q) from by
        funext a; refine Fin.ext ?_; rw [ValueKit.rect_emb_unit_val]; fin_cases a <;> simp,
      View.canon_cons_emb]
  · rw [show (ix3 (7 : Fin 8) k q : S8x256x128.Idx) = (Rect.unit ![7, 0, 0] S1x256x128.size inb_S8x256x128_S1x256x128_7_0_0 : Rect S8x256x128).emb (ix3 0 k q) from by
        funext a; refine Fin.ext ?_; rw [ValueKit.rect_emb_unit_val]; fin_cases a <;> simp,
      View.canon_cons_emb]

theorem canon12 (p : Fin 8 → Vec Ideal S1x128x256 .f32) (g : Fin 8) (k : Fin 128) (q : Fin 256) :
    (View.canon [⟨(Rect.unit ![7, 0, 0] S1x128x256.size inb_S8x128x256_S1x128x256_7_0_0 : Rect S8x128x256), p 7⟩, ⟨(Rect.unit ![6, 0, 0] S1x128x256.size inb_S8x128x256_S1x128x256_6_0_0 : Rect S8x128x256), p 6⟩, ⟨(Rect.unit ![5, 0, 0] S1x128x256.size inb_S8x128x256_S1x128x256_5_0_0 : Rect S8x128x256), p 5⟩, ⟨(Rect.unit ![4, 0, 0] S1x128x256.size inb_S8x128x256_S1x128x256_4_0_0 : Rect S8x128x256), p 4⟩, ⟨(Rect.unit ![3, 0, 0] S1x128x256.size inb_S8x128x256_S1x128x256_3_0_0 : Rect S8x128x256), p 3⟩, ⟨(Rect.unit ![2, 0, 0] S1x128x256.size inb_S8x128x256_S1x128x256_2_0_0 : Rect S8x128x256), p 2⟩, ⟨(Rect.unit ![1, 0, 0] S1x128x256.size inb_S8x128x256_S1x128x256_1_0_0 : Rect S8x128x256), p 1⟩, ⟨(Rect.unit ![0, 0, 0] S1x128x256.size inb_S8x128x256_S1x128x256_0_0_0 : Rect S8x128x256), p 0⟩] : Vec Ideal S8x128x256 .f32) (ix3 g k q) = p g (ix3 0 k q) := by
  obtain rfl | rfl | rfl | rfl | rfl | rfl | rfl | rfl : g = 0 ∨ g = 1 ∨ g = 2 ∨ g = 3 ∨ g = 4 ∨ g = 5 ∨ g = 6 ∨ g = 7 := by omega
  · rw [View.canon_cons_of_not_mem _ _ (by
        rw [Rect.mem_set_unit]
        intro hm
        have := (hm 0).1
        simp at this),
      View.canon_cons_of_not_mem _ _ (by
        rw [Rect.mem_set_unit]
        intro hm
        have := (hm 0).1
        simp at this),
      View.canon_cons_of_not_mem _ _ (by
        rw [Rect.mem_set_unit]
        intro hm
        have := (hm 0).1
        simp at this),
      View.canon_cons_of_not_mem _ _ (by
        rw [Rect.mem_set_unit]
        intro hm
        have := (hm 0).1
        simp at this),
      View.canon_cons_of_not_mem _ _ (by
        rw [Rect.mem_set_unit]
        intro hm
        have := (hm 0).1
        simp at this),
      View.canon_cons_of_not_mem _ _ (by
        rw [Rect.mem_set_unit]
        intro hm
        have := (hm 0).1
        simp at this),
      View.canon_cons_of_not_mem _ _ (by
        rw [Rect.mem_set_unit]
        intro hm
        have := (hm 0).1
        simp at this),
      show (ix3 (0 : Fin 8) k q : S8x128x256.Idx) = (Rect.unit ![0, 0, 0] S1x128x256.size inb_S8x128x256_S1x128x256_0_0_0 : Rect S8x128x256).emb (ix3 0 k q) from by
        funext a; refine Fin.ext ?_; rw [ValueKit.rect_emb_unit_val]; fin_cases a <;> simp,
      View.canon_cons_emb]
  · rw [View.canon_cons_of_not_mem _ _ (by
        rw [Rect.mem_set_unit]
        intro hm
        have := (hm 0).1
        simp at this),
      View.canon_cons_of_not_mem _ _ (by
        rw [Rect.mem_set_unit]
        intro hm
        have := (hm 0).1
        simp at this),
      View.canon_cons_of_not_mem _ _ (by
        rw [Rect.mem_set_unit]
        intro hm
        have := (hm 0).1
        simp at this),
      View.canon_cons_of_not_mem _ _ (by
        rw [Rect.mem_set_unit]
        intro hm
        have := (hm 0).1
        simp at this),
      View.canon_cons_of_not_mem _ _ (by
        rw [Rect.mem_set_unit]
        intro hm
        have := (hm 0).1
        simp at this),
      View.canon_cons_of_not_mem _ _ (by
        rw [Rect.mem_set_unit]
        intro hm
        have := (hm 0).1
        simp at this),
      show (ix3 (1 : Fin 8) k q : S8x128x256.Idx) = (Rect.unit ![1, 0, 0] S1x128x256.size inb_S8x128x256_S1x128x256_1_0_0 : Rect S8x128x256).emb (ix3 0 k q) from by
        funext a; refine Fin.ext ?_; rw [ValueKit.rect_emb_unit_val]; fin_cases a <;> simp,
      View.canon_cons_emb]
  · rw [View.canon_cons_of_not_mem _ _ (by
        rw [Rect.mem_set_unit]
        intro hm
        have := (hm 0).1
        simp at this),
      View.canon_cons_of_not_mem _ _ (by
        rw [Rect.mem_set_unit]
        intro hm
        have := (hm 0).1
        simp at this),
      View.canon_cons_of_not_mem _ _ (by
        rw [Rect.mem_set_unit]
        intro hm
        have := (hm 0).1
        simp at this),
      View.canon_cons_of_not_mem _ _ (by
        rw [Rect.mem_set_unit]
        intro hm
        have := (hm 0).1
        simp at this),
      View.canon_cons_of_not_mem _ _ (by
        rw [Rect.mem_set_unit]
        intro hm
        have := (hm 0).1
        simp at this),
      show (ix3 (2 : Fin 8) k q : S8x128x256.Idx) = (Rect.unit ![2, 0, 0] S1x128x256.size inb_S8x128x256_S1x128x256_2_0_0 : Rect S8x128x256).emb (ix3 0 k q) from by
        funext a; refine Fin.ext ?_; rw [ValueKit.rect_emb_unit_val]; fin_cases a <;> simp,
      View.canon_cons_emb]
  · rw [View.canon_cons_of_not_mem _ _ (by
        rw [Rect.mem_set_unit]
        intro hm
        have := (hm 0).1
        simp at this),
      View.canon_cons_of_not_mem _ _ (by
        rw [Rect.mem_set_unit]
        intro hm
        have := (hm 0).1
        simp at this),
      View.canon_cons_of_not_mem _ _ (by
        rw [Rect.mem_set_unit]
        intro hm
        have := (hm 0).1
        simp at this),
      View.canon_cons_of_not_mem _ _ (by
        rw [Rect.mem_set_unit]
        intro hm
        have := (hm 0).1
        simp at this),
      show (ix3 (3 : Fin 8) k q : S8x128x256.Idx) = (Rect.unit ![3, 0, 0] S1x128x256.size inb_S8x128x256_S1x128x256_3_0_0 : Rect S8x128x256).emb (ix3 0 k q) from by
        funext a; refine Fin.ext ?_; rw [ValueKit.rect_emb_unit_val]; fin_cases a <;> simp,
      View.canon_cons_emb]
  · rw [View.canon_cons_of_not_mem _ _ (by
        rw [Rect.mem_set_unit]
        intro hm
        have := (hm 0).1
        simp at this),
      View.canon_cons_of_not_mem _ _ (by
        rw [Rect.mem_set_unit]
        intro hm
        have := (hm 0).1
        simp at this),
      View.canon_cons_of_not_mem _ _ (by
        rw [Rect.mem_set_unit]
        intro hm
        have := (hm 0).1
        simp at this),
      show (ix3 (4 : Fin 8) k q : S8x128x256.Idx) = (Rect.unit ![4, 0, 0] S1x128x256.size inb_S8x128x256_S1x128x256_4_0_0 : Rect S8x128x256).emb (ix3 0 k q) from by
        funext a; refine Fin.ext ?_; rw [ValueKit.rect_emb_unit_val]; fin_cases a <;> simp,
      View.canon_cons_emb]
  · rw [View.canon_cons_of_not_mem _ _ (by
        rw [Rect.mem_set_unit]
        intro hm
        have := (hm 0).1
        simp at this),
      View.canon_cons_of_not_mem _ _ (by
        rw [Rect.mem_set_unit]
        intro hm
        have := (hm 0).1
        simp at this),
      show (ix3 (5 : Fin 8) k q : S8x128x256.Idx) = (Rect.unit ![5, 0, 0] S1x128x256.size inb_S8x128x256_S1x128x256_5_0_0 : Rect S8x128x256).emb (ix3 0 k q) from by
        funext a; refine Fin.ext ?_; rw [ValueKit.rect_emb_unit_val]; fin_cases a <;> simp,
      View.canon_cons_emb]
  · rw [View.canon_cons_of_not_mem _ _ (by
        rw [Rect.mem_set_unit]
        intro hm
        have := (hm 0).1
        simp at this),
      show (ix3 (6 : Fin 8) k q : S8x128x256.Idx) = (Rect.unit ![6, 0, 0] S1x128x256.size inb_S8x128x256_S1x128x256_6_0_0 : Rect S8x128x256).emb (ix3 0 k q) from by
        funext a; refine Fin.ext ?_; rw [ValueKit.rect_emb_unit_val]; fin_cases a <;> simp,
      View.canon_cons_emb]
  · rw [show (ix3 (7 : Fin 8) k q : S8x128x256.Idx) = (Rect.unit ![7, 0, 0] S1x128x256.size inb_S8x128x256_S1x128x256_7_0_0 : Rect S8x128x256).emb (ix3 0 k q) from by
        funext a; refine Fin.ext ?_; rw [ValueKit.rect_emb_unit_val]; fin_cases a <;> simp,
      View.canon_cons_emb]

/-! ## The arguments and their blocks -/

def Y (c : Dev nD) (r : Fin 8192) (k : Fin 1024) : EReal := m ((c : Thread nD τ).loc main_arg0) (ix2 r k)
def U (c : Dev nD) (r : Fin 8192) (k : Fin 1024) : EReal := m ((c : Thread nD τ).loc main_arg1) (ix2 r k)
def Hr (c : Dev nD) (r : Fin 512) (k : Fin 4096) : EReal := m ((c : Thread nD τ).loc main_arg2) (ix2 r k)
def Hm (c : Dev nD) (r : Fin 512) (k : Fin 4096) : EReal := m ((c : Thread nD τ).loc main_arg3) (ix2 r k)
def Xr (c : Dev nD) (r : Fin 512) (k : Fin 4096) : EReal := m ((c : Thread nD τ).loc main_arg4) (ix2 r k)
def Xm (c : Dev nD) (r : Fin 512) (k : Fin 4096) : EReal := m ((c : Thread nD τ).loc main_arg5) (ix2 r k)
def T (c : Dev nD) (g : Fin 64) (k : Fin 256) (q : Fin 256) : EReal := m ((c : Thread nD τ).loc main_arg6) (ix3 g k q)
def W (c : Dev nD) (g : Fin 64) (k : Fin 256) (q : Fin 128) : EReal := m ((c : Thread nD τ).loc main_arg7) (ix3 g k q)
def D (c : Dev nD) (k : Fin 1024) : EReal := m ((c : Thread nD τ).loc main_arg8) (ix1 k)

theorem idx0 : ∀ t : Fin grid0.N, win0_0.index t 0 = 0 ∧ win0_0.index t 1 = t.val := by decide +kernel
theorem idx1 : ∀ t : Fin grid0.N, win0_1.index t 0 = 0 ∧ win0_1.index t 1 = t.val := by decide +kernel
theorem idx2 : ∀ t : Fin grid0.N, win0_2.index t 0 = 0 ∧ win0_2.index t 1 = t.val := by decide +kernel
theorem idx3 : ∀ t : Fin grid0.N, win0_3.index t 0 = 0 ∧ win0_3.index t 1 = t.val := by decide +kernel
theorem idx4 : ∀ t : Fin grid0.N, win0_4.index t 0 = 0 ∧ win0_4.index t 1 = t.val := by decide +kernel
theorem idx5 : ∀ t : Fin grid0.N, win0_5.index t 0 = 0 ∧ win0_5.index t 1 = t.val := by decide +kernel
theorem idx8 : ∀ t : Fin grid0.N, win0_8.index t 0 = 0 ∧ win0_8.index t 1 = t.val := by decide +kernel
theorem idx9 : ∀ t : Fin grid0.N, win0_9.index t 0 = 0 ∧ win0_9.index t 1 = t.val := by decide +kernel
theorem idx13 : ∀ t : Fin grid0.N, win0_13.index t 0 = 0 ∧ win0_13.index t 1 = t.val := by decide +kernel
theorem idx6 : ∀ t : Fin grid0.N, win0_6.index t 0 = t.val ∧ win0_6.index t 1 = 0 ∧ win0_6.index t 2 = 0 := by decide +kernel
theorem idx7 : ∀ t : Fin grid0.N, win0_7.index t 0 = t.val ∧ win0_7.index t 1 = 0 ∧ win0_7.index t 2 = 0 := by decide +kernel
theorem idx10 : ∀ t : Fin grid0.N, win0_10.index t 0 = t.val ∧ win0_10.index t 1 = 0 ∧ win0_10.index t 2 = 0 := by decide +kernel
theorem idx11 : ∀ t : Fin grid0.N, win0_11.index t 0 = t.val ∧ win0_11.index t 1 = 0 ∧ win0_11.index t 2 = 0 := by decide +kernel
theorem idx12 : ∀ t : Fin grid0.N, win0_12.index t 0 = t.val ∧ win0_12.index t 1 = 0 ∧ win0_12.index t 2 = 0 := by decide +kernel

theorem point (t : Fin cfg0.N) : t.val < 8 := by
  have h := t.isLt
  have e : cfg0.N = 8 := N_0
  omega

/-- Group `g` of octet `t`. -/
def octet (t : Fin cfg0.N) (g : Fin 8) : Fin 64 := ⟨8 * t.val + g.val, by have := point t; omega⟩

theorem column_val (t : Fin cfg0.N) (g : Fin 8) (l : Fin 16) : (SsmIn.column (octet t g) l).val = t.val * 128 + (16 * g.val + l.val) := by
  simp only [SsmIn.column, octet]
  omega

theorem octet_val (t : Fin cfg0.N) (g : Fin 8) : (octet t g).val = t.val * 8 + g.val := by
  simp only [octet]
  omega

theorem stateCol_val (t : Fin cfg0.N) (g : Fin 8) (p : Fin 64) : (SsmOutputs.stateCol (octet t g) p).val = t.val * 512 + (64 * g.val + p.val) := by
  simp only [SsmOutputs.stateCol, octet]
  omega

theorem b0 (c : Dev nD) (t : Fin cfg0.N) (r : Fin 8192) (g : Fin 8) (l : Fin 16) :
    iblk m c 0 t (ix2 r (SsmIn.channel g l)) = Y m c r (SsmIn.column (octet t g) l) := by
  unfold Y
  have e := column_val t g l
  blk_point [iblk, e, SsmIn.channel, (idx0 t).1, (idx0 t).2]
theorem b1 (c : Dev nD) (t : Fin cfg0.N) (r : Fin 8192) (g : Fin 8) (l : Fin 16) :
    iblk m c 1 t (ix2 r (SsmIn.channel g l)) = U m c r (SsmIn.column (octet t g) l) := by
  unfold U
  have e := column_val t g l
  blk_point [iblk, e, SsmIn.channel, (idx1 t).1, (idx1 t).2]
theorem b2 (c : Dev nD) (t : Fin cfg0.N) (b : Fin 512) (g : Fin 8) (p : Fin 64) :
    iblk m c 2 t (ix2 b (slot g p)) = Hr m c b (SsmOutputs.stateCol (octet t g) p) := by
  unfold Hr
  have e := stateCol_val t g p
  blk_point [iblk, e, slot, (idx2 t).1, (idx2 t).2]
theorem b3 (c : Dev nD) (t : Fin cfg0.N) (b : Fin 512) (g : Fin 8) (p : Fin 64) :
    iblk m c 3 t (ix2 b (slot g p)) = Hm m c b (SsmOutputs.stateCol (octet t g) p) := by
  unfold Hm
  have e := stateCol_val t g p
  blk_point [iblk, e, slot, (idx3 t).1, (idx3 t).2]
theorem b4 (c : Dev nD) (t : Fin cfg0.N) (b : Fin 512) (g : Fin 8) (p : Fin 64) :
    iblk m c 4 t (ix2 b (slot g p)) = Xr m c b (SsmOutputs.stateCol (octet t g) p) := by
  unfold Xr
  have e := stateCol_val t g p
  blk_point [iblk, e, slot, (idx4 t).1, (idx4 t).2]
theorem b5 (c : Dev nD) (t : Fin cfg0.N) (b : Fin 512) (g : Fin 8) (p : Fin 64) :
    iblk m c 5 t (ix2 b (slot g p)) = Xm m c b (SsmOutputs.stateCol (octet t g) p) := by
  unfold Xm
  have e := stateCol_val t g p
  blk_point [iblk, e, slot, (idx5 t).1, (idx5 t).2]
theorem b6 (c : Dev nD) (t : Fin cfg0.N) (g : Fin 8) (k : Fin 256) (q : Fin 256) :
    iblk m c 6 t (ix3 g k q) = T m c (octet t g) k q := by
  unfold T
  have e := octet_val t g
  blk_point [iblk, e, (idx6 t).1, (idx6 t).2.1, (idx6 t).2.2]
theorem b7 (c : Dev nD) (t : Fin cfg0.N) (g : Fin 8) (k : Fin 256) (q : Fin 128) :
    iblk m c 7 t (ix3 g k q) = W m c (octet t g) k q := by
  unfold W
  have e := octet_val t g
  blk_point [iblk, e, (idx7 t).1, (idx7 t).2.1, (idx7 t).2.2]
theorem b8 (c : Dev nD) (t : Fin cfg0.N) (g : Fin 8) (l : Fin 16) :
    iblk m c 8 t (ix2 0 (SsmIn.channel g l)) = D m c (SsmIn.column (octet t g) l) := by
  unfold D
  have e := column_val t g l
  blk_point [iblk, e, SsmIn.channel, (idx8 t).1, (idx8 t).2]

/-! ## What a point of the grid writes -/

theorem held_eq (z : Fin 8 → Vec Ideal S256x256 .f32) (g : Fin 8) : held z (g.val + 1) = ⟨whole, z g⟩ :: held z g.val := by
  fin_cases g <;> rfl

theorem group_at (c : Dev nD) (t : Fin cfg0.N) (g : Fin 8) (q : Fin 256) (b : Fin 512) :
    group (iblk m c 0 t) g (ix2 q b) = SsmMix.at' (Y m c) (octet t g) b q := (group_apply _ g q b).trans (b0 m c t _ g _)
theorem group_at' (c : Dev nD) (t : Fin cfg0.N) (g : Fin 8) (q : Fin 256) (b : Fin 512) :
    group (iblk m c 1 t) g (ix2 q b) = SsmMix.at' (U m c) (octet t g) b q := (group_apply _ g q b).trans (b1 m c t _ g _)
theorem states_at (c : Dev nD) (t : Fin cfg0.N) (g : Fin 8) (k : Fin 128) (b : Fin 512) :
    states' g (iblk m c 2 t) (iblk m c 3 t) (ix2 k b) = SsmMix.state' (Hr m c) (Hm m c) (octet t g) b k := by
  refine (states'_apply g _ _ k b).trans ?_
  rw [b2, b3]
  rfl
theorem states_at' (c : Dev nD) (t : Fin cfg0.N) (g : Fin 8) (k : Fin 128) (b : Fin 512) :
    states' g (iblk m c 4 t) (iblk m c 5 t) (ix2 k b) = SsmMix.state' (Xr m c) (Xm m c) (octet t g) b k := by
  refine (states'_apply g _ _ k b).trans ?_
  rw [b4, b5]
  rfl

theorem point10 (c : Dev nD) (t : Fin cfg0.N) (g : Fin 8) (p : Fin 256) (l : Fin 16) :
    (outsAt0 m c t).2.1 (ix3 g p l) = SsmMix.along (SsmMix.pairs (Y m c) (U m c) (octet t g)) p l := by
  unfold outsAt0
  dsimp only
  unfold out0_A_10
  refine (congrFun (View.read_writes_junk_eq_canon _ _) _).trans ?_
  rw [pieces10]
  refine (canon10 (fun g => shapeCast S1x256x16 (back _ (held _ (g.val + 1))) shapeCasts_S256x16_S1x256x16) g p l).trans ?_
  rw [held_eq, back_eq, y'_eq, u'_eq]
  have e : ∀ w : FVec Ideal S256x16 .f32, shapeCast S1x256x16 w shapeCasts_S256x16_S1x256x16 (ix3 0 p l) = w (ix2 p l) := fun w => by pointwise
  rw [e, diag_apply]
  refine congrArg (fun a => SsmMix.along a p l) (funext fun q => funext fun r => ?_)
  refine (outer_apply _ _ q r).trans (Finset.sum_congr rfl fun b _ => ?_)
  rw [group_at, group_at']

theorem point11 (c : Dev nD) (t : Fin cfg0.N) (g : Fin 8) (r : Fin 256) (k : Fin 128) :
    (outsAt0 m c t).2.2.1 (ix3 g r k) = SsmMix.outs (Y m c) (Hr m c) (Hm m c) (octet t g) r k := by
  unfold outsAt0
  dsimp only
  unfold out0_A_11
  refine (congrFun (View.read_writes_junk_eq_canon _ _) _).trans ?_
  rw [pieces11]
  refine (canon11 (fun g => k0_pay84 (group _ g) (states' g _ _)) g r k).trans ?_
  rw [y'_eq, hr'_eq, hm'_eq, pay84_apply]
  refine Finset.sum_congr rfl fun b _ => ?_
  rw [group_at, states_at]

theorem point12 (c : Dev nD) (t : Fin cfg0.N) (g : Fin 8) (k : Fin 128) (q : Fin 256) :
    (outsAt0 m c t).2.2.2.1 (ix3 g k q) = SsmMix.ins (U m c) (Xr m c) (Xm m c) (octet t g) k q := by
  unfold outsAt0
  dsimp only
  unfold out0_A_12
  refine (congrFun (View.read_writes_junk_eq_canon _ _) _).trans ?_
  rw [pieces12]
  refine (canon12 (fun g => k0_pay85 (group _ g) (states' g _ _)) g k q).trans ?_
  rw [u'_eq, xr'_eq, xm'_eq, pay85_apply]
  refine Finset.sum_congr rfl fun b _ => ?_
  rw [group_at', states_at']

theorem point13 (c : Dev nD) (t : Fin cfg0.N) (g : Fin 8) (l : Fin 16) :
    (outsAt0 m c t).2.2.2.2 (ix2 0 (SsmIn.channel g l)) = SsmMix.scale (Y m c) (U m c) (SsmIn.column (octet t g) l) := by
  unfold outsAt0
  dsimp only
  unfold out0_A_13
  refine (congrFun (View.read_writes_junk_eq_canon _ _) _).trans ?_
  have e : (ix2 0 (SsmIn.channel g l) : S1x128.Idx) = (Rect.unit ![0, 0] S1x128.size inb_S1x128_S1x128_0_0 : Rect S1x128).emb (ix2 0 (SsmIn.channel g l)) := by
    funext a; refine Fin.ext ?_; rw [ValueKit.rect_emb_unit_val]; fin_cases a <;> simp
  rw [piece13]
  refine (congrArg _ e).trans ?_
  rw [View.canon_cons_emb, scales_apply, y'_eq, u'_eq]
  unfold SsmMix.scale
  rw [SsmMix.sum_rows]
  simp only [pos_apply, b0, b1]

theorem point9 (c : Dev nD) (t : Fin cfg0.N) (b : Fin 512) (s : Fin 16) (g : Fin 8) (l : Fin 16) :
    (outsAt0 m c t).1 (ix2 (SsmIn.row b s) (SsmIn.channel g l))
      = SsmOutputs.entry (Y m c) (Xr m c) (Xm m c) (T m c) (W m c) (D m c) b s (octet t g) l := by
  unfold outsAt0
  dsimp only
  unfold out0_A_9
  refine (congrFun (View.read_writes_junk_eq_canon _ _) _).trans ?_
  have e : (ix2 (SsmIn.row b s) (SsmIn.channel g l) : S8192x128.Idx) = (Rect.unit ![0, 0] S8192x128.size inb_S8192x128_S8192x128_0_0 : Rect S8192x128).emb (ix2 (SsmIn.row b s) (SsmIn.channel g l)) := by
    funext a; refine Fin.ext ?_; rw [ValueKit.rect_emb_unit_val]; fin_cases a <;> simp
  rw [piece9]
  refine (congrArg _ e).trans ?_
  rw [View.canon_cons_emb, ordered_apply, rowsAt_apply, pos_apply, eight_apply, pick_apply, product_apply, y'_eq, xr'_eq, xm'_eq, d'_eq]
  simp only [mat_apply, mat'_apply, b0, b4, b5, b6, b7, b8]
  rfl

/-! ## The results -/

theorem final9 (c : Dev nD) : (dats m 0 c).arrAt 9 cfg0.N
    = fun j : S8192x1024.Idx => SsmOutputs.entry (Y m c) (Xr m c) (Xm m c) (T m c) (W m c) (D m c) (SsmOutputs.block (j 0)) (SsmOutputs.position (j 0)) (SsmOutputs.groupOf (j 1)) (SsmOutputs.channelOf (j 1)) := by
  refine (dats m 0 c).arrAt_eq_of_covers 9 _ (by decide +kernel) fun t hf y => ?_
  blk_simp
  rw [after0_9]
  obtain ⟨r, j, rfl⟩ : ∃ r j, y = ix2 r j := ⟨_, _, eq_ix2 y⟩
  obtain ⟨b, s, rfl⟩ : ∃ b s, r = SsmIn.row b s := ⟨⟨r.val / 16, by omega⟩, ⟨r.val % 16, by omega⟩, Fin.ext (by simp only [SsmIn.row]; omega)⟩
  obtain ⟨g, l, rfl⟩ : ∃ g l, j = SsmIn.channel g l := ⟨⟨j.val / 16, by omega⟩, ⟨j.val % 16, by omega⟩, Fin.ext (by simp only [SsmIn.channel]; omega)⟩
  rw [point9]
  have row : ((win0_9.blk t).view.emb (ix2 (SsmIn.row b s) (SsmIn.channel g l)) 0).val = b.val * 16 + s.val := by
    blk_simp [(idx9 t).1]
    rfl
  have col : ((win0_9.blk t).view.emb (ix2 (SsmIn.row b s) (SsmIn.channel g l)) 1).val = t.val * 128 + (16 * g.val + l.val) := by
    blk_simp [(idx9 t).2]
    rfl
  have ht := point t
  congr 1
  · refine Fin.ext ?_
    simp only [SsmOutputs.block]
    rw [row]
    omega
  · refine Fin.ext ?_
    simp only [SsmOutputs.position]
    rw [row]
    omega
  · refine Fin.ext ?_
    simp only [SsmOutputs.groupOf, octet]
    rw [col]
    omega
  · refine Fin.ext ?_
    simp only [SsmOutputs.channelOf]
    rw [col]
    omega

theorem final10 (c : Dev nD) : (dats m 0 c).arrAt 10 cfg0.N = fun j : S64x256x16.Idx => (fun g : Fin 64 => SsmMix.along (SsmMix.pairs (Y m c) (U m c) g)) (j 0) (j 1) (j 2) := by
  refine (dats m 0 c).arrAt_eq_of_covers 10 _ (by decide +kernel) fun t hf y => ?_
  blk_simp
  rw [after0_10]
  obtain ⟨g, k, q, rfl⟩ : ∃ g k q, y = ix3 g k q := ⟨_, _, _, eq_ix3 y⟩
  rw [point10]
  have e0 : (win0_10.blk t).view.emb (ix3 g k q) 0 = octet t g := by
    refine Fin.ext ((?_ : _ = t.val * 8 + g.val).trans (octet_val t g).symm)
    blk_simp [(idx10 t).1]
    try rfl
  have e1 : (win0_10.blk t).view.emb (ix3 g k q) 1 = k := by
    refine Fin.ext ?_
    blk_simp [(idx10 t).2.1]
    try rfl
  have e2 : (win0_10.blk t).view.emb (ix3 g k q) 2 = q := by
    refine Fin.ext ?_
    blk_simp [(idx10 t).2.2]
    try rfl
  exact congr (congr (congrArg (fun g : Fin 64 => SsmMix.along (SsmMix.pairs (Y m c) (U m c) g)) e0.symm) e1.symm) e2.symm

theorem final11 (c : Dev nD) : (dats m 0 c).arrAt 11 cfg0.N = fun j : S64x256x128.Idx => (fun g : Fin 64 => SsmMix.outs (Y m c) (Hr m c) (Hm m c) g) (j 0) (j 1) (j 2) := by
  refine (dats m 0 c).arrAt_eq_of_covers 11 _ (by decide +kernel) fun t hf y => ?_
  blk_simp
  rw [after0_11]
  obtain ⟨g, k, q, rfl⟩ : ∃ g k q, y = ix3 g k q := ⟨_, _, _, eq_ix3 y⟩
  rw [point11]
  have e0 : (win0_11.blk t).view.emb (ix3 g k q) 0 = octet t g := by
    refine Fin.ext ((?_ : _ = t.val * 8 + g.val).trans (octet_val t g).symm)
    blk_simp [(idx11 t).1]
    try rfl
  have e1 : (win0_11.blk t).view.emb (ix3 g k q) 1 = k := by
    refine Fin.ext ?_
    blk_simp [(idx11 t).2.1]
    try rfl
  have e2 : (win0_11.blk t).view.emb (ix3 g k q) 2 = q := by
    refine Fin.ext ?_
    blk_simp [(idx11 t).2.2]
    try rfl
  exact congr (congr (congrArg (fun g : Fin 64 => SsmMix.outs (Y m c) (Hr m c) (Hm m c) g) e0.symm) e1.symm) e2.symm

theorem final12 (c : Dev nD) : (dats m 0 c).arrAt 12 cfg0.N = fun j : S64x128x256.Idx => (fun g : Fin 64 => SsmMix.ins (U m c) (Xr m c) (Xm m c) g) (j 0) (j 1) (j 2) := by
  refine (dats m 0 c).arrAt_eq_of_covers 12 _ (by decide +kernel) fun t hf y => ?_
  blk_simp
  rw [after0_12]
  obtain ⟨g, k, q, rfl⟩ : ∃ g k q, y = ix3 g k q := ⟨_, _, _, eq_ix3 y⟩
  rw [point12]
  have e0 : (win0_12.blk t).view.emb (ix3 g k q) 0 = octet t g := by
    refine Fin.ext ((?_ : _ = t.val * 8 + g.val).trans (octet_val t g).symm)
    blk_simp [(idx12 t).1]
    try rfl
  have e1 : (win0_12.blk t).view.emb (ix3 g k q) 1 = k := by
    refine Fin.ext ?_
    blk_simp [(idx12 t).2.1]
    try rfl
  have e2 : (win0_12.blk t).view.emb (ix3 g k q) 2 = q := by
    refine Fin.ext ?_
    blk_simp [(idx12 t).2.2]
    try rfl
  exact congr (congr (congrArg (fun g : Fin 64 => SsmMix.ins (U m c) (Xr m c) (Xm m c) g) e0.symm) e1.symm) e2.symm

theorem final13 (c : Dev nD) : (dats m 0 c).arrAt 13 cfg0.N = fun j : S1x1024.Idx => SsmMix.scale (Y m c) (U m c) (j 1) := by
  refine (dats m 0 c).arrAt_eq_of_covers 13 _ (by decide +kernel) fun t hf y => ?_
  blk_simp
  rw [after0_13]
  obtain ⟨r, j, rfl⟩ : ∃ r j, y = ix2 r j := ⟨_, _, eq_ix2 y⟩
  obtain rfl : r = 0 := Subsingleton.elim _ _
  obtain ⟨g, l, rfl⟩ : ∃ g l, j = SsmIn.channel g l := ⟨⟨j.val / 16, by omega⟩, ⟨j.val % 16, by omega⟩, Fin.ext (by simp only [SsmIn.channel]; omega)⟩
  rw [point13]
  have e1 : (win0_13.blk t).view.emb (ix2 0 (SsmIn.channel g l)) 1 = SsmIn.column (octet t g) l := by
    refine Fin.ext ((?_ : _ = t.val * 128 + (16 * g.val + l.val)).trans (column_val t g l).symm)
    blk_simp [(idx13 t).2]
    try rfl
  exact congrArg (SsmMix.scale (Y m c) (U m c)) e1.symm

end Cert.Kernel15Ideal.SsmMixValue

end
-- ==== Proof.SsmMixReference.lean ====
/-
  The values of the reference for the gradient of the products that leave the recurrence.
-/
module

public import proofs.«01_k».proof.Proof.Gen.Reference15Ideal.Read
public import proofs.«01_k».proof.Proof.SsmMixMath
public import Idealize.ShloMosaic.Lib.KernelVsHost
public import Idealize.ShloMosaic.Lib.Pointwise

@[expose] public section

set_option maxRecDepth 16384

noncomputable section

namespace Cert.Reference15Ideal.SsmMixValue

open Cert.Reference15Ideal Cert.Reference15Ideal.Gen Idealize.ShloMosaic Idealize.ShloMosaic.TcCoe Idealize.SL.Sem Cert.Proof
open Cert.Reference15Ideal.Read

variable (y u : (⟨S8192x1024, .f32⟩ : BufTy).Contents (Elt Ideal)) (hr hm xr xm : (⟨S512x4096, .f32⟩ : BufTy).Contents (Elt Ideal))
  (t : (⟨S64x256x256, .f32⟩ : BufTy).Contents (Elt Ideal)) (w : (⟨S64x256x128, .f32⟩ : BufTy).Contents (Elt Ideal))
  (d : (⟨S1024, .f32⟩ : BufTy).Contents (Elt Ideal))

/-- The entries of an array of rows and columns. -/
def ent {a b : ℕ} (x : (⟨2, ![a, b]⟩ : Shape).Idx → EReal) (r : Fin a) (k : Fin b) : EReal := x (ix2 r k)

theorem block2 (b : Fin 512) (g : Fin 64) (q : Fin 256) :
    val_main_v2 (F := Ideal) y (ix3 b g q) = SsmMix.at' (ent y) g b q := by
  unfold SsmMix.at' ent
  pointwise [val_main_v2, val_main_v1, val_main_v0]
  congr 2 <;> (refine Fin.ext ?_; simp only [SsmIn.row, SsmIn.hi, SsmIn.column, SsmIn.lo]; omega)

theorem block5 (b : Fin 512) (g : Fin 64) (q : Fin 256) :
    val_main_v5 (F := Ideal) u (ix3 b g q) = SsmMix.at' (ent u) g b q := by
  unfold SsmMix.at' ent
  pointwise [val_main_v5, val_main_v4, val_main_v3]
  congr 2 <;> (refine Fin.ext ?_; simp only [SsmIn.row, SsmIn.hi, SsmIn.column, SsmIn.lo]; omega)

theorem states8 (b : Fin 512) (g : Fin 64) (k : Fin 128) :
    val_main_v8 (F := Ideal) hr hm (ix3 b g k) = SsmMix.state' (ent hr) (ent hm) g b k := by
  unfold SsmMix.state' ent
  pointwise [val_main_v8, val_main_v7, val_main_v6]
  by_cases h : k.val < 64
  · rw [if_pos h]
    refine (dif_pos h).trans (congrArg (fun k => hr (ix2 b k)) (Fin.ext ?_))
    simp only [SsmOutputs.stateCol, SsmIn.state]
    omega
  · rw [if_neg h]
    refine (dif_neg h).trans (congrArg (fun k => hm (ix2 b k)) (Fin.ext ?_))
    simp only [SsmOutputs.stateCol, SsmIn.state]
    omega

theorem states11 (b : Fin 512) (g : Fin 64) (k : Fin 128) :
    val_main_v11 (F := Ideal) xr xm (ix3 b g k) = SsmMix.state' (ent xr) (ent xm) g b k := by
  unfold SsmMix.state' ent
  pointwise [val_main_v11, val_main_v10, val_main_v9]
  by_cases h : k.val < 64
  · rw [if_pos h]
    refine (dif_pos h).trans (congrArg (fun k => xr (ix2 b k)) (Fin.ext ?_))
    simp only [SsmOutputs.stateCol, SsmIn.state]
    omega
  · rw [if_neg h]
    refine (dif_neg h).trans (congrArg (fun k => xm (ix2 b k)) (Fin.ext ?_))
    simp only [SsmOutputs.stateCol, SsmIn.state]
    omega

theorem pairs_apply (g : Fin 64) (q r : Fin 256) : val_main_v17 (F := Ideal) y u (ix3 g q r) = SsmMix.pairs (ent y) (ent u) g q r := by
  have e : val_main_v17 (F := Ideal) y u (ix3 g q r) = ∑ b : Fin 512, val_main_v2 (F := Ideal) y (ix3 b g q) * val_main_v5 (F := Ideal) u (ix3 b g r) := by
    pointwise [val_main_v17]
  rw [e]
  simp only [block2, block5]
  rfl

theorem outs_apply (g : Fin 64) (r : Fin 256) (k : Fin 128) : val_main_v71 (F := Ideal) y hr hm (ix3 g r k) = SsmMix.outs (ent y) (ent hr) (ent hm) g r k := by
  have e : val_main_v71 (F := Ideal) y hr hm (ix3 g r k) = ∑ b : Fin 512, val_main_v2 (F := Ideal) y (ix3 b g r) * val_main_v8 (F := Ideal) hr hm (ix3 b g k) := by
    pointwise [val_main_v71]
  rw [e]
  simp only [block2, states8]
  rfl

theorem ins_apply (g : Fin 64) (k : Fin 128) (q : Fin 256) : val_main_v72 (F := Ideal) u xr xm (ix3 g k q) = SsmMix.ins (ent u) (ent xr) (ent xm) g k q := by
  have e : val_main_v72 (F := Ideal) u xr xm (ix3 g k q) = ∑ b : Fin 512, val_main_v11 (F := Ideal) xr xm (ix3 b g k) * val_main_v5 (F := Ideal) u (ix3 b g q) := by
    pointwise [val_main_v72]
  rw [e]
  simp only [block5, states11]
  rfl

theorem scale_apply (j : Fin 1024) : val_main_v75 (F := Ideal) y u (ix2 0 j) = SsmMix.scale (ent y) (ent u) j := by
  unfold SsmMix.scale ent
  pointwise [val_main_v75, val_main_v74, val_main_v73, val_main_cst]

/-! ## The sums along the block diagonals -/

/-- The whole number nought is the number nought. -/
theorem zero_float : (FloatOps.sitofp .f32 (0#32) : Ideal .f32) = 0 := by
  show (((0#32 : BitVec 32).toInt : ℝ) : EReal) = 0
  simp

theorem first_apply (g : Fin 64) (p : Fin 256) (l : Fin 16) :
    val_main_v18 (F := Ideal) y u (ix3 g p l) = SsmMix.shifted (fun q r => val_main_v17 (F := Ideal) y u (ix3 g q r)) p l 0 := by
  unfold SsmMix.shifted
  rw [dif_pos (by simp)]
  refine (val_main_v18_apply y u _).trans (congrArg (val_main_v17 (F := Ideal) y u) (funext fun a => Fin.ext ?_))
  fin_cases a <;> simp [SsmOutputs.at16]

theorem padded1 (g : Fin 64) (p : Fin 256) (l : Fin 16) :
    val_main_v20 (F := Ideal) y u (ix3 g p l) = SsmMix.shifted (fun q r => val_main_v17 (F := Ideal) y u (ix3 g q r)) p l 1 := by
  unfold val_main_v20 SsmMix.shifted
  by_cases h : p.val < 256 - 16 * (1 : Fin 16).val
  · rw [dif_pos h]
    refine (pad_apply_of_inside _ _ _ _ _ _ _ (ix3 g p l) (ix3 g ⟨p.val, h⟩ l) (fun a => by fin_cases a <;> simp)).trans ?_
    exact (val_main_v19_apply y u _).trans (congrArg (val_main_v17 (F := Ideal) y u) (funext fun a => Fin.ext (by fin_cases a <;> rfl)))
  · rw [dif_neg h]
    refine (pad_apply_of_not_inside _ _ _ _ _ _ _ (ix3 g p l) 1 (fun hh => h ?_)).trans ?_
    · have := hh.2.2
      simpa using this
    · pointwise [val_main_call0_v0, val_main_c]
      exact zero_float

theorem padded2 (g : Fin 64) (p : Fin 256) (l : Fin 16) :
    val_main_v23 (F := Ideal) y u (ix3 g p l) = SsmMix.shifted (fun q r => val_main_v17 (F := Ideal) y u (ix3 g q r)) p l 2 := by
  unfold val_main_v23 SsmMix.shifted
  by_cases h : p.val < 256 - 16 * (2 : Fin 16).val
  · rw [dif_pos h]
    refine (pad_apply_of_inside _ _ _ _ _ _ _ (ix3 g p l) (ix3 g ⟨p.val, h⟩ l) (fun a => by fin_cases a <;> simp)).trans ?_
    exact (val_main_v22_apply y u _).trans (congrArg (val_main_v17 (F := Ideal) y u) (funext fun a => Fin.ext (by fin_cases a <;> rfl)))
  · rw [dif_neg h]
    refine (pad_apply_of_not_inside _ _ _ _ _ _ _ (ix3 g p l) 1 (fun hh => h ?_)).trans ?_
    · have := hh.2.2
      simpa using this
    · pointwise [val_main_call1_v0, val_main_c_0]
      exact zero_float

theorem padded3 (g : Fin 64) (p : Fin 256) (l : Fin 16) :
    val_main_v26 (F := Ideal) y u (ix3 g p l) = SsmMix.shifted (fun q r => val_main_v17 (F := Ideal) y u (ix3 g q r)) p l 3 := by
  unfold val_main_v26 SsmMix.shifted
  by_cases h : p.val < 256 - 16 * (3 : Fin 16).val
  · rw [dif_pos h]
    refine (pad_apply_of_inside _ _ _ _ _ _ _ (ix3 g p l) (ix3 g ⟨p.val, h⟩ l) (fun a => by fin_cases a <;> simp)).trans ?_
    exact (val_main_v25_apply y u _).trans (congrArg (val_main_v17 (F := Ideal) y u) (funext fun a => Fin.ext (by fin_cases a <;> rfl)))
  · rw [dif_neg h]
    refine (pad_apply_of_not_inside _ _ _ _ _ _ _ (ix3 g p l) 1 (fun hh => h ?_)).trans ?_
    · have := hh.2.2
      simpa using this
    · pointwise [val_main_call2_v0, val_main_c_1]
      exact zero_float

theorem padded4 (g : Fin 64) (p : Fin 256) (l : Fin 16) :
    val_main_v29 (F := Ideal) y u (ix3 g p l) = SsmMix.shifted (fun q r => val_main_v17 (F := Ideal) y u (ix3 g q r)) p l 4 := by
  unfold val_main_v29 SsmMix.shifted
  by_cases h : p.val < 256 - 16 * (4 : Fin 16).val
  · rw [dif_pos h]
    refine (pad_apply_of_inside _ _ _ _ _ _ _ (ix3 g p l) (ix3 g ⟨p.val, h⟩ l) (fun a => by fin_cases a <;> simp)).trans ?_
    exact (val_main_v28_apply y u _).trans (congrArg (val_main_v17 (F := Ideal) y u) (funext fun a => Fin.ext (by fin_cases a <;> rfl)))
  · rw [dif_neg h]
    refine (pad_apply_of_not_inside _ _ _ _ _ _ _ (ix3 g p l) 1 (fun hh => h ?_)).trans ?_
    · have := hh.2.2
      simpa using this
    · pointwise [val_main_call3_v0, val_main_c_2]
      exact zero_float

theorem padded5 (g : Fin 64) (p : Fin 256) (l : Fin 16) :
    val_main_v32 (F := Ideal) y u (ix3 g p l) = SsmMix.shifted (fun q r => val_main_v17 (F := Ideal) y u (ix3 g q r)) p l 5 := by
  unfold val_main_v32 SsmMix.shifted
  by_cases h : p.val < 256 - 16 * (5 : Fin 16).val
  · rw [dif_pos h]
    refine (pad_apply_of_inside _ _ _ _ _ _ _ (ix3 g p l) (ix3 g ⟨p.val, h⟩ l) (fun a => by fin_cases a <;> simp)).trans ?_
    exact (val_main_v31_apply y u _).trans (congrArg (val_main_v17 (F := Ideal) y u) (funext fun a => Fin.ext (by fin_cases a <;> rfl)))
  · rw [dif_neg h]
    refine (pad_apply_of_not_inside _ _ _ _ _ _ _ (ix3 g p l) 1 (fun hh => h ?_)).trans ?_
    · have := hh.2.2
      simpa using this
    · pointwise [val_main_call4_v0, val_main_c_3]
      exact zero_float

theorem padded6 (g : Fin 64) (p : Fin 256) (l : Fin 16) :
    val_main_v35 (F := Ideal) y u (ix3 g p l) = SsmMix.shifted (fun q r => val_main_v17 (F := Ideal) y u (ix3 g q r)) p l 6 := by
  unfold val_main_v35 SsmMix.shifted
  by_cases h : p.val < 256 - 16 * (6 : Fin 16).val
  · rw [dif_pos h]
    refine (pad_apply_of_inside _ _ _ _ _ _ _ (ix3 g p l) (ix3 g ⟨p.val, h⟩ l) (fun a => by fin_cases a <;> simp)).trans ?_
    exact (val_main_v34_apply y u _).trans (congrArg (val_main_v17 (F := Ideal) y u) (funext fun a => Fin.ext (by fin_cases a <;> rfl)))
  · rw [dif_neg h]
    refine (pad_apply_of_not_inside _ _ _ _ _ _ _ (ix3 g p l) 1 (fun hh => h ?_)).trans ?_
    · have := hh.2.2
      simpa using this
    · pointwise [val_main_call5_v0, val_main_c_4]
      exact zero_float

theorem padded7 (g : Fin 64) (p : Fin 256) (l : Fin 16) :
    val_main_v38 (F := Ideal) y u (ix3 g p l) = SsmMix.shifted (fun q r => val_main_v17 (F := Ideal) y u (ix3 g q r)) p l 7 := by
  unfold val_main_v38 SsmMix.shifted
  by_cases h : p.val < 256 - 16 * (7 : Fin 16).val
  · rw [dif_pos h]
    refine (pad_apply_of_inside _ _ _ _ _ _ _ (ix3 g p l) (ix3 g ⟨p.val, h⟩ l) (fun a => by fin_cases a <;> simp)).trans ?_
    exact (val_main_v37_apply y u _).trans (congrArg (val_main_v17 (F := Ideal) y u) (funext fun a => Fin.ext (by fin_cases a <;> rfl)))
  · rw [dif_neg h]
    refine (pad_apply_of_not_inside _ _ _ _ _ _ _ (ix3 g p l) 1 (fun hh => h ?_)).trans ?_
    · have := hh.2.2
      simpa using this
    · pointwise [val_main_call6_v0, val_main_c_5]
      exact zero_float

theorem padded8 (g : Fin 64) (p : Fin 256) (l : Fin 16) :
    val_main_v41 (F := Ideal) y u (ix3 g p l) = SsmMix.shifted (fun q r => val_main_v17 (F := Ideal) y u (ix3 g q r)) p l 8 := by
  unfold val_main_v41 SsmMix.shifted
  by_cases h : p.val < 256 - 16 * (8 : Fin 16).val
  · rw [dif_pos h]
    refine (pad_apply_of_inside _ _ _ _ _ _ _ (ix3 g p l) (ix3 g ⟨p.val, h⟩ l) (fun a => by fin_cases a <;> simp)).trans ?_
    exact (val_main_v40_apply y u _).trans (congrArg (val_main_v17 (F := Ideal) y u) (funext fun a => Fin.ext (by fin_cases a <;> rfl)))
  · rw [dif_neg h]
    refine (pad_apply_of_not_inside _ _ _ _ _ _ _ (ix3 g p l) 1 (fun hh => h ?_)).trans ?_
    · have := hh.2.2
      simpa using this
    · pointwise [val_main_call7_v0, val_main_c_6]
      exact zero_float

theorem padded9 (g : Fin 64) (p : Fin 256) (l : Fin 16) :
    val_main_v44 (F := Ideal) y u (ix3 g p l) = SsmMix.shifted (fun q r => val_main_v17 (F := Ideal) y u (ix3 g q r)) p l 9 := by
  unfold val_main_v44 SsmMix.shifted
  by_cases h : p.val < 256 - 16 * (9 : Fin 16).val
  · rw [dif_pos h]
    refine (pad_apply_of_inside _ _ _ _ _ _ _ (ix3 g p l) (ix3 g ⟨p.val, h⟩ l) (fun a => by fin_cases a <;> simp)).trans ?_
    exact (val_main_v43_apply y u _).trans (congrArg (val_main_v17 (F := Ideal) y u) (funext fun a => Fin.ext (by fin_cases a <;> rfl)))
  · rw [dif_neg h]
    refine (pad_apply_of_not_inside _ _ _ _ _ _ _ (ix3 g p l) 1 (fun hh => h ?_)).trans ?_
    · have := hh.2.2
      simpa using this
    · pointwise [val_main_call8_v0, val_main_c_7]
      exact zero_float

theorem padded10 (g : Fin 64) (p : Fin 256) (l : Fin 16) :
    val_main_v47 (F := Ideal) y u (ix3 g p l) = SsmMix.shifted (fun q r => val_main_v17 (F := Ideal) y u (ix3 g q r)) p l 10 := by
  unfold val_main_v47 SsmMix.shifted
  by_cases h : p.val < 256 - 16 * (10 : Fin 16).val
  · rw [dif_pos h]
    refine (pad_apply_of_inside _ _ _ _ _ _ _ (ix3 g p l) (ix3 g ⟨p.val, h⟩ l) (fun a => by fin_cases a <;> simp)).trans ?_
    exact (val_main_v46_apply y u _).trans (congrArg (val_main_v17 (F := Ideal) y u) (funext fun a => Fin.ext (by fin_cases a <;> rfl)))
  · rw [dif_neg h]
    refine (pad_apply_of_not_inside _ _ _ _ _ _ _ (ix3 g p l) 1 (fun hh => h ?_)).trans ?_
    · have := hh.2.2
      simpa using this
    · pointwise [val_main_call9_v0, val_main_c_8]
      exact zero_float

theorem padded11 (g : Fin 64) (p : Fin 256) (l : Fin 16) :
    val_main_v50 (F := Ideal) y u (ix3 g p l) = SsmMix.shifted (fun q r => val_main_v17 (F := Ideal) y u (ix3 g q r)) p l 11 := by
  unfold val_main_v50 SsmMix.shifted
  by_cases h : p.val < 256 - 16 * (11 : Fin 16).val
  · rw [dif_pos h]
    refine (pad_apply_of_inside _ _ _ _ _ _ _ (ix3 g p l) (ix3 g ⟨p.val, h⟩ l) (fun a => by fin_cases a <;> simp)).trans ?_
    exact (val_main_v49_apply y u _).trans (congrArg (val_main_v17 (F := Ideal) y u) (funext fun a => Fin.ext (by fin_cases a <;> rfl)))
  · rw [dif_neg h]
    refine (pad_apply_of_not_inside _ _ _ _ _ _ _ (ix3 g p l) 1 (fun hh => h ?_)).trans ?_
    · have := hh.2.2
      simpa using this
    · pointwise [val_main_call10_v0, val_main_c_9]
      exact zero_float

theorem padded12 (g : Fin 64) (p : Fin 256) (l : Fin 16) :
    val_main_v53 (F := Ideal) y u (ix3 g p l) = SsmMix.shifted (fun q r => val_main_v17 (F := Ideal) y u (ix3 g q r)) p l 12 := by
  unfold val_main_v53 SsmMix.shifted
  by_cases h : p.val < 256 - 16 * (12 : Fin 16).val
  · rw [dif_pos h]
    refine (pad_apply_of_inside _ _ _ _ _ _ _ (ix3 g p l) (ix3 g ⟨p.val, h⟩ l) (fun a => by fin_cases a <;> simp)).trans ?_
    exact (val_main_v52_apply y u _).trans (congrArg (val_main_v17 (F := Ideal) y u) (funext fun a => Fin.ext (by fin_cases a <;> rfl)))
  · rw [dif_neg h]
    refine (pad_apply_of_not_inside _ _ _ _ _ _ _ (ix3 g p l) 1 (fun hh => h ?_)).trans ?_
    · have := hh.2.2
      simpa using this
    · pointwise [val_main_call11_v0, val_main_c_10]
      exact zero_float

theorem padded13 (g : Fin 64) (p : Fin 256) (l : Fin 16) :
    val_main_v56 (F := Ideal) y u (ix3 g p l) = SsmMix.shifted (fun q r => val_main_v17 (F := Ideal) y u (ix3 g q r)) p l 13 := by
  unfold val_main_v56 SsmMix.shifted
  by_cases h : p.val < 256 - 16 * (13 : Fin 16).val
  · rw [dif_pos h]
    refine (pad_apply_of_inside _ _ _ _ _ _ _ (ix3 g p l) (ix3 g ⟨p.val, h⟩ l) (fun a => by fin_cases a <;> simp)).trans ?_
    exact (val_main_v55_apply y u _).trans (congrArg (val_main_v17 (F := Ideal) y u) (funext fun a => Fin.ext (by fin_cases a <;> rfl)))
  · rw [dif_neg h]
    refine (pad_apply_of_not_inside _ _ _ _ _ _ _ (ix3 g p l) 1 (fun hh => h ?_)).trans ?_
    · have := hh.2.2
      simpa using this
    · pointwise [val_main_call12_v0, val_main_c_11]
      exact zero_float

theorem padded14 (g : Fin 64) (p : Fin 256) (l : Fin 16) :
    val_main_v59 (F := Ideal) y u (ix3 g p l) = SsmMix.shifted (fun q r => val_main_v17 (F := Ideal) y u (ix3 g q r)) p l 14 := by
  unfold val_main_v59 SsmMix.shifted
  by_cases h : p.val < 256 - 16 * (14 : Fin 16).val
  · rw [dif_pos h]
    refine (pad_apply_of_inside _ _ _ _ _ _ _ (ix3 g p l) (ix3 g ⟨p.val, h⟩ l) (fun a => by fin_cases a <;> simp)).trans ?_
    exact (val_main_v58_apply y u _).trans (congrArg (val_main_v17 (F := Ideal) y u) (funext fun a => Fin.ext (by fin_cases a <;> rfl)))
  · rw [dif_neg h]
    refine (pad_apply_of_not_inside _ _ _ _ _ _ _ (ix3 g p l) 1 (fun hh => h ?_)).trans ?_
    · have := hh.2.2
      simpa using this
    · pointwise [val_main_call13_v0, val_main_c_12]
      exact zero_float

theorem padded15 (g : Fin 64) (p : Fin 256) (l : Fin 16) :
    val_main_v62 (F := Ideal) y u (ix3 g p l) = SsmMix.shifted (fun q r => val_main_v17 (F := Ideal) y u (ix3 g q r)) p l 15 := by
  unfold val_main_v62 SsmMix.shifted
  by_cases h : p.val < 256 - 16 * (15 : Fin 16).val
  · rw [dif_pos h]
    refine (pad_apply_of_inside _ _ _ _ _ _ _ (ix3 g p l) (ix3 g ⟨p.val, h⟩ l) (fun a => by fin_cases a <;> simp)).trans ?_
    exact (val_main_v61_apply y u _).trans (congrArg (val_main_v17 (F := Ideal) y u) (funext fun a => Fin.ext (by fin_cases a <;> rfl)))
  · rw [dif_neg h]
    refine (pad_apply_of_not_inside _ _ _ _ _ _ _ (ix3 g p l) 1 (fun hh => h ?_)).trans ?_
    · have := hh.2.2
      simpa using this
    · pointwise [val_main_call14_v0, val_main_c_13]
      exact zero_float

theorem along_apply (g : Fin 64) (p : Fin 256) (l : Fin 16) :
    val_main_v63 (F := Ideal) y u (ix3 g p l) = SsmMix.along (SsmMix.pairs (ent y) (ent u) g) p l := by
  have e : (fun q r => val_main_v17 (F := Ideal) y u (ix3 g q r)) = SsmMix.pairs (ent y) (ent u) g := funext fun q => funext fun r => pairs_apply y u g q r
  rw [← e]
  unfold SsmMix.along SsmMix.sixteen
  rw [← first_apply, ← padded1 y u g p l, ← padded2 y u g p l, ← padded3 y u g p l, ← padded4 y u g p l, ← padded5 y u g p l, ← padded6 y u g p l, ← padded7 y u g p l, ← padded8 y u g p l, ← padded9 y u g p l, ← padded10 y u g p l, ← padded11 y u g p l, ← padded12 y u g p l, ← padded13 y u g p l, ← padded14 y u g p l, ← padded15 y u g p l]
  rfl

/-! ## The gradient of the inputs -/

theorem products_apply (b : Fin 512) (g : Fin 64) (i : Fin 256) :
    val_main_v16 (F := Ideal) y xr xm t w (ix3 b g i)
      = (∑ q : Fin 256, t (ix3 g i q) * SsmMix.at' (ent y) g b q) + ∑ k : Fin 128, w (ix3 g i k) * SsmMix.state' (ent xr) (ent xm) g b k := by
  have e : val_main_v16 (F := Ideal) y xr xm t w (ix3 b g i)
      = (∑ q : Fin 256, val_main_v2 (F := Ideal) y (ix3 b g q) * t (ix3 g i q)) + ∑ k : Fin 128, val_main_v11 (F := Ideal) xr xm (ix3 b g k) * w (ix3 g i k) := by
    pointwise [val_main_v16, val_main_v15, val_main_v14, val_main_v13, val_main_v12]
  rw [e]
  simp only [block2, states11]
  exact congrArg₂ (· + ·) (Finset.sum_congr rfl fun q _ => mul_comm _ _) (Finset.sum_congr rfl fun k _ => mul_comm _ _)

theorem sum_apply (r : Fin 8192) (j : Fin 1024) :
    val_main_v66 (F := Ideal) y xr xm t w (ix2 r j)
      = val_main_v16 (F := Ideal) y xr xm t w (ix3 (SsmOutputs.block r) (SsmOutputs.groupOf j) (SsmOutputs.at16 (SsmOutputs.position r) (SsmOutputs.channelOf j))) := by
  pointwise [val_main_v66, val_main_v65, val_main_v64]
  congr 2 <;> (refine Fin.ext ?_; simp only [SsmOutputs.block, SsmOutputs.groupOf, SsmOutputs.at16, SsmOutputs.position, SsmOutputs.channelOf]; omega)

theorem out_apply (r : Fin 8192) (j : Fin 1024) :
    val_main_v70 (F := Ideal) y xr xm t w d (ix2 r j)
      = SsmOutputs.entry (ent y) (ent xr) (ent xm) (fun g i q => t (ix3 g i q)) (fun g i k => w (ix3 g i k))
        (fun l => d (ix1 l)) (SsmOutputs.block r) (SsmOutputs.position r) (SsmOutputs.groupOf j) (SsmOutputs.channelOf j) := by
  have er : SsmIn.row (SsmOutputs.block r) (SsmOutputs.position r) = r := Fin.ext (by simp only [SsmIn.row, SsmOutputs.block, SsmOutputs.position]; omega)
  have ej : SsmIn.column (SsmOutputs.groupOf j) (SsmOutputs.channelOf j) = j := Fin.ext (by simp only [SsmIn.column, SsmOutputs.groupOf, SsmOutputs.channelOf]; omega)
  pointwise [val_main_v70, val_main_v69, val_main_v68, val_main_v67]
  rw [sum_apply, products_apply]
  unfold SsmOutputs.entry ent
  rw [er, ej]
  rfl

end Cert.Reference15Ideal.SsmMixValue

end
-- ==== Proof.SsmMix.lean ====
/-
  The gradient of the products that leave the recurrence: the kernel's five results are the reference's.
-/
module

public import proofs.«01_k».proof.Proof.SsmMixResults
public import proofs.«01_k».proof.Proof.SsmMixReference
public import proofs.«01_k».proof.Proof.Gen.Reference15Ideal.Run
public import proofs.«01_k».proof.Defs

@[expose] public section

noncomputable section

namespace Cert.Proof.SsmMix

open Idealize.ShloMosaic Idealize.SL.Sem

/-- The reference runs to its end, keeps its arguments and leaves the counters at zero. -/
theorem frame_reference : Cert.quiescent_Reference15Ideal := fun m ρ _ =>
  (θ_run _ _ _).mono (fun r h => ⟨fun c => (h c).2.2.2.2.2, Idealize.ShloMosaic.sem_eq_zero_of_no_sems (by decide) r.2⟩)
    (Cert.Reference15Ideal.Value.run (F := Ideal) m ρ)

/-- The kernel's five results are the reference's. -/
theorem algebraic : Cert.algebraic_Kernel15Ideal_Reference15Ideal := fun m g m' g' _ hm => by
  refine ⟨fun c => (Cert.Kernel15Ideal.Gen.dats m 0 c).arrAt 9 Cert.Kernel15Ideal.cfg0.N,
    fun c => (Cert.Kernel15Ideal.Gen.dats m 0 c).arrAt 10 Cert.Kernel15Ideal.cfg0.N,
    fun c => (Cert.Kernel15Ideal.Gen.dats m 0 c).arrAt 11 Cert.Kernel15Ideal.cfg0.N,
    fun c => (Cert.Kernel15Ideal.Gen.dats m 0 c).arrAt 12 Cert.Kernel15Ideal.cfg0.N,
    fun c => (Cert.Kernel15Ideal.Gen.dats m 0 c).arrAt 13 Cert.Kernel15Ideal.cfg0.N,
    Cert.Kernel15Ideal.Value.run_blocks (F := Ideal) m g, ?_⟩
  refine (θ_run _ _ _).mono (fun r h c => ⟨(h c).1.trans ?_, (h c).2.1.trans ?_, (h c).2.2.1.trans ?_, (h c).2.2.2.1.trans ?_, (h c).2.2.2.2.1.trans ?_, (h c).2.2.2.2.2⟩)
    (Cert.Reference15Ideal.Value.run (F := Ideal) m' g')
  · obtain ⟨h0, h1, h2, h3, h4, h5, h6, h7, h8⟩ := hm c
    rw [Cert.Reference15Ideal.Read.val_main_v70_eq, h0, h4, h5, h6, h7, h8]
    refine Eq.trans (funext fun j => ?_) (Cert.Kernel15Ideal.SsmMixValue.final9 m c).symm
    obtain ⟨a, b, rfl⟩ : ∃ a b, j = ix2 a b := ⟨_, _, eq_ix2 j⟩
    rw [Cert.Reference15Ideal.SsmMixValue.out_apply]
    rfl
  · obtain ⟨h0, h1, h2, h3, h4, h5, h6, h7, h8⟩ := hm c
    rw [Cert.Reference15Ideal.Read.val_main_v63_eq, h0, h1]
    refine Eq.trans (funext fun j => ?_) (Cert.Kernel15Ideal.SsmMixValue.final10 m c).symm
    obtain ⟨a, b, d, rfl⟩ : ∃ a b d, j = ix3 a b d := ⟨_, _, _, eq_ix3 j⟩
    rw [Cert.Reference15Ideal.SsmMixValue.along_apply]
    rfl
  · obtain ⟨h0, h1, h2, h3, h4, h5, h6, h7, h8⟩ := hm c
    rw [Cert.Reference15Ideal.Read.val_main_v71_eq, h0, h2, h3]
    refine Eq.trans (funext fun j => ?_) (Cert.Kernel15Ideal.SsmMixValue.final11 m c).symm
    obtain ⟨a, b, d, rfl⟩ : ∃ a b d, j = ix3 a b d := ⟨_, _, _, eq_ix3 j⟩
    rw [Cert.Reference15Ideal.SsmMixValue.outs_apply]
    rfl
  · obtain ⟨h0, h1, h2, h3, h4, h5, h6, h7, h8⟩ := hm c
    rw [Cert.Reference15Ideal.Read.val_main_v72_eq, h1, h4, h5]
    refine Eq.trans (funext fun j => ?_) (Cert.Kernel15Ideal.SsmMixValue.final12 m c).symm
    obtain ⟨a, b, d, rfl⟩ : ∃ a b d, j = ix3 a b d := ⟨_, _, _, eq_ix3 j⟩
    rw [Cert.Reference15Ideal.SsmMixValue.ins_apply]
    rfl
  · obtain ⟨h0, h1, h2, h3, h4, h5, h6, h7, h8⟩ := hm c
    rw [Cert.Reference15Ideal.Read.val_main_v75_eq, h0, h1]
    refine Eq.trans (funext fun j => ?_) (Cert.Kernel15Ideal.SsmMixValue.final13 m c).symm
    obtain ⟨a, b, rfl⟩ : ∃ a b, j = ix2 a b := ⟨_, _, eq_ix2 j⟩
    obtain rfl : a = 0 := Subsingleton.elim _ _
    rw [Cert.Reference15Ideal.SsmMixValue.scale_apply]
    rfl

end Cert.Proof.SsmMix

end
-- ==== Proof.lean ====
/-
  The proof of `Cert.Claim`: the frames of the kernels and of the references, and the equality of their values.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Loops
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Loops
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Pre_finite5
public import proofs.«01_k».proof.Proof.Gen.Pre_finite6
public import proofs.«01_k».proof.Proof.Gen.ReferenceIdeal.Run
public import proofs.«01_k».proof.Proof.Gen.Reference2Ideal.Run
public import proofs.«01_k».proof.Proof.Gen.KernelIdeal.Value
public import proofs.«01_k».proof.Proof.Gen.Kernel2Ideal.Value
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Pre_finite11
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.ScanBwd
public import proofs.«01_k».proof.Proof.ScanFwd
public import proofs.«01_k».proof.Proof.Inproj
public import proofs.«01_k».proof.Proof.InprojAttn
public import proofs.«01_k».proof.Proof.AttnOutBwd
public import proofs.«01_k».proof.Proof.SsmOutBwd
public import proofs.«01_k».proof.Proof.InprojFwd
public import proofs.«01_k».proof.Proof.SsmOutFwd
public import proofs.«01_k».proof.Proof.AttnOutFwd
public import proofs.«01_k».proof.Proof.InprojAttnFwd
public import proofs.«01_k».proof.Proof.AttnFwd
public import proofs.«01_k».proof.Proof.AttnOutLoss
public import proofs.«01_k».proof.Proof.SsmIn
public import proofs.«01_k».proof.Proof.SsmOutputs
public import proofs.«01_k».proof.Proof.SsmMix
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Pre_finite5.Gen.facts, Cert.Pre_finite6.Gen.facts, Cert.Pre_finite11.Gen.facts,
  fun m ρ _ => Cert.Kernel.Gen.frame m ρ, fun m ρ _ => Cert.KernelIdeal.Gen.frame m ρ, ScanBwd.frame_reference,
  fun m ρ _ => Cert.Kernel2.Gen.frame m ρ, fun m ρ _ => Cert.Kernel2Ideal.Gen.frame m ρ, ScanFwd.frame_reference,
  fun m ρ _ => Cert.Kernel3.Gen.frame m ρ, fun m ρ _ => Cert.Kernel3Ideal.Gen.frame m ρ, Inproj.frame_reference,
  fun m ρ _ => Cert.Kernel4.Gen.frame m ρ, fun m ρ _ => Cert.Kernel4Ideal.Gen.frame m ρ, InprojAttn.frame_reference,
  fun m ρ _ => Cert.Kernel5.Gen.frame m ρ, fun m ρ _ => Cert.Kernel5Ideal.Gen.frame m ρ, fun m ρ _ => Cert.Kernel5Ideal.Gen.frame m ρ, AttnOutBwd.frame_reference, AttnOutBwd.frame_reference_pre,
  fun m ρ _ => Cert.Kernel6.Gen.frame m ρ, fun m ρ _ => Cert.Kernel6Ideal.Gen.frame m ρ, fun m ρ _ => Cert.Kernel6Ideal.Gen.frame m ρ, SsmOutBwd.frame_reference, SsmOutBwd.frame_reference_pre,
  fun m ρ _ => Cert.Kernel7.Gen.frame m ρ, fun m ρ _ => Cert.Kernel7Ideal.Gen.frame m ρ, InprojFwd.frame_reference,
  fun m ρ _ => Cert.Kernel8.Gen.frame m ρ, fun m ρ _ => Cert.Kernel8Ideal.Gen.frame m ρ, InprojAttnFwd.frame_reference,
  fun m ρ _ => Cert.Kernel9.Gen.frame m ρ, fun m ρ _ => Cert.Kernel9Ideal.Gen.frame m ρ, SsmOutFwd.frame_reference,
  fun m ρ _ => Cert.Kernel10.Gen.frame m ρ, fun m ρ _ => Cert.Kernel10Ideal.Gen.frame m ρ, AttnOutFwd.frame_reference,
  fun m ρ _ => Cert.Kernel11.Gen.frame m ρ, fun m ρ _ => Cert.Kernel11Ideal.Gen.frame m ρ, fun m ρ _ => Cert.Kernel11Ideal.Gen.frame m ρ, AttnFwd.frame_reference, AttnFwd.frame_reference_pre,
  fun m ρ _ => Cert.Kernel12.Gen.frame m ρ, fun m ρ _ => Cert.Kernel12Ideal.Gen.frame m ρ, AttnOutLoss.frame_reference,
  fun m ρ _ => Cert.Kernel13.Gen.frame m ρ, fun m ρ _ => Cert.Kernel13Ideal.Gen.frame m ρ, SsmIn.frame_reference,
  fun m ρ _ => Cert.Kernel14.Gen.frame m ρ, fun m ρ _ => Cert.Kernel14Ideal.Gen.frame m ρ, SsmOutputs.frame_reference,
  fun m ρ _ => Cert.Kernel15.Gen.frame m ρ, fun m ρ _ => Cert.Kernel15Ideal.Gen.frame m ρ, SsmMix.frame_reference,
  trivial, ScanBwd.algebraic,
  trivial, ScanFwd.algebraic,
  trivial, Inproj.algebraic,
  trivial, InprojAttn.algebraic,
  trivial, AttnOutBwd.algebraic,
  SsmOutBwd.preserves, SsmOutBwd.algebraic,
  trivial, InprojFwd.algebraic,
  trivial, InprojAttnFwd.algebraic,
  trivial, SsmOutFwd.algebraic,
  trivial, AttnOutFwd.algebraic,
  AttnFwd.preserves, AttnFwd.algebraic,
  trivial, AttnOutLoss.algebraic,
  trivial, SsmIn.algebraic,
  trivial, SsmOutputs.algebraic,
  trivial, SsmMix.algebraic⟩

end Cert.Proof

end
